-- ==== Defs.lean ====
def Pre_Dhp (m : (ℓ : Loc Cert.Dhp.nD Cert.Dhp.τ Cert.Dhp.sig) → Buf (Elt Bits) ℓ) : Prop :=
  True

def Pre_DhpIdeal (m : (ℓ : Loc Cert.DhpIdeal.nD Cert.DhpIdeal.τ Cert.DhpIdeal.sig) → Buf (Elt Ideal) ℓ) : Prop :=
  True

def Pre_DhpIdeal_dhp_finite [hPre_dhp_finite : Cert.Pre_dhp_finite.Facts] (m : (ℓ : Loc Cert.DhpIdeal.nD Cert.DhpIdeal.τ Cert.DhpIdeal.sig) → Buf (Elt Ideal) ℓ) : Prop :=
  ∀ c : Dev Cert.DhpIdeal.nD,
    (Cert.Pre_dhp_finite.fn (F := Ideal) (m ((c.tc : Thread Cert.DhpIdeal.nD Cert.DhpIdeal.τ).loc Cert.DhpIdeal.main_arg0)) (m ((c.tc : Thread Cert.DhpIdeal.nD Cert.DhpIdeal.τ).loc Cert.DhpIdeal.main_arg1)) (m ((c.tc : Thread Cert.DhpIdeal.nD Cert.DhpIdeal.τ).loc Cert.DhpIdeal.main_arg2)) (m ((c.tc : Thread Cert.DhpIdeal.nD Cert.DhpIdeal.τ).loc Cert.DhpIdeal.main_arg3)) (m ((c.tc : Thread Cert.DhpIdeal.nD Cert.DhpIdeal.τ).loc Cert.DhpIdeal.main_arg4))).1 = (fun _ => 1#1)
    ∧ (Cert.Pre_dhp_finite.fn (F := Ideal) (m ((c.tc : Thread Cert.DhpIdeal.nD Cert.DhpIdeal.τ).loc Cert.DhpIdeal.main_arg0)) (m ((c.tc : Thread Cert.DhpIdeal.nD Cert.DhpIdeal.τ).loc Cert.DhpIdeal.main_arg1)) (m ((c.tc : Thread Cert.DhpIdeal.nD Cert.DhpIdeal.τ).loc Cert.DhpIdeal.main_arg2)) (m ((c.tc : Thread Cert.DhpIdeal.nD Cert.DhpIdeal.τ).loc Cert.DhpIdeal.main_arg3)) (m ((c.tc : Thread Cert.DhpIdeal.nD Cert.DhpIdeal.τ).loc Cert.DhpIdeal.main_arg4))).2.1 = (fun _ => 1#1)
    ∧ (Cert.Pre_dhp_finite.fn (F := Ideal) (m ((c.tc : Thread Cert.DhpIdeal.nD Cert.DhpIdeal.τ).loc Cert.DhpIdeal.main_arg0)) (m ((c.tc : Thread Cert.DhpIdeal.nD Cert.DhpIdeal.τ).loc Cert.DhpIdeal.main_arg1)) (m ((c.tc : Thread Cert.DhpIdeal.nD Cert.DhpIdeal.τ).loc Cert.DhpIdeal.main_arg2)) (m ((c.tc : Thread Cert.DhpIdeal.nD Cert.DhpIdeal.τ).loc Cert.DhpIdeal.main_arg3)) (m ((c.tc : Thread Cert.DhpIdeal.nD Cert.DhpIdeal.τ).loc Cert.DhpIdeal.main_arg4))).2.2.1 = (fun _ => 1#1)
    ∧ (Cert.Pre_dhp_finite.fn (F := Ideal) (m ((c.tc : Thread Cert.DhpIdeal.nD Cert.DhpIdeal.τ).loc Cert.DhpIdeal.main_arg0)) (m ((c.tc : Thread Cert.DhpIdeal.nD Cert.DhpIdeal.τ).loc Cert.DhpIdeal.main_arg1)) (m ((c.tc : Thread Cert.DhpIdeal.nD Cert.DhpIdeal.τ).loc Cert.DhpIdeal.main_arg2)) (m ((c.tc : Thread Cert.DhpIdeal.nD Cert.DhpIdeal.τ).loc Cert.DhpIdeal.main_arg3)) (m ((c.tc : Thread Cert.DhpIdeal.nD Cert.DhpIdeal.τ).loc Cert.DhpIdeal.main_arg4))).2.2.2 = (fun _ => 1#1)

def Pre_DhpRefIdeal (m : (ℓ : Loc Cert.DhpRefIdeal.nD Cert.DhpRefIdeal.τ Cert.DhpRefIdeal.sig) → Buf (Elt Ideal) ℓ) : Prop :=
  True

def Pre_DhpRefIdeal_dhp_finite [hPre_dhp_finite : Cert.Pre_dhp_finite.Facts] (m : (ℓ : Loc Cert.DhpRefIdeal.nD Cert.DhpRefIdeal.τ Cert.DhpRefIdeal.sig) → Buf (Elt Ideal) ℓ) : Prop :=
  ∀ c : Dev Cert.DhpRefIdeal.nD,
    (Cert.Pre_dhp_finite.fn (F := Ideal) (m ((c.tc : Thread Cert.DhpRefIdeal.nD Cert.DhpRefIdeal.τ).loc Cert.DhpRefIdeal.main_arg0)) (m ((c.tc : Thread Cert.DhpRefIdeal.nD Cert.DhpRefIdeal.τ).loc Cert.DhpRefIdeal.main_arg1)) (m ((c.tc : Thread Cert.DhpRefIdeal.nD Cert.DhpRefIdeal.τ).loc Cert.DhpRefIdeal.main_arg2)) (m ((c.tc : Thread Cert.DhpRefIdeal.nD Cert.DhpRefIdeal.τ).loc Cert.DhpRefIdeal.main_arg3)) (m ((c.tc : Thread Cert.DhpRefIdeal.nD Cert.DhpRefIdeal.τ).loc Cert.DhpRefIdeal.main_arg4))).1 = (fun _ => 1#1)
    ∧ (Cert.Pre_dhp_finite.fn (F := Ideal) (m ((c.tc : Thread Cert.DhpRefIdeal.nD Cert.DhpRefIdeal.τ).loc Cert.DhpRefIdeal.main_arg0)) (m ((c.tc : Thread Cert.DhpRefIdeal.nD Cert.DhpRefIdeal.τ).loc Cert.DhpRefIdeal.main_arg1)) (m ((c.tc : Thread Cert.DhpRefIdeal.nD Cert.DhpRefIdeal.τ).loc Cert.DhpRefIdeal.main_arg2)) (m ((c.tc : Thread Cert.DhpRefIdeal.nD Cert.DhpRefIdeal.τ).loc Cert.DhpRefIdeal.main_arg3)) (m ((c.tc : Thread Cert.DhpRefIdeal.nD Cert.DhpRefIdeal.τ).loc Cert.DhpRefIdeal.main_arg4))).2.1 = (fun _ => 1#1)
    ∧ (Cert.Pre_dhp_finite.fn (F := Ideal) (m ((c.tc : Thread Cert.DhpRefIdeal.nD Cert.DhpRefIdeal.τ).loc Cert.DhpRefIdeal.main_arg0)) (m ((c.tc : Thread Cert.DhpRefIdeal.nD Cert.DhpRefIdeal.τ).loc Cert.DhpRefIdeal.main_arg1)) (m ((c.tc : Thread Cert.DhpRefIdeal.nD Cert.DhpRefIdeal.τ).loc Cert.DhpRefIdeal.main_arg2)) (m ((c.tc : Thread Cert.DhpRefIdeal.nD Cert.DhpRefIdeal.τ).loc Cert.DhpRefIdeal.main_arg3)) (m ((c.tc : Thread Cert.DhpRefIdeal.nD Cert.DhpRefIdeal.τ).loc Cert.DhpRefIdeal.main_arg4))).2.2.1 = (fun _ => 1#1)
    ∧ (Cert.Pre_dhp_finite.fn (F := Ideal) (m ((c.tc : Thread Cert.DhpRefIdeal.nD Cert.DhpRefIdeal.τ).loc Cert.DhpRefIdeal.main_arg0)) (m ((c.tc : Thread Cert.DhpRefIdeal.nD Cert.DhpRefIdeal.τ).loc Cert.DhpRefIdeal.main_arg1)) (m ((c.tc : Thread Cert.DhpRefIdeal.nD Cert.DhpRefIdeal.τ).loc Cert.DhpRefIdeal.main_arg2)) (m ((c.tc : Thread Cert.DhpRefIdeal.nD Cert.DhpRefIdeal.τ).loc Cert.DhpRefIdeal.main_arg3)) (m ((c.tc : Thread Cert.DhpRefIdeal.nD Cert.DhpRefIdeal.τ).loc Cert.DhpRefIdeal.main_arg4))).2.2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_finite [hPre_dact_finite : Cert.Pre_dact_finite.Facts] (m : (ℓ : Loc Cert.DactIdeal.nD Cert.DactIdeal.τ Cert.DactIdeal.sig) → Buf (Elt Ideal) ℓ) : Prop :=
  ∀ c : Dev Cert.DactIdeal.nD,
    (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_dact_finite [hPre_dact_finite : Cert.Pre_dact_finite.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2 = (fun _ => 1#1)

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedRefIdeal (m : (ℓ : Loc Cert.DmergedRefIdeal.nD Cert.DmergedRefIdeal.τ Cert.DmergedRefIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupRefIdeal (m : (ℓ : Loc Cert.DupRefIdeal.nD Cert.DupRefIdeal.τ Cert.DupRefIdeal.sig) → Buf (Elt Ideal) ℓ) : Prop :=
  True

def Pre_Ddown (m : (ℓ : Loc Cert.Ddown.nD Cert.Ddown.τ Cert.Ddown.sig) → Buf (Elt Bits) ℓ) : Prop :=
  True

def Pre_DdownIdeal (m : (ℓ : Loc Cert.DdownIdeal.nD Cert.DdownIdeal.τ Cert.DdownIdeal.sig) → Buf (Elt Ideal) ℓ) : Prop :=
  True

def Pre_DdownRefIdeal (m : (ℓ : Loc Cert.DdownRefIdeal.nD Cert.DdownRefIdeal.τ Cert.DdownRefIdeal.sig) → Buf (Elt Ideal) ℓ) : Prop :=
  True

def Pre_Dya (m : (ℓ : Loc Cert.Dya.nD Cert.Dya.τ Cert.Dya.sig) → Buf (Elt Bits) ℓ) : Prop :=
  True

def Pre_DyaIdeal (m : (ℓ : Loc Cert.DyaIdeal.nD Cert.DyaIdeal.τ Cert.DyaIdeal.sig) → Buf (Elt Ideal) ℓ) : Prop :=
  True

def Pre_DyaRefIdeal (m : (ℓ : Loc Cert.DyaRefIdeal.nD Cert.DyaRefIdeal.τ Cert.DyaRefIdeal.sig) → Buf (Elt Ideal) ℓ) : Prop :=
  True

def Pre_Dout (m : (ℓ : Loc Cert.Dout.nD Cert.Dout.τ Cert.Dout.sig) → Buf (Elt Bits) ℓ) : Prop :=
  True

def Pre_DoutIdeal (m : (ℓ : Loc Cert.DoutIdeal.nD Cert.DoutIdeal.τ Cert.DoutIdeal.sig) → Buf (Elt Ideal) ℓ) : Prop :=
  True

def Pre_DoutRefIdeal (m : (ℓ : Loc Cert.DoutRefIdeal.nD Cert.DoutRefIdeal.τ Cert.DoutRefIdeal.sig) → Buf (Elt Ideal) ℓ) : Prop :=
  True

def Pre_Dpp (m : (ℓ : Loc Cert.Dpp.nD Cert.Dpp.τ Cert.Dpp.sig) → Buf (Elt Bits) ℓ) : Prop :=
  True

def Pre_DppIdeal (m : (ℓ : Loc Cert.DppIdeal.nD Cert.DppIdeal.τ Cert.DppIdeal.sig) → Buf (Elt Ideal) ℓ) : Prop :=
  True

def Pre_DppRefIdeal (m : (ℓ : Loc Cert.DppRefIdeal.nD Cert.DppRefIdeal.τ Cert.DppRefIdeal.sig) → Buf (Elt Ideal) ℓ) : Prop :=
  True

def Pre_Dhm (m : (ℓ : Loc Cert.Dhm.nD Cert.Dhm.τ Cert.Dhm.sig) → Buf (Elt Bits) ℓ) : Prop :=
  True

def Pre_DhmIdeal (m : (ℓ : Loc Cert.DhmIdeal.nD Cert.DhmIdeal.τ Cert.DhmIdeal.sig) → Buf (Elt Ideal) ℓ) : Prop :=
  True

def Pre_DhmIdeal_dhm_finite [hPre_dhm_finite : Cert.Pre_dhm_finite.Facts] (m : (ℓ : Loc Cert.DhmIdeal.nD Cert.DhmIdeal.τ Cert.DhmIdeal.sig) → Buf (Elt Ideal) ℓ) : Prop :=
  ∀ c : Dev Cert.DhmIdeal.nD,
    (Cert.Pre_dhm_finite.fn (F := Ideal) (m ((c.tc : Thread Cert.DhmIdeal.nD Cert.DhmIdeal.τ).loc Cert.DhmIdeal.main_arg0)) (m ((c.tc : Thread Cert.DhmIdeal.nD Cert.DhmIdeal.τ).loc Cert.DhmIdeal.main_arg1)) (m ((c.tc : Thread Cert.DhmIdeal.nD Cert.DhmIdeal.τ).loc Cert.DhmIdeal.main_arg2)) (m ((c.tc : Thread Cert.DhmIdeal.nD Cert.DhmIdeal.τ).loc Cert.DhmIdeal.main_arg3)) (m ((c.tc : Thread Cert.DhmIdeal.nD Cert.DhmIdeal.τ).loc Cert.DhmIdeal.main_arg4))).1 = (fun _ => 1#1)
    ∧ (Cert.Pre_dhm_finite.fn (F := Ideal) (m ((c.tc : Thread Cert.DhmIdeal.nD Cert.DhmIdeal.τ).loc Cert.DhmIdeal.main_arg0)) (m ((c.tc : Thread Cert.DhmIdeal.nD Cert.DhmIdeal.τ).loc Cert.DhmIdeal.main_arg1)) (m ((c.tc : Thread Cert.DhmIdeal.nD Cert.DhmIdeal.τ).loc Cert.DhmIdeal.main_arg2)) (m ((c.tc : Thread Cert.DhmIdeal.nD Cert.DhmIdeal.τ).loc Cert.DhmIdeal.main_arg3)) (m ((c.tc : Thread Cert.DhmIdeal.nD Cert.DhmIdeal.τ).loc Cert.DhmIdeal.main_arg4))).2.1 = (fun _ => 1#1)
    ∧ (Cert.Pre_dhm_finite.fn (F := Ideal) (m ((c.tc : Thread Cert.DhmIdeal.nD Cert.DhmIdeal.τ).loc Cert.DhmIdeal.main_arg0)) (m ((c.tc : Thread Cert.DhmIdeal.nD Cert.DhmIdeal.τ).loc Cert.DhmIdeal.main_arg1)) (m ((c.tc : Thread Cert.DhmIdeal.nD Cert.DhmIdeal.τ).loc Cert.DhmIdeal.main_arg2)) (m ((c.tc : Thread Cert.DhmIdeal.nD Cert.DhmIdeal.τ).loc Cert.DhmIdeal.main_arg3)) (m ((c.tc : Thread Cert.DhmIdeal.nD Cert.DhmIdeal.τ).loc Cert.DhmIdeal.main_arg4))).2.2.1 = (fun _ => 1#1)
    ∧ (Cert.Pre_dhm_finite.fn (F := Ideal) (m ((c.tc : Thread Cert.DhmIdeal.nD Cert.DhmIdeal.τ).loc Cert.DhmIdeal.main_arg0)) (m ((c.tc : Thread Cert.DhmIdeal.nD Cert.DhmIdeal.τ).loc Cert.DhmIdeal.main_arg1)) (m ((c.tc : Thread Cert.DhmIdeal.nD Cert.DhmIdeal.τ).loc Cert.DhmIdeal.main_arg2)) (m ((c.tc : Thread Cert.DhmIdeal.nD Cert.DhmIdeal.τ).loc Cert.DhmIdeal.main_arg3)) (m ((c.tc : Thread Cert.DhmIdeal.nD Cert.DhmIdeal.τ).loc Cert.DhmIdeal.main_arg4))).2.2.2 = (fun _ => 1#1)

def Pre_DhmRefIdeal (m : (ℓ : Loc Cert.DhmRefIdeal.nD Cert.DhmRefIdeal.τ Cert.DhmRefIdeal.sig) → Buf (Elt Ideal) ℓ) : Prop :=
  True

def Pre_DhmRefIdeal_dhm_finite [hPre_dhm_finite : Cert.Pre_dhm_finite.Facts] (m : (ℓ : Loc Cert.DhmRefIdeal.nD Cert.DhmRefIdeal.τ Cert.DhmRefIdeal.sig) → Buf (Elt Ideal) ℓ) : Prop :=
  ∀ c : Dev Cert.DhmRefIdeal.nD,
    (Cert.Pre_dhm_finite.fn (F := Ideal) (m ((c.tc : Thread Cert.DhmRefIdeal.nD Cert.DhmRefIdeal.τ).loc Cert.DhmRefIdeal.main_arg0)) (m ((c.tc : Thread Cert.DhmRefIdeal.nD Cert.DhmRefIdeal.τ).loc Cert.DhmRefIdeal.main_arg1)) (m ((c.tc : Thread Cert.DhmRefIdeal.nD Cert.DhmRefIdeal.τ).loc Cert.DhmRefIdeal.main_arg2)) (m ((c.tc : Thread Cert.DhmRefIdeal.nD Cert.DhmRefIdeal.τ).loc Cert.DhmRefIdeal.main_arg3)) (m ((c.tc : Thread Cert.DhmRefIdeal.nD Cert.DhmRefIdeal.τ).loc Cert.DhmRefIdeal.main_arg4))).1 = (fun _ => 1#1)
    ∧ (Cert.Pre_dhm_finite.fn (F := Ideal) (m ((c.tc : Thread Cert.DhmRefIdeal.nD Cert.DhmRefIdeal.τ).loc Cert.DhmRefIdeal.main_arg0)) (m ((c.tc : Thread Cert.DhmRefIdeal.nD Cert.DhmRefIdeal.τ).loc Cert.DhmRefIdeal.main_arg1)) (m ((c.tc : Thread Cert.DhmRefIdeal.nD Cert.DhmRefIdeal.τ).loc Cert.DhmRefIdeal.main_arg2)) (m ((c.tc : Thread Cert.DhmRefIdeal.nD Cert.DhmRefIdeal.τ).loc Cert.DhmRefIdeal.main_arg3)) (m ((c.tc : Thread Cert.DhmRefIdeal.nD Cert.DhmRefIdeal.τ).loc Cert.DhmRefIdeal.main_arg4))).2.1 = (fun _ => 1#1)
    ∧ (Cert.Pre_dhm_finite.fn (F := Ideal) (m ((c.tc : Thread Cert.DhmRefIdeal.nD Cert.DhmRefIdeal.τ).loc Cert.DhmRefIdeal.main_arg0)) (m ((c.tc : Thread Cert.DhmRefIdeal.nD Cert.DhmRefIdeal.τ).loc Cert.DhmRefIdeal.main_arg1)) (m ((c.tc : Thread Cert.DhmRefIdeal.nD Cert.DhmRefIdeal.τ).loc Cert.DhmRefIdeal.main_arg2)) (m ((c.tc : Thread Cert.DhmRefIdeal.nD Cert.DhmRefIdeal.τ).loc Cert.DhmRefIdeal.main_arg3)) (m ((c.tc : Thread Cert.DhmRefIdeal.nD Cert.DhmRefIdeal.τ).loc Cert.DhmRefIdeal.main_arg4))).2.2.1 = (fun _ => 1#1)
    ∧ (Cert.Pre_dhm_finite.fn (F := Ideal) (m ((c.tc : Thread Cert.DhmRefIdeal.nD Cert.DhmRefIdeal.τ).loc Cert.DhmRefIdeal.main_arg0)) (m ((c.tc : Thread Cert.DhmRefIdeal.nD Cert.DhmRefIdeal.τ).loc Cert.DhmRefIdeal.main_arg1)) (m ((c.tc : Thread Cert.DhmRefIdeal.nD Cert.DhmRefIdeal.τ).loc Cert.DhmRefIdeal.main_arg2)) (m ((c.tc : Thread Cert.DhmRefIdeal.nD Cert.DhmRefIdeal.τ).loc Cert.DhmRefIdeal.main_arg3)) (m ((c.tc : Thread Cert.DhmRefIdeal.nD Cert.DhmRefIdeal.τ).loc Cert.DhmRefIdeal.main_arg4))).2.2.2 = (fun _ => 1#1)

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoRefIdeal (m : (ℓ : Loc Cert.DoRefIdeal.nD Cert.DoRefIdeal.τ Cert.DoRefIdeal.sig) → Buf (Elt Ideal) ℓ) : Prop :=
  True

def Pre_Dinr (m : (ℓ : Loc Cert.Dinr.nD Cert.Dinr.τ Cert.Dinr.sig) → Buf (Elt Bits) ℓ) : Prop :=
  True

def Pre_DinrIdeal (m : (ℓ : Loc Cert.DinrIdeal.nD Cert.DinrIdeal.τ Cert.DinrIdeal.sig) → Buf (Elt Ideal) ℓ) : Prop :=
  True

def Pre_DinrRefIdeal (m : (ℓ : Loc Cert.DinrRefIdeal.nD Cert.DinrRefIdeal.τ Cert.DinrRefIdeal.sig) → Buf (Elt Ideal) ℓ) : Prop :=
  True

def Pre_Dina (m : (ℓ : Loc Cert.Dina.nD Cert.Dina.τ Cert.Dina.sig) → Buf (Elt Bits) ℓ) : Prop :=
  True

def Pre_DinaIdeal (m : (ℓ : Loc Cert.DinaIdeal.nD Cert.DinaIdeal.τ Cert.DinaIdeal.sig) → Buf (Elt Ideal) ℓ) : Prop :=
  True

def Pre_DinaRefIdeal (m : (ℓ : Loc Cert.DinaRefIdeal.nD Cert.DinaRefIdeal.τ Cert.DinaRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_dh_finite [hPre_dh_finite : Cert.Pre_dh_finite.Facts] (m : (ℓ : Loc Cert.DhIdeal.nD Cert.DhIdeal.τ Cert.DhIdeal.sig) → Buf (Elt Ideal) ℓ) : Prop :=
  ∀ c : Dev Cert.DhIdeal.nD,
    (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8))).1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8))).2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8))).2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8))).2.2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8))).2.2.2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8))).2.2.2.2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8))).2.2.2.2.2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7)) (m ((c.tc : Thread Cert.DhIdeal.nD Cert.DhIdeal.τ).loc Cert.DhIdeal.main_arg8))).2.2.2.2.2.2.2 = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_dh_finite [hPre_dh_finite : Cert.Pre_dh_finite.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8))).1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8))).2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8))).2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8))).2.2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8))).2.2.2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8))).2.2.2.2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8))).2.2.2.2.2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7)) (m ((c.tc : Thread Cert.DhRefIdeal.nD Cert.DhRefIdeal.τ).loc Cert.DhRefIdeal.main_arg8))).2.2.2.2.2.2.2 = (fun _ => 1#1)

def Pre_Fya (m : (ℓ : Loc Cert.Fya.nD Cert.Fya.τ Cert.Fya.sig) → Buf (Elt Bits) ℓ) : Prop :=
  True

def Pre_FyaIdeal (m : (ℓ : Loc Cert.FyaIdeal.nD Cert.FyaIdeal.τ Cert.FyaIdeal.sig) → Buf (Elt Ideal) ℓ) : Prop :=
  True

def Pre_FyaRefIdeal (m : (ℓ : Loc Cert.FyaRefIdeal.nD Cert.FyaRefIdeal.τ Cert.FyaRefIdeal.sig) → Buf (Elt Ideal) ℓ) : Prop :=
  True

def Pre_Fyb (m : (ℓ : Loc Cert.Fyb.nD Cert.Fyb.τ Cert.Fyb.sig) → Buf (Elt Bits) ℓ) : Prop :=
  True

def Pre_FybIdeal (m : (ℓ : Loc Cert.FybIdeal.nD Cert.FybIdeal.τ Cert.FybIdeal.sig) → Buf (Elt Ideal) ℓ) : Prop :=
  True

def Pre_FybRefIdeal (m : (ℓ : Loc Cert.FybRefIdeal.nD Cert.FybRefIdeal.τ Cert.FybRefIdeal.sig) → Buf (Elt Ideal) ℓ) : Prop :=
  True

def Pre_Fx1 (m : (ℓ : Loc Cert.Fx1.nD Cert.Fx1.τ Cert.Fx1.sig) → Buf (Elt Bits) ℓ) : Prop :=
  True

def Pre_Fx1Ideal (m : (ℓ : Loc Cert.Fx1Ideal.nD Cert.Fx1Ideal.τ Cert.Fx1Ideal.sig) → Buf (Elt Ideal) ℓ) : Prop :=
  True

def Pre_Fx1RefIdeal (m : (ℓ : Loc Cert.Fx1RefIdeal.nD Cert.Fx1RefIdeal.τ Cert.Fx1RefIdeal.sig) → Buf (Elt Ideal) ℓ) : Prop :=
  True

def Pre_Fact (m : (ℓ : Loc Cert.Fact.nD Cert.Fact.τ Cert.Fact.sig) → Buf (Elt Bits) ℓ) : Prop :=
  True

def Pre_FactIdeal (m : (ℓ : Loc Cert.FactIdeal.nD Cert.FactIdeal.τ Cert.FactIdeal.sig) → Buf (Elt Ideal) ℓ) : Prop :=
  True

def Pre_FactRefIdeal (m : (ℓ : Loc Cert.FactRefIdeal.nD Cert.FactRefIdeal.τ Cert.FactRefIdeal.sig) → Buf (Elt Ideal) ℓ) : Prop :=
  True

def Pre_Fx2 (m : (ℓ : Loc Cert.Fx2.nD Cert.Fx2.τ Cert.Fx2.sig) → Buf (Elt Bits) ℓ) : Prop :=
  True

def Pre_Fx2Ideal (m : (ℓ : Loc Cert.Fx2Ideal.nD Cert.Fx2Ideal.τ Cert.Fx2Ideal.sig) → Buf (Elt Ideal) ℓ) : Prop :=
  True

def Pre_Fx2RefIdeal (m : (ℓ : Loc Cert.Fx2RefIdeal.nD Cert.Fx2RefIdeal.τ Cert.Fx2RefIdeal.sig) → Buf (Elt Ideal) ℓ) : Prop :=
  True

def Pre_Fe (m : (ℓ : Loc Cert.Fe.nD Cert.Fe.τ Cert.Fe.sig) → Buf (Elt Bits) ℓ) : Prop :=
  True

def Pre_FeIdeal (m : (ℓ : Loc Cert.FeIdeal.nD Cert.FeIdeal.τ Cert.FeIdeal.sig) → Buf (Elt Ideal) ℓ) : Prop :=
  True

def Pre_FeRefIdeal (m : (ℓ : Loc Cert.FeRefIdeal.nD Cert.FeRefIdeal.τ Cert.FeRefIdeal.sig) → Buf (Elt Ideal) ℓ) : Prop :=
  True

def Pre_Floss (m : (ℓ : Loc Cert.Floss.nD Cert.Floss.τ Cert.Floss.sig) → Buf (Elt Bits) ℓ) : Prop :=
  True

def Pre_FlossIdeal (m : (ℓ : Loc Cert.FlossIdeal.nD Cert.FlossIdeal.τ Cert.FlossIdeal.sig) → Buf (Elt Ideal) ℓ) : Prop :=
  True

def Pre_FlossRefIdeal (m : (ℓ : Loc Cert.FlossRefIdeal.nD Cert.FlossRefIdeal.τ Cert.FlossRefIdeal.sig) → Buf (Elt Ideal) ℓ) : Prop :=
  True

def Pre_Awin (m : (ℓ : Loc Cert.Awin.nD Cert.Awin.τ Cert.Awin.sig) → Buf (Elt Bits) ℓ) : Prop :=
  True

def Pre_AwinIdeal (m : (ℓ : Loc Cert.AwinIdeal.nD Cert.AwinIdeal.τ Cert.AwinIdeal.sig) → Buf (Elt Ideal) ℓ) : Prop :=
  True

def Pre_AwinRefIdeal (m : (ℓ : Loc Cert.AwinRefIdeal.nD Cert.AwinRefIdeal.τ Cert.AwinRefIdeal.sig) → Buf (Elt Ideal) ℓ) : Prop :=
  True

def Pre_Aproj (m : (ℓ : Loc Cert.Aproj.nD Cert.Aproj.τ Cert.Aproj.sig) → Buf (Elt Bits) ℓ) : Prop :=
  True

def Pre_AprojIdeal (m : (ℓ : Loc Cert.AprojIdeal.nD Cert.AprojIdeal.τ Cert.AprojIdeal.sig) → Buf (Elt Ideal) ℓ) : Prop :=
  True

def Pre_AprojRefIdeal (m : (ℓ : Loc Cert.AprojRefIdeal.nD Cert.AprojRefIdeal.τ Cert.AprojRefIdeal.sig) → Buf (Elt Ideal) ℓ) : Prop :=
  True

def Pre_Aup (m : (ℓ : Loc Cert.Aup.nD Cert.Aup.τ Cert.Aup.sig) → Buf (Elt Bits) ℓ) : Prop :=
  True

def Pre_AupIdeal (m : (ℓ : Loc Cert.AupIdeal.nD Cert.AupIdeal.τ Cert.AupIdeal.sig) → Buf (Elt Ideal) ℓ) : Prop :=
  True

def Pre_AupRefIdeal (m : (ℓ : Loc Cert.AupRefIdeal.nD Cert.AupRefIdeal.τ Cert.AupRefIdeal.sig) → Buf (Elt Ideal) ℓ) : Prop :=
  True

def Pre_Adown (m : (ℓ : Loc Cert.Adown.nD Cert.Adown.τ Cert.Adown.sig) → Buf (Elt Bits) ℓ) : Prop :=
  True

def Pre_AdownIdeal (m : (ℓ : Loc Cert.AdownIdeal.nD Cert.AdownIdeal.τ Cert.AdownIdeal.sig) → Buf (Elt Ideal) ℓ) : Prop :=
  True

def Pre_AdownRefIdeal (m : (ℓ : Loc Cert.AdownRefIdeal.nD Cert.AdownRefIdeal.τ Cert.AdownRefIdeal.sig) → Buf (Elt Ideal) ℓ) : Prop :=
  True

def Pre_App (m : (ℓ : Loc Cert.App.nD Cert.App.τ Cert.App.sig) → Buf (Elt Bits) ℓ) : Prop :=
  True

def Pre_AppIdeal (m : (ℓ : Loc Cert.AppIdeal.nD Cert.AppIdeal.τ Cert.AppIdeal.sig) → Buf (Elt Ideal) ℓ) : Prop :=
  True

def Pre_AppRefIdeal (m : (ℓ : Loc Cert.AppRefIdeal.nD Cert.AppRefIdeal.τ Cert.AppRefIdeal.sig) → Buf (Elt Ideal) ℓ) : Prop :=
  True

def Pre_Aconv (m : (ℓ : Loc Cert.Aconv.nD Cert.Aconv.τ Cert.Aconv.sig) → Buf (Elt Bits) ℓ) : Prop :=
  True

def Pre_AconvIdeal (m : (ℓ : Loc Cert.AconvIdeal.nD Cert.AconvIdeal.τ Cert.AconvIdeal.sig) → Buf (Elt Ideal) ℓ) : Prop :=
  True

def Pre_AconvRefIdeal (m : (ℓ : Loc Cert.AconvRefIdeal.nD Cert.AconvRefIdeal.τ Cert.AconvRefIdeal.sig) → Buf (Elt Ideal) ℓ) : Prop :=
  True

def Pre_Agmix (m : (ℓ : Loc Cert.Agmix.nD Cert.Agmix.τ Cert.Agmix.sig) → Buf (Elt Bits) ℓ) : Prop :=
  True

def Pre_AgmixIdeal (m : (ℓ : Loc Cert.AgmixIdeal.nD Cert.AgmixIdeal.τ Cert.AgmixIdeal.sig) → Buf (Elt Ideal) ℓ) : Prop :=
  True

def Pre_AgmixRefIdeal (m : (ℓ : Loc Cert.AgmixRefIdeal.nD Cert.AgmixRefIdeal.τ Cert.AgmixRefIdeal.sig) → Buf (Elt Ideal) ℓ) : Prop :=
  True

def Pre_Asmall (m : (ℓ : Loc Cert.Asmall.nD Cert.Asmall.τ Cert.Asmall.sig) → Buf (Elt Bits) ℓ) : Prop :=
  True

def Pre_AsmallIdeal (m : (ℓ : Loc Cert.AsmallIdeal.nD Cert.AsmallIdeal.τ Cert.AsmallIdeal.sig) → Buf (Elt Ideal) ℓ) : Prop :=
  True

def Pre_AsmallRefIdeal (m : (ℓ : Loc Cert.AsmallRefIdeal.nD Cert.AsmallRefIdeal.τ Cert.AsmallRefIdeal.sig) → Buf (Elt Ideal) ℓ) : Prop :=
  True

def Pre_Fh (m : (ℓ : Loc Cert.Fh.nD Cert.Fh.τ Cert.Fh.sig) → Buf (Elt Bits) ℓ) : Prop :=
  True

def Pre_FhIdeal (m : (ℓ : Loc Cert.FhIdeal.nD Cert.FhIdeal.τ Cert.FhIdeal.sig) → Buf (Elt Ideal) ℓ) : Prop :=
  True

def Pre_FhRefIdeal (m : (ℓ : Loc Cert.FhRefIdeal.nD Cert.FhRefIdeal.τ Cert.FhRefIdeal.sig) → Buf (Elt Ideal) ℓ) : Prop :=
  True

def Pre_Rf (m : (ℓ : Loc Cert.Rf.nD Cert.Rf.τ Cert.Rf.sig) → Buf (Elt Bits) ℓ) : Prop :=
  True

def Pre_RfIdeal (m : (ℓ : Loc Cert.RfIdeal.nD Cert.RfIdeal.τ Cert.RfIdeal.sig) → Buf (Elt Ideal) ℓ) : Prop :=
  True

def Pre_RfIdeal_rnn_decays [hPre_rnn_decays : Cert.Pre_rnn_decays.Facts] (m : (ℓ : Loc Cert.RfIdeal.nD Cert.RfIdeal.τ Cert.RfIdeal.sig) → Buf (Elt Ideal) ℓ) : Prop :=
  ∀ c : Dev Cert.RfIdeal.nD,
    (Cert.Pre_rnn_decays.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7))) = (fun _ => 1#1)

def Pre_RfRefIdeal (m : (ℓ : Loc Cert.RfRefIdeal.nD Cert.RfRefIdeal.τ Cert.RfRefIdeal.sig) → Buf (Elt Ideal) ℓ) : Prop :=
  True

def Pre_RfRefIdeal_rnn_decays [hPre_rnn_decays : Cert.Pre_rnn_decays.Facts] (m : (ℓ : Loc Cert.RfRefIdeal.nD Cert.RfRefIdeal.τ Cert.RfRefIdeal.sig) → Buf (Elt Ideal) ℓ) : Prop :=
  ∀ c : Dev Cert.RfRefIdeal.nD,
    (Cert.Pre_rnn_decays.fn (F := Ideal) (m ((c.tc : Thread Cert.RfRefIdeal.nD Cert.RfRefIdeal.τ).loc Cert.RfRefIdeal.main_arg0)) (m ((c.tc : Thread Cert.RfRefIdeal.nD Cert.RfRefIdeal.τ).loc Cert.RfRefIdeal.main_arg1)) (m ((c.tc : Thread Cert.RfRefIdeal.nD Cert.RfRefIdeal.τ).loc Cert.RfRefIdeal.main_arg2)) (m ((c.tc : Thread Cert.RfRefIdeal.nD Cert.RfRefIdeal.τ).loc Cert.RfRefIdeal.main_arg3)) (m ((c.tc : Thread Cert.RfRefIdeal.nD Cert.RfRefIdeal.τ).loc Cert.RfRefIdeal.main_arg4)) (m ((c.tc : Thread Cert.RfRefIdeal.nD Cert.RfRefIdeal.τ).loc Cert.RfRefIdeal.main_arg5)) (m ((c.tc : Thread Cert.RfRefIdeal.nD Cert.RfRefIdeal.τ).loc Cert.RfRefIdeal.main_arg6)) (m ((c.tc : Thread Cert.RfRefIdeal.nD Cert.RfRefIdeal.τ).loc Cert.RfRefIdeal.main_arg7))) = (fun _ => 1#1)

def Pre_Rb (m : (ℓ : Loc Cert.Rb.nD Cert.Rb.τ Cert.Rb.sig) → Buf (Elt Bits) ℓ) : Prop :=
  True

def Pre_RbIdeal (m : (ℓ : Loc Cert.RbIdeal.nD Cert.RbIdeal.τ Cert.RbIdeal.sig) → Buf (Elt Ideal) ℓ) : Prop :=
  True

def Pre_RbIdeal_gate_finite [hPre_gate_finite : Cert.Pre_gate_finite.Facts] (m : (ℓ : Loc Cert.RbIdeal.nD Cert.RbIdeal.τ Cert.RbIdeal.sig) → Buf (Elt Ideal) ℓ) : Prop :=
  ∀ c : Dev Cert.RbIdeal.nD,
    (Cert.Pre_gate_finite.fn (F := Ideal) (m ((c.tc : Thread Cert.RbIdeal.nD Cert.RbIdeal.τ).loc Cert.RbIdeal.main_arg0)) (m ((c.tc : Thread Cert.RbIdeal.nD Cert.RbIdeal.τ).loc Cert.RbIdeal.main_arg1)) (m ((c.tc : Thread Cert.RbIdeal.nD Cert.RbIdeal.τ).loc Cert.RbIdeal.main_arg2)) (m ((c.tc : Thread Cert.RbIdeal.nD Cert.RbIdeal.τ).loc Cert.RbIdeal.main_arg3)) (m ((c.tc : Thread Cert.RbIdeal.nD Cert.RbIdeal.τ).loc Cert.RbIdeal.main_arg4)) (m ((c.tc : Thread Cert.RbIdeal.nD Cert.RbIdeal.τ).loc Cert.RbIdeal.main_arg5)) (m ((c.tc : Thread Cert.RbIdeal.nD Cert.RbIdeal.τ).loc Cert.RbIdeal.main_arg6)) (m ((c.tc : Thread Cert.RbIdeal.nD Cert.RbIdeal.τ).loc Cert.RbIdeal.main_arg7)) (m ((c.tc : Thread Cert.RbIdeal.nD Cert.RbIdeal.τ).loc Cert.RbIdeal.main_arg8)) (m ((c.tc : Thread Cert.RbIdeal.nD Cert.RbIdeal.τ).loc Cert.RbIdeal.main_arg9))).1 = (fun _ => 1#1)
    ∧ (Cert.Pre_gate_finite.fn (F := Ideal) (m ((c.tc : Thread Cert.RbIdeal.nD Cert.RbIdeal.τ).loc Cert.RbIdeal.main_arg0)) (m ((c.tc : Thread Cert.RbIdeal.nD Cert.RbIdeal.τ).loc Cert.RbIdeal.main_arg1)) (m ((c.tc : Thread Cert.RbIdeal.nD Cert.RbIdeal.τ).loc Cert.RbIdeal.main_arg2)) (m ((c.tc : Thread Cert.RbIdeal.nD Cert.RbIdeal.τ).loc Cert.RbIdeal.main_arg3)) (m ((c.tc : Thread Cert.RbIdeal.nD Cert.RbIdeal.τ).loc Cert.RbIdeal.main_arg4)) (m ((c.tc : Thread Cert.RbIdeal.nD Cert.RbIdeal.τ).loc Cert.RbIdeal.main_arg5)) (m ((c.tc : Thread Cert.RbIdeal.nD Cert.RbIdeal.τ).loc Cert.RbIdeal.main_arg6)) (m ((c.tc : Thread Cert.RbIdeal.nD Cert.RbIdeal.τ).loc Cert.RbIdeal.main_arg7)) (m ((c.tc : Thread Cert.RbIdeal.nD Cert.RbIdeal.τ).loc Cert.RbIdeal.main_arg8)) (m ((c.tc : Thread Cert.RbIdeal.nD Cert.RbIdeal.τ).loc Cert.RbIdeal.main_arg9))).2 = (fun _ => 1#1)

def Pre_RbRefIdeal (m : (ℓ : Loc Cert.RbRefIdeal.nD Cert.RbRefIdeal.τ Cert.RbRefIdeal.sig) → Buf (Elt Ideal) ℓ) : Prop :=
  True

def Pre_RbRefIdeal_gate_finite [hPre_gate_finite : Cert.Pre_gate_finite.Facts] (m : (ℓ : Loc Cert.RbRefIdeal.nD Cert.RbRefIdeal.τ Cert.RbRefIdeal.sig) → Buf (Elt Ideal) ℓ) : Prop :=
  ∀ c : Dev Cert.RbRefIdeal.nD,
    (Cert.Pre_gate_finite.fn (F := Ideal) (m ((c.tc : Thread Cert.RbRefIdeal.nD Cert.RbRefIdeal.τ).loc Cert.RbRefIdeal.main_arg0)) (m ((c.tc : Thread Cert.RbRefIdeal.nD Cert.RbRefIdeal.τ).loc Cert.RbRefIdeal.main_arg1)) (m ((c.tc : Thread Cert.RbRefIdeal.nD Cert.RbRefIdeal.τ).loc Cert.RbRefIdeal.main_arg2)) (m ((c.tc : Thread Cert.RbRefIdeal.nD Cert.RbRefIdeal.τ).loc Cert.RbRefIdeal.main_arg3)) (m ((c.tc : Thread Cert.RbRefIdeal.nD Cert.RbRefIdeal.τ).loc Cert.RbRefIdeal.main_arg4)) (m ((c.tc : Thread Cert.RbRefIdeal.nD Cert.RbRefIdeal.τ).loc Cert.RbRefIdeal.main_arg5)) (m ((c.tc : Thread Cert.RbRefIdeal.nD Cert.RbRefIdeal.τ).loc Cert.RbRefIdeal.main_arg6)) (m ((c.tc : Thread Cert.RbRefIdeal.nD Cert.RbRefIdeal.τ).loc Cert.RbRefIdeal.main_arg7)) (m ((c.tc : Thread Cert.RbRefIdeal.nD Cert.RbRefIdeal.τ).loc Cert.RbRefIdeal.main_arg8)) (m ((c.tc : Thread Cert.RbRefIdeal.nD Cert.RbRefIdeal.τ).loc Cert.RbRefIdeal.main_arg9))).1 = (fun _ => 1#1)
    ∧ (Cert.Pre_gate_finite.fn (F := Ideal) (m ((c.tc : Thread Cert.RbRefIdeal.nD Cert.RbRefIdeal.τ).loc Cert.RbRefIdeal.main_arg0)) (m ((c.tc : Thread Cert.RbRefIdeal.nD Cert.RbRefIdeal.τ).loc Cert.RbRefIdeal.main_arg1)) (m ((c.tc : Thread Cert.RbRefIdeal.nD Cert.RbRefIdeal.τ).loc Cert.RbRefIdeal.main_arg2)) (m ((c.tc : Thread Cert.RbRefIdeal.nD Cert.RbRefIdeal.τ).loc Cert.RbRefIdeal.main_arg3)) (m ((c.tc : Thread Cert.RbRefIdeal.nD Cert.RbRefIdeal.τ).loc Cert.RbRefIdeal.main_arg4)) (m ((c.tc : Thread Cert.RbRefIdeal.nD Cert.RbRefIdeal.τ).loc Cert.RbRefIdeal.main_arg5)) (m ((c.tc : Thread Cert.RbRefIdeal.nD Cert.RbRefIdeal.τ).loc Cert.RbRefIdeal.main_arg6)) (m ((c.tc : Thread Cert.RbRefIdeal.nD Cert.RbRefIdeal.τ).loc Cert.RbRefIdeal.main_arg7)) (m ((c.tc : Thread Cert.RbRefIdeal.nD Cert.RbRefIdeal.τ).loc Cert.RbRefIdeal.main_arg8)) (m ((c.tc : Thread Cert.RbRefIdeal.nD Cert.RbRefIdeal.τ).loc Cert.RbRefIdeal.main_arg9))).2 = (fun _ => 1#1)

def quiescent_Dhp [hDhp : Cert.Dhp.Facts] : Prop :=
  ∀ (m : (ℓ : Loc Cert.Dhp.nD Cert.Dhp.τ Cert.Dhp.sig) → Buf (Elt Bits) ℓ) (g : Dev Cert.Dhp.nD → PrngReg), Pre_Dhp m →
    θ_run (Cert.Dhp.defs (F := Bits)) (onTc (τ := Cert.Dhp.τ) (Cert.Dhp.main (F := Bits))) ⟨m, fun _ => 0, g⟩ (fun r => (∀ c : Dev Cert.Dhp.nD,
      r.2.mem ((c.tc : Thread Cert.Dhp.nD Cert.Dhp.τ).loc Cert.Dhp.main_arg0) = m ((c.tc : Thread Cert.Dhp.nD Cert.Dhp.τ).loc Cert.Dhp.main_arg0)
      ∧ r.2.mem ((c.tc : Thread Cert.Dhp.nD Cert.Dhp.τ).loc Cert.Dhp.main_arg1) = m ((c.tc : Thread Cert.Dhp.nD Cert.Dhp.τ).loc Cert.Dhp.main_arg1)
      ∧ r.2.mem ((c.tc : Thread Cert.Dhp.nD Cert.Dhp.τ).loc Cert.Dhp.main_arg2) = m ((c.tc : Thread Cert.Dhp.nD Cert.Dhp.τ).loc Cert.Dhp.main_arg2)
      ∧ r.2.mem ((c.tc : Thread Cert.Dhp.nD Cert.Dhp.τ).loc Cert.Dhp.main_arg3) = m ((c.tc : Thread Cert.Dhp.nD Cert.Dhp.τ).loc Cert.Dhp.main_arg3)
      ∧ r.2.mem ((c.tc : Thread Cert.Dhp.nD Cert.Dhp.τ).loc Cert.Dhp.main_arg4) = m ((c.tc : Thread Cert.Dhp.nD Cert.Dhp.τ).loc Cert.Dhp.main_arg4))
      ∧ r.2.sem = fun _ => 0)

def quiescent_DhpIdeal [hDhpIdeal : Cert.DhpIdeal.Facts] : Prop :=
  ∀ (m : (ℓ : Loc Cert.DhpIdeal.nD Cert.DhpIdeal.τ Cert.DhpIdeal.sig) → Buf (Elt Ideal) ℓ) (g : Dev Cert.DhpIdeal.nD → PrngReg), Pre_DhpIdeal m →
    θ_run (Cert.DhpIdeal.defs (F := Ideal)) (onTc (τ := Cert.DhpIdeal.τ) (Cert.DhpIdeal.main (F := Ideal))) ⟨m, fun _ => 0, g⟩ (fun r => (∀ c : Dev Cert.DhpIdeal.nD,
      r.2.mem ((c.tc : Thread Cert.DhpIdeal.nD Cert.DhpIdeal.τ).loc Cert.DhpIdeal.main_arg0) = m ((c.tc : Thread Cert.DhpIdeal.nD Cert.DhpIdeal.τ).loc Cert.DhpIdeal.main_arg0)
      ∧ r.2.mem ((c.tc : Thread Cert.DhpIdeal.nD Cert.DhpIdeal.τ).loc Cert.DhpIdeal.main_arg1) = m ((c.tc : Thread Cert.DhpIdeal.nD Cert.DhpIdeal.τ).loc Cert.DhpIdeal.main_arg1)
      ∧ r.2.mem ((c.tc : Thread Cert.DhpIdeal.nD Cert.DhpIdeal.τ).loc Cert.DhpIdeal.main_arg2) = m ((c.tc : Thread Cert.DhpIdeal.nD Cert.DhpIdeal.τ).loc Cert.DhpIdeal.main_arg2)
      ∧ r.2.mem ((c.tc : Thread Cert.DhpIdeal.nD Cert.DhpIdeal.τ).loc Cert.DhpIdeal.main_arg3) = m ((c.tc : Thread Cert.DhpIdeal.nD Cert.DhpIdeal.τ).loc Cert.DhpIdeal.main_arg3)
      ∧ r.2.mem ((c.tc : Thread Cert.DhpIdeal.nD Cert.DhpIdeal.τ).loc Cert.DhpIdeal.main_arg4) = m ((c.tc : Thread Cert.DhpIdeal.nD Cert.DhpIdeal.τ).loc Cert.DhpIdeal.main_arg4))
      ∧ r.2.sem = fun _ => 0)

def quiescent_DhpIdeal_pre_dhp_finite [hDhpIdeal : Cert.DhpIdeal.Facts] [hPre_dhp_finite : Cert.Pre_dhp_finite.Facts] : Prop :=
  ∀ (m : (ℓ : Loc Cert.DhpIdeal.nD Cert.DhpIdeal.τ Cert.DhpIdeal.sig) → Buf (Elt Ideal) ℓ) (g : Dev Cert.DhpIdeal.nD → PrngReg), Pre_DhpIdeal_dhp_finite m →
    θ_run (Cert.DhpIdeal.defs (F := Ideal)) (onTc (τ := Cert.DhpIdeal.τ) (Cert.DhpIdeal.main (F := Ideal))) ⟨m, fun _ => 0, g⟩ (fun r => (∀ c : Dev Cert.DhpIdeal.nD,
      r.2.mem ((c.tc : Thread Cert.DhpIdeal.nD Cert.DhpIdeal.τ).loc Cert.DhpIdeal.main_arg0) = m ((c.tc : Thread Cert.DhpIdeal.nD Cert.DhpIdeal.τ).loc Cert.DhpIdeal.main_arg0)
      ∧ r.2.mem ((c.tc : Thread Cert.DhpIdeal.nD Cert.DhpIdeal.τ).loc Cert.DhpIdeal.main_arg1) = m ((c.tc : Thread Cert.DhpIdeal.nD Cert.DhpIdeal.τ).loc Cert.DhpIdeal.main_arg1)
      ∧ r.2.mem ((c.tc : Thread Cert.DhpIdeal.nD Cert.DhpIdeal.τ).loc Cert.DhpIdeal.main_arg2) = m ((c.tc : Thread Cert.DhpIdeal.nD Cert.DhpIdeal.τ).loc Cert.DhpIdeal.main_arg2)
      ∧ r.2.mem ((c.tc : Thread Cert.DhpIdeal.nD Cert.DhpIdeal.τ).loc Cert.DhpIdeal.main_arg3) = m ((c.tc : Thread Cert.DhpIdeal.nD Cert.DhpIdeal.τ).loc Cert.DhpIdeal.main_arg3)
      ∧ r.2.mem ((c.tc : Thread Cert.DhpIdeal.nD Cert.DhpIdeal.τ).loc Cert.DhpIdeal.main_arg4) = m ((c.tc : Thread Cert.DhpIdeal.nD Cert.DhpIdeal.τ).loc Cert.DhpIdeal.main_arg4))
      ∧ r.2.sem = fun _ => 0)

def quiescent_DhpRefIdeal [hDhpRefIdeal : Cert.DhpRefIdeal.Facts] : Prop :=
  ∀ (m : (ℓ : Loc Cert.DhpRefIdeal.nD Cert.DhpRefIdeal.τ Cert.DhpRefIdeal.sig) → Buf (Elt Ideal) ℓ) (g : Dev Cert.DhpRefIdeal.nD → PrngReg), Pre_DhpRefIdeal m →
    θ_run (Cert.DhpRefIdeal.defs (F := Ideal)) (onTc (τ := Cert.DhpRefIdeal.τ) (Cert.DhpRefIdeal.main (F := Ideal))) ⟨m, fun _ => 0, g⟩ (fun r => (∀ c : Dev Cert.DhpRefIdeal.nD,
      r.2.mem ((c.tc : Thread Cert.DhpRefIdeal.nD Cert.DhpRefIdeal.τ).loc Cert.DhpRefIdeal.main_arg0) = m ((c.tc : Thread Cert.DhpRefIdeal.nD Cert.DhpRefIdeal.τ).loc Cert.DhpRefIdeal.main_arg0)
      ∧ r.2.mem ((c.tc : Thread Cert.DhpRefIdeal.nD Cert.DhpRefIdeal.τ).loc Cert.DhpRefIdeal.main_arg1) = m ((c.tc : Thread Cert.DhpRefIdeal.nD Cert.DhpRefIdeal.τ).loc Cert.DhpRefIdeal.main_arg1)
      ∧ r.2.mem ((c.tc : Thread Cert.DhpRefIdeal.nD Cert.DhpRefIdeal.τ).loc Cert.DhpRefIdeal.main_arg2) = m ((c.tc : Thread Cert.DhpRefIdeal.nD Cert.DhpRefIdeal.τ).loc Cert.DhpRefIdeal.main_arg2)
      ∧ r.2.mem ((c.tc : Thread Cert.DhpRefIdeal.nD Cert.DhpRefIdeal.τ).loc Cert.DhpRefIdeal.main_arg3) = m ((c.tc : Thread Cert.DhpRefIdeal.nD Cert.DhpRefIdeal.τ).loc Cert.DhpRefIdeal.main_arg3)
      ∧ r.2.mem ((c.tc : Thread Cert.DhpRefIdeal.nD Cert.DhpRefIdeal.τ).loc Cert.DhpRefIdeal.main_arg4) = m ((c.tc : Thread Cert.DhpRefIdeal.nD Cert.DhpRefIdeal.τ).loc Cert.DhpRefIdeal.main_arg4))
      ∧ r.2.sem = fun _ => 0)

def quiescent_DhpRefIdeal_pre_dhp_finite [hDhpRefIdeal : Cert.DhpRefIdeal.Facts] [hPre_dhp_finite : Cert.Pre_dhp_finite.Facts] : Prop :=
  ∀ (m : (ℓ : Loc Cert.DhpRefIdeal.nD Cert.DhpRefIdeal.τ Cert.DhpRefIdeal.sig) → Buf (Elt Ideal) ℓ) (g : Dev Cert.DhpRefIdeal.nD → PrngReg), Pre_DhpRefIdeal_dhp_finite m →
    θ_run (Cert.DhpRefIdeal.defs (F := Ideal)) (onTc (τ := Cert.DhpRefIdeal.τ) (Cert.DhpRefIdeal.main (F := Ideal))) ⟨m, fun _ => 0, g⟩ (fun r => (∀ c : Dev Cert.DhpRefIdeal.nD,
      r.2.mem ((c.tc : Thread Cert.DhpRefIdeal.nD Cert.DhpRefIdeal.τ).loc Cert.DhpRefIdeal.main_arg0) = m ((c.tc : Thread Cert.DhpRefIdeal.nD Cert.DhpRefIdeal.τ).loc Cert.DhpRefIdeal.main_arg0)
      ∧ r.2.mem ((c.tc : Thread Cert.DhpRefIdeal.nD Cert.DhpRefIdeal.τ).loc Cert.DhpRefIdeal.main_arg1) = m ((c.tc : Thread Cert.DhpRefIdeal.nD Cert.DhpRefIdeal.τ).loc Cert.DhpRefIdeal.main_arg1)
      ∧ r.2.mem ((c.tc : Thread Cert.DhpRefIdeal.nD Cert.DhpRefIdeal.τ).loc Cert.DhpRefIdeal.main_arg2) = m ((c.tc : Thread Cert.DhpRefIdeal.nD Cert.DhpRefIdeal.τ).loc Cert.DhpRefIdeal.main_arg2)
      ∧ r.2.mem ((c.tc : Thread Cert.DhpRefIdeal.nD Cert.DhpRefIdeal.τ).loc Cert.DhpRefIdeal.main_arg3) = m ((c.tc : Thread Cert.DhpRefIdeal.nD Cert.DhpRefIdeal.τ).loc Cert.DhpRefIdeal.main_arg3)
      ∧ r.2.mem ((c.tc : Thread Cert.DhpRefIdeal.nD Cert.DhpRefIdeal.τ).loc Cert.DhpRefIdeal.main_arg4) = m ((c.tc : Thread Cert.DhpRefIdeal.nD Cert.DhpRefIdeal.τ).loc Cert.DhpRefIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_dact_finite [hDactIdeal : Cert.DactIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_dact_finite [hDactRefIdeal : Cert.DactRefIdeal.Facts] [hPre_dact_finite : Cert.Pre_dact_finite.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_dact_finite m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1)
      ∧ r.2.mem ((c.tc : Thread Cert.Dmerged.nD Cert.Dmerged.τ).loc Cert.Dmerged.main_arg2) = m ((c.tc : Thread Cert.Dmerged.nD Cert.Dmerged.τ).loc Cert.Dmerged.main_arg2)
      ∧ r.2.mem ((c.tc : Thread Cert.Dmerged.nD Cert.Dmerged.τ).loc Cert.Dmerged.main_arg3) = m ((c.tc : Thread Cert.Dmerged.nD Cert.Dmerged.τ).loc Cert.Dmerged.main_arg3)
      ∧ r.2.mem ((c.tc : Thread Cert.Dmerged.nD Cert.Dmerged.τ).loc Cert.Dmerged.main_arg4) = m ((c.tc : Thread Cert.Dmerged.nD Cert.Dmerged.τ).loc Cert.Dmerged.main_arg4))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1)
      ∧ r.2.mem ((c.tc : Thread Cert.DmergedIdeal.nD Cert.DmergedIdeal.τ).loc Cert.DmergedIdeal.main_arg2) = m ((c.tc : Thread Cert.DmergedIdeal.nD Cert.DmergedIdeal.τ).loc Cert.DmergedIdeal.main_arg2)
      ∧ r.2.mem ((c.tc : Thread Cert.DmergedIdeal.nD Cert.DmergedIdeal.τ).loc Cert.DmergedIdeal.main_arg3) = m ((c.tc : Thread Cert.DmergedIdeal.nD Cert.DmergedIdeal.τ).loc Cert.DmergedIdeal.main_arg3)
      ∧ r.2.mem ((c.tc : Thread Cert.DmergedIdeal.nD Cert.DmergedIdeal.τ).loc Cert.DmergedIdeal.main_arg4) = m ((c.tc : Thread Cert.DmergedIdeal.nD Cert.DmergedIdeal.τ).loc Cert.DmergedIdeal.main_arg4))
      ∧ r.2.sem = fun _ => 0)

def quiescent_DmergedRefIdeal [hDmergedRefIdeal : Cert.DmergedRefIdeal.Facts] : Prop :=
  ∀ (m : (ℓ : Loc Cert.DmergedRefIdeal.nD Cert.DmergedRefIdeal.τ Cert.DmergedRefIdeal.sig) → Buf (Elt Ideal) ℓ) (g : Dev Cert.DmergedRefIdeal.nD → PrngReg), Pre_DmergedRefIdeal m →
    θ_run (Cert.DmergedRefIdeal.defs (F := Ideal)) (onTc (τ := Cert.DmergedRefIdeal.τ) (Cert.DmergedRefIdeal.main (F := Ideal))) ⟨m, fun _ => 0, g⟩ (fun r => (∀ c : Dev Cert.DmergedRefIdeal.nD,
      r.2.mem ((c.tc : Thread Cert.DmergedRefIdeal.nD Cert.DmergedRefIdeal.τ).loc Cert.DmergedRefIdeal.main_arg0) = m ((c.tc : Thread Cert.DmergedRefIdeal.nD Cert.DmergedRefIdeal.τ).loc Cert.DmergedRefIdeal.main_arg0)
      ∧ r.2.mem ((c.tc : Thread Cert.DmergedRefIdeal.nD Cert.DmergedRefIdeal.τ).loc Cert.DmergedRefIdeal.main_arg1) = m ((c.tc : Thread Cert.DmergedRefIdeal.nD Cert.DmergedRefIdeal.τ).loc Cert.DmergedRefIdeal.main_arg1)
      ∧ r.2.mem ((c.tc : Thread Cert.DmergedRefIdeal.nD Cert.DmergedRefIdeal.τ).loc Cert.DmergedRefIdeal.main_arg2) = m ((c.tc : Thread Cert.DmergedRefIdeal.nD Cert.DmergedRefIdeal.τ).loc Cert.DmergedRefIdeal.main_arg2)
      ∧ r.2.mem ((c.tc : Thread Cert.DmergedRefIdeal.nD Cert.DmergedRefIdeal.τ).loc Cert.DmergedRefIdeal.main_arg3) = m ((c.tc : Thread Cert.DmergedRefIdeal.nD Cert.DmergedRefIdeal.τ).loc Cert.DmergedRefIdeal.main_arg3)
      ∧ r.2.mem ((c.tc : Thread Cert.DmergedRefIdeal.nD Cert.DmergedRefIdeal.τ).loc Cert.DmergedRefIdeal.main_arg4) = m ((c.tc : Thread Cert.DmergedRefIdeal.nD Cert.DmergedRefIdeal.τ).loc Cert.DmergedRefIdeal.main_arg4))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1))
      ∧ r.2.sem = fun _ => 0)

def quiescent_Ddown [hDdown : Cert.Ddown.Facts] : Prop :=
  ∀ (m : (ℓ : Loc Cert.Ddown.nD Cert.Ddown.τ Cert.Ddown.sig) → Buf (Elt Bits) ℓ) (g : Dev Cert.Ddown.nD → PrngReg), Pre_Ddown m →
    θ_run (Cert.Ddown.defs (F := Bits)) (onTc (τ := Cert.Ddown.τ) (Cert.Ddown.main (F := Bits))) ⟨m, fun _ => 0, g⟩ (fun r => (∀ c : Dev Cert.Ddown.nD,
      r.2.mem ((c.tc : Thread Cert.Ddown.nD Cert.Ddown.τ).loc Cert.Ddown.main_arg0) = m ((c.tc : Thread Cert.Ddown.nD Cert.Ddown.τ).loc Cert.Ddown.main_arg0)
      ∧ r.2.mem ((c.tc : Thread Cert.Ddown.nD Cert.Ddown.τ).loc Cert.Ddown.main_arg1) = m ((c.tc : Thread Cert.Ddown.nD Cert.Ddown.τ).loc Cert.Ddown.main_arg1))
      ∧ r.2.sem = fun _ => 0)

def quiescent_DdownIdeal [hDdownIdeal : Cert.DdownIdeal.Facts] : Prop :=
  ∀ (m : (ℓ : Loc Cert.DdownIdeal.nD Cert.DdownIdeal.τ Cert.DdownIdeal.sig) → Buf (Elt Ideal) ℓ) (g : Dev Cert.DdownIdeal.nD → PrngReg), Pre_DdownIdeal m →
    θ_run (Cert.DdownIdeal.defs (F := Ideal)) (onTc (τ := Cert.DdownIdeal.τ) (Cert.DdownIdeal.main (F := Ideal))) ⟨m, fun _ => 0, g⟩ (fun r => (∀ c : Dev Cert.DdownIdeal.nD,
      r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
      ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1))
      ∧ r.2.sem = fun _ => 0)

def quiescent_DdownRefIdeal [hDdownRefIdeal : Cert.DdownRefIdeal.Facts] : Prop :=
  ∀ (m : (ℓ : Loc Cert.DdownRefIdeal.nD Cert.DdownRefIdeal.τ Cert.DdownRefIdeal.sig) → Buf (Elt Ideal) ℓ) (g : Dev Cert.DdownRefIdeal.nD → PrngReg), Pre_DdownRefIdeal m →
    θ_run (Cert.DdownRefIdeal.defs (F := Ideal)) (onTc (τ := Cert.DdownRefIdeal.τ) (Cert.DdownRefIdeal.main (F := Ideal))) ⟨m, fun _ => 0, g⟩ (fun r => (∀ c : Dev Cert.DdownRefIdeal.nD,
      r.2.mem ((c.tc : Thread Cert.DdownRefIdeal.nD Cert.DdownRefIdeal.τ).loc Cert.DdownRefIdeal.main_arg0) = m ((c.tc : Thread Cert.DdownRefIdeal.nD Cert.DdownRefIdeal.τ).loc Cert.DdownRefIdeal.main_arg0)
      ∧ r.2.mem ((c.tc : Thread Cert.DdownRefIdeal.nD Cert.DdownRefIdeal.τ).loc Cert.DdownRefIdeal.main_arg1) = m ((c.tc : Thread Cert.DdownRefIdeal.nD Cert.DdownRefIdeal.τ).loc Cert.DdownRefIdeal.main_arg1))
      ∧ r.2.sem = fun _ => 0)

def quiescent_Dya [hDya : Cert.Dya.Facts] : Prop :=
  ∀ (m : (ℓ : Loc Cert.Dya.nD Cert.Dya.τ Cert.Dya.sig) → Buf (Elt Bits) ℓ) (g : Dev Cert.Dya.nD → PrngReg), Pre_Dya m →
    θ_run (Cert.Dya.defs (F := Bits)) (onTc (τ := Cert.Dya.τ) (Cert.Dya.main (F := Bits))) ⟨m, fun _ => 0, g⟩ (fun r => (∀ c : Dev Cert.Dya.nD,
      r.2.mem ((c.tc : Thread Cert.Dya.nD Cert.Dya.τ).loc Cert.Dya.main_arg0) = m ((c.tc : Thread Cert.Dya.nD Cert.Dya.τ).loc Cert.Dya.main_arg0)
      ∧ r.2.mem ((c.tc : Thread Cert.Dya.nD Cert.Dya.τ).loc Cert.Dya.main_arg1) = m ((c.tc : Thread Cert.Dya.nD Cert.Dya.τ).loc Cert.Dya.main_arg1))
      ∧ r.2.sem = fun _ => 0)

def quiescent_DyaIdeal [hDyaIdeal : Cert.DyaIdeal.Facts] : Prop :=
  ∀ (m : (ℓ : Loc Cert.DyaIdeal.nD Cert.DyaIdeal.τ Cert.DyaIdeal.sig) → Buf (Elt Ideal) ℓ) (g : Dev Cert.DyaIdeal.nD → PrngReg), Pre_DyaIdeal m →
    θ_run (Cert.DyaIdeal.defs (F := Ideal)) (onTc (τ := Cert.DyaIdeal.τ) (Cert.DyaIdeal.main (F := Ideal))) ⟨m, fun _ => 0, g⟩ (fun r => (∀ c : Dev Cert.DyaIdeal.nD,
      r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
      ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ r.2.sem = fun _ => 0)

def quiescent_DyaRefIdeal [hDyaRefIdeal : Cert.DyaRefIdeal.Facts] : Prop :=
  ∀ (m : (ℓ : Loc Cert.DyaRefIdeal.nD Cert.DyaRefIdeal.τ Cert.DyaRefIdeal.sig) → Buf (Elt Ideal) ℓ) (g : Dev Cert.DyaRefIdeal.nD → PrngReg), Pre_DyaRefIdeal m →
    θ_run (Cert.DyaRefIdeal.defs (F := Ideal)) (onTc (τ := Cert.DyaRefIdeal.τ) (Cert.DyaRefIdeal.main (F := Ideal))) ⟨m, fun _ => 0, g⟩ (fun r => (∀ c : Dev Cert.DyaRefIdeal.nD,
      r.2.mem ((c.tc : Thread Cert.DyaRefIdeal.nD Cert.DyaRefIdeal.τ).loc Cert.DyaRefIdeal.main_arg0) = m ((c.tc : Thread Cert.DyaRefIdeal.nD Cert.DyaRefIdeal.τ).loc Cert.DyaRefIdeal.main_arg0)
      ∧ r.2.mem ((c.tc : Thread Cert.DyaRefIdeal.nD Cert.DyaRefIdeal.τ).loc Cert.DyaRefIdeal.main_arg1) = m ((c.tc : Thread Cert.DyaRefIdeal.nD Cert.DyaRefIdeal.τ).loc Cert.DyaRefIdeal.main_arg1))
      ∧ r.2.sem = fun _ => 0)

def quiescent_Dout [hDout : Cert.Dout.Facts] : Prop :=
  ∀ (m : (ℓ : Loc Cert.Dout.nD Cert.Dout.τ Cert.Dout.sig) → Buf (Elt Bits) ℓ) (g : Dev Cert.Dout.nD → PrngReg), Pre_Dout m →
    θ_run (Cert.Dout.defs (F := Bits)) (onTc (τ := Cert.Dout.τ) (Cert.Dout.main (F := Bits))) ⟨m, fun _ => 0, g⟩ (fun r => (∀ c : Dev Cert.Dout.nD,
      r.2.mem ((c.tc : Thread Cert.Dout.nD Cert.Dout.τ).loc Cert.Dout.main_arg0) = m ((c.tc : Thread Cert.Dout.nD Cert.Dout.τ).loc Cert.Dout.main_arg0)
      ∧ r.2.mem ((c.tc : Thread Cert.Dout.nD Cert.Dout.τ).loc Cert.Dout.main_arg1) = m ((c.tc : Thread Cert.Dout.nD Cert.Dout.τ).loc Cert.Dout.main_arg1))
      ∧ r.2.sem = fun _ => 0)

def quiescent_DoutIdeal [hDoutIdeal : Cert.DoutIdeal.Facts] : Prop :=
  ∀ (m : (ℓ : Loc Cert.DoutIdeal.nD Cert.DoutIdeal.τ Cert.DoutIdeal.sig) → Buf (Elt Ideal) ℓ) (g : Dev Cert.DoutIdeal.nD → PrngReg), Pre_DoutIdeal m →
    θ_run (Cert.DoutIdeal.defs (F := Ideal)) (onTc (τ := Cert.DoutIdeal.τ) (Cert.DoutIdeal.main (F := Ideal))) ⟨m, fun _ => 0, g⟩ (fun r => (∀ c : Dev Cert.DoutIdeal.nD,
      r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
      ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ r.2.sem = fun _ => 0)

def quiescent_DoutRefIdeal [hDoutRefIdeal : Cert.DoutRefIdeal.Facts] : Prop :=
  ∀ (m : (ℓ : Loc Cert.DoutRefIdeal.nD Cert.DoutRefIdeal.τ Cert.DoutRefIdeal.sig) → Buf (Elt Ideal) ℓ) (g : Dev Cert.DoutRefIdeal.nD → PrngReg), Pre_DoutRefIdeal m →
    θ_run (Cert.DoutRefIdeal.defs (F := Ideal)) (onTc (τ := Cert.DoutRefIdeal.τ) (Cert.DoutRefIdeal.main (F := Ideal))) ⟨m, fun _ => 0, g⟩ (fun r => (∀ c : Dev Cert.DoutRefIdeal.nD,
      r.2.mem ((c.tc : Thread Cert.DoutRefIdeal.nD Cert.DoutRefIdeal.τ).loc Cert.DoutRefIdeal.main_arg0) = m ((c.tc : Thread Cert.DoutRefIdeal.nD Cert.DoutRefIdeal.τ).loc Cert.DoutRefIdeal.main_arg0)
      ∧ r.2.mem ((c.tc : Thread Cert.DoutRefIdeal.nD Cert.DoutRefIdeal.τ).loc Cert.DoutRefIdeal.main_arg1) = m ((c.tc : Thread Cert.DoutRefIdeal.nD Cert.DoutRefIdeal.τ).loc Cert.DoutRefIdeal.main_arg1))
      ∧ r.2.sem = fun _ => 0)

def quiescent_Dpp [hDpp : Cert.Dpp.Facts] : Prop :=
  ∀ (m : (ℓ : Loc Cert.Dpp.nD Cert.Dpp.τ Cert.Dpp.sig) → Buf (Elt Bits) ℓ) (g : Dev Cert.Dpp.nD → PrngReg), Pre_Dpp m →
    θ_run (Cert.Dpp.defs (F := Bits)) (onTc (τ := Cert.Dpp.τ) (Cert.Dpp.main (F := Bits))) ⟨m, fun _ => 0, g⟩ (fun r => (∀ c : Dev Cert.Dpp.nD,
      r.2.mem ((c.tc : Thread Cert.Dpp.nD Cert.Dpp.τ).loc Cert.Dpp.main_arg0) = m ((c.tc : Thread Cert.Dpp.nD Cert.Dpp.τ).loc Cert.Dpp.main_arg0)
      ∧ r.2.mem ((c.tc : Thread Cert.Dpp.nD Cert.Dpp.τ).loc Cert.Dpp.main_arg1) = m ((c.tc : Thread Cert.Dpp.nD Cert.Dpp.τ).loc Cert.Dpp.main_arg1))
      ∧ r.2.sem = fun _ => 0)

def quiescent_DppIdeal [hDppIdeal : Cert.DppIdeal.Facts] : Prop :=
  ∀ (m : (ℓ : Loc Cert.DppIdeal.nD Cert.DppIdeal.τ Cert.DppIdeal.sig) → Buf (Elt Ideal) ℓ) (g : Dev Cert.DppIdeal.nD → PrngReg), Pre_DppIdeal m →
    θ_run (Cert.DppIdeal.defs (F := Ideal)) (onTc (τ := Cert.DppIdeal.τ) (Cert.DppIdeal.main (F := Ideal))) ⟨m, fun _ => 0, g⟩ (fun r => (∀ c : Dev Cert.DppIdeal.nD,
      r.2.mem ((c.tc : Thread Cert.DppIdeal.nD Cert.DppIdeal.τ).loc Cert.DppIdeal.main_arg0) = m ((c.tc : Thread Cert.DppIdeal.nD Cert.DppIdeal.τ).loc Cert.DppIdeal.main_arg0)
      ∧ r.2.mem ((c.tc : Thread Cert.DppIdeal.nD Cert.DppIdeal.τ).loc Cert.DppIdeal.main_arg1) = m ((c.tc : Thread Cert.DppIdeal.nD Cert.DppIdeal.τ).loc Cert.DppIdeal.main_arg1))
      ∧ r.2.sem = fun _ => 0)

def quiescent_DppRefIdeal [hDppRefIdeal : Cert.DppRefIdeal.Facts] : Prop :=
  ∀ (m : (ℓ : Loc Cert.DppRefIdeal.nD Cert.DppRefIdeal.τ Cert.DppRefIdeal.sig) → Buf (Elt Ideal) ℓ) (g : Dev Cert.DppRefIdeal.nD → PrngReg), Pre_DppRefIdeal m →
    θ_run (Cert.DppRefIdeal.defs (F := Ideal)) (onTc (τ := Cert.DppRefIdeal.τ) (Cert.DppRefIdeal.main (F := Ideal))) ⟨m, fun _ => 0, g⟩ (fun r => (∀ c : Dev Cert.DppRefIdeal.nD,
      r.2.mem ((c.tc : Thread Cert.DppRefIdeal.nD Cert.DppRefIdeal.τ).loc Cert.DppRefIdeal.main_arg0) = m ((c.tc : Thread Cert.DppRefIdeal.nD Cert.DppRefIdeal.τ).loc Cert.DppRefIdeal.main_arg0)
      ∧ r.2.mem ((c.tc : Thread Cert.DppRefIdeal.nD Cert.DppRefIdeal.τ).loc Cert.DppRefIdeal.main_arg1) = m ((c.tc : Thread Cert.DppRefIdeal.nD Cert.DppRefIdeal.τ).loc Cert.DppRefIdeal.main_arg1))
      ∧ r.2.sem = fun _ => 0)

def quiescent_Dhm [hDhm : Cert.Dhm.Facts] : Prop :=
  ∀ (m : (ℓ : Loc Cert.Dhm.nD Cert.Dhm.τ Cert.Dhm.sig) → Buf (Elt Bits) ℓ) (g : Dev Cert.Dhm.nD → PrngReg), Pre_Dhm m →
    θ_run (Cert.Dhm.defs (F := Bits)) (onTc (τ := Cert.Dhm.τ) (Cert.Dhm.main (F := Bits))) ⟨m, fun _ => 0, g⟩ (fun r => (∀ c : Dev Cert.Dhm.nD,
      r.2.mem ((c.tc : Thread Cert.Dhm.nD Cert.Dhm.τ).loc Cert.Dhm.main_arg0) = m ((c.tc : Thread Cert.Dhm.nD Cert.Dhm.τ).loc Cert.Dhm.main_arg0)
      ∧ r.2.mem ((c.tc : Thread Cert.Dhm.nD Cert.Dhm.τ).loc Cert.Dhm.main_arg1) = m ((c.tc : Thread Cert.Dhm.nD Cert.Dhm.τ).loc Cert.Dhm.main_arg1)
      ∧ r.2.mem ((c.tc : Thread Cert.Dhm.nD Cert.Dhm.τ).loc Cert.Dhm.main_arg2) = m ((c.tc : Thread Cert.Dhm.nD Cert.Dhm.τ).loc Cert.Dhm.main_arg2)
      ∧ r.2.mem ((c.tc : Thread Cert.Dhm.nD Cert.Dhm.τ).loc Cert.Dhm.main_arg3) = m ((c.tc : Thread Cert.Dhm.nD Cert.Dhm.τ).loc Cert.Dhm.main_arg3)
      ∧ r.2.mem ((c.tc : Thread Cert.Dhm.nD Cert.Dhm.τ).loc Cert.Dhm.main_arg4) = m ((c.tc : Thread Cert.Dhm.nD Cert.Dhm.τ).loc Cert.Dhm.main_arg4))
      ∧ r.2.sem = fun _ => 0)

def quiescent_DhmIdeal [hDhmIdeal : Cert.DhmIdeal.Facts] : Prop :=
  ∀ (m : (ℓ : Loc Cert.DhmIdeal.nD Cert.DhmIdeal.τ Cert.DhmIdeal.sig) → Buf (Elt Ideal) ℓ) (g : Dev Cert.DhmIdeal.nD → PrngReg), Pre_DhmIdeal m →
    θ_run (Cert.DhmIdeal.defs (F := Ideal)) (onTc (τ := Cert.DhmIdeal.τ) (Cert.DhmIdeal.main (F := Ideal))) ⟨m, fun _ => 0, g⟩ (fun r => (∀ c : Dev Cert.DhmIdeal.nD,
      r.2.mem ((c.tc : Thread Cert.DhmIdeal.nD Cert.DhmIdeal.τ).loc Cert.DhmIdeal.main_arg0) = m ((c.tc : Thread Cert.DhmIdeal.nD Cert.DhmIdeal.τ).loc Cert.DhmIdeal.main_arg0)
      ∧ r.2.mem ((c.tc : Thread Cert.DhmIdeal.nD Cert.DhmIdeal.τ).loc Cert.DhmIdeal.main_arg1) = m ((c.tc : Thread Cert.DhmIdeal.nD Cert.DhmIdeal.τ).loc Cert.DhmIdeal.main_arg1)
      ∧ r.2.mem ((c.tc : Thread Cert.DhmIdeal.nD Cert.DhmIdeal.τ).loc Cert.DhmIdeal.main_arg2) = m ((c.tc : Thread Cert.DhmIdeal.nD Cert.DhmIdeal.τ).loc Cert.DhmIdeal.main_arg2)
      ∧ r.2.mem ((c.tc : Thread Cert.DhmIdeal.nD Cert.DhmIdeal.τ).loc Cert.DhmIdeal.main_arg3) = m ((c.tc : Thread Cert.DhmIdeal.nD Cert.DhmIdeal.τ).loc Cert.DhmIdeal.main_arg3)
      ∧ r.2.mem ((c.tc : Thread Cert.DhmIdeal.nD Cert.DhmIdeal.τ).loc Cert.DhmIdeal.main_arg4) = m ((c.tc : Thread Cert.DhmIdeal.nD Cert.DhmIdeal.τ).loc Cert.DhmIdeal.main_arg4))
      ∧ r.2.sem = fun _ => 0)

def quiescent_DhmIdeal_pre_dhm_finite [hDhmIdeal : Cert.DhmIdeal.Facts] [hPre_dhm_finite : Cert.Pre_dhm_finite.Facts] : Prop :=
  ∀ (m : (ℓ : Loc Cert.DhmIdeal.nD Cert.DhmIdeal.τ Cert.DhmIdeal.sig) → Buf (Elt Ideal) ℓ) (g : Dev Cert.DhmIdeal.nD → PrngReg), Pre_DhmIdeal_dhm_finite m →
    θ_run (Cert.DhmIdeal.defs (F := Ideal)) (onTc (τ := Cert.DhmIdeal.τ) (Cert.DhmIdeal.main (F := Ideal))) ⟨m, fun _ => 0, g⟩ (fun r => (∀ c : Dev Cert.DhmIdeal.nD,
      r.2.mem ((c.tc : Thread Cert.DhmIdeal.nD Cert.DhmIdeal.τ).loc Cert.DhmIdeal.main_arg0) = m ((c.tc : Thread Cert.DhmIdeal.nD Cert.DhmIdeal.τ).loc Cert.DhmIdeal.main_arg0)
      ∧ r.2.mem ((c.tc : Thread Cert.DhmIdeal.nD Cert.DhmIdeal.τ).loc Cert.DhmIdeal.main_arg1) = m ((c.tc : Thread Cert.DhmIdeal.nD Cert.DhmIdeal.τ).loc Cert.DhmIdeal.main_arg1)
      ∧ r.2.mem ((c.tc : Thread Cert.DhmIdeal.nD Cert.DhmIdeal.τ).loc Cert.DhmIdeal.main_arg2) = m ((c.tc : Thread Cert.DhmIdeal.nD Cert.DhmIdeal.τ).loc Cert.DhmIdeal.main_arg2)
      ∧ r.2.mem ((c.tc : Thread Cert.DhmIdeal.nD Cert.DhmIdeal.τ).loc Cert.DhmIdeal.main_arg3) = m ((c.tc : Thread Cert.DhmIdeal.nD Cert.DhmIdeal.τ).loc Cert.DhmIdeal.main_arg3)
      ∧ r.2.mem ((c.tc : Thread Cert.DhmIdeal.nD Cert.DhmIdeal.τ).loc Cert.DhmIdeal.main_arg4) = m ((c.tc : Thread Cert.DhmIdeal.nD Cert.DhmIdeal.τ).loc Cert.DhmIdeal.main_arg4))
      ∧ r.2.sem = fun _ => 0)

def quiescent_DhmRefIdeal [hDhmRefIdeal : Cert.DhmRefIdeal.Facts] : Prop :=
  ∀ (m : (ℓ : Loc Cert.DhmRefIdeal.nD Cert.DhmRefIdeal.τ Cert.DhmRefIdeal.sig) → Buf (Elt Ideal) ℓ) (g : Dev Cert.DhmRefIdeal.nD → PrngReg), Pre_DhmRefIdeal m →
    θ_run (Cert.DhmRefIdeal.defs (F := Ideal)) (onTc (τ := Cert.DhmRefIdeal.τ) (Cert.DhmRefIdeal.main (F := Ideal))) ⟨m, fun _ => 0, g⟩ (fun r => (∀ c : Dev Cert.DhmRefIdeal.nD,
      r.2.mem ((c.tc : Thread Cert.DhmRefIdeal.nD Cert.DhmRefIdeal.τ).loc Cert.DhmRefIdeal.main_arg0) = m ((c.tc : Thread Cert.DhmRefIdeal.nD Cert.DhmRefIdeal.τ).loc Cert.DhmRefIdeal.main_arg0)
      ∧ r.2.mem ((c.tc : Thread Cert.DhmRefIdeal.nD Cert.DhmRefIdeal.τ).loc Cert.DhmRefIdeal.main_arg1) = m ((c.tc : Thread Cert.DhmRefIdeal.nD Cert.DhmRefIdeal.τ).loc Cert.DhmRefIdeal.main_arg1)
      ∧ r.2.mem ((c.tc : Thread Cert.DhmRefIdeal.nD Cert.DhmRefIdeal.τ).loc Cert.DhmRefIdeal.main_arg2) = m ((c.tc : Thread Cert.DhmRefIdeal.nD Cert.DhmRefIdeal.τ).loc Cert.DhmRefIdeal.main_arg2)
      ∧ r.2.mem ((c.tc : Thread Cert.DhmRefIdeal.nD Cert.DhmRefIdeal.τ).loc Cert.DhmRefIdeal.main_arg3) = m ((c.tc : Thread Cert.DhmRefIdeal.nD Cert.DhmRefIdeal.τ).loc Cert.DhmRefIdeal.main_arg3)
      ∧ r.2.mem ((c.tc : Thread Cert.DhmRefIdeal.nD Cert.DhmRefIdeal.τ).loc Cert.DhmRefIdeal.main_arg4) = m ((c.tc : Thread Cert.DhmRefIdeal.nD Cert.DhmRefIdeal.τ).loc Cert.DhmRefIdeal.main_arg4))
      ∧ r.2.sem = fun _ => 0)

def quiescent_DhmRefIdeal_pre_dhm_finite [hDhmRefIdeal : Cert.DhmRefIdeal.Facts] [hPre_dhm_finite : Cert.Pre_dhm_finite.Facts] : Prop :=
  ∀ (m : (ℓ : Loc Cert.DhmRefIdeal.nD Cert.DhmRefIdeal.τ Cert.DhmRefIdeal.sig) → Buf (Elt Ideal) ℓ) (g : Dev Cert.DhmRefIdeal.nD → PrngReg), Pre_DhmRefIdeal_dhm_finite m →
    θ_run (Cert.DhmRefIdeal.defs (F := Ideal)) (onTc (τ := Cert.DhmRefIdeal.τ) (Cert.DhmRefIdeal.main (F := Ideal))) ⟨m, fun _ => 0, g⟩ (fun r => (∀ c : Dev Cert.DhmRefIdeal.nD,
      r.2.mem ((c.tc : Thread Cert.DhmRefIdeal.nD Cert.DhmRefIdeal.τ).loc Cert.DhmRefIdeal.main_arg0) = m ((c.tc : Thread Cert.DhmRefIdeal.nD Cert.DhmRefIdeal.τ).loc Cert.DhmRefIdeal.main_arg0)
      ∧ r.2.mem ((c.tc : Thread Cert.DhmRefIdeal.nD Cert.DhmRefIdeal.τ).loc Cert.DhmRefIdeal.main_arg1) = m ((c.tc : Thread Cert.DhmRefIdeal.nD Cert.DhmRefIdeal.τ).loc Cert.DhmRefIdeal.main_arg1)
      ∧ r.2.mem ((c.tc : Thread Cert.DhmRefIdeal.nD Cert.DhmRefIdeal.τ).loc Cert.DhmRefIdeal.main_arg2) = m ((c.tc : Thread Cert.DhmRefIdeal.nD Cert.DhmRefIdeal.τ).loc Cert.DhmRefIdeal.main_arg2)
      ∧ r.2.mem ((c.tc : Thread Cert.DhmRefIdeal.nD Cert.DhmRefIdeal.τ).loc Cert.DhmRefIdeal.main_arg3) = m ((c.tc : Thread Cert.DhmRefIdeal.nD Cert.DhmRefIdeal.τ).loc Cert.DhmRefIdeal.main_arg3)
      ∧ r.2.mem ((c.tc : Thread Cert.DhmRefIdeal.nD Cert.DhmRefIdeal.τ).loc Cert.DhmRefIdeal.main_arg4) = m ((c.tc : Thread Cert.DhmRefIdeal.nD Cert.DhmRefIdeal.τ).loc Cert.DhmRefIdeal.main_arg4))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ r.2.sem = fun _ => 0)

def quiescent_DoRefIdeal [hDoRefIdeal : Cert.DoRefIdeal.Facts] : Prop :=
  ∀ (m : (ℓ : Loc Cert.DoRefIdeal.nD Cert.DoRefIdeal.τ Cert.DoRefIdeal.sig) → Buf (Elt Ideal) ℓ) (g : Dev Cert.DoRefIdeal.nD → PrngReg), Pre_DoRefIdeal m →
    θ_run (Cert.DoRefIdeal.defs (F := Ideal)) (onTc (τ := Cert.DoRefIdeal.τ) (Cert.DoRefIdeal.main (F := Ideal))) ⟨m, fun _ => 0, g⟩ (fun r => (∀ c : Dev Cert.DoRefIdeal.nD,
      r.2.mem ((c.tc : Thread Cert.DoRefIdeal.nD Cert.DoRefIdeal.τ).loc Cert.DoRefIdeal.main_arg0) = m ((c.tc : Thread Cert.DoRefIdeal.nD Cert.DoRefIdeal.τ).loc Cert.DoRefIdeal.main_arg0)
      ∧ r.2.mem ((c.tc : Thread Cert.DoRefIdeal.nD Cert.DoRefIdeal.τ).loc Cert.DoRefIdeal.main_arg1) = m ((c.tc : Thread Cert.DoRefIdeal.nD Cert.DoRefIdeal.τ).loc Cert.DoRefIdeal.main_arg1))
      ∧ r.2.sem = fun _ => 0)

def quiescent_Dinr [hDinr : Cert.Dinr.Facts] : Prop :=
  ∀ (m : (ℓ : Loc Cert.Dinr.nD Cert.Dinr.τ Cert.Dinr.sig) → Buf (Elt Bits) ℓ) (g : Dev Cert.Dinr.nD → PrngReg), Pre_Dinr m →
    θ_run (Cert.Dinr.defs (F := Bits)) (onTc (τ := Cert.Dinr.τ) (Cert.Dinr.main (F := Bits))) ⟨m, fun _ => 0, g⟩ (fun r => (∀ c : Dev Cert.Dinr.nD,
      r.2.mem ((c.tc : Thread Cert.Dinr.nD Cert.Dinr.τ).loc Cert.Dinr.main_arg0) = m ((c.tc : Thread Cert.Dinr.nD Cert.Dinr.τ).loc Cert.Dinr.main_arg0)
      ∧ r.2.mem ((c.tc : Thread Cert.Dinr.nD Cert.Dinr.τ).loc Cert.Dinr.main_arg1) = m ((c.tc : Thread Cert.Dinr.nD Cert.Dinr.τ).loc Cert.Dinr.main_arg1)
      ∧ r.2.mem ((c.tc : Thread Cert.Dinr.nD Cert.Dinr.τ).loc Cert.Dinr.main_arg2) = m ((c.tc : Thread Cert.Dinr.nD Cert.Dinr.τ).loc Cert.Dinr.main_arg2))
      ∧ r.2.sem = fun _ => 0)

def quiescent_DinrIdeal [hDinrIdeal : Cert.DinrIdeal.Facts] : Prop :=
  ∀ (m : (ℓ : Loc Cert.DinrIdeal.nD Cert.DinrIdeal.τ Cert.DinrIdeal.sig) → Buf (Elt Ideal) ℓ) (g : Dev Cert.DinrIdeal.nD → PrngReg), Pre_DinrIdeal m →
    θ_run (Cert.DinrIdeal.defs (F := Ideal)) (onTc (τ := Cert.DinrIdeal.τ) (Cert.DinrIdeal.main (F := Ideal))) ⟨m, fun _ => 0, g⟩ (fun r => (∀ c : Dev Cert.DinrIdeal.nD,
      r.2.mem ((c.tc : Thread Cert.DinrIdeal.nD Cert.DinrIdeal.τ).loc Cert.DinrIdeal.main_arg0) = m ((c.tc : Thread Cert.DinrIdeal.nD Cert.DinrIdeal.τ).loc Cert.DinrIdeal.main_arg0)
      ∧ r.2.mem ((c.tc : Thread Cert.DinrIdeal.nD Cert.DinrIdeal.τ).loc Cert.DinrIdeal.main_arg1) = m ((c.tc : Thread Cert.DinrIdeal.nD Cert.DinrIdeal.τ).loc Cert.DinrIdeal.main_arg1)
      ∧ r.2.mem ((c.tc : Thread Cert.DinrIdeal.nD Cert.DinrIdeal.τ).loc Cert.DinrIdeal.main_arg2) = m ((c.tc : Thread Cert.DinrIdeal.nD Cert.DinrIdeal.τ).loc Cert.DinrIdeal.main_arg2))
      ∧ r.2.sem = fun _ => 0)

def quiescent_DinrRefIdeal [hDinrRefIdeal : Cert.DinrRefIdeal.Facts] : Prop :=
  ∀ (m : (ℓ : Loc Cert.DinrRefIdeal.nD Cert.DinrRefIdeal.τ Cert.DinrRefIdeal.sig) → Buf (Elt Ideal) ℓ) (g : Dev Cert.DinrRefIdeal.nD → PrngReg), Pre_DinrRefIdeal m →
    θ_run (Cert.DinrRefIdeal.defs (F := Ideal)) (onTc (τ := Cert.DinrRefIdeal.τ) (Cert.DinrRefIdeal.main (F := Ideal))) ⟨m, fun _ => 0, g⟩ (fun r => (∀ c : Dev Cert.DinrRefIdeal.nD,
      r.2.mem ((c.tc : Thread Cert.DinrRefIdeal.nD Cert.DinrRefIdeal.τ).loc Cert.DinrRefIdeal.main_arg0) = m ((c.tc : Thread Cert.DinrRefIdeal.nD Cert.DinrRefIdeal.τ).loc Cert.DinrRefIdeal.main_arg0)
      ∧ r.2.mem ((c.tc : Thread Cert.DinrRefIdeal.nD Cert.DinrRefIdeal.τ).loc Cert.DinrRefIdeal.main_arg1) = m ((c.tc : Thread Cert.DinrRefIdeal.nD Cert.DinrRefIdeal.τ).loc Cert.DinrRefIdeal.main_arg1)
      ∧ r.2.mem ((c.tc : Thread Cert.DinrRefIdeal.nD Cert.DinrRefIdeal.τ).loc Cert.DinrRefIdeal.main_arg2) = m ((c.tc : Thread Cert.DinrRefIdeal.nD Cert.DinrRefIdeal.τ).loc Cert.DinrRefIdeal.main_arg2))
      ∧ r.2.sem = fun _ => 0)

def quiescent_Dina [hDina : Cert.Dina.Facts] : Prop :=
  ∀ (m : (ℓ : Loc Cert.Dina.nD Cert.Dina.τ Cert.Dina.sig) → Buf (Elt Bits) ℓ) (g : Dev Cert.Dina.nD → PrngReg), Pre_Dina m →
    θ_run (Cert.Dina.defs (F := Bits)) (onTc (τ := Cert.Dina.τ) (Cert.Dina.main (F := Bits))) ⟨m, fun _ => 0, g⟩ (fun r => (∀ c : Dev Cert.Dina.nD,
      r.2.mem ((c.tc : Thread Cert.Dina.nD Cert.Dina.τ).loc Cert.Dina.main_arg0) = m ((c.tc : Thread Cert.Dina.nD Cert.Dina.τ).loc Cert.Dina.main_arg0)
      ∧ r.2.mem ((c.tc : Thread Cert.Dina.nD Cert.Dina.τ).loc Cert.Dina.main_arg1) = m ((c.tc : Thread Cert.Dina.nD Cert.Dina.τ).loc Cert.Dina.main_arg1)
      ∧ r.2.mem ((c.tc : Thread Cert.Dina.nD Cert.Dina.τ).loc Cert.Dina.main_arg2) = m ((c.tc : Thread Cert.Dina.nD Cert.Dina.τ).loc Cert.Dina.main_arg2)
      ∧ r.2.mem ((c.tc : Thread Cert.Dina.nD Cert.Dina.τ).loc Cert.Dina.main_arg3) = m ((c.tc : Thread Cert.Dina.nD Cert.Dina.τ).loc Cert.Dina.main_arg3))
      ∧ r.2.sem = fun _ => 0)

def quiescent_DinaIdeal [hDinaIdeal : Cert.DinaIdeal.Facts] : Prop :=
  ∀ (m : (ℓ : Loc Cert.DinaIdeal.nD Cert.DinaIdeal.τ Cert.DinaIdeal.sig) → Buf (Elt Ideal) ℓ) (g : Dev Cert.DinaIdeal.nD → PrngReg), Pre_DinaIdeal m →
    θ_run (Cert.DinaIdeal.defs (F := Ideal)) (onTc (τ := Cert.DinaIdeal.τ) (Cert.DinaIdeal.main (F := Ideal))) ⟨m, fun _ => 0, g⟩ (fun r => (∀ c : Dev Cert.DinaIdeal.nD,
      r.2.mem ((c.tc : Thread Cert.DinaIdeal.nD Cert.DinaIdeal.τ).loc Cert.DinaIdeal.main_arg0) = m ((c.tc : Thread Cert.DinaIdeal.nD Cert.DinaIdeal.τ).loc Cert.DinaIdeal.main_arg0)
      ∧ r.2.mem ((c.tc : Thread Cert.DinaIdeal.nD Cert.DinaIdeal.τ).loc Cert.DinaIdeal.main_arg1) = m ((c.tc : Thread Cert.DinaIdeal.nD Cert.DinaIdeal.τ).loc Cert.DinaIdeal.main_arg1)
      ∧ r.2.mem ((c.tc : Thread Cert.DinaIdeal.nD Cert.DinaIdeal.τ).loc Cert.DinaIdeal.main_arg2) = m ((c.tc : Thread Cert.DinaIdeal.nD Cert.DinaIdeal.τ).loc Cert.DinaIdeal.main_arg2)
      ∧ r.2.mem ((c.tc : Thread Cert.DinaIdeal.nD Cert.DinaIdeal.τ).loc Cert.DinaIdeal.main_arg3) = m ((c.tc : Thread Cert.DinaIdeal.nD Cert.DinaIdeal.τ).loc Cert.DinaIdeal.main_arg3))
      ∧ r.2.sem = fun _ => 0)

def quiescent_DinaRefIdeal [hDinaRefIdeal : Cert.DinaRefIdeal.Facts] : Prop :=
  ∀ (m : (ℓ : Loc Cert.DinaRefIdeal.nD Cert.DinaRefIdeal.τ Cert.DinaRefIdeal.sig) → Buf (Elt Ideal) ℓ) (g : Dev Cert.DinaRefIdeal.nD → PrngReg), Pre_DinaRefIdeal m →
    θ_run (Cert.DinaRefIdeal.defs (F := Ideal)) (onTc (τ := Cert.DinaRefIdeal.τ) (Cert.DinaRefIdeal.main (F := Ideal))) ⟨m, fun _ => 0, g⟩ (fun r => (∀ c : Dev Cert.DinaRefIdeal.nD,
      r.2.mem ((c.tc : Thread Cert.DinaRefIdeal.nD Cert.DinaRefIdeal.τ).loc Cert.DinaRefIdeal.main_arg0) = m ((c.tc : Thread Cert.DinaRefIdeal.nD Cert.DinaRefIdeal.τ).loc Cert.DinaRefIdeal.main_arg0)
      ∧ r.2.mem ((c.tc : Thread Cert.DinaRefIdeal.nD Cert.DinaRefIdeal.τ).loc Cert.DinaRefIdeal.main_arg1) = m ((c.tc : Thread Cert.DinaRefIdeal.nD Cert.DinaRefIdeal.τ).loc Cert.DinaRefIdeal.main_arg1)
      ∧ r.2.mem ((c.tc : Thread Cert.DinaRefIdeal.nD Cert.DinaRefIdeal.τ).loc Cert.DinaRefIdeal.main_arg2) = m ((c.tc : Thread Cert.DinaRefIdeal.nD Cert.DinaRefIdeal.τ).loc Cert.DinaRefIdeal.main_arg2)
      ∧ r.2.mem ((c.tc : Thread Cert.DinaRefIdeal.nD Cert.DinaRefIdeal.τ).loc Cert.DinaRefIdeal.main_arg3) = m ((c.tc : Thread Cert.DinaRefIdeal.nD Cert.DinaRefIdeal.τ).loc Cert.DinaRefIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7)
      ∧ r.2.mem ((c.tc : Thread Cert.Dh.nD Cert.Dh.τ).loc Cert.Dh.main_arg8) = m ((c.tc : Thread Cert.Dh.nD Cert.Dh.τ).loc Cert.Dh.main_arg8))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
      ∧ r.2.mem ((c.tc : Thread Cert.DhIdeal.nD Cert.DhIdeal.τ).loc Cert.DhIdeal.main_arg8) = m ((c.tc : Thread Cert.DhIdeal.nD Cert.DhIdeal.τ).loc Cert.DhIdeal.main_arg8))
      ∧ r.2.sem = fun _ => 0)

def quiescent_DhIdeal_pre_dh_finite [hDhIdeal : Cert.DhIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg), Pre_DhIdeal_dh_finite m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
      ∧ r.2.mem ((c.tc : Thread Cert.DhIdeal.nD Cert.DhIdeal.τ).loc Cert.DhIdeal.main_arg8) = m ((c.tc : Thread Cert.DhIdeal.nD Cert.DhIdeal.τ).loc Cert.DhIdeal.main_arg8))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7)
      ∧ r.2.mem ((c.tc : Thread Cert.DhRefIdeal.nD Cert.DhRefIdeal.τ).loc Cert.DhRefIdeal.main_arg8) = m ((c.tc : Thread Cert.DhRefIdeal.nD Cert.DhRefIdeal.τ).loc Cert.DhRefIdeal.main_arg8))
      ∧ r.2.sem = fun _ => 0)

def quiescent_DhRefIdeal_pre_dh_finite [hDhRefIdeal : Cert.DhRefIdeal.Facts] [hPre_dh_finite : Cert.Pre_dh_finite.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_dh_finite m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7)
      ∧ r.2.mem ((c.tc : Thread Cert.DhRefIdeal.nD Cert.DhRefIdeal.τ).loc Cert.DhRefIdeal.main_arg8) = m ((c.tc : Thread Cert.DhRefIdeal.nD Cert.DhRefIdeal.τ).loc Cert.DhRefIdeal.main_arg8))
      ∧ r.2.sem = fun _ => 0)

def quiescent_Fya [hFya : Cert.Fya.Facts] : Prop :=
  ∀ (m : (ℓ : Loc Cert.Fya.nD Cert.Fya.τ Cert.Fya.sig) → Buf (Elt Bits) ℓ) (g : Dev Cert.Fya.nD → PrngReg), Pre_Fya m →
    θ_run (Cert.Fya.defs (F := Bits)) (onTc (τ := Cert.Fya.τ) (Cert.Fya.main (F := Bits))) ⟨m, fun _ => 0, g⟩ (fun r => (∀ c : Dev Cert.Fya.nD,
      r.2.mem ((c.tc : Thread Cert.Fya.nD Cert.Fya.τ).loc Cert.Fya.main_arg0) = m ((c.tc : Thread Cert.Fya.nD Cert.Fya.τ).loc Cert.Fya.main_arg0)
      ∧ r.2.mem ((c.tc : Thread Cert.Fya.nD Cert.Fya.τ).loc Cert.Fya.main_arg1) = m ((c.tc : Thread Cert.Fya.nD Cert.Fya.τ).loc Cert.Fya.main_arg1))
      ∧ r.2.sem = fun _ => 0)

def quiescent_FyaIdeal [hFyaIdeal : Cert.FyaIdeal.Facts] : Prop :=
  ∀ (m : (ℓ : Loc Cert.FyaIdeal.nD Cert.FyaIdeal.τ Cert.FyaIdeal.sig) → Buf (Elt Ideal) ℓ) (g : Dev Cert.FyaIdeal.nD → PrngReg), Pre_FyaIdeal m →
    θ_run (Cert.FyaIdeal.defs (F := Ideal)) (onTc (τ := Cert.FyaIdeal.τ) (Cert.FyaIdeal.main (F := Ideal))) ⟨m, fun _ => 0, g⟩ (fun r => (∀ c : Dev Cert.FyaIdeal.nD,
      r.2.mem ((c.tc : Thread Cert.FyaIdeal.nD Cert.FyaIdeal.τ).loc Cert.FyaIdeal.main_arg0) = m ((c.tc : Thread Cert.FyaIdeal.nD Cert.FyaIdeal.τ).loc Cert.FyaIdeal.main_arg0)
      ∧ r.2.mem ((c.tc : Thread Cert.FyaIdeal.nD Cert.FyaIdeal.τ).loc Cert.FyaIdeal.main_arg1) = m ((c.tc : Thread Cert.FyaIdeal.nD Cert.FyaIdeal.τ).loc Cert.FyaIdeal.main_arg1))
      ∧ r.2.sem = fun _ => 0)

def quiescent_FyaRefIdeal [hFyaRefIdeal : Cert.FyaRefIdeal.Facts] : Prop :=
  ∀ (m : (ℓ : Loc Cert.FyaRefIdeal.nD Cert.FyaRefIdeal.τ Cert.FyaRefIdeal.sig) → Buf (Elt Ideal) ℓ) (g : Dev Cert.FyaRefIdeal.nD → PrngReg), Pre_FyaRefIdeal m →
    θ_run (Cert.FyaRefIdeal.defs (F := Ideal)) (onTc (τ := Cert.FyaRefIdeal.τ) (Cert.FyaRefIdeal.main (F := Ideal))) ⟨m, fun _ => 0, g⟩ (fun r => (∀ c : Dev Cert.FyaRefIdeal.nD,
      r.2.mem ((c.tc : Thread Cert.FyaRefIdeal.nD Cert.FyaRefIdeal.τ).loc Cert.FyaRefIdeal.main_arg0) = m ((c.tc : Thread Cert.FyaRefIdeal.nD Cert.FyaRefIdeal.τ).loc Cert.FyaRefIdeal.main_arg0)
      ∧ r.2.mem ((c.tc : Thread Cert.FyaRefIdeal.nD Cert.FyaRefIdeal.τ).loc Cert.FyaRefIdeal.main_arg1) = m ((c.tc : Thread Cert.FyaRefIdeal.nD Cert.FyaRefIdeal.τ).loc Cert.FyaRefIdeal.main_arg1))
      ∧ r.2.sem = fun _ => 0)

def quiescent_Fyb [hFyb : Cert.Fyb.Facts] : Prop :=
  ∀ (m : (ℓ : Loc Cert.Fyb.nD Cert.Fyb.τ Cert.Fyb.sig) → Buf (Elt Bits) ℓ) (g : Dev Cert.Fyb.nD → PrngReg), Pre_Fyb m →
    θ_run (Cert.Fyb.defs (F := Bits)) (onTc (τ := Cert.Fyb.τ) (Cert.Fyb.main (F := Bits))) ⟨m, fun _ => 0, g⟩ (fun r => (∀ c : Dev Cert.Fyb.nD,
      r.2.mem ((c.tc : Thread Cert.Fyb.nD Cert.Fyb.τ).loc Cert.Fyb.main_arg0) = m ((c.tc : Thread Cert.Fyb.nD Cert.Fyb.τ).loc Cert.Fyb.main_arg0)
      ∧ r.2.mem ((c.tc : Thread Cert.Fyb.nD Cert.Fyb.τ).loc Cert.Fyb.main_arg1) = m ((c.tc : Thread Cert.Fyb.nD Cert.Fyb.τ).loc Cert.Fyb.main_arg1)
      ∧ r.2.mem ((c.tc : Thread Cert.Fyb.nD Cert.Fyb.τ).loc Cert.Fyb.main_arg2) = m ((c.tc : Thread Cert.Fyb.nD Cert.Fyb.τ).loc Cert.Fyb.main_arg2)
      ∧ r.2.mem ((c.tc : Thread Cert.Fyb.nD Cert.Fyb.τ).loc Cert.Fyb.main_arg3) = m ((c.tc : Thread Cert.Fyb.nD Cert.Fyb.τ).loc Cert.Fyb.main_arg3))
      ∧ r.2.sem = fun _ => 0)

def quiescent_FybIdeal [hFybIdeal : Cert.FybIdeal.Facts] : Prop :=
  ∀ (m : (ℓ : Loc Cert.FybIdeal.nD Cert.FybIdeal.τ Cert.FybIdeal.sig) → Buf (Elt Ideal) ℓ) (g : Dev Cert.FybIdeal.nD → PrngReg), Pre_FybIdeal m →
    θ_run (Cert.FybIdeal.defs (F := Ideal)) (onTc (τ := Cert.FybIdeal.τ) (Cert.FybIdeal.main (F := Ideal))) ⟨m, fun _ => 0, g⟩ (fun r => (∀ c : Dev Cert.FybIdeal.nD,
      r.2.mem ((c.tc : Thread Cert.FybIdeal.nD Cert.FybIdeal.τ).loc Cert.FybIdeal.main_arg0) = m ((c.tc : Thread Cert.FybIdeal.nD Cert.FybIdeal.τ).loc Cert.FybIdeal.main_arg0)
      ∧ r.2.mem ((c.tc : Thread Cert.FybIdeal.nD Cert.FybIdeal.τ).loc Cert.FybIdeal.main_arg1) = m ((c.tc : Thread Cert.FybIdeal.nD Cert.FybIdeal.τ).loc Cert.FybIdeal.main_arg1)
      ∧ r.2.mem ((c.tc : Thread Cert.FybIdeal.nD Cert.FybIdeal.τ).loc Cert.FybIdeal.main_arg2) = m ((c.tc : Thread Cert.FybIdeal.nD Cert.FybIdeal.τ).loc Cert.FybIdeal.main_arg2)
      ∧ r.2.mem ((c.tc : Thread Cert.FybIdeal.nD Cert.FybIdeal.τ).loc Cert.FybIdeal.main_arg3) = m ((c.tc : Thread Cert.FybIdeal.nD Cert.FybIdeal.τ).loc Cert.FybIdeal.main_arg3))
      ∧ r.2.sem = fun _ => 0)

def quiescent_FybRefIdeal [hFybRefIdeal : Cert.FybRefIdeal.Facts] : Prop :=
  ∀ (m : (ℓ : Loc Cert.FybRefIdeal.nD Cert.FybRefIdeal.τ Cert.FybRefIdeal.sig) → Buf (Elt Ideal) ℓ) (g : Dev Cert.FybRefIdeal.nD → PrngReg), Pre_FybRefIdeal m →
    θ_run (Cert.FybRefIdeal.defs (F := Ideal)) (onTc (τ := Cert.FybRefIdeal.τ) (Cert.FybRefIdeal.main (F := Ideal))) ⟨m, fun _ => 0, g⟩ (fun r => (∀ c : Dev Cert.FybRefIdeal.nD,
      r.2.mem ((c.tc : Thread Cert.FybRefIdeal.nD Cert.FybRefIdeal.τ).loc Cert.FybRefIdeal.main_arg0) = m ((c.tc : Thread Cert.FybRefIdeal.nD Cert.FybRefIdeal.τ).loc Cert.FybRefIdeal.main_arg0)
      ∧ r.2.mem ((c.tc : Thread Cert.FybRefIdeal.nD Cert.FybRefIdeal.τ).loc Cert.FybRefIdeal.main_arg1) = m ((c.tc : Thread Cert.FybRefIdeal.nD Cert.FybRefIdeal.τ).loc Cert.FybRefIdeal.main_arg1)
      ∧ r.2.mem ((c.tc : Thread Cert.FybRefIdeal.nD Cert.FybRefIdeal.τ).loc Cert.FybRefIdeal.main_arg2) = m ((c.tc : Thread Cert.FybRefIdeal.nD Cert.FybRefIdeal.τ).loc Cert.FybRefIdeal.main_arg2)
      ∧ r.2.mem ((c.tc : Thread Cert.FybRefIdeal.nD Cert.FybRefIdeal.τ).loc Cert.FybRefIdeal.main_arg3) = m ((c.tc : Thread Cert.FybRefIdeal.nD Cert.FybRefIdeal.τ).loc Cert.FybRefIdeal.main_arg3))
      ∧ r.2.sem = fun _ => 0)

def quiescent_Fx1 [hFx1 : Cert.Fx1.Facts] : Prop :=
  ∀ (m : (ℓ : Loc Cert.Fx1.nD Cert.Fx1.τ Cert.Fx1.sig) → Buf (Elt Bits) ℓ) (g : Dev Cert.Fx1.nD → PrngReg), Pre_Fx1 m →
    θ_run (Cert.Fx1.defs (F := Bits)) (onTc (τ := Cert.Fx1.τ) (Cert.Fx1.main (F := Bits))) ⟨m, fun _ => 0, g⟩ (fun r => (∀ c : Dev Cert.Fx1.nD,
      r.2.mem ((c.tc : Thread Cert.Fx1.nD Cert.Fx1.τ).loc Cert.Fx1.main_arg0) = m ((c.tc : Thread Cert.Fx1.nD Cert.Fx1.τ).loc Cert.Fx1.main_arg0)
      ∧ r.2.mem ((c.tc : Thread Cert.Fx1.nD Cert.Fx1.τ).loc Cert.Fx1.main_arg1) = m ((c.tc : Thread Cert.Fx1.nD Cert.Fx1.τ).loc Cert.Fx1.main_arg1)
      ∧ r.2.mem ((c.tc : Thread Cert.Fx1.nD Cert.Fx1.τ).loc Cert.Fx1.main_arg2) = m ((c.tc : Thread Cert.Fx1.nD Cert.Fx1.τ).loc Cert.Fx1.main_arg2)
      ∧ r.2.mem ((c.tc : Thread Cert.Fx1.nD Cert.Fx1.τ).loc Cert.Fx1.main_arg3) = m ((c.tc : Thread Cert.Fx1.nD Cert.Fx1.τ).loc Cert.Fx1.main_arg3))
      ∧ r.2.sem = fun _ => 0)

def quiescent_Fx1Ideal [hFx1Ideal : Cert.Fx1Ideal.Facts] : Prop :=
  ∀ (m : (ℓ : Loc Cert.Fx1Ideal.nD Cert.Fx1Ideal.τ Cert.Fx1Ideal.sig) → Buf (Elt Ideal) ℓ) (g : Dev Cert.Fx1Ideal.nD → PrngReg), Pre_Fx1Ideal m →
    θ_run (Cert.Fx1Ideal.defs (F := Ideal)) (onTc (τ := Cert.Fx1Ideal.τ) (Cert.Fx1Ideal.main (F := Ideal))) ⟨m, fun _ => 0, g⟩ (fun r => (∀ c : Dev Cert.Fx1Ideal.nD,
      r.2.mem ((c.tc : Thread Cert.Fx1Ideal.nD Cert.Fx1Ideal.τ).loc Cert.Fx1Ideal.main_arg0) = m ((c.tc : Thread Cert.Fx1Ideal.nD Cert.Fx1Ideal.τ).loc Cert.Fx1Ideal.main_arg0)
      ∧ r.2.mem ((c.tc : Thread Cert.Fx1Ideal.nD Cert.Fx1Ideal.τ).loc Cert.Fx1Ideal.main_arg1) = m ((c.tc : Thread Cert.Fx1Ideal.nD Cert.Fx1Ideal.τ).loc Cert.Fx1Ideal.main_arg1)
      ∧ r.2.mem ((c.tc : Thread Cert.Fx1Ideal.nD Cert.Fx1Ideal.τ).loc Cert.Fx1Ideal.main_arg2) = m ((c.tc : Thread Cert.Fx1Ideal.nD Cert.Fx1Ideal.τ).loc Cert.Fx1Ideal.main_arg2)
      ∧ r.2.mem ((c.tc : Thread Cert.Fx1Ideal.nD Cert.Fx1Ideal.τ).loc Cert.Fx1Ideal.main_arg3) = m ((c.tc : Thread Cert.Fx1Ideal.nD Cert.Fx1Ideal.τ).loc Cert.Fx1Ideal.main_arg3))
      ∧ r.2.sem = fun _ => 0)

def quiescent_Fx1RefIdeal [hFx1RefIdeal : Cert.Fx1RefIdeal.Facts] : Prop :=
  ∀ (m : (ℓ : Loc Cert.Fx1RefIdeal.nD Cert.Fx1RefIdeal.τ Cert.Fx1RefIdeal.sig) → Buf (Elt Ideal) ℓ) (g : Dev Cert.Fx1RefIdeal.nD → PrngReg), Pre_Fx1RefIdeal m →
    θ_run (Cert.Fx1RefIdeal.defs (F := Ideal)) (onTc (τ := Cert.Fx1RefIdeal.τ) (Cert.Fx1RefIdeal.main (F := Ideal))) ⟨m, fun _ => 0, g⟩ (fun r => (∀ c : Dev Cert.Fx1RefIdeal.nD,
      r.2.mem ((c.tc : Thread Cert.Fx1RefIdeal.nD Cert.Fx1RefIdeal.τ).loc Cert.Fx1RefIdeal.main_arg0) = m ((c.tc : Thread Cert.Fx1RefIdeal.nD Cert.Fx1RefIdeal.τ).loc Cert.Fx1RefIdeal.main_arg0)
      ∧ r.2.mem ((c.tc : Thread Cert.Fx1RefIdeal.nD Cert.Fx1RefIdeal.τ).loc Cert.Fx1RefIdeal.main_arg1) = m ((c.tc : Thread Cert.Fx1RefIdeal.nD Cert.Fx1RefIdeal.τ).loc Cert.Fx1RefIdeal.main_arg1)
      ∧ r.2.mem ((c.tc : Thread Cert.Fx1RefIdeal.nD Cert.Fx1RefIdeal.τ).loc Cert.Fx1RefIdeal.main_arg2) = m ((c.tc : Thread Cert.Fx1RefIdeal.nD Cert.Fx1RefIdeal.τ).loc Cert.Fx1RefIdeal.main_arg2)
      ∧ r.2.mem ((c.tc : Thread Cert.Fx1RefIdeal.nD Cert.Fx1RefIdeal.τ).loc Cert.Fx1RefIdeal.main_arg3) = m ((c.tc : Thread Cert.Fx1RefIdeal.nD Cert.Fx1RefIdeal.τ).loc Cert.Fx1RefIdeal.main_arg3))
      ∧ r.2.sem = fun _ => 0)

def quiescent_Fact [hFact : Cert.Fact.Facts] : Prop :=
  ∀ (m : (ℓ : Loc Cert.Fact.nD Cert.Fact.τ Cert.Fact.sig) → Buf (Elt Bits) ℓ) (g : Dev Cert.Fact.nD → PrngReg), Pre_Fact m →
    θ_run (Cert.Fact.defs (F := Bits)) (onTc (τ := Cert.Fact.τ) (Cert.Fact.main (F := Bits))) ⟨m, fun _ => 0, g⟩ (fun r => (∀ c : Dev Cert.Fact.nD,
      r.2.mem ((c.tc : Thread Cert.Fact.nD Cert.Fact.τ).loc Cert.Fact.main_arg0) = m ((c.tc : Thread Cert.Fact.nD Cert.Fact.τ).loc Cert.Fact.main_arg0)
      ∧ r.2.mem ((c.tc : Thread Cert.Fact.nD Cert.Fact.τ).loc Cert.Fact.main_arg1) = m ((c.tc : Thread Cert.Fact.nD Cert.Fact.τ).loc Cert.Fact.main_arg1))
      ∧ r.2.sem = fun _ => 0)

def quiescent_FactIdeal [hFactIdeal : Cert.FactIdeal.Facts] : Prop :=
  ∀ (m : (ℓ : Loc Cert.FactIdeal.nD Cert.FactIdeal.τ Cert.FactIdeal.sig) → Buf (Elt Ideal) ℓ) (g : Dev Cert.FactIdeal.nD → PrngReg), Pre_FactIdeal m →
    θ_run (Cert.FactIdeal.defs (F := Ideal)) (onTc (τ := Cert.FactIdeal.τ) (Cert.FactIdeal.main (F := Ideal))) ⟨m, fun _ => 0, g⟩ (fun r => (∀ c : Dev Cert.FactIdeal.nD,
      r.2.mem ((c.tc : Thread Cert.FactIdeal.nD Cert.FactIdeal.τ).loc Cert.FactIdeal.main_arg0) = m ((c.tc : Thread Cert.FactIdeal.nD Cert.FactIdeal.τ).loc Cert.FactIdeal.main_arg0)
      ∧ r.2.mem ((c.tc : Thread Cert.FactIdeal.nD Cert.FactIdeal.τ).loc Cert.FactIdeal.main_arg1) = m ((c.tc : Thread Cert.FactIdeal.nD Cert.FactIdeal.τ).loc Cert.FactIdeal.main_arg1))
      ∧ r.2.sem = fun _ => 0)

def quiescent_FactRefIdeal [hFactRefIdeal : Cert.FactRefIdeal.Facts] : Prop :=
  ∀ (m : (ℓ : Loc Cert.FactRefIdeal.nD Cert.FactRefIdeal.τ Cert.FactRefIdeal.sig) → Buf (Elt Ideal) ℓ) (g : Dev Cert.FactRefIdeal.nD → PrngReg), Pre_FactRefIdeal m →
    θ_run (Cert.FactRefIdeal.defs (F := Ideal)) (onTc (τ := Cert.FactRefIdeal.τ) (Cert.FactRefIdeal.main (F := Ideal))) ⟨m, fun _ => 0, g⟩ (fun r => (∀ c : Dev Cert.FactRefIdeal.nD,
      r.2.mem ((c.tc : Thread Cert.FactRefIdeal.nD Cert.FactRefIdeal.τ).loc Cert.FactRefIdeal.main_arg0) = m ((c.tc : Thread Cert.FactRefIdeal.nD Cert.FactRefIdeal.τ).loc Cert.FactRefIdeal.main_arg0)
      ∧ r.2.mem ((c.tc : Thread Cert.FactRefIdeal.nD Cert.FactRefIdeal.τ).loc Cert.FactRefIdeal.main_arg1) = m ((c.tc : Thread Cert.FactRefIdeal.nD Cert.FactRefIdeal.τ).loc Cert.FactRefIdeal.main_arg1))
      ∧ r.2.sem = fun _ => 0)

def quiescent_Fx2 [hFx2 : Cert.Fx2.Facts] : Prop :=
  ∀ (m : (ℓ : Loc Cert.Fx2.nD Cert.Fx2.τ Cert.Fx2.sig) → Buf (Elt Bits) ℓ) (g : Dev Cert.Fx2.nD → PrngReg), Pre_Fx2 m →
    θ_run (Cert.Fx2.defs (F := Bits)) (onTc (τ := Cert.Fx2.τ) (Cert.Fx2.main (F := Bits))) ⟨m, fun _ => 0, g⟩ (fun r => (∀ c : Dev Cert.Fx2.nD,
      r.2.mem ((c.tc : Thread Cert.Fx2.nD Cert.Fx2.τ).loc Cert.Fx2.main_arg0) = m ((c.tc : Thread Cert.Fx2.nD Cert.Fx2.τ).loc Cert.Fx2.main_arg0)
      ∧ r.2.mem ((c.tc : Thread Cert.Fx2.nD Cert.Fx2.τ).loc Cert.Fx2.main_arg1) = m ((c.tc : Thread Cert.Fx2.nD Cert.Fx2.τ).loc Cert.Fx2.main_arg1)
      ∧ r.2.mem ((c.tc : Thread Cert.Fx2.nD Cert.Fx2.τ).loc Cert.Fx2.main_arg2) = m ((c.tc : Thread Cert.Fx2.nD Cert.Fx2.τ).loc Cert.Fx2.main_arg2)
      ∧ r.2.mem ((c.tc : Thread Cert.Fx2.nD Cert.Fx2.τ).loc Cert.Fx2.main_arg3) = m ((c.tc : Thread Cert.Fx2.nD Cert.Fx2.τ).loc Cert.Fx2.main_arg3))
      ∧ r.2.sem = fun _ => 0)

def quiescent_Fx2Ideal [hFx2Ideal : Cert.Fx2Ideal.Facts] : Prop :=
  ∀ (m : (ℓ : Loc Cert.Fx2Ideal.nD Cert.Fx2Ideal.τ Cert.Fx2Ideal.sig) → Buf (Elt Ideal) ℓ) (g : Dev Cert.Fx2Ideal.nD → PrngReg), Pre_Fx2Ideal m →
    θ_run (Cert.Fx2Ideal.defs (F := Ideal)) (onTc (τ := Cert.Fx2Ideal.τ) (Cert.Fx2Ideal.main (F := Ideal))) ⟨m, fun _ => 0, g⟩ (fun r => (∀ c : Dev Cert.Fx2Ideal.nD,
      r.2.mem ((c.tc : Thread Cert.Fx2Ideal.nD Cert.Fx2Ideal.τ).loc Cert.Fx2Ideal.main_arg0) = m ((c.tc : Thread Cert.Fx2Ideal.nD Cert.Fx2Ideal.τ).loc Cert.Fx2Ideal.main_arg0)
      ∧ r.2.mem ((c.tc : Thread Cert.Fx2Ideal.nD Cert.Fx2Ideal.τ).loc Cert.Fx2Ideal.main_arg1) = m ((c.tc : Thread Cert.Fx2Ideal.nD Cert.Fx2Ideal.τ).loc Cert.Fx2Ideal.main_arg1)
      ∧ r.2.mem ((c.tc : Thread Cert.Fx2Ideal.nD Cert.Fx2Ideal.τ).loc Cert.Fx2Ideal.main_arg2) = m ((c.tc : Thread Cert.Fx2Ideal.nD Cert.Fx2Ideal.τ).loc Cert.Fx2Ideal.main_arg2)
      ∧ r.2.mem ((c.tc : Thread Cert.Fx2Ideal.nD Cert.Fx2Ideal.τ).loc Cert.Fx2Ideal.main_arg3) = m ((c.tc : Thread Cert.Fx2Ideal.nD Cert.Fx2Ideal.τ).loc Cert.Fx2Ideal.main_arg3))
      ∧ r.2.sem = fun _ => 0)

def quiescent_Fx2RefIdeal [hFx2RefIdeal : Cert.Fx2RefIdeal.Facts] : Prop :=
  ∀ (m : (ℓ : Loc Cert.Fx2RefIdeal.nD Cert.Fx2RefIdeal.τ Cert.Fx2RefIdeal.sig) → Buf (Elt Ideal) ℓ) (g : Dev Cert.Fx2RefIdeal.nD → PrngReg), Pre_Fx2RefIdeal m →
    θ_run (Cert.Fx2RefIdeal.defs (F := Ideal)) (onTc (τ := Cert.Fx2RefIdeal.τ) (Cert.Fx2RefIdeal.main (F := Ideal))) ⟨m, fun _ => 0, g⟩ (fun r => (∀ c : Dev Cert.Fx2RefIdeal.nD,
      r.2.mem ((c.tc : Thread Cert.Fx2RefIdeal.nD Cert.Fx2RefIdeal.τ).loc Cert.Fx2RefIdeal.main_arg0) = m ((c.tc : Thread Cert.Fx2RefIdeal.nD Cert.Fx2RefIdeal.τ).loc Cert.Fx2RefIdeal.main_arg0)
      ∧ r.2.mem ((c.tc : Thread Cert.Fx2RefIdeal.nD Cert.Fx2RefIdeal.τ).loc Cert.Fx2RefIdeal.main_arg1) = m ((c.tc : Thread Cert.Fx2RefIdeal.nD Cert.Fx2RefIdeal.τ).loc Cert.Fx2RefIdeal.main_arg1)
      ∧ r.2.mem ((c.tc : Thread Cert.Fx2RefIdeal.nD Cert.Fx2RefIdeal.τ).loc Cert.Fx2RefIdeal.main_arg2) = m ((c.tc : Thread Cert.Fx2RefIdeal.nD Cert.Fx2RefIdeal.τ).loc Cert.Fx2RefIdeal.main_arg2)
      ∧ r.2.mem ((c.tc : Thread Cert.Fx2RefIdeal.nD Cert.Fx2RefIdeal.τ).loc Cert.Fx2RefIdeal.main_arg3) = m ((c.tc : Thread Cert.Fx2RefIdeal.nD Cert.Fx2RefIdeal.τ).loc Cert.Fx2RefIdeal.main_arg3))
      ∧ r.2.sem = fun _ => 0)

def quiescent_Fe [hFe : Cert.Fe.Facts] : Prop :=
  ∀ (m : (ℓ : Loc Cert.Fe.nD Cert.Fe.τ Cert.Fe.sig) → Buf (Elt Bits) ℓ) (g : Dev Cert.Fe.nD → PrngReg), Pre_Fe m →
    θ_run (Cert.Fe.defs (F := Bits)) (onTc (τ := Cert.Fe.τ) (Cert.Fe.main (F := Bits))) ⟨m, fun _ => 0, g⟩ (fun r => (∀ c : Dev Cert.Fe.nD,
      r.2.mem ((c.tc : Thread Cert.Fe.nD Cert.Fe.τ).loc Cert.Fe.main_arg0) = m ((c.tc : Thread Cert.Fe.nD Cert.Fe.τ).loc Cert.Fe.main_arg0)
      ∧ r.2.mem ((c.tc : Thread Cert.Fe.nD Cert.Fe.τ).loc Cert.Fe.main_arg1) = m ((c.tc : Thread Cert.Fe.nD Cert.Fe.τ).loc Cert.Fe.main_arg1))
      ∧ r.2.sem = fun _ => 0)

def quiescent_FeIdeal [hFeIdeal : Cert.FeIdeal.Facts] : Prop :=
  ∀ (m : (ℓ : Loc Cert.FeIdeal.nD Cert.FeIdeal.τ Cert.FeIdeal.sig) → Buf (Elt Ideal) ℓ) (g : Dev Cert.FeIdeal.nD → PrngReg), Pre_FeIdeal m →
    θ_run (Cert.FeIdeal.defs (F := Ideal)) (onTc (τ := Cert.FeIdeal.τ) (Cert.FeIdeal.main (F := Ideal))) ⟨m, fun _ => 0, g⟩ (fun r => (∀ c : Dev Cert.FeIdeal.nD,
      r.2.mem ((c.tc : Thread Cert.FeIdeal.nD Cert.FeIdeal.τ).loc Cert.FeIdeal.main_arg0) = m ((c.tc : Thread Cert.FeIdeal.nD Cert.FeIdeal.τ).loc Cert.FeIdeal.main_arg0)
      ∧ r.2.mem ((c.tc : Thread Cert.FeIdeal.nD Cert.FeIdeal.τ).loc Cert.FeIdeal.main_arg1) = m ((c.tc : Thread Cert.FeIdeal.nD Cert.FeIdeal.τ).loc Cert.FeIdeal.main_arg1))
      ∧ r.2.sem = fun _ => 0)

def quiescent_FeRefIdeal [hFeRefIdeal : Cert.FeRefIdeal.Facts] : Prop :=
  ∀ (m : (ℓ : Loc Cert.FeRefIdeal.nD Cert.FeRefIdeal.τ Cert.FeRefIdeal.sig) → Buf (Elt Ideal) ℓ) (g : Dev Cert.FeRefIdeal.nD → PrngReg), Pre_FeRefIdeal m →
    θ_run (Cert.FeRefIdeal.defs (F := Ideal)) (onTc (τ := Cert.FeRefIdeal.τ) (Cert.FeRefIdeal.main (F := Ideal))) ⟨m, fun _ => 0, g⟩ (fun r => (∀ c : Dev Cert.FeRefIdeal.nD,
      r.2.mem ((c.tc : Thread Cert.FeRefIdeal.nD Cert.FeRefIdeal.τ).loc Cert.FeRefIdeal.main_arg0) = m ((c.tc : Thread Cert.FeRefIdeal.nD Cert.FeRefIdeal.τ).loc Cert.FeRefIdeal.main_arg0)
      ∧ r.2.mem ((c.tc : Thread Cert.FeRefIdeal.nD Cert.FeRefIdeal.τ).loc Cert.FeRefIdeal.main_arg1) = m ((c.tc : Thread Cert.FeRefIdeal.nD Cert.FeRefIdeal.τ).loc Cert.FeRefIdeal.main_arg1))
      ∧ r.2.sem = fun _ => 0)

def quiescent_Floss [hFloss : Cert.Floss.Facts] : Prop :=
  ∀ (m : (ℓ : Loc Cert.Floss.nD Cert.Floss.τ Cert.Floss.sig) → Buf (Elt Bits) ℓ) (g : Dev Cert.Floss.nD → PrngReg), Pre_Floss m →
    θ_run (Cert.Floss.defs (F := Bits)) (onTc (τ := Cert.Floss.τ) (Cert.Floss.main (F := Bits))) ⟨m, fun _ => 0, g⟩ (fun r => (∀ c : Dev Cert.Floss.nD,
      r.2.mem ((c.tc : Thread Cert.Floss.nD Cert.Floss.τ).loc Cert.Floss.main_arg0) = m ((c.tc : Thread Cert.Floss.nD Cert.Floss.τ).loc Cert.Floss.main_arg0)
      ∧ r.2.mem ((c.tc : Thread Cert.Floss.nD Cert.Floss.τ).loc Cert.Floss.main_arg1) = m ((c.tc : Thread Cert.Floss.nD Cert.Floss.τ).loc Cert.Floss.main_arg1)
      ∧ r.2.mem ((c.tc : Thread Cert.Floss.nD Cert.Floss.τ).loc Cert.Floss.main_arg2) = m ((c.tc : Thread Cert.Floss.nD Cert.Floss.τ).loc Cert.Floss.main_arg2)
      ∧ r.2.mem ((c.tc : Thread Cert.Floss.nD Cert.Floss.τ).loc Cert.Floss.main_arg3) = m ((c.tc : Thread Cert.Floss.nD Cert.Floss.τ).loc Cert.Floss.main_arg3)
      ∧ r.2.mem ((c.tc : Thread Cert.Floss.nD Cert.Floss.τ).loc Cert.Floss.main_arg4) = m ((c.tc : Thread Cert.Floss.nD Cert.Floss.τ).loc Cert.Floss.main_arg4))
      ∧ r.2.sem = fun _ => 0)

def quiescent_FlossIdeal [hFlossIdeal : Cert.FlossIdeal.Facts] : Prop :=
  ∀ (m : (ℓ : Loc Cert.FlossIdeal.nD Cert.FlossIdeal.τ Cert.FlossIdeal.sig) → Buf (Elt Ideal) ℓ) (g : Dev Cert.FlossIdeal.nD → PrngReg), Pre_FlossIdeal m →
    θ_run (Cert.FlossIdeal.defs (F := Ideal)) (onTc (τ := Cert.FlossIdeal.τ) (Cert.FlossIdeal.main (F := Ideal))) ⟨m, fun _ => 0, g⟩ (fun r => (∀ c : Dev Cert.FlossIdeal.nD,
      r.2.mem ((c.tc : Thread Cert.FlossIdeal.nD Cert.FlossIdeal.τ).loc Cert.FlossIdeal.main_arg0) = m ((c.tc : Thread Cert.FlossIdeal.nD Cert.FlossIdeal.τ).loc Cert.FlossIdeal.main_arg0)
      ∧ r.2.mem ((c.tc : Thread Cert.FlossIdeal.nD Cert.FlossIdeal.τ).loc Cert.FlossIdeal.main_arg1) = m ((c.tc : Thread Cert.FlossIdeal.nD Cert.FlossIdeal.τ).loc Cert.FlossIdeal.main_arg1)
      ∧ r.2.mem ((c.tc : Thread Cert.FlossIdeal.nD Cert.FlossIdeal.τ).loc Cert.FlossIdeal.main_arg2) = m ((c.tc : Thread Cert.FlossIdeal.nD Cert.FlossIdeal.τ).loc Cert.FlossIdeal.main_arg2)
      ∧ r.2.mem ((c.tc : Thread Cert.FlossIdeal.nD Cert.FlossIdeal.τ).loc Cert.FlossIdeal.main_arg3) = m ((c.tc : Thread Cert.FlossIdeal.nD Cert.FlossIdeal.τ).loc Cert.FlossIdeal.main_arg3)
      ∧ r.2.mem ((c.tc : Thread Cert.FlossIdeal.nD Cert.FlossIdeal.τ).loc Cert.FlossIdeal.main_arg4) = m ((c.tc : Thread Cert.FlossIdeal.nD Cert.FlossIdeal.τ).loc Cert.FlossIdeal.main_arg4))
      ∧ r.2.sem = fun _ => 0)

def quiescent_FlossRefIdeal [hFlossRefIdeal : Cert.FlossRefIdeal.Facts] : Prop :=
  ∀ (m : (ℓ : Loc Cert.FlossRefIdeal.nD Cert.FlossRefIdeal.τ Cert.FlossRefIdeal.sig) → Buf (Elt Ideal) ℓ) (g : Dev Cert.FlossRefIdeal.nD → PrngReg), Pre_FlossRefIdeal m →
    θ_run (Cert.FlossRefIdeal.defs (F := Ideal)) (onTc (τ := Cert.FlossRefIdeal.τ) (Cert.FlossRefIdeal.main (F := Ideal))) ⟨m, fun _ => 0, g⟩ (fun r => (∀ c : Dev Cert.FlossRefIdeal.nD,
      r.2.mem ((c.tc : Thread Cert.FlossRefIdeal.nD Cert.FlossRefIdeal.τ).loc Cert.FlossRefIdeal.main_arg0) = m ((c.tc : Thread Cert.FlossRefIdeal.nD Cert.FlossRefIdeal.τ).loc Cert.FlossRefIdeal.main_arg0)
      ∧ r.2.mem ((c.tc : Thread Cert.FlossRefIdeal.nD Cert.FlossRefIdeal.τ).loc Cert.FlossRefIdeal.main_arg1) = m ((c.tc : Thread Cert.FlossRefIdeal.nD Cert.FlossRefIdeal.τ).loc Cert.FlossRefIdeal.main_arg1)
      ∧ r.2.mem ((c.tc : Thread Cert.FlossRefIdeal.nD Cert.FlossRefIdeal.τ).loc Cert.FlossRefIdeal.main_arg2) = m ((c.tc : Thread Cert.FlossRefIdeal.nD Cert.FlossRefIdeal.τ).loc Cert.FlossRefIdeal.main_arg2)
      ∧ r.2.mem ((c.tc : Thread Cert.FlossRefIdeal.nD Cert.FlossRefIdeal.τ).loc Cert.FlossRefIdeal.main_arg3) = m ((c.tc : Thread Cert.FlossRefIdeal.nD Cert.FlossRefIdeal.τ).loc Cert.FlossRefIdeal.main_arg3)
      ∧ r.2.mem ((c.tc : Thread Cert.FlossRefIdeal.nD Cert.FlossRefIdeal.τ).loc Cert.FlossRefIdeal.main_arg4) = m ((c.tc : Thread Cert.FlossRefIdeal.nD Cert.FlossRefIdeal.τ).loc Cert.FlossRefIdeal.main_arg4))
      ∧ r.2.sem = fun _ => 0)

def quiescent_Awin [hAwin : Cert.Awin.Facts] : Prop :=
  ∀ (m : (ℓ : Loc Cert.Awin.nD Cert.Awin.τ Cert.Awin.sig) → Buf (Elt Bits) ℓ) (g : Dev Cert.Awin.nD → PrngReg), Pre_Awin m →
    θ_run (Cert.Awin.defs (F := Bits)) (onTc (τ := Cert.Awin.τ) (Cert.Awin.main (F := Bits))) ⟨m, fun _ => 0, g⟩ (fun r => (∀ c : Dev Cert.Awin.nD,
      r.2.mem ((c.tc : Thread Cert.Awin.nD Cert.Awin.τ).loc Cert.Awin.main_arg0) = m ((c.tc : Thread Cert.Awin.nD Cert.Awin.τ).loc Cert.Awin.main_arg0)
      ∧ r.2.mem ((c.tc : Thread Cert.Awin.nD Cert.Awin.τ).loc Cert.Awin.main_arg1) = m ((c.tc : Thread Cert.Awin.nD Cert.Awin.τ).loc Cert.Awin.main_arg1)
      ∧ r.2.mem ((c.tc : Thread Cert.Awin.nD Cert.Awin.τ).loc Cert.Awin.main_arg2) = m ((c.tc : Thread Cert.Awin.nD Cert.Awin.τ).loc Cert.Awin.main_arg2)
      ∧ r.2.mem ((c.tc : Thread Cert.Awin.nD Cert.Awin.τ).loc Cert.Awin.main_arg3) = m ((c.tc : Thread Cert.Awin.nD Cert.Awin.τ).loc Cert.Awin.main_arg3))
      ∧ r.2.sem = fun _ => 0)

def quiescent_AwinIdeal [hAwinIdeal : Cert.AwinIdeal.Facts] : Prop :=
  ∀ (m : (ℓ : Loc Cert.AwinIdeal.nD Cert.AwinIdeal.τ Cert.AwinIdeal.sig) → Buf (Elt Ideal) ℓ) (g : Dev Cert.AwinIdeal.nD → PrngReg), Pre_AwinIdeal m →
    θ_run (Cert.AwinIdeal.defs (F := Ideal)) (onTc (τ := Cert.AwinIdeal.τ) (Cert.AwinIdeal.main (F := Ideal))) ⟨m, fun _ => 0, g⟩ (fun r => (∀ c : Dev Cert.AwinIdeal.nD,
      r.2.mem ((c.tc : Thread Cert.AwinIdeal.nD Cert.AwinIdeal.τ).loc Cert.AwinIdeal.main_arg0) = m ((c.tc : Thread Cert.AwinIdeal.nD Cert.AwinIdeal.τ).loc Cert.AwinIdeal.main_arg0)
      ∧ r.2.mem ((c.tc : Thread Cert.AwinIdeal.nD Cert.AwinIdeal.τ).loc Cert.AwinIdeal.main_arg1) = m ((c.tc : Thread Cert.AwinIdeal.nD Cert.AwinIdeal.τ).loc Cert.AwinIdeal.main_arg1)
      ∧ r.2.mem ((c.tc : Thread Cert.AwinIdeal.nD Cert.AwinIdeal.τ).loc Cert.AwinIdeal.main_arg2) = m ((c.tc : Thread Cert.AwinIdeal.nD Cert.AwinIdeal.τ).loc Cert.AwinIdeal.main_arg2)
      ∧ r.2.mem ((c.tc : Thread Cert.AwinIdeal.nD Cert.AwinIdeal.τ).loc Cert.AwinIdeal.main_arg3) = m ((c.tc : Thread Cert.AwinIdeal.nD Cert.AwinIdeal.τ).loc Cert.AwinIdeal.main_arg3))
      ∧ r.2.sem = fun _ => 0)

def quiescent_AwinRefIdeal [hAwinRefIdeal : Cert.AwinRefIdeal.Facts] : Prop :=
  ∀ (m : (ℓ : Loc Cert.AwinRefIdeal.nD Cert.AwinRefIdeal.τ Cert.AwinRefIdeal.sig) → Buf (Elt Ideal) ℓ) (g : Dev Cert.AwinRefIdeal.nD → PrngReg), Pre_AwinRefIdeal m →
    θ_run (Cert.AwinRefIdeal.defs (F := Ideal)) (onTc (τ := Cert.AwinRefIdeal.τ) (Cert.AwinRefIdeal.main (F := Ideal))) ⟨m, fun _ => 0, g⟩ (fun r => (∀ c : Dev Cert.AwinRefIdeal.nD,
      r.2.mem ((c.tc : Thread Cert.AwinRefIdeal.nD Cert.AwinRefIdeal.τ).loc Cert.AwinRefIdeal.main_arg0) = m ((c.tc : Thread Cert.AwinRefIdeal.nD Cert.AwinRefIdeal.τ).loc Cert.AwinRefIdeal.main_arg0)
      ∧ r.2.mem ((c.tc : Thread Cert.AwinRefIdeal.nD Cert.AwinRefIdeal.τ).loc Cert.AwinRefIdeal.main_arg1) = m ((c.tc : Thread Cert.AwinRefIdeal.nD Cert.AwinRefIdeal.τ).loc Cert.AwinRefIdeal.main_arg1)
      ∧ r.2.mem ((c.tc : Thread Cert.AwinRefIdeal.nD Cert.AwinRefIdeal.τ).loc Cert.AwinRefIdeal.main_arg2) = m ((c.tc : Thread Cert.AwinRefIdeal.nD Cert.AwinRefIdeal.τ).loc Cert.AwinRefIdeal.main_arg2)
      ∧ r.2.mem ((c.tc : Thread Cert.AwinRefIdeal.nD Cert.AwinRefIdeal.τ).loc Cert.AwinRefIdeal.main_arg3) = m ((c.tc : Thread Cert.AwinRefIdeal.nD Cert.AwinRefIdeal.τ).loc Cert.AwinRefIdeal.main_arg3))
      ∧ r.2.sem = fun _ => 0)

def quiescent_Aproj [hAproj : Cert.Aproj.Facts] : Prop :=
  ∀ (m : (ℓ : Loc Cert.Aproj.nD Cert.Aproj.τ Cert.Aproj.sig) → Buf (Elt Bits) ℓ) (g : Dev Cert.Aproj.nD → PrngReg), Pre_Aproj m →
    θ_run (Cert.Aproj.defs (F := Bits)) (onTc (τ := Cert.Aproj.τ) (Cert.Aproj.main (F := Bits))) ⟨m, fun _ => 0, g⟩ (fun r => (∀ c : Dev Cert.Aproj.nD,
      r.2.mem ((c.tc : Thread Cert.Aproj.nD Cert.Aproj.τ).loc Cert.Aproj.main_arg0) = m ((c.tc : Thread Cert.Aproj.nD Cert.Aproj.τ).loc Cert.Aproj.main_arg0)
      ∧ r.2.mem ((c.tc : Thread Cert.Aproj.nD Cert.Aproj.τ).loc Cert.Aproj.main_arg1) = m ((c.tc : Thread Cert.Aproj.nD Cert.Aproj.τ).loc Cert.Aproj.main_arg1)
      ∧ r.2.mem ((c.tc : Thread Cert.Aproj.nD Cert.Aproj.τ).loc Cert.Aproj.main_arg2) = m ((c.tc : Thread Cert.Aproj.nD Cert.Aproj.τ).loc Cert.Aproj.main_arg2)
      ∧ r.2.mem ((c.tc : Thread Cert.Aproj.nD Cert.Aproj.τ).loc Cert.Aproj.main_arg3) = m ((c.tc : Thread Cert.Aproj.nD Cert.Aproj.τ).loc Cert.Aproj.main_arg3))
      ∧ r.2.sem = fun _ => 0)

def quiescent_AprojIdeal [hAprojIdeal : Cert.AprojIdeal.Facts] : Prop :=
  ∀ (m : (ℓ : Loc Cert.AprojIdeal.nD Cert.AprojIdeal.τ Cert.AprojIdeal.sig) → Buf (Elt Ideal) ℓ) (g : Dev Cert.AprojIdeal.nD → PrngReg), Pre_AprojIdeal m →
    θ_run (Cert.AprojIdeal.defs (F := Ideal)) (onTc (τ := Cert.AprojIdeal.τ) (Cert.AprojIdeal.main (F := Ideal))) ⟨m, fun _ => 0, g⟩ (fun r => (∀ c : Dev Cert.AprojIdeal.nD,
      r.2.mem ((c.tc : Thread Cert.AprojIdeal.nD Cert.AprojIdeal.τ).loc Cert.AprojIdeal.main_arg0) = m ((c.tc : Thread Cert.AprojIdeal.nD Cert.AprojIdeal.τ).loc Cert.AprojIdeal.main_arg0)
      ∧ r.2.mem ((c.tc : Thread Cert.AprojIdeal.nD Cert.AprojIdeal.τ).loc Cert.AprojIdeal.main_arg1) = m ((c.tc : Thread Cert.AprojIdeal.nD Cert.AprojIdeal.τ).loc Cert.AprojIdeal.main_arg1)
      ∧ r.2.mem ((c.tc : Thread Cert.AprojIdeal.nD Cert.AprojIdeal.τ).loc Cert.AprojIdeal.main_arg2) = m ((c.tc : Thread Cert.AprojIdeal.nD Cert.AprojIdeal.τ).loc Cert.AprojIdeal.main_arg2)
      ∧ r.2.mem ((c.tc : Thread Cert.AprojIdeal.nD Cert.AprojIdeal.τ).loc Cert.AprojIdeal.main_arg3) = m ((c.tc : Thread Cert.AprojIdeal.nD Cert.AprojIdeal.τ).loc Cert.AprojIdeal.main_arg3))
      ∧ r.2.sem = fun _ => 0)

def quiescent_AprojRefIdeal [hAprojRefIdeal : Cert.AprojRefIdeal.Facts] : Prop :=
  ∀ (m : (ℓ : Loc Cert.AprojRefIdeal.nD Cert.AprojRefIdeal.τ Cert.AprojRefIdeal.sig) → Buf (Elt Ideal) ℓ) (g : Dev Cert.AprojRefIdeal.nD → PrngReg), Pre_AprojRefIdeal m →
    θ_run (Cert.AprojRefIdeal.defs (F := Ideal)) (onTc (τ := Cert.AprojRefIdeal.τ) (Cert.AprojRefIdeal.main (F := Ideal))) ⟨m, fun _ => 0, g⟩ (fun r => (∀ c : Dev Cert.AprojRefIdeal.nD,
      r.2.mem ((c.tc : Thread Cert.AprojRefIdeal.nD Cert.AprojRefIdeal.τ).loc Cert.AprojRefIdeal.main_arg0) = m ((c.tc : Thread Cert.AprojRefIdeal.nD Cert.AprojRefIdeal.τ).loc Cert.AprojRefIdeal.main_arg0)
      ∧ r.2.mem ((c.tc : Thread Cert.AprojRefIdeal.nD Cert.AprojRefIdeal.τ).loc Cert.AprojRefIdeal.main_arg1) = m ((c.tc : Thread Cert.AprojRefIdeal.nD Cert.AprojRefIdeal.τ).loc Cert.AprojRefIdeal.main_arg1)
      ∧ r.2.mem ((c.tc : Thread Cert.AprojRefIdeal.nD Cert.AprojRefIdeal.τ).loc Cert.AprojRefIdeal.main_arg2) = m ((c.tc : Thread Cert.AprojRefIdeal.nD Cert.AprojRefIdeal.τ).loc Cert.AprojRefIdeal.main_arg2)
      ∧ r.2.mem ((c.tc : Thread Cert.AprojRefIdeal.nD Cert.AprojRefIdeal.τ).loc Cert.AprojRefIdeal.main_arg3) = m ((c.tc : Thread Cert.AprojRefIdeal.nD Cert.AprojRefIdeal.τ).loc Cert.AprojRefIdeal.main_arg3))
      ∧ r.2.sem = fun _ => 0)

def quiescent_Aup [hAup : Cert.Aup.Facts] : Prop :=
  ∀ (m : (ℓ : Loc Cert.Aup.nD Cert.Aup.τ Cert.Aup.sig) → Buf (Elt Bits) ℓ) (g : Dev Cert.Aup.nD → PrngReg), Pre_Aup m →
    θ_run (Cert.Aup.defs (F := Bits)) (onTc (τ := Cert.Aup.τ) (Cert.Aup.main (F := Bits))) ⟨m, fun _ => 0, g⟩ (fun r => (∀ c : Dev Cert.Aup.nD,
      r.2.mem ((c.tc : Thread Cert.Aup.nD Cert.Aup.τ).loc Cert.Aup.main_arg0) = m ((c.tc : Thread Cert.Aup.nD Cert.Aup.τ).loc Cert.Aup.main_arg0)
      ∧ r.2.mem ((c.tc : Thread Cert.Aup.nD Cert.Aup.τ).loc Cert.Aup.main_arg1) = m ((c.tc : Thread Cert.Aup.nD Cert.Aup.τ).loc Cert.Aup.main_arg1)
      ∧ r.2.mem ((c.tc : Thread Cert.Aup.nD Cert.Aup.τ).loc Cert.Aup.main_arg2) = m ((c.tc : Thread Cert.Aup.nD Cert.Aup.τ).loc Cert.Aup.main_arg2)
      ∧ r.2.mem ((c.tc : Thread Cert.Aup.nD Cert.Aup.τ).loc Cert.Aup.main_arg3) = m ((c.tc : Thread Cert.Aup.nD Cert.Aup.τ).loc Cert.Aup.main_arg3))
      ∧ r.2.sem = fun _ => 0)

def quiescent_AupIdeal [hAupIdeal : Cert.AupIdeal.Facts] : Prop :=
  ∀ (m : (ℓ : Loc Cert.AupIdeal.nD Cert.AupIdeal.τ Cert.AupIdeal.sig) → Buf (Elt Ideal) ℓ) (g : Dev Cert.AupIdeal.nD → PrngReg), Pre_AupIdeal m →
    θ_run (Cert.AupIdeal.defs (F := Ideal)) (onTc (τ := Cert.AupIdeal.τ) (Cert.AupIdeal.main (F := Ideal))) ⟨m, fun _ => 0, g⟩ (fun r => (∀ c : Dev Cert.AupIdeal.nD,
      r.2.mem ((c.tc : Thread Cert.AupIdeal.nD Cert.AupIdeal.τ).loc Cert.AupIdeal.main_arg0) = m ((c.tc : Thread Cert.AupIdeal.nD Cert.AupIdeal.τ).loc Cert.AupIdeal.main_arg0)
      ∧ r.2.mem ((c.tc : Thread Cert.AupIdeal.nD Cert.AupIdeal.τ).loc Cert.AupIdeal.main_arg1) = m ((c.tc : Thread Cert.AupIdeal.nD Cert.AupIdeal.τ).loc Cert.AupIdeal.main_arg1)
      ∧ r.2.mem ((c.tc : Thread Cert.AupIdeal.nD Cert.AupIdeal.τ).loc Cert.AupIdeal.main_arg2) = m ((c.tc : Thread Cert.AupIdeal.nD Cert.AupIdeal.τ).loc Cert.AupIdeal.main_arg2)
      ∧ r.2.mem ((c.tc : Thread Cert.AupIdeal.nD Cert.AupIdeal.τ).loc Cert.AupIdeal.main_arg3) = m ((c.tc : Thread Cert.AupIdeal.nD Cert.AupIdeal.τ).loc Cert.AupIdeal.main_arg3))
      ∧ r.2.sem = fun _ => 0)

def quiescent_AupRefIdeal [hAupRefIdeal : Cert.AupRefIdeal.Facts] : Prop :=
  ∀ (m : (ℓ : Loc Cert.AupRefIdeal.nD Cert.AupRefIdeal.τ Cert.AupRefIdeal.sig) → Buf (Elt Ideal) ℓ) (g : Dev Cert.AupRefIdeal.nD → PrngReg), Pre_AupRefIdeal m →
    θ_run (Cert.AupRefIdeal.defs (F := Ideal)) (onTc (τ := Cert.AupRefIdeal.τ) (Cert.AupRefIdeal.main (F := Ideal))) ⟨m, fun _ => 0, g⟩ (fun r => (∀ c : Dev Cert.AupRefIdeal.nD,
      r.2.mem ((c.tc : Thread Cert.AupRefIdeal.nD Cert.AupRefIdeal.τ).loc Cert.AupRefIdeal.main_arg0) = m ((c.tc : Thread Cert.AupRefIdeal.nD Cert.AupRefIdeal.τ).loc Cert.AupRefIdeal.main_arg0)
      ∧ r.2.mem ((c.tc : Thread Cert.AupRefIdeal.nD Cert.AupRefIdeal.τ).loc Cert.AupRefIdeal.main_arg1) = m ((c.tc : Thread Cert.AupRefIdeal.nD Cert.AupRefIdeal.τ).loc Cert.AupRefIdeal.main_arg1)
      ∧ r.2.mem ((c.tc : Thread Cert.AupRefIdeal.nD Cert.AupRefIdeal.τ).loc Cert.AupRefIdeal.main_arg2) = m ((c.tc : Thread Cert.AupRefIdeal.nD Cert.AupRefIdeal.τ).loc Cert.AupRefIdeal.main_arg2)
      ∧ r.2.mem ((c.tc : Thread Cert.AupRefIdeal.nD Cert.AupRefIdeal.τ).loc Cert.AupRefIdeal.main_arg3) = m ((c.tc : Thread Cert.AupRefIdeal.nD Cert.AupRefIdeal.τ).loc Cert.AupRefIdeal.main_arg3))
      ∧ r.2.sem = fun _ => 0)

def quiescent_Adown [hAdown : Cert.Adown.Facts] : Prop :=
  ∀ (m : (ℓ : Loc Cert.Adown.nD Cert.Adown.τ Cert.Adown.sig) → Buf (Elt Bits) ℓ) (g : Dev Cert.Adown.nD → PrngReg), Pre_Adown m →
    θ_run (Cert.Adown.defs (F := Bits)) (onTc (τ := Cert.Adown.τ) (Cert.Adown.main (F := Bits))) ⟨m, fun _ => 0, g⟩ (fun r => (∀ c : Dev Cert.Adown.nD,
      r.2.mem ((c.tc : Thread Cert.Adown.nD Cert.Adown.τ).loc Cert.Adown.main_arg0) = m ((c.tc : Thread Cert.Adown.nD Cert.Adown.τ).loc Cert.Adown.main_arg0)
      ∧ r.2.mem ((c.tc : Thread Cert.Adown.nD Cert.Adown.τ).loc Cert.Adown.main_arg1) = m ((c.tc : Thread Cert.Adown.nD Cert.Adown.τ).loc Cert.Adown.main_arg1)
      ∧ r.2.mem ((c.tc : Thread Cert.Adown.nD Cert.Adown.τ).loc Cert.Adown.main_arg2) = m ((c.tc : Thread Cert.Adown.nD Cert.Adown.τ).loc Cert.Adown.main_arg2)
      ∧ r.2.mem ((c.tc : Thread Cert.Adown.nD Cert.Adown.τ).loc Cert.Adown.main_arg3) = m ((c.tc : Thread Cert.Adown.nD Cert.Adown.τ).loc Cert.Adown.main_arg3))
      ∧ r.2.sem = fun _ => 0)

def quiescent_AdownIdeal [hAdownIdeal : Cert.AdownIdeal.Facts] : Prop :=
  ∀ (m : (ℓ : Loc Cert.AdownIdeal.nD Cert.AdownIdeal.τ Cert.AdownIdeal.sig) → Buf (Elt Ideal) ℓ) (g : Dev Cert.AdownIdeal.nD → PrngReg), Pre_AdownIdeal m →
    θ_run (Cert.AdownIdeal.defs (F := Ideal)) (onTc (τ := Cert.AdownIdeal.τ) (Cert.AdownIdeal.main (F := Ideal))) ⟨m, fun _ => 0, g⟩ (fun r => (∀ c : Dev Cert.AdownIdeal.nD,
      r.2.mem ((c.tc : Thread Cert.AdownIdeal.nD Cert.AdownIdeal.τ).loc Cert.AdownIdeal.main_arg0) = m ((c.tc : Thread Cert.AdownIdeal.nD Cert.AdownIdeal.τ).loc Cert.AdownIdeal.main_arg0)
      ∧ r.2.mem ((c.tc : Thread Cert.AdownIdeal.nD Cert.AdownIdeal.τ).loc Cert.AdownIdeal.main_arg1) = m ((c.tc : Thread Cert.AdownIdeal.nD Cert.AdownIdeal.τ).loc Cert.AdownIdeal.main_arg1)
      ∧ r.2.mem ((c.tc : Thread Cert.AdownIdeal.nD Cert.AdownIdeal.τ).loc Cert.AdownIdeal.main_arg2) = m ((c.tc : Thread Cert.AdownIdeal.nD Cert.AdownIdeal.τ).loc Cert.AdownIdeal.main_arg2)
      ∧ r.2.mem ((c.tc : Thread Cert.AdownIdeal.nD Cert.AdownIdeal.τ).loc Cert.AdownIdeal.main_arg3) = m ((c.tc : Thread Cert.AdownIdeal.nD Cert.AdownIdeal.τ).loc Cert.AdownIdeal.main_arg3))
      ∧ r.2.sem = fun _ => 0)

def quiescent_AdownRefIdeal [hAdownRefIdeal : Cert.AdownRefIdeal.Facts] : Prop :=
  ∀ (m : (ℓ : Loc Cert.AdownRefIdeal.nD Cert.AdownRefIdeal.τ Cert.AdownRefIdeal.sig) → Buf (Elt Ideal) ℓ) (g : Dev Cert.AdownRefIdeal.nD → PrngReg), Pre_AdownRefIdeal m →
    θ_run (Cert.AdownRefIdeal.defs (F := Ideal)) (onTc (τ := Cert.AdownRefIdeal.τ) (Cert.AdownRefIdeal.main (F := Ideal))) ⟨m, fun _ => 0, g⟩ (fun r => (∀ c : Dev Cert.AdownRefIdeal.nD,
      r.2.mem ((c.tc : Thread Cert.AdownRefIdeal.nD Cert.AdownRefIdeal.τ).loc Cert.AdownRefIdeal.main_arg0) = m ((c.tc : Thread Cert.AdownRefIdeal.nD Cert.AdownRefIdeal.τ).loc Cert.AdownRefIdeal.main_arg0)
      ∧ r.2.mem ((c.tc : Thread Cert.AdownRefIdeal.nD Cert.AdownRefIdeal.τ).loc Cert.AdownRefIdeal.main_arg1) = m ((c.tc : Thread Cert.AdownRefIdeal.nD Cert.AdownRefIdeal.τ).loc Cert.AdownRefIdeal.main_arg1)
      ∧ r.2.mem ((c.tc : Thread Cert.AdownRefIdeal.nD Cert.AdownRefIdeal.τ).loc Cert.AdownRefIdeal.main_arg2) = m ((c.tc : Thread Cert.AdownRefIdeal.nD Cert.AdownRefIdeal.τ).loc Cert.AdownRefIdeal.main_arg2)
      ∧ r.2.mem ((c.tc : Thread Cert.AdownRefIdeal.nD Cert.AdownRefIdeal.τ).loc Cert.AdownRefIdeal.main_arg3) = m ((c.tc : Thread Cert.AdownRefIdeal.nD Cert.AdownRefIdeal.τ).loc Cert.AdownRefIdeal.main_arg3))
      ∧ r.2.sem = fun _ => 0)

def quiescent_App [hApp : Cert.App.Facts] : Prop :=
  ∀ (m : (ℓ : Loc Cert.App.nD Cert.App.τ Cert.App.sig) → Buf (Elt Bits) ℓ) (g : Dev Cert.App.nD → PrngReg), Pre_App m →
    θ_run (Cert.App.defs (F := Bits)) (onTc (τ := Cert.App.τ) (Cert.App.main (F := Bits))) ⟨m, fun _ => 0, g⟩ (fun r => (∀ c : Dev Cert.App.nD,
      r.2.mem ((c.tc : Thread Cert.App.nD Cert.App.τ).loc Cert.App.main_arg0) = m ((c.tc : Thread Cert.App.nD Cert.App.τ).loc Cert.App.main_arg0)
      ∧ r.2.mem ((c.tc : Thread Cert.App.nD Cert.App.τ).loc Cert.App.main_arg1) = m ((c.tc : Thread Cert.App.nD Cert.App.τ).loc Cert.App.main_arg1)
      ∧ r.2.mem ((c.tc : Thread Cert.App.nD Cert.App.τ).loc Cert.App.main_arg2) = m ((c.tc : Thread Cert.App.nD Cert.App.τ).loc Cert.App.main_arg2)
      ∧ r.2.mem ((c.tc : Thread Cert.App.nD Cert.App.τ).loc Cert.App.main_arg3) = m ((c.tc : Thread Cert.App.nD Cert.App.τ).loc Cert.App.main_arg3))
      ∧ r.2.sem = fun _ => 0)

def quiescent_AppIdeal [hAppIdeal : Cert.AppIdeal.Facts] : Prop :=
  ∀ (m : (ℓ : Loc Cert.AppIdeal.nD Cert.AppIdeal.τ Cert.AppIdeal.sig) → Buf (Elt Ideal) ℓ) (g : Dev Cert.AppIdeal.nD → PrngReg), Pre_AppIdeal m →
    θ_run (Cert.AppIdeal.defs (F := Ideal)) (onTc (τ := Cert.AppIdeal.τ) (Cert.AppIdeal.main (F := Ideal))) ⟨m, fun _ => 0, g⟩ (fun r => (∀ c : Dev Cert.AppIdeal.nD,
      r.2.mem ((c.tc : Thread Cert.AppIdeal.nD Cert.AppIdeal.τ).loc Cert.AppIdeal.main_arg0) = m ((c.tc : Thread Cert.AppIdeal.nD Cert.AppIdeal.τ).loc Cert.AppIdeal.main_arg0)
      ∧ r.2.mem ((c.tc : Thread Cert.AppIdeal.nD Cert.AppIdeal.τ).loc Cert.AppIdeal.main_arg1) = m ((c.tc : Thread Cert.AppIdeal.nD Cert.AppIdeal.τ).loc Cert.AppIdeal.main_arg1)
      ∧ r.2.mem ((c.tc : Thread Cert.AppIdeal.nD Cert.AppIdeal.τ).loc Cert.AppIdeal.main_arg2) = m ((c.tc : Thread Cert.AppIdeal.nD Cert.AppIdeal.τ).loc Cert.AppIdeal.main_arg2)
      ∧ r.2.mem ((c.tc : Thread Cert.AppIdeal.nD Cert.AppIdeal.τ).loc Cert.AppIdeal.main_arg3) = m ((c.tc : Thread Cert.AppIdeal.nD Cert.AppIdeal.τ).loc Cert.AppIdeal.main_arg3))
      ∧ r.2.sem = fun _ => 0)

def quiescent_AppRefIdeal [hAppRefIdeal : Cert.AppRefIdeal.Facts] : Prop :=
  ∀ (m : (ℓ : Loc Cert.AppRefIdeal.nD Cert.AppRefIdeal.τ Cert.AppRefIdeal.sig) → Buf (Elt Ideal) ℓ) (g : Dev Cert.AppRefIdeal.nD → PrngReg), Pre_AppRefIdeal m →
    θ_run (Cert.AppRefIdeal.defs (F := Ideal)) (onTc (τ := Cert.AppRefIdeal.τ) (Cert.AppRefIdeal.main (F := Ideal))) ⟨m, fun _ => 0, g⟩ (fun r => (∀ c : Dev Cert.AppRefIdeal.nD,
      r.2.mem ((c.tc : Thread Cert.AppRefIdeal.nD Cert.AppRefIdeal.τ).loc Cert.AppRefIdeal.main_arg0) = m ((c.tc : Thread Cert.AppRefIdeal.nD Cert.AppRefIdeal.τ).loc Cert.AppRefIdeal.main_arg0)
      ∧ r.2.mem ((c.tc : Thread Cert.AppRefIdeal.nD Cert.AppRefIdeal.τ).loc Cert.AppRefIdeal.main_arg1) = m ((c.tc : Thread Cert.AppRefIdeal.nD Cert.AppRefIdeal.τ).loc Cert.AppRefIdeal.main_arg1)
      ∧ r.2.mem ((c.tc : Thread Cert.AppRefIdeal.nD Cert.AppRefIdeal.τ).loc Cert.AppRefIdeal.main_arg2) = m ((c.tc : Thread Cert.AppRefIdeal.nD Cert.AppRefIdeal.τ).loc Cert.AppRefIdeal.main_arg2)
      ∧ r.2.mem ((c.tc : Thread Cert.AppRefIdeal.nD Cert.AppRefIdeal.τ).loc Cert.AppRefIdeal.main_arg3) = m ((c.tc : Thread Cert.AppRefIdeal.nD Cert.AppRefIdeal.τ).loc Cert.AppRefIdeal.main_arg3))
      ∧ r.2.sem = fun _ => 0)

def quiescent_Aconv [hAconv : Cert.Aconv.Facts] : Prop :=
  ∀ (m : (ℓ : Loc Cert.Aconv.nD Cert.Aconv.τ Cert.Aconv.sig) → Buf (Elt Bits) ℓ) (g : Dev Cert.Aconv.nD → PrngReg), Pre_Aconv m →
    θ_run (Cert.Aconv.defs (F := Bits)) (onTc (τ := Cert.Aconv.τ) (Cert.Aconv.main (F := Bits))) ⟨m, fun _ => 0, g⟩ (fun r => (∀ c : Dev Cert.Aconv.nD,
      r.2.mem ((c.tc : Thread Cert.Aconv.nD Cert.Aconv.τ).loc Cert.Aconv.main_arg0) = m ((c.tc : Thread Cert.Aconv.nD Cert.Aconv.τ).loc Cert.Aconv.main_arg0)
      ∧ r.2.mem ((c.tc : Thread Cert.Aconv.nD Cert.Aconv.τ).loc Cert.Aconv.main_arg1) = m ((c.tc : Thread Cert.Aconv.nD Cert.Aconv.τ).loc Cert.Aconv.main_arg1)
      ∧ r.2.mem ((c.tc : Thread Cert.Aconv.nD Cert.Aconv.τ).loc Cert.Aconv.main_arg2) = m ((c.tc : Thread Cert.Aconv.nD Cert.Aconv.τ).loc Cert.Aconv.main_arg2)
      ∧ r.2.mem ((c.tc : Thread Cert.Aconv.nD Cert.Aconv.τ).loc Cert.Aconv.main_arg3) = m ((c.tc : Thread Cert.Aconv.nD Cert.Aconv.τ).loc Cert.Aconv.main_arg3))
      ∧ r.2.sem = fun _ => 0)

def quiescent_AconvIdeal [hAconvIdeal : Cert.AconvIdeal.Facts] : Prop :=
  ∀ (m : (ℓ : Loc Cert.AconvIdeal.nD Cert.AconvIdeal.τ Cert.AconvIdeal.sig) → Buf (Elt Ideal) ℓ) (g : Dev Cert.AconvIdeal.nD → PrngReg), Pre_AconvIdeal m →
    θ_run (Cert.AconvIdeal.defs (F := Ideal)) (onTc (τ := Cert.AconvIdeal.τ) (Cert.AconvIdeal.main (F := Ideal))) ⟨m, fun _ => 0, g⟩ (fun r => (∀ c : Dev Cert.AconvIdeal.nD,
      r.2.mem ((c.tc : Thread Cert.AconvIdeal.nD Cert.AconvIdeal.τ).loc Cert.AconvIdeal.main_arg0) = m ((c.tc : Thread Cert.AconvIdeal.nD Cert.AconvIdeal.τ).loc Cert.AconvIdeal.main_arg0)
      ∧ r.2.mem ((c.tc : Thread Cert.AconvIdeal.nD Cert.AconvIdeal.τ).loc Cert.AconvIdeal.main_arg1) = m ((c.tc : Thread Cert.AconvIdeal.nD Cert.AconvIdeal.τ).loc Cert.AconvIdeal.main_arg1)
      ∧ r.2.mem ((c.tc : Thread Cert.AconvIdeal.nD Cert.AconvIdeal.τ).loc Cert.AconvIdeal.main_arg2) = m ((c.tc : Thread Cert.AconvIdeal.nD Cert.AconvIdeal.τ).loc Cert.AconvIdeal.main_arg2)
      ∧ r.2.mem ((c.tc : Thread Cert.AconvIdeal.nD Cert.AconvIdeal.τ).loc Cert.AconvIdeal.main_arg3) = m ((c.tc : Thread Cert.AconvIdeal.nD Cert.AconvIdeal.τ).loc Cert.AconvIdeal.main_arg3))
      ∧ r.2.sem = fun _ => 0)

def quiescent_AconvRefIdeal [hAconvRefIdeal : Cert.AconvRefIdeal.Facts] : Prop :=
  ∀ (m : (ℓ : Loc Cert.AconvRefIdeal.nD Cert.AconvRefIdeal.τ Cert.AconvRefIdeal.sig) → Buf (Elt Ideal) ℓ) (g : Dev Cert.AconvRefIdeal.nD → PrngReg), Pre_AconvRefIdeal m →
    θ_run (Cert.AconvRefIdeal.defs (F := Ideal)) (onTc (τ := Cert.AconvRefIdeal.τ) (Cert.AconvRefIdeal.main (F := Ideal))) ⟨m, fun _ => 0, g⟩ (fun r => (∀ c : Dev Cert.AconvRefIdeal.nD,
      r.2.mem ((c.tc : Thread Cert.AconvRefIdeal.nD Cert.AconvRefIdeal.τ).loc Cert.AconvRefIdeal.main_arg0) = m ((c.tc : Thread Cert.AconvRefIdeal.nD Cert.AconvRefIdeal.τ).loc Cert.AconvRefIdeal.main_arg0)
      ∧ r.2.mem ((c.tc : Thread Cert.AconvRefIdeal.nD Cert.AconvRefIdeal.τ).loc Cert.AconvRefIdeal.main_arg1) = m ((c.tc : Thread Cert.AconvRefIdeal.nD Cert.AconvRefIdeal.τ).loc Cert.AconvRefIdeal.main_arg1)
      ∧ r.2.mem ((c.tc : Thread Cert.AconvRefIdeal.nD Cert.AconvRefIdeal.τ).loc Cert.AconvRefIdeal.main_arg2) = m ((c.tc : Thread Cert.AconvRefIdeal.nD Cert.AconvRefIdeal.τ).loc Cert.AconvRefIdeal.main_arg2)
      ∧ r.2.mem ((c.tc : Thread Cert.AconvRefIdeal.nD Cert.AconvRefIdeal.τ).loc Cert.AconvRefIdeal.main_arg3) = m ((c.tc : Thread Cert.AconvRefIdeal.nD Cert.AconvRefIdeal.τ).loc Cert.AconvRefIdeal.main_arg3))
      ∧ r.2.sem = fun _ => 0)

def quiescent_Agmix [hAgmix : Cert.Agmix.Facts] : Prop :=
  ∀ (m : (ℓ : Loc Cert.Agmix.nD Cert.Agmix.τ Cert.Agmix.sig) → Buf (Elt Bits) ℓ) (g : Dev Cert.Agmix.nD → PrngReg), Pre_Agmix m →
    θ_run (Cert.Agmix.defs (F := Bits)) (onTc (τ := Cert.Agmix.τ) (Cert.Agmix.main (F := Bits))) ⟨m, fun _ => 0, g⟩ (fun r => (∀ c : Dev Cert.Agmix.nD,
      r.2.mem ((c.tc : Thread Cert.Agmix.nD Cert.Agmix.τ).loc Cert.Agmix.main_arg0) = m ((c.tc : Thread Cert.Agmix.nD Cert.Agmix.τ).loc Cert.Agmix.main_arg0)
      ∧ r.2.mem ((c.tc : Thread Cert.Agmix.nD Cert.Agmix.τ).loc Cert.Agmix.main_arg1) = m ((c.tc : Thread Cert.Agmix.nD Cert.Agmix.τ).loc Cert.Agmix.main_arg1)
      ∧ r.2.mem ((c.tc : Thread Cert.Agmix.nD Cert.Agmix.τ).loc Cert.Agmix.main_arg2) = m ((c.tc : Thread Cert.Agmix.nD Cert.Agmix.τ).loc Cert.Agmix.main_arg2)
      ∧ r.2.mem ((c.tc : Thread Cert.Agmix.nD Cert.Agmix.τ).loc Cert.Agmix.main_arg3) = m ((c.tc : Thread Cert.Agmix.nD Cert.Agmix.τ).loc Cert.Agmix.main_arg3))
      ∧ r.2.sem = fun _ => 0)

def quiescent_AgmixIdeal [hAgmixIdeal : Cert.AgmixIdeal.Facts] : Prop :=
  ∀ (m : (ℓ : Loc Cert.AgmixIdeal.nD Cert.AgmixIdeal.τ Cert.AgmixIdeal.sig) → Buf (Elt Ideal) ℓ) (g : Dev Cert.AgmixIdeal.nD → PrngReg), Pre_AgmixIdeal m →
    θ_run (Cert.AgmixIdeal.defs (F := Ideal)) (onTc (τ := Cert.AgmixIdeal.τ) (Cert.AgmixIdeal.main (F := Ideal))) ⟨m, fun _ => 0, g⟩ (fun r => (∀ c : Dev Cert.AgmixIdeal.nD,
      r.2.mem ((c.tc : Thread Cert.AgmixIdeal.nD Cert.AgmixIdeal.τ).loc Cert.AgmixIdeal.main_arg0) = m ((c.tc : Thread Cert.AgmixIdeal.nD Cert.AgmixIdeal.τ).loc Cert.AgmixIdeal.main_arg0)
      ∧ r.2.mem ((c.tc : Thread Cert.AgmixIdeal.nD Cert.AgmixIdeal.τ).loc Cert.AgmixIdeal.main_arg1) = m ((c.tc : Thread Cert.AgmixIdeal.nD Cert.AgmixIdeal.τ).loc Cert.AgmixIdeal.main_arg1)
      ∧ r.2.mem ((c.tc : Thread Cert.AgmixIdeal.nD Cert.AgmixIdeal.τ).loc Cert.AgmixIdeal.main_arg2) = m ((c.tc : Thread Cert.AgmixIdeal.nD Cert.AgmixIdeal.τ).loc Cert.AgmixIdeal.main_arg2)
      ∧ r.2.mem ((c.tc : Thread Cert.AgmixIdeal.nD Cert.AgmixIdeal.τ).loc Cert.AgmixIdeal.main_arg3) = m ((c.tc : Thread Cert.AgmixIdeal.nD Cert.AgmixIdeal.τ).loc Cert.AgmixIdeal.main_arg3))
      ∧ r.2.sem = fun _ => 0)

def quiescent_AgmixRefIdeal [hAgmixRefIdeal : Cert.AgmixRefIdeal.Facts] : Prop :=
  ∀ (m : (ℓ : Loc Cert.AgmixRefIdeal.nD Cert.AgmixRefIdeal.τ Cert.AgmixRefIdeal.sig) → Buf (Elt Ideal) ℓ) (g : Dev Cert.AgmixRefIdeal.nD → PrngReg), Pre_AgmixRefIdeal m →
    θ_run (Cert.AgmixRefIdeal.defs (F := Ideal)) (onTc (τ := Cert.AgmixRefIdeal.τ) (Cert.AgmixRefIdeal.main (F := Ideal))) ⟨m, fun _ => 0, g⟩ (fun r => (∀ c : Dev Cert.AgmixRefIdeal.nD,
      r.2.mem ((c.tc : Thread Cert.AgmixRefIdeal.nD Cert.AgmixRefIdeal.τ).loc Cert.AgmixRefIdeal.main_arg0) = m ((c.tc : Thread Cert.AgmixRefIdeal.nD Cert.AgmixRefIdeal.τ).loc Cert.AgmixRefIdeal.main_arg0)
      ∧ r.2.mem ((c.tc : Thread Cert.AgmixRefIdeal.nD Cert.AgmixRefIdeal.τ).loc Cert.AgmixRefIdeal.main_arg1) = m ((c.tc : Thread Cert.AgmixRefIdeal.nD Cert.AgmixRefIdeal.τ).loc Cert.AgmixRefIdeal.main_arg1)
      ∧ r.2.mem ((c.tc : Thread Cert.AgmixRefIdeal.nD Cert.AgmixRefIdeal.τ).loc Cert.AgmixRefIdeal.main_arg2) = m ((c.tc : Thread Cert.AgmixRefIdeal.nD Cert.AgmixRefIdeal.τ).loc Cert.AgmixRefIdeal.main_arg2)
      ∧ r.2.mem ((c.tc : Thread Cert.AgmixRefIdeal.nD Cert.AgmixRefIdeal.τ).loc Cert.AgmixRefIdeal.main_arg3) = m ((c.tc : Thread Cert.AgmixRefIdeal.nD Cert.AgmixRefIdeal.τ).loc Cert.AgmixRefIdeal.main_arg3))
      ∧ r.2.sem = fun _ => 0)

def quiescent_Asmall [hAsmall : Cert.Asmall.Facts] : Prop :=
  ∀ (m : (ℓ : Loc Cert.Asmall.nD Cert.Asmall.τ Cert.Asmall.sig) → Buf (Elt Bits) ℓ) (g : Dev Cert.Asmall.nD → PrngReg), Pre_Asmall m →
    θ_run (Cert.Asmall.defs (F := Bits)) (onTc (τ := Cert.Asmall.τ) (Cert.Asmall.main (F := Bits))) ⟨m, fun _ => 0, g⟩ (fun r => (∀ c : Dev Cert.Asmall.nD,
      r.2.mem ((c.tc : Thread Cert.Asmall.nD Cert.Asmall.τ).loc Cert.Asmall.main_arg0) = m ((c.tc : Thread Cert.Asmall.nD Cert.Asmall.τ).loc Cert.Asmall.main_arg0)
      ∧ r.2.mem ((c.tc : Thread Cert.Asmall.nD Cert.Asmall.τ).loc Cert.Asmall.main_arg1) = m ((c.tc : Thread Cert.Asmall.nD Cert.Asmall.τ).loc Cert.Asmall.main_arg1)
      ∧ r.2.mem ((c.tc : Thread Cert.Asmall.nD Cert.Asmall.τ).loc Cert.Asmall.main_arg2) = m ((c.tc : Thread Cert.Asmall.nD Cert.Asmall.τ).loc Cert.Asmall.main_arg2)
      ∧ r.2.mem ((c.tc : Thread Cert.Asmall.nD Cert.Asmall.τ).loc Cert.Asmall.main_arg3) = m ((c.tc : Thread Cert.Asmall.nD Cert.Asmall.τ).loc Cert.Asmall.main_arg3))
      ∧ r.2.sem = fun _ => 0)

def quiescent_AsmallIdeal [hAsmallIdeal : Cert.AsmallIdeal.Facts] : Prop :=
  ∀ (m : (ℓ : Loc Cert.AsmallIdeal.nD Cert.AsmallIdeal.τ Cert.AsmallIdeal.sig) → Buf (Elt Ideal) ℓ) (g : Dev Cert.AsmallIdeal.nD → PrngReg), Pre_AsmallIdeal m →
    θ_run (Cert.AsmallIdeal.defs (F := Ideal)) (onTc (τ := Cert.AsmallIdeal.τ) (Cert.AsmallIdeal.main (F := Ideal))) ⟨m, fun _ => 0, g⟩ (fun r => (∀ c : Dev Cert.AsmallIdeal.nD,
      r.2.mem ((c.tc : Thread Cert.AsmallIdeal.nD Cert.AsmallIdeal.τ).loc Cert.AsmallIdeal.main_arg0) = m ((c.tc : Thread Cert.AsmallIdeal.nD Cert.AsmallIdeal.τ).loc Cert.AsmallIdeal.main_arg0)
      ∧ r.2.mem ((c.tc : Thread Cert.AsmallIdeal.nD Cert.AsmallIdeal.τ).loc Cert.AsmallIdeal.main_arg1) = m ((c.tc : Thread Cert.AsmallIdeal.nD Cert.AsmallIdeal.τ).loc Cert.AsmallIdeal.main_arg1)
      ∧ r.2.mem ((c.tc : Thread Cert.AsmallIdeal.nD Cert.AsmallIdeal.τ).loc Cert.AsmallIdeal.main_arg2) = m ((c.tc : Thread Cert.AsmallIdeal.nD Cert.AsmallIdeal.τ).loc Cert.AsmallIdeal.main_arg2)
      ∧ r.2.mem ((c.tc : Thread Cert.AsmallIdeal.nD Cert.AsmallIdeal.τ).loc Cert.AsmallIdeal.main_arg3) = m ((c.tc : Thread Cert.AsmallIdeal.nD Cert.AsmallIdeal.τ).loc Cert.AsmallIdeal.main_arg3))
      ∧ r.2.sem = fun _ => 0)

def quiescent_AsmallRefIdeal [hAsmallRefIdeal : Cert.AsmallRefIdeal.Facts] : Prop :=
  ∀ (m : (ℓ : Loc Cert.AsmallRefIdeal.nD Cert.AsmallRefIdeal.τ Cert.AsmallRefIdeal.sig) → Buf (Elt Ideal) ℓ) (g : Dev Cert.AsmallRefIdeal.nD → PrngReg), Pre_AsmallRefIdeal m →
    θ_run (Cert.AsmallRefIdeal.defs (F := Ideal)) (onTc (τ := Cert.AsmallRefIdeal.τ) (Cert.AsmallRefIdeal.main (F := Ideal))) ⟨m, fun _ => 0, g⟩ (fun r => (∀ c : Dev Cert.AsmallRefIdeal.nD,
      r.2.mem ((c.tc : Thread Cert.AsmallRefIdeal.nD Cert.AsmallRefIdeal.τ).loc Cert.AsmallRefIdeal.main_arg0) = m ((c.tc : Thread Cert.AsmallRefIdeal.nD Cert.AsmallRefIdeal.τ).loc Cert.AsmallRefIdeal.main_arg0)
      ∧ r.2.mem ((c.tc : Thread Cert.AsmallRefIdeal.nD Cert.AsmallRefIdeal.τ).loc Cert.AsmallRefIdeal.main_arg1) = m ((c.tc : Thread Cert.AsmallRefIdeal.nD Cert.AsmallRefIdeal.τ).loc Cert.AsmallRefIdeal.main_arg1)
      ∧ r.2.mem ((c.tc : Thread Cert.AsmallRefIdeal.nD Cert.AsmallRefIdeal.τ).loc Cert.AsmallRefIdeal.main_arg2) = m ((c.tc : Thread Cert.AsmallRefIdeal.nD Cert.AsmallRefIdeal.τ).loc Cert.AsmallRefIdeal.main_arg2)
      ∧ r.2.mem ((c.tc : Thread Cert.AsmallRefIdeal.nD Cert.AsmallRefIdeal.τ).loc Cert.AsmallRefIdeal.main_arg3) = m ((c.tc : Thread Cert.AsmallRefIdeal.nD Cert.AsmallRefIdeal.τ).loc Cert.AsmallRefIdeal.main_arg3))
      ∧ r.2.sem = fun _ => 0)

def quiescent_Fh [hFh : Cert.Fh.Facts] : Prop :=
  ∀ (m : (ℓ : Loc Cert.Fh.nD Cert.Fh.τ Cert.Fh.sig) → Buf (Elt Bits) ℓ) (g : Dev Cert.Fh.nD → PrngReg), Pre_Fh m →
    θ_run (Cert.Fh.defs (F := Bits)) (onTc (τ := Cert.Fh.τ) (Cert.Fh.main (F := Bits))) ⟨m, fun _ => 0, g⟩ (fun r => (∀ c : Dev Cert.Fh.nD,
      r.2.mem ((c.tc : Thread Cert.Fh.nD Cert.Fh.τ).loc Cert.Fh.main_arg0) = m ((c.tc : Thread Cert.Fh.nD Cert.Fh.τ).loc Cert.Fh.main_arg0)
      ∧ r.2.mem ((c.tc : Thread Cert.Fh.nD Cert.Fh.τ).loc Cert.Fh.main_arg1) = m ((c.tc : Thread Cert.Fh.nD Cert.Fh.τ).loc Cert.Fh.main_arg1)
      ∧ r.2.mem ((c.tc : Thread Cert.Fh.nD Cert.Fh.τ).loc Cert.Fh.main_arg2) = m ((c.tc : Thread Cert.Fh.nD Cert.Fh.τ).loc Cert.Fh.main_arg2))
      ∧ r.2.sem = fun _ => 0)

def quiescent_FhIdeal [hFhIdeal : Cert.FhIdeal.Facts] : Prop :=
  ∀ (m : (ℓ : Loc Cert.FhIdeal.nD Cert.FhIdeal.τ Cert.FhIdeal.sig) → Buf (Elt Ideal) ℓ) (g : Dev Cert.FhIdeal.nD → PrngReg), Pre_FhIdeal m →
    θ_run (Cert.FhIdeal.defs (F := Ideal)) (onTc (τ := Cert.FhIdeal.τ) (Cert.FhIdeal.main (F := Ideal))) ⟨m, fun _ => 0, g⟩ (fun r => (∀ c : Dev Cert.FhIdeal.nD,
      r.2.mem ((c.tc : Thread Cert.FhIdeal.nD Cert.FhIdeal.τ).loc Cert.FhIdeal.main_arg0) = m ((c.tc : Thread Cert.FhIdeal.nD Cert.FhIdeal.τ).loc Cert.FhIdeal.main_arg0)
      ∧ r.2.mem ((c.tc : Thread Cert.FhIdeal.nD Cert.FhIdeal.τ).loc Cert.FhIdeal.main_arg1) = m ((c.tc : Thread Cert.FhIdeal.nD Cert.FhIdeal.τ).loc Cert.FhIdeal.main_arg1)
      ∧ r.2.mem ((c.tc : Thread Cert.FhIdeal.nD Cert.FhIdeal.τ).loc Cert.FhIdeal.main_arg2) = m ((c.tc : Thread Cert.FhIdeal.nD Cert.FhIdeal.τ).loc Cert.FhIdeal.main_arg2))
      ∧ r.2.sem = fun _ => 0)

def quiescent_FhRefIdeal [hFhRefIdeal : Cert.FhRefIdeal.Facts] : Prop :=
  ∀ (m : (ℓ : Loc Cert.FhRefIdeal.nD Cert.FhRefIdeal.τ Cert.FhRefIdeal.sig) → Buf (Elt Ideal) ℓ) (g : Dev Cert.FhRefIdeal.nD → PrngReg), Pre_FhRefIdeal m →
    θ_run (Cert.FhRefIdeal.defs (F := Ideal)) (onTc (τ := Cert.FhRefIdeal.τ) (Cert.FhRefIdeal.main (F := Ideal))) ⟨m, fun _ => 0, g⟩ (fun r => (∀ c : Dev Cert.FhRefIdeal.nD,
      r.2.mem ((c.tc : Thread Cert.FhRefIdeal.nD Cert.FhRefIdeal.τ).loc Cert.FhRefIdeal.main_arg0) = m ((c.tc : Thread Cert.FhRefIdeal.nD Cert.FhRefIdeal.τ).loc Cert.FhRefIdeal.main_arg0)
      ∧ r.2.mem ((c.tc : Thread Cert.FhRefIdeal.nD Cert.FhRefIdeal.τ).loc Cert.FhRefIdeal.main_arg1) = m ((c.tc : Thread Cert.FhRefIdeal.nD Cert.FhRefIdeal.τ).loc Cert.FhRefIdeal.main_arg1)
      ∧ r.2.mem ((c.tc : Thread Cert.FhRefIdeal.nD Cert.FhRefIdeal.τ).loc Cert.FhRefIdeal.main_arg2) = m ((c.tc : Thread Cert.FhRefIdeal.nD Cert.FhRefIdeal.τ).loc Cert.FhRefIdeal.main_arg2))
      ∧ r.2.sem = fun _ => 0)

def quiescent_Rf [hRf : Cert.Rf.Facts] : Prop :=
  ∀ (m : (ℓ : Loc Cert.Rf.nD Cert.Rf.τ Cert.Rf.sig) → Buf (Elt Bits) ℓ) (g : Dev Cert.Rf.nD → PrngReg), Pre_Rf m →
    θ_run (Cert.Rf.defs (F := Bits)) (onTc (τ := Cert.Rf.τ) (Cert.Rf.main (F := Bits))) ⟨m, fun _ => 0, g⟩ (fun r => (∀ c : Dev Cert.Rf.nD,
      r.2.mem ((c.tc : Thread Cert.Rf.nD Cert.Rf.τ).loc Cert.Rf.main_arg0) = m ((c.tc : Thread Cert.Rf.nD Cert.Rf.τ).loc Cert.Rf.main_arg0)
      ∧ r.2.mem ((c.tc : Thread Cert.Rf.nD Cert.Rf.τ).loc Cert.Rf.main_arg1) = m ((c.tc : Thread Cert.Rf.nD Cert.Rf.τ).loc Cert.Rf.main_arg1)
      ∧ r.2.mem ((c.tc : Thread Cert.Rf.nD Cert.Rf.τ).loc Cert.Rf.main_arg2) = m ((c.tc : Thread Cert.Rf.nD Cert.Rf.τ).loc Cert.Rf.main_arg2)
      ∧ r.2.mem ((c.tc : Thread Cert.Rf.nD Cert.Rf.τ).loc Cert.Rf.main_arg3) = m ((c.tc : Thread Cert.Rf.nD Cert.Rf.τ).loc Cert.Rf.main_arg3)
      ∧ r.2.mem ((c.tc : Thread Cert.Rf.nD Cert.Rf.τ).loc Cert.Rf.main_arg4) = m ((c.tc : Thread Cert.Rf.nD Cert.Rf.τ).loc Cert.Rf.main_arg4)
      ∧ r.2.mem ((c.tc : Thread Cert.Rf.nD Cert.Rf.τ).loc Cert.Rf.main_arg5) = m ((c.tc : Thread Cert.Rf.nD Cert.Rf.τ).loc Cert.Rf.main_arg5)
      ∧ r.2.mem ((c.tc : Thread Cert.Rf.nD Cert.Rf.τ).loc Cert.Rf.main_arg6) = m ((c.tc : Thread Cert.Rf.nD Cert.Rf.τ).loc Cert.Rf.main_arg6)
      ∧ r.2.mem ((c.tc : Thread Cert.Rf.nD Cert.Rf.τ).loc Cert.Rf.main_arg7) = m ((c.tc : Thread Cert.Rf.nD Cert.Rf.τ).loc Cert.Rf.main_arg7))
      ∧ r.2.sem = fun _ => 0)

def quiescent_RfIdeal [hRfIdeal : Cert.RfIdeal.Facts] : Prop :=
  ∀ (m : (ℓ : Loc Cert.RfIdeal.nD Cert.RfIdeal.τ Cert.RfIdeal.sig) → Buf (Elt Ideal) ℓ) (g : Dev Cert.RfIdeal.nD → PrngReg), Pre_RfIdeal m →
    θ_run (Cert.RfIdeal.defs (F := Ideal)) (onTc (τ := Cert.RfIdeal.τ) (Cert.RfIdeal.main (F := Ideal))) ⟨m, fun _ => 0, g⟩ (fun r => (∀ c : Dev Cert.RfIdeal.nD,
      r.2.mem ((c.tc : Thread Cert.RfIdeal.nD Cert.RfIdeal.τ).loc Cert.RfIdeal.main_arg0) = m ((c.tc : Thread Cert.RfIdeal.nD Cert.RfIdeal.τ).loc Cert.RfIdeal.main_arg0)
      ∧ r.2.mem ((c.tc : Thread Cert.RfIdeal.nD Cert.RfIdeal.τ).loc Cert.RfIdeal.main_arg1) = m ((c.tc : Thread Cert.RfIdeal.nD Cert.RfIdeal.τ).loc Cert.RfIdeal.main_arg1)
      ∧ r.2.mem ((c.tc : Thread Cert.RfIdeal.nD Cert.RfIdeal.τ).loc Cert.RfIdeal.main_arg2) = m ((c.tc : Thread Cert.RfIdeal.nD Cert.RfIdeal.τ).loc Cert.RfIdeal.main_arg2)
      ∧ r.2.mem ((c.tc : Thread Cert.RfIdeal.nD Cert.RfIdeal.τ).loc Cert.RfIdeal.main_arg3) = m ((c.tc : Thread Cert.RfIdeal.nD Cert.RfIdeal.τ).loc Cert.RfIdeal.main_arg3)
      ∧ r.2.mem ((c.tc : Thread Cert.RfIdeal.nD Cert.RfIdeal.τ).loc Cert.RfIdeal.main_arg4) = m ((c.tc : Thread Cert.RfIdeal.nD Cert.RfIdeal.τ).loc Cert.RfIdeal.main_arg4)
      ∧ r.2.mem ((c.tc : Thread Cert.RfIdeal.nD Cert.RfIdeal.τ).loc Cert.RfIdeal.main_arg5) = m ((c.tc : Thread Cert.RfIdeal.nD Cert.RfIdeal.τ).loc Cert.RfIdeal.main_arg5)
      ∧ r.2.mem ((c.tc : Thread Cert.RfIdeal.nD Cert.RfIdeal.τ).loc Cert.RfIdeal.main_arg6) = m ((c.tc : Thread Cert.RfIdeal.nD Cert.RfIdeal.τ).loc Cert.RfIdeal.main_arg6)
      ∧ r.2.mem ((c.tc : Thread Cert.RfIdeal.nD Cert.RfIdeal.τ).loc Cert.RfIdeal.main_arg7) = m ((c.tc : Thread Cert.RfIdeal.nD Cert.RfIdeal.τ).loc Cert.RfIdeal.main_arg7))
      ∧ r.2.sem = fun _ => 0)

def quiescent_RfIdeal_pre_rnn_decays [hRfIdeal : Cert.RfIdeal.Facts] [hPre_rnn_decays : Cert.Pre_rnn_decays.Facts] : Prop :=
  ∀ (m : (ℓ : Loc Cert.RfIdeal.nD Cert.RfIdeal.τ Cert.RfIdeal.sig) → Buf (Elt Ideal) ℓ) (g : Dev Cert.RfIdeal.nD → PrngReg), Pre_RfIdeal_rnn_decays m →
    θ_run (Cert.RfIdeal.defs (F := Ideal)) (onTc (τ := Cert.RfIdeal.τ) (Cert.RfIdeal.main (F := Ideal))) ⟨m, fun _ => 0, g⟩ (fun r => (∀ c : Dev Cert.RfIdeal.nD,
      r.2.mem ((c.tc : Thread Cert.RfIdeal.nD Cert.RfIdeal.τ).loc Cert.RfIdeal.main_arg0) = m ((c.tc : Thread Cert.RfIdeal.nD Cert.RfIdeal.τ).loc Cert.RfIdeal.main_arg0)
      ∧ r.2.mem ((c.tc : Thread Cert.RfIdeal.nD Cert.RfIdeal.τ).loc Cert.RfIdeal.main_arg1) = m ((c.tc : Thread Cert.RfIdeal.nD Cert.RfIdeal.τ).loc Cert.RfIdeal.main_arg1)
      ∧ r.2.mem ((c.tc : Thread Cert.RfIdeal.nD Cert.RfIdeal.τ).loc Cert.RfIdeal.main_arg2) = m ((c.tc : Thread Cert.RfIdeal.nD Cert.RfIdeal.τ).loc Cert.RfIdeal.main_arg2)
      ∧ r.2.mem ((c.tc : Thread Cert.RfIdeal.nD Cert.RfIdeal.τ).loc Cert.RfIdeal.main_arg3) = m ((c.tc : Thread Cert.RfIdeal.nD Cert.RfIdeal.τ).loc Cert.RfIdeal.main_arg3)
      ∧ r.2.mem ((c.tc : Thread Cert.RfIdeal.nD Cert.RfIdeal.τ).loc Cert.RfIdeal.main_arg4) = m ((c.tc : Thread Cert.RfIdeal.nD Cert.RfIdeal.τ).loc Cert.RfIdeal.main_arg4)
      ∧ r.2.mem ((c.tc : Thread Cert.RfIdeal.nD Cert.RfIdeal.τ).loc Cert.RfIdeal.main_arg5) = m ((c.tc : Thread Cert.RfIdeal.nD Cert.RfIdeal.τ).loc Cert.RfIdeal.main_arg5)
      ∧ r.2.mem ((c.tc : Thread Cert.RfIdeal.nD Cert.RfIdeal.τ).loc Cert.RfIdeal.main_arg6) = m ((c.tc : Thread Cert.RfIdeal.nD Cert.RfIdeal.τ).loc Cert.RfIdeal.main_arg6)
      ∧ r.2.mem ((c.tc : Thread Cert.RfIdeal.nD Cert.RfIdeal.τ).loc Cert.RfIdeal.main_arg7) = m ((c.tc : Thread Cert.RfIdeal.nD Cert.RfIdeal.τ).loc Cert.RfIdeal.main_arg7))
      ∧ r.2.sem = fun _ => 0)

def quiescent_RfRefIdeal [hRfRefIdeal : Cert.RfRefIdeal.Facts] : Prop :=
  ∀ (m : (ℓ : Loc Cert.RfRefIdeal.nD Cert.RfRefIdeal.τ Cert.RfRefIdeal.sig) → Buf (Elt Ideal) ℓ) (g : Dev Cert.RfRefIdeal.nD → PrngReg), Pre_RfRefIdeal m →
    θ_run (Cert.RfRefIdeal.defs (F := Ideal)) (onTc (τ := Cert.RfRefIdeal.τ) (Cert.RfRefIdeal.main (F := Ideal))) ⟨m, fun _ => 0, g⟩ (fun r => (∀ c : Dev Cert.RfRefIdeal.nD,
      r.2.mem ((c.tc : Thread Cert.RfRefIdeal.nD Cert.RfRefIdeal.τ).loc Cert.RfRefIdeal.main_arg0) = m ((c.tc : Thread Cert.RfRefIdeal.nD Cert.RfRefIdeal.τ).loc Cert.RfRefIdeal.main_arg0)
      ∧ r.2.mem ((c.tc : Thread Cert.RfRefIdeal.nD Cert.RfRefIdeal.τ).loc Cert.RfRefIdeal.main_arg1) = m ((c.tc : Thread Cert.RfRefIdeal.nD Cert.RfRefIdeal.τ).loc Cert.RfRefIdeal.main_arg1)
      ∧ r.2.mem ((c.tc : Thread Cert.RfRefIdeal.nD Cert.RfRefIdeal.τ).loc Cert.RfRefIdeal.main_arg2) = m ((c.tc : Thread Cert.RfRefIdeal.nD Cert.RfRefIdeal.τ).loc Cert.RfRefIdeal.main_arg2)
      ∧ r.2.mem ((c.tc : Thread Cert.RfRefIdeal.nD Cert.RfRefIdeal.τ).loc Cert.RfRefIdeal.main_arg3) = m ((c.tc : Thread Cert.RfRefIdeal.nD Cert.RfRefIdeal.τ).loc Cert.RfRefIdeal.main_arg3)
      ∧ r.2.mem ((c.tc : Thread Cert.RfRefIdeal.nD Cert.RfRefIdeal.τ).loc Cert.RfRefIdeal.main_arg4) = m ((c.tc : Thread Cert.RfRefIdeal.nD Cert.RfRefIdeal.τ).loc Cert.RfRefIdeal.main_arg4)
      ∧ r.2.mem ((c.tc : Thread Cert.RfRefIdeal.nD Cert.RfRefIdeal.τ).loc Cert.RfRefIdeal.main_arg5) = m ((c.tc : Thread Cert.RfRefIdeal.nD Cert.RfRefIdeal.τ).loc Cert.RfRefIdeal.main_arg5)
      ∧ r.2.mem ((c.tc : Thread Cert.RfRefIdeal.nD Cert.RfRefIdeal.τ).loc Cert.RfRefIdeal.main_arg6) = m ((c.tc : Thread Cert.RfRefIdeal.nD Cert.RfRefIdeal.τ).loc Cert.RfRefIdeal.main_arg6)
      ∧ r.2.mem ((c.tc : Thread Cert.RfRefIdeal.nD Cert.RfRefIdeal.τ).loc Cert.RfRefIdeal.main_arg7) = m ((c.tc : Thread Cert.RfRefIdeal.nD Cert.RfRefIdeal.τ).loc Cert.RfRefIdeal.main_arg7))
      ∧ r.2.sem = fun _ => 0)

def quiescent_RfRefIdeal_pre_rnn_decays [hRfRefIdeal : Cert.RfRefIdeal.Facts] [hPre_rnn_decays : Cert.Pre_rnn_decays.Facts] : Prop :=
  ∀ (m : (ℓ : Loc Cert.RfRefIdeal.nD Cert.RfRefIdeal.τ Cert.RfRefIdeal.sig) → Buf (Elt Ideal) ℓ) (g : Dev Cert.RfRefIdeal.nD → PrngReg), Pre_RfRefIdeal_rnn_decays m →
    θ_run (Cert.RfRefIdeal.defs (F := Ideal)) (onTc (τ := Cert.RfRefIdeal.τ) (Cert.RfRefIdeal.main (F := Ideal))) ⟨m, fun _ => 0, g⟩ (fun r => (∀ c : Dev Cert.RfRefIdeal.nD,
      r.2.mem ((c.tc : Thread Cert.RfRefIdeal.nD Cert.RfRefIdeal.τ).loc Cert.RfRefIdeal.main_arg0) = m ((c.tc : Thread Cert.RfRefIdeal.nD Cert.RfRefIdeal.τ).loc Cert.RfRefIdeal.main_arg0)
      ∧ r.2.mem ((c.tc : Thread Cert.RfRefIdeal.nD Cert.RfRefIdeal.τ).loc Cert.RfRefIdeal.main_arg1) = m ((c.tc : Thread Cert.RfRefIdeal.nD Cert.RfRefIdeal.τ).loc Cert.RfRefIdeal.main_arg1)
      ∧ r.2.mem ((c.tc : Thread Cert.RfRefIdeal.nD Cert.RfRefIdeal.τ).loc Cert.RfRefIdeal.main_arg2) = m ((c.tc : Thread Cert.RfRefIdeal.nD Cert.RfRefIdeal.τ).loc Cert.RfRefIdeal.main_arg2)
      ∧ r.2.mem ((c.tc : Thread Cert.RfRefIdeal.nD Cert.RfRefIdeal.τ).loc Cert.RfRefIdeal.main_arg3) = m ((c.tc : Thread Cert.RfRefIdeal.nD Cert.RfRefIdeal.τ).loc Cert.RfRefIdeal.main_arg3)
      ∧ r.2.mem ((c.tc : Thread Cert.RfRefIdeal.nD Cert.RfRefIdeal.τ).loc Cert.RfRefIdeal.main_arg4) = m ((c.tc : Thread Cert.RfRefIdeal.nD Cert.RfRefIdeal.τ).loc Cert.RfRefIdeal.main_arg4)
      ∧ r.2.mem ((c.tc : Thread Cert.RfRefIdeal.nD Cert.RfRefIdeal.τ).loc Cert.RfRefIdeal.main_arg5) = m ((c.tc : Thread Cert.RfRefIdeal.nD Cert.RfRefIdeal.τ).loc Cert.RfRefIdeal.main_arg5)
      ∧ r.2.mem ((c.tc : Thread Cert.RfRefIdeal.nD Cert.RfRefIdeal.τ).loc Cert.RfRefIdeal.main_arg6) = m ((c.tc : Thread Cert.RfRefIdeal.nD Cert.RfRefIdeal.τ).loc Cert.RfRefIdeal.main_arg6)
      ∧ r.2.mem ((c.tc : Thread Cert.RfRefIdeal.nD Cert.RfRefIdeal.τ).loc Cert.RfRefIdeal.main_arg7) = m ((c.tc : Thread Cert.RfRefIdeal.nD Cert.RfRefIdeal.τ).loc Cert.RfRefIdeal.main_arg7))
      ∧ r.2.sem = fun _ => 0)

def quiescent_Rb [hRb : Cert.Rb.Facts] : Prop :=
  ∀ (m : (ℓ : Loc Cert.Rb.nD Cert.Rb.τ Cert.Rb.sig) → Buf (Elt Bits) ℓ) (g : Dev Cert.Rb.nD → PrngReg), Pre_Rb m →
    θ_run (Cert.Rb.defs (F := Bits)) (onTc (τ := Cert.Rb.τ) (Cert.Rb.main (F := Bits))) ⟨m, fun _ => 0, g⟩ (fun r => (∀ c : Dev Cert.Rb.nD,
      r.2.mem ((c.tc : Thread Cert.Rb.nD Cert.Rb.τ).loc Cert.Rb.main_arg0) = m ((c.tc : Thread Cert.Rb.nD Cert.Rb.τ).loc Cert.Rb.main_arg0)
      ∧ r.2.mem ((c.tc : Thread Cert.Rb.nD Cert.Rb.τ).loc Cert.Rb.main_arg1) = m ((c.tc : Thread Cert.Rb.nD Cert.Rb.τ).loc Cert.Rb.main_arg1)
      ∧ r.2.mem ((c.tc : Thread Cert.Rb.nD Cert.Rb.τ).loc Cert.Rb.main_arg2) = m ((c.tc : Thread Cert.Rb.nD Cert.Rb.τ).loc Cert.Rb.main_arg2)
      ∧ r.2.mem ((c.tc : Thread Cert.Rb.nD Cert.Rb.τ).loc Cert.Rb.main_arg3) = m ((c.tc : Thread Cert.Rb.nD Cert.Rb.τ).loc Cert.Rb.main_arg3)
      ∧ r.2.mem ((c.tc : Thread Cert.Rb.nD Cert.Rb.τ).loc Cert.Rb.main_arg4) = m ((c.tc : Thread Cert.Rb.nD Cert.Rb.τ).loc Cert.Rb.main_arg4)
      ∧ r.2.mem ((c.tc : Thread Cert.Rb.nD Cert.Rb.τ).loc Cert.Rb.main_arg5) = m ((c.tc : Thread Cert.Rb.nD Cert.Rb.τ).loc Cert.Rb.main_arg5)
      ∧ r.2.mem ((c.tc : Thread Cert.Rb.nD Cert.Rb.τ).loc Cert.Rb.main_arg6) = m ((c.tc : Thread Cert.Rb.nD Cert.Rb.τ).loc Cert.Rb.main_arg6)
      ∧ r.2.mem ((c.tc : Thread Cert.Rb.nD Cert.Rb.τ).loc Cert.Rb.main_arg7) = m ((c.tc : Thread Cert.Rb.nD Cert.Rb.τ).loc Cert.Rb.main_arg7)
      ∧ r.2.mem ((c.tc : Thread Cert.Rb.nD Cert.Rb.τ).loc Cert.Rb.main_arg8) = m ((c.tc : Thread Cert.Rb.nD Cert.Rb.τ).loc Cert.Rb.main_arg8)
      ∧ r.2.mem ((c.tc : Thread Cert.Rb.nD Cert.Rb.τ).loc Cert.Rb.main_arg9) = m ((c.tc : Thread Cert.Rb.nD Cert.Rb.τ).loc Cert.Rb.main_arg9))
      ∧ r.2.sem = fun _ => 0)

def quiescent_RbIdeal [hRbIdeal : Cert.RbIdeal.Facts] : Prop :=
  ∀ (m : (ℓ : Loc Cert.RbIdeal.nD Cert.RbIdeal.τ Cert.RbIdeal.sig) → Buf (Elt Ideal) ℓ) (g : Dev Cert.RbIdeal.nD → PrngReg), Pre_RbIdeal m →
    θ_run (Cert.RbIdeal.defs (F := Ideal)) (onTc (τ := Cert.RbIdeal.τ) (Cert.RbIdeal.main (F := Ideal))) ⟨m, fun _ => 0, g⟩ (fun r => (∀ c : Dev Cert.RbIdeal.nD,
      r.2.mem ((c.tc : Thread Cert.RbIdeal.nD Cert.RbIdeal.τ).loc Cert.RbIdeal.main_arg0) = m ((c.tc : Thread Cert.RbIdeal.nD Cert.RbIdeal.τ).loc Cert.RbIdeal.main_arg0)
      ∧ r.2.mem ((c.tc : Thread Cert.RbIdeal.nD Cert.RbIdeal.τ).loc Cert.RbIdeal.main_arg1) = m ((c.tc : Thread Cert.RbIdeal.nD Cert.RbIdeal.τ).loc Cert.RbIdeal.main_arg1)
      ∧ r.2.mem ((c.tc : Thread Cert.RbIdeal.nD Cert.RbIdeal.τ).loc Cert.RbIdeal.main_arg2) = m ((c.tc : Thread Cert.RbIdeal.nD Cert.RbIdeal.τ).loc Cert.RbIdeal.main_arg2)
      ∧ r.2.mem ((c.tc : Thread Cert.RbIdeal.nD Cert.RbIdeal.τ).loc Cert.RbIdeal.main_arg3) = m ((c.tc : Thread Cert.RbIdeal.nD Cert.RbIdeal.τ).loc Cert.RbIdeal.main_arg3)
      ∧ r.2.mem ((c.tc : Thread Cert.RbIdeal.nD Cert.RbIdeal.τ).loc Cert.RbIdeal.main_arg4) = m ((c.tc : Thread Cert.RbIdeal.nD Cert.RbIdeal.τ).loc Cert.RbIdeal.main_arg4)
      ∧ r.2.mem ((c.tc : Thread Cert.RbIdeal.nD Cert.RbIdeal.τ).loc Cert.RbIdeal.main_arg5) = m ((c.tc : Thread Cert.RbIdeal.nD Cert.RbIdeal.τ).loc Cert.RbIdeal.main_arg5)
      ∧ r.2.mem ((c.tc : Thread Cert.RbIdeal.nD Cert.RbIdeal.τ).loc Cert.RbIdeal.main_arg6) = m ((c.tc : Thread Cert.RbIdeal.nD Cert.RbIdeal.τ).loc Cert.RbIdeal.main_arg6)
      ∧ r.2.mem ((c.tc : Thread Cert.RbIdeal.nD Cert.RbIdeal.τ).loc Cert.RbIdeal.main_arg7) = m ((c.tc : Thread Cert.RbIdeal.nD Cert.RbIdeal.τ).loc Cert.RbIdeal.main_arg7)
      ∧ r.2.mem ((c.tc : Thread Cert.RbIdeal.nD Cert.RbIdeal.τ).loc Cert.RbIdeal.main_arg8) = m ((c.tc : Thread Cert.RbIdeal.nD Cert.RbIdeal.τ).loc Cert.RbIdeal.main_arg8)
      ∧ r.2.mem ((c.tc : Thread Cert.RbIdeal.nD Cert.RbIdeal.τ).loc Cert.RbIdeal.main_arg9) = m ((c.tc : Thread Cert.RbIdeal.nD Cert.RbIdeal.τ).loc Cert.RbIdeal.main_arg9))
      ∧ r.2.sem = fun _ => 0)

def quiescent_RbIdeal_pre_gate_finite [hRbIdeal : Cert.RbIdeal.Facts] [hPre_gate_finite : Cert.Pre_gate_finite.Facts] : Prop :=
  ∀ (m : (ℓ : Loc Cert.RbIdeal.nD Cert.RbIdeal.τ Cert.RbIdeal.sig) → Buf (Elt Ideal) ℓ) (g : Dev Cert.RbIdeal.nD → PrngReg), Pre_RbIdeal_gate_finite m →
    θ_run (Cert.RbIdeal.defs (F := Ideal)) (onTc (τ := Cert.RbIdeal.τ) (Cert.RbIdeal.main (F := Ideal))) ⟨m, fun _ => 0, g⟩ (fun r => (∀ c : Dev Cert.RbIdeal.nD,
      r.2.mem ((c.tc : Thread Cert.RbIdeal.nD Cert.RbIdeal.τ).loc Cert.RbIdeal.main_arg0) = m ((c.tc : Thread Cert.RbIdeal.nD Cert.RbIdeal.τ).loc Cert.RbIdeal.main_arg0)
      ∧ r.2.mem ((c.tc : Thread Cert.RbIdeal.nD Cert.RbIdeal.τ).loc Cert.RbIdeal.main_arg1) = m ((c.tc : Thread Cert.RbIdeal.nD Cert.RbIdeal.τ).loc Cert.RbIdeal.main_arg1)
      ∧ r.2.mem ((c.tc : Thread Cert.RbIdeal.nD Cert.RbIdeal.τ).loc Cert.RbIdeal.main_arg2) = m ((c.tc : Thread Cert.RbIdeal.nD Cert.RbIdeal.τ).loc Cert.RbIdeal.main_arg2)
      ∧ r.2.mem ((c.tc : Thread Cert.RbIdeal.nD Cert.RbIdeal.τ).loc Cert.RbIdeal.main_arg3) = m ((c.tc : Thread Cert.RbIdeal.nD Cert.RbIdeal.τ).loc Cert.RbIdeal.main_arg3)
      ∧ r.2.mem ((c.tc : Thread Cert.RbIdeal.nD Cert.RbIdeal.τ).loc Cert.RbIdeal.main_arg4) = m ((c.tc : Thread Cert.RbIdeal.nD Cert.RbIdeal.τ).loc Cert.RbIdeal.main_arg4)
      ∧ r.2.mem ((c.tc : Thread Cert.RbIdeal.nD Cert.RbIdeal.τ).loc Cert.RbIdeal.main_arg5) = m ((c.tc : Thread Cert.RbIdeal.nD Cert.RbIdeal.τ).loc Cert.RbIdeal.main_arg5)
      ∧ r.2.mem ((c.tc : Thread Cert.RbIdeal.nD Cert.RbIdeal.τ).loc Cert.RbIdeal.main_arg6) = m ((c.tc : Thread Cert.RbIdeal.nD Cert.RbIdeal.τ).loc Cert.RbIdeal.main_arg6)
      ∧ r.2.mem ((c.tc : Thread Cert.RbIdeal.nD Cert.RbIdeal.τ).loc Cert.RbIdeal.main_arg7) = m ((c.tc : Thread Cert.RbIdeal.nD Cert.RbIdeal.τ).loc Cert.RbIdeal.main_arg7)
      ∧ r.2.mem ((c.tc : Thread Cert.RbIdeal.nD Cert.RbIdeal.τ).loc Cert.RbIdeal.main_arg8) = m ((c.tc : Thread Cert.RbIdeal.nD Cert.RbIdeal.τ).loc Cert.RbIdeal.main_arg8)
      ∧ r.2.mem ((c.tc : Thread Cert.RbIdeal.nD Cert.RbIdeal.τ).loc Cert.RbIdeal.main_arg9) = m ((c.tc : Thread Cert.RbIdeal.nD Cert.RbIdeal.τ).loc Cert.RbIdeal.main_arg9))
      ∧ r.2.sem = fun _ => 0)

def quiescent_RbRefIdeal [hRbRefIdeal : Cert.RbRefIdeal.Facts] : Prop :=
  ∀ (m : (ℓ : Loc Cert.RbRefIdeal.nD Cert.RbRefIdeal.τ Cert.RbRefIdeal.sig) → Buf (Elt Ideal) ℓ) (g : Dev Cert.RbRefIdeal.nD → PrngReg), Pre_RbRefIdeal m →
    θ_run (Cert.RbRefIdeal.defs (F := Ideal)) (onTc (τ := Cert.RbRefIdeal.τ) (Cert.RbRefIdeal.main (F := Ideal))) ⟨m, fun _ => 0, g⟩ (fun r => (∀ c : Dev Cert.RbRefIdeal.nD,
      r.2.mem ((c.tc : Thread Cert.RbRefIdeal.nD Cert.RbRefIdeal.τ).loc Cert.RbRefIdeal.main_arg0) = m ((c.tc : Thread Cert.RbRefIdeal.nD Cert.RbRefIdeal.τ).loc Cert.RbRefIdeal.main_arg0)
      ∧ r.2.mem ((c.tc : Thread Cert.RbRefIdeal.nD Cert.RbRefIdeal.τ).loc Cert.RbRefIdeal.main_arg1) = m ((c.tc : Thread Cert.RbRefIdeal.nD Cert.RbRefIdeal.τ).loc Cert.RbRefIdeal.main_arg1)
      ∧ r.2.mem ((c.tc : Thread Cert.RbRefIdeal.nD Cert.RbRefIdeal.τ).loc Cert.RbRefIdeal.main_arg2) = m ((c.tc : Thread Cert.RbRefIdeal.nD Cert.RbRefIdeal.τ).loc Cert.RbRefIdeal.main_arg2)
      ∧ r.2.mem ((c.tc : Thread Cert.RbRefIdeal.nD Cert.RbRefIdeal.τ).loc Cert.RbRefIdeal.main_arg3) = m ((c.tc : Thread Cert.RbRefIdeal.nD Cert.RbRefIdeal.τ).loc Cert.RbRefIdeal.main_arg3)
      ∧ r.2.mem ((c.tc : Thread Cert.RbRefIdeal.nD Cert.RbRefIdeal.τ).loc Cert.RbRefIdeal.main_arg4) = m ((c.tc : Thread Cert.RbRefIdeal.nD Cert.RbRefIdeal.τ).loc Cert.RbRefIdeal.main_arg4)
      ∧ r.2.mem ((c.tc : Thread Cert.RbRefIdeal.nD Cert.RbRefIdeal.τ).loc Cert.RbRefIdeal.main_arg5) = m ((c.tc : Thread Cert.RbRefIdeal.nD Cert.RbRefIdeal.τ).loc Cert.RbRefIdeal.main_arg5)
      ∧ r.2.mem ((c.tc : Thread Cert.RbRefIdeal.nD Cert.RbRefIdeal.τ).loc Cert.RbRefIdeal.main_arg6) = m ((c.tc : Thread Cert.RbRefIdeal.nD Cert.RbRefIdeal.τ).loc Cert.RbRefIdeal.main_arg6)
      ∧ r.2.mem ((c.tc : Thread Cert.RbRefIdeal.nD Cert.RbRefIdeal.τ).loc Cert.RbRefIdeal.main_arg7) = m ((c.tc : Thread Cert.RbRefIdeal.nD Cert.RbRefIdeal.τ).loc Cert.RbRefIdeal.main_arg7)
      ∧ r.2.mem ((c.tc : Thread Cert.RbRefIdeal.nD Cert.RbRefIdeal.τ).loc Cert.RbRefIdeal.main_arg8) = m ((c.tc : Thread Cert.RbRefIdeal.nD Cert.RbRefIdeal.τ).loc Cert.RbRefIdeal.main_arg8)
      ∧ r.2.mem ((c.tc : Thread Cert.RbRefIdeal.nD Cert.RbRefIdeal.τ).loc Cert.RbRefIdeal.main_arg9) = m ((c.tc : Thread Cert.RbRefIdeal.nD Cert.RbRefIdeal.τ).loc Cert.RbRefIdeal.main_arg9))
      ∧ r.2.sem = fun _ => 0)

def quiescent_RbRefIdeal_pre_gate_finite [hRbRefIdeal : Cert.RbRefIdeal.Facts] [hPre_gate_finite : Cert.Pre_gate_finite.Facts] : Prop :=
  ∀ (m : (ℓ : Loc Cert.RbRefIdeal.nD Cert.RbRefIdeal.τ Cert.RbRefIdeal.sig) → Buf (Elt Ideal) ℓ) (g : Dev Cert.RbRefIdeal.nD → PrngReg), Pre_RbRefIdeal_gate_finite m →
    θ_run (Cert.RbRefIdeal.defs (F := Ideal)) (onTc (τ := Cert.RbRefIdeal.τ) (Cert.RbRefIdeal.main (F := Ideal))) ⟨m, fun _ => 0, g⟩ (fun r => (∀ c : Dev Cert.RbRefIdeal.nD,
      r.2.mem ((c.tc : Thread Cert.RbRefIdeal.nD Cert.RbRefIdeal.τ).loc Cert.RbRefIdeal.main_arg0) = m ((c.tc : Thread Cert.RbRefIdeal.nD Cert.RbRefIdeal.τ).loc Cert.RbRefIdeal.main_arg0)
      ∧ r.2.mem ((c.tc : Thread Cert.RbRefIdeal.nD Cert.RbRefIdeal.τ).loc Cert.RbRefIdeal.main_arg1) = m ((c.tc : Thread Cert.RbRefIdeal.nD Cert.RbRefIdeal.τ).loc Cert.RbRefIdeal.main_arg1)
      ∧ r.2.mem ((c.tc : Thread Cert.RbRefIdeal.nD Cert.RbRefIdeal.τ).loc Cert.RbRefIdeal.main_arg2) = m ((c.tc : Thread Cert.RbRefIdeal.nD Cert.RbRefIdeal.τ).loc Cert.RbRefIdeal.main_arg2)
      ∧ r.2.mem ((c.tc : Thread Cert.RbRefIdeal.nD Cert.RbRefIdeal.τ).loc Cert.RbRefIdeal.main_arg3) = m ((c.tc : Thread Cert.RbRefIdeal.nD Cert.RbRefIdeal.τ).loc Cert.RbRefIdeal.main_arg3)
      ∧ r.2.mem ((c.tc : Thread Cert.RbRefIdeal.nD Cert.RbRefIdeal.τ).loc Cert.RbRefIdeal.main_arg4) = m ((c.tc : Thread Cert.RbRefIdeal.nD Cert.RbRefIdeal.τ).loc Cert.RbRefIdeal.main_arg4)
      ∧ r.2.mem ((c.tc : Thread Cert.RbRefIdeal.nD Cert.RbRefIdeal.τ).loc Cert.RbRefIdeal.main_arg5) = m ((c.tc : Thread Cert.RbRefIdeal.nD Cert.RbRefIdeal.τ).loc Cert.RbRefIdeal.main_arg5)
      ∧ r.2.mem ((c.tc : Thread Cert.RbRefIdeal.nD Cert.RbRefIdeal.τ).loc Cert.RbRefIdeal.main_arg6) = m ((c.tc : Thread Cert.RbRefIdeal.nD Cert.RbRefIdeal.τ).loc Cert.RbRefIdeal.main_arg6)
      ∧ r.2.mem ((c.tc : Thread Cert.RbRefIdeal.nD Cert.RbRefIdeal.τ).loc Cert.RbRefIdeal.main_arg7) = m ((c.tc : Thread Cert.RbRefIdeal.nD Cert.RbRefIdeal.τ).loc Cert.RbRefIdeal.main_arg7)
      ∧ r.2.mem ((c.tc : Thread Cert.RbRefIdeal.nD Cert.RbRefIdeal.τ).loc Cert.RbRefIdeal.main_arg8) = m ((c.tc : Thread Cert.RbRefIdeal.nD Cert.RbRefIdeal.τ).loc Cert.RbRefIdeal.main_arg8)
      ∧ r.2.mem ((c.tc : Thread Cert.RbRefIdeal.nD Cert.RbRefIdeal.τ).loc Cert.RbRefIdeal.main_arg9) = m ((c.tc : Thread Cert.RbRefIdeal.nD Cert.RbRefIdeal.τ).loc Cert.RbRefIdeal.main_arg9))
      ∧ r.2.sem = fun _ => 0)

def preserves_Dhp_DhpIdeal : Prop :=
  True

def algebraic_DhpIdeal_DhpRefIdeal_pre_dhp_finite [hDhpIdeal : Cert.DhpIdeal.Facts] [hDhpRefIdeal : Cert.DhpRefIdeal.Facts] [hPre_dhp_finite : Cert.Pre_dhp_finite.Facts] : Prop :=
  ∀ (m : (ℓ : Loc Cert.DhpIdeal.nD Cert.DhpIdeal.τ Cert.DhpIdeal.sig) → Buf (Elt Ideal) ℓ) (g : Dev Cert.DhpIdeal.nD → PrngReg)
    (m' : (ℓ : Loc Cert.DhpRefIdeal.nD Cert.DhpRefIdeal.τ Cert.DhpRefIdeal.sig) → Buf (Elt Ideal) ℓ) (g' : Dev Cert.DhpRefIdeal.nD → PrngReg), Pre_DhpIdeal_dhp_finite m →
    (∀ c : Dev Cert.DhpIdeal.nD,
      m' ((c.tc : Thread Cert.DhpRefIdeal.nD Cert.DhpRefIdeal.τ).loc Cert.DhpRefIdeal.main_arg0) = m ((c.tc : Thread Cert.DhpIdeal.nD Cert.DhpIdeal.τ).loc Cert.DhpIdeal.main_arg0)
      ∧ m' ((c.tc : Thread Cert.DhpRefIdeal.nD Cert.DhpRefIdeal.τ).loc Cert.DhpRefIdeal.main_arg1) = m ((c.tc : Thread Cert.DhpIdeal.nD Cert.DhpIdeal.τ).loc Cert.DhpIdeal.main_arg1)
      ∧ m' ((c.tc : Thread Cert.DhpRefIdeal.nD Cert.DhpRefIdeal.τ).loc Cert.DhpRefIdeal.main_arg2) = m ((c.tc : Thread Cert.DhpIdeal.nD Cert.DhpIdeal.τ).loc Cert.DhpIdeal.main_arg2)
      ∧ m' ((c.tc : Thread Cert.DhpRefIdeal.nD Cert.DhpRefIdeal.τ).loc Cert.DhpRefIdeal.main_arg3) = m ((c.tc : Thread Cert.DhpIdeal.nD Cert.DhpIdeal.τ).loc Cert.DhpIdeal.main_arg3)
      ∧ m' ((c.tc : Thread Cert.DhpRefIdeal.nD Cert.DhpRefIdeal.τ).loc Cert.DhpRefIdeal.main_arg4) = m ((c.tc : Thread Cert.DhpIdeal.nD Cert.DhpIdeal.τ).loc Cert.DhpIdeal.main_arg4)) →
    ∃ (v0 : (c : Dev Cert.DhpIdeal.nD) → Buf (Elt Ideal) ((c.tc : Thread Cert.DhpIdeal.nD Cert.DhpIdeal.τ).loc Cert.DhpIdeal.main_v0_0)) (v1 : (c : Dev Cert.DhpIdeal.nD) → Buf (Elt Ideal) ((c.tc : Thread Cert.DhpIdeal.nD Cert.DhpIdeal.τ).loc Cert.DhpIdeal.main_v0_1)) (v2 : (c : Dev Cert.DhpIdeal.nD) → Buf (Elt Ideal) ((c.tc : Thread Cert.DhpIdeal.nD Cert.DhpIdeal.τ).loc Cert.DhpIdeal.main_v0_2)),
      θ_run (Cert.DhpIdeal.defs (F := Ideal)) (onTc (τ := Cert.DhpIdeal.τ) (Cert.DhpIdeal.main (F := Ideal))) ⟨m, fun _ => 0, g⟩ (fun r => ∀ c : Dev Cert.DhpIdeal.nD,
          r.2.mem ((c.tc : Thread Cert.DhpIdeal.nD Cert.DhpIdeal.τ).loc Cert.DhpIdeal.main_v0_0) = v0 c
          ∧ r.2.mem ((c.tc : Thread Cert.DhpIdeal.nD Cert.DhpIdeal.τ).loc Cert.DhpIdeal.main_v0_1) = v1 c
          ∧ r.2.mem ((c.tc : Thread Cert.DhpIdeal.nD Cert.DhpIdeal.τ).loc Cert.DhpIdeal.main_v0_2) = v2 c
          ∧ r.2.mem ((c.tc : Thread Cert.DhpIdeal.nD Cert.DhpIdeal.τ).loc Cert.DhpIdeal.main_arg0) = m ((c.tc : Thread Cert.DhpIdeal.nD Cert.DhpIdeal.τ).loc Cert.DhpIdeal.main_arg0)
          ∧ r.2.mem ((c.tc : Thread Cert.DhpIdeal.nD Cert.DhpIdeal.τ).loc Cert.DhpIdeal.main_arg1) = m ((c.tc : Thread Cert.DhpIdeal.nD Cert.DhpIdeal.τ).loc Cert.DhpIdeal.main_arg1)
          ∧ r.2.mem ((c.tc : Thread Cert.DhpIdeal.nD Cert.DhpIdeal.τ).loc Cert.DhpIdeal.main_arg2) = m ((c.tc : Thread Cert.DhpIdeal.nD Cert.DhpIdeal.τ).loc Cert.DhpIdeal.main_arg2)
          ∧ r.2.mem ((c.tc : Thread Cert.DhpIdeal.nD Cert.DhpIdeal.τ).loc Cert.DhpIdeal.main_arg3) = m ((c.tc : Thread Cert.DhpIdeal.nD Cert.DhpIdeal.τ).loc Cert.DhpIdeal.main_arg3)
          ∧ r.2.mem ((c.tc : Thread Cert.DhpIdeal.nD Cert.DhpIdeal.τ).loc Cert.DhpIdeal.main_arg4) = m ((c.tc : Thread Cert.DhpIdeal.nD Cert.DhpIdeal.τ).loc Cert.DhpIdeal.main_arg4))
      ∧ θ_run (Cert.DhpRefIdeal.defs (F := Ideal)) (onTc (τ := Cert.DhpRefIdeal.τ) (Cert.DhpRefIdeal.main (F := Ideal))) ⟨m', fun _ => 0, g'⟩ (fun r => ∀ c : Dev Cert.DhpRefIdeal.nD,
          r.2.mem ((c.tc : Thread Cert.DhpRefIdeal.nD Cert.DhpRefIdeal.τ).loc Cert.DhpRefIdeal.main_v37) = v0 c
          ∧ r.2.mem ((c.tc : Thread Cert.DhpRefIdeal.nD Cert.DhpRefIdeal.τ).loc Cert.DhpRefIdeal.main_v38) = v1 c
          ∧ r.2.mem ((c.tc : Thread Cert.DhpRefIdeal.nD Cert.DhpRefIdeal.τ).loc Cert.DhpRefIdeal.main_v20) = v2 c
          ∧ r.2.mem ((c.tc : Thread Cert.DhpRefIdeal.nD Cert.DhpRefIdeal.τ).loc Cert.DhpRefIdeal.main_arg0) = m' ((c.tc : Thread Cert.DhpRefIdeal.nD Cert.DhpRefIdeal.τ).loc Cert.DhpRefIdeal.main_arg0)
          ∧ r.2.mem ((c.tc : Thread Cert.DhpRefIdeal.nD Cert.DhpRefIdeal.τ).loc Cert.DhpRefIdeal.main_arg1) = m' ((c.tc : Thread Cert.DhpRefIdeal.nD Cert.DhpRefIdeal.τ).loc Cert.DhpRefIdeal.main_arg1)
          ∧ r.2.mem ((c.tc : Thread Cert.DhpRefIdeal.nD Cert.DhpRefIdeal.τ).loc Cert.DhpRefIdeal.main_arg2) = m' ((c.tc : Thread Cert.DhpRefIdeal.nD Cert.DhpRefIdeal.τ).loc Cert.DhpRefIdeal.main_arg2)
          ∧ r.2.mem ((c.tc : Thread Cert.DhpRefIdeal.nD Cert.DhpRefIdeal.τ).loc Cert.DhpRefIdeal.main_arg3) = m' ((c.tc : Thread Cert.DhpRefIdeal.nD Cert.DhpRefIdeal.τ).loc Cert.DhpRefIdeal.main_arg3)
          ∧ r.2.mem ((c.tc : Thread Cert.DhpRefIdeal.nD Cert.DhpRefIdeal.τ).loc Cert.DhpRefIdeal.main_arg4) = m' ((c.tc : Thread Cert.DhpRefIdeal.nD Cert.DhpRefIdeal.τ).loc Cert.DhpRefIdeal.main_arg4))

def preserves_Dact_DactIdeal : Prop :=
  True

def algebraic_DactIdeal_DactRefIdeal_pre_dact_finite [hDactIdeal : Cert.DactIdeal.Facts] [hDactRefIdeal : Cert.DactRefIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_dact_finite m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v5)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v5) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v14) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Dmerged_DmergedIdeal : Prop :=
  True

def algebraic_DmergedIdeal_DmergedRefIdeal [hDmergedIdeal : Cert.DmergedIdeal.Facts] [hDmergedRefIdeal : Cert.DmergedRefIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedRefIdeal.nD Cert.DmergedRefIdeal.τ Cert.DmergedRefIdeal.sig) → Buf (Elt Ideal) ℓ) (g' : Dev Cert.DmergedRefIdeal.nD → PrngReg), Pre_DmergedIdeal m →
    (∀ c : Dev Cert.DmergedIdeal.nD,
      m' ((c.tc : Thread Cert.DmergedRefIdeal.nD Cert.DmergedRefIdeal.τ).loc Cert.DmergedRefIdeal.main_arg0) = m ((c.tc : Thread Cert.DmergedIdeal.nD Cert.DmergedIdeal.τ).loc Cert.DmergedIdeal.main_arg0)
      ∧ m' ((c.tc : Thread Cert.DmergedRefIdeal.nD Cert.DmergedRefIdeal.τ).loc Cert.DmergedRefIdeal.main_arg1) = m ((c.tc : Thread Cert.DmergedIdeal.nD Cert.DmergedIdeal.τ).loc Cert.DmergedIdeal.main_arg1)
      ∧ m' ((c.tc : Thread Cert.DmergedRefIdeal.nD Cert.DmergedRefIdeal.τ).loc Cert.DmergedRefIdeal.main_arg2) = m ((c.tc : Thread Cert.DmergedIdeal.nD Cert.DmergedIdeal.τ).loc Cert.DmergedIdeal.main_arg2)
      ∧ m' ((c.tc : Thread Cert.DmergedRefIdeal.nD Cert.DmergedRefIdeal.τ).loc Cert.DmergedRefIdeal.main_arg3) = m ((c.tc : Thread Cert.DmergedIdeal.nD Cert.DmergedIdeal.τ).loc Cert.DmergedIdeal.main_arg3)
      ∧ m' ((c.tc : Thread Cert.DmergedRefIdeal.nD Cert.DmergedRefIdeal.τ).loc Cert.DmergedRefIdeal.main_arg4) = m ((c.tc : Thread Cert.DmergedIdeal.nD Cert.DmergedIdeal.τ).loc Cert.DmergedIdeal.main_arg4)) →
    ∃ (v0 : (c : Dev Cert.DmergedIdeal.nD) → Buf (Elt Ideal) ((c.tc : Thread Cert.DmergedIdeal.nD Cert.DmergedIdeal.τ).loc Cert.DmergedIdeal.main_v0_0)) (v1 : (c : Dev Cert.DmergedIdeal.nD) → Buf (Elt Ideal) ((c.tc : Thread Cert.DmergedIdeal.nD Cert.DmergedIdeal.τ).loc Cert.DmergedIdeal.main_v0_1)) (v2 : (c : Dev Cert.DmergedIdeal.nD) → Buf (Elt Ideal) ((c.tc : Thread Cert.DmergedIdeal.nD Cert.DmergedIdeal.τ).loc Cert.DmergedIdeal.main_v0_2)) (v3 : (c : Dev Cert.DmergedIdeal.nD) → Buf (Elt Ideal) ((c.tc : Thread Cert.DmergedIdeal.nD Cert.DmergedIdeal.τ).loc Cert.DmergedIdeal.main_v0_3)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v0_0) = v0 c
          ∧ r.2.mem ((c.tc : Thread Cert.DmergedIdeal.nD Cert.DmergedIdeal.τ).loc Cert.DmergedIdeal.main_v0_1) = v1 c
          ∧ r.2.mem ((c.tc : Thread Cert.DmergedIdeal.nD Cert.DmergedIdeal.τ).loc Cert.DmergedIdeal.main_v0_2) = v2 c
          ∧ r.2.mem ((c.tc : Thread Cert.DmergedIdeal.nD Cert.DmergedIdeal.τ).loc Cert.DmergedIdeal.main_v0_3) = v3 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1)
          ∧ r.2.mem ((c.tc : Thread Cert.DmergedIdeal.nD Cert.DmergedIdeal.τ).loc Cert.DmergedIdeal.main_arg2) = m ((c.tc : Thread Cert.DmergedIdeal.nD Cert.DmergedIdeal.τ).loc Cert.DmergedIdeal.main_arg2)
          ∧ r.2.mem ((c.tc : Thread Cert.DmergedIdeal.nD Cert.DmergedIdeal.τ).loc Cert.DmergedIdeal.main_arg3) = m ((c.tc : Thread Cert.DmergedIdeal.nD Cert.DmergedIdeal.τ).loc Cert.DmergedIdeal.main_arg3)
          ∧ r.2.mem ((c.tc : Thread Cert.DmergedIdeal.nD Cert.DmergedIdeal.τ).loc Cert.DmergedIdeal.main_arg4) = m ((c.tc : Thread Cert.DmergedIdeal.nD Cert.DmergedIdeal.τ).loc Cert.DmergedIdeal.main_arg4))
      ∧ θ_run (Cert.DmergedRefIdeal.defs (F := Ideal)) (onTc (τ := Cert.DmergedRefIdeal.τ) (Cert.DmergedRefIdeal.main (F := Ideal))) ⟨m', fun _ => 0, g'⟩ (fun r => ∀ c : Dev Cert.DmergedRefIdeal.nD,
          r.2.mem ((c.tc : Thread Cert.DmergedRefIdeal.nD Cert.DmergedRefIdeal.τ).loc Cert.DmergedRefIdeal.main_v32) = v0 c
          ∧ r.2.mem ((c.tc : Thread Cert.DmergedRefIdeal.nD Cert.DmergedRefIdeal.τ).loc Cert.DmergedRefIdeal.main_v33) = v1 c
          ∧ r.2.mem ((c.tc : Thread Cert.DmergedRefIdeal.nD Cert.DmergedRefIdeal.τ).loc Cert.DmergedRefIdeal.main_v34) = v2 c
          ∧ r.2.mem ((c.tc : Thread Cert.DmergedRefIdeal.nD Cert.DmergedRefIdeal.τ).loc Cert.DmergedRefIdeal.main_v35) = v3 c
          ∧ r.2.mem ((c.tc : Thread Cert.DmergedRefIdeal.nD Cert.DmergedRefIdeal.τ).loc Cert.DmergedRefIdeal.main_arg0) = m' ((c.tc : Thread Cert.DmergedRefIdeal.nD Cert.DmergedRefIdeal.τ).loc Cert.DmergedRefIdeal.main_arg0)
          ∧ r.2.mem ((c.tc : Thread Cert.DmergedRefIdeal.nD Cert.DmergedRefIdeal.τ).loc Cert.DmergedRefIdeal.main_arg1) = m' ((c.tc : Thread Cert.DmergedRefIdeal.nD Cert.DmergedRefIdeal.τ).loc Cert.DmergedRefIdeal.main_arg1)
          ∧ r.2.mem ((c.tc : Thread Cert.DmergedRefIdeal.nD Cert.DmergedRefIdeal.τ).loc Cert.DmergedRefIdeal.main_arg2) = m' ((c.tc : Thread Cert.DmergedRefIdeal.nD Cert.DmergedRefIdeal.τ).loc Cert.DmergedRefIdeal.main_arg2)
          ∧ r.2.mem ((c.tc : Thread Cert.DmergedRefIdeal.nD Cert.DmergedRefIdeal.τ).loc Cert.DmergedRefIdeal.main_arg3) = m' ((c.tc : Thread Cert.DmergedRefIdeal.nD Cert.DmergedRefIdeal.τ).loc Cert.DmergedRefIdeal.main_arg3)
          ∧ r.2.mem ((c.tc : Thread Cert.DmergedRefIdeal.nD Cert.DmergedRefIdeal.τ).loc Cert.DmergedRefIdeal.main_arg4) = m' ((c.tc : Thread Cert.DmergedRefIdeal.nD Cert.DmergedRefIdeal.τ).loc Cert.DmergedRefIdeal.main_arg4))

def preserves_Dup_DupIdeal : Prop :=
  True

def algebraic_DupIdeal_DupRefIdeal [hDupIdeal : Cert.DupIdeal.Facts] [hDupRefIdeal : Cert.DupRefIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)) →
    ∃ (v0 : (c : Dev Cert.DupIdeal.nD) → Buf (Elt Ideal) ((c.tc : Thread Cert.DupIdeal.nD Cert.DupIdeal.τ).loc Cert.DupIdeal.main_v0)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v0) = v0 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v6) = v0 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1))

def preserves_Ddown_DdownIdeal : Prop :=
  True

def algebraic_DdownIdeal_DdownRefIdeal [hDdownIdeal : Cert.DdownIdeal.Facts] [hDdownRefIdeal : Cert.DdownRefIdeal.Facts] : Prop :=
  ∀ (m : (ℓ : Loc Cert.DdownIdeal.nD Cert.DdownIdeal.τ Cert.DdownIdeal.sig) → Buf (Elt Ideal) ℓ) (g : Dev Cert.DdownIdeal.nD → PrngReg)
    (m' : (ℓ : Loc Cert.DdownRefIdeal.nD Cert.DdownRefIdeal.τ Cert.DdownRefIdeal.sig) → Buf (Elt Ideal) ℓ) (g' : Dev Cert.DdownRefIdeal.nD → PrngReg), Pre_DdownIdeal m →
    (∀ c : Dev Cert.DdownIdeal.nD,
      m' ((c.tc : Thread Cert.DdownRefIdeal.nD Cert.DdownRefIdeal.τ).loc Cert.DdownRefIdeal.main_arg0) = m ((c.tc : Thread Cert.DdownIdeal.nD Cert.DdownIdeal.τ).loc Cert.DdownIdeal.main_arg0)
      ∧ m' ((c.tc : Thread Cert.DdownRefIdeal.nD Cert.DdownRefIdeal.τ).loc Cert.DdownRefIdeal.main_arg1) = m ((c.tc : Thread Cert.DdownIdeal.nD Cert.DdownIdeal.τ).loc Cert.DdownIdeal.main_arg1)) →
    ∃ (v0 : (c : Dev Cert.DdownIdeal.nD) → Buf (Elt Ideal) ((c.tc : Thread Cert.DdownIdeal.nD Cert.DdownIdeal.τ).loc Cert.DdownIdeal.main_v0)),
      θ_run (Cert.DdownIdeal.defs (F := Ideal)) (onTc (τ := Cert.DdownIdeal.τ) (Cert.DdownIdeal.main (F := Ideal))) ⟨m, fun _ => 0, g⟩ (fun r => ∀ c : Dev Cert.DdownIdeal.nD,
          r.2.mem ((c.tc : Thread Cert.DdownIdeal.nD Cert.DdownIdeal.τ).loc Cert.DdownIdeal.main_v0) = v0 c
          ∧ r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
          ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1))
      ∧ θ_run (Cert.DdownRefIdeal.defs (F := Ideal)) (onTc (τ := Cert.DdownRefIdeal.τ) (Cert.DdownRefIdeal.main (F := Ideal))) ⟨m', fun _ => 0, g'⟩ (fun r => ∀ c : Dev Cert.DdownRefIdeal.nD,
          r.2.mem ((c.tc : Thread Cert.DdownRefIdeal.nD Cert.DdownRefIdeal.τ).loc Cert.DdownRefIdeal.main_v4) = v0 c
          ∧ r.2.mem ((c.tc : Thread Cert.DdownRefIdeal.nD Cert.DdownRefIdeal.τ).loc Cert.DdownRefIdeal.main_arg0) = m' ((c.tc : Thread Cert.DdownRefIdeal.nD Cert.DdownRefIdeal.τ).loc Cert.DdownRefIdeal.main_arg0)
          ∧ r.2.mem ((c.tc : Thread Cert.DdownRefIdeal.nD Cert.DdownRefIdeal.τ).loc Cert.DdownRefIdeal.main_arg1) = m' ((c.tc : Thread Cert.DdownRefIdeal.nD Cert.DdownRefIdeal.τ).loc Cert.DdownRefIdeal.main_arg1))

def preserves_Dya_DyaIdeal : Prop :=
  True

def algebraic_DyaIdeal_DyaRefIdeal [hDyaIdeal : Cert.DyaIdeal.Facts] [hDyaRefIdeal : Cert.DyaRefIdeal.Facts] : Prop :=
  ∀ (m : (ℓ : Loc Cert.DyaIdeal.nD Cert.DyaIdeal.τ Cert.DyaIdeal.sig) → Buf (Elt Ideal) ℓ) (g : Dev Cert.DyaIdeal.nD → PrngReg)
    (m' : (ℓ : Loc Cert.DyaRefIdeal.nD Cert.DyaRefIdeal.τ Cert.DyaRefIdeal.sig) → Buf (Elt Ideal) ℓ) (g' : Dev Cert.DyaRefIdeal.nD → PrngReg), Pre_DyaIdeal m →
    (∀ c : Dev Cert.DyaIdeal.nD,
      m' ((c.tc : Thread Cert.DyaRefIdeal.nD Cert.DyaRefIdeal.τ).loc Cert.DyaRefIdeal.main_arg0) = m ((c.tc : Thread Cert.DyaIdeal.nD Cert.DyaIdeal.τ).loc Cert.DyaIdeal.main_arg0)
      ∧ m' ((c.tc : Thread Cert.DyaRefIdeal.nD Cert.DyaRefIdeal.τ).loc Cert.DyaRefIdeal.main_arg1) = m ((c.tc : Thread Cert.DyaIdeal.nD Cert.DyaIdeal.τ).loc Cert.DyaIdeal.main_arg1)) →
    ∃ (v0 : (c : Dev Cert.DyaIdeal.nD) → Buf (Elt Ideal) ((c.tc : Thread Cert.DyaIdeal.nD Cert.DyaIdeal.τ).loc Cert.DyaIdeal.main_v0)),
      θ_run (Cert.DyaIdeal.defs (F := Ideal)) (onTc (τ := Cert.DyaIdeal.τ) (Cert.DyaIdeal.main (F := Ideal))) ⟨m, fun _ => 0, g⟩ (fun r => ∀ c : Dev Cert.DyaIdeal.nD,
          r.2.mem ((c.tc : Thread Cert.DyaIdeal.nD Cert.DyaIdeal.τ).loc Cert.DyaIdeal.main_v0) = v0 c
          ∧ r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
          ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ θ_run (Cert.DyaRefIdeal.defs (F := Ideal)) (onTc (τ := Cert.DyaRefIdeal.τ) (Cert.DyaRefIdeal.main (F := Ideal))) ⟨m', fun _ => 0, g'⟩ (fun r => ∀ c : Dev Cert.DyaRefIdeal.nD,
          r.2.mem ((c.tc : Thread Cert.DyaRefIdeal.nD Cert.DyaRefIdeal.τ).loc Cert.DyaRefIdeal.main_v3) = v0 c
          ∧ r.2.mem ((c.tc : Thread Cert.DyaRefIdeal.nD Cert.DyaRefIdeal.τ).loc Cert.DyaRefIdeal.main_arg0) = m' ((c.tc : Thread Cert.DyaRefIdeal.nD Cert.DyaRefIdeal.τ).loc Cert.DyaRefIdeal.main_arg0)
          ∧ r.2.mem ((c.tc : Thread Cert.DyaRefIdeal.nD Cert.DyaRefIdeal.τ).loc Cert.DyaRefIdeal.main_arg1) = m' ((c.tc : Thread Cert.DyaRefIdeal.nD Cert.DyaRefIdeal.τ).loc Cert.DyaRefIdeal.main_arg1))

def preserves_Dout_DoutIdeal : Prop :=
  True

def algebraic_DoutIdeal_DoutRefIdeal [hDoutIdeal : Cert.DoutIdeal.Facts] [hDoutRefIdeal : Cert.DoutRefIdeal.Facts] : Prop :=
  ∀ (m : (ℓ : Loc Cert.DoutIdeal.nD Cert.DoutIdeal.τ Cert.DoutIdeal.sig) → Buf (Elt Ideal) ℓ) (g : Dev Cert.DoutIdeal.nD → PrngReg)
    (m' : (ℓ : Loc Cert.DoutRefIdeal.nD Cert.DoutRefIdeal.τ Cert.DoutRefIdeal.sig) → Buf (Elt Ideal) ℓ) (g' : Dev Cert.DoutRefIdeal.nD → PrngReg), Pre_DoutIdeal m →
    (∀ c : Dev Cert.DoutIdeal.nD,
      m' ((c.tc : Thread Cert.DoutRefIdeal.nD Cert.DoutRefIdeal.τ).loc Cert.DoutRefIdeal.main_arg0) = m ((c.tc : Thread Cert.DoutIdeal.nD Cert.DoutIdeal.τ).loc Cert.DoutIdeal.main_arg0)
      ∧ m' ((c.tc : Thread Cert.DoutRefIdeal.nD Cert.DoutRefIdeal.τ).loc Cert.DoutRefIdeal.main_arg1) = m ((c.tc : Thread Cert.DoutIdeal.nD Cert.DoutIdeal.τ).loc Cert.DoutIdeal.main_arg1)) →
    ∃ (v0 : (c : Dev Cert.DoutIdeal.nD) → Buf (Elt Ideal) ((c.tc : Thread Cert.DoutIdeal.nD Cert.DoutIdeal.τ).loc Cert.DoutIdeal.main_v0)),
      θ_run (Cert.DoutIdeal.defs (F := Ideal)) (onTc (τ := Cert.DoutIdeal.τ) (Cert.DoutIdeal.main (F := Ideal))) ⟨m, fun _ => 0, g⟩ (fun r => ∀ c : Dev Cert.DoutIdeal.nD,
          r.2.mem ((c.tc : Thread Cert.DoutIdeal.nD Cert.DoutIdeal.τ).loc Cert.DoutIdeal.main_v0) = v0 c
          ∧ r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
          ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ θ_run (Cert.DoutRefIdeal.defs (F := Ideal)) (onTc (τ := Cert.DoutRefIdeal.τ) (Cert.DoutRefIdeal.main (F := Ideal))) ⟨m', fun _ => 0, g'⟩ (fun r => ∀ c : Dev Cert.DoutRefIdeal.nD,
          r.2.mem ((c.tc : Thread Cert.DoutRefIdeal.nD Cert.DoutRefIdeal.τ).loc Cert.DoutRefIdeal.main_v4) = v0 c
          ∧ r.2.mem ((c.tc : Thread Cert.DoutRefIdeal.nD Cert.DoutRefIdeal.τ).loc Cert.DoutRefIdeal.main_arg0) = m' ((c.tc : Thread Cert.DoutRefIdeal.nD Cert.DoutRefIdeal.τ).loc Cert.DoutRefIdeal.main_arg0)
          ∧ r.2.mem ((c.tc : Thread Cert.DoutRefIdeal.nD Cert.DoutRefIdeal.τ).loc Cert.DoutRefIdeal.main_arg1) = m' ((c.tc : Thread Cert.DoutRefIdeal.nD Cert.DoutRefIdeal.τ).loc Cert.DoutRefIdeal.main_arg1))

def preserves_Dpp_DppIdeal : Prop :=
  True

def algebraic_DppIdeal_DppRefIdeal [hDppIdeal : Cert.DppIdeal.Facts] [hDppRefIdeal : Cert.DppRefIdeal.Facts] : Prop :=
  ∀ (m : (ℓ : Loc Cert.DppIdeal.nD Cert.DppIdeal.τ Cert.DppIdeal.sig) → Buf (Elt Ideal) ℓ) (g : Dev Cert.DppIdeal.nD → PrngReg)
    (m' : (ℓ : Loc Cert.DppRefIdeal.nD Cert.DppRefIdeal.τ Cert.DppRefIdeal.sig) → Buf (Elt Ideal) ℓ) (g' : Dev Cert.DppRefIdeal.nD → PrngReg), Pre_DppIdeal m →
    (∀ c : Dev Cert.DppIdeal.nD,
      m' ((c.tc : Thread Cert.DppRefIdeal.nD Cert.DppRefIdeal.τ).loc Cert.DppRefIdeal.main_arg0) = m ((c.tc : Thread Cert.DppIdeal.nD Cert.DppIdeal.τ).loc Cert.DppIdeal.main_arg0)
      ∧ m' ((c.tc : Thread Cert.DppRefIdeal.nD Cert.DppRefIdeal.τ).loc Cert.DppRefIdeal.main_arg1) = m ((c.tc : Thread Cert.DppIdeal.nD Cert.DppIdeal.τ).loc Cert.DppIdeal.main_arg1)) →
    ∃ (v0 : (c : Dev Cert.DppIdeal.nD) → Buf (Elt Ideal) ((c.tc : Thread Cert.DppIdeal.nD Cert.DppIdeal.τ).loc Cert.DppIdeal.main_v0)),
      θ_run (Cert.DppIdeal.defs (F := Ideal)) (onTc (τ := Cert.DppIdeal.τ) (Cert.DppIdeal.main (F := Ideal))) ⟨m, fun _ => 0, g⟩ (fun r => ∀ c : Dev Cert.DppIdeal.nD,
          r.2.mem ((c.tc : Thread Cert.DppIdeal.nD Cert.DppIdeal.τ).loc Cert.DppIdeal.main_v0) = v0 c
          ∧ r.2.mem ((c.tc : Thread Cert.DppIdeal.nD Cert.DppIdeal.τ).loc Cert.DppIdeal.main_arg0) = m ((c.tc : Thread Cert.DppIdeal.nD Cert.DppIdeal.τ).loc Cert.DppIdeal.main_arg0)
          ∧ r.2.mem ((c.tc : Thread Cert.DppIdeal.nD Cert.DppIdeal.τ).loc Cert.DppIdeal.main_arg1) = m ((c.tc : Thread Cert.DppIdeal.nD Cert.DppIdeal.τ).loc Cert.DppIdeal.main_arg1))
      ∧ θ_run (Cert.DppRefIdeal.defs (F := Ideal)) (onTc (τ := Cert.DppRefIdeal.τ) (Cert.DppRefIdeal.main (F := Ideal))) ⟨m', fun _ => 0, g'⟩ (fun r => ∀ c : Dev Cert.DppRefIdeal.nD,
          r.2.mem ((c.tc : Thread Cert.DppRefIdeal.nD Cert.DppRefIdeal.τ).loc Cert.DppRefIdeal.main_v6) = v0 c
          ∧ r.2.mem ((c.tc : Thread Cert.DppRefIdeal.nD Cert.DppRefIdeal.τ).loc Cert.DppRefIdeal.main_arg0) = m' ((c.tc : Thread Cert.DppRefIdeal.nD Cert.DppRefIdeal.τ).loc Cert.DppRefIdeal.main_arg0)
          ∧ r.2.mem ((c.tc : Thread Cert.DppRefIdeal.nD Cert.DppRefIdeal.τ).loc Cert.DppRefIdeal.main_arg1) = m' ((c.tc : Thread Cert.DppRefIdeal.nD Cert.DppRefIdeal.τ).loc Cert.DppRefIdeal.main_arg1))

def preserves_Dhm_DhmIdeal : Prop :=
  True

def algebraic_DhmIdeal_DhmRefIdeal_pre_dhm_finite [hDhmIdeal : Cert.DhmIdeal.Facts] [hDhmRefIdeal : Cert.DhmRefIdeal.Facts] [hPre_dhm_finite : Cert.Pre_dhm_finite.Facts] : Prop :=
  ∀ (m : (ℓ : Loc Cert.DhmIdeal.nD Cert.DhmIdeal.τ Cert.DhmIdeal.sig) → Buf (Elt Ideal) ℓ) (g : Dev Cert.DhmIdeal.nD → PrngReg)
    (m' : (ℓ : Loc Cert.DhmRefIdeal.nD Cert.DhmRefIdeal.τ Cert.DhmRefIdeal.sig) → Buf (Elt Ideal) ℓ) (g' : Dev Cert.DhmRefIdeal.nD → PrngReg), Pre_DhmIdeal_dhm_finite m →
    (∀ c : Dev Cert.DhmIdeal.nD,
      m' ((c.tc : Thread Cert.DhmRefIdeal.nD Cert.DhmRefIdeal.τ).loc Cert.DhmRefIdeal.main_arg0) = m ((c.tc : Thread Cert.DhmIdeal.nD Cert.DhmIdeal.τ).loc Cert.DhmIdeal.main_arg0)
      ∧ m' ((c.tc : Thread Cert.DhmRefIdeal.nD Cert.DhmRefIdeal.τ).loc Cert.DhmRefIdeal.main_arg1) = m ((c.tc : Thread Cert.DhmIdeal.nD Cert.DhmIdeal.τ).loc Cert.DhmIdeal.main_arg1)
      ∧ m' ((c.tc : Thread Cert.DhmRefIdeal.nD Cert.DhmRefIdeal.τ).loc Cert.DhmRefIdeal.main_arg2) = m ((c.tc : Thread Cert.DhmIdeal.nD Cert.DhmIdeal.τ).loc Cert.DhmIdeal.main_arg2)
      ∧ m' ((c.tc : Thread Cert.DhmRefIdeal.nD Cert.DhmRefIdeal.τ).loc Cert.DhmRefIdeal.main_arg3) = m ((c.tc : Thread Cert.DhmIdeal.nD Cert.DhmIdeal.τ).loc Cert.DhmIdeal.main_arg3)
      ∧ m' ((c.tc : Thread Cert.DhmRefIdeal.nD Cert.DhmRefIdeal.τ).loc Cert.DhmRefIdeal.main_arg4) = m ((c.tc : Thread Cert.DhmIdeal.nD Cert.DhmIdeal.τ).loc Cert.DhmIdeal.main_arg4)) →
    ∃ (v0 : (c : Dev Cert.DhmIdeal.nD) → Buf (Elt Ideal) ((c.tc : Thread Cert.DhmIdeal.nD Cert.DhmIdeal.τ).loc Cert.DhmIdeal.main_v0_0)) (v1 : (c : Dev Cert.DhmIdeal.nD) → Buf (Elt Ideal) ((c.tc : Thread Cert.DhmIdeal.nD Cert.DhmIdeal.τ).loc Cert.DhmIdeal.main_v0_1)) (v2 : (c : Dev Cert.DhmIdeal.nD) → Buf (Elt Ideal) ((c.tc : Thread Cert.DhmIdeal.nD Cert.DhmIdeal.τ).loc Cert.DhmIdeal.main_v0_2)),
      θ_run (Cert.DhmIdeal.defs (F := Ideal)) (onTc (τ := Cert.DhmIdeal.τ) (Cert.DhmIdeal.main (F := Ideal))) ⟨m, fun _ => 0, g⟩ (fun r => ∀ c : Dev Cert.DhmIdeal.nD,
          r.2.mem ((c.tc : Thread Cert.DhmIdeal.nD Cert.DhmIdeal.τ).loc Cert.DhmIdeal.main_v0_0) = v0 c
          ∧ r.2.mem ((c.tc : Thread Cert.DhmIdeal.nD Cert.DhmIdeal.τ).loc Cert.DhmIdeal.main_v0_1) = v1 c
          ∧ r.2.mem ((c.tc : Thread Cert.DhmIdeal.nD Cert.DhmIdeal.τ).loc Cert.DhmIdeal.main_v0_2) = v2 c
          ∧ r.2.mem ((c.tc : Thread Cert.DhmIdeal.nD Cert.DhmIdeal.τ).loc Cert.DhmIdeal.main_arg0) = m ((c.tc : Thread Cert.DhmIdeal.nD Cert.DhmIdeal.τ).loc Cert.DhmIdeal.main_arg0)
          ∧ r.2.mem ((c.tc : Thread Cert.DhmIdeal.nD Cert.DhmIdeal.τ).loc Cert.DhmIdeal.main_arg1) = m ((c.tc : Thread Cert.DhmIdeal.nD Cert.DhmIdeal.τ).loc Cert.DhmIdeal.main_arg1)
          ∧ r.2.mem ((c.tc : Thread Cert.DhmIdeal.nD Cert.DhmIdeal.τ).loc Cert.DhmIdeal.main_arg2) = m ((c.tc : Thread Cert.DhmIdeal.nD Cert.DhmIdeal.τ).loc Cert.DhmIdeal.main_arg2)
          ∧ r.2.mem ((c.tc : Thread Cert.DhmIdeal.nD Cert.DhmIdeal.τ).loc Cert.DhmIdeal.main_arg3) = m ((c.tc : Thread Cert.DhmIdeal.nD Cert.DhmIdeal.τ).loc Cert.DhmIdeal.main_arg3)
          ∧ r.2.mem ((c.tc : Thread Cert.DhmIdeal.nD Cert.DhmIdeal.τ).loc Cert.DhmIdeal.main_arg4) = m ((c.tc : Thread Cert.DhmIdeal.nD Cert.DhmIdeal.τ).loc Cert.DhmIdeal.main_arg4))
      ∧ θ_run (Cert.DhmRefIdeal.defs (F := Ideal)) (onTc (τ := Cert.DhmRefIdeal.τ) (Cert.DhmRefIdeal.main (F := Ideal))) ⟨m', fun _ => 0, g'⟩ (fun r => ∀ c : Dev Cert.DhmRefIdeal.nD,
          r.2.mem ((c.tc : Thread Cert.DhmRefIdeal.nD Cert.DhmRefIdeal.τ).loc Cert.DhmRefIdeal.main_v37) = v0 c
          ∧ r.2.mem ((c.tc : Thread Cert.DhmRefIdeal.nD Cert.DhmRefIdeal.τ).loc Cert.DhmRefIdeal.main_v38) = v1 c
          ∧ r.2.mem ((c.tc : Thread Cert.DhmRefIdeal.nD Cert.DhmRefIdeal.τ).loc Cert.DhmRefIdeal.main_v20) = v2 c
          ∧ r.2.mem ((c.tc : Thread Cert.DhmRefIdeal.nD Cert.DhmRefIdeal.τ).loc Cert.DhmRefIdeal.main_arg0) = m' ((c.tc : Thread Cert.DhmRefIdeal.nD Cert.DhmRefIdeal.τ).loc Cert.DhmRefIdeal.main_arg0)
          ∧ r.2.mem ((c.tc : Thread Cert.DhmRefIdeal.nD Cert.DhmRefIdeal.τ).loc Cert.DhmRefIdeal.main_arg1) = m' ((c.tc : Thread Cert.DhmRefIdeal.nD Cert.DhmRefIdeal.τ).loc Cert.DhmRefIdeal.main_arg1)
          ∧ r.2.mem ((c.tc : Thread Cert.DhmRefIdeal.nD Cert.DhmRefIdeal.τ).loc Cert.DhmRefIdeal.main_arg2) = m' ((c.tc : Thread Cert.DhmRefIdeal.nD Cert.DhmRefIdeal.τ).loc Cert.DhmRefIdeal.main_arg2)
          ∧ r.2.mem ((c.tc : Thread Cert.DhmRefIdeal.nD Cert.DhmRefIdeal.τ).loc Cert.DhmRefIdeal.main_arg3) = m' ((c.tc : Thread Cert.DhmRefIdeal.nD Cert.DhmRefIdeal.τ).loc Cert.DhmRefIdeal.main_arg3)
          ∧ r.2.mem ((c.tc : Thread Cert.DhmRefIdeal.nD Cert.DhmRefIdeal.τ).loc Cert.DhmRefIdeal.main_arg4) = m' ((c.tc : Thread Cert.DhmRefIdeal.nD Cert.DhmRefIdeal.τ).loc Cert.DhmRefIdeal.main_arg4))

def preserves_Do_DoIdeal : Prop :=
  True

def algebraic_DoIdeal_DoRefIdeal [hDoIdeal : Cert.DoIdeal.Facts] [hDoRefIdeal : Cert.DoRefIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoRefIdeal.nD Cert.DoRefIdeal.τ Cert.DoRefIdeal.sig) → Buf (Elt Ideal) ℓ) (g' : Dev Cert.DoRefIdeal.nD → PrngReg), Pre_DoIdeal m →
    (∀ c : Dev Cert.DoIdeal.nD,
      m' ((c.tc : Thread Cert.DoRefIdeal.nD Cert.DoRefIdeal.τ).loc Cert.DoRefIdeal.main_arg0) = m ((c.tc : Thread Cert.DoIdeal.nD Cert.DoIdeal.τ).loc Cert.DoIdeal.main_arg0)
      ∧ m' ((c.tc : Thread Cert.DoRefIdeal.nD Cert.DoRefIdeal.τ).loc Cert.DoRefIdeal.main_arg1) = m ((c.tc : Thread Cert.DoIdeal.nD Cert.DoIdeal.τ).loc Cert.DoIdeal.main_arg1)) →
    ∃ (v0 : (c : Dev Cert.DoIdeal.nD) → Buf (Elt Ideal) ((c.tc : Thread Cert.DoIdeal.nD Cert.DoIdeal.τ).loc Cert.DoIdeal.main_v0)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v0) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ θ_run (Cert.DoRefIdeal.defs (F := Ideal)) (onTc (τ := Cert.DoRefIdeal.τ) (Cert.DoRefIdeal.main (F := Ideal))) ⟨m', fun _ => 0, g'⟩ (fun r => ∀ c : Dev Cert.DoRefIdeal.nD,
          r.2.mem ((c.tc : Thread Cert.DoRefIdeal.nD Cert.DoRefIdeal.τ).loc Cert.DoRefIdeal.main_v4) = v0 c
          ∧ r.2.mem ((c.tc : Thread Cert.DoRefIdeal.nD Cert.DoRefIdeal.τ).loc Cert.DoRefIdeal.main_arg0) = m' ((c.tc : Thread Cert.DoRefIdeal.nD Cert.DoRefIdeal.τ).loc Cert.DoRefIdeal.main_arg0)
          ∧ r.2.mem ((c.tc : Thread Cert.DoRefIdeal.nD Cert.DoRefIdeal.τ).loc Cert.DoRefIdeal.main_arg1) = m' ((c.tc : Thread Cert.DoRefIdeal.nD Cert.DoRefIdeal.τ).loc Cert.DoRefIdeal.main_arg1))

def preserves_Dinr_DinrIdeal : Prop :=
  True

def algebraic_DinrIdeal_DinrRefIdeal [hDinrIdeal : Cert.DinrIdeal.Facts] [hDinrRefIdeal : Cert.DinrRefIdeal.Facts] : Prop :=
  ∀ (m : (ℓ : Loc Cert.DinrIdeal.nD Cert.DinrIdeal.τ Cert.DinrIdeal.sig) → Buf (Elt Ideal) ℓ) (g : Dev Cert.DinrIdeal.nD → PrngReg)
    (m' : (ℓ : Loc Cert.DinrRefIdeal.nD Cert.DinrRefIdeal.τ Cert.DinrRefIdeal.sig) → Buf (Elt Ideal) ℓ) (g' : Dev Cert.DinrRefIdeal.nD → PrngReg), Pre_DinrIdeal m →
    (∀ c : Dev Cert.DinrIdeal.nD,
      m' ((c.tc : Thread Cert.DinrRefIdeal.nD Cert.DinrRefIdeal.τ).loc Cert.DinrRefIdeal.main_arg0) = m ((c.tc : Thread Cert.DinrIdeal.nD Cert.DinrIdeal.τ).loc Cert.DinrIdeal.main_arg0)
      ∧ m' ((c.tc : Thread Cert.DinrRefIdeal.nD Cert.DinrRefIdeal.τ).loc Cert.DinrRefIdeal.main_arg1) = m ((c.tc : Thread Cert.DinrIdeal.nD Cert.DinrIdeal.τ).loc Cert.DinrIdeal.main_arg1)
      ∧ m' ((c.tc : Thread Cert.DinrRefIdeal.nD Cert.DinrRefIdeal.τ).loc Cert.DinrRefIdeal.main_arg2) = m ((c.tc : Thread Cert.DinrIdeal.nD Cert.DinrIdeal.τ).loc Cert.DinrIdeal.main_arg2)) →
    ∃ (v0 : (c : Dev Cert.DinrIdeal.nD) → Buf (Elt Ideal) ((c.tc : Thread Cert.DinrIdeal.nD Cert.DinrIdeal.τ).loc Cert.DinrIdeal.main_v0_0)) (v1 : (c : Dev Cert.DinrIdeal.nD) → Buf (Elt Ideal) ((c.tc : Thread Cert.DinrIdeal.nD Cert.DinrIdeal.τ).loc Cert.DinrIdeal.main_v0_1)),
      θ_run (Cert.DinrIdeal.defs (F := Ideal)) (onTc (τ := Cert.DinrIdeal.τ) (Cert.DinrIdeal.main (F := Ideal))) ⟨m, fun _ => 0, g⟩ (fun r => ∀ c : Dev Cert.DinrIdeal.nD,
          r.2.mem ((c.tc : Thread Cert.DinrIdeal.nD Cert.DinrIdeal.τ).loc Cert.DinrIdeal.main_v0_0) = v0 c
          ∧ r.2.mem ((c.tc : Thread Cert.DinrIdeal.nD Cert.DinrIdeal.τ).loc Cert.DinrIdeal.main_v0_1) = v1 c
          ∧ r.2.mem ((c.tc : Thread Cert.DinrIdeal.nD Cert.DinrIdeal.τ).loc Cert.DinrIdeal.main_arg0) = m ((c.tc : Thread Cert.DinrIdeal.nD Cert.DinrIdeal.τ).loc Cert.DinrIdeal.main_arg0)
          ∧ r.2.mem ((c.tc : Thread Cert.DinrIdeal.nD Cert.DinrIdeal.τ).loc Cert.DinrIdeal.main_arg1) = m ((c.tc : Thread Cert.DinrIdeal.nD Cert.DinrIdeal.τ).loc Cert.DinrIdeal.main_arg1)
          ∧ r.2.mem ((c.tc : Thread Cert.DinrIdeal.nD Cert.DinrIdeal.τ).loc Cert.DinrIdeal.main_arg2) = m ((c.tc : Thread Cert.DinrIdeal.nD Cert.DinrIdeal.τ).loc Cert.DinrIdeal.main_arg2))
      ∧ θ_run (Cert.DinrRefIdeal.defs (F := Ideal)) (onTc (τ := Cert.DinrRefIdeal.τ) (Cert.DinrRefIdeal.main (F := Ideal))) ⟨m', fun _ => 0, g'⟩ (fun r => ∀ c : Dev Cert.DinrRefIdeal.nD,
          r.2.mem ((c.tc : Thread Cert.DinrRefIdeal.nD Cert.DinrRefIdeal.τ).loc Cert.DinrRefIdeal.main_v8) = v0 c
          ∧ r.2.mem ((c.tc : Thread Cert.DinrRefIdeal.nD Cert.DinrRefIdeal.τ).loc Cert.DinrRefIdeal.main_v6) = v1 c
          ∧ r.2.mem ((c.tc : Thread Cert.DinrRefIdeal.nD Cert.DinrRefIdeal.τ).loc Cert.DinrRefIdeal.main_arg0) = m' ((c.tc : Thread Cert.DinrRefIdeal.nD Cert.DinrRefIdeal.τ).loc Cert.DinrRefIdeal.main_arg0)
          ∧ r.2.mem ((c.tc : Thread Cert.DinrRefIdeal.nD Cert.DinrRefIdeal.τ).loc Cert.DinrRefIdeal.main_arg1) = m' ((c.tc : Thread Cert.DinrRefIdeal.nD Cert.DinrRefIdeal.τ).loc Cert.DinrRefIdeal.main_arg1)
          ∧ r.2.mem ((c.tc : Thread Cert.DinrRefIdeal.nD Cert.DinrRefIdeal.τ).loc Cert.DinrRefIdeal.main_arg2) = m' ((c.tc : Thread Cert.DinrRefIdeal.nD Cert.DinrRefIdeal.τ).loc Cert.DinrRefIdeal.main_arg2))

def preserves_Dina_DinaIdeal : Prop :=
  True

def algebraic_DinaIdeal_DinaRefIdeal [hDinaIdeal : Cert.DinaIdeal.Facts] [hDinaRefIdeal : Cert.DinaRefIdeal.Facts] : Prop :=
  ∀ (m : (ℓ : Loc Cert.DinaIdeal.nD Cert.DinaIdeal.τ Cert.DinaIdeal.sig) → Buf (Elt Ideal) ℓ) (g : Dev Cert.DinaIdeal.nD → PrngReg)
    (m' : (ℓ : Loc Cert.DinaRefIdeal.nD Cert.DinaRefIdeal.τ Cert.DinaRefIdeal.sig) → Buf (Elt Ideal) ℓ) (g' : Dev Cert.DinaRefIdeal.nD → PrngReg), Pre_DinaIdeal m →
    (∀ c : Dev Cert.DinaIdeal.nD,
      m' ((c.tc : Thread Cert.DinaRefIdeal.nD Cert.DinaRefIdeal.τ).loc Cert.DinaRefIdeal.main_arg0) = m ((c.tc : Thread Cert.DinaIdeal.nD Cert.DinaIdeal.τ).loc Cert.DinaIdeal.main_arg0)
      ∧ m' ((c.tc : Thread Cert.DinaRefIdeal.nD Cert.DinaRefIdeal.τ).loc Cert.DinaRefIdeal.main_arg1) = m ((c.tc : Thread Cert.DinaIdeal.nD Cert.DinaIdeal.τ).loc Cert.DinaIdeal.main_arg1)
      ∧ m' ((c.tc : Thread Cert.DinaRefIdeal.nD Cert.DinaRefIdeal.τ).loc Cert.DinaRefIdeal.main_arg2) = m ((c.tc : Thread Cert.DinaIdeal.nD Cert.DinaIdeal.τ).loc Cert.DinaIdeal.main_arg2)
      ∧ m' ((c.tc : Thread Cert.DinaRefIdeal.nD Cert.DinaRefIdeal.τ).loc Cert.DinaRefIdeal.main_arg3) = m ((c.tc : Thread Cert.DinaIdeal.nD Cert.DinaIdeal.τ).loc Cert.DinaIdeal.main_arg3)) →
    ∃ (v0 : (c : Dev Cert.DinaIdeal.nD) → Buf (Elt Ideal) ((c.tc : Thread Cert.DinaIdeal.nD Cert.DinaIdeal.τ).loc Cert.DinaIdeal.main_v0_0)) (v1 : (c : Dev Cert.DinaIdeal.nD) → Buf (Elt Ideal) ((c.tc : Thread Cert.DinaIdeal.nD Cert.DinaIdeal.τ).loc Cert.DinaIdeal.main_v0_1)) (v2 : (c : Dev Cert.DinaIdeal.nD) → Buf (Elt Ideal) ((c.tc : Thread Cert.DinaIdeal.nD Cert.DinaIdeal.τ).loc Cert.DinaIdeal.main_v0_2)),
      θ_run (Cert.DinaIdeal.defs (F := Ideal)) (onTc (τ := Cert.DinaIdeal.τ) (Cert.DinaIdeal.main (F := Ideal))) ⟨m, fun _ => 0, g⟩ (fun r => ∀ c : Dev Cert.DinaIdeal.nD,
          r.2.mem ((c.tc : Thread Cert.DinaIdeal.nD Cert.DinaIdeal.τ).loc Cert.DinaIdeal.main_v0_0) = v0 c
          ∧ r.2.mem ((c.tc : Thread Cert.DinaIdeal.nD Cert.DinaIdeal.τ).loc Cert.DinaIdeal.main_v0_1) = v1 c
          ∧ r.2.mem ((c.tc : Thread Cert.DinaIdeal.nD Cert.DinaIdeal.τ).loc Cert.DinaIdeal.main_v0_2) = v2 c
          ∧ r.2.mem ((c.tc : Thread Cert.DinaIdeal.nD Cert.DinaIdeal.τ).loc Cert.DinaIdeal.main_arg0) = m ((c.tc : Thread Cert.DinaIdeal.nD Cert.DinaIdeal.τ).loc Cert.DinaIdeal.main_arg0)
          ∧ r.2.mem ((c.tc : Thread Cert.DinaIdeal.nD Cert.DinaIdeal.τ).loc Cert.DinaIdeal.main_arg1) = m ((c.tc : Thread Cert.DinaIdeal.nD Cert.DinaIdeal.τ).loc Cert.DinaIdeal.main_arg1)
          ∧ r.2.mem ((c.tc : Thread Cert.DinaIdeal.nD Cert.DinaIdeal.τ).loc Cert.DinaIdeal.main_arg2) = m ((c.tc : Thread Cert.DinaIdeal.nD Cert.DinaIdeal.τ).loc Cert.DinaIdeal.main_arg2)
          ∧ r.2.mem ((c.tc : Thread Cert.DinaIdeal.nD Cert.DinaIdeal.τ).loc Cert.DinaIdeal.main_arg3) = m ((c.tc : Thread Cert.DinaIdeal.nD Cert.DinaIdeal.τ).loc Cert.DinaIdeal.main_arg3))
      ∧ θ_run (Cert.DinaRefIdeal.defs (F := Ideal)) (onTc (τ := Cert.DinaRefIdeal.τ) (Cert.DinaRefIdeal.main (F := Ideal))) ⟨m', fun _ => 0, g'⟩ (fun r => ∀ c : Dev Cert.DinaRefIdeal.nD,
          r.2.mem ((c.tc : Thread Cert.DinaRefIdeal.nD Cert.DinaRefIdeal.τ).loc Cert.DinaRefIdeal.main_v13) = v0 c
          ∧ r.2.mem ((c.tc : Thread Cert.DinaRefIdeal.nD Cert.DinaRefIdeal.τ).loc Cert.DinaRefIdeal.main_v11) = v1 c
          ∧ r.2.mem ((c.tc : Thread Cert.DinaRefIdeal.nD Cert.DinaRefIdeal.τ).loc Cert.DinaRefIdeal.main_v9) = v2 c
          ∧ r.2.mem ((c.tc : Thread Cert.DinaRefIdeal.nD Cert.DinaRefIdeal.τ).loc Cert.DinaRefIdeal.main_arg0) = m' ((c.tc : Thread Cert.DinaRefIdeal.nD Cert.DinaRefIdeal.τ).loc Cert.DinaRefIdeal.main_arg0)
          ∧ r.2.mem ((c.tc : Thread Cert.DinaRefIdeal.nD Cert.DinaRefIdeal.τ).loc Cert.DinaRefIdeal.main_arg1) = m' ((c.tc : Thread Cert.DinaRefIdeal.nD Cert.DinaRefIdeal.τ).loc Cert.DinaRefIdeal.main_arg1)
          ∧ r.2.mem ((c.tc : Thread Cert.DinaRefIdeal.nD Cert.DinaRefIdeal.τ).loc Cert.DinaRefIdeal.main_arg2) = m' ((c.tc : Thread Cert.DinaRefIdeal.nD Cert.DinaRefIdeal.τ).loc Cert.DinaRefIdeal.main_arg2)
          ∧ r.2.mem ((c.tc : Thread Cert.DinaRefIdeal.nD Cert.DinaRefIdeal.τ).loc Cert.DinaRefIdeal.main_arg3) = m' ((c.tc : Thread Cert.DinaRefIdeal.nD Cert.DinaRefIdeal.τ).loc Cert.DinaRefIdeal.main_arg3))

def preserves_Dh_DhIdeal : Prop :=
  True

def algebraic_DhIdeal_DhRefIdeal_pre_dh_finite [hDhIdeal : Cert.DhIdeal.Facts] [hDhRefIdeal : Cert.DhRefIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_dh_finite m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)
      ∧ m' ((c.tc : Thread Cert.DhRefIdeal.nD Cert.DhRefIdeal.τ).loc Cert.DhRefIdeal.main_arg7) = m ((c.tc : Thread Cert.DhIdeal.nD Cert.DhIdeal.τ).loc Cert.DhIdeal.main_arg7)
      ∧ m' ((c.tc : Thread Cert.DhRefIdeal.nD Cert.DhRefIdeal.τ).loc Cert.DhRefIdeal.main_arg8) = m ((c.tc : Thread Cert.DhIdeal.nD Cert.DhIdeal.τ).loc Cert.DhIdeal.main_arg8)) →
    ∃ (v0 : (c : Dev Cert.DhIdeal.nD) → Buf (Elt Ideal) ((c.tc : Thread Cert.DhIdeal.nD Cert.DhIdeal.τ).loc Cert.DhIdeal.main_v2_0)) (v1 : (c : Dev Cert.DhIdeal.nD) → Buf (Elt Ideal) ((c.tc : Thread Cert.DhIdeal.nD Cert.DhIdeal.τ).loc Cert.DhIdeal.main_v2_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2_0) = v0 c
          ∧ r.2.mem ((c.tc : Thread Cert.DhIdeal.nD Cert.DhIdeal.τ).loc Cert.DhIdeal.main_v2_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
          ∧ r.2.mem ((c.tc : Thread Cert.DhIdeal.nD Cert.DhIdeal.τ).loc Cert.DhIdeal.main_arg8) = m ((c.tc : Thread Cert.DhIdeal.nD Cert.DhIdeal.τ).loc Cert.DhIdeal.main_arg8))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v58) = v0 c
          ∧ r.2.mem ((c.tc : Thread Cert.DhRefIdeal.nD Cert.DhRefIdeal.τ).loc Cert.DhRefIdeal.main_v41) = v1 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6)
          ∧ r.2.mem ((c.tc : Thread Cert.DhRefIdeal.nD Cert.DhRefIdeal.τ).loc Cert.DhRefIdeal.main_arg7) = m' ((c.tc : Thread Cert.DhRefIdeal.nD Cert.DhRefIdeal.τ).loc Cert.DhRefIdeal.main_arg7)
          ∧ r.2.mem ((c.tc : Thread Cert.DhRefIdeal.nD Cert.DhRefIdeal.τ).loc Cert.DhRefIdeal.main_arg8) = m' ((c.tc : Thread Cert.DhRefIdeal.nD Cert.DhRefIdeal.τ).loc Cert.DhRefIdeal.main_arg8))

def preserves_Fya_FyaIdeal : Prop :=
  True

def algebraic_FyaIdeal_FyaRefIdeal [hFyaIdeal : Cert.FyaIdeal.Facts] [hFyaRefIdeal : Cert.FyaRefIdeal.Facts] : Prop :=
  ∀ (m : (ℓ : Loc Cert.FyaIdeal.nD Cert.FyaIdeal.τ Cert.FyaIdeal.sig) → Buf (Elt Ideal) ℓ) (g : Dev Cert.FyaIdeal.nD → PrngReg)
    (m' : (ℓ : Loc Cert.FyaRefIdeal.nD Cert.FyaRefIdeal.τ Cert.FyaRefIdeal.sig) → Buf (Elt Ideal) ℓ) (g' : Dev Cert.FyaRefIdeal.nD → PrngReg), Pre_FyaIdeal m →
    (∀ c : Dev Cert.FyaIdeal.nD,
      m' ((c.tc : Thread Cert.FyaRefIdeal.nD Cert.FyaRefIdeal.τ).loc Cert.FyaRefIdeal.main_arg0) = m ((c.tc : Thread Cert.FyaIdeal.nD Cert.FyaIdeal.τ).loc Cert.FyaIdeal.main_arg0)
      ∧ m' ((c.tc : Thread Cert.FyaRefIdeal.nD Cert.FyaRefIdeal.τ).loc Cert.FyaRefIdeal.main_arg1) = m ((c.tc : Thread Cert.FyaIdeal.nD Cert.FyaIdeal.τ).loc Cert.FyaIdeal.main_arg1)) →
    ∃ (v0 : (c : Dev Cert.FyaIdeal.nD) → Buf (Elt Ideal) ((c.tc : Thread Cert.FyaIdeal.nD Cert.FyaIdeal.τ).loc Cert.FyaIdeal.main_v0)),
      θ_run (Cert.FyaIdeal.defs (F := Ideal)) (onTc (τ := Cert.FyaIdeal.τ) (Cert.FyaIdeal.main (F := Ideal))) ⟨m, fun _ => 0, g⟩ (fun r => ∀ c : Dev Cert.FyaIdeal.nD,
          r.2.mem ((c.tc : Thread Cert.FyaIdeal.nD Cert.FyaIdeal.τ).loc Cert.FyaIdeal.main_v0) = v0 c
          ∧ r.2.mem ((c.tc : Thread Cert.FyaIdeal.nD Cert.FyaIdeal.τ).loc Cert.FyaIdeal.main_arg0) = m ((c.tc : Thread Cert.FyaIdeal.nD Cert.FyaIdeal.τ).loc Cert.FyaIdeal.main_arg0)
          ∧ r.2.mem ((c.tc : Thread Cert.FyaIdeal.nD Cert.FyaIdeal.τ).loc Cert.FyaIdeal.main_arg1) = m ((c.tc : Thread Cert.FyaIdeal.nD Cert.FyaIdeal.τ).loc Cert.FyaIdeal.main_arg1))
      ∧ θ_run (Cert.FyaRefIdeal.defs (F := Ideal)) (onTc (τ := Cert.FyaRefIdeal.τ) (Cert.FyaRefIdeal.main (F := Ideal))) ⟨m', fun _ => 0, g'⟩ (fun r => ∀ c : Dev Cert.FyaRefIdeal.nD,
          r.2.mem ((c.tc : Thread Cert.FyaRefIdeal.nD Cert.FyaRefIdeal.τ).loc Cert.FyaRefIdeal.main_v0) = v0 c
          ∧ r.2.mem ((c.tc : Thread Cert.FyaRefIdeal.nD Cert.FyaRefIdeal.τ).loc Cert.FyaRefIdeal.main_arg0) = m' ((c.tc : Thread Cert.FyaRefIdeal.nD Cert.FyaRefIdeal.τ).loc Cert.FyaRefIdeal.main_arg0)
          ∧ r.2.mem ((c.tc : Thread Cert.FyaRefIdeal.nD Cert.FyaRefIdeal.τ).loc Cert.FyaRefIdeal.main_arg1) = m' ((c.tc : Thread Cert.FyaRefIdeal.nD Cert.FyaRefIdeal.τ).loc Cert.FyaRefIdeal.main_arg1))

def preserves_Fyb_FybIdeal : Prop :=
  True

def algebraic_FybIdeal_FybRefIdeal [hFybIdeal : Cert.FybIdeal.Facts] [hFybRefIdeal : Cert.FybRefIdeal.Facts] : Prop :=
  ∀ (m : (ℓ : Loc Cert.FybIdeal.nD Cert.FybIdeal.τ Cert.FybIdeal.sig) → Buf (Elt Ideal) ℓ) (g : Dev Cert.FybIdeal.nD → PrngReg)
    (m' : (ℓ : Loc Cert.FybRefIdeal.nD Cert.FybRefIdeal.τ Cert.FybRefIdeal.sig) → Buf (Elt Ideal) ℓ) (g' : Dev Cert.FybRefIdeal.nD → PrngReg), Pre_FybIdeal m →
    (∀ c : Dev Cert.FybIdeal.nD,
      m' ((c.tc : Thread Cert.FybRefIdeal.nD Cert.FybRefIdeal.τ).loc Cert.FybRefIdeal.main_arg0) = m ((c.tc : Thread Cert.FybIdeal.nD Cert.FybIdeal.τ).loc Cert.FybIdeal.main_arg0)
      ∧ m' ((c.tc : Thread Cert.FybRefIdeal.nD Cert.FybRefIdeal.τ).loc Cert.FybRefIdeal.main_arg1) = m ((c.tc : Thread Cert.FybIdeal.nD Cert.FybIdeal.τ).loc Cert.FybIdeal.main_arg1)
      ∧ m' ((c.tc : Thread Cert.FybRefIdeal.nD Cert.FybRefIdeal.τ).loc Cert.FybRefIdeal.main_arg2) = m ((c.tc : Thread Cert.FybIdeal.nD Cert.FybIdeal.τ).loc Cert.FybIdeal.main_arg2)
      ∧ m' ((c.tc : Thread Cert.FybRefIdeal.nD Cert.FybRefIdeal.τ).loc Cert.FybRefIdeal.main_arg3) = m ((c.tc : Thread Cert.FybIdeal.nD Cert.FybIdeal.τ).loc Cert.FybIdeal.main_arg3)) →
    ∃ (v0 : (c : Dev Cert.FybIdeal.nD) → Buf (Elt Ideal) ((c.tc : Thread Cert.FybIdeal.nD Cert.FybIdeal.τ).loc Cert.FybIdeal.main_v0_0)) (v1 : (c : Dev Cert.FybIdeal.nD) → Buf (Elt Ideal) ((c.tc : Thread Cert.FybIdeal.nD Cert.FybIdeal.τ).loc Cert.FybIdeal.main_v0_1)),
      θ_run (Cert.FybIdeal.defs (F := Ideal)) (onTc (τ := Cert.FybIdeal.τ) (Cert.FybIdeal.main (F := Ideal))) ⟨m, fun _ => 0, g⟩ (fun r => ∀ c : Dev Cert.FybIdeal.nD,
          r.2.mem ((c.tc : Thread Cert.FybIdeal.nD Cert.FybIdeal.τ).loc Cert.FybIdeal.main_v0_0) = v0 c
          ∧ r.2.mem ((c.tc : Thread Cert.FybIdeal.nD Cert.FybIdeal.τ).loc Cert.FybIdeal.main_v0_1) = v1 c
          ∧ r.2.mem ((c.tc : Thread Cert.FybIdeal.nD Cert.FybIdeal.τ).loc Cert.FybIdeal.main_arg0) = m ((c.tc : Thread Cert.FybIdeal.nD Cert.FybIdeal.τ).loc Cert.FybIdeal.main_arg0)
          ∧ r.2.mem ((c.tc : Thread Cert.FybIdeal.nD Cert.FybIdeal.τ).loc Cert.FybIdeal.main_arg1) = m ((c.tc : Thread Cert.FybIdeal.nD Cert.FybIdeal.τ).loc Cert.FybIdeal.main_arg1)
          ∧ r.2.mem ((c.tc : Thread Cert.FybIdeal.nD Cert.FybIdeal.τ).loc Cert.FybIdeal.main_arg2) = m ((c.tc : Thread Cert.FybIdeal.nD Cert.FybIdeal.τ).loc Cert.FybIdeal.main_arg2)
          ∧ r.2.mem ((c.tc : Thread Cert.FybIdeal.nD Cert.FybIdeal.τ).loc Cert.FybIdeal.main_arg3) = m ((c.tc : Thread Cert.FybIdeal.nD Cert.FybIdeal.τ).loc Cert.FybIdeal.main_arg3))
      ∧ θ_run (Cert.FybRefIdeal.defs (F := Ideal)) (onTc (τ := Cert.FybRefIdeal.τ) (Cert.FybRefIdeal.main (F := Ideal))) ⟨m', fun _ => 0, g'⟩ (fun r => ∀ c : Dev Cert.FybRefIdeal.nD,
          r.2.mem ((c.tc : Thread Cert.FybRefIdeal.nD Cert.FybRefIdeal.τ).loc Cert.FybRefIdeal.main_v0) = v0 c
          ∧ r.2.mem ((c.tc : Thread Cert.FybRefIdeal.nD Cert.FybRefIdeal.τ).loc Cert.FybRefIdeal.main_v18) = v1 c
          ∧ r.2.mem ((c.tc : Thread Cert.FybRefIdeal.nD Cert.FybRefIdeal.τ).loc Cert.FybRefIdeal.main_arg0) = m' ((c.tc : Thread Cert.FybRefIdeal.nD Cert.FybRefIdeal.τ).loc Cert.FybRefIdeal.main_arg0)
          ∧ r.2.mem ((c.tc : Thread Cert.FybRefIdeal.nD Cert.FybRefIdeal.τ).loc Cert.FybRefIdeal.main_arg1) = m' ((c.tc : Thread Cert.FybRefIdeal.nD Cert.FybRefIdeal.τ).loc Cert.FybRefIdeal.main_arg1)
          ∧ r.2.mem ((c.tc : Thread Cert.FybRefIdeal.nD Cert.FybRefIdeal.τ).loc Cert.FybRefIdeal.main_arg2) = m' ((c.tc : Thread Cert.FybRefIdeal.nD Cert.FybRefIdeal.τ).loc Cert.FybRefIdeal.main_arg2)
          ∧ r.2.mem ((c.tc : Thread Cert.FybRefIdeal.nD Cert.FybRefIdeal.τ).loc Cert.FybRefIdeal.main_arg3) = m' ((c.tc : Thread Cert.FybRefIdeal.nD Cert.FybRefIdeal.τ).loc Cert.FybRefIdeal.main_arg3))

def preserves_Fx1_Fx1Ideal : Prop :=
  True

def algebraic_Fx1Ideal_Fx1RefIdeal [hFx1Ideal : Cert.Fx1Ideal.Facts] [hFx1RefIdeal : Cert.Fx1RefIdeal.Facts] : Prop :=
  ∀ (m : (ℓ : Loc Cert.Fx1Ideal.nD Cert.Fx1Ideal.τ Cert.Fx1Ideal.sig) → Buf (Elt Ideal) ℓ) (g : Dev Cert.Fx1Ideal.nD → PrngReg)
    (m' : (ℓ : Loc Cert.Fx1RefIdeal.nD Cert.Fx1RefIdeal.τ Cert.Fx1RefIdeal.sig) → Buf (Elt Ideal) ℓ) (g' : Dev Cert.Fx1RefIdeal.nD → PrngReg), Pre_Fx1Ideal m →
    (∀ c : Dev Cert.Fx1Ideal.nD,
      m' ((c.tc : Thread Cert.Fx1RefIdeal.nD Cert.Fx1RefIdeal.τ).loc Cert.Fx1RefIdeal.main_arg0) = m ((c.tc : Thread Cert.Fx1Ideal.nD Cert.Fx1Ideal.τ).loc Cert.Fx1Ideal.main_arg0)
      ∧ m' ((c.tc : Thread Cert.Fx1RefIdeal.nD Cert.Fx1RefIdeal.τ).loc Cert.Fx1RefIdeal.main_arg1) = m ((c.tc : Thread Cert.Fx1Ideal.nD Cert.Fx1Ideal.τ).loc Cert.Fx1Ideal.main_arg1)
      ∧ m' ((c.tc : Thread Cert.Fx1RefIdeal.nD Cert.Fx1RefIdeal.τ).loc Cert.Fx1RefIdeal.main_arg2) = m ((c.tc : Thread Cert.Fx1Ideal.nD Cert.Fx1Ideal.τ).loc Cert.Fx1Ideal.main_arg2)
      ∧ m' ((c.tc : Thread Cert.Fx1RefIdeal.nD Cert.Fx1RefIdeal.τ).loc Cert.Fx1RefIdeal.main_arg3) = m ((c.tc : Thread Cert.Fx1Ideal.nD Cert.Fx1Ideal.τ).loc Cert.Fx1Ideal.main_arg3)) →
    ∃ (v0 : (c : Dev Cert.Fx1Ideal.nD) → Buf (Elt Ideal) ((c.tc : Thread Cert.Fx1Ideal.nD Cert.Fx1Ideal.τ).loc Cert.Fx1Ideal.main_v0_0)) (v1 : (c : Dev Cert.Fx1Ideal.nD) → Buf (Elt Ideal) ((c.tc : Thread Cert.Fx1Ideal.nD Cert.Fx1Ideal.τ).loc Cert.Fx1Ideal.main_v0_1)),
      θ_run (Cert.Fx1Ideal.defs (F := Ideal)) (onTc (τ := Cert.Fx1Ideal.τ) (Cert.Fx1Ideal.main (F := Ideal))) ⟨m, fun _ => 0, g⟩ (fun r => ∀ c : Dev Cert.Fx1Ideal.nD,
          r.2.mem ((c.tc : Thread Cert.Fx1Ideal.nD Cert.Fx1Ideal.τ).loc Cert.Fx1Ideal.main_v0_0) = v0 c
          ∧ r.2.mem ((c.tc : Thread Cert.Fx1Ideal.nD Cert.Fx1Ideal.τ).loc Cert.Fx1Ideal.main_v0_1) = v1 c
          ∧ r.2.mem ((c.tc : Thread Cert.Fx1Ideal.nD Cert.Fx1Ideal.τ).loc Cert.Fx1Ideal.main_arg0) = m ((c.tc : Thread Cert.Fx1Ideal.nD Cert.Fx1Ideal.τ).loc Cert.Fx1Ideal.main_arg0)
          ∧ r.2.mem ((c.tc : Thread Cert.Fx1Ideal.nD Cert.Fx1Ideal.τ).loc Cert.Fx1Ideal.main_arg1) = m ((c.tc : Thread Cert.Fx1Ideal.nD Cert.Fx1Ideal.τ).loc Cert.Fx1Ideal.main_arg1)
          ∧ r.2.mem ((c.tc : Thread Cert.Fx1Ideal.nD Cert.Fx1Ideal.τ).loc Cert.Fx1Ideal.main_arg2) = m ((c.tc : Thread Cert.Fx1Ideal.nD Cert.Fx1Ideal.τ).loc Cert.Fx1Ideal.main_arg2)
          ∧ r.2.mem ((c.tc : Thread Cert.Fx1Ideal.nD Cert.Fx1Ideal.τ).loc Cert.Fx1Ideal.main_arg3) = m ((c.tc : Thread Cert.Fx1Ideal.nD Cert.Fx1Ideal.τ).loc Cert.Fx1Ideal.main_arg3))
      ∧ θ_run (Cert.Fx1RefIdeal.defs (F := Ideal)) (onTc (τ := Cert.Fx1RefIdeal.τ) (Cert.Fx1RefIdeal.main (F := Ideal))) ⟨m', fun _ => 0, g'⟩ (fun r => ∀ c : Dev Cert.Fx1RefIdeal.nD,
          r.2.mem ((c.tc : Thread Cert.Fx1RefIdeal.nD Cert.Fx1RefIdeal.τ).loc Cert.Fx1RefIdeal.main_v1) = v0 c
          ∧ r.2.mem ((c.tc : Thread Cert.Fx1RefIdeal.nD Cert.Fx1RefIdeal.τ).loc Cert.Fx1RefIdeal.main_v14) = v1 c
          ∧ r.2.mem ((c.tc : Thread Cert.Fx1RefIdeal.nD Cert.Fx1RefIdeal.τ).loc Cert.Fx1RefIdeal.main_arg0) = m' ((c.tc : Thread Cert.Fx1RefIdeal.nD Cert.Fx1RefIdeal.τ).loc Cert.Fx1RefIdeal.main_arg0)
          ∧ r.2.mem ((c.tc : Thread Cert.Fx1RefIdeal.nD Cert.Fx1RefIdeal.τ).loc Cert.Fx1RefIdeal.main_arg1) = m' ((c.tc : Thread Cert.Fx1RefIdeal.nD Cert.Fx1RefIdeal.τ).loc Cert.Fx1RefIdeal.main_arg1)
          ∧ r.2.mem ((c.tc : Thread Cert.Fx1RefIdeal.nD Cert.Fx1RefIdeal.τ).loc Cert.Fx1RefIdeal.main_arg2) = m' ((c.tc : Thread Cert.Fx1RefIdeal.nD Cert.Fx1RefIdeal.τ).loc Cert.Fx1RefIdeal.main_arg2)
          ∧ r.2.mem ((c.tc : Thread Cert.Fx1RefIdeal.nD Cert.Fx1RefIdeal.τ).loc Cert.Fx1RefIdeal.main_arg3) = m' ((c.tc : Thread Cert.Fx1RefIdeal.nD Cert.Fx1RefIdeal.τ).loc Cert.Fx1RefIdeal.main_arg3))

def preserves_Fact_FactIdeal : Prop :=
  True

def algebraic_FactIdeal_FactRefIdeal [hFactIdeal : Cert.FactIdeal.Facts] [hFactRefIdeal : Cert.FactRefIdeal.Facts] : Prop :=
  ∀ (m : (ℓ : Loc Cert.FactIdeal.nD Cert.FactIdeal.τ Cert.FactIdeal.sig) → Buf (Elt Ideal) ℓ) (g : Dev Cert.FactIdeal.nD → PrngReg)
    (m' : (ℓ : Loc Cert.FactRefIdeal.nD Cert.FactRefIdeal.τ Cert.FactRefIdeal.sig) → Buf (Elt Ideal) ℓ) (g' : Dev Cert.FactRefIdeal.nD → PrngReg), Pre_FactIdeal m →
    (∀ c : Dev Cert.FactIdeal.nD,
      m' ((c.tc : Thread Cert.FactRefIdeal.nD Cert.FactRefIdeal.τ).loc Cert.FactRefIdeal.main_arg0) = m ((c.tc : Thread Cert.FactIdeal.nD Cert.FactIdeal.τ).loc Cert.FactIdeal.main_arg0)
      ∧ m' ((c.tc : Thread Cert.FactRefIdeal.nD Cert.FactRefIdeal.τ).loc Cert.FactRefIdeal.main_arg1) = m ((c.tc : Thread Cert.FactIdeal.nD Cert.FactIdeal.τ).loc Cert.FactIdeal.main_arg1)) →
    ∃ (v0 : (c : Dev Cert.FactIdeal.nD) → Buf (Elt Ideal) ((c.tc : Thread Cert.FactIdeal.nD Cert.FactIdeal.τ).loc Cert.FactIdeal.main_v0)),
      θ_run (Cert.FactIdeal.defs (F := Ideal)) (onTc (τ := Cert.FactIdeal.τ) (Cert.FactIdeal.main (F := Ideal))) ⟨m, fun _ => 0, g⟩ (fun r => ∀ c : Dev Cert.FactIdeal.nD,
          r.2.mem ((c.tc : Thread Cert.FactIdeal.nD Cert.FactIdeal.τ).loc Cert.FactIdeal.main_v0) = v0 c
          ∧ r.2.mem ((c.tc : Thread Cert.FactIdeal.nD Cert.FactIdeal.τ).loc Cert.FactIdeal.main_arg0) = m ((c.tc : Thread Cert.FactIdeal.nD Cert.FactIdeal.τ).loc Cert.FactIdeal.main_arg0)
          ∧ r.2.mem ((c.tc : Thread Cert.FactIdeal.nD Cert.FactIdeal.τ).loc Cert.FactIdeal.main_arg1) = m ((c.tc : Thread Cert.FactIdeal.nD Cert.FactIdeal.τ).loc Cert.FactIdeal.main_arg1))
      ∧ θ_run (Cert.FactRefIdeal.defs (F := Ideal)) (onTc (τ := Cert.FactRefIdeal.τ) (Cert.FactRefIdeal.main (F := Ideal))) ⟨m', fun _ => 0, g'⟩ (fun r => ∀ c : Dev Cert.FactRefIdeal.nD,
          r.2.mem ((c.tc : Thread Cert.FactRefIdeal.nD Cert.FactRefIdeal.τ).loc Cert.FactRefIdeal.main_v3) = v0 c
          ∧ r.2.mem ((c.tc : Thread Cert.FactRefIdeal.nD Cert.FactRefIdeal.τ).loc Cert.FactRefIdeal.main_arg0) = m' ((c.tc : Thread Cert.FactRefIdeal.nD Cert.FactRefIdeal.τ).loc Cert.FactRefIdeal.main_arg0)
          ∧ r.2.mem ((c.tc : Thread Cert.FactRefIdeal.nD Cert.FactRefIdeal.τ).loc Cert.FactRefIdeal.main_arg1) = m' ((c.tc : Thread Cert.FactRefIdeal.nD Cert.FactRefIdeal.τ).loc Cert.FactRefIdeal.main_arg1))

def preserves_Fx2_Fx2Ideal : Prop :=
  True

def algebraic_Fx2Ideal_Fx2RefIdeal [hFx2Ideal : Cert.Fx2Ideal.Facts] [hFx2RefIdeal : Cert.Fx2RefIdeal.Facts] : Prop :=
  ∀ (m : (ℓ : Loc Cert.Fx2Ideal.nD Cert.Fx2Ideal.τ Cert.Fx2Ideal.sig) → Buf (Elt Ideal) ℓ) (g : Dev Cert.Fx2Ideal.nD → PrngReg)
    (m' : (ℓ : Loc Cert.Fx2RefIdeal.nD Cert.Fx2RefIdeal.τ Cert.Fx2RefIdeal.sig) → Buf (Elt Ideal) ℓ) (g' : Dev Cert.Fx2RefIdeal.nD → PrngReg), Pre_Fx2Ideal m →
    (∀ c : Dev Cert.Fx2Ideal.nD,
      m' ((c.tc : Thread Cert.Fx2RefIdeal.nD Cert.Fx2RefIdeal.τ).loc Cert.Fx2RefIdeal.main_arg0) = m ((c.tc : Thread Cert.Fx2Ideal.nD Cert.Fx2Ideal.τ).loc Cert.Fx2Ideal.main_arg0)
      ∧ m' ((c.tc : Thread Cert.Fx2RefIdeal.nD Cert.Fx2RefIdeal.τ).loc Cert.Fx2RefIdeal.main_arg1) = m ((c.tc : Thread Cert.Fx2Ideal.nD Cert.Fx2Ideal.τ).loc Cert.Fx2Ideal.main_arg1)
      ∧ m' ((c.tc : Thread Cert.Fx2RefIdeal.nD Cert.Fx2RefIdeal.τ).loc Cert.Fx2RefIdeal.main_arg2) = m ((c.tc : Thread Cert.Fx2Ideal.nD Cert.Fx2Ideal.τ).loc Cert.Fx2Ideal.main_arg2)
      ∧ m' ((c.tc : Thread Cert.Fx2RefIdeal.nD Cert.Fx2RefIdeal.τ).loc Cert.Fx2RefIdeal.main_arg3) = m ((c.tc : Thread Cert.Fx2Ideal.nD Cert.Fx2Ideal.τ).loc Cert.Fx2Ideal.main_arg3)) →
    ∃ (v0 : (c : Dev Cert.Fx2Ideal.nD) → Buf (Elt Ideal) ((c.tc : Thread Cert.Fx2Ideal.nD Cert.Fx2Ideal.τ).loc Cert.Fx2Ideal.main_v0_0)) (v1 : (c : Dev Cert.Fx2Ideal.nD) → Buf (Elt Ideal) ((c.tc : Thread Cert.Fx2Ideal.nD Cert.Fx2Ideal.τ).loc Cert.Fx2Ideal.main_v0_1)),
      θ_run (Cert.Fx2Ideal.defs (F := Ideal)) (onTc (τ := Cert.Fx2Ideal.τ) (Cert.Fx2Ideal.main (F := Ideal))) ⟨m, fun _ => 0, g⟩ (fun r => ∀ c : Dev Cert.Fx2Ideal.nD,
          r.2.mem ((c.tc : Thread Cert.Fx2Ideal.nD Cert.Fx2Ideal.τ).loc Cert.Fx2Ideal.main_v0_0) = v0 c
          ∧ r.2.mem ((c.tc : Thread Cert.Fx2Ideal.nD Cert.Fx2Ideal.τ).loc Cert.Fx2Ideal.main_v0_1) = v1 c
          ∧ r.2.mem ((c.tc : Thread Cert.Fx2Ideal.nD Cert.Fx2Ideal.τ).loc Cert.Fx2Ideal.main_arg0) = m ((c.tc : Thread Cert.Fx2Ideal.nD Cert.Fx2Ideal.τ).loc Cert.Fx2Ideal.main_arg0)
          ∧ r.2.mem ((c.tc : Thread Cert.Fx2Ideal.nD Cert.Fx2Ideal.τ).loc Cert.Fx2Ideal.main_arg1) = m ((c.tc : Thread Cert.Fx2Ideal.nD Cert.Fx2Ideal.τ).loc Cert.Fx2Ideal.main_arg1)
          ∧ r.2.mem ((c.tc : Thread Cert.Fx2Ideal.nD Cert.Fx2Ideal.τ).loc Cert.Fx2Ideal.main_arg2) = m ((c.tc : Thread Cert.Fx2Ideal.nD Cert.Fx2Ideal.τ).loc Cert.Fx2Ideal.main_arg2)
          ∧ r.2.mem ((c.tc : Thread Cert.Fx2Ideal.nD Cert.Fx2Ideal.τ).loc Cert.Fx2Ideal.main_arg3) = m ((c.tc : Thread Cert.Fx2Ideal.nD Cert.Fx2Ideal.τ).loc Cert.Fx2Ideal.main_arg3))
      ∧ θ_run (Cert.Fx2RefIdeal.defs (F := Ideal)) (onTc (τ := Cert.Fx2RefIdeal.τ) (Cert.Fx2RefIdeal.main (F := Ideal))) ⟨m', fun _ => 0, g'⟩ (fun r => ∀ c : Dev Cert.Fx2RefIdeal.nD,
          r.2.mem ((c.tc : Thread Cert.Fx2RefIdeal.nD Cert.Fx2RefIdeal.τ).loc Cert.Fx2RefIdeal.main_v1) = v0 c
          ∧ r.2.mem ((c.tc : Thread Cert.Fx2RefIdeal.nD Cert.Fx2RefIdeal.τ).loc Cert.Fx2RefIdeal.main_v14) = v1 c
          ∧ r.2.mem ((c.tc : Thread Cert.Fx2RefIdeal.nD Cert.Fx2RefIdeal.τ).loc Cert.Fx2RefIdeal.main_arg0) = m' ((c.tc : Thread Cert.Fx2RefIdeal.nD Cert.Fx2RefIdeal.τ).loc Cert.Fx2RefIdeal.main_arg0)
          ∧ r.2.mem ((c.tc : Thread Cert.Fx2RefIdeal.nD Cert.Fx2RefIdeal.τ).loc Cert.Fx2RefIdeal.main_arg1) = m' ((c.tc : Thread Cert.Fx2RefIdeal.nD Cert.Fx2RefIdeal.τ).loc Cert.Fx2RefIdeal.main_arg1)
          ∧ r.2.mem ((c.tc : Thread Cert.Fx2RefIdeal.nD Cert.Fx2RefIdeal.τ).loc Cert.Fx2RefIdeal.main_arg2) = m' ((c.tc : Thread Cert.Fx2RefIdeal.nD Cert.Fx2RefIdeal.τ).loc Cert.Fx2RefIdeal.main_arg2)
          ∧ r.2.mem ((c.tc : Thread Cert.Fx2RefIdeal.nD Cert.Fx2RefIdeal.τ).loc Cert.Fx2RefIdeal.main_arg3) = m' ((c.tc : Thread Cert.Fx2RefIdeal.nD Cert.Fx2RefIdeal.τ).loc Cert.Fx2RefIdeal.main_arg3))

def preserves_Fe_FeIdeal : Prop :=
  True

def algebraic_FeIdeal_FeRefIdeal [hFeIdeal : Cert.FeIdeal.Facts] [hFeRefIdeal : Cert.FeRefIdeal.Facts] : Prop :=
  ∀ (m : (ℓ : Loc Cert.FeIdeal.nD Cert.FeIdeal.τ Cert.FeIdeal.sig) → Buf (Elt Ideal) ℓ) (g : Dev Cert.FeIdeal.nD → PrngReg)
    (m' : (ℓ : Loc Cert.FeRefIdeal.nD Cert.FeRefIdeal.τ Cert.FeRefIdeal.sig) → Buf (Elt Ideal) ℓ) (g' : Dev Cert.FeRefIdeal.nD → PrngReg), Pre_FeIdeal m →
    (∀ c : Dev Cert.FeIdeal.nD,
      m' ((c.tc : Thread Cert.FeRefIdeal.nD Cert.FeRefIdeal.τ).loc Cert.FeRefIdeal.main_arg0) = m ((c.tc : Thread Cert.FeIdeal.nD Cert.FeIdeal.τ).loc Cert.FeIdeal.main_arg0)
      ∧ m' ((c.tc : Thread Cert.FeRefIdeal.nD Cert.FeRefIdeal.τ).loc Cert.FeRefIdeal.main_arg1) = m ((c.tc : Thread Cert.FeIdeal.nD Cert.FeIdeal.τ).loc Cert.FeIdeal.main_arg1)) →
    ∃ (v0 : (c : Dev Cert.FeIdeal.nD) → Buf (Elt Ideal) ((c.tc : Thread Cert.FeIdeal.nD Cert.FeIdeal.τ).loc Cert.FeIdeal.main_v0)),
      θ_run (Cert.FeIdeal.defs (F := Ideal)) (onTc (τ := Cert.FeIdeal.τ) (Cert.FeIdeal.main (F := Ideal))) ⟨m, fun _ => 0, g⟩ (fun r => ∀ c : Dev Cert.FeIdeal.nD,
          r.2.mem ((c.tc : Thread Cert.FeIdeal.nD Cert.FeIdeal.τ).loc Cert.FeIdeal.main_v0) = v0 c
          ∧ r.2.mem ((c.tc : Thread Cert.FeIdeal.nD Cert.FeIdeal.τ).loc Cert.FeIdeal.main_arg0) = m ((c.tc : Thread Cert.FeIdeal.nD Cert.FeIdeal.τ).loc Cert.FeIdeal.main_arg0)
          ∧ r.2.mem ((c.tc : Thread Cert.FeIdeal.nD Cert.FeIdeal.τ).loc Cert.FeIdeal.main_arg1) = m ((c.tc : Thread Cert.FeIdeal.nD Cert.FeIdeal.τ).loc Cert.FeIdeal.main_arg1))
      ∧ θ_run (Cert.FeRefIdeal.defs (F := Ideal)) (onTc (τ := Cert.FeRefIdeal.τ) (Cert.FeRefIdeal.main (F := Ideal))) ⟨m', fun _ => 0, g'⟩ (fun r => ∀ c : Dev Cert.FeRefIdeal.nD,
          r.2.mem ((c.tc : Thread Cert.FeRefIdeal.nD Cert.FeRefIdeal.τ).loc Cert.FeRefIdeal.main_v0) = v0 c
          ∧ r.2.mem ((c.tc : Thread Cert.FeRefIdeal.nD Cert.FeRefIdeal.τ).loc Cert.FeRefIdeal.main_arg0) = m' ((c.tc : Thread Cert.FeRefIdeal.nD Cert.FeRefIdeal.τ).loc Cert.FeRefIdeal.main_arg0)
          ∧ r.2.mem ((c.tc : Thread Cert.FeRefIdeal.nD Cert.FeRefIdeal.τ).loc Cert.FeRefIdeal.main_arg1) = m' ((c.tc : Thread Cert.FeRefIdeal.nD Cert.FeRefIdeal.τ).loc Cert.FeRefIdeal.main_arg1))

def preserves_Floss_FlossIdeal : Prop :=
  True

def algebraic_FlossIdeal_FlossRefIdeal [hFlossIdeal : Cert.FlossIdeal.Facts] [hFlossRefIdeal : Cert.FlossRefIdeal.Facts] : Prop :=
  ∀ (m : (ℓ : Loc Cert.FlossIdeal.nD Cert.FlossIdeal.τ Cert.FlossIdeal.sig) → Buf (Elt Ideal) ℓ) (g : Dev Cert.FlossIdeal.nD → PrngReg)
    (m' : (ℓ : Loc Cert.FlossRefIdeal.nD Cert.FlossRefIdeal.τ Cert.FlossRefIdeal.sig) → Buf (Elt Ideal) ℓ) (g' : Dev Cert.FlossRefIdeal.nD → PrngReg), Pre_FlossIdeal m →
    (∀ c : Dev Cert.FlossIdeal.nD,
      m' ((c.tc : Thread Cert.FlossRefIdeal.nD Cert.FlossRefIdeal.τ).loc Cert.FlossRefIdeal.main_arg0) = m ((c.tc : Thread Cert.FlossIdeal.nD Cert.FlossIdeal.τ).loc Cert.FlossIdeal.main_arg0)
      ∧ m' ((c.tc : Thread Cert.FlossRefIdeal.nD Cert.FlossRefIdeal.τ).loc Cert.FlossRefIdeal.main_arg1) = m ((c.tc : Thread Cert.FlossIdeal.nD Cert.FlossIdeal.τ).loc Cert.FlossIdeal.main_arg1)
      ∧ m' ((c.tc : Thread Cert.FlossRefIdeal.nD Cert.FlossRefIdeal.τ).loc Cert.FlossRefIdeal.main_arg2) = m ((c.tc : Thread Cert.FlossIdeal.nD Cert.FlossIdeal.τ).loc Cert.FlossIdeal.main_arg2)
      ∧ m' ((c.tc : Thread Cert.FlossRefIdeal.nD Cert.FlossRefIdeal.τ).loc Cert.FlossRefIdeal.main_arg3) = m ((c.tc : Thread Cert.FlossIdeal.nD Cert.FlossIdeal.τ).loc Cert.FlossIdeal.main_arg3)
      ∧ m' ((c.tc : Thread Cert.FlossRefIdeal.nD Cert.FlossRefIdeal.τ).loc Cert.FlossRefIdeal.main_arg4) = m ((c.tc : Thread Cert.FlossIdeal.nD Cert.FlossIdeal.τ).loc Cert.FlossIdeal.main_arg4)) →
    ∃ (v0 : (c : Dev Cert.FlossIdeal.nD) → Buf (Elt Ideal) ((c.tc : Thread Cert.FlossIdeal.nD Cert.FlossIdeal.τ).loc Cert.FlossIdeal.main_v0_0)) (v1 : (c : Dev Cert.FlossIdeal.nD) → Buf (Elt Ideal) ((c.tc : Thread Cert.FlossIdeal.nD Cert.FlossIdeal.τ).loc Cert.FlossIdeal.main_v0_1)) (v2 : (c : Dev Cert.FlossIdeal.nD) → Buf (Elt Ideal) ((c.tc : Thread Cert.FlossIdeal.nD Cert.FlossIdeal.τ).loc Cert.FlossIdeal.main_v0_2)) (v3 : (c : Dev Cert.FlossIdeal.nD) → Buf (Elt Ideal) ((c.tc : Thread Cert.FlossIdeal.nD Cert.FlossIdeal.τ).loc Cert.FlossIdeal.main_v0_3)),
      θ_run (Cert.FlossIdeal.defs (F := Ideal)) (onTc (τ := Cert.FlossIdeal.τ) (Cert.FlossIdeal.main (F := Ideal))) ⟨m, fun _ => 0, g⟩ (fun r => ∀ c : Dev Cert.FlossIdeal.nD,
          r.2.mem ((c.tc : Thread Cert.FlossIdeal.nD Cert.FlossIdeal.τ).loc Cert.FlossIdeal.main_v0_0) = v0 c
          ∧ r.2.mem ((c.tc : Thread Cert.FlossIdeal.nD Cert.FlossIdeal.τ).loc Cert.FlossIdeal.main_v0_1) = v1 c
          ∧ r.2.mem ((c.tc : Thread Cert.FlossIdeal.nD Cert.FlossIdeal.τ).loc Cert.FlossIdeal.main_v0_2) = v2 c
          ∧ r.2.mem ((c.tc : Thread Cert.FlossIdeal.nD Cert.FlossIdeal.τ).loc Cert.FlossIdeal.main_v0_3) = v3 c
          ∧ r.2.mem ((c.tc : Thread Cert.FlossIdeal.nD Cert.FlossIdeal.τ).loc Cert.FlossIdeal.main_arg0) = m ((c.tc : Thread Cert.FlossIdeal.nD Cert.FlossIdeal.τ).loc Cert.FlossIdeal.main_arg0)
          ∧ r.2.mem ((c.tc : Thread Cert.FlossIdeal.nD Cert.FlossIdeal.τ).loc Cert.FlossIdeal.main_arg1) = m ((c.tc : Thread Cert.FlossIdeal.nD Cert.FlossIdeal.τ).loc Cert.FlossIdeal.main_arg1)
          ∧ r.2.mem ((c.tc : Thread Cert.FlossIdeal.nD Cert.FlossIdeal.τ).loc Cert.FlossIdeal.main_arg2) = m ((c.tc : Thread Cert.FlossIdeal.nD Cert.FlossIdeal.τ).loc Cert.FlossIdeal.main_arg2)
          ∧ r.2.mem ((c.tc : Thread Cert.FlossIdeal.nD Cert.FlossIdeal.τ).loc Cert.FlossIdeal.main_arg3) = m ((c.tc : Thread Cert.FlossIdeal.nD Cert.FlossIdeal.τ).loc Cert.FlossIdeal.main_arg3)
          ∧ r.2.mem ((c.tc : Thread Cert.FlossIdeal.nD Cert.FlossIdeal.τ).loc Cert.FlossIdeal.main_arg4) = m ((c.tc : Thread Cert.FlossIdeal.nD Cert.FlossIdeal.τ).loc Cert.FlossIdeal.main_arg4))
      ∧ θ_run (Cert.FlossRefIdeal.defs (F := Ideal)) (onTc (τ := Cert.FlossRefIdeal.τ) (Cert.FlossRefIdeal.main (F := Ideal))) ⟨m', fun _ => 0, g'⟩ (fun r => ∀ c : Dev Cert.FlossRefIdeal.nD,
          r.2.mem ((c.tc : Thread Cert.FlossRefIdeal.nD Cert.FlossRefIdeal.τ).loc Cert.FlossRefIdeal.main_v26) = v0 c
          ∧ r.2.mem ((c.tc : Thread Cert.FlossRefIdeal.nD Cert.FlossRefIdeal.τ).loc Cert.FlossRefIdeal.main_v42) = v1 c
          ∧ r.2.mem ((c.tc : Thread Cert.FlossRefIdeal.nD Cert.FlossRefIdeal.τ).loc Cert.FlossRefIdeal.main_v43) = v2 c
          ∧ r.2.mem ((c.tc : Thread Cert.FlossRefIdeal.nD Cert.FlossRefIdeal.τ).loc Cert.FlossRefIdeal.main_v41) = v3 c
          ∧ r.2.mem ((c.tc : Thread Cert.FlossRefIdeal.nD Cert.FlossRefIdeal.τ).loc Cert.FlossRefIdeal.main_arg0) = m' ((c.tc : Thread Cert.FlossRefIdeal.nD Cert.FlossRefIdeal.τ).loc Cert.FlossRefIdeal.main_arg0)
          ∧ r.2.mem ((c.tc : Thread Cert.FlossRefIdeal.nD Cert.FlossRefIdeal.τ).loc Cert.FlossRefIdeal.main_arg1) = m' ((c.tc : Thread Cert.FlossRefIdeal.nD Cert.FlossRefIdeal.τ).loc Cert.FlossRefIdeal.main_arg1)
          ∧ r.2.mem ((c.tc : Thread Cert.FlossRefIdeal.nD Cert.FlossRefIdeal.τ).loc Cert.FlossRefIdeal.main_arg2) = m' ((c.tc : Thread Cert.FlossRefIdeal.nD Cert.FlossRefIdeal.τ).loc Cert.FlossRefIdeal.main_arg2)
          ∧ r.2.mem ((c.tc : Thread Cert.FlossRefIdeal.nD Cert.FlossRefIdeal.τ).loc Cert.FlossRefIdeal.main_arg3) = m' ((c.tc : Thread Cert.FlossRefIdeal.nD Cert.FlossRefIdeal.τ).loc Cert.FlossRefIdeal.main_arg3)
          ∧ r.2.mem ((c.tc : Thread Cert.FlossRefIdeal.nD Cert.FlossRefIdeal.τ).loc Cert.FlossRefIdeal.main_arg4) = m' ((c.tc : Thread Cert.FlossRefIdeal.nD Cert.FlossRefIdeal.τ).loc Cert.FlossRefIdeal.main_arg4))

def preserves_Awin_AwinIdeal : Prop :=
  True

def algebraic_AwinIdeal_AwinRefIdeal [hAwinIdeal : Cert.AwinIdeal.Facts] [hAwinRefIdeal : Cert.AwinRefIdeal.Facts] : Prop :=
  ∀ (m : (ℓ : Loc Cert.AwinIdeal.nD Cert.AwinIdeal.τ Cert.AwinIdeal.sig) → Buf (Elt Ideal) ℓ) (g : Dev Cert.AwinIdeal.nD → PrngReg)
    (m' : (ℓ : Loc Cert.AwinRefIdeal.nD Cert.AwinRefIdeal.τ Cert.AwinRefIdeal.sig) → Buf (Elt Ideal) ℓ) (g' : Dev Cert.AwinRefIdeal.nD → PrngReg), Pre_AwinIdeal m →
    (∀ c : Dev Cert.AwinIdeal.nD,
      m' ((c.tc : Thread Cert.AwinRefIdeal.nD Cert.AwinRefIdeal.τ).loc Cert.AwinRefIdeal.main_arg0) = m ((c.tc : Thread Cert.AwinIdeal.nD Cert.AwinIdeal.τ).loc Cert.AwinIdeal.main_arg0)
      ∧ m' ((c.tc : Thread Cert.AwinRefIdeal.nD Cert.AwinRefIdeal.τ).loc Cert.AwinRefIdeal.main_arg1) = m ((c.tc : Thread Cert.AwinIdeal.nD Cert.AwinIdeal.τ).loc Cert.AwinIdeal.main_arg1)
      ∧ m' ((c.tc : Thread Cert.AwinRefIdeal.nD Cert.AwinRefIdeal.τ).loc Cert.AwinRefIdeal.main_arg2) = m ((c.tc : Thread Cert.AwinIdeal.nD Cert.AwinIdeal.τ).loc Cert.AwinIdeal.main_arg2)
      ∧ m' ((c.tc : Thread Cert.AwinRefIdeal.nD Cert.AwinRefIdeal.τ).loc Cert.AwinRefIdeal.main_arg3) = m ((c.tc : Thread Cert.AwinIdeal.nD Cert.AwinIdeal.τ).loc Cert.AwinIdeal.main_arg3)) →
    ∃ (v0 : (c : Dev Cert.AwinIdeal.nD) → Buf (Elt Ideal) ((c.tc : Thread Cert.AwinIdeal.nD Cert.AwinIdeal.τ).loc Cert.AwinIdeal.main_v0_0)) (v1 : (c : Dev Cert.AwinIdeal.nD) → Buf (Elt Ideal) ((c.tc : Thread Cert.AwinIdeal.nD Cert.AwinIdeal.τ).loc Cert.AwinIdeal.main_v0_1)) (v2 : (c : Dev Cert.AwinIdeal.nD) → Buf (Elt Ideal) ((c.tc : Thread Cert.AwinIdeal.nD Cert.AwinIdeal.τ).loc Cert.AwinIdeal.main_v0_2)) (v3 : (c : Dev Cert.AwinIdeal.nD) → Buf (Elt Ideal) ((c.tc : Thread Cert.AwinIdeal.nD Cert.AwinIdeal.τ).loc Cert.AwinIdeal.main_v0_3)),
      θ_run (Cert.AwinIdeal.defs (F := Ideal)) (onTc (τ := Cert.AwinIdeal.τ) (Cert.AwinIdeal.main (F := Ideal))) ⟨m, fun _ => 0, g⟩ (fun r => ∀ c : Dev Cert.AwinIdeal.nD,
          r.2.mem ((c.tc : Thread Cert.AwinIdeal.nD Cert.AwinIdeal.τ).loc Cert.AwinIdeal.main_v0_0) = v0 c
          ∧ r.2.mem ((c.tc : Thread Cert.AwinIdeal.nD Cert.AwinIdeal.τ).loc Cert.AwinIdeal.main_v0_1) = v1 c
          ∧ r.2.mem ((c.tc : Thread Cert.AwinIdeal.nD Cert.AwinIdeal.τ).loc Cert.AwinIdeal.main_v0_2) = v2 c
          ∧ r.2.mem ((c.tc : Thread Cert.AwinIdeal.nD Cert.AwinIdeal.τ).loc Cert.AwinIdeal.main_v0_3) = v3 c
          ∧ r.2.mem ((c.tc : Thread Cert.AwinIdeal.nD Cert.AwinIdeal.τ).loc Cert.AwinIdeal.main_arg0) = m ((c.tc : Thread Cert.AwinIdeal.nD Cert.AwinIdeal.τ).loc Cert.AwinIdeal.main_arg0)
          ∧ r.2.mem ((c.tc : Thread Cert.AwinIdeal.nD Cert.AwinIdeal.τ).loc Cert.AwinIdeal.main_arg1) = m ((c.tc : Thread Cert.AwinIdeal.nD Cert.AwinIdeal.τ).loc Cert.AwinIdeal.main_arg1)
          ∧ r.2.mem ((c.tc : Thread Cert.AwinIdeal.nD Cert.AwinIdeal.τ).loc Cert.AwinIdeal.main_arg2) = m ((c.tc : Thread Cert.AwinIdeal.nD Cert.AwinIdeal.τ).loc Cert.AwinIdeal.main_arg2)
          ∧ r.2.mem ((c.tc : Thread Cert.AwinIdeal.nD Cert.AwinIdeal.τ).loc Cert.AwinIdeal.main_arg3) = m ((c.tc : Thread Cert.AwinIdeal.nD Cert.AwinIdeal.τ).loc Cert.AwinIdeal.main_arg3))
      ∧ θ_run (Cert.AwinRefIdeal.defs (F := Ideal)) (onTc (τ := Cert.AwinRefIdeal.τ) (Cert.AwinRefIdeal.main (F := Ideal))) ⟨m', fun _ => 0, g'⟩ (fun r => ∀ c : Dev Cert.AwinRefIdeal.nD,
          r.2.mem ((c.tc : Thread Cert.AwinRefIdeal.nD Cert.AwinRefIdeal.τ).loc Cert.AwinRefIdeal.main_v1) = v0 c
          ∧ r.2.mem ((c.tc : Thread Cert.AwinRefIdeal.nD Cert.AwinRefIdeal.τ).loc Cert.AwinRefIdeal.main_v25) = v1 c
          ∧ r.2.mem ((c.tc : Thread Cert.AwinRefIdeal.nD Cert.AwinRefIdeal.τ).loc Cert.AwinRefIdeal.main_v6) = v2 c
          ∧ r.2.mem ((c.tc : Thread Cert.AwinRefIdeal.nD Cert.AwinRefIdeal.τ).loc Cert.AwinRefIdeal.main_v12) = v3 c
          ∧ r.2.mem ((c.tc : Thread Cert.AwinRefIdeal.nD Cert.AwinRefIdeal.τ).loc Cert.AwinRefIdeal.main_arg0) = m' ((c.tc : Thread Cert.AwinRefIdeal.nD Cert.AwinRefIdeal.τ).loc Cert.AwinRefIdeal.main_arg0)
          ∧ r.2.mem ((c.tc : Thread Cert.AwinRefIdeal.nD Cert.AwinRefIdeal.τ).loc Cert.AwinRefIdeal.main_arg1) = m' ((c.tc : Thread Cert.AwinRefIdeal.nD Cert.AwinRefIdeal.τ).loc Cert.AwinRefIdeal.main_arg1)
          ∧ r.2.mem ((c.tc : Thread Cert.AwinRefIdeal.nD Cert.AwinRefIdeal.τ).loc Cert.AwinRefIdeal.main_arg2) = m' ((c.tc : Thread Cert.AwinRefIdeal.nD Cert.AwinRefIdeal.τ).loc Cert.AwinRefIdeal.main_arg2)
          ∧ r.2.mem ((c.tc : Thread Cert.AwinRefIdeal.nD Cert.AwinRefIdeal.τ).loc Cert.AwinRefIdeal.main_arg3) = m' ((c.tc : Thread Cert.AwinRefIdeal.nD Cert.AwinRefIdeal.τ).loc Cert.AwinRefIdeal.main_arg3))

def preserves_Aproj_AprojIdeal : Prop :=
  True

def algebraic_AprojIdeal_AprojRefIdeal [hAprojIdeal : Cert.AprojIdeal.Facts] [hAprojRefIdeal : Cert.AprojRefIdeal.Facts] : Prop :=
  ∀ (m : (ℓ : Loc Cert.AprojIdeal.nD Cert.AprojIdeal.τ Cert.AprojIdeal.sig) → Buf (Elt Ideal) ℓ) (g : Dev Cert.AprojIdeal.nD → PrngReg)
    (m' : (ℓ : Loc Cert.AprojRefIdeal.nD Cert.AprojRefIdeal.τ Cert.AprojRefIdeal.sig) → Buf (Elt Ideal) ℓ) (g' : Dev Cert.AprojRefIdeal.nD → PrngReg), Pre_AprojIdeal m →
    (∀ c : Dev Cert.AprojIdeal.nD,
      m' ((c.tc : Thread Cert.AprojRefIdeal.nD Cert.AprojRefIdeal.τ).loc Cert.AprojRefIdeal.main_arg0) = m ((c.tc : Thread Cert.AprojIdeal.nD Cert.AprojIdeal.τ).loc Cert.AprojIdeal.main_arg0)
      ∧ m' ((c.tc : Thread Cert.AprojRefIdeal.nD Cert.AprojRefIdeal.τ).loc Cert.AprojRefIdeal.main_arg1) = m ((c.tc : Thread Cert.AprojIdeal.nD Cert.AprojIdeal.τ).loc Cert.AprojIdeal.main_arg1)
      ∧ m' ((c.tc : Thread Cert.AprojRefIdeal.nD Cert.AprojRefIdeal.τ).loc Cert.AprojRefIdeal.main_arg2) = m ((c.tc : Thread Cert.AprojIdeal.nD Cert.AprojIdeal.τ).loc Cert.AprojIdeal.main_arg2)
      ∧ m' ((c.tc : Thread Cert.AprojRefIdeal.nD Cert.AprojRefIdeal.τ).loc Cert.AprojRefIdeal.main_arg3) = m ((c.tc : Thread Cert.AprojIdeal.nD Cert.AprojIdeal.τ).loc Cert.AprojIdeal.main_arg3)) →
    ∃ (v0 : (c : Dev Cert.AprojIdeal.nD) → Buf (Elt Ideal) ((c.tc : Thread Cert.AprojIdeal.nD Cert.AprojIdeal.τ).loc Cert.AprojIdeal.main_v0_0)) (v1 : (c : Dev Cert.AprojIdeal.nD) → Buf (Elt Ideal) ((c.tc : Thread Cert.AprojIdeal.nD Cert.AprojIdeal.τ).loc Cert.AprojIdeal.main_v0_1)) (v2 : (c : Dev Cert.AprojIdeal.nD) → Buf (Elt Ideal) ((c.tc : Thread Cert.AprojIdeal.nD Cert.AprojIdeal.τ).loc Cert.AprojIdeal.main_v0_2)) (v3 : (c : Dev Cert.AprojIdeal.nD) → Buf (Elt Ideal) ((c.tc : Thread Cert.AprojIdeal.nD Cert.AprojIdeal.τ).loc Cert.AprojIdeal.main_v0_3)),
      θ_run (Cert.AprojIdeal.defs (F := Ideal)) (onTc (τ := Cert.AprojIdeal.τ) (Cert.AprojIdeal.main (F := Ideal))) ⟨m, fun _ => 0, g⟩ (fun r => ∀ c : Dev Cert.AprojIdeal.nD,
          r.2.mem ((c.tc : Thread Cert.AprojIdeal.nD Cert.AprojIdeal.τ).loc Cert.AprojIdeal.main_v0_0) = v0 c
          ∧ r.2.mem ((c.tc : Thread Cert.AprojIdeal.nD Cert.AprojIdeal.τ).loc Cert.AprojIdeal.main_v0_1) = v1 c
          ∧ r.2.mem ((c.tc : Thread Cert.AprojIdeal.nD Cert.AprojIdeal.τ).loc Cert.AprojIdeal.main_v0_2) = v2 c
          ∧ r.2.mem ((c.tc : Thread Cert.AprojIdeal.nD Cert.AprojIdeal.τ).loc Cert.AprojIdeal.main_v0_3) = v3 c
          ∧ r.2.mem ((c.tc : Thread Cert.AprojIdeal.nD Cert.AprojIdeal.τ).loc Cert.AprojIdeal.main_arg0) = m ((c.tc : Thread Cert.AprojIdeal.nD Cert.AprojIdeal.τ).loc Cert.AprojIdeal.main_arg0)
          ∧ r.2.mem ((c.tc : Thread Cert.AprojIdeal.nD Cert.AprojIdeal.τ).loc Cert.AprojIdeal.main_arg1) = m ((c.tc : Thread Cert.AprojIdeal.nD Cert.AprojIdeal.τ).loc Cert.AprojIdeal.main_arg1)
          ∧ r.2.mem ((c.tc : Thread Cert.AprojIdeal.nD Cert.AprojIdeal.τ).loc Cert.AprojIdeal.main_arg2) = m ((c.tc : Thread Cert.AprojIdeal.nD Cert.AprojIdeal.τ).loc Cert.AprojIdeal.main_arg2)
          ∧ r.2.mem ((c.tc : Thread Cert.AprojIdeal.nD Cert.AprojIdeal.τ).loc Cert.AprojIdeal.main_arg3) = m ((c.tc : Thread Cert.AprojIdeal.nD Cert.AprojIdeal.τ).loc Cert.AprojIdeal.main_arg3))
      ∧ θ_run (Cert.AprojRefIdeal.defs (F := Ideal)) (onTc (τ := Cert.AprojRefIdeal.τ) (Cert.AprojRefIdeal.main (F := Ideal))) ⟨m', fun _ => 0, g'⟩ (fun r => ∀ c : Dev Cert.AprojRefIdeal.nD,
          r.2.mem ((c.tc : Thread Cert.AprojRefIdeal.nD Cert.AprojRefIdeal.τ).loc Cert.AprojRefIdeal.main_v1) = v0 c
          ∧ r.2.mem ((c.tc : Thread Cert.AprojRefIdeal.nD Cert.AprojRefIdeal.τ).loc Cert.AprojRefIdeal.main_v25) = v1 c
          ∧ r.2.mem ((c.tc : Thread Cert.AprojRefIdeal.nD Cert.AprojRefIdeal.τ).loc Cert.AprojRefIdeal.main_v6) = v2 c
          ∧ r.2.mem ((c.tc : Thread Cert.AprojRefIdeal.nD Cert.AprojRefIdeal.τ).loc Cert.AprojRefIdeal.main_v12) = v3 c
          ∧ r.2.mem ((c.tc : Thread Cert.AprojRefIdeal.nD Cert.AprojRefIdeal.τ).loc Cert.AprojRefIdeal.main_arg0) = m' ((c.tc : Thread Cert.AprojRefIdeal.nD Cert.AprojRefIdeal.τ).loc Cert.AprojRefIdeal.main_arg0)
          ∧ r.2.mem ((c.tc : Thread Cert.AprojRefIdeal.nD Cert.AprojRefIdeal.τ).loc Cert.AprojRefIdeal.main_arg1) = m' ((c.tc : Thread Cert.AprojRefIdeal.nD Cert.AprojRefIdeal.τ).loc Cert.AprojRefIdeal.main_arg1)
          ∧ r.2.mem ((c.tc : Thread Cert.AprojRefIdeal.nD Cert.AprojRefIdeal.τ).loc Cert.AprojRefIdeal.main_arg2) = m' ((c.tc : Thread Cert.AprojRefIdeal.nD Cert.AprojRefIdeal.τ).loc Cert.AprojRefIdeal.main_arg2)
          ∧ r.2.mem ((c.tc : Thread Cert.AprojRefIdeal.nD Cert.AprojRefIdeal.τ).loc Cert.AprojRefIdeal.main_arg3) = m' ((c.tc : Thread Cert.AprojRefIdeal.nD Cert.AprojRefIdeal.τ).loc Cert.AprojRefIdeal.main_arg3))

def preserves_Aup_AupIdeal : Prop :=
  True

def algebraic_AupIdeal_AupRefIdeal [hAupIdeal : Cert.AupIdeal.Facts] [hAupRefIdeal : Cert.AupRefIdeal.Facts] : Prop :=
  ∀ (m : (ℓ : Loc Cert.AupIdeal.nD Cert.AupIdeal.τ Cert.AupIdeal.sig) → Buf (Elt Ideal) ℓ) (g : Dev Cert.AupIdeal.nD → PrngReg)
    (m' : (ℓ : Loc Cert.AupRefIdeal.nD Cert.AupRefIdeal.τ Cert.AupRefIdeal.sig) → Buf (Elt Ideal) ℓ) (g' : Dev Cert.AupRefIdeal.nD → PrngReg), Pre_AupIdeal m →
    (∀ c : Dev Cert.AupIdeal.nD,
      m' ((c.tc : Thread Cert.AupRefIdeal.nD Cert.AupRefIdeal.τ).loc Cert.AupRefIdeal.main_arg0) = m ((c.tc : Thread Cert.AupIdeal.nD Cert.AupIdeal.τ).loc Cert.AupIdeal.main_arg0)
      ∧ m' ((c.tc : Thread Cert.AupRefIdeal.nD Cert.AupRefIdeal.τ).loc Cert.AupRefIdeal.main_arg1) = m ((c.tc : Thread Cert.AupIdeal.nD Cert.AupIdeal.τ).loc Cert.AupIdeal.main_arg1)
      ∧ m' ((c.tc : Thread Cert.AupRefIdeal.nD Cert.AupRefIdeal.τ).loc Cert.AupRefIdeal.main_arg2) = m ((c.tc : Thread Cert.AupIdeal.nD Cert.AupIdeal.τ).loc Cert.AupIdeal.main_arg2)
      ∧ m' ((c.tc : Thread Cert.AupRefIdeal.nD Cert.AupRefIdeal.τ).loc Cert.AupRefIdeal.main_arg3) = m ((c.tc : Thread Cert.AupIdeal.nD Cert.AupIdeal.τ).loc Cert.AupIdeal.main_arg3)) →
    ∃ (v0 : (c : Dev Cert.AupIdeal.nD) → Buf (Elt Ideal) ((c.tc : Thread Cert.AupIdeal.nD Cert.AupIdeal.τ).loc Cert.AupIdeal.main_v0_0)) (v1 : (c : Dev Cert.AupIdeal.nD) → Buf (Elt Ideal) ((c.tc : Thread Cert.AupIdeal.nD Cert.AupIdeal.τ).loc Cert.AupIdeal.main_v0_1)) (v2 : (c : Dev Cert.AupIdeal.nD) → Buf (Elt Ideal) ((c.tc : Thread Cert.AupIdeal.nD Cert.AupIdeal.τ).loc Cert.AupIdeal.main_v0_2)) (v3 : (c : Dev Cert.AupIdeal.nD) → Buf (Elt Ideal) ((c.tc : Thread Cert.AupIdeal.nD Cert.AupIdeal.τ).loc Cert.AupIdeal.main_v0_3)),
      θ_run (Cert.AupIdeal.defs (F := Ideal)) (onTc (τ := Cert.AupIdeal.τ) (Cert.AupIdeal.main (F := Ideal))) ⟨m, fun _ => 0, g⟩ (fun r => ∀ c : Dev Cert.AupIdeal.nD,
          r.2.mem ((c.tc : Thread Cert.AupIdeal.nD Cert.AupIdeal.τ).loc Cert.AupIdeal.main_v0_0) = v0 c
          ∧ r.2.mem ((c.tc : Thread Cert.AupIdeal.nD Cert.AupIdeal.τ).loc Cert.AupIdeal.main_v0_1) = v1 c
          ∧ r.2.mem ((c.tc : Thread Cert.AupIdeal.nD Cert.AupIdeal.τ).loc Cert.AupIdeal.main_v0_2) = v2 c
          ∧ r.2.mem ((c.tc : Thread Cert.AupIdeal.nD Cert.AupIdeal.τ).loc Cert.AupIdeal.main_v0_3) = v3 c
          ∧ r.2.mem ((c.tc : Thread Cert.AupIdeal.nD Cert.AupIdeal.τ).loc Cert.AupIdeal.main_arg0) = m ((c.tc : Thread Cert.AupIdeal.nD Cert.AupIdeal.τ).loc Cert.AupIdeal.main_arg0)
          ∧ r.2.mem ((c.tc : Thread Cert.AupIdeal.nD Cert.AupIdeal.τ).loc Cert.AupIdeal.main_arg1) = m ((c.tc : Thread Cert.AupIdeal.nD Cert.AupIdeal.τ).loc Cert.AupIdeal.main_arg1)
          ∧ r.2.mem ((c.tc : Thread Cert.AupIdeal.nD Cert.AupIdeal.τ).loc Cert.AupIdeal.main_arg2) = m ((c.tc : Thread Cert.AupIdeal.nD Cert.AupIdeal.τ).loc Cert.AupIdeal.main_arg2)
          ∧ r.2.mem ((c.tc : Thread Cert.AupIdeal.nD Cert.AupIdeal.τ).loc Cert.AupIdeal.main_arg3) = m ((c.tc : Thread Cert.AupIdeal.nD Cert.AupIdeal.τ).loc Cert.AupIdeal.main_arg3))
      ∧ θ_run (Cert.AupRefIdeal.defs (F := Ideal)) (onTc (τ := Cert.AupRefIdeal.τ) (Cert.AupRefIdeal.main (F := Ideal))) ⟨m', fun _ => 0, g'⟩ (fun r => ∀ c : Dev Cert.AupRefIdeal.nD,
          r.2.mem ((c.tc : Thread Cert.AupRefIdeal.nD Cert.AupRefIdeal.τ).loc Cert.AupRefIdeal.main_v1) = v0 c
          ∧ r.2.mem ((c.tc : Thread Cert.AupRefIdeal.nD Cert.AupRefIdeal.τ).loc Cert.AupRefIdeal.main_v25) = v1 c
          ∧ r.2.mem ((c.tc : Thread Cert.AupRefIdeal.nD Cert.AupRefIdeal.τ).loc Cert.AupRefIdeal.main_v6) = v2 c
          ∧ r.2.mem ((c.tc : Thread Cert.AupRefIdeal.nD Cert.AupRefIdeal.τ).loc Cert.AupRefIdeal.main_v12) = v3 c
          ∧ r.2.mem ((c.tc : Thread Cert.AupRefIdeal.nD Cert.AupRefIdeal.τ).loc Cert.AupRefIdeal.main_arg0) = m' ((c.tc : Thread Cert.AupRefIdeal.nD Cert.AupRefIdeal.τ).loc Cert.AupRefIdeal.main_arg0)
          ∧ r.2.mem ((c.tc : Thread Cert.AupRefIdeal.nD Cert.AupRefIdeal.τ).loc Cert.AupRefIdeal.main_arg1) = m' ((c.tc : Thread Cert.AupRefIdeal.nD Cert.AupRefIdeal.τ).loc Cert.AupRefIdeal.main_arg1)
          ∧ r.2.mem ((c.tc : Thread Cert.AupRefIdeal.nD Cert.AupRefIdeal.τ).loc Cert.AupRefIdeal.main_arg2) = m' ((c.tc : Thread Cert.AupRefIdeal.nD Cert.AupRefIdeal.τ).loc Cert.AupRefIdeal.main_arg2)
          ∧ r.2.mem ((c.tc : Thread Cert.AupRefIdeal.nD Cert.AupRefIdeal.τ).loc Cert.AupRefIdeal.main_arg3) = m' ((c.tc : Thread Cert.AupRefIdeal.nD Cert.AupRefIdeal.τ).loc Cert.AupRefIdeal.main_arg3))

def preserves_Adown_AdownIdeal : Prop :=
  True

def algebraic_AdownIdeal_AdownRefIdeal [hAdownIdeal : Cert.AdownIdeal.Facts] [hAdownRefIdeal : Cert.AdownRefIdeal.Facts] : Prop :=
  ∀ (m : (ℓ : Loc Cert.AdownIdeal.nD Cert.AdownIdeal.τ Cert.AdownIdeal.sig) → Buf (Elt Ideal) ℓ) (g : Dev Cert.AdownIdeal.nD → PrngReg)
    (m' : (ℓ : Loc Cert.AdownRefIdeal.nD Cert.AdownRefIdeal.τ Cert.AdownRefIdeal.sig) → Buf (Elt Ideal) ℓ) (g' : Dev Cert.AdownRefIdeal.nD → PrngReg), Pre_AdownIdeal m →
    (∀ c : Dev Cert.AdownIdeal.nD,
      m' ((c.tc : Thread Cert.AdownRefIdeal.nD Cert.AdownRefIdeal.τ).loc Cert.AdownRefIdeal.main_arg0) = m ((c.tc : Thread Cert.AdownIdeal.nD Cert.AdownIdeal.τ).loc Cert.AdownIdeal.main_arg0)
      ∧ m' ((c.tc : Thread Cert.AdownRefIdeal.nD Cert.AdownRefIdeal.τ).loc Cert.AdownRefIdeal.main_arg1) = m ((c.tc : Thread Cert.AdownIdeal.nD Cert.AdownIdeal.τ).loc Cert.AdownIdeal.main_arg1)
      ∧ m' ((c.tc : Thread Cert.AdownRefIdeal.nD Cert.AdownRefIdeal.τ).loc Cert.AdownRefIdeal.main_arg2) = m ((c.tc : Thread Cert.AdownIdeal.nD Cert.AdownIdeal.τ).loc Cert.AdownIdeal.main_arg2)
      ∧ m' ((c.tc : Thread Cert.AdownRefIdeal.nD Cert.AdownRefIdeal.τ).loc Cert.AdownRefIdeal.main_arg3) = m ((c.tc : Thread Cert.AdownIdeal.nD Cert.AdownIdeal.τ).loc Cert.AdownIdeal.main_arg3)) →
    ∃ (v0 : (c : Dev Cert.AdownIdeal.nD) → Buf (Elt Ideal) ((c.tc : Thread Cert.AdownIdeal.nD Cert.AdownIdeal.τ).loc Cert.AdownIdeal.main_v0_0)) (v1 : (c : Dev Cert.AdownIdeal.nD) → Buf (Elt Ideal) ((c.tc : Thread Cert.AdownIdeal.nD Cert.AdownIdeal.τ).loc Cert.AdownIdeal.main_v0_1)) (v2 : (c : Dev Cert.AdownIdeal.nD) → Buf (Elt Ideal) ((c.tc : Thread Cert.AdownIdeal.nD Cert.AdownIdeal.τ).loc Cert.AdownIdeal.main_v0_2)) (v3 : (c : Dev Cert.AdownIdeal.nD) → Buf (Elt Ideal) ((c.tc : Thread Cert.AdownIdeal.nD Cert.AdownIdeal.τ).loc Cert.AdownIdeal.main_v0_3)),
      θ_run (Cert.AdownIdeal.defs (F := Ideal)) (onTc (τ := Cert.AdownIdeal.τ) (Cert.AdownIdeal.main (F := Ideal))) ⟨m, fun _ => 0, g⟩ (fun r => ∀ c : Dev Cert.AdownIdeal.nD,
          r.2.mem ((c.tc : Thread Cert.AdownIdeal.nD Cert.AdownIdeal.τ).loc Cert.AdownIdeal.main_v0_0) = v0 c
          ∧ r.2.mem ((c.tc : Thread Cert.AdownIdeal.nD Cert.AdownIdeal.τ).loc Cert.AdownIdeal.main_v0_1) = v1 c
          ∧ r.2.mem ((c.tc : Thread Cert.AdownIdeal.nD Cert.AdownIdeal.τ).loc Cert.AdownIdeal.main_v0_2) = v2 c
          ∧ r.2.mem ((c.tc : Thread Cert.AdownIdeal.nD Cert.AdownIdeal.τ).loc Cert.AdownIdeal.main_v0_3) = v3 c
          ∧ r.2.mem ((c.tc : Thread Cert.AdownIdeal.nD Cert.AdownIdeal.τ).loc Cert.AdownIdeal.main_arg0) = m ((c.tc : Thread Cert.AdownIdeal.nD Cert.AdownIdeal.τ).loc Cert.AdownIdeal.main_arg0)
          ∧ r.2.mem ((c.tc : Thread Cert.AdownIdeal.nD Cert.AdownIdeal.τ).loc Cert.AdownIdeal.main_arg1) = m ((c.tc : Thread Cert.AdownIdeal.nD Cert.AdownIdeal.τ).loc Cert.AdownIdeal.main_arg1)
          ∧ r.2.mem ((c.tc : Thread Cert.AdownIdeal.nD Cert.AdownIdeal.τ).loc Cert.AdownIdeal.main_arg2) = m ((c.tc : Thread Cert.AdownIdeal.nD Cert.AdownIdeal.τ).loc Cert.AdownIdeal.main_arg2)
          ∧ r.2.mem ((c.tc : Thread Cert.AdownIdeal.nD Cert.AdownIdeal.τ).loc Cert.AdownIdeal.main_arg3) = m ((c.tc : Thread Cert.AdownIdeal.nD Cert.AdownIdeal.τ).loc Cert.AdownIdeal.main_arg3))
      ∧ θ_run (Cert.AdownRefIdeal.defs (F := Ideal)) (onTc (τ := Cert.AdownRefIdeal.τ) (Cert.AdownRefIdeal.main (F := Ideal))) ⟨m', fun _ => 0, g'⟩ (fun r => ∀ c : Dev Cert.AdownRefIdeal.nD,
          r.2.mem ((c.tc : Thread Cert.AdownRefIdeal.nD Cert.AdownRefIdeal.τ).loc Cert.AdownRefIdeal.main_v1) = v0 c
          ∧ r.2.mem ((c.tc : Thread Cert.AdownRefIdeal.nD Cert.AdownRefIdeal.τ).loc Cert.AdownRefIdeal.main_v25) = v1 c
          ∧ r.2.mem ((c.tc : Thread Cert.AdownRefIdeal.nD Cert.AdownRefIdeal.τ).loc Cert.AdownRefIdeal.main_v6) = v2 c
          ∧ r.2.mem ((c.tc : Thread Cert.AdownRefIdeal.nD Cert.AdownRefIdeal.τ).loc Cert.AdownRefIdeal.main_v12) = v3 c
          ∧ r.2.mem ((c.tc : Thread Cert.AdownRefIdeal.nD Cert.AdownRefIdeal.τ).loc Cert.AdownRefIdeal.main_arg0) = m' ((c.tc : Thread Cert.AdownRefIdeal.nD Cert.AdownRefIdeal.τ).loc Cert.AdownRefIdeal.main_arg0)
          ∧ r.2.mem ((c.tc : Thread Cert.AdownRefIdeal.nD Cert.AdownRefIdeal.τ).loc Cert.AdownRefIdeal.main_arg1) = m' ((c.tc : Thread Cert.AdownRefIdeal.nD Cert.AdownRefIdeal.τ).loc Cert.AdownRefIdeal.main_arg1)
          ∧ r.2.mem ((c.tc : Thread Cert.AdownRefIdeal.nD Cert.AdownRefIdeal.τ).loc Cert.AdownRefIdeal.main_arg2) = m' ((c.tc : Thread Cert.AdownRefIdeal.nD Cert.AdownRefIdeal.τ).loc Cert.AdownRefIdeal.main_arg2)
          ∧ r.2.mem ((c.tc : Thread Cert.AdownRefIdeal.nD Cert.AdownRefIdeal.τ).loc Cert.AdownRefIdeal.main_arg3) = m' ((c.tc : Thread Cert.AdownRefIdeal.nD Cert.AdownRefIdeal.τ).loc Cert.AdownRefIdeal.main_arg3))

def preserves_App_AppIdeal : Prop :=
  True

def algebraic_AppIdeal_AppRefIdeal [hAppIdeal : Cert.AppIdeal.Facts] [hAppRefIdeal : Cert.AppRefIdeal.Facts] : Prop :=
  ∀ (m : (ℓ : Loc Cert.AppIdeal.nD Cert.AppIdeal.τ Cert.AppIdeal.sig) → Buf (Elt Ideal) ℓ) (g : Dev Cert.AppIdeal.nD → PrngReg)
    (m' : (ℓ : Loc Cert.AppRefIdeal.nD Cert.AppRefIdeal.τ Cert.AppRefIdeal.sig) → Buf (Elt Ideal) ℓ) (g' : Dev Cert.AppRefIdeal.nD → PrngReg), Pre_AppIdeal m →
    (∀ c : Dev Cert.AppIdeal.nD,
      m' ((c.tc : Thread Cert.AppRefIdeal.nD Cert.AppRefIdeal.τ).loc Cert.AppRefIdeal.main_arg0) = m ((c.tc : Thread Cert.AppIdeal.nD Cert.AppIdeal.τ).loc Cert.AppIdeal.main_arg0)
      ∧ m' ((c.tc : Thread Cert.AppRefIdeal.nD Cert.AppRefIdeal.τ).loc Cert.AppRefIdeal.main_arg1) = m ((c.tc : Thread Cert.AppIdeal.nD Cert.AppIdeal.τ).loc Cert.AppIdeal.main_arg1)
      ∧ m' ((c.tc : Thread Cert.AppRefIdeal.nD Cert.AppRefIdeal.τ).loc Cert.AppRefIdeal.main_arg2) = m ((c.tc : Thread Cert.AppIdeal.nD Cert.AppIdeal.τ).loc Cert.AppIdeal.main_arg2)
      ∧ m' ((c.tc : Thread Cert.AppRefIdeal.nD Cert.AppRefIdeal.τ).loc Cert.AppRefIdeal.main_arg3) = m ((c.tc : Thread Cert.AppIdeal.nD Cert.AppIdeal.τ).loc Cert.AppIdeal.main_arg3)) →
    ∃ (v0 : (c : Dev Cert.AppIdeal.nD) → Buf (Elt Ideal) ((c.tc : Thread Cert.AppIdeal.nD Cert.AppIdeal.τ).loc Cert.AppIdeal.main_v0_0)) (v1 : (c : Dev Cert.AppIdeal.nD) → Buf (Elt Ideal) ((c.tc : Thread Cert.AppIdeal.nD Cert.AppIdeal.τ).loc Cert.AppIdeal.main_v0_1)) (v2 : (c : Dev Cert.AppIdeal.nD) → Buf (Elt Ideal) ((c.tc : Thread Cert.AppIdeal.nD Cert.AppIdeal.τ).loc Cert.AppIdeal.main_v0_2)) (v3 : (c : Dev Cert.AppIdeal.nD) → Buf (Elt Ideal) ((c.tc : Thread Cert.AppIdeal.nD Cert.AppIdeal.τ).loc Cert.AppIdeal.main_v0_3)),
      θ_run (Cert.AppIdeal.defs (F := Ideal)) (onTc (τ := Cert.AppIdeal.τ) (Cert.AppIdeal.main (F := Ideal))) ⟨m, fun _ => 0, g⟩ (fun r => ∀ c : Dev Cert.AppIdeal.nD,
          r.2.mem ((c.tc : Thread Cert.AppIdeal.nD Cert.AppIdeal.τ).loc Cert.AppIdeal.main_v0_0) = v0 c
          ∧ r.2.mem ((c.tc : Thread Cert.AppIdeal.nD Cert.AppIdeal.τ).loc Cert.AppIdeal.main_v0_1) = v1 c
          ∧ r.2.mem ((c.tc : Thread Cert.AppIdeal.nD Cert.AppIdeal.τ).loc Cert.AppIdeal.main_v0_2) = v2 c
          ∧ r.2.mem ((c.tc : Thread Cert.AppIdeal.nD Cert.AppIdeal.τ).loc Cert.AppIdeal.main_v0_3) = v3 c
          ∧ r.2.mem ((c.tc : Thread Cert.AppIdeal.nD Cert.AppIdeal.τ).loc Cert.AppIdeal.main_arg0) = m ((c.tc : Thread Cert.AppIdeal.nD Cert.AppIdeal.τ).loc Cert.AppIdeal.main_arg0)
          ∧ r.2.mem ((c.tc : Thread Cert.AppIdeal.nD Cert.AppIdeal.τ).loc Cert.AppIdeal.main_arg1) = m ((c.tc : Thread Cert.AppIdeal.nD Cert.AppIdeal.τ).loc Cert.AppIdeal.main_arg1)
          ∧ r.2.mem ((c.tc : Thread Cert.AppIdeal.nD Cert.AppIdeal.τ).loc Cert.AppIdeal.main_arg2) = m ((c.tc : Thread Cert.AppIdeal.nD Cert.AppIdeal.τ).loc Cert.AppIdeal.main_arg2)
          ∧ r.2.mem ((c.tc : Thread Cert.AppIdeal.nD Cert.AppIdeal.τ).loc Cert.AppIdeal.main_arg3) = m ((c.tc : Thread Cert.AppIdeal.nD Cert.AppIdeal.τ).loc Cert.AppIdeal.main_arg3))
      ∧ θ_run (Cert.AppRefIdeal.defs (F := Ideal)) (onTc (τ := Cert.AppRefIdeal.τ) (Cert.AppRefIdeal.main (F := Ideal))) ⟨m', fun _ => 0, g'⟩ (fun r => ∀ c : Dev Cert.AppRefIdeal.nD,
          r.2.mem ((c.tc : Thread Cert.AppRefIdeal.nD Cert.AppRefIdeal.τ).loc Cert.AppRefIdeal.main_v1) = v0 c
          ∧ r.2.mem ((c.tc : Thread Cert.AppRefIdeal.nD Cert.AppRefIdeal.τ).loc Cert.AppRefIdeal.main_v25) = v1 c
          ∧ r.2.mem ((c.tc : Thread Cert.AppRefIdeal.nD Cert.AppRefIdeal.τ).loc Cert.AppRefIdeal.main_v6) = v2 c
          ∧ r.2.mem ((c.tc : Thread Cert.AppRefIdeal.nD Cert.AppRefIdeal.τ).loc Cert.AppRefIdeal.main_v12) = v3 c
          ∧ r.2.mem ((c.tc : Thread Cert.AppRefIdeal.nD Cert.AppRefIdeal.τ).loc Cert.AppRefIdeal.main_arg0) = m' ((c.tc : Thread Cert.AppRefIdeal.nD Cert.AppRefIdeal.τ).loc Cert.AppRefIdeal.main_arg0)
          ∧ r.2.mem ((c.tc : Thread Cert.AppRefIdeal.nD Cert.AppRefIdeal.τ).loc Cert.AppRefIdeal.main_arg1) = m' ((c.tc : Thread Cert.AppRefIdeal.nD Cert.AppRefIdeal.τ).loc Cert.AppRefIdeal.main_arg1)
          ∧ r.2.mem ((c.tc : Thread Cert.AppRefIdeal.nD Cert.AppRefIdeal.τ).loc Cert.AppRefIdeal.main_arg2) = m' ((c.tc : Thread Cert.AppRefIdeal.nD Cert.AppRefIdeal.τ).loc Cert.AppRefIdeal.main_arg2)
          ∧ r.2.mem ((c.tc : Thread Cert.AppRefIdeal.nD Cert.AppRefIdeal.τ).loc Cert.AppRefIdeal.main_arg3) = m' ((c.tc : Thread Cert.AppRefIdeal.nD Cert.AppRefIdeal.τ).loc Cert.AppRefIdeal.main_arg3))

def preserves_Aconv_AconvIdeal : Prop :=
  True

def algebraic_AconvIdeal_AconvRefIdeal [hAconvIdeal : Cert.AconvIdeal.Facts] [hAconvRefIdeal : Cert.AconvRefIdeal.Facts] : Prop :=
  ∀ (m : (ℓ : Loc Cert.AconvIdeal.nD Cert.AconvIdeal.τ Cert.AconvIdeal.sig) → Buf (Elt Ideal) ℓ) (g : Dev Cert.AconvIdeal.nD → PrngReg)
    (m' : (ℓ : Loc Cert.AconvRefIdeal.nD Cert.AconvRefIdeal.τ Cert.AconvRefIdeal.sig) → Buf (Elt Ideal) ℓ) (g' : Dev Cert.AconvRefIdeal.nD → PrngReg), Pre_AconvIdeal m →
    (∀ c : Dev Cert.AconvIdeal.nD,
      m' ((c.tc : Thread Cert.AconvRefIdeal.nD Cert.AconvRefIdeal.τ).loc Cert.AconvRefIdeal.main_arg0) = m ((c.tc : Thread Cert.AconvIdeal.nD Cert.AconvIdeal.τ).loc Cert.AconvIdeal.main_arg0)
      ∧ m' ((c.tc : Thread Cert.AconvRefIdeal.nD Cert.AconvRefIdeal.τ).loc Cert.AconvRefIdeal.main_arg1) = m ((c.tc : Thread Cert.AconvIdeal.nD Cert.AconvIdeal.τ).loc Cert.AconvIdeal.main_arg1)
      ∧ m' ((c.tc : Thread Cert.AconvRefIdeal.nD Cert.AconvRefIdeal.τ).loc Cert.AconvRefIdeal.main_arg2) = m ((c.tc : Thread Cert.AconvIdeal.nD Cert.AconvIdeal.τ).loc Cert.AconvIdeal.main_arg2)
      ∧ m' ((c.tc : Thread Cert.AconvRefIdeal.nD Cert.AconvRefIdeal.τ).loc Cert.AconvRefIdeal.main_arg3) = m ((c.tc : Thread Cert.AconvIdeal.nD Cert.AconvIdeal.τ).loc Cert.AconvIdeal.main_arg3)) →
    ∃ (v0 : (c : Dev Cert.AconvIdeal.nD) → Buf (Elt Ideal) ((c.tc : Thread Cert.AconvIdeal.nD Cert.AconvIdeal.τ).loc Cert.AconvIdeal.main_v0_0)) (v1 : (c : Dev Cert.AconvIdeal.nD) → Buf (Elt Ideal) ((c.tc : Thread Cert.AconvIdeal.nD Cert.AconvIdeal.τ).loc Cert.AconvIdeal.main_v0_1)) (v2 : (c : Dev Cert.AconvIdeal.nD) → Buf (Elt Ideal) ((c.tc : Thread Cert.AconvIdeal.nD Cert.AconvIdeal.τ).loc Cert.AconvIdeal.main_v0_2)) (v3 : (c : Dev Cert.AconvIdeal.nD) → Buf (Elt Ideal) ((c.tc : Thread Cert.AconvIdeal.nD Cert.AconvIdeal.τ).loc Cert.AconvIdeal.main_v0_3)),
      θ_run (Cert.AconvIdeal.defs (F := Ideal)) (onTc (τ := Cert.AconvIdeal.τ) (Cert.AconvIdeal.main (F := Ideal))) ⟨m, fun _ => 0, g⟩ (fun r => ∀ c : Dev Cert.AconvIdeal.nD,
          r.2.mem ((c.tc : Thread Cert.AconvIdeal.nD Cert.AconvIdeal.τ).loc Cert.AconvIdeal.main_v0_0) = v0 c
          ∧ r.2.mem ((c.tc : Thread Cert.AconvIdeal.nD Cert.AconvIdeal.τ).loc Cert.AconvIdeal.main_v0_1) = v1 c
          ∧ r.2.mem ((c.tc : Thread Cert.AconvIdeal.nD Cert.AconvIdeal.τ).loc Cert.AconvIdeal.main_v0_2) = v2 c
          ∧ r.2.mem ((c.tc : Thread Cert.AconvIdeal.nD Cert.AconvIdeal.τ).loc Cert.AconvIdeal.main_v0_3) = v3 c
          ∧ r.2.mem ((c.tc : Thread Cert.AconvIdeal.nD Cert.AconvIdeal.τ).loc Cert.AconvIdeal.main_arg0) = m ((c.tc : Thread Cert.AconvIdeal.nD Cert.AconvIdeal.τ).loc Cert.AconvIdeal.main_arg0)
          ∧ r.2.mem ((c.tc : Thread Cert.AconvIdeal.nD Cert.AconvIdeal.τ).loc Cert.AconvIdeal.main_arg1) = m ((c.tc : Thread Cert.AconvIdeal.nD Cert.AconvIdeal.τ).loc Cert.AconvIdeal.main_arg1)
          ∧ r.2.mem ((c.tc : Thread Cert.AconvIdeal.nD Cert.AconvIdeal.τ).loc Cert.AconvIdeal.main_arg2) = m ((c.tc : Thread Cert.AconvIdeal.nD Cert.AconvIdeal.τ).loc Cert.AconvIdeal.main_arg2)
          ∧ r.2.mem ((c.tc : Thread Cert.AconvIdeal.nD Cert.AconvIdeal.τ).loc Cert.AconvIdeal.main_arg3) = m ((c.tc : Thread Cert.AconvIdeal.nD Cert.AconvIdeal.τ).loc Cert.AconvIdeal.main_arg3))
      ∧ θ_run (Cert.AconvRefIdeal.defs (F := Ideal)) (onTc (τ := Cert.AconvRefIdeal.τ) (Cert.AconvRefIdeal.main (F := Ideal))) ⟨m', fun _ => 0, g'⟩ (fun r => ∀ c : Dev Cert.AconvRefIdeal.nD,
          r.2.mem ((c.tc : Thread Cert.AconvRefIdeal.nD Cert.AconvRefIdeal.τ).loc Cert.AconvRefIdeal.main_v1) = v0 c
          ∧ r.2.mem ((c.tc : Thread Cert.AconvRefIdeal.nD Cert.AconvRefIdeal.τ).loc Cert.AconvRefIdeal.main_v25) = v1 c
          ∧ r.2.mem ((c.tc : Thread Cert.AconvRefIdeal.nD Cert.AconvRefIdeal.τ).loc Cert.AconvRefIdeal.main_v6) = v2 c
          ∧ r.2.mem ((c.tc : Thread Cert.AconvRefIdeal.nD Cert.AconvRefIdeal.τ).loc Cert.AconvRefIdeal.main_v12) = v3 c
          ∧ r.2.mem ((c.tc : Thread Cert.AconvRefIdeal.nD Cert.AconvRefIdeal.τ).loc Cert.AconvRefIdeal.main_arg0) = m' ((c.tc : Thread Cert.AconvRefIdeal.nD Cert.AconvRefIdeal.τ).loc Cert.AconvRefIdeal.main_arg0)
          ∧ r.2.mem ((c.tc : Thread Cert.AconvRefIdeal.nD Cert.AconvRefIdeal.τ).loc Cert.AconvRefIdeal.main_arg1) = m' ((c.tc : Thread Cert.AconvRefIdeal.nD Cert.AconvRefIdeal.τ).loc Cert.AconvRefIdeal.main_arg1)
          ∧ r.2.mem ((c.tc : Thread Cert.AconvRefIdeal.nD Cert.AconvRefIdeal.τ).loc Cert.AconvRefIdeal.main_arg2) = m' ((c.tc : Thread Cert.AconvRefIdeal.nD Cert.AconvRefIdeal.τ).loc Cert.AconvRefIdeal.main_arg2)
          ∧ r.2.mem ((c.tc : Thread Cert.AconvRefIdeal.nD Cert.AconvRefIdeal.τ).loc Cert.AconvRefIdeal.main_arg3) = m' ((c.tc : Thread Cert.AconvRefIdeal.nD Cert.AconvRefIdeal.τ).loc Cert.AconvRefIdeal.main_arg3))

def preserves_Agmix_AgmixIdeal : Prop :=
  True

def algebraic_AgmixIdeal_AgmixRefIdeal [hAgmixIdeal : Cert.AgmixIdeal.Facts] [hAgmixRefIdeal : Cert.AgmixRefIdeal.Facts] : Prop :=
  ∀ (m : (ℓ : Loc Cert.AgmixIdeal.nD Cert.AgmixIdeal.τ Cert.AgmixIdeal.sig) → Buf (Elt Ideal) ℓ) (g : Dev Cert.AgmixIdeal.nD → PrngReg)
    (m' : (ℓ : Loc Cert.AgmixRefIdeal.nD Cert.AgmixRefIdeal.τ Cert.AgmixRefIdeal.sig) → Buf (Elt Ideal) ℓ) (g' : Dev Cert.AgmixRefIdeal.nD → PrngReg), Pre_AgmixIdeal m →
    (∀ c : Dev Cert.AgmixIdeal.nD,
      m' ((c.tc : Thread Cert.AgmixRefIdeal.nD Cert.AgmixRefIdeal.τ).loc Cert.AgmixRefIdeal.main_arg0) = m ((c.tc : Thread Cert.AgmixIdeal.nD Cert.AgmixIdeal.τ).loc Cert.AgmixIdeal.main_arg0)
      ∧ m' ((c.tc : Thread Cert.AgmixRefIdeal.nD Cert.AgmixRefIdeal.τ).loc Cert.AgmixRefIdeal.main_arg1) = m ((c.tc : Thread Cert.AgmixIdeal.nD Cert.AgmixIdeal.τ).loc Cert.AgmixIdeal.main_arg1)
      ∧ m' ((c.tc : Thread Cert.AgmixRefIdeal.nD Cert.AgmixRefIdeal.τ).loc Cert.AgmixRefIdeal.main_arg2) = m ((c.tc : Thread Cert.AgmixIdeal.nD Cert.AgmixIdeal.τ).loc Cert.AgmixIdeal.main_arg2)
      ∧ m' ((c.tc : Thread Cert.AgmixRefIdeal.nD Cert.AgmixRefIdeal.τ).loc Cert.AgmixRefIdeal.main_arg3) = m ((c.tc : Thread Cert.AgmixIdeal.nD Cert.AgmixIdeal.τ).loc Cert.AgmixIdeal.main_arg3)) →
    ∃ (v0 : (c : Dev Cert.AgmixIdeal.nD) → Buf (Elt Ideal) ((c.tc : Thread Cert.AgmixIdeal.nD Cert.AgmixIdeal.τ).loc Cert.AgmixIdeal.main_v0_0)) (v1 : (c : Dev Cert.AgmixIdeal.nD) → Buf (Elt Ideal) ((c.tc : Thread Cert.AgmixIdeal.nD Cert.AgmixIdeal.τ).loc Cert.AgmixIdeal.main_v0_1)) (v2 : (c : Dev Cert.AgmixIdeal.nD) → Buf (Elt Ideal) ((c.tc : Thread Cert.AgmixIdeal.nD Cert.AgmixIdeal.τ).loc Cert.AgmixIdeal.main_v0_2)) (v3 : (c : Dev Cert.AgmixIdeal.nD) → Buf (Elt Ideal) ((c.tc : Thread Cert.AgmixIdeal.nD Cert.AgmixIdeal.τ).loc Cert.AgmixIdeal.main_v0_3)),
      θ_run (Cert.AgmixIdeal.defs (F := Ideal)) (onTc (τ := Cert.AgmixIdeal.τ) (Cert.AgmixIdeal.main (F := Ideal))) ⟨m, fun _ => 0, g⟩ (fun r => ∀ c : Dev Cert.AgmixIdeal.nD,
          r.2.mem ((c.tc : Thread Cert.AgmixIdeal.nD Cert.AgmixIdeal.τ).loc Cert.AgmixIdeal.main_v0_0) = v0 c
          ∧ r.2.mem ((c.tc : Thread Cert.AgmixIdeal.nD Cert.AgmixIdeal.τ).loc Cert.AgmixIdeal.main_v0_1) = v1 c
          ∧ r.2.mem ((c.tc : Thread Cert.AgmixIdeal.nD Cert.AgmixIdeal.τ).loc Cert.AgmixIdeal.main_v0_2) = v2 c
          ∧ r.2.mem ((c.tc : Thread Cert.AgmixIdeal.nD Cert.AgmixIdeal.τ).loc Cert.AgmixIdeal.main_v0_3) = v3 c
          ∧ r.2.mem ((c.tc : Thread Cert.AgmixIdeal.nD Cert.AgmixIdeal.τ).loc Cert.AgmixIdeal.main_arg0) = m ((c.tc : Thread Cert.AgmixIdeal.nD Cert.AgmixIdeal.τ).loc Cert.AgmixIdeal.main_arg0)
          ∧ r.2.mem ((c.tc : Thread Cert.AgmixIdeal.nD Cert.AgmixIdeal.τ).loc Cert.AgmixIdeal.main_arg1) = m ((c.tc : Thread Cert.AgmixIdeal.nD Cert.AgmixIdeal.τ).loc Cert.AgmixIdeal.main_arg1)
          ∧ r.2.mem ((c.tc : Thread Cert.AgmixIdeal.nD Cert.AgmixIdeal.τ).loc Cert.AgmixIdeal.main_arg2) = m ((c.tc : Thread Cert.AgmixIdeal.nD Cert.AgmixIdeal.τ).loc Cert.AgmixIdeal.main_arg2)
          ∧ r.2.mem ((c.tc : Thread Cert.AgmixIdeal.nD Cert.AgmixIdeal.τ).loc Cert.AgmixIdeal.main_arg3) = m ((c.tc : Thread Cert.AgmixIdeal.nD Cert.AgmixIdeal.τ).loc Cert.AgmixIdeal.main_arg3))
      ∧ θ_run (Cert.AgmixRefIdeal.defs (F := Ideal)) (onTc (τ := Cert.AgmixRefIdeal.τ) (Cert.AgmixRefIdeal.main (F := Ideal))) ⟨m', fun _ => 0, g'⟩ (fun r => ∀ c : Dev Cert.AgmixRefIdeal.nD,
          r.2.mem ((c.tc : Thread Cert.AgmixRefIdeal.nD Cert.AgmixRefIdeal.τ).loc Cert.AgmixRefIdeal.main_v0) = v0 c
          ∧ r.2.mem ((c.tc : Thread Cert.AgmixRefIdeal.nD Cert.AgmixRefIdeal.τ).loc Cert.AgmixRefIdeal.main_v24) = v1 c
          ∧ r.2.mem ((c.tc : Thread Cert.AgmixRefIdeal.nD Cert.AgmixRefIdeal.τ).loc Cert.AgmixRefIdeal.main_v5) = v2 c
          ∧ r.2.mem ((c.tc : Thread Cert.AgmixRefIdeal.nD Cert.AgmixRefIdeal.τ).loc Cert.AgmixRefIdeal.main_v11) = v3 c
          ∧ r.2.mem ((c.tc : Thread Cert.AgmixRefIdeal.nD Cert.AgmixRefIdeal.τ).loc Cert.AgmixRefIdeal.main_arg0) = m' ((c.tc : Thread Cert.AgmixRefIdeal.nD Cert.AgmixRefIdeal.τ).loc Cert.AgmixRefIdeal.main_arg0)
          ∧ r.2.mem ((c.tc : Thread Cert.AgmixRefIdeal.nD Cert.AgmixRefIdeal.τ).loc Cert.AgmixRefIdeal.main_arg1) = m' ((c.tc : Thread Cert.AgmixRefIdeal.nD Cert.AgmixRefIdeal.τ).loc Cert.AgmixRefIdeal.main_arg1)
          ∧ r.2.mem ((c.tc : Thread Cert.AgmixRefIdeal.nD Cert.AgmixRefIdeal.τ).loc Cert.AgmixRefIdeal.main_arg2) = m' ((c.tc : Thread Cert.AgmixRefIdeal.nD Cert.AgmixRefIdeal.τ).loc Cert.AgmixRefIdeal.main_arg2)
          ∧ r.2.mem ((c.tc : Thread Cert.AgmixRefIdeal.nD Cert.AgmixRefIdeal.τ).loc Cert.AgmixRefIdeal.main_arg3) = m' ((c.tc : Thread Cert.AgmixRefIdeal.nD Cert.AgmixRefIdeal.τ).loc Cert.AgmixRefIdeal.main_arg3))

def preserves_Asmall_AsmallIdeal : Prop :=
  True

def algebraic_AsmallIdeal_AsmallRefIdeal [hAsmallIdeal : Cert.AsmallIdeal.Facts] [hAsmallRefIdeal : Cert.AsmallRefIdeal.Facts] : Prop :=
  ∀ (m : (ℓ : Loc Cert.AsmallIdeal.nD Cert.AsmallIdeal.τ Cert.AsmallIdeal.sig) → Buf (Elt Ideal) ℓ) (g : Dev Cert.AsmallIdeal.nD → PrngReg)
    (m' : (ℓ : Loc Cert.AsmallRefIdeal.nD Cert.AsmallRefIdeal.τ Cert.AsmallRefIdeal.sig) → Buf (Elt Ideal) ℓ) (g' : Dev Cert.AsmallRefIdeal.nD → PrngReg), Pre_AsmallIdeal m →
    (∀ c : Dev Cert.AsmallIdeal.nD,
      m' ((c.tc : Thread Cert.AsmallRefIdeal.nD Cert.AsmallRefIdeal.τ).loc Cert.AsmallRefIdeal.main_arg0) = m ((c.tc : Thread Cert.AsmallIdeal.nD Cert.AsmallIdeal.τ).loc Cert.AsmallIdeal.main_arg0)
      ∧ m' ((c.tc : Thread Cert.AsmallRefIdeal.nD Cert.AsmallRefIdeal.τ).loc Cert.AsmallRefIdeal.main_arg1) = m ((c.tc : Thread Cert.AsmallIdeal.nD Cert.AsmallIdeal.τ).loc Cert.AsmallIdeal.main_arg1)
      ∧ m' ((c.tc : Thread Cert.AsmallRefIdeal.nD Cert.AsmallRefIdeal.τ).loc Cert.AsmallRefIdeal.main_arg2) = m ((c.tc : Thread Cert.AsmallIdeal.nD Cert.AsmallIdeal.τ).loc Cert.AsmallIdeal.main_arg2)
      ∧ m' ((c.tc : Thread Cert.AsmallRefIdeal.nD Cert.AsmallRefIdeal.τ).loc Cert.AsmallRefIdeal.main_arg3) = m ((c.tc : Thread Cert.AsmallIdeal.nD Cert.AsmallIdeal.τ).loc Cert.AsmallIdeal.main_arg3)) →
    ∃ (v0 : (c : Dev Cert.AsmallIdeal.nD) → Buf (Elt Ideal) ((c.tc : Thread Cert.AsmallIdeal.nD Cert.AsmallIdeal.τ).loc Cert.AsmallIdeal.main_v0_0)) (v1 : (c : Dev Cert.AsmallIdeal.nD) → Buf (Elt Ideal) ((c.tc : Thread Cert.AsmallIdeal.nD Cert.AsmallIdeal.τ).loc Cert.AsmallIdeal.main_v0_1)) (v2 : (c : Dev Cert.AsmallIdeal.nD) → Buf (Elt Ideal) ((c.tc : Thread Cert.AsmallIdeal.nD Cert.AsmallIdeal.τ).loc Cert.AsmallIdeal.main_v0_2)) (v3 : (c : Dev Cert.AsmallIdeal.nD) → Buf (Elt Ideal) ((c.tc : Thread Cert.AsmallIdeal.nD Cert.AsmallIdeal.τ).loc Cert.AsmallIdeal.main_v0_3)),
      θ_run (Cert.AsmallIdeal.defs (F := Ideal)) (onTc (τ := Cert.AsmallIdeal.τ) (Cert.AsmallIdeal.main (F := Ideal))) ⟨m, fun _ => 0, g⟩ (fun r => ∀ c : Dev Cert.AsmallIdeal.nD,
          r.2.mem ((c.tc : Thread Cert.AsmallIdeal.nD Cert.AsmallIdeal.τ).loc Cert.AsmallIdeal.main_v0_0) = v0 c
          ∧ r.2.mem ((c.tc : Thread Cert.AsmallIdeal.nD Cert.AsmallIdeal.τ).loc Cert.AsmallIdeal.main_v0_1) = v1 c
          ∧ r.2.mem ((c.tc : Thread Cert.AsmallIdeal.nD Cert.AsmallIdeal.τ).loc Cert.AsmallIdeal.main_v0_2) = v2 c
          ∧ r.2.mem ((c.tc : Thread Cert.AsmallIdeal.nD Cert.AsmallIdeal.τ).loc Cert.AsmallIdeal.main_v0_3) = v3 c
          ∧ r.2.mem ((c.tc : Thread Cert.AsmallIdeal.nD Cert.AsmallIdeal.τ).loc Cert.AsmallIdeal.main_arg0) = m ((c.tc : Thread Cert.AsmallIdeal.nD Cert.AsmallIdeal.τ).loc Cert.AsmallIdeal.main_arg0)
          ∧ r.2.mem ((c.tc : Thread Cert.AsmallIdeal.nD Cert.AsmallIdeal.τ).loc Cert.AsmallIdeal.main_arg1) = m ((c.tc : Thread Cert.AsmallIdeal.nD Cert.AsmallIdeal.τ).loc Cert.AsmallIdeal.main_arg1)
          ∧ r.2.mem ((c.tc : Thread Cert.AsmallIdeal.nD Cert.AsmallIdeal.τ).loc Cert.AsmallIdeal.main_arg2) = m ((c.tc : Thread Cert.AsmallIdeal.nD Cert.AsmallIdeal.τ).loc Cert.AsmallIdeal.main_arg2)
          ∧ r.2.mem ((c.tc : Thread Cert.AsmallIdeal.nD Cert.AsmallIdeal.τ).loc Cert.AsmallIdeal.main_arg3) = m ((c.tc : Thread Cert.AsmallIdeal.nD Cert.AsmallIdeal.τ).loc Cert.AsmallIdeal.main_arg3))
      ∧ θ_run (Cert.AsmallRefIdeal.defs (F := Ideal)) (onTc (τ := Cert.AsmallRefIdeal.τ) (Cert.AsmallRefIdeal.main (F := Ideal))) ⟨m', fun _ => 0, g'⟩ (fun r => ∀ c : Dev Cert.AsmallRefIdeal.nD,
          r.2.mem ((c.tc : Thread Cert.AsmallRefIdeal.nD Cert.AsmallRefIdeal.τ).loc Cert.AsmallRefIdeal.main_v0) = v0 c
          ∧ r.2.mem ((c.tc : Thread Cert.AsmallRefIdeal.nD Cert.AsmallRefIdeal.τ).loc Cert.AsmallRefIdeal.main_v24) = v1 c
          ∧ r.2.mem ((c.tc : Thread Cert.AsmallRefIdeal.nD Cert.AsmallRefIdeal.τ).loc Cert.AsmallRefIdeal.main_v5) = v2 c
          ∧ r.2.mem ((c.tc : Thread Cert.AsmallRefIdeal.nD Cert.AsmallRefIdeal.τ).loc Cert.AsmallRefIdeal.main_v11) = v3 c
          ∧ r.2.mem ((c.tc : Thread Cert.AsmallRefIdeal.nD Cert.AsmallRefIdeal.τ).loc Cert.AsmallRefIdeal.main_arg0) = m' ((c.tc : Thread Cert.AsmallRefIdeal.nD Cert.AsmallRefIdeal.τ).loc Cert.AsmallRefIdeal.main_arg0)
          ∧ r.2.mem ((c.tc : Thread Cert.AsmallRefIdeal.nD Cert.AsmallRefIdeal.τ).loc Cert.AsmallRefIdeal.main_arg1) = m' ((c.tc : Thread Cert.AsmallRefIdeal.nD Cert.AsmallRefIdeal.τ).loc Cert.AsmallRefIdeal.main_arg1)
          ∧ r.2.mem ((c.tc : Thread Cert.AsmallRefIdeal.nD Cert.AsmallRefIdeal.τ).loc Cert.AsmallRefIdeal.main_arg2) = m' ((c.tc : Thread Cert.AsmallRefIdeal.nD Cert.AsmallRefIdeal.τ).loc Cert.AsmallRefIdeal.main_arg2)
          ∧ r.2.mem ((c.tc : Thread Cert.AsmallRefIdeal.nD Cert.AsmallRefIdeal.τ).loc Cert.AsmallRefIdeal.main_arg3) = m' ((c.tc : Thread Cert.AsmallRefIdeal.nD Cert.AsmallRefIdeal.τ).loc Cert.AsmallRefIdeal.main_arg3))

def preserves_Fh_FhIdeal : Prop :=
  True

def algebraic_FhIdeal_FhRefIdeal [hFhIdeal : Cert.FhIdeal.Facts] [hFhRefIdeal : Cert.FhRefIdeal.Facts] : Prop :=
  ∀ (m : (ℓ : Loc Cert.FhIdeal.nD Cert.FhIdeal.τ Cert.FhIdeal.sig) → Buf (Elt Ideal) ℓ) (g : Dev Cert.FhIdeal.nD → PrngReg)
    (m' : (ℓ : Loc Cert.FhRefIdeal.nD Cert.FhRefIdeal.τ Cert.FhRefIdeal.sig) → Buf (Elt Ideal) ℓ) (g' : Dev Cert.FhRefIdeal.nD → PrngReg), Pre_FhIdeal m →
    (∀ c : Dev Cert.FhIdeal.nD,
      m' ((c.tc : Thread Cert.FhRefIdeal.nD Cert.FhRefIdeal.τ).loc Cert.FhRefIdeal.main_arg0) = m ((c.tc : Thread Cert.FhIdeal.nD Cert.FhIdeal.τ).loc Cert.FhIdeal.main_arg0)
      ∧ m' ((c.tc : Thread Cert.FhRefIdeal.nD Cert.FhRefIdeal.τ).loc Cert.FhRefIdeal.main_arg1) = m ((c.tc : Thread Cert.FhIdeal.nD Cert.FhIdeal.τ).loc Cert.FhIdeal.main_arg1)
      ∧ m' ((c.tc : Thread Cert.FhRefIdeal.nD Cert.FhRefIdeal.τ).loc Cert.FhRefIdeal.main_arg2) = m ((c.tc : Thread Cert.FhIdeal.nD Cert.FhIdeal.τ).loc Cert.FhIdeal.main_arg2)) →
    ∃ (v0 : (c : Dev Cert.FhIdeal.nD) → Buf (Elt Ideal) ((c.tc : Thread Cert.FhIdeal.nD Cert.FhIdeal.τ).loc Cert.FhIdeal.main_v0_0)) (v1 : (c : Dev Cert.FhIdeal.nD) → Buf (Elt Ideal) ((c.tc : Thread Cert.FhIdeal.nD Cert.FhIdeal.τ).loc Cert.FhIdeal.main_v0_1)),
      θ_run (Cert.FhIdeal.defs (F := Ideal)) (onTc (τ := Cert.FhIdeal.τ) (Cert.FhIdeal.main (F := Ideal))) ⟨m, fun _ => 0, g⟩ (fun r => ∀ c : Dev Cert.FhIdeal.nD,
          r.2.mem ((c.tc : Thread Cert.FhIdeal.nD Cert.FhIdeal.τ).loc Cert.FhIdeal.main_v0_0) = v0 c
          ∧ r.2.mem ((c.tc : Thread Cert.FhIdeal.nD Cert.FhIdeal.τ).loc Cert.FhIdeal.main_v0_1) = v1 c
          ∧ r.2.mem ((c.tc : Thread Cert.FhIdeal.nD Cert.FhIdeal.τ).loc Cert.FhIdeal.main_arg0) = m ((c.tc : Thread Cert.FhIdeal.nD Cert.FhIdeal.τ).loc Cert.FhIdeal.main_arg0)
          ∧ r.2.mem ((c.tc : Thread Cert.FhIdeal.nD Cert.FhIdeal.τ).loc Cert.FhIdeal.main_arg1) = m ((c.tc : Thread Cert.FhIdeal.nD Cert.FhIdeal.τ).loc Cert.FhIdeal.main_arg1)
          ∧ r.2.mem ((c.tc : Thread Cert.FhIdeal.nD Cert.FhIdeal.τ).loc Cert.FhIdeal.main_arg2) = m ((c.tc : Thread Cert.FhIdeal.nD Cert.FhIdeal.τ).loc Cert.FhIdeal.main_arg2))
      ∧ θ_run (Cert.FhRefIdeal.defs (F := Ideal)) (onTc (τ := Cert.FhRefIdeal.τ) (Cert.FhRefIdeal.main (F := Ideal))) ⟨m', fun _ => 0, g'⟩ (fun r => ∀ c : Dev Cert.FhRefIdeal.nD,
          r.2.mem ((c.tc : Thread Cert.FhRefIdeal.nD Cert.FhRefIdeal.τ).loc Cert.FhRefIdeal.main_v13) = v0 c
          ∧ r.2.mem ((c.tc : Thread Cert.FhRefIdeal.nD Cert.FhRefIdeal.τ).loc Cert.FhRefIdeal.main_v12) = v1 c
          ∧ r.2.mem ((c.tc : Thread Cert.FhRefIdeal.nD Cert.FhRefIdeal.τ).loc Cert.FhRefIdeal.main_arg0) = m' ((c.tc : Thread Cert.FhRefIdeal.nD Cert.FhRefIdeal.τ).loc Cert.FhRefIdeal.main_arg0)
          ∧ r.2.mem ((c.tc : Thread Cert.FhRefIdeal.nD Cert.FhRefIdeal.τ).loc Cert.FhRefIdeal.main_arg1) = m' ((c.tc : Thread Cert.FhRefIdeal.nD Cert.FhRefIdeal.τ).loc Cert.FhRefIdeal.main_arg1)
          ∧ r.2.mem ((c.tc : Thread Cert.FhRefIdeal.nD Cert.FhRefIdeal.τ).loc Cert.FhRefIdeal.main_arg2) = m' ((c.tc : Thread Cert.FhRefIdeal.nD Cert.FhRefIdeal.τ).loc Cert.FhRefIdeal.main_arg2))

def preserves_Rf_RfIdeal : Prop :=
  True

def algebraic_RfIdeal_RfRefIdeal_pre_rnn_decays [hRfIdeal : Cert.RfIdeal.Facts] [hRfRefIdeal : Cert.RfRefIdeal.Facts] [hPre_rnn_decays : Cert.Pre_rnn_decays.Facts] : Prop :=
  ∀ (m : (ℓ : Loc Cert.RfIdeal.nD Cert.RfIdeal.τ Cert.RfIdeal.sig) → Buf (Elt Ideal) ℓ) (g : Dev Cert.RfIdeal.nD → PrngReg)
    (m' : (ℓ : Loc Cert.RfRefIdeal.nD Cert.RfRefIdeal.τ Cert.RfRefIdeal.sig) → Buf (Elt Ideal) ℓ) (g' : Dev Cert.RfRefIdeal.nD → PrngReg), Pre_RfIdeal_rnn_decays m →
    (∀ c : Dev Cert.RfIdeal.nD,
      m' ((c.tc : Thread Cert.RfRefIdeal.nD Cert.RfRefIdeal.τ).loc Cert.RfRefIdeal.main_arg0) = m ((c.tc : Thread Cert.RfIdeal.nD Cert.RfIdeal.τ).loc Cert.RfIdeal.main_arg0)
      ∧ m' ((c.tc : Thread Cert.RfRefIdeal.nD Cert.RfRefIdeal.τ).loc Cert.RfRefIdeal.main_arg1) = m ((c.tc : Thread Cert.RfIdeal.nD Cert.RfIdeal.τ).loc Cert.RfIdeal.main_arg1)
      ∧ m' ((c.tc : Thread Cert.RfRefIdeal.nD Cert.RfRefIdeal.τ).loc Cert.RfRefIdeal.main_arg2) = m ((c.tc : Thread Cert.RfIdeal.nD Cert.RfIdeal.τ).loc Cert.RfIdeal.main_arg2)
      ∧ m' ((c.tc : Thread Cert.RfRefIdeal.nD Cert.RfRefIdeal.τ).loc Cert.RfRefIdeal.main_arg3) = m ((c.tc : Thread Cert.RfIdeal.nD Cert.RfIdeal.τ).loc Cert.RfIdeal.main_arg3)
      ∧ m' ((c.tc : Thread Cert.RfRefIdeal.nD Cert.RfRefIdeal.τ).loc Cert.RfRefIdeal.main_arg4) = m ((c.tc : Thread Cert.RfIdeal.nD Cert.RfIdeal.τ).loc Cert.RfIdeal.main_arg4)
      ∧ m' ((c.tc : Thread Cert.RfRefIdeal.nD Cert.RfRefIdeal.τ).loc Cert.RfRefIdeal.main_arg5) = m ((c.tc : Thread Cert.RfIdeal.nD Cert.RfIdeal.τ).loc Cert.RfIdeal.main_arg5)
      ∧ m' ((c.tc : Thread Cert.RfRefIdeal.nD Cert.RfRefIdeal.τ).loc Cert.RfRefIdeal.main_arg6) = m ((c.tc : Thread Cert.RfIdeal.nD Cert.RfIdeal.τ).loc Cert.RfIdeal.main_arg6)
      ∧ m' ((c.tc : Thread Cert.RfRefIdeal.nD Cert.RfRefIdeal.τ).loc Cert.RfRefIdeal.main_arg7) = m ((c.tc : Thread Cert.RfIdeal.nD Cert.RfIdeal.τ).loc Cert.RfIdeal.main_arg7)) →
    ∃ (v0 : (c : Dev Cert.RfIdeal.nD) → Buf (Elt Ideal) ((c.tc : Thread Cert.RfIdeal.nD Cert.RfIdeal.τ).loc Cert.RfIdeal.main_v0_0)) (v1 : (c : Dev Cert.RfIdeal.nD) → Buf (Elt Ideal) ((c.tc : Thread Cert.RfIdeal.nD Cert.RfIdeal.τ).loc Cert.RfIdeal.main_v0_1)) (v2 : (c : Dev Cert.RfIdeal.nD) → Buf (Elt Ideal) ((c.tc : Thread Cert.RfIdeal.nD Cert.RfIdeal.τ).loc Cert.RfIdeal.main_v0_2)),
      θ_run (Cert.RfIdeal.defs (F := Ideal)) (onTc (τ := Cert.RfIdeal.τ) (Cert.RfIdeal.main (F := Ideal))) ⟨m, fun _ => 0, g⟩ (fun r => ∀ c : Dev Cert.RfIdeal.nD,
          r.2.mem ((c.tc : Thread Cert.RfIdeal.nD Cert.RfIdeal.τ).loc Cert.RfIdeal.main_v0_0) = v0 c
          ∧ r.2.mem ((c.tc : Thread Cert.RfIdeal.nD Cert.RfIdeal.τ).loc Cert.RfIdeal.main_v0_1) = v1 c
          ∧ r.2.mem ((c.tc : Thread Cert.RfIdeal.nD Cert.RfIdeal.τ).loc Cert.RfIdeal.main_v0_2) = v2 c
          ∧ r.2.mem ((c.tc : Thread Cert.RfIdeal.nD Cert.RfIdeal.τ).loc Cert.RfIdeal.main_arg0) = m ((c.tc : Thread Cert.RfIdeal.nD Cert.RfIdeal.τ).loc Cert.RfIdeal.main_arg0)
          ∧ r.2.mem ((c.tc : Thread Cert.RfIdeal.nD Cert.RfIdeal.τ).loc Cert.RfIdeal.main_arg1) = m ((c.tc : Thread Cert.RfIdeal.nD Cert.RfIdeal.τ).loc Cert.RfIdeal.main_arg1)
          ∧ r.2.mem ((c.tc : Thread Cert.RfIdeal.nD Cert.RfIdeal.τ).loc Cert.RfIdeal.main_arg2) = m ((c.tc : Thread Cert.RfIdeal.nD Cert.RfIdeal.τ).loc Cert.RfIdeal.main_arg2)
          ∧ r.2.mem ((c.tc : Thread Cert.RfIdeal.nD Cert.RfIdeal.τ).loc Cert.RfIdeal.main_arg3) = m ((c.tc : Thread Cert.RfIdeal.nD Cert.RfIdeal.τ).loc Cert.RfIdeal.main_arg3)
          ∧ r.2.mem ((c.tc : Thread Cert.RfIdeal.nD Cert.RfIdeal.τ).loc Cert.RfIdeal.main_arg4) = m ((c.tc : Thread Cert.RfIdeal.nD Cert.RfIdeal.τ).loc Cert.RfIdeal.main_arg4)
          ∧ r.2.mem ((c.tc : Thread Cert.RfIdeal.nD Cert.RfIdeal.τ).loc Cert.RfIdeal.main_arg5) = m ((c.tc : Thread Cert.RfIdeal.nD Cert.RfIdeal.τ).loc Cert.RfIdeal.main_arg5)
          ∧ r.2.mem ((c.tc : Thread Cert.RfIdeal.nD Cert.RfIdeal.τ).loc Cert.RfIdeal.main_arg6) = m ((c.tc : Thread Cert.RfIdeal.nD Cert.RfIdeal.τ).loc Cert.RfIdeal.main_arg6)
          ∧ r.2.mem ((c.tc : Thread Cert.RfIdeal.nD Cert.RfIdeal.τ).loc Cert.RfIdeal.main_arg7) = m ((c.tc : Thread Cert.RfIdeal.nD Cert.RfIdeal.τ).loc Cert.RfIdeal.main_arg7))
      ∧ θ_run (Cert.RfRefIdeal.defs (F := Ideal)) (onTc (τ := Cert.RfRefIdeal.τ) (Cert.RfRefIdeal.main (F := Ideal))) ⟨m', fun _ => 0, g'⟩ (fun r => ∀ c : Dev Cert.RfRefIdeal.nD,
          r.2.mem ((c.tc : Thread Cert.RfRefIdeal.nD Cert.RfRefIdeal.τ).loc Cert.RfRefIdeal.main_v135) = v0 c
          ∧ r.2.mem ((c.tc : Thread Cert.RfRefIdeal.nD Cert.RfRefIdeal.τ).loc Cert.RfRefIdeal.main_v136) = v1 c
          ∧ r.2.mem ((c.tc : Thread Cert.RfRefIdeal.nD Cert.RfRefIdeal.τ).loc Cert.RfRefIdeal.main_v138) = v2 c
          ∧ r.2.mem ((c.tc : Thread Cert.RfRefIdeal.nD Cert.RfRefIdeal.τ).loc Cert.RfRefIdeal.main_arg0) = m' ((c.tc : Thread Cert.RfRefIdeal.nD Cert.RfRefIdeal.τ).loc Cert.RfRefIdeal.main_arg0)
          ∧ r.2.mem ((c.tc : Thread Cert.RfRefIdeal.nD Cert.RfRefIdeal.τ).loc Cert.RfRefIdeal.main_arg1) = m' ((c.tc : Thread Cert.RfRefIdeal.nD Cert.RfRefIdeal.τ).loc Cert.RfRefIdeal.main_arg1)
          ∧ r.2.mem ((c.tc : Thread Cert.RfRefIdeal.nD Cert.RfRefIdeal.τ).loc Cert.RfRefIdeal.main_arg2) = m' ((c.tc : Thread Cert.RfRefIdeal.nD Cert.RfRefIdeal.τ).loc Cert.RfRefIdeal.main_arg2)
          ∧ r.2.mem ((c.tc : Thread Cert.RfRefIdeal.nD Cert.RfRefIdeal.τ).loc Cert.RfRefIdeal.main_arg3) = m' ((c.tc : Thread Cert.RfRefIdeal.nD Cert.RfRefIdeal.τ).loc Cert.RfRefIdeal.main_arg3)
          ∧ r.2.mem ((c.tc : Thread Cert.RfRefIdeal.nD Cert.RfRefIdeal.τ).loc Cert.RfRefIdeal.main_arg4) = m' ((c.tc : Thread Cert.RfRefIdeal.nD Cert.RfRefIdeal.τ).loc Cert.RfRefIdeal.main_arg4)
          ∧ r.2.mem ((c.tc : Thread Cert.RfRefIdeal.nD Cert.RfRefIdeal.τ).loc Cert.RfRefIdeal.main_arg5) = m' ((c.tc : Thread Cert.RfRefIdeal.nD Cert.RfRefIdeal.τ).loc Cert.RfRefIdeal.main_arg5)
          ∧ r.2.mem ((c.tc : Thread Cert.RfRefIdeal.nD Cert.RfRefIdeal.τ).loc Cert.RfRefIdeal.main_arg6) = m' ((c.tc : Thread Cert.RfRefIdeal.nD Cert.RfRefIdeal.τ).loc Cert.RfRefIdeal.main_arg6)
          ∧ r.2.mem ((c.tc : Thread Cert.RfRefIdeal.nD Cert.RfRefIdeal.τ).loc Cert.RfRefIdeal.main_arg7) = m' ((c.tc : Thread Cert.RfRefIdeal.nD Cert.RfRefIdeal.τ).loc Cert.RfRefIdeal.main_arg7))

def preserves_Rb_RbIdeal : Prop :=
  IdealRules.named_const.Statement Cert.RbIdeal.κ "cube" .f32 0x3D372713#32 ((8943 / 200000 : ℝ) : EReal)
  ∧ IdealRules.named_const.Statement Cert.RbIdeal.κ "cube_slope" .f32 0x3E095D4F#32 ((26829 / 200000 : ℝ) : EReal)

def algebraic_RbIdeal_RbRefIdeal_pre_gate_finite [hRbIdeal : Cert.RbIdeal.Facts] [hRbRefIdeal : Cert.RbRefIdeal.Facts] [hPre_gate_finite : Cert.Pre_gate_finite.Facts] : Prop :=
  ∀ (m : (ℓ : Loc Cert.RbIdeal.nD Cert.RbIdeal.τ Cert.RbIdeal.sig) → Buf (Elt Ideal) ℓ) (g : Dev Cert.RbIdeal.nD → PrngReg)
    (m' : (ℓ : Loc Cert.RbRefIdeal.nD Cert.RbRefIdeal.τ Cert.RbRefIdeal.sig) → Buf (Elt Ideal) ℓ) (g' : Dev Cert.RbRefIdeal.nD → PrngReg), Pre_RbIdeal_gate_finite m →
    (∀ c : Dev Cert.RbIdeal.nD,
      m' ((c.tc : Thread Cert.RbRefIdeal.nD Cert.RbRefIdeal.τ).loc Cert.RbRefIdeal.main_arg0) = m ((c.tc : Thread Cert.RbIdeal.nD Cert.RbIdeal.τ).loc Cert.RbIdeal.main_arg0)
      ∧ m' ((c.tc : Thread Cert.RbRefIdeal.nD Cert.RbRefIdeal.τ).loc Cert.RbRefIdeal.main_arg1) = m ((c.tc : Thread Cert.RbIdeal.nD Cert.RbIdeal.τ).loc Cert.RbIdeal.main_arg1)
      ∧ m' ((c.tc : Thread Cert.RbRefIdeal.nD Cert.RbRefIdeal.τ).loc Cert.RbRefIdeal.main_arg2) = m ((c.tc : Thread Cert.RbIdeal.nD Cert.RbIdeal.τ).loc Cert.RbIdeal.main_arg2)
      ∧ m' ((c.tc : Thread Cert.RbRefIdeal.nD Cert.RbRefIdeal.τ).loc Cert.RbRefIdeal.main_arg3) = m ((c.tc : Thread Cert.RbIdeal.nD Cert.RbIdeal.τ).loc Cert.RbIdeal.main_arg3)
      ∧ m' ((c.tc : Thread Cert.RbRefIdeal.nD Cert.RbRefIdeal.τ).loc Cert.RbRefIdeal.main_arg4) = m ((c.tc : Thread Cert.RbIdeal.nD Cert.RbIdeal.τ).loc Cert.RbIdeal.main_arg4)
      ∧ m' ((c.tc : Thread Cert.RbRefIdeal.nD Cert.RbRefIdeal.τ).loc Cert.RbRefIdeal.main_arg5) = m ((c.tc : Thread Cert.RbIdeal.nD Cert.RbIdeal.τ).loc Cert.RbIdeal.main_arg5)
      ∧ m' ((c.tc : Thread Cert.RbRefIdeal.nD Cert.RbRefIdeal.τ).loc Cert.RbRefIdeal.main_arg6) = m ((c.tc : Thread Cert.RbIdeal.nD Cert.RbIdeal.τ).loc Cert.RbIdeal.main_arg6)
      ∧ m' ((c.tc : Thread Cert.RbRefIdeal.nD Cert.RbRefIdeal.τ).loc Cert.RbRefIdeal.main_arg7) = m ((c.tc : Thread Cert.RbIdeal.nD Cert.RbIdeal.τ).loc Cert.RbIdeal.main_arg7)
      ∧ m' ((c.tc : Thread Cert.RbRefIdeal.nD Cert.RbRefIdeal.τ).loc Cert.RbRefIdeal.main_arg8) = m ((c.tc : Thread Cert.RbIdeal.nD Cert.RbIdeal.τ).loc Cert.RbIdeal.main_arg8)
      ∧ m' ((c.tc : Thread Cert.RbRefIdeal.nD Cert.RbRefIdeal.τ).loc Cert.RbRefIdeal.main_arg9) = m ((c.tc : Thread Cert.RbIdeal.nD Cert.RbIdeal.τ).loc Cert.RbIdeal.main_arg9)) →
    ∃ (v0 : (c : Dev Cert.RbIdeal.nD) → Buf (Elt Ideal) ((c.tc : Thread Cert.RbIdeal.nD Cert.RbIdeal.τ).loc Cert.RbIdeal.main_v0_1)),
      θ_run (Cert.RbIdeal.defs (F := Ideal)) (onTc (τ := Cert.RbIdeal.τ) (Cert.RbIdeal.main (F := Ideal))) ⟨m, fun _ => 0, g⟩ (fun r => ∀ c : Dev Cert.RbIdeal.nD,
          r.2.mem ((c.tc : Thread Cert.RbIdeal.nD Cert.RbIdeal.τ).loc Cert.RbIdeal.main_v0_1) = v0 c
          ∧ r.2.mem ((c.tc : Thread Cert.RbIdeal.nD Cert.RbIdeal.τ).loc Cert.RbIdeal.main_arg0) = m ((c.tc : Thread Cert.RbIdeal.nD Cert.RbIdeal.τ).loc Cert.RbIdeal.main_arg0)
          ∧ r.2.mem ((c.tc : Thread Cert.RbIdeal.nD Cert.RbIdeal.τ).loc Cert.RbIdeal.main_arg1) = m ((c.tc : Thread Cert.RbIdeal.nD Cert.RbIdeal.τ).loc Cert.RbIdeal.main_arg1)
          ∧ r.2.mem ((c.tc : Thread Cert.RbIdeal.nD Cert.RbIdeal.τ).loc Cert.RbIdeal.main_arg2) = m ((c.tc : Thread Cert.RbIdeal.nD Cert.RbIdeal.τ).loc Cert.RbIdeal.main_arg2)
          ∧ r.2.mem ((c.tc : Thread Cert.RbIdeal.nD Cert.RbIdeal.τ).loc Cert.RbIdeal.main_arg3) = m ((c.tc : Thread Cert.RbIdeal.nD Cert.RbIdeal.τ).loc Cert.RbIdeal.main_arg3)
          ∧ r.2.mem ((c.tc : Thread Cert.RbIdeal.nD Cert.RbIdeal.τ).loc Cert.RbIdeal.main_arg4) = m ((c.tc : Thread Cert.RbIdeal.nD Cert.RbIdeal.τ).loc Cert.RbIdeal.main_arg4)
          ∧ r.2.mem ((c.tc : Thread Cert.RbIdeal.nD Cert.RbIdeal.τ).loc Cert.RbIdeal.main_arg5) = m ((c.tc : Thread Cert.RbIdeal.nD Cert.RbIdeal.τ).loc Cert.RbIdeal.main_arg5)
          ∧ r.2.mem ((c.tc : Thread Cert.RbIdeal.nD Cert.RbIdeal.τ).loc Cert.RbIdeal.main_arg6) = m ((c.tc : Thread Cert.RbIdeal.nD Cert.RbIdeal.τ).loc Cert.RbIdeal.main_arg6)
          ∧ r.2.mem ((c.tc : Thread Cert.RbIdeal.nD Cert.RbIdeal.τ).loc Cert.RbIdeal.main_arg7) = m ((c.tc : Thread Cert.RbIdeal.nD Cert.RbIdeal.τ).loc Cert.RbIdeal.main_arg7)
          ∧ r.2.mem ((c.tc : Thread Cert.RbIdeal.nD Cert.RbIdeal.τ).loc Cert.RbIdeal.main_arg8) = m ((c.tc : Thread Cert.RbIdeal.nD Cert.RbIdeal.τ).loc Cert.RbIdeal.main_arg8)
          ∧ r.2.mem ((c.tc : Thread Cert.RbIdeal.nD Cert.RbIdeal.τ).loc Cert.RbIdeal.main_arg9) = m ((c.tc : Thread Cert.RbIdeal.nD Cert.RbIdeal.τ).loc Cert.RbIdeal.main_arg9))
      ∧ θ_run (Cert.RbRefIdeal.defs (F := Ideal)) (onTc (τ := Cert.RbRefIdeal.τ) (Cert.RbRefIdeal.main (F := Ideal))) ⟨m', fun _ => 0, g'⟩ (fun r => ∀ c : Dev Cert.RbRefIdeal.nD,
          r.2.mem ((c.tc : Thread Cert.RbRefIdeal.nD Cert.RbRefIdeal.τ).loc Cert.RbRefIdeal.main_v40) = v0 c
          ∧ r.2.mem ((c.tc : Thread Cert.RbRefIdeal.nD Cert.RbRefIdeal.τ).loc Cert.RbRefIdeal.main_arg0) = m' ((c.tc : Thread Cert.RbRefIdeal.nD Cert.RbRefIdeal.τ).loc Cert.RbRefIdeal.main_arg0)
          ∧ r.2.mem ((c.tc : Thread Cert.RbRefIdeal.nD Cert.RbRefIdeal.τ).loc Cert.RbRefIdeal.main_arg1) = m' ((c.tc : Thread Cert.RbRefIdeal.nD Cert.RbRefIdeal.τ).loc Cert.RbRefIdeal.main_arg1)
          ∧ r.2.mem ((c.tc : Thread Cert.RbRefIdeal.nD Cert.RbRefIdeal.τ).loc Cert.RbRefIdeal.main_arg2) = m' ((c.tc : Thread Cert.RbRefIdeal.nD Cert.RbRefIdeal.τ).loc Cert.RbRefIdeal.main_arg2)
          ∧ r.2.mem ((c.tc : Thread Cert.RbRefIdeal.nD Cert.RbRefIdeal.τ).loc Cert.RbRefIdeal.main_arg3) = m' ((c.tc : Thread Cert.RbRefIdeal.nD Cert.RbRefIdeal.τ).loc Cert.RbRefIdeal.main_arg3)
          ∧ r.2.mem ((c.tc : Thread Cert.RbRefIdeal.nD Cert.RbRefIdeal.τ).loc Cert.RbRefIdeal.main_arg4) = m' ((c.tc : Thread Cert.RbRefIdeal.nD Cert.RbRefIdeal.τ).loc Cert.RbRefIdeal.main_arg4)
          ∧ r.2.mem ((c.tc : Thread Cert.RbRefIdeal.nD Cert.RbRefIdeal.τ).loc Cert.RbRefIdeal.main_arg5) = m' ((c.tc : Thread Cert.RbRefIdeal.nD Cert.RbRefIdeal.τ).loc Cert.RbRefIdeal.main_arg5)
          ∧ r.2.mem ((c.tc : Thread Cert.RbRefIdeal.nD Cert.RbRefIdeal.τ).loc Cert.RbRefIdeal.main_arg6) = m' ((c.tc : Thread Cert.RbRefIdeal.nD Cert.RbRefIdeal.τ).loc Cert.RbRefIdeal.main_arg6)
          ∧ r.2.mem ((c.tc : Thread Cert.RbRefIdeal.nD Cert.RbRefIdeal.τ).loc Cert.RbRefIdeal.main_arg7) = m' ((c.tc : Thread Cert.RbRefIdeal.nD Cert.RbRefIdeal.τ).loc Cert.RbRefIdeal.main_arg7)
          ∧ r.2.mem ((c.tc : Thread Cert.RbRefIdeal.nD Cert.RbRefIdeal.τ).loc Cert.RbRefIdeal.main_arg8) = m' ((c.tc : Thread Cert.RbRefIdeal.nD Cert.RbRefIdeal.τ).loc Cert.RbRefIdeal.main_arg8)
          ∧ r.2.mem ((c.tc : Thread Cert.RbRefIdeal.nD Cert.RbRefIdeal.τ).loc Cert.RbRefIdeal.main_arg9) = m' ((c.tc : Thread Cert.RbRefIdeal.nD Cert.RbRefIdeal.τ).loc Cert.RbRefIdeal.main_arg9))

def Claim : Prop :=
  ∃ (hDhp : Cert.Dhp.Facts) (hDhpIdeal : Cert.DhpIdeal.Facts) (hDhpRefIdeal : Cert.DhpRefIdeal.Facts) (hDact : Cert.Dact.Facts) (hDactIdeal : Cert.DactIdeal.Facts) (hDactRefIdeal : Cert.DactRefIdeal.Facts) (hDmerged : Cert.Dmerged.Facts) (hDmergedIdeal : Cert.DmergedIdeal.Facts) (hDmergedRefIdeal : Cert.DmergedRefIdeal.Facts) (hDup : Cert.Dup.Facts) (hDupIdeal : Cert.DupIdeal.Facts) (hDupRefIdeal : Cert.DupRefIdeal.Facts) (hDdown : Cert.Ddown.Facts) (hDdownIdeal : Cert.DdownIdeal.Facts) (hDdownRefIdeal : Cert.DdownRefIdeal.Facts) (hDya : Cert.Dya.Facts) (hDyaIdeal : Cert.DyaIdeal.Facts) (hDyaRefIdeal : Cert.DyaRefIdeal.Facts) (hDout : Cert.Dout.Facts) (hDoutIdeal : Cert.DoutIdeal.Facts) (hDoutRefIdeal : Cert.DoutRefIdeal.Facts) (hDpp : Cert.Dpp.Facts) (hDppIdeal : Cert.DppIdeal.Facts) (hDppRefIdeal : Cert.DppRefIdeal.Facts) (hDhm : Cert.Dhm.Facts) (hDhmIdeal : Cert.DhmIdeal.Facts) (hDhmRefIdeal : Cert.DhmRefIdeal.Facts) (hDo : Cert.Do.Facts) (hDoIdeal : Cert.DoIdeal.Facts) (hDoRefIdeal : Cert.DoRefIdeal.Facts) (hDinr : Cert.Dinr.Facts) (hDinrIdeal : Cert.DinrIdeal.Facts) (hDinrRefIdeal : Cert.DinrRefIdeal.Facts) (hDina : Cert.Dina.Facts) (hDinaIdeal : Cert.DinaIdeal.Facts) (hDinaRefIdeal : Cert.DinaRefIdeal.Facts) (hDh : Cert.Dh.Facts) (hDhIdeal : Cert.DhIdeal.Facts) (hDhRefIdeal : Cert.DhRefIdeal.Facts) (hFya : Cert.Fya.Facts) (hFyaIdeal : Cert.FyaIdeal.Facts) (hFyaRefIdeal : Cert.FyaRefIdeal.Facts) (hFyb : Cert.Fyb.Facts) (hFybIdeal : Cert.FybIdeal.Facts) (hFybRefIdeal : Cert.FybRefIdeal.Facts) (hFx1 : Cert.Fx1.Facts) (hFx1Ideal : Cert.Fx1Ideal.Facts) (hFx1RefIdeal : Cert.Fx1RefIdeal.Facts) (hFact : Cert.Fact.Facts) (hFactIdeal : Cert.FactIdeal.Facts) (hFactRefIdeal : Cert.FactRefIdeal.Facts) (hFx2 : Cert.Fx2.Facts) (hFx2Ideal : Cert.Fx2Ideal.Facts) (hFx2RefIdeal : Cert.Fx2RefIdeal.Facts) (hFe : Cert.Fe.Facts) (hFeIdeal : Cert.FeIdeal.Facts) (hFeRefIdeal : Cert.FeRefIdeal.Facts) (hFloss : Cert.Floss.Facts) (hFlossIdeal : Cert.FlossIdeal.Facts) (hFlossRefIdeal : Cert.FlossRefIdeal.Facts) (hAwin : Cert.Awin.Facts) (hAwinIdeal : Cert.AwinIdeal.Facts) (hAwinRefIdeal : Cert.AwinRefIdeal.Facts) (hAproj : Cert.Aproj.Facts) (hAprojIdeal : Cert.AprojIdeal.Facts) (hAprojRefIdeal : Cert.AprojRefIdeal.Facts) (hAup : Cert.Aup.Facts) (hAupIdeal : Cert.AupIdeal.Facts) (hAupRefIdeal : Cert.AupRefIdeal.Facts) (hAdown : Cert.Adown.Facts) (hAdownIdeal : Cert.AdownIdeal.Facts) (hAdownRefIdeal : Cert.AdownRefIdeal.Facts) (hApp : Cert.App.Facts) (hAppIdeal : Cert.AppIdeal.Facts) (hAppRefIdeal : Cert.AppRefIdeal.Facts) (hAconv : Cert.Aconv.Facts) (hAconvIdeal : Cert.AconvIdeal.Facts) (hAconvRefIdeal : Cert.AconvRefIdeal.Facts) (hAgmix : Cert.Agmix.Facts) (hAgmixIdeal : Cert.AgmixIdeal.Facts) (hAgmixRefIdeal : Cert.AgmixRefIdeal.Facts) (hAsmall : Cert.Asmall.Facts) (hAsmallIdeal : Cert.AsmallIdeal.Facts) (hAsmallRefIdeal : Cert.AsmallRefIdeal.Facts) (hFh : Cert.Fh.Facts) (hFhIdeal : Cert.FhIdeal.Facts) (hFhRefIdeal : Cert.FhRefIdeal.Facts) (hRf : Cert.Rf.Facts) (hRfIdeal : Cert.RfIdeal.Facts) (hRfRefIdeal : Cert.RfRefIdeal.Facts) (hRb : Cert.Rb.Facts) (hRbIdeal : Cert.RbIdeal.Facts) (hRbRefIdeal : Cert.RbRefIdeal.Facts) (hPre_dhp_finite : Cert.Pre_dhp_finite.Facts) (hPre_dact_finite : Cert.Pre_dact_finite.Facts) (hPre_dhm_finite : Cert.Pre_dhm_finite.Facts) (hPre_dh_finite : Cert.Pre_dh_finite.Facts) (hPre_rnn_decays : Cert.Pre_rnn_decays.Facts) (hPre_gate_finite : Cert.Pre_gate_finite.Facts),
    quiescent_Dhp (hDhp := hDhp)
    ∧ quiescent_DhpIdeal (hDhpIdeal := hDhpIdeal)
    ∧ quiescent_DhpIdeal_pre_dhp_finite (hDhpIdeal := hDhpIdeal) (hPre_dhp_finite := hPre_dhp_finite)
    ∧ quiescent_DhpRefIdeal (hDhpRefIdeal := hDhpRefIdeal)
    ∧ quiescent_DhpRefIdeal_pre_dhp_finite (hDhpRefIdeal := hDhpRefIdeal) (hPre_dhp_finite := hPre_dhp_finite)
    ∧ quiescent_Dact (hDact := hDact)
    ∧ quiescent_DactIdeal (hDactIdeal := hDactIdeal)
    ∧ quiescent_DactIdeal_pre_dact_finite (hDactIdeal := hDactIdeal) (hPre_dact_finite := hPre_dact_finite)
    ∧ quiescent_DactRefIdeal (hDactRefIdeal := hDactRefIdeal)
    ∧ quiescent_DactRefIdeal_pre_dact_finite (hDactRefIdeal := hDactRefIdeal) (hPre_dact_finite := hPre_dact_finite)
    ∧ quiescent_Dmerged (hDmerged := hDmerged)
    ∧ quiescent_DmergedIdeal (hDmergedIdeal := hDmergedIdeal)
    ∧ quiescent_DmergedRefIdeal (hDmergedRefIdeal := hDmergedRefIdeal)
    ∧ quiescent_Dup (hDup := hDup)
    ∧ quiescent_DupIdeal (hDupIdeal := hDupIdeal)
    ∧ quiescent_DupRefIdeal (hDupRefIdeal := hDupRefIdeal)
    ∧ quiescent_Ddown (hDdown := hDdown)
    ∧ quiescent_DdownIdeal (hDdownIdeal := hDdownIdeal)
    ∧ quiescent_DdownRefIdeal (hDdownRefIdeal := hDdownRefIdeal)
    ∧ quiescent_Dya (hDya := hDya)
    ∧ quiescent_DyaIdeal (hDyaIdeal := hDyaIdeal)
    ∧ quiescent_DyaRefIdeal (hDyaRefIdeal := hDyaRefIdeal)
    ∧ quiescent_Dout (hDout := hDout)
    ∧ quiescent_DoutIdeal (hDoutIdeal := hDoutIdeal)
    ∧ quiescent_DoutRefIdeal (hDoutRefIdeal := hDoutRefIdeal)
    ∧ quiescent_Dpp (hDpp := hDpp)
    ∧ quiescent_DppIdeal (hDppIdeal := hDppIdeal)
    ∧ quiescent_DppRefIdeal (hDppRefIdeal := hDppRefIdeal)
    ∧ quiescent_Dhm (hDhm := hDhm)
    ∧ quiescent_DhmIdeal (hDhmIdeal := hDhmIdeal)
    ∧ quiescent_DhmIdeal_pre_dhm_finite (hDhmIdeal := hDhmIdeal) (hPre_dhm_finite := hPre_dhm_finite)
    ∧ quiescent_DhmRefIdeal (hDhmRefIdeal := hDhmRefIdeal)
    ∧ quiescent_DhmRefIdeal_pre_dhm_finite (hDhmRefIdeal := hDhmRefIdeal) (hPre_dhm_finite := hPre_dhm_finite)
    ∧ quiescent_Do (hDo := hDo)
    ∧ quiescent_DoIdeal (hDoIdeal := hDoIdeal)
    ∧ quiescent_DoRefIdeal (hDoRefIdeal := hDoRefIdeal)
    ∧ quiescent_Dinr (hDinr := hDinr)
    ∧ quiescent_DinrIdeal (hDinrIdeal := hDinrIdeal)
    ∧ quiescent_DinrRefIdeal (hDinrRefIdeal := hDinrRefIdeal)
    ∧ quiescent_Dina (hDina := hDina)
    ∧ quiescent_DinaIdeal (hDinaIdeal := hDinaIdeal)
    ∧ quiescent_DinaRefIdeal (hDinaRefIdeal := hDinaRefIdeal)
    ∧ quiescent_Dh (hDh := hDh)
    ∧ quiescent_DhIdeal (hDhIdeal := hDhIdeal)
    ∧ quiescent_DhIdeal_pre_dh_finite (hDhIdeal := hDhIdeal) (hPre_dh_finite := hPre_dh_finite)
    ∧ quiescent_DhRefIdeal (hDhRefIdeal := hDhRefIdeal)
    ∧ quiescent_DhRefIdeal_pre_dh_finite (hDhRefIdeal := hDhRefIdeal) (hPre_dh_finite := hPre_dh_finite)
    ∧ quiescent_Fya (hFya := hFya)
    ∧ quiescent_FyaIdeal (hFyaIdeal := hFyaIdeal)
    ∧ quiescent_FyaRefIdeal (hFyaRefIdeal := hFyaRefIdeal)
    ∧ quiescent_Fyb (hFyb := hFyb)
    ∧ quiescent_FybIdeal (hFybIdeal := hFybIdeal)
    ∧ quiescent_FybRefIdeal (hFybRefIdeal := hFybRefIdeal)
    ∧ quiescent_Fx1 (hFx1 := hFx1)
    ∧ quiescent_Fx1Ideal (hFx1Ideal := hFx1Ideal)
    ∧ quiescent_Fx1RefIdeal (hFx1RefIdeal := hFx1RefIdeal)
    ∧ quiescent_Fact (hFact := hFact)
    ∧ quiescent_FactIdeal (hFactIdeal := hFactIdeal)
    ∧ quiescent_FactRefIdeal (hFactRefIdeal := hFactRefIdeal)
    ∧ quiescent_Fx2 (hFx2 := hFx2)
    ∧ quiescent_Fx2Ideal (hFx2Ideal := hFx2Ideal)
    ∧ quiescent_Fx2RefIdeal (hFx2RefIdeal := hFx2RefIdeal)
    ∧ quiescent_Fe (hFe := hFe)
    ∧ quiescent_FeIdeal (hFeIdeal := hFeIdeal)
    ∧ quiescent_FeRefIdeal (hFeRefIdeal := hFeRefIdeal)
    ∧ quiescent_Floss (hFloss := hFloss)
    ∧ quiescent_FlossIdeal (hFlossIdeal := hFlossIdeal)
    ∧ quiescent_FlossRefIdeal (hFlossRefIdeal := hFlossRefIdeal)
    ∧ quiescent_Awin (hAwin := hAwin)
    ∧ quiescent_AwinIdeal (hAwinIdeal := hAwinIdeal)
    ∧ quiescent_AwinRefIdeal (hAwinRefIdeal := hAwinRefIdeal)
    ∧ quiescent_Aproj (hAproj := hAproj)
    ∧ quiescent_AprojIdeal (hAprojIdeal := hAprojIdeal)
    ∧ quiescent_AprojRefIdeal (hAprojRefIdeal := hAprojRefIdeal)
    ∧ quiescent_Aup (hAup := hAup)
    ∧ quiescent_AupIdeal (hAupIdeal := hAupIdeal)
    ∧ quiescent_AupRefIdeal (hAupRefIdeal := hAupRefIdeal)
    ∧ quiescent_Adown (hAdown := hAdown)
    ∧ quiescent_AdownIdeal (hAdownIdeal := hAdownIdeal)
    ∧ quiescent_AdownRefIdeal (hAdownRefIdeal := hAdownRefIdeal)
    ∧ quiescent_App (hApp := hApp)
    ∧ quiescent_AppIdeal (hAppIdeal := hAppIdeal)
    ∧ quiescent_AppRefIdeal (hAppRefIdeal := hAppRefIdeal)
    ∧ quiescent_Aconv (hAconv := hAconv)
    ∧ quiescent_AconvIdeal (hAconvIdeal := hAconvIdeal)
    ∧ quiescent_AconvRefIdeal (hAconvRefIdeal := hAconvRefIdeal)
    ∧ quiescent_Agmix (hAgmix := hAgmix)
    ∧ quiescent_AgmixIdeal (hAgmixIdeal := hAgmixIdeal)
    ∧ quiescent_AgmixRefIdeal (hAgmixRefIdeal := hAgmixRefIdeal)
    ∧ quiescent_Asmall (hAsmall := hAsmall)
    ∧ quiescent_AsmallIdeal (hAsmallIdeal := hAsmallIdeal)
    ∧ quiescent_AsmallRefIdeal (hAsmallRefIdeal := hAsmallRefIdeal)
    ∧ quiescent_Fh (hFh := hFh)
    ∧ quiescent_FhIdeal (hFhIdeal := hFhIdeal)
    ∧ quiescent_FhRefIdeal (hFhRefIdeal := hFhRefIdeal)
    ∧ quiescent_Rf (hRf := hRf)
    ∧ quiescent_RfIdeal (hRfIdeal := hRfIdeal)
    ∧ quiescent_RfIdeal_pre_rnn_decays (hRfIdeal := hRfIdeal) (hPre_rnn_decays := hPre_rnn_decays)
    ∧ quiescent_RfRefIdeal (hRfRefIdeal := hRfRefIdeal)
    ∧ quiescent_RfRefIdeal_pre_rnn_decays (hRfRefIdeal := hRfRefIdeal) (hPre_rnn_decays := hPre_rnn_decays)
    ∧ quiescent_Rb (hRb := hRb)
    ∧ quiescent_RbIdeal (hRbIdeal := hRbIdeal)
    ∧ quiescent_RbIdeal_pre_gate_finite (hRbIdeal := hRbIdeal) (hPre_gate_finite := hPre_gate_finite)
    ∧ quiescent_RbRefIdeal (hRbRefIdeal := hRbRefIdeal)
    ∧ quiescent_RbRefIdeal_pre_gate_finite (hRbRefIdeal := hRbRefIdeal) (hPre_gate_finite := hPre_gate_finite)
    ∧ preserves_Dhp_DhpIdeal
    ∧ algebraic_DhpIdeal_DhpRefIdeal_pre_dhp_finite (hDhpIdeal := hDhpIdeal) (hDhpRefIdeal := hDhpRefIdeal) (hPre_dhp_finite := hPre_dhp_finite)
    ∧ preserves_Dact_DactIdeal
    ∧ algebraic_DactIdeal_DactRefIdeal_pre_dact_finite (hDactIdeal := hDactIdeal) (hDactRefIdeal := hDactRefIdeal) (hPre_dact_finite := hPre_dact_finite)
    ∧ preserves_Dmerged_DmergedIdeal
    ∧ algebraic_DmergedIdeal_DmergedRefIdeal (hDmergedIdeal := hDmergedIdeal) (hDmergedRefIdeal := hDmergedRefIdeal)
    ∧ preserves_Dup_DupIdeal
    ∧ algebraic_DupIdeal_DupRefIdeal (hDupIdeal := hDupIdeal) (hDupRefIdeal := hDupRefIdeal)
    ∧ preserves_Ddown_DdownIdeal
    ∧ algebraic_DdownIdeal_DdownRefIdeal (hDdownIdeal := hDdownIdeal) (hDdownRefIdeal := hDdownRefIdeal)
    ∧ preserves_Dya_DyaIdeal
    ∧ algebraic_DyaIdeal_DyaRefIdeal (hDyaIdeal := hDyaIdeal) (hDyaRefIdeal := hDyaRefIdeal)
    ∧ preserves_Dout_DoutIdeal
    ∧ algebraic_DoutIdeal_DoutRefIdeal (hDoutIdeal := hDoutIdeal) (hDoutRefIdeal := hDoutRefIdeal)
    ∧ preserves_Dpp_DppIdeal
    ∧ algebraic_DppIdeal_DppRefIdeal (hDppIdeal := hDppIdeal) (hDppRefIdeal := hDppRefIdeal)
    ∧ preserves_Dhm_DhmIdeal
    ∧ algebraic_DhmIdeal_DhmRefIdeal_pre_dhm_finite (hDhmIdeal := hDhmIdeal) (hDhmRefIdeal := hDhmRefIdeal) (hPre_dhm_finite := hPre_dhm_finite)
    ∧ preserves_Do_DoIdeal
    ∧ algebraic_DoIdeal_DoRefIdeal (hDoIdeal := hDoIdeal) (hDoRefIdeal := hDoRefIdeal)
    ∧ preserves_Dinr_DinrIdeal
    ∧ algebraic_DinrIdeal_DinrRefIdeal (hDinrIdeal := hDinrIdeal) (hDinrRefIdeal := hDinrRefIdeal)
    ∧ preserves_Dina_DinaIdeal
    ∧ algebraic_DinaIdeal_DinaRefIdeal (hDinaIdeal := hDinaIdeal) (hDinaRefIdeal := hDinaRefIdeal)
    ∧ preserves_Dh_DhIdeal
    ∧ algebraic_DhIdeal_DhRefIdeal_pre_dh_finite (hDhIdeal := hDhIdeal) (hDhRefIdeal := hDhRefIdeal) (hPre_dh_finite := hPre_dh_finite)
    ∧ preserves_Fya_FyaIdeal
    ∧ algebraic_FyaIdeal_FyaRefIdeal (hFyaIdeal := hFyaIdeal) (hFyaRefIdeal := hFyaRefIdeal)
    ∧ preserves_Fyb_FybIdeal
    ∧ algebraic_FybIdeal_FybRefIdeal (hFybIdeal := hFybIdeal) (hFybRefIdeal := hFybRefIdeal)
    ∧ preserves_Fx1_Fx1Ideal
    ∧ algebraic_Fx1Ideal_Fx1RefIdeal (hFx1Ideal := hFx1Ideal) (hFx1RefIdeal := hFx1RefIdeal)
    ∧ preserves_Fact_FactIdeal
    ∧ algebraic_FactIdeal_FactRefIdeal (hFactIdeal := hFactIdeal) (hFactRefIdeal := hFactRefIdeal)
    ∧ preserves_Fx2_Fx2Ideal
    ∧ algebraic_Fx2Ideal_Fx2RefIdeal (hFx2Ideal := hFx2Ideal) (hFx2RefIdeal := hFx2RefIdeal)
    ∧ preserves_Fe_FeIdeal
    ∧ algebraic_FeIdeal_FeRefIdeal (hFeIdeal := hFeIdeal) (hFeRefIdeal := hFeRefIdeal)
    ∧ preserves_Floss_FlossIdeal
    ∧ algebraic_FlossIdeal_FlossRefIdeal (hFlossIdeal := hFlossIdeal) (hFlossRefIdeal := hFlossRefIdeal)
    ∧ preserves_Awin_AwinIdeal
    ∧ algebraic_AwinIdeal_AwinRefIdeal (hAwinIdeal := hAwinIdeal) (hAwinRefIdeal := hAwinRefIdeal)
    ∧ preserves_Aproj_AprojIdeal
    ∧ algebraic_AprojIdeal_AprojRefIdeal (hAprojIdeal := hAprojIdeal) (hAprojRefIdeal := hAprojRefIdeal)
    ∧ preserves_Aup_AupIdeal
    ∧ algebraic_AupIdeal_AupRefIdeal (hAupIdeal := hAupIdeal) (hAupRefIdeal := hAupRefIdeal)
    ∧ preserves_Adown_AdownIdeal
    ∧ algebraic_AdownIdeal_AdownRefIdeal (hAdownIdeal := hAdownIdeal) (hAdownRefIdeal := hAdownRefIdeal)
    ∧ preserves_App_AppIdeal
    ∧ algebraic_AppIdeal_AppRefIdeal (hAppIdeal := hAppIdeal) (hAppRefIdeal := hAppRefIdeal)
    ∧ preserves_Aconv_AconvIdeal
    ∧ algebraic_AconvIdeal_AconvRefIdeal (hAconvIdeal := hAconvIdeal) (hAconvRefIdeal := hAconvRefIdeal)
    ∧ preserves_Agmix_AgmixIdeal
    ∧ algebraic_AgmixIdeal_AgmixRefIdeal (hAgmixIdeal := hAgmixIdeal) (hAgmixRefIdeal := hAgmixRefIdeal)
    ∧ preserves_Asmall_AsmallIdeal
    ∧ algebraic_AsmallIdeal_AsmallRefIdeal (hAsmallIdeal := hAsmallIdeal) (hAsmallRefIdeal := hAsmallRefIdeal)
    ∧ preserves_Fh_FhIdeal
    ∧ algebraic_FhIdeal_FhRefIdeal (hFhIdeal := hFhIdeal) (hFhRefIdeal := hFhRefIdeal)
    ∧ preserves_Rf_RfIdeal
    ∧ algebraic_RfIdeal_RfRefIdeal_pre_rnn_decays (hRfIdeal := hRfIdeal) (hRfRefIdeal := hRfRefIdeal) (hPre_rnn_decays := hPre_rnn_decays)
    ∧ preserves_Rb_RbIdeal
    ∧ algebraic_RbIdeal_RbRefIdeal_pre_gate_finite (hRbIdeal := hRbIdeal) (hRbRefIdeal := hRbRefIdeal) (hPre_gate_finite := hPre_gate_finite)
-- ==== Pre_dact_finite.lean ====
abbrev S4096x1024 : Shape := ⟨2, ![4096, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4096x1024 .bf16) (main_arg1 : FVec F S1024x4096 .bf16) (main_arg2 : FVec F S4096x1024 .bf16) (main_arg3 : FVec F S4096x1024 .bf16) : IVec S_ 1 × IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .bf16 := Host.absf main_arg1
  let main_cst_0 : FVec F S_ .bf16 := constant S_ .bf16 0x7F80#16
  let main_v5 : FVec F S1024x4096 .bf16 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  (main_v3, main_v7)
-- ==== Pre_dh_finite.lean ====
abbrev S4096x1024 : Shape := ⟨2, ![4096, 1024]⟩
abbrev S4096x1536 : Shape := ⟨2, ![4096, 1536]⟩
abbrev S1024x5632 : Shape := ⟨2, ![1024, 5632]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x1536 : S_.BroadcastsInDim S4096x1536 (![] : Fin 0 → Fin S4096x1536.rank)
  reducesTo_S4096x1536_S_d0_1 : S4096x1536.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .bf16) (main_arg5 : FVec F S1024x5632 .bf16) (main_arg6 : FVec F S4096x1024 .f32) (main_arg8 : FVec F S1x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 :=
  let main_v16 : FVec F S4096x1024 .bf16 := Host.absf main_arg4
  let main_cst_6 : FVec F S_ .bf16 := constant S_ .bf16 0x7F80#16
  let main_v17 : FVec F S4096x1024 .bf16 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : FVec F S1024x5632 .bf16 := Host.absf main_arg5
  let main_cst_8 : FVec F S_ .bf16 := constant S_ .bf16 0x7F80#16
  let main_v21 : FVec F S1024x5632 .bf16 := broadcastInDim S1024x5632 ![] bcast_S_S1024x5632 main_cst_8
  let main_v22 : IVec S1024x5632 1 := cmpf .olt main_v20 main_v21
  let main_c_9 : IVec S_ 1 := constantI S_ 1 1#1
  let main_v23 : IVec S_ 1 := (fun x v => Host.reduce IntOp.andi x v reducesTo_S1024x5632_S_d0_1 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : FVec F S1x1024 .f32 := Host.absf main_arg8
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  (main_v3, main_v7, main_v11, main_v15, main_v19, main_v23, main_v27, main_v31)

def fn {F : FTy → Type} [FloatOps F] (main_arg0 : FVec F S4096x1024 .bf16) (main_arg1 : FVec F S4096x1024 .bf16) (main_arg2 : FVec F S4096x1536 .bf16) (main_arg3 : FVec F S4096x1024 .bf16) (main_arg4 : FVec F S4096x1024 .bf16) (main_arg5 : FVec F S1024x5632 .bf16) (main_arg6 : FVec F S4096x1024 .f32) (main_arg7 : FVec F S4096x1024 .f32) (main_arg8 : FVec F S1x1024 .f32) : IVec S_ 1 × IVec S_ 1 × IVec S_ 1 × IVec S_ 1 × IVec S_ 1 × IVec S_ 1 × IVec S_ 1 × IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S4096x1536 .bf16 := Host.absf main_arg2
  let main_cst_2 : FVec F S_ .bf16 := constant S_ .bf16 0x7F80#16
  let main_v9 : FVec F S4096x1536 .bf16 := broadcastInDim S4096x1536 ![] bcast_S_S4096x1536 main_cst_2
  let main_v10 : IVec S4096x1536 1 := cmpf .olt main_v8 main_v9
  let main_c_3 : IVec S_ 1 := constantI S_ 1 1#1
  let main_v11 : IVec S_ 1 := (fun x v => Host.reduce IntOp.andi x v reducesTo_S4096x1536_S_d0_1 h_S_) main_v10 main_c_3
  let main_v12 : FVec F S4096x1024 .bf16 := Host.absf main_arg3
  let main_cst_4 : FVec F S_ .bf16 := constant S_ .bf16 0x7F80#16
  let main_v13 : FVec F S4096x1024 .bf16 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_arg5 main_arg6 main_arg8 main_v3 main_v7 main_v11 main_v15
-- ==== Pre_dhm_finite.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x4096 .bf16) (main_arg1 : FVec F S1024x4096 .bf16) (main_arg2 : FVec F S4096x1024 .f32) (main_arg3 : FVec F S4096x1024 .f32) (main_arg4 : FVec F S1x1024 .f32) : IVec S_ 1 × IVec S_ 1 × IVec S_ 1 × IVec S_ 1 :=
  let main_v0 : FVec F S4096x4096 .bf16 := Host.absf main_arg0
  let main_cst : FVec F S_ .bf16 := constant S_ .bf16 0x7F80#16
  let main_v1 : FVec F S4096x4096 .bf16 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1024x4096 .bf16 := Host.absf main_arg1
  let main_cst_0 : FVec F S_ .bf16 := constant S_ .bf16 0x7F80#16
  let main_v5 : FVec F S1024x4096 .bf16 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S1x1024 .f32 := Host.absf main_arg4
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  (main_v3, main_v7, main_v11, main_v15)
-- ==== Pre_dhp_finite.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .bf16) (main_arg1 : FVec F S1024x1024 .bf16) (main_arg2 : FVec F S4096x1024 .f32) (main_arg3 : FVec F S4096x1024 .f32) (main_arg4 : FVec F S1x1024 .f32) : IVec S_ 1 × IVec S_ 1 × IVec S_ 1 × IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S1x1024 .f32 := Host.absf main_arg4
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  (main_v3, main_v7, main_v11, main_v15)
-- ==== Pre_gate_finite.lean ====
abbrev S4096x1024 : Shape := ⟨2, ![4096, 1024]⟩
abbrev S4096x5632 : Shape := ⟨2, ![4096, 5632]⟩
abbrev S4x1024 : Shape := ⟨2, ![4, 1024]⟩
abbrev S4x256x256 : Shape := ⟨3, ![4, 256, 256]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x5632 .f32) (main_arg2 : FVec F S4096x1024 .f32) (main_arg3 : FVec F S4096x1024 .f32) (main_arg4 : FVec F S4x1024 .f32) (main_arg5 : FVec F S4x256x256 .bf16) (main_arg6 : FVec F S1x1024 .f32) (main_arg7 : FVec F S4x256x256 .bf16) (main_arg8 : FVec F S1x1024 .f32) (main_arg9 : FVec F S1x1024 .f32) : IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  (main_v3, main_v7)
-- ==== Pre_rnn_decays.lean ====
abbrev S4096x5632 : Shape := ⟨2, ![4096, 5632]⟩
abbrev S4x1024 : Shape := ⟨2, ![4, 1024]⟩
abbrev S1x1024 : Shape := ⟨2, ![1, 1024]⟩
abbrev S4x256x256 : Shape := ⟨3, ![4, 256, 256]⟩
abbrev S4096x1024 : Shape := ⟨2, ![4096, 1024]⟩
abbrev S2x2048x1024 : Shape := ⟨3, ![2, 2048, 1024]⟩
abbrev S1024 : Shape := ⟨1, ![1024]⟩
abbrev S_ : Shape := ⟨0, ![]⟩
abbrev S2x2051x1024 : Shape := ⟨3, ![2, 2051, 1024]⟩
abbrev S1x1x1024 : Shape := ⟨3, ![1, 1, 1024]⟩
abbrev S2x2048x4x256 : Shape := ⟨4, ![2, 2048, 4, 256]⟩
abbrev S4x256x2x2048 : Shape := ⟨4, ![4, 256, 2, 2048]⟩

class Facts : Prop where
  slices_S4096x5632_S4096x1024_0_0 : S4096x5632.Slices ![0, 0] S4096x1024
  shapeCasts_S4096x1024_S2x2048x1024 : S4096x1024.ShapeCasts S2x2048x1024
  shapeCasts_S1x1024_S1024 : S1x1024.ShapeCasts S1024
  pads_S2x2048x1024_S2x2051x1024_000_300_000 : S2x2048x1024.Pads (![0, 3, 0] : Fin 3 → Nat) ![0, 0, 0] ![0, 0, 0] S2x2051x1024
  h_S_ : 0 < S_.numel
  slices_S2x2051x1024_S2x2048x1024_0_0_0 : S2x2051x1024.Slices ![0, 0, 0] S2x2048x1024
  slices_S4x1024_S1x1024_0_0 : S4x1024.Slices ![0, 0] S1x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  slices_S2x2051x1024_S2x2048x1024_0_1_0 : S2x2051x1024.Slices ![0, 1, 0] S2x2048x1024
  slices_S4x1024_S1x1024_1_0 : S4x1024.Slices ![1, 0] S1x1024
  slices_S2x2051x1024_S2x2048x1024_0_2_0 : S2x2051x1024.Slices ![0, 2, 0] S2x2048x1024
  slices_S4x1024_S1x1024_2_0 : S4x1024.Slices ![2, 0] S1x1024
  slices_S2x2051x1024_S2x2048x1024_0_3_0 : S2x2051x1024.Slices ![0, 3, 0] S2x2048x1024
  slices_S4x1024_S1x1024_3_0 : S4x1024.Slices ![3, 0] S1x1024
  shapeCasts_S2x2048x1024_S2x2048x4x256 : S2x2048x1024.ShapeCasts S2x2048x4x256
  bitsLt_bf16_f32 : FTy.bits .bf16 < FTy.bits .f32
  transposes_S4x256x2x2048_S2x2048x4x256_2_3_0_1 : S4x256x2x2048.Transposes [2, 3, 0, 1] S2x2048x4x256
  shapeCasts_S2x2048x4x256_S2x2048x1024 : S2x2048x4x256.ShapeCasts S2x2048x1024
  bcast_S_S2x2048x1024 : S_.BroadcastsInDim S2x2048x1024 (![] : Fin 0 → Fin S2x2048x1024.rank)
  bcast_S_S1024 : S_.BroadcastsInDim S1024 (![] : Fin 0 → Fin S1024.rank)
  reducesTo_S2x2048x1024_S_d0_1_2 : S2x2048x1024.ReducesTo [0, 1, 2] S_
  dot_S4x256x256_S2x2048x4x256_S4x256x2x2048_1_3_2_01_0_2_wf : DotDims.WF S4x256x256 S2x2048x4x256 S4x256x2x2048 [1] [3] [2] [0, 1] [0] [2]

variable [Facts]

def dot_S4x256x256_S2x2048x4x256_S4x256x2x2048_1_3_2_01_0_2 : DotDims S4x256x256 S2x2048x4x256 S4x256x2x2048 where
  lhsContracting := [1]
  rhsContracting := [3]
  lhsNonContracting := [2]
  rhsNonContracting := [0, 1]
  lhsBatch := [0]
  rhsBatch := [2]
  wf := dot_S4x256x256_S2x2048x4x256_S4x256x2x2048_1_3_2_01_0_2_wf
def fn_pad {F : FTy → Type} [FloatOps F] (arg0 : FVec F S2x2048x1024 .f32) (arg1 : IVec S_ 32) : FVec F S2x2051x1024 .f32 :=
  let v0 : FVec F S_ .f32 := sitofp .f32 arg1
  let v1 : FVec F S2x2051x1024 .f32 := (fun x v => pad S2x2051x1024 ![0, 3, 0] ![0, 0, 0] ![0, 0, 0] x v pads_S2x2048x1024_S2x2051x1024_000_300_000 h_S_) arg0 v0
  v1

def fn_softplus {F : FTy → Type} [FloatOps F] (arg0 : FVec F S1024 .f32) : FVec F S1024 .f32 :=
  let cst : FVec F S_ .f32 := constant S_ .f32 0x00000000#32
  let v0 : FVec F S1024 .f32 := broadcastInDim S1024 ![] bcast_S_S1024 cst
  let v1 : FVec F S1024 .f32 := maximumf arg0 v0
  let v2 : FVec F S1024 .f32 := broadcastInDim S1024 ![] bcast_S_S1024 cst
  let v3 : FVec F S1024 .f32 := subf arg0 v2
  let v4 : IVec S1024 1 := cmpf .une v3 v3
  let v5 : FVec F S1024 .f32 := broadcastInDim S1024 ![] bcast_S_S1024 cst
  let v6 : FVec F S1024 .f32 := addf arg0 v5
  let v7 : FVec F S1024 .f32 := Host.absf v3
  let v8 : FVec F S1024 .f32 := Host.negf v7
  let v9 : FVec F S1024 .f32 := Host.exp v8
  let v10 : FVec F S1024 .f32 := Host.log1p v9
  let v11 : FVec F S1024 .f32 := addf v1 v10
  let v12 : FVec F S1024 .f32 := select v4 v6 v11
  v12

def fn_part2 {F : FTy → Type} [FloatOps F] (main_arg7 : FVec F S1x1024 .f32) (main_v44 : FVec F S2x2048x1024 .f32) (main_v45 : FVec F S2x2048x1024 .f32) : IVec S_ 1 :=
  let main_v46 : FVec F S2x2048x1024 .f32 := addf main_v45 main_v44
  let main_cst_0 : FVec F S_ .f32 := constant S_ .f32 0x3F800000#32
  let main_v47 : FVec F S2x2048x1024 .f32 := broadcastInDim S2x2048x1024 ![] bcast_S_S2x2048x1024 main_cst_0
  let main_v48 : FVec F S2x2048x1024 .f32 := Host.divf main_v47 main_v46
  let main_cst_1 : FVec F S_ .f32 := constant S_ .f32 0xC1000000#32
  let main_v49 : FVec F S2x2048x1024 .f32 := broadcastInDim S2x2048x1024 ![] bcast_S_S2x2048x1024 main_cst_1
  let main_v50 : FVec F S2x2048x1024 .f32 := mulf main_v49 main_v48
  let main_v51 : FVec F S1024 .f32 := shapeCast S1024 main_arg7 shapeCasts_S1x1024_S1024
  let main_v52 : FVec F S1024 .f32 := Host.negf main_v51
  let main_v53 : FVec F S1024 .f32 := fn_softplus (F := F) main_v52
  let main_v54 : FVec F S1x1x1024 .f32 := broadcastInDim S1x1x1024 ![2] bcast_S1024_S1x1x1024_2 main_v53
  let main_v55 : FVec F S2x2048x1024 .f32 := broadcastInDim S2x2048x1024 ![0, 1, 2] bcast_S1x1x1024_S2x2048x1024_0_1_2 main_v54
  let main_v56 : FVec F S2x2048x1024 .f32 := mulf main_v50 main_v55
  let main_cst_2 : FVec F S_ .f32 := constant S_ .f32 0x40000000#32
  let main_v57 : FVec F S2x2048x1024 .f32 := broadcastInDim S2x2048x1024 ![] bcast_S_S2x2048x1024 main_cst_2
  let main_v58 : FVec F S2x2048x1024 .f32 := mulf main_v57 main_v56
  let main_cst_3 : FVec F S_ .f32 := constant S_ .f32 0xBD800000#32
  let main_v59 : FVec F S2x2048x1024 .f32 := broadcastInDim S2x2048x1024 ![] bcast_S_S2x2048x1024 main_cst_3
  let main_v60 : IVec S2x2048x1024 1 := cmpf .ole main_v58 main_v59
  let main_c_4 : IVec S_ 1 := constantI S_ 1 1#1
  let main_v61 : IVec S_ 1 := (fun x v => Host.reduce IntOp.andi x v reducesTo_S2x2048x1024_S_d0_1_2 h_S_) main_v60 main_c_4
  main_v61

def fn_part1 {F : FTy → Type} [FloatOps F] (main_arg1 : FVec F S4x1024 .f32) (main_arg3 : FVec F S4x256x256 .bf16) (main_arg4 : FVec F S1x1024 .f32) (main_arg7 : FVec F S1x1024 .f32) (main_v3 : FVec F S2x2051x1024 .f32) (main_v19 : FVec F S2x2048x1024 .f32) (main_v20 : FVec F S2x2048x1024 .f32) (main_v22 : FVec F S1024 .f32) : IVec S_ 1 :=
  let main_v23 : FVec F S1x1x1024 .f32 := broadcastInDim S1x1x1024 ![2] bcast_S1024_S1x1x1024_2 main_v22
  let main_v24 : FVec F S2x2048x1024 .f32 := broadcastInDim S2x2048x1024 ![0, 1, 2] bcast_S1x1x1024_S2x2048x1024_0_1_2 main_v23
  let main_v25 : FVec F S2x2048x1024 .f32 := mulf main_v20 main_v24
  let main_v26 : FVec F S2x2048x1024 .f32 := addf main_v19 main_v25
  let main_v27 : FVec F S2x2048x1024 .f32 := (extractStridedSlice S2x2048x1024 ![0, 3, 0] · slices_S2x2051x1024_S2x2048x1024_0_3_0) main_v3
  let main_v28 : FVec F S1x1024 .f32 := (extractStridedSlice S1x1024 ![3, 0] · slices_S4x1024_S1x1024_3_0) main_arg1
  let main_v29 : FVec F S1024 .f32 := shapeCast S1024 main_v28 shapeCasts_S1x1024_S1024
  let main_v30 : FVec F S1x1x1024 .f32 := broadcastInDim S1x1x1024 ![2] bcast_S1024_S1x1x1024_2 main_v29
  let main_v31 : FVec F S2x2048x1024 .f32 := broadcastInDim S2x2048x1024 ![0, 1, 2] bcast_S1x1x1024_S2x2048x1024_0_1_2 main_v30
  let main_v32 : FVec F S2x2048x1024 .f32 := mulf main_v27 main_v31
  let main_v33 : FVec F S2x2048x1024 .f32 := addf main_v26 main_v32
  let main_v34 : FVec F S2x2048x4x256 .f32 := shapeCast S2x2048x4x256 main_v33 shapeCasts_S2x2048x1024_S2x2048x4x256
  let main_v35 : FVec F S4x256x256 .f32 := (extf .f32 · bitsLt_bf16_f32) main_arg3
  let main_v36 : FVec F S4x256x2x2048 .f32 := (fun l r => Host.dotGeneral dot_S4x256x256_S2x2048x4x256_S4x256x2x2048_1_3_2_01_0_2 none l r) main_v35 main_v34
  let main_v37 : FVec F S2x2048x4x256 .f32 := (transpose S2x2048x4x256 [2, 3, 0, 1] · transposes_S4x256x2x2048_S2x2048x4x256_2_3_0_1) main_v36
  let main_v38 : FVec F S2x2048x1024 .f32 := shapeCast S2x2048x1024 main_v37 shapeCasts_S2x2048x4x256_S2x2048x1024
  let main_v39 : FVec F S1024 .f32 := shapeCast S1024 main_arg4 shapeCasts_S1x1024_S1024
  let main_v40 : FVec F S1x1x1024 .f32 := broadcastInDim S1x1x1024 ![2] bcast_S1024_S1x1x1024_2 main_v39
  let main_v41 : FVec F S2x2048x1024 .f32 := broadcastInDim S2x2048x1024 ![0, 1, 2] bcast_S1x1x1024_S2x2048x1024_0_1_2 main_v40
  let main_v42 : FVec F S2x2048x1024 .f32 := addf main_v38 main_v41
  let main_v43 : FVec F S2x2048x1024 .f32 := Host.negf main_v42
  let main_v44 : FVec F S2x2048x1024 .f32 := Host.exp main_v43
  let main_cst : FVec F S_ .f32 := constant S_ .f32 0x3F800000#32
  let main_v45 : FVec F S2x2048x1024 .f32 := broadcastInDim S2x2048x1024 ![] bcast_S_S2x2048x1024 main_cst
  fn_part2 (F := F) main_arg7 main_v44 main_v45

def fn {F : FTy → Type} [FloatOps F] (main_arg0 : FVec F S4096x5632 .f32) (main_arg1 : FVec F S4x1024 .f32) (main_arg2 : FVec F S1x1024 .f32) (main_arg3 : FVec F S4x256x256 .bf16) (main_arg4 : FVec F S1x1024 .f32) (main_arg5 : FVec F S4x256x256 .bf16) (main_arg6 : FVec F S1x1024 .f32) (main_arg7 : FVec F S1x1024 .f32) : IVec S_ 1 :=
  let main_v0 : FVec F S4096x1024 .f32 := (extractStridedSlice S4096x1024 ![0, 0] · slices_S4096x5632_S4096x1024_0_0) main_arg0
  let main_v1 : FVec F S2x2048x1024 .f32 := shapeCast S2x2048x1024 main_v0 shapeCasts_S4096x1024_S2x2048x1024
  let main_v2 : FVec F S1024 .f32 := shapeCast S1024 main_arg2 shapeCasts_S1x1024_S1024
  let main_c : IVec S_ 32 := constantI S_ 32 0#32
  let main_v3 : FVec F S2x2051x1024 .f32 := fn_pad (F := F) main_v1 main_c
  let main_v4 : FVec F S2x2048x1024 .f32 := (extractStridedSlice S2x2048x1024 ![0, 0, 0] · slices_S2x2051x1024_S2x2048x1024_0_0_0) main_v3
  let main_v5 : FVec F S1x1024 .f32 := (extractStridedSlice S1x1024 ![0, 0] · slices_S4x1024_S1x1024_0_0) main_arg1
  let main_v6 : FVec F S1024 .f32 := shapeCast S1024 main_v5 shapeCasts_S1x1024_S1024
  let main_v7 : FVec F S1x1x1024 .f32 := broadcastInDim S1x1x1024 ![2] bcast_S1024_S1x1x1024_2 main_v6
  let main_v8 : FVec F S2x2048x1024 .f32 := broadcastInDim S2x2048x1024 ![0, 1, 2] bcast_S1x1x1024_S2x2048x1024_0_1_2 main_v7
  let main_v9 : FVec F S2x2048x1024 .f32 := mulf main_v4 main_v8
  let main_v10 : FVec F S1x1x1024 .f32 := broadcastInDim S1x1x1024 ![2] bcast_S1024_S1x1x1024_2 main_v2
  let main_v11 : FVec F S2x2048x1024 .f32 := broadcastInDim S2x2048x1024 ![0, 1, 2] bcast_S1x1x1024_S2x2048x1024_0_1_2 main_v10
  let main_v12 : FVec F S2x2048x1024 .f32 := addf main_v11 main_v9
  let main_v13 : FVec F S2x2048x1024 .f32 := (extractStridedSlice S2x2048x1024 ![0, 1, 0] · slices_S2x2051x1024_S2x2048x1024_0_1_0) main_v3
  let main_v14 : FVec F S1x1024 .f32 := (extractStridedSlice S1x1024 ![1, 0] · slices_S4x1024_S1x1024_1_0) main_arg1
  let main_v15 : FVec F S1024 .f32 := shapeCast S1024 main_v14 shapeCasts_S1x1024_S1024
  let main_v16 : FVec F S1x1x1024 .f32 := broadcastInDim S1x1x1024 ![2] bcast_S1024_S1x1x1024_2 main_v15
  let main_v17 : FVec F S2x2048x1024 .f32 := broadcastInDim S2x2048x1024 ![0, 1, 2] bcast_S1x1x1024_S2x2048x1024_0_1_2 main_v16
  let main_v18 : FVec F S2x2048x1024 .f32 := mulf main_v13 main_v17
  let main_v19 : FVec F S2x2048x1024 .f32 := addf main_v12 main_v18
  let main_v20 : FVec F S2x2048x1024 .f32 := (extractStridedSlice S2x2048x1024 ![0, 2, 0] · slices_S2x2051x1024_S2x2048x1024_0_2_0) main_v3
  let main_v21 : FVec F S1x1024 .f32 := (extractStridedSlice S1x1024 ![2, 0] · slices_S4x1024_S1x1024_2_0) main_arg1
  let main_v22 : FVec F S1024 .f32 := shapeCast S1024 main_v21 shapeCasts_S1x1024_S1024
  fn_part1 (F := F) main_arg1 main_arg3 main_arg4 main_arg7 main_v3 main_v19 main_v20 main_v22
-- ==== Dhp.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== DhpRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Dact.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DactRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Dmerged.lean ====
abbrev S4096x1024 : Shape := ⟨2, ![4096, 1024]⟩
abbrev S1024x1024 : Shape := ⟨2, ![1024, 1024]⟩
abbrev S4096x5632 : Shape := ⟨2, ![4096, 5632]⟩
abbrev S512x1024 : Shape := ⟨2, ![512, 1024]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x5632, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DmergedRefIdeal.lean ====
abbrev S4096x1024 : Shape := ⟨2, ![4096, 1024]⟩
abbrev S1024x1024 : Shape := ⟨2, ![1024, 1024]⟩
abbrev S4096x5632 : Shape := ⟨2, ![4096, 5632]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x5632, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x1024, .bf16⟩
  | .hbm, ⟨45, _⟩ => ⟨S4096x1024, .bf16⟩
  | .hbm, ⟨46, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Dup.lean ====
abbrev S4096x1024 : Shape := ⟨2, ![4096, 1024]⟩
abbrev S4096x4096 : Shape := ⟨2, ![4096, 4096]⟩
abbrev S8x1024x512 : Shape := ⟨3, ![8, 1024, 512]⟩
abbrev S1024x1024 : Shape := ⟨2, ![1024, 1024]⟩
abbrev S2x1024x512 : Shape := ⟨3, ![2, 1024, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x512, .f32⟩
  | .local _ .vmem, ⟨5, _⟩ => ⟨S2x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DupRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S1024x8x512, .f32⟩
  | .hbm, ⟨9, _⟩ => ⟨S8x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ddown.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DdownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dya.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DyaRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dout.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DoutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dpp.lean ====
abbrev S4096x256 : Shape := ⟨2, ![4096, 256]⟩
abbrev S4096x1024 : Shape := ⟨2, ![4096, 1024]⟩
abbrev S8x256x128 : Shape := ⟨3, ![8, 256, 128]⟩
abbrev S1024x256 : Shape := ⟨2, ![1024, 256]⟩
abbrev S1024x1024 : Shape := ⟨2, ![1024, 1024]⟩
abbrev S1x256x128 : Shape := ⟨3, ![1, 256, 128]⟩
abbrev S256x128 : Shape := ⟨2, ![256, 128]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S8x256x128, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S8x256x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DppRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x8x128, .f32⟩
  | .hbm, ⟨9, _⟩ => ⟨S8x256x128, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dhm.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== DhmRefIdeal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Do.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DoRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dinr.lean ====
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x1024, .f32⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DinrRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Dina.lean ====
abbrev S4096x1024 : Shape := ⟨2, ![4096, 1024]⟩
abbrev S4096x1536 : Shape := ⟨2, ![4096, 1536]⟩
abbrev S1024x1536 : Shape := ⟨2, ![1024, 1536]⟩
abbrev S1024x1024 : Shape := ⟨2, ![1024, 1024]⟩
abbrev S512x1024 : Shape := ⟨2, ![512, 1024]⟩
abbrev S512x1536 : Shape := ⟨2, ![512, 1536]⟩
abbrev S1024x512 : Shape := ⟨2, ![1024, 512]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x1024, .bf16⟩
  | .hbm, ⟨3, _⟩ => ⟨S4096x1024, .bf16⟩
  | .hbm, ⟨4, _⟩ => ⟨S1024x1536, .f32⟩
  | .hbm, ⟨5, _⟩ => ⟨S1024x1024, .f32⟩
  | .hbm, ⟨6, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1536, .f32⟩
  | .local _ .vmem, ⟨9, _⟩ => ⟨S1024x1024, .f32⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DinaRefIdeal.lean ====
abbrev S4096x1024 : Shape := ⟨2, ![4096, 1024]⟩
abbrev S4096x1536 : Shape := ⟨2, ![4096, 1536]⟩
abbrev S_ : Shape := ⟨0, ![]⟩
abbrev S1024x1024 : Shape := ⟨2, ![1024, 1024]⟩
abbrev S1024x1536 : Shape := ⟨2, ![1024, 1536]⟩
abbrev S1536x1024 : Shape := ⟨2, ![1536, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x1024, .bf16⟩
  | .hbm, ⟨3, _⟩ => ⟨S4096x1024, .bf16⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x1536, .f32⟩
  | .hbm, ⟨8, _⟩ => ⟨S4096x1536, .f32⟩
  | .hbm, ⟨9, _⟩ => ⟨S4096x1024, .f32⟩
  | .hbm, ⟨10, _⟩ => ⟨S4096x1024, .f32⟩
  | .hbm, ⟨11, _⟩ => ⟨S4096x1536, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1536x1024, .f32⟩
  | .hbm, ⟨19, _⟩ => ⟨S1024x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Dh.lean ====
abbrev S4096x1024 : Shape := ⟨2, ![4096, 1024]⟩
abbrev S4096x1536 : Shape := ⟨2, ![4096, 1536]⟩
abbrev S1024x5632 : Shape := ⟨2, ![1024, 5632]⟩
abbrev S1x1024 : Shape := ⟨2, ![1, 1024]⟩
abbrev S1024x1536 : Shape := ⟨2, ![1024, 1536]⟩
abbrev S1024x2048 : Shape := ⟨2, ![1024, 2048]⟩
abbrev S256x1024 : Shape := ⟨2, ![256, 1024]⟩
abbrev S256x1536 : Shape := ⟨2, ![256, 1536]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1536, .bf16⟩
  | .hbm, ⟨3, _⟩ => ⟨S4096x1024, .bf16⟩
  | .hbm, ⟨4, _⟩ => ⟨S4096x1024, .bf16⟩
  | .hbm, ⟨5, _⟩ => ⟨S1024x5632, .bf16⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1024x1536, .bf16⟩
  | .hbm, ⟨10, _⟩ => ⟨S1024x2048, .bf16⟩
  | .hbm, ⟨11, _⟩ => ⟨S4096x1024, .f32⟩
  | .hbm, ⟨12, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1536, .bf16⟩
  | .local _ .vmem, ⟨5, _⟩ => ⟨S256x1536, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1536, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true]
-- ==== DhRefIdeal.lean ====
abbrev S4096x1024 : Shape := ⟨2, ![4096, 1024]⟩
abbrev S4096x1536 : Shape := ⟨2, ![4096, 1536]⟩
abbrev S1024x5632 : Shape := ⟨2, ![1024, 5632]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S1024x1536 : Shape := ⟨2, ![1024, 1536]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1536, .bf16⟩
  | .hbm, ⟨3, _⟩ => ⟨S4096x1024, .bf16⟩
  | .hbm, ⟨4, _⟩ => ⟨S4096x1024, .bf16⟩
  | .hbm, ⟨5, _⟩ => ⟨S1024x5632, .bf16⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x1024, .bf16⟩
  | .hbm, ⟨29, _⟩ => ⟨S4096x1024, .f32⟩
  | .hbm, ⟨30, _⟩ => ⟨S1024x1024, .bf16⟩
  | .hbm, ⟨31, _⟩ => ⟨S4096x1024, .f32⟩
  | .hbm, ⟨32, _⟩ => ⟨S1024x1536, .bf16⟩
  | .hbm, ⟨33, _⟩ => ⟨S4096x1536, .f32⟩
  | .hbm, ⟨34, _⟩ => ⟨S1024x1024, .bf16⟩
  | .hbm, ⟨35, _⟩ => ⟨S4096x1024, .f32⟩
  | .hbm, ⟨36, _⟩ => ⟨S1024x1024, .bf16⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1536, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Fya.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FyaRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Fyb.lean ====
abbrev S4096x1024 : Shape := ⟨2, ![4096, 1024]⟩
abbrev S1024x1024 : Shape := ⟨2, ![1024, 1024]⟩
abbrev S4096x5632 : Shape := ⟨2, ![4096, 5632]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x5632, .f32⟩
  | .hbm, ⟨3, _⟩ => ⟨S4096x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FybRefIdeal.lean ====
abbrev S4096x1024 : Shape := ⟨2, ![4096, 1024]⟩
abbrev S1024x1024 : Shape := ⟨2, ![1024, 1024]⟩
abbrev S4096x5632 : Shape := ⟨2, ![4096, 5632]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x5632, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Fx1.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Fx1RefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Fact.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FactRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Fx2.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Fx2RefIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Fe.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FeRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Floss.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== FlossRefIdeal.lean ====
abbrev S4096x1024 : Shape := ⟨2, ![4096, 1024]⟩
abbrev S1024x1024 : Shape := ⟨2, ![1024, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .bf16⟩
  | .hbm, ⟨62, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_cst_8 : Ref sig .tc := ⟨.hbm, 35, rfl⟩
abbrev main_v21 : Ref sig .tc := ⟨.hbm, 36, rfl⟩
abbrev main_v22 : Ref sig .tc := ⟨.hbm, 37, rfl⟩
abbrev main_cst_9 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Awin.lean ====
abbrev S4x1024x704 : Shape := ⟨3, ![4, 1024, 704]⟩
abbrev S1024x704 : Shape := ⟨2, ![1024, 704]⟩
abbrev S4x512x704 : Shape := ⟨3, ![4, 512, 704]⟩
abbrev S512x704 : Shape := ⟨2, ![512, 704]⟩
abbrev S1x512x704 : Shape := ⟨3, ![1, 512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S4x512x704, .bf16⟩
  | .local _ .vmem, ⟨1, _⟩ => ⟨S4x512x704, .bf16⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S4x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AwinIdeal.lean ====
abbrev S4x1024x704 : Shape := ⟨3, ![4, 1024, 704]⟩
abbrev S1024x704 : Shape := ⟨2, ![1024, 704]⟩
abbrev S4x512x704 : Shape := ⟨3, ![4, 512, 704]⟩
abbrev S512x704 : Shape := ⟨2, ![512, 704]⟩
abbrev S1x512x704 : Shape := ⟨3, ![1, 512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S4x512x704, .bf16⟩
  | .local _ .vmem, ⟨1, _⟩ => ⟨S4x512x704, .bf16⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S4x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AwinRefIdeal.lean ====
abbrev S4x1024x704 : Shape := ⟨3, ![4, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S4x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S4x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Aproj.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AprojIdeal.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AprojRefIdeal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Aup.lean ====
abbrev S4x1024x512 : Shape := ⟨3, ![4, 1024, 512]⟩
abbrev S1024x512 : Shape := ⟨2, ![1024, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S4x512x512, .bf16⟩
  | .local _ .vmem, ⟨1, _⟩ => ⟨S4x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AupIdeal.lean ====
abbrev S4x1024x512 : Shape := ⟨3, ![4, 1024, 512]⟩
abbrev S1024x512 : Shape := ⟨2, ![1024, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S4x512x512, .bf16⟩
  | .local _ .vmem, ⟨1, _⟩ => ⟨S4x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AupRefIdeal.lean ====
abbrev S4x1024x512 : Shape := ⟨3, ![4, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S4x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Adown.lean ====
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S4x512x1024, .bf16⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdownIdeal.lean ====
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S4x512x1024, .bf16⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdownRefIdeal.lean ====
abbrev S4x512x1024 : Shape := ⟨3, ![4, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== App.lean ====
abbrev S4x256x128 : Shape := ⟨3, ![4, 256, 128]⟩
abbrev S256x128 : Shape := ⟨2, ![256, 128]⟩
abbrev S1x256x128 : Shape := ⟨3, ![1, 256, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S4x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S4x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AppIdeal.lean ====
abbrev S4x256x128 : Shape := ⟨3, ![4, 256, 128]⟩
abbrev S256x128 : Shape := ⟨2, ![256, 128]⟩
abbrev S1x256x128 : Shape := ⟨3, ![1, 256, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S4x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S4x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AppRefIdeal.lean ====
abbrev S4x256x128 : Shape := ⟨3, ![4, 256, 128]⟩
abbrev S256x128 : Shape := ⟨2, ![256, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S4x256x128, .f32⟩
  | .hbm, ⟨5, _⟩ => ⟨S_, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S4x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Aconv.lean ====
abbrev S4x4x128 : Shape := ⟨3, ![4, 4, 128]⟩
abbrev S4x128 : Shape := ⟨2, ![4, 128]⟩
abbrev S1x4x128 : Shape := ⟨3, ![1, 4, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x4x128, .bf16⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .local _ .vmem, ⟨0, _⟩ => ⟨S4x4x128, .bf16⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S4x4x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AconvIdeal.lean ====
abbrev S4x4x128 : Shape := ⟨3, ![4, 4, 128]⟩
abbrev S4x128 : Shape := ⟨2, ![4, 128]⟩
abbrev S1x4x128 : Shape := ⟨3, ![1, 4, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x4x128, .bf16⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .local _ .vmem, ⟨0, _⟩ => ⟨S4x4x128, .bf16⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S4x4x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AconvRefIdeal.lean ====
abbrev S4x4x128 : Shape := ⟨3, ![4, 4, 128]⟩
abbrev S4x128 : Shape := ⟨2, ![4, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128, .bf16⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x4x128, .f32⟩
  | .hbm, ⟨5, _⟩ => ⟨S_, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S_, .f32⟩
  | .hbm, ⟨11, _⟩ => ⟨S4x128, .f32⟩
  | .hbm, ⟨12, _⟩ => ⟨S4x128, .f32⟩
  | .hbm, ⟨13, _⟩ => ⟨S4x128, .f32⟩
  | .hbm, ⟨14, _⟩ => ⟨S_, .f32⟩
  | .hbm, ⟨15, _⟩ => ⟨S4x128, .f32⟩
  | .hbm, ⟨16, _⟩ => ⟨S4x128, .f32⟩
  | .hbm, ⟨17, _⟩ => ⟨S4x128, .f32⟩
  | .hbm, ⟨18, _⟩ => ⟨S_, .f32⟩
  | .hbm, ⟨19, _⟩ => ⟨S4x128, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S_, .f32⟩
  | .hbm, ⟨26, _⟩ => ⟨S4x128, .f32⟩
  | .hbm, ⟨27, _⟩ => ⟨S4x128, .f32⟩
  | .hbm, ⟨28, _⟩ => ⟨S4x128, .f32⟩
  | .hbm, ⟨29, _⟩ => ⟨S_, .f32⟩
  | .hbm, ⟨30, _⟩ => ⟨S4x128, .f32⟩
  | .hbm, ⟨31, _⟩ => ⟨S4x128, .f32⟩
  | .hbm, ⟨32, _⟩ => ⟨S4x128, .f32⟩
  | .hbm, ⟨33, _⟩ => ⟨S_, .f32⟩
  | .hbm, ⟨34, _⟩ => ⟨S4x128, .f32⟩
  | .hbm, ⟨35, _⟩ => ⟨S4x128, .f32⟩
  | .hbm, ⟨36, _⟩ => ⟨S4x128, .f32⟩
  | .hbm, ⟨37, _⟩ => ⟨S_, .f32⟩
  | .hbm, ⟨38, _⟩ => ⟨S4x128, .f32⟩
  | .hbm, ⟨39, _⟩ => ⟨S4x128, .f32⟩
  | _, _ => ⟨S4x4x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Agmix.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AgmixIdeal.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AgmixRefIdeal.lean ====
abbrev S8x1x1024 : Shape := ⟨3, ![8, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Asmall.lean ====
abbrev S4x144x1024 : Shape := ⟨3, ![4, 144, 1024]⟩
abbrev S144x1024 : Shape := ⟨2, ![144, 1024]⟩
abbrev S1x144x1024 : Shape := ⟨3, ![1, 144, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .hbm, ⟨7, _⟩ => ⟨S144x1024, .f32⟩
  | .local _ .vmem, ⟨0, _⟩ => ⟨S4x144x1024, .f32⟩
  | .local _ .vmem, ⟨1, _⟩ => ⟨S144x1024, .f32⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | _, _ => ⟨S4x144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S144x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AsmallRefIdeal.lean ====
abbrev S4x144x1024 : Shape := ⟨3, ![4, 144, 1024]⟩
abbrev S144x1024 : Shape := ⟨2, ![144, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S144x1024, .f32⟩
  | .hbm, ⟨6, _⟩ => ⟨S_, .f32⟩
  | .hbm, ⟨7, _⟩ => ⟨S144x1024, .f32⟩
  | .hbm, ⟨8, _⟩ => ⟨S144x1024, .f32⟩
  | .hbm, ⟨9, _⟩ => ⟨S_, .f32⟩
  | .hbm, ⟨10, _⟩ => ⟨S144x1024, .f32⟩
  | .hbm, ⟨11, _⟩ => ⟨S144x1024, .f32⟩
  | .hbm, ⟨12, _⟩ => ⟨S144x1024, .f32⟩
  | .hbm, ⟨13, _⟩ => ⟨S_, .f32⟩
  | .hbm, ⟨14, _⟩ => ⟨S144x1024, .f32⟩
  | .hbm, ⟨15, _⟩ => ⟨S144x1024, .f32⟩
  | .hbm, ⟨16, _⟩ => ⟨S144x1024, .f32⟩
  | .hbm, ⟨17, _⟩ => ⟨S_, .f32⟩
  | .hbm, ⟨18, _⟩ => ⟨S144x1024, .f32⟩
  | .hbm, ⟨19, _⟩ => ⟨S144x1024, .f32⟩
  | .hbm, ⟨20, _⟩ => ⟨S144x1024, .f32⟩
  | .hbm, ⟨21, _⟩ => ⟨S_, .f32⟩
  | .hbm, ⟨22, _⟩ => ⟨S144x1024, .f32⟩
  | .hbm, ⟨23, _⟩ => ⟨S144x1024, .f32⟩
  | .hbm, ⟨24, _⟩ => ⟨S_, .f32⟩
  | .hbm, ⟨25, _⟩ => ⟨S144x1024, .f32⟩
  | .hbm, ⟨26, _⟩ => ⟨S144x1024, .f32⟩
  | .hbm, ⟨27, _⟩ => ⟨S144x1024, .f32⟩
  | .hbm, ⟨28, _⟩ => ⟨S_, .f32⟩
  | .hbm, ⟨29, _⟩ => ⟨S144x1024, .f32⟩
  | .hbm, ⟨30, _⟩ => ⟨S144x1024, .f32⟩
  | .hbm, ⟨31, _⟩ => ⟨S144x1024, .f32⟩
  | .hbm, ⟨32, _⟩ => ⟨S_, .f32⟩
  | .hbm, ⟨33, _⟩ => ⟨S144x1024, .f32⟩
  | .hbm, ⟨34, _⟩ => ⟨S144x1024, .f32⟩
  | .hbm, ⟨35, _⟩ => ⟨S144x1024, .f32⟩
  | .hbm, ⟨36, _⟩ => ⟨S_, .f32⟩
  | .hbm, ⟨37, _⟩ => ⟨S144x1024, .f32⟩
  | .hbm, ⟨38, _⟩ => ⟨S144x1024, .f32⟩
  | _, _ => ⟨S4x144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Fh.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x5632, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FhRefIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Rf.lean ====
abbrev S4096x5632 : Shape := ⟨2, ![4096, 5632]⟩
abbrev S4x1024 : Shape := ⟨2, ![4, 1024]⟩
abbrev S1x1024 : Shape := ⟨2, ![1, 1024]⟩
abbrev S4x256x256 : Shape := ⟨3, ![4, 256, 256]⟩
abbrev S4096x1024 : Shape := ⟨2, ![4096, 1024]⟩
abbrev S2048x256 : Shape := ⟨2, ![2048, 256]⟩
abbrev S4x256 : Shape := ⟨2, ![4, 256]⟩
abbrev S1x256 : Shape := ⟨2, ![1, 256]⟩
abbrev S1x256x256 : Shape := ⟨3, ![1, 256, 256]⟩
abbrev S256x256 : Shape := ⟨2, ![256, 256]⟩
abbrev S256x8x256 : Shape := ⟨3, ![256, 8, 256]⟩
abbrev S8x256 : Shape := ⟨2, ![8, 256]⟩

abbrev nBuf : Space → Nat
  | .hbm => 11
  | .vmem => 26
  | .smem => 0
  | _ => 0

abbrev bufTy : (tb : Table) → Fin (tcTables nBuf tb) → BufTy
  | .hbm, ⟨0, _⟩ => ⟨S4096x5632, .f32⟩
  | .hbm, ⟨1, _⟩ => ⟨S4x1024, .f32⟩
  | .hbm, ⟨2, _⟩ => ⟨S1x1024, .f32⟩
  | .hbm, ⟨3, _⟩ => ⟨S4x256x256, .bf16⟩
  | .hbm, ⟨4, _⟩ => ⟨S1x1024, .f32⟩
  | .hbm, ⟨5, _⟩ => ⟨S4x256x256, .bf16⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S1x256x256, .bf16⟩
  | .local _ .vmem, ⟨9, _⟩ => ⟨S1x256x256, .bf16⟩
  | .local _ .vmem, ⟨10, _⟩ => ⟨S1x256, .f32⟩
  | .local _ .vmem, ⟨11, _⟩ => ⟨S1x256, .f32⟩
  | .local _ .vmem, ⟨12, _⟩ => ⟨S1x256x256, .bf16⟩
  | .local _ .vmem, ⟨13, _⟩ => ⟨S1x256x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .bf16⟩
  | .local _ .vmem, ⟨23, _⟩ => ⟨S2048x256, .bf16⟩
  | .local _ .vmem, ⟨24, _⟩ => ⟨S2048x256, .f32⟩
  | .local _ .vmem, ⟨25, _⟩ => ⟨S2048x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c256_i32 : BitVec 32 := 256#32
  let v157 : BitVec 32 := Scalar.addi c0_i32 c256_i32
  let c1_i32_65 : BitVec 32 := 1#32
  ⟨c0_i32, v157, c1_i32_65⟩
def k0_mult1 (k0_t1 : Fin k0_t1_loop.trips) : BitVec 32 :=
  let c0_i32 : BitVec 32 := 0#32
  let c1_i32_65 : BitVec 32 := 1#32
  let arg16 : BitVec 32 := Scf.iv c0_i32 c1_i32_65 k0_t1
  let c8_i32 : BitVec 32 := 8#32
  let v179 : BitVec 32 := Scalar.muli arg16 c8_i32
  v179
def k0_off1 (k0_t1 : Fin k0_t1_loop.trips) : Fin 2 → Nat :=
  let c0_i32 : BitVec 32 := 0#32
  let c1_i32_65 : BitVec 32 := 1#32
  let arg16 : BitVec 32 := Scf.iv c0_i32 c1_i32_65 k0_t1
  let c8_i32 : BitVec 32 := 8#32
  let v179 : BitVec 32 := Scalar.muli arg16 c8_i32
  let v180 : BitVec 32 := v179
  let v181 : Index := Scalar.indexCast v180
  let c0_79 : Index := 0#32
  ![v181.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RfRefIdeal.lean ====
abbrev S4096x5632 : Shape := ⟨2, ![4096, 5632]⟩
abbrev S4x1024 : Shape := ⟨2, ![4, 1024]⟩
abbrev S1x1024 : Shape := ⟨2, ![1, 1024]⟩
abbrev S4x256x256 : Shape := ⟨3, ![4, 256, 256]⟩
abbrev S4096x1024 : Shape := ⟨2, ![4096, 1024]⟩
abbrev S2x2048x1024 : Shape := ⟨3, ![2, 2048, 1024]⟩
abbrev S1024 : Shape := ⟨1, ![1024]⟩
abbrev S_ : Shape := ⟨0, ![]⟩
abbrev S2x2051x1024 : Shape := ⟨3, ![2, 2051, 1024]⟩
abbrev S1x1x1024 : Shape := ⟨3, ![1, 1, 1024]⟩
abbrev S2x2048x4x256 : Shape := ⟨4, ![2, 2048, 4, 256]⟩
abbrev S4x256x2x2048 : Shape := ⟨4, ![4, 256, 2, 2048]⟩
abbrev S2x1024 : Shape := ⟨2, ![2, 1024]⟩
abbrev S2048x2x1024 : Shape := ⟨3, ![2048, 2, 1024]⟩
abbrev S1x2x1024 : Shape := ⟨3, ![1, 2, 1024]⟩

abbrev nBuf : Space → Nat
  | .hbm => 199
  | .vmem => 0
  | .smem => 0
  | _ => 0

abbrev hbmTy0_0 (i : Nat) : BufTy := match i % 128 with
  | 0 => ⟨S4096x5632, .f32⟩
  | 1 => ⟨S4x1024, .f32⟩
  | 2 => ⟨S1x1024, .f32⟩
  | 3 => ⟨S4x256x256, .bf16⟩
  | 4 => ⟨S1x1024, .f32⟩
  | 5 => ⟨S4x256x256, .bf16⟩
  | 6 => ⟨S1x1024, .f32⟩
  | 7 => ⟨S1x1024, .f32⟩
  | 8 => ⟨S4096x1024, .f32⟩
  | 9 => ⟨S2x2048x1024, .f32⟩
  | 10 => ⟨S1024, .f32⟩
  | 11 => ⟨S_, .i32⟩
  | 12 => ⟨S_, .f32⟩
  | 13 => ⟨S2x2051x1024, .f32⟩
  | 14 => ⟨S2x2048x1024, .f32⟩
  | 15 => ⟨S1x1024, .f32⟩
  | 16 => ⟨S1024, .f32⟩
  | 17 => ⟨S1x1x1024, .f32⟩
  | 18 => ⟨S2x2048x1024, .f32⟩
  | 19 => ⟨S2x2048x1024, .f32⟩
  | 20 => ⟨S1x1x1024, .f32⟩
  | 21 => ⟨S2x2048x1024, .f32⟩
  | 22 => ⟨S2x2048x1024, .f32⟩
  | 23 => ⟨S2x2048x1024, .f32⟩
  | 24 => ⟨S1x1024, .f32⟩
  | 25 => ⟨S1024, .f32⟩
  | 26 => ⟨S1x1x1024, .f32⟩
  | 27 => ⟨S2x2048x1024, .f32⟩
  | 28 => ⟨S2x2048x1024, .f32⟩
  | 29 => ⟨S2x2048x1024, .f32⟩
  | 30 => ⟨S2x2048x1024, .f32⟩
  | 31 => ⟨S1x1024, .f32⟩
  | 32 => ⟨S1024, .f32⟩
  | 33 => ⟨S1x1x1024, .f32⟩
  | 34 => ⟨S2x2048x1024, .f32⟩
  | 35 => ⟨S2x2048x1024, .f32⟩
  | 36 => ⟨S2x2048x1024, .f32⟩
  | 37 => ⟨S2x2048x1024, .f32⟩
  | 38 => ⟨S1x1024, .f32⟩
  | 39 => ⟨S1024, .f32⟩
  | 40 => ⟨S1x1x1024, .f32⟩
  | 41 => ⟨S2x2048x1024, .f32⟩
  | 42 => ⟨S2x2048x1024, .f32⟩
  | 43 => ⟨S2x2048x1024, .f32⟩
  | 44 => ⟨S2x2048x4x256, .f32⟩
  | 45 => ⟨S4x256x256, .f32⟩
  | 46 => ⟨S4x256x2x2048, .f32⟩
  | 47 => ⟨S2x2048x4x256, .f32⟩
  | 48 => ⟨S2x2048x1024, .f32⟩
  | 49 => ⟨S1024, .f32⟩
  | 50 => ⟨S1x1x1024, .f32⟩
  | 51 => ⟨S2x2048x1024, .f32⟩
  | 52 => ⟨S2x2048x1024, .f32⟩
  | 53 => ⟨S2x2048x1024, .f32⟩
  | 54 => ⟨S2x2048x1024, .f32⟩
  | 55 => ⟨S_, .f32⟩
  | 56 => ⟨S2x2048x1024, .f32⟩
  | 57 => ⟨S2x2048x1024, .f32⟩
  | 58 => ⟨S_, .f32⟩
  | 59 => ⟨S2x2048x1024, .f32⟩
  | 60 => ⟨S2x2048x1024, .f32⟩
  | 61 => ⟨S4x256x256, .f32⟩
  | 62 => ⟨S4x256x2x2048, .f32⟩
  | 63 => ⟨S2x2048x4x256, .f32⟩
  | 64 => ⟨S2x2048x1024, .f32⟩
  | 65 => ⟨S1024, .f32⟩
  | 66 => ⟨S1x1x1024, .f32⟩
  | 67 => ⟨S2x2048x1024, .f32⟩
  | 68 => ⟨S2x2048x1024, .f32⟩
  | 69 => ⟨S2x2048x1024, .f32⟩
  | 70 => ⟨S2x2048x1024, .f32⟩
  | 71 => ⟨S_, .f32⟩
  | 72 => ⟨S2x2048x1024, .f32⟩
  | 73 => ⟨S2x2048x1024, .f32⟩
  | 74 => ⟨S_, .f32⟩
  | 75 => ⟨S2x2048x1024, .f32⟩
  | 76 => ⟨S2x2048x1024, .f32⟩
  | 77 => ⟨S_, .f32⟩
  | 78 => ⟨S2x2048x1024, .f32⟩
  | 79 => ⟨S2x2048x1024, .f32⟩
  | 80 => ⟨S1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S1024, .f32⟩
  | 87 => ⟨S1024, .i1⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1x1x1024, .f32⟩
  | 97 => ⟨S2x2048x1024, .f32⟩
  | 98 => ⟨S2x2048x1024, .f32⟩
  | 99 => ⟨S2x2048x1024, .f32⟩
  | 100 => ⟨S_, .f32⟩
  | 101 => ⟨S2x2048x1024, .f32⟩
  | 102 => ⟨S2x2048x1024, .f32⟩
  | 103 => ⟨S2x2048x1024, .f32⟩
  | 104 => ⟨S2x2048x1024, .f32⟩
  | 105 => ⟨S2x2048x1024, .f32⟩
  | 106 => ⟨S2x2048x1024, .f32⟩
  | 107 => ⟨S2x2048x1024, .f32⟩
  | 108 => ⟨S_, .f32⟩
  | 109 => ⟨S2x1024, .f32⟩
  | 110 => ⟨S2048x2x1024, .f32⟩
  | 111 => ⟨S2048x2x1024, .f32⟩
  | 112 => ⟨S_, .f32⟩
  | 113 => ⟨S2048x2x1024, .f32⟩
  | 114 => ⟨S_, .i32⟩
  | 115 => ⟨S2048x2x1024, .f32⟩
  | 116 => ⟨S2048x2x1024, .f32⟩
  | 117 => ⟨S_, .i32⟩
  | 118 => ⟨S2x1024, .f32⟩
  | 119 => ⟨S2048x2x1024, .f32⟩
  | 120 => ⟨S_, .i32⟩
  | 121 => ⟨S_, .i1⟩
  | 122 => ⟨S_, .i32⟩
  | 123 => ⟨S_, .i32⟩
  | 124 => ⟨S1x2x1024, .f32⟩
  | 125 => ⟨S2x1024, .f32⟩
  | 126 => ⟨S_, .i32⟩
  | 127 => ⟨S_, .i32⟩
  | _ => ⟨S4096x5632, .f32⟩

abbrev hbmTy0_1 (i : Nat) : BufTy := match i % 128 with
  | 0 => ⟨S1x2x1024, .f32⟩
  | 1 => ⟨S2x1024, .f32⟩
  | 2 => ⟨S2x1024, .f32⟩
  | 3 => ⟨S2x1024, .f32⟩
  | 4 => ⟨S1x2x1024, .f32⟩
  | 5 => ⟨S_, .i32⟩
  | 6 => ⟨S_, .i32⟩
  | 7 => ⟨S2048x2x1024, .f32⟩
  | 8 => ⟨S_, .i32⟩
  | 9 => ⟨S_, .i32⟩
  | 10 => ⟨S2x2048x1024, .f32⟩
  | 11 => ⟨S4096x1024, .f32⟩
  | 12 => ⟨S2x2048x1024, .f32⟩
  | 13 => ⟨S2x2048x1024, .f32⟩
  | 14 => ⟨S2x2048x1024, .f32⟩
  | 15 => ⟨S_, .f32⟩
  | 16 => ⟨S2x2048x1024, .f32⟩
  | 17 => ⟨S2x2048x1024, .f32⟩
  | 18 => ⟨S2x2048x1024, .f32⟩
  | 19 => ⟨S_, .f32⟩
  | 20 => ⟨S2x2048x1024, .f32⟩
  | 21 => ⟨S2x2048x1024, .f32⟩
  | 22 => ⟨S2x2048x1024, .f32⟩
  | 23 => ⟨S_, .f32⟩
  | 24 => ⟨S2x2048x1024, .f32⟩
  | 25 => ⟨S2x2048x1024, .f32⟩
  | 26 => ⟨S_, .f32⟩
  | 27 => ⟨S2x2048x1024, .f32⟩
  | 28 => ⟨S2x2048x1024, .f32⟩
  | 29 => ⟨S2x2048x1024, .f32⟩
  | 30 => ⟨S2x2048x1024, .f32⟩
  | 31 => ⟨S4096x1024, .f32⟩
  | 32 => ⟨S2x2048x1024, .f32⟩
  | 33 => ⟨S1024, .f32⟩
  | 34 => ⟨S_, .i32⟩
  | 35 => ⟨S_, .f32⟩
  | 36 => ⟨S2x2051x1024, .f32⟩
  | 37 => ⟨S2x2048x1024, .f32⟩
  | 38 => ⟨S1x1024, .f32⟩
  | 39 => ⟨S1024, .f32⟩
  | 40 => ⟨S1x1x1024, .f32⟩
  | 41 => ⟨S2x2048x1024, .f32⟩
  | 42 => ⟨S2x2048x1024, .f32⟩
  | 43 => ⟨S1x1x1024, .f32⟩
  | 44 => ⟨S2x2048x1024, .f32⟩
  | 45 => ⟨S2x2048x1024, .f32⟩
  | 46 => ⟨S2x2048x1024, .f32⟩
  | 47 => ⟨S1x1024, .f32⟩
  | 48 => ⟨S1024, .f32⟩
  | 49 => ⟨S1x1x1024, .f32⟩
  | 50 => ⟨S2x2048x1024, .f32⟩
  | 51 => ⟨S2x2048x1024, .f32⟩
  | 52 => ⟨S2x2048x1024, .f32⟩
  | 53 => ⟨S2x2048x1024, .f32⟩
  | 54 => ⟨S1x1024, .f32⟩
  | 55 => ⟨S1024, .f32⟩
  | 56 => ⟨S1x1x1024, .f32⟩
  | 57 => ⟨S2x2048x1024, .f32⟩
  | 58 => ⟨S2x2048x1024, .f32⟩
  | 59 => ⟨S2x2048x1024, .f32⟩
  | 60 => ⟨S2x2048x1024, .f32⟩
  | 61 => ⟨S1x1024, .f32⟩
  | 62 => ⟨S1024, .f32⟩
  | 63 => ⟨S1x1x1024, .f32⟩
  | 64 => ⟨S2x2048x1024, .f32⟩
  | 65 => ⟨S2x2048x1024, .f32⟩
  | 66 => ⟨S2x2048x1024, .f32⟩
  | 67 => ⟨S4096x1024, .f32⟩
  | 68 => ⟨S4096x1024, .f32⟩
  | 69 => ⟨S4096x1024, .f32⟩
  | 70 => ⟨S4096x1024, .bf16⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst : Ref sig .tc := ⟨.hbm, 55, rfl⟩
abbrev main_v45 : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_1 : Ref sig .tc := ⟨.hbm, 71, rfl⟩
abbrev main_v59 : Ref sig .tc := ⟨.hbm, 72, rfl⟩
abbrev main_v60 : Ref sig .tc := ⟨.hbm, 73, rfl⟩
abbrev main_cst_2 : Ref sig .tc := ⟨.hbm, 74, rfl⟩
abbrev main_v61 : Ref sig .tc := ⟨.hbm, 75, rfl⟩
abbrev main_v62 : Ref sig .tc := ⟨.hbm, 76, rfl⟩
abbrev main_cst_3 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_4 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_5 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_6 : Ref sig .tc := ⟨.hbm, 112, rfl⟩
abbrev main_v82 : Ref sig .tc := ⟨.hbm, 113, rfl⟩
abbrev main_c_7 : Ref sig .tc := ⟨.hbm, 114, rfl⟩
abbrev main_v83_0 : Ref sig .tc := ⟨.hbm, 115, rfl⟩
abbrev main_v83_1 : Ref sig .tc := ⟨.hbm, 116, rfl⟩
abbrev main_v83_2 : Ref sig .tc := ⟨.hbm, 117, rfl⟩
abbrev main_v83_3 : Ref sig .tc := ⟨.hbm, 118, rfl⟩
abbrev main_v83_4 : Ref sig .tc := ⟨.hbm, 119, rfl⟩
abbrev main_while0c_c_17 : Ref sig .tc := ⟨.hbm, 120, rfl⟩
abbrev main_while0c_v139 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_v0 : Ref sig .tc := ⟨.hbm, 124, rfl⟩
abbrev main_while0b_v139 : Ref sig .tc := ⟨.hbm, 125, rfl⟩
abbrev main_while0b_call3_c : Ref sig .tc := ⟨.hbm, 126, rfl⟩
abbrev main_while0b_call3_c_0 : Ref sig .tc := ⟨.hbm, 127, rfl⟩
abbrev main_while0b_call3_v0 : Ref sig .tc := ⟨.hbm, 128, rfl⟩
abbrev main_while0b_v140 : Ref sig .tc := ⟨.hbm, 129, rfl⟩
abbrev main_while0b_v141 : Ref sig .tc := ⟨.hbm, 130, rfl⟩
abbrev main_while0b_v142 : Ref sig .tc := ⟨.hbm, 131, rfl⟩
abbrev main_while0b_call4_v0 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_v143 : Ref sig .tc := ⟨.hbm, 135, rfl⟩
abbrev main_while0b_c_17 : Ref sig .tc := ⟨.hbm, 136, rfl⟩
abbrev main_while0b_v144 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_8 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_9 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_10 : Ref sig .tc := ⟨.hbm, 151, rfl⟩
abbrev main_v95 : Ref sig .tc := ⟨.hbm, 152, rfl⟩
abbrev main_v96 : Ref sig .tc := ⟨.hbm, 153, rfl⟩
abbrev main_cst_11 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_c_12 : Ref sig .tc := ⟨.hbm, 162, rfl⟩
abbrev main_call5_v0 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩

abbrev nD : Nat := 1
abbrev τ : Topo := Topo.v7x

variable {F : FTy → Type} [FloatOps F]

abbrev main_while0_count : Scf.Loop 32 := ⟨0#32, 2048#32, 1#32⟩
-- ==== Rb.lean ====
abbrev S4096x1024 : Shape := ⟨2, ![4096, 1024]⟩
abbrev S4096x5632 : Shape := ⟨2, ![4096, 5632]⟩
abbrev S4x1024 : Shape := ⟨2, ![4, 1024]⟩
abbrev S4x256x256 : Shape := ⟨3, ![4, 256, 256]⟩
abbrev S1x1024 : Shape := ⟨2, ![1, 1024]⟩
abbrev S8x1024 : Shape := ⟨2, ![8, 1024]⟩
abbrev S2048x256 : Shape := ⟨2, ![2048, 256]⟩
abbrev S4x256 : Shape := ⟨2, ![4, 256]⟩
abbrev S1x256x256 : Shape := ⟨3, ![1, 256, 256]⟩
abbrev S1x256 : Shape := ⟨2, ![1, 256]⟩
abbrev S8x256 : Shape := ⟨2, ![8, 256]⟩
abbrev S256x256 : Shape := ⟨2, ![256, 256]⟩
abbrev S256x8x256 : Shape := ⟨3, ![256, 8, 256]⟩
abbrev S256 : Shape := ⟨1, ![256]⟩

abbrev nBuf : Space → Nat
  | .hbm => 15
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .f32⟩
  | .hbm, ⟨3, _⟩ => ⟨S4096x1024, .f32⟩
  | .hbm, ⟨4, _⟩ => ⟨S4x1024, .f32⟩
  | .hbm, ⟨5, _⟩ => ⟨S4x256x256, .bf16⟩
  | .hbm, ⟨6, _⟩ => ⟨S1x1024, .f32⟩
  | .hbm, ⟨7, _⟩ => ⟨S4x256x256, .bf16⟩
  | .hbm, ⟨8, _⟩ => ⟨S1x1024, .f32⟩
  | .hbm, ⟨9, _⟩ => ⟨S1x1024, .f32⟩
  | .hbm, ⟨10, _⟩ => ⟨S4096x1024, .bf16⟩
  | .hbm, ⟨11, _⟩ => ⟨S4096x1024, .bf16⟩
  | .hbm, ⟨12, _⟩ => ⟨S4x256x256, .f32⟩
  | .hbm, ⟨13, _⟩ => ⟨S4x256x256, .f32⟩
  | .hbm, ⟨14, _⟩ => ⟨S8x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S4x256, .f32⟩
  | .local _ .vmem, ⟨11, _⟩ => ⟨S4x256, .f32⟩
  | .local _ .vmem, ⟨12, _⟩ => ⟨S1x256x256, .bf16⟩
  | .local _ .vmem, ⟨13, _⟩ => ⟨S1x256x256, .bf16⟩
  | .local _ .vmem, ⟨14, _⟩ => ⟨S1x256, .f32⟩
  | .local _ .vmem, ⟨15, _⟩ => ⟨S1x256, .f32⟩
  | .local _ .vmem, ⟨16, _⟩ => ⟨S1x256x256, .bf16⟩
  | .local _ .vmem, ⟨17, _⟩ => ⟨S1x256x256, .bf16⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S8x256, .f32⟩
  | .local _ .vmem, ⟨31, _⟩ => ⟨S8x256, .f32⟩
  | .local _ .vmem, ⟨32, _⟩ => ⟨S2048x256, .f32⟩
  | .local _ .vmem, ⟨33, _⟩ => ⟨S2048x256, .f32⟩
  | .local _ .vmem, ⟨34, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c256_i32 : BitVec 32 := 256#32
  let v167 : BitVec 32 := Scalar.addi c0_i32 c256_i32
  let c1_i32 : BitVec 32 := 1#32
  ⟨c0_i32, v167, c1_i32⟩
def k0_mult1 (k0_t1 : Fin k0_t1_loop.trips) : BitVec 32 :=
  let c255_i32 : BitVec 32 := 255#32
  let c0_i32 : BitVec 32 := 0#32
  let c1_i32 : BitVec 32 := 1#32
  let arg21 : BitVec 32 := Scf.iv c0_i32 c1_i32 k0_t1
  let v325 : BitVec 32 := Scalar.subi c255_i32 arg21
  let c8_i32 : BitVec 32 := 8#32
  let v326 : BitVec 32 := Scalar.muli v325 c8_i32
  v326
def k0_off1 (k0_t1 : Fin k0_t1_loop.trips) : Fin 2 → Nat :=
  let c255_i32 : BitVec 32 := 255#32
  let c0_i32 : BitVec 32 := 0#32
  let c1_i32 : BitVec 32 := 1#32
  let arg21 : BitVec 32 := Scf.iv c0_i32 c1_i32 k0_t1
  let v325 : BitVec 32 := Scalar.subi c255_i32 arg21
  let c8_i32 : BitVec 32 := 8#32
  let v326 : BitVec 32 := Scalar.muli v325 c8_i32
  let v327 : BitVec 32 := v326
  let v328 : Index := Scalar.indexCast v327
  let c0_159 : Index := 0#32
  ![v328.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== RbIdeal.lean ====
variable {F : FTy → Type} [FloatOps F] [Named F]
def κ : String → Option EReal := fun
  | "cube" => some ((8943 / 200000 : ℝ) : EReal)
  | "cube_slope" => some ((26829 / 200000 : ℝ) : EReal)
  | _ => none
-- ==== RbRefIdeal.lean ====
abbrev S4096x1024 : Shape := ⟨2, ![4096, 1024]⟩
abbrev S4096x5632 : Shape := ⟨2, ![4096, 5632]⟩
abbrev S4x1024 : Shape := ⟨2, ![4, 1024]⟩
abbrev S4x256x256 : Shape := ⟨3, ![4, 256, 256]⟩
abbrev S1x1024 : Shape := ⟨2, ![1, 1024]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .f32⟩
  | .hbm, ⟨3, _⟩ => ⟨S4096x1024, .f32⟩
  | .hbm, ⟨4, _⟩ => ⟨S4x1024, .f32⟩
  | .hbm, ⟨5, _⟩ => ⟨S4x256x256, .bf16⟩
  | .hbm, ⟨6, _⟩ => ⟨S1x1024, .f32⟩
  | .hbm, ⟨7, _⟩ => ⟨S4x256x256, .bf16⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.Arith.lean ====
/- Facts of real arithmetic that the value proofs share: finite extended reals, the few constants the
   programs write, the sigmoid in its two forms, a root of a square. -/
module

public import Idealize.ShloMosaic.PureOps.Ideal.Laws
public import Idealize.ShloMosaic.Lib.IdealHost
public import Mathlib.Tactic.FieldSimp
public import Mathlib.Tactic.LinearCombination
public import Mathlib.Tactic.Positivity
public import Mathlib.Tactic.NormNum

@[expose] public section

noncomputable section

open Idealize.ShloMosaic

namespace Cert.Proof.Arith

/-- An extended real that is a real number. -/
def Fin' (x : EReal) : Prop := ∃ r : ℝ, x = (r : EReal)

theorem fin_coe (r : ℝ) : Fin' (r : EReal) := ⟨r, rfl⟩

/-- The test `|x| < ∞` says that `x` is a real number. -/
theorem fin_of_abs {x : EReal} (h : max x (-x) < ⊤) : Fin' x := by
  induction x with
  | bot => simp at h
  | top => simp at h
  | coe r => exact ⟨r, rfl⟩

/-- A family of finite values is a family of real numbers. -/
theorem fin_fam {ι : Type*} {f : ι → EReal} (h : ∀ i, Fin' (f i)) : ∃ g : ι → ℝ, f = fun i => ((g i : ℝ) : EReal) :=
  ⟨fun i => (h i).choose, funext fun i => (h i).choose_spec⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_sum {ι : Type*} (s : Finset ι) {f : ι → EReal} (h : ∀ i, Fin' (f i)) : Fin' (∑ i ∈ s, f i) := by
  obtain ⟨g, rfl⟩ := fin_fam h
  exact ⟨_, (coe_sum s g).symm⟩

theorem fin_mul {x y : EReal} (hx : Fin' x) (hy : Fin' y) : Fin' (x * y) := by
  obtain ⟨a, rfl⟩ := hx; obtain ⟨b, rfl⟩ := hy
  exact ⟨a * b, (EReal.coe_mul a b).symm⟩

theorem fin_add {x y : EReal} (hx : Fin' x) (hy : Fin' y) : Fin' (x + y) := by
  obtain ⟨a, rfl⟩ := hx; obtain ⟨b, rfl⟩ := hy
  exact ⟨a + b, (EReal.coe_add a b).symm⟩

/-- Division of real numbers. -/
theorem div_coe (a b : ℝ) (hb : b ≠ 0) : Ideal.div (a : EReal) (b : EReal) = ((a / b : ℝ) : EReal) := by
  have : (b : EReal) ≠ 0 := by exact_mod_cast hb
  rw [Ideal.div, if_neg this, ← EReal.coe_inv, ← EReal.coe_mul, div_eq_mul_inv]

theorem rsqrt_coe {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr ha.le), if_neg ha.ne']

/-! The constants the programs write. -/

theorem c_half : Ideal.ofBits .f32 0x3F000000#32 = ((1 / 2 : ℝ) : EReal) := by
  simp [Ideal.ofBits, Ideal.ieee]; rw [← EReal.coe_mul]; norm_num
theorem c_neg_half : Ideal.ofBits .f32 0xBF000000#32 = ((-(1 / 2) : ℝ) : EReal) := by
  simp [Ideal.ofBits, Ideal.ieee]; rw [← EReal.coe_mul]; norm_num
theorem c_two : Ideal.ofBits .f32 0x40000000#32 = ((2 : ℝ) : EReal) := by
  simp [Ideal.ofBits, Ideal.ieee]; rw [← EReal.coe_mul]; norm_num
theorem c_1024 : Ideal.ofBits .f32 0x44800000#32 = ((1024 : ℝ) : EReal) := by
  simp [Ideal.ofBits, Ideal.ieee]; rw [← EReal.coe_mul]; norm_num
/-- The norm's epsilon, the binary number nearest to one millionth. -/
theorem c_eps : Ideal.ofBits .f32 0x358637BD#32 = ((8796093 / 2 ^ 43 : ℝ) : EReal) := by
  simp [Ideal.ofBits, Ideal.ieee]; rw [← EReal.coe_mul]; norm_num
theorem c_inv_1024 : Ideal.ofBits .f32 0x3A800000#32 = ((1 / 1024 : ℝ) : EReal) := by
  simp [Ideal.ofBits, Ideal.ieee]; rw [← EReal.coe_mul]; norm_num
theorem c_inf : Ideal.ofBits .f32 0x7F800000#32 = (⊤ : EReal) := by
  simp [Ideal.ofBits, Ideal.ieee]
theorem c_inf_bf16 : Ideal.ofBits .bf16 0x7F80#16 = (⊤ : EReal) := by
  simp [Ideal.ofBits, Ideal.ieee]

/-- The rectifier recovered from its square by a root: the gradient of the squared rectifier. -/
theorem relu_sq {u : EReal} (d : EReal) (hu : Fin' u) :
    d * (Ideal.ofBits .f32 0x40000000#32
        * if 0 < max u 0 * max u 0 then max u 0 * max u 0 * Ideal.rsqrt (max u 0 * max u 0) else 0)
      = if 0 < u then d * (Ideal.ofBits .f32 0x40000000#32 * max u 0) else 0 := by
  obtain ⟨u, rfl⟩ := hu
  by_cases h : (0 : EReal) < (u : EReal)
  · have h' : 0 < u := by exact_mod_cast h
    have h2 : 0 < u * u := mul_pos h' h'
    rw [if_pos h, max_eq_left h.le, ← EReal.coe_mul, if_pos (by exact_mod_cast h2), rsqrt_coe h2, Real.sqrt_mul_self h'.le, ← EReal.coe_mul]
    congr 3
    field_simp
  · rw [if_neg h, max_eq_right (not_lt.mp h), mul_zero, if_neg (lt_irrefl _), mul_zero, mul_zero]

/-- The gradient of half a mean of squares over 1024 features, in the reference's order of factors. -/
theorem mean_half (d : EReal) :
    Ideal.div (Ideal.ofBits .f32 0x3F000000#32) (Ideal.ofBits .f32 0x44800000#32) * (Ideal.ofBits .f32 0x40000000#32 * d)
      = d * Ideal.ofBits .f32 0x3A800000#32 := by
  rw [c_half, c_1024, c_two, c_inv_1024, div_coe _ _ (by norm_num), ← mul_assoc, ← EReal.coe_mul, mul_comm]
  norm_num

/-- The kernel's sigmoid, written with a hyperbolic tangent, is the logistic function at every extended real. -/
theorem sig_eq (x : EReal) :
    Ideal.ofBits .f32 0x3F000000#32 * Ideal.tanh (Ideal.ofBits .f32 0x3F000000#32 * x) + Ideal.ofBits .f32 0x3F000000#32
      = Ideal.div 1 (1 + Ideal.exp (-x)) := by
  rw [c_half]
  have h0 : (0 : ℝ) < 1 / 2 := by norm_num
  induction x with
  | bot =>
    rw [EReal.coe_mul_bot_of_pos h0]
    show ((1 / 2 : ℝ) : EReal) * -1 + ((1 / 2 : ℝ) : EReal) = Ideal.div 1 (1 + ⊤)
    have e1 : (-1 : EReal) = ((-1 : ℝ) : EReal) := by norm_num
    have e2 : (1 : EReal) + ⊤ = ⊤ := by
      have := EReal.coe_add_top 1; simpa using this
    rw [e1, e2, ← EReal.coe_mul, ← EReal.coe_add, Ideal.div, if_neg (by simp), EReal.inv_top, mul_zero]
    norm_num
  | top =>
    rw [EReal.coe_mul_top_of_pos h0]
    show ((1 / 2 : ℝ) : EReal) * 1 + ((1 / 2 : ℝ) : EReal) = Ideal.div 1 (1 + 0)
    rw [mul_one, add_zero, ← EReal.coe_add, ← EReal.coe_one, div_coe 1 1 one_ne_zero]
    norm_num
  | coe r =>
    rw [← EReal.coe_mul]
    show ((1 / 2 : ℝ) : EReal) * ((Real.tanh (1 / 2 * r) : ℝ) : EReal) + ((1 / 2 : ℝ) : EReal)
      = Ideal.div 1 (1 + ((Real.exp (-r) : ℝ) : EReal))
    have hp : 1 + Real.exp (-r) ≠ 0 := (add_pos one_pos (Real.exp_pos _)).ne'
    rw [← EReal.coe_mul, ← EReal.coe_add, ← EReal.coe_one, ← EReal.coe_add, div_coe _ _ hp]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e' : Real.exp (1 / 2 * r) * Real.exp (-(1 / 2 * r)) = 1 := by rw [← Real.exp_add]; simp
    have hq : Real.exp (1 / 2 * r) + Real.exp (-(1 / 2 * r)) ≠ 0 := (add_pos (Real.exp_pos _) (Real.exp_pos _)).ne'
    rw [e] at hp ⊢
    generalize Real.exp (1 / 2 * r) = a at *
    generalize Real.exp (-(1 / 2 * r)) = b at *
    field_simp
    linear_combination (2 * b) * e'

end Cert.Proof.Arith

end

end
-- ==== Proof.Norm.lean ====
/- The gradient of a root-mean-square norm of 1024 features: the kernel's closed form is the chain rule's sum. -/
module

public import proofs.«01_k».proof.Proof.Arith
public import Mathlib.Tactic.Ring

@[expose] public section

noncomputable section

open Idealize.ShloMosaic

namespace Cert.Proof.Arith

/-- The mean of squares plus epsilon is a positive real. -/
theorem ms_pos (xs : Fin 1024 → ℝ) : 0 < (∑ k, xs k * xs k) / 1024 + 8796093 / 2 ^ 43 := by
  have : 0 ≤ ∑ k, xs k * xs k := Finset.sum_nonneg fun k _ => mul_self_nonneg _
  positivity

theorem ms_coe (xs : Fin 1024 → ℝ) :
    Ideal.div (∑ k, ((xs k : ℝ) : EReal) * ((xs k : ℝ) : EReal)) (Ideal.ofBits .f32 0x44800000#32) + Ideal.ofBits .f32 0x358637BD#32
      = (((∑ k, xs k * xs k) / 1024 + 8796093 / 2 ^ 43 : ℝ) : EReal) := by
  rw [c_1024, c_eps]
  simp only [← EReal.coe_mul, ← coe_sum]
  rw [div_coe _ _ (by norm_num), ← EReal.coe_add]

theorem norm_bwd {x G : EReal} {xs Gs : Fin 1024 → EReal} (hx : Fin' x) (hG : Fin' G) (hxs : ∀ k, Fin' (xs k)) (hGs : ∀ k, Fin' (Gs k)) :
    Ideal.rsqrt (Ideal.div (∑ k, xs k * xs k) (Ideal.ofBits .f32 0x44800000#32) + Ideal.ofBits .f32 0x358637BD#32)
        * (G - x * Ideal.rsqrt (Ideal.div (∑ k, xs k * xs k) (Ideal.ofBits .f32 0x44800000#32) + Ideal.ofBits .f32 0x358637BD#32)
            * Ideal.div (∑ k, Gs k * (xs k * Ideal.rsqrt (Ideal.div (∑ k, xs k * xs k) (Ideal.ofBits .f32 0x44800000#32) + Ideal.ofBits .f32 0x358637BD#32)))
                (Ideal.ofBits .f32 0x44800000#32))
      = G * Ideal.rsqrt (Ideal.div (∑ k, xs k * xs k) (Ideal.ofBits .f32 0x44800000#32) + Ideal.ofBits .f32 0x358637BD#32)
          + x * (∑ _ : Fin 1, Ideal.div ((∑ k, xs k * Gs k) * (Ideal.ofBits .f32 0xBF000000#32
              * Ideal.div (Ideal.rsqrt (Ideal.div (∑ k, xs k * xs k) (Ideal.ofBits .f32 0x44800000#32) + Ideal.ofBits .f32 0x358637BD#32))
                  (Ideal.div (∑ k, xs k * xs k) (Ideal.ofBits .f32 0x44800000#32) + Ideal.ofBits .f32 0x358637BD#32))) (Ideal.ofBits .f32 0x44800000#32))
        + (∑ _ : Fin 1, Ideal.div ((∑ k, xs k * Gs k) * (Ideal.ofBits .f32 0xBF000000#32
              * Ideal.div (Ideal.rsqrt (Ideal.div (∑ k, xs k * xs k) (Ideal.ofBits .f32 0x44800000#32) + Ideal.ofBits .f32 0x358637BD#32))
                  (Ideal.div (∑ k, xs k * xs k) (Ideal.ofBits .f32 0x44800000#32) + Ideal.ofBits .f32 0x358637BD#32))) (Ideal.ofBits .f32 0x44800000#32)) * x := by
  obtain ⟨x, rfl⟩ := hx
  obtain ⟨G, rfl⟩ := hG
  obtain ⟨xs, rfl⟩ := fin_fam hxs
  obtain ⟨Gs, rfl⟩ := fin_fam hGs
  have hp := ms_pos xs
  rw [Fin.sum_univ_one, ms_coe, c_1024, c_neg_half, rsqrt_coe hp]
  generalize (∑ k, xs k * xs k) / 1024 + 8796093 / 2 ^ 43 = ms at hp ⊢
  have hr : (Real.sqrt ms)⁻¹ * (Real.sqrt ms)⁻¹ = ms⁻¹ := by rw [← mul_inv, Real.mul_self_sqrt hp.le]
  generalize (Real.sqrt ms)⁻¹ = r at hr ⊢
  rw [div_coe _ _ hp.ne']
  simp only [← EReal.coe_mul, ← coe_sum, ← EReal.coe_sub, ← EReal.coe_add, div_coe _ _ (show (1024 : ℝ) ≠ 0 by norm_num)]
  congr 1
  have e1 : ∑ k, Gs k * (xs k * r) = (∑ k, xs k * Gs k) * r := by
    rw [Finset.sum_mul]; exact Finset.sum_congr rfl fun k _ => by ring
  rw [e1]
  generalize ∑ k, xs k * Gs k = S
  rw [div_eq_mul_inv r ms, ← hr]
  ring

/-- The same with the gradient that the residual connection brings. -/
theorem add_norm_bwd {p x G : EReal} {xs Gs : Fin 1024 → EReal} (hx : Fin' x) (hG : Fin' G) (hxs : ∀ k, Fin' (xs k)) (hGs : ∀ k, Fin' (Gs k)) :
    p + Ideal.rsqrt (Ideal.div (∑ k, xs k * xs k) (Ideal.ofBits .f32 0x44800000#32) + Ideal.ofBits .f32 0x358637BD#32)
        * (G - x * Ideal.rsqrt (Ideal.div (∑ k, xs k * xs k) (Ideal.ofBits .f32 0x44800000#32) + Ideal.ofBits .f32 0x358637BD#32)
            * Ideal.div (∑ k, Gs k * (xs k * Ideal.rsqrt (Ideal.div (∑ k, xs k * xs k) (Ideal.ofBits .f32 0x44800000#32) + Ideal.ofBits .f32 0x358637BD#32)))
                (Ideal.ofBits .f32 0x44800000#32))
      = p + (G * Ideal.rsqrt (Ideal.div (∑ k, xs k * xs k) (Ideal.ofBits .f32 0x44800000#32) + Ideal.ofBits .f32 0x358637BD#32)
          + x * (∑ _ : Fin 1, Ideal.div ((∑ k, xs k * Gs k) * (Ideal.ofBits .f32 0xBF000000#32
              * Ideal.div (Ideal.rsqrt (Ideal.div (∑ k, xs k * xs k) (Ideal.ofBits .f32 0x44800000#32) + Ideal.ofBits .f32 0x358637BD#32))
                  (Ideal.div (∑ k, xs k * xs k) (Ideal.ofBits .f32 0x44800000#32) + Ideal.ofBits .f32 0x358637BD#32))) (Ideal.ofBits .f32 0x44800000#32))
        + (∑ _ : Fin 1, Ideal.div ((∑ k, xs k * Gs k) * (Ideal.ofBits .f32 0xBF000000#32
              * Ideal.div (Ideal.rsqrt (Ideal.div (∑ k, xs k * xs k) (Ideal.ofBits .f32 0x44800000#32) + Ideal.ofBits .f32 0x358637BD#32))
                  (Ideal.div (∑ k, xs k * xs k) (Ideal.ofBits .f32 0x44800000#32) + Ideal.ofBits .f32 0x358637BD#32))) (Ideal.ofBits .f32 0x44800000#32)) * x) :=
  congrArg (p + ·) (norm_bwd hx hG hxs hGs)

/-- The same with the two terms exchanged. -/
theorem norm_bwd_add {p x G : EReal} {xs Gs : Fin 1024 → EReal} (hx : Fin' x) (hG : Fin' G) (hxs : ∀ k, Fin' (xs k)) (hGs : ∀ k, Fin' (Gs k)) :
    p + Ideal.rsqrt (Ideal.div (∑ k, xs k * xs k) (Ideal.ofBits .f32 0x44800000#32) + Ideal.ofBits .f32 0x358637BD#32)
        * (G - x * Ideal.rsqrt (Ideal.div (∑ k, xs k * xs k) (Ideal.ofBits .f32 0x44800000#32) + Ideal.ofBits .f32 0x358637BD#32)
            * Ideal.div (∑ k, Gs k * (xs k * Ideal.rsqrt (Ideal.div (∑ k, xs k * xs k) (Ideal.ofBits .f32 0x44800000#32) + Ideal.ofBits .f32 0x358637BD#32)))
                (Ideal.ofBits .f32 0x44800000#32))
      = (G * Ideal.rsqrt (Ideal.div (∑ k, xs k * xs k) (Ideal.ofBits .f32 0x44800000#32) + Ideal.ofBits .f32 0x358637BD#32)
          + x * (∑ _ : Fin 1, Ideal.div ((∑ k, xs k * Gs k) * (Ideal.ofBits .f32 0xBF000000#32
              * Ideal.div (Ideal.rsqrt (Ideal.div (∑ k, xs k * xs k) (Ideal.ofBits .f32 0x44800000#32) + Ideal.ofBits .f32 0x358637BD#32))
                  (Ideal.div (∑ k, xs k * xs k) (Ideal.ofBits .f32 0x44800000#32) + Ideal.ofBits .f32 0x358637BD#32))) (Ideal.ofBits .f32 0x44800000#32))
        + (∑ _ : Fin 1, Ideal.div ((∑ k, xs k * Gs k) * (Ideal.ofBits .f32 0xBF000000#32
              * Ideal.div (Ideal.rsqrt (Ideal.div (∑ k, xs k * xs k) (Ideal.ofBits .f32 0x44800000#32) + Ideal.ofBits .f32 0x358637BD#32))
                  (Ideal.div (∑ k, xs k * xs k) (Ideal.ofBits .f32 0x44800000#32) + Ideal.ofBits .f32 0x358637BD#32))) (Ideal.ofBits .f32 0x44800000#32)) * x) + p := by
  rw [add_comm p, norm_bwd hx hG hxs hGs]

end Cert.Proof.Arith

end

end
-- ==== Proof.Dhp.lean ====
/- The gradient through the gate product of the per-layer embedding and through the norm before it: the gradient of the norm's input, in f32 and in bf16, and of its gain. -/
module

public import proofs.«01_k».proof.Proof.Gen.DhpIdeal.Frame
public import proofs.«01_k».proof.Proof.Gen.DhpRefIdeal.Read
public import Idealize.ShloMosaic.Lib.Pipeline.ValueKit
public import proofs.«01_k».proof.Proof.Arith
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Proof.Dhp

open Cert.DhpIdeal Cert.DhpIdeal.Gen
open Cert.DhpRefIdeal.Read

variable (m : (ℓ : Loc nD τ sig) → Buf (Elt Ideal) ℓ)

/-- Every window's block at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![0, 0] :=
  (by decide +kernel : ∀ t : Fin grid0.N, _)

/-- What the body stores into window 5, at an index of its block, is the reference at that index of the array. -/
theorem point_5 (c : Dev nD) (h0 : ∀ i, Arith.Fin' (m ((c : Thread nD τ).loc main_arg0) i)) (h1 : ∀ i, Arith.Fin' (m ((c : Thread nD τ).loc main_arg1) i)) (h2 : ∀ i, Arith.Fin' (m ((c : Thread nD τ).loc main_arg2) i)) (h4 : ∀ i, Arith.Fin' (m ((c : Thread nD τ).loc main_arg4) i)) (t : Fin cfg0.N) (y) :
    k0_pay6 (iblk m c 0 t) (iblk m c 1 t) (iblk m c 2 t) (iblk m c 3 t) (iblk m c 4 t) y
      = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 5).blk t).view.emb y) := by
  pointwise [k0_pay1, k0_pay2, k0_pay3, k0_pay4, k0_pay5, k0_pay6, k0_pay7, k0_pay8, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_v23, val_main_cst_4, val_main_v24, val_main_v25, val_main_v26, val_main_v27, val_main_v28, val_main_cst_5, val_main_v29, val_main_v30, val_main_cst_6, val_main_v31, val_main_v32, val_main_v33, val_main_v34, val_main_v35, val_main_v36, val_main_v37, val_main_v38]
  refine Eq.trans (Arith.add_norm_bwd (h2 _)
    (Arith.fin_mul (Arith.fin_sum _ fun _ => Arith.fin_mul (h0 _) (h1 _)) (h4 _)) (fun _ => h2 _)
    fun _ => Arith.fin_mul (Arith.fin_sum _ fun _ => Arith.fin_mul (h0 _) (h1 _)) (h4 _)) ?_
  blk_point [iblk, V, idx t]

theorem final_5 (c : Dev nD) (h0 : ∀ i, Arith.Fin' (m ((c : Thread nD τ).loc main_arg0) i)) (h1 : ∀ i, Arith.Fin' (m ((c : Thread nD τ).loc main_arg1) i)) (h2 : ∀ i, Arith.Fin' (m ((c : Thread nD τ).loc main_arg2) i)) (h4 : ∀ i, Arith.Fin' (m ((c : Thread nD τ).loc main_arg4) i)) : (dats m 0 c).arrAt 5 (cfgs 0).N
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 8 = 0
  · rw [outsAt0_A m c t h]; frame_out; exact point_5 m c h0 h1 h2 h4 t y
  · rw [outsAt0_B m c t h]; frame_out; exact point_5 m c h0 h1 h2 h4 t y

/-- What the body stores into window 6, at an index of its block, is the reference at that index of the array. -/
theorem point_6 (c : Dev nD) (h0 : ∀ i, Arith.Fin' (m ((c : Thread nD τ).loc main_arg0) i)) (h1 : ∀ i, Arith.Fin' (m ((c : Thread nD τ).loc main_arg1) i)) (h2 : ∀ i, Arith.Fin' (m ((c : Thread nD τ).loc main_arg2) i)) (h4 : ∀ i, Arith.Fin' (m ((c : Thread nD τ).loc main_arg4) i)) (t : Fin cfg0.N) (y) :
    k0_pay8 (iblk m c 0 t) (iblk m c 1 t) (iblk m c 2 t) (iblk m c 3 t) (iblk m c 4 t) y
      = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 6).blk t).view.emb y) := by
  pointwise [k0_pay1, k0_pay2, k0_pay3, k0_pay4, k0_pay5, k0_pay6, k0_pay7, k0_pay8, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_v23, val_main_cst_4, val_main_v24, val_main_v25, val_main_v26, val_main_v27, val_main_v28, val_main_cst_5, val_main_v29, val_main_v30, val_main_cst_6, val_main_v31, val_main_v32, val_main_v33, val_main_v34, val_main_v35, val_main_v36, val_main_v37, val_main_v38]
  refine Eq.trans (Arith.add_norm_bwd (h2 _)
    (Arith.fin_mul (Arith.fin_sum _ fun _ => Arith.fin_mul (h0 _) (h1 _)) (h4 _)) (fun _ => h2 _)
    fun _ => Arith.fin_mul (Arith.fin_sum _ fun _ => Arith.fin_mul (h0 _) (h1 _)) (h4 _)) ?_
  blk_point [iblk, V, idx t]

theorem final_6 (c : Dev nD) (h0 : ∀ i, Arith.Fin' (m ((c : Thread nD τ).loc main_arg0) i)) (h1 : ∀ i, Arith.Fin' (m ((c : Thread nD τ).loc main_arg1) i)) (h2 : ∀ i, Arith.Fin' (m ((c : Thread nD τ).loc main_arg2) i)) (h4 : ∀ i, Arith.Fin' (m ((c : Thread nD τ).loc main_arg4) i)) : (dats m 0 c).arrAt 6 (cfgs 0).N
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  by_cases h : t.val % 8 = 0
  · rw [outsAt0_A m c t h]; frame_out; exact point_6 m c h0 h1 h2 h4 t y
  · rw [outsAt0_B m c t h]; frame_out; exact point_6 m c h0 h1 h2 h4 t y

/-- The first point clears the row. -/
theorem hzero_7 (j : S1x1024.Idx) : k0_pay1 (F := Ideal) j = 0 := by
  pointwise! [k0_pay1]

/-- Every point adds its row of sums to what the row held. -/
theorem hpay_7 (x a : Vec Ideal S1x1024 .f32) (j : S1x1024.Idx) :
    k0_pay2 x a j = a j + x j := by
  pointwise [k0_pay2]

/-- The row of sums after the last point. -/
theorem final_7 (c : Dev nD) : (dats m 0 c).arrAt 7 (cfgs 0).N
    = val_main_v20 (F := Ideal) (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun p j => k0_pay7 (iblk m c 0 p) (iblk m c 1 p) (iblk m c 2 p) j)
    (fun t h j => by rw [outsAt0_A m c t h]; frame_out; rw [hpay_7, hzero_7])
    (fun t h j => by rw [outsAt0_B m c t h]; frame_out; rw [hpay_7])
    (le_of_eq N_0) t0_7 rfl j, zero_add]
  pointwise [k0_pay1, k0_pay2, k0_pay3, k0_pay4, k0_pay5, k0_pay6, k0_pay7, k0_pay8, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_v23, val_main_cst_4, val_main_v24, val_main_v25, val_main_v26, val_main_v27, val_main_v28, val_main_cst_5, val_main_v29, val_main_v30, val_main_cst_6, val_main_v31, val_main_v32, val_main_v33, val_main_v34, val_main_v35, val_main_v36, val_main_v37, val_main_v38]
  refine Fin.sum_mul_add_congr fun s k hl => Eq.trans (EReal.mul_comm _ _) ?_
  blk_point [iblk, V, idx s, idx t0_7]
end Cert.Proof.Dhp

end

end
-- ==== Proof.Finite.lean ====
/- The test that an array is finite, `all(abs(x) < inf)`, and what it says: every element is a real number. -/
module

public import proofs.«01_k».proof.Proof.Arith
public import Idealize.ShloMosaic.Lib.ReduceAll

@[expose] public section

noncomputable section

open Idealize.ShloMosaic

namespace Cert.Proof.Arith

theorem fin_of_test {s t u : Shape} {φ : FTy} {axes : List (Fin s.rank)} [Subsingleton t.Idx] (x c : FVec Ideal s φ) (hc : ∀ i, c i = (⊤ : EReal))
    (init : IVec u 1) (h : s.ReducesTo axes t) (hu : 0 < u.numel) (j : t.Idx)
    (e : Host.reduce IntOp.andi (cmpf .olt (Host.absf x) c) init h hu j = 1#1) (i : s.Idx) : Fin' (x i) := by
  have h1 := Host.reduce_andi_all _ _ h hu j e i
  have h2 : BitVec.ofBool (decide (max (x i) (-(x i)) < c i)) = 1#1 := h1
  have h3 : max (x i) (-(x i)) < c i := by
    by_contra hn
    rw [decide_eq_false hn] at h2
    exact absurd h2 (by decide)
  rw [hc i] at h3
  exact fin_of_abs h3

end Cert.Proof.Arith

end

end
-- ==== Proof.Claim.Dhp.lean ====
/- The claims about `Dhp`: the three frames, the idealization, and the equality with the reference. -/
module

public import proofs.«01_k».proof.Proof.Gen.Dhp.Frame
public import proofs.«01_k».proof.Proof.Gen.DhpIdeal.Frame
public import proofs.«01_k».proof.Proof.Gen.DhpRefIdeal.Run
public import proofs.«01_k».proof.Proof.Dhp
public import proofs.«01_k».proof.Defs
public import proofs.«01_k».proof.Proof.Gen.Pre_dhp_finite
public import proofs.«01_k».proof.Proof.Finite

@[expose] public section

noncomputable section

namespace Cert.Proof.Dhp

open Idealize.ShloMosaic Idealize.SL.Sem

theorem frameP : quiescent_Dhp (hDhp := Cert.Dhp.Gen.facts) := fun m ρ _ => Cert.Dhp.Gen.frame m ρ
theorem framePI : quiescent_DhpIdeal (hDhpIdeal := Cert.DhpIdeal.Gen.facts) := fun m ρ _ => Cert.DhpIdeal.Gen.frame m ρ
theorem frameRI : quiescent_DhpRefIdeal (hDhpRefIdeal := Cert.DhpRefIdeal.Gen.facts) := fun m ρ _ =>
  (θ_run Cert.DhpRefIdeal.defs _ _).mono (fun r h => ⟨fun c => (h c).2.2.2,
      Idealize.ShloMosaic.sem_eq_zero_of_no_sems (by decide) r.2⟩)
    (Cert.DhpRefIdeal.Value.run (F := Ideal) m ρ)
theorem pres : preserves_Dhp_DhpIdeal := trivial
theorem framePIpre : quiescent_DhpIdeal_pre_dhp_finite (hDhpIdeal := Cert.DhpIdeal.Gen.facts) (hPre_dhp_finite := Cert.Pre_dhp_finite.Gen.facts) :=
  fun m ρ _ => Cert.DhpIdeal.Gen.frame m ρ
theorem frameRIpre : quiescent_DhpRefIdeal_pre_dhp_finite (hDhpRefIdeal := Cert.DhpRefIdeal.Gen.facts) (hPre_dhp_finite := Cert.Pre_dhp_finite.Gen.facts) :=
  fun m ρ _ => frameRI m ρ trivial

section

set_option maxRecDepth 10000

attribute [local instance] Cert.Pre_dhp_finite.Gen.facts

theorem fin0 {a0 a1 a2 a3 a4} (h : (Cert.Pre_dhp_finite.fn (F := Ideal) a0 a1 a2 a3 a4).1 = fun _ => 1#1) : ∀ i, Arith.Fin' (a0 i) := by
  dsimp only [Cert.Pre_dhp_finite.fn] at h
  exact fun i => Arith.fin_of_test _ _ (fun _ => Arith.c_inf_bf16) _ _ _ ix0 (congrFun h ix0) i

theorem fin1 {a0 a1 a2 a3 a4} (h : (Cert.Pre_dhp_finite.fn (F := Ideal) a0 a1 a2 a3 a4).2.1 = fun _ => 1#1) : ∀ i, Arith.Fin' (a1 i) := by
  dsimp only [Cert.Pre_dhp_finite.fn] at h
  exact fun i => Arith.fin_of_test _ _ (fun _ => Arith.c_inf_bf16) _ _ _ ix0 (congrFun h ix0) i

theorem fin2 {a0 a1 a2 a3 a4} (h : (Cert.Pre_dhp_finite.fn (F := Ideal) a0 a1 a2 a3 a4).2.2.1 = fun _ => 1#1) : ∀ i, Arith.Fin' (a2 i) := by
  dsimp only [Cert.Pre_dhp_finite.fn] at h
  exact fun i => Arith.fin_of_test _ _ (fun _ => Arith.c_inf) _ _ _ ix0 (congrFun h ix0) i

theorem fin4 {a0 a1 a2 a3 a4} (h : (Cert.Pre_dhp_finite.fn (F := Ideal) a0 a1 a2 a3 a4).2.2.2 = fun _ => 1#1) : ∀ i, Arith.Fin' (a4 i) := by
  dsimp only [Cert.Pre_dhp_finite.fn] at h
  exact fun i => Arith.fin_of_test _ _ (fun _ => Arith.c_inf) _ _ _ ix0 (congrFun h ix0) i

end

set_option maxHeartbeats 4000000 in
set_option maxRecDepth 10000 in
/-- The arrays the kernel leaves are the reference's. -/
theorem value : algebraic_DhpIdeal_DhpRefIdeal_pre_dhp_finite (hDhpIdeal := Cert.DhpIdeal.Gen.facts) (hDhpRefIdeal := Cert.DhpRefIdeal.Gen.facts) (hPre_dhp_finite := Cert.Pre_dhp_finite.Gen.facts) := by
  pair_intro
  · run_from Cert.DhpIdeal.Gen.run_main m g
  · hlo_run
    · have h0 := fin0 (hpre c).1
      have h1 := fin1 (hpre c).2.1
      have h2 := fin2 (hpre c).2.2.1
      have h4 := fin4 (hpre c).2.2.2
      exact (final_5 m c h0 h1 h2 h4).symm
    · have h0 := fin0 (hpre c).1
      have h1 := fin1 (hpre c).2.1
      have h2 := fin2 (hpre c).2.2.1
      have h4 := fin4 (hpre c).2.2.2
      exact (final_6 m c h0 h1 h2 h4).symm
    · exact (final_7 m c).symm

end Cert.Proof.Dhp

end

end
-- ==== Proof.Dact.lean ====
/- The gradient through the down projection and the squared rectifier: the kernel finds the rectifier as a root of the saved square. -/
module

public import proofs.«01_k».proof.Proof.Gen.DactIdeal.Frame
public import proofs.«01_k».proof.Proof.Gen.DactRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Dact

open Cert.DactIdeal Cert.DactIdeal.Gen
open Cert.DactRefIdeal.Read

variable (m : (ℓ : Loc nD τ sig) → Buf (Elt Ideal) ℓ)

/-- Every window's block at every grid point. -/
theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4] :=
  (by decide +kernel : ∀ t : Fin grid0.N, _)

/-- The up projection of the normed stream. -/
def U (c : Dev nD) (i : S4096x4096.Idx) : EReal :=
  let x : Vec Ideal S4096x1024 .bf16 := m ((c : Thread nD τ).loc main_arg0)
  let w : Vec Ideal S1024x4096 .bf16 := m ((c : Thread nD τ).loc main_arg1)
  ∑ k : Fin 1024, x (ix2 (i 0) k) * w (ix2 k (i 1))

theorem fin_U (c : Dev nD) (h0 : ∀ i, Arith.Fin' (m ((c : Thread nD τ).loc main_arg0) i)) (h1 : ∀ i, Arith.Fin' (m ((c : Thread nD τ).loc main_arg1) i)) (i) : Arith.Fin' (U m c i) :=
  Arith.fin_sum _ fun _ => Arith.fin_mul (h0 _) (h1 _)

/-- What the host hands to the kernel as the saved activation. -/
theorem entry (c : Dev nD) (i : S4096x4096.Idx) : (V m c main_v3 i : EReal) = max (U m c i) 0 * max (U m c i) 0 := by
  entry_read
  pointwise [U]

/-- What the body stores into window 3, at an index of its block, is the reference at that index of the array. -/
theorem point_3 (c : Dev nD) (h0 : ∀ i, Arith.Fin' (m ((c : Thread nD τ).loc main_arg0) i)) (h1 : ∀ i, Arith.Fin' (m ((c : Thread nD τ).loc main_arg1) i)) (t : Fin cfg0.N) (y) :
    k0_pay1 (iblk m c 0 t) (iblk m c 1 t) (iblk m c 2 t) y
      = val_main_v14 (F := Ideal) (m ((c : Thread nD τ).loc main_arg0)) (m ((c : Thread nD τ).loc main_arg1)) (m ((c : Thread nD τ).loc main_arg2)) (m ((c : Thread nD τ).loc main_arg3))
          (((cfg0.win 3).blk t).view.emb y) := by
  pointwise [k0_pay1, val_main_v0, val_main_call0_cst, val_main_call0_v0, val_main_v1, val_main_cst, val_main_v2, val_main_v3, val_main_cst_0, val_main_v4, val_main_v5, val_main_cst_1, val_main_v6, val_main_v7, val_main_v8, val_main_v9, val_main_v10, val_main_v11, val_main_cst_2, val_main_v12, val_main_v13, val_main_v14]
  have e : (iblk m c 2 t y : EReal) = max (U m c (((cfg0.win 3).blk t).view.emb y)) 0 * max (U m c (((cfg0.win 3).blk t).view.emb y)) 0 := by
    rw [← entry]
    blk_point [iblk, V, idx t]
  rw [e]
  refine Eq.trans (Arith.relu_sq _ (fin_U m c h0 h1 _)) ?_
  unfold U
  blk_point [iblk, V, idx t]

theorem final_3 (c : Dev nD) (h0 : ∀ i, Arith.Fin' (m ((c : Thread nD τ).loc main_arg0) i)) (h1 : ∀ i, Arith.Fin' (m ((c : Thread nD τ).loc main_arg1) i)) : (dats m 0 c).arrAt 3 (cfgs 0).N
    = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp; rw [after0_3]; frame_out
  exact point_3 m c h0 h1 t y

end Cert.Proof.Dact

end

end
-- ==== Proof.Claim.Dact.lean ====
/- The claims about `Dact`: the three frames, the idealization, and the equality with the reference. -/
module

public import proofs.«01_k».proof.Proof.Gen.Dact.Frame
public import proofs.«01_k».proof.Proof.Gen.DactIdeal.Frame
public import proofs.«01_k».proof.Proof.Gen.DactRefIdeal.Run
public import proofs.«01_k».proof.Proof.Dact
public import proofs.«01_k».proof.Defs
public import proofs.«01_k».proof.Proof.Gen.Pre_dact_finite
public import proofs.«01_k».proof.Proof.Finite

@[expose] public section

noncomputable section

namespace Cert.Proof.Dact

open Idealize.ShloMosaic Idealize.SL.Sem

theorem frameP : quiescent_Dact (hDact := Cert.Dact.Gen.facts) := fun m ρ _ => Cert.Dact.Gen.frame m ρ
theorem framePI : quiescent_DactIdeal (hDactIdeal := Cert.DactIdeal.Gen.facts) := fun m ρ _ => Cert.DactIdeal.Gen.frame m ρ
theorem frameRI : quiescent_DactRefIdeal (hDactRefIdeal := Cert.DactRefIdeal.Gen.facts) := fun m ρ _ =>
  (θ_run Cert.DactRefIdeal.defs _ _).mono (fun r h => ⟨fun c => (h c).2,
      Idealize.ShloMosaic.sem_eq_zero_of_no_sems (by decide) r.2⟩)
    (Cert.DactRefIdeal.Value.run (F := Ideal) m ρ)
theorem pres : preserves_Dact_DactIdeal := trivial
theorem framePIpre : quiescent_DactIdeal_pre_dact_finite (hDactIdeal := Cert.DactIdeal.Gen.facts) (hPre_dact_finite := Cert.Pre_dact_finite.Gen.facts) :=
  fun m ρ _ => Cert.DactIdeal.Gen.frame m ρ
theorem frameRIpre : quiescent_DactRefIdeal_pre_dact_finite (hDactRefIdeal := Cert.DactRefIdeal.Gen.facts) (hPre_dact_finite := Cert.Pre_dact_finite.Gen.facts) :=
  fun m ρ _ => frameRI m ρ trivial

section

set_option maxRecDepth 10000

attribute [local instance] Cert.Pre_dact_finite.Gen.facts

theorem fin0 {a0 a1 a2 a3} (h : (Cert.Pre_dact_finite.fn (F := Ideal) a0 a1 a2 a3).1 = fun _ => 1#1) : ∀ i, Arith.Fin' (a0 i) := by
  dsimp only [Cert.Pre_dact_finite.fn] at h
  exact fun i => Arith.fin_of_test _ _ (fun _ => Arith.c_inf_bf16) _ _ _ ix0 (congrFun h ix0) i

theorem fin1 {a0 a1 a2 a3} (h : (Cert.Pre_dact_finite.fn (F := Ideal) a0 a1 a2 a3).2 = fun _ => 1#1) : ∀ i, Arith.Fin' (a1 i) := by
  dsimp only [Cert.Pre_dact_finite.fn] at h
  exact fun i => Arith.fin_of_test _ _ (fun _ => Arith.c_inf_bf16) _ _ _ ix0 (congrFun h ix0) i

end

set_option maxHeartbeats 4000000 in
set_option maxRecDepth 10000 in
/-- The arrays the kernel leaves are the reference's. -/
theorem value : algebraic_DactIdeal_DactRefIdeal_pre_dact_finite (hDactIdeal := Cert.DactIdeal.Gen.facts) (hDactRefIdeal := Cert.DactRefIdeal.Gen.facts) (hPre_dact_finite := Cert.Pre_dact_finite.Gen.facts) := by
  pair_intro
  · run_from Cert.DactIdeal.Gen.run_main m g
  · hlo_run
    have h0 := fin0 (hpre c).1
    have h1 := fin1 (hpre c).2
    exact (final_3 m c h0 h1).symm

end Cert.Proof.Dact

end

end
-- ==== Proof.Dmerged.lean ====
/- The gradient through the merge of the two branches: the four arrays the kernel leaves are the
   reference's, element by element. -/
module

public import proofs.«01_k».proof.Proof.Gen.DmergedIdeal.Frame
public import proofs.«01_k».proof.Proof.Gen.DmergedRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Dmerged

open Cert.DmergedIdeal Cert.DmergedIdeal.Gen
open Cert.DmergedRefIdeal.Read

variable (m : (ℓ : Loc nD τ sig) → Buf (Elt Ideal) ℓ)

/-- Every window's block at every grid point. -/
theorem idx : ∀ t : Fin cfg0.N, win0_0.index t = ![t.val / 2, 0]
    ∧ win0_1.index t = ![t.val % 2, 0]
    ∧ win0_2.index t = ![t.val / 2, 7 + (t.val % 2)]
    ∧ win0_3.index t = ![t.val / 2, 9 + (t.val % 2)]
    ∧ win0_4.index t = ![t.val / 2, t.val % 2]
    ∧ win0_5.index t = ![t.val / 2, t.val % 2]
    ∧ win0_6.index t = ![t.val / 2, t.val % 2]
    ∧ win0_7.index t = ![t.val / 2, t.val % 2]
    ∧ win0_8.index t = ![t.val / 2, t.val % 2]
    ∧ win0_9.index t = ![t.val / 2, t.val % 2] :=
  (by decide +kernel : ∀ t : Fin grid0.N, _)

theorem point_6 (c : Dev nD) (t : Fin cfg0.N) (y) :
    k0_pay10 (iblk m c 0 t) (iblk m c 1 t) (iblk m c 2 t) y
      = val_main_v32 (F := Ideal) (m ((c : Thread nD τ).loc main_arg0)) (m ((c : Thread nD τ).loc main_arg1)) (m ((c : Thread nD τ).loc main_arg2))
          (((cfg0.win 6).blk t).view.emb y) := by
  pointwise [k0_pay1, k0_pay2, k0_pay3, k0_pay10, k0_pay4, k0_pay5, k0_pay6, k0_pay7, k0_pay8, k0_pay9, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4]
  rw [Arith.sig_eq, mul_comm]
  blk_point [iblk, V, idx t]

theorem point_7 (c : Dev nD) (t : Fin cfg0.N) (y) :
    k0_pay1 (k0_pay7 (iblk m c 0 t) (iblk m c 1 t) (iblk m c 3 t)) y
      = val_main_v33 (F := Ideal) (m ((c : Thread nD τ).loc main_arg0)) (m ((c : Thread nD τ).loc main_arg1)) (m ((c : Thread nD τ).loc main_arg2))
          (((cfg0.win 7).blk t).view.emb y) := by
  pointwise [k0_pay1, k0_pay2, k0_pay3, k0_pay10, k0_pay4, k0_pay5, k0_pay6, k0_pay7, k0_pay8, k0_pay9, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4]
  rw [Arith.sig_eq, mul_comm]
  blk_point [iblk, V, idx t]

theorem point_8 (c : Dev nD) (t : Fin cfg0.N) (y) :
    k0_pay2 (k0_pay8 (iblk m c 0 t) (iblk m c 1 t) (iblk m c 2 t) (iblk m c 4 t)) y
      = val_main_v34 (F := Ideal) (m ((c : Thread nD τ).loc main_arg0)) (m ((c : Thread nD τ).loc main_arg1)) (m ((c : Thread nD τ).loc main_arg2)) (m ((c : Thread nD τ).loc main_arg3))
          (((cfg0.win 8).blk t).view.emb y) := by
  pointwise [k0_pay1, k0_pay2, k0_pay3, k0_pay10, k0_pay4, k0_pay5, k0_pay6, k0_pay7, k0_pay8, k0_pay9, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4]
  rw [Arith.sig_eq, mul_assoc]
  blk_point [iblk, V, idx t]

theorem point_9 (c : Dev nD) (t : Fin cfg0.N) (y) :
    k0_pay3 (k0_pay9 (iblk m c 0 t) (iblk m c 1 t) (iblk m c 3 t) (iblk m c 5 t)) y
      = val_main_v35 (F := Ideal) (m ((c : Thread nD τ).loc main_arg0)) (m ((c : Thread nD τ).loc main_arg1)) (m ((c : Thread nD τ).loc main_arg2)) (m ((c : Thread nD τ).loc main_arg4))
          (((cfg0.win 9).blk t).view.emb y) := by
  pointwise [k0_pay1, k0_pay2, k0_pay3, k0_pay10, k0_pay4, k0_pay5, k0_pay6, k0_pay7, k0_pay8, k0_pay9, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4]
  rw [Arith.sig_eq, mul_assoc]
  blk_point [iblk, V, idx t]

theorem final_6 (c : Dev nD) : (dats m 0 c).arrAt 6 (cfgs 0).N
    = val_main_v32 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_6 m c t y

theorem final_7 (c : Dev nD) : (dats m 0 c).arrAt 7 (cfgs 0).N
    = val_main_v33 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; frame_out
  exact point_7 m c t y

theorem final_8 (c : Dev nD) : (dats m 0 c).arrAt 8 (cfgs 0).N
    = val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp; rw [after0_8]; frame_out
  exact point_8 m c t y

theorem final_9 (c : Dev nD) : (dats m 0 c).arrAt 9 (cfgs 0).N
    = val_main_v35 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  blk_simp; rw [after0_9]; frame_out
  exact point_9 m c t y

end Cert.Proof.Dmerged

end

end
-- ==== Proof.Claim.Dmerged.lean ====
/- The claims about `Dmerged`: the three frames, the idealization, and the equality with the reference. -/
module

public import proofs.«01_k».proof.Proof.Gen.Dmerged.Frame
public import proofs.«01_k».proof.Proof.Gen.DmergedIdeal.Frame
public import proofs.«01_k».proof.Proof.Gen.DmergedRefIdeal.Run
public import proofs.«01_k».proof.Proof.Dmerged
public import proofs.«01_k».proof.Defs

@[expose] public section

noncomputable section

namespace Cert.Proof.Dmerged

open Idealize.ShloMosaic Idealize.SL.Sem

theorem frameP : quiescent_Dmerged (hDmerged := Cert.Dmerged.Gen.facts) := fun m ρ _ => Cert.Dmerged.Gen.frame m ρ
theorem framePI : quiescent_DmergedIdeal (hDmergedIdeal := Cert.DmergedIdeal.Gen.facts) := fun m ρ _ => Cert.DmergedIdeal.Gen.frame m ρ
theorem frameRI : quiescent_DmergedRefIdeal (hDmergedRefIdeal := Cert.DmergedRefIdeal.Gen.facts) := fun m ρ _ =>
  (θ_run Cert.DmergedRefIdeal.defs _ _).mono (fun r h => ⟨fun c => (h c).2.2.2.2,
      Idealize.ShloMosaic.sem_eq_zero_of_no_sems (by decide) r.2⟩)
    (Cert.DmergedRefIdeal.Value.run (F := Ideal) m ρ)
theorem pres : preserves_Dmerged_DmergedIdeal := trivial

/-- The arrays the kernel leaves are the reference's. -/
theorem value : algebraic_DmergedIdeal_DmergedRefIdeal (hDmergedIdeal := Cert.DmergedIdeal.Gen.facts) (hDmergedRefIdeal := Cert.DmergedRefIdeal.Gen.facts) := by
  pair_intro
  · run_from Cert.DmergedIdeal.Gen.run_main m g
  · hlo_run
    · exact (final_6 m c).symm
    · exact (final_7 m c).symm
    · exact (final_8 m c).symm
    · exact (final_9 m c).symm

end Cert.Proof.Dmerged

end

end
-- ==== Proof.Dup.lean ====
/- The gradient of the up projection's weights: the array the kernel leaves, in eight slots of columns,
   is the reference's product, element by element. -/
module

public import proofs.«01_k».proof.Proof.Gen.DupIdeal.Frame
public import proofs.«01_k».proof.Proof.Gen.DupRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Dup

open Cert.DupIdeal Cert.DupIdeal.Gen
open Cert.DupRefIdeal.Read

variable (m : (ℓ : Loc nD τ sig) → Buf (Elt Ideal) ℓ)

/-- Every window's block at every grid point. -/
theorem idx : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

/-- What a point adds to its block, at an index of it. -/
def part (x0 x1 : Vec Ideal S1024x1024 .bf16) (j : S2x1024x512.Idx) : EReal :=
  ∑ k : Fin 1024, x0 (ix2 k (j 1)) * x1 (ix2 k ⟨(j 0 : ℕ) * 512 + (j 2 : ℕ), by
    have h0 : (j 0 : ℕ) < 2 := (j 0).isLt
    have h2 : (j 2 : ℕ) < 512 := (j 2).isLt
    omega⟩)

/-- A point that adds to what the block held: the two half-blocks of columns, stored one after the other. -/
theorem step (x0 x1 : Vec Ideal S1024x1024 .bf16) (a : Vec Ideal S2x1024x512 .f32) (j : S2x1024x512.Idx) :
    View.canon (Val := Elt Ideal) (s := S2x1024x512) (e := .f32)
      [⟨Rect.unit ![1, 0, 0] ![1, 1024, 512] inb_S2x1024x512_S1x1024x512_1_0_0,
          k0_pay3 x0 (View.ld a (Rect.unit ![1, 0, 0] ![1, 1024, 512] inb_S2x1024x512_S1x1024x512_1_0_0))
            (View.ld x1 (Rect.unit ![0, 512] ![1024, 512] inb_S1024x1024_S1024x512_0_512))⟩,
        ⟨Rect.unit ![0, 0, 0] ![1, 1024, 512] inb_S2x1024x512_S1x1024x512_0_0_0,
          k0_pay2 x0 (View.ld a (Rect.unit ![0, 0, 0] ![1, 1024, 512] inb_S2x1024x512_S1x1024x512_0_0_0))
            (View.ld x1 (Rect.unit ![0, 0] ![1024, 512] inb_S1024x1024_S1024x512_0_0))⟩] j
      = a j + part x0 x1 j := by
  canon_tiles x h
  · pointwise [k0_pay3, part]
    blk_point []
  · pointwise [k0_pay2, part]
    blk_point []

/-- The first point of a row: the block is filled with zeros before the two stores. -/
theorem first (x0 x1 : Vec Ideal S1024x1024 .bf16) (v : View sig .tc .vmem S2x1024x512 .f32) (j : S2x1024x512.Idx) :
    View.canon (Val := Elt Ideal) (s := S2x1024x512) (e := .f32)
      [⟨Rect.unit ![1, 0, 0] ![1, 1024, 512] inb_S2x1024x512_S1x1024x512_1_0_0,
          k0_pay3 x0 (v.readCov [⟨Rect.unit ![0, 0, 0] ![1, 1024, 512] inb_S2x1024x512_S1x1024x512_0_0_0, k0_pay2 x0 (v.readCov [⟨Rect.unit ![0, 0, 0] ![2, 1024, 512] inb_S2x1024x512_S2x1024x512_0_0_0, k0_pay1 (F := Ideal)⟩] (Rect.unit ![0, 0, 0] ![1, 1024, 512] inb_S2x1024x512_S1x1024x512_0_0_0).toLoadRect)
            (View.ld x1 (Rect.unit ![0, 0] ![1024, 512] inb_S1024x1024_S1024x512_0_0))⟩, ⟨Rect.unit ![0, 0, 0] ![2, 1024, 512] inb_S2x1024x512_S2x1024x512_0_0_0, k0_pay1 (F := Ideal)⟩] (Rect.unit ![1, 0, 0] ![1, 1024, 512] inb_S2x1024x512_S1x1024x512_1_0_0).toLoadRect)
            (View.ld x1 (Rect.unit ![0, 512] ![1024, 512] inb_S1024x1024_S1024x512_0_512))⟩,
        ⟨Rect.unit ![0, 0, 0] ![1, 1024, 512] inb_S2x1024x512_S1x1024x512_0_0_0,
          k0_pay2 x0 (v.readCov [⟨Rect.unit ![0, 0, 0] ![2, 1024, 512] inb_S2x1024x512_S2x1024x512_0_0_0, k0_pay1 (F := Ideal)⟩] (Rect.unit ![0, 0, 0] ![1, 1024, 512] inb_S2x1024x512_S1x1024x512_0_0_0).toLoadRect)
            (View.ld x1 (Rect.unit ![0, 0] ![1024, 512] inb_S1024x1024_S1024x512_0_0))⟩,
        ⟨Rect.unit ![0, 0, 0] ![2, 1024, 512] inb_S2x1024x512_S2x1024x512_0_0_0, k0_pay1 (F := Ideal)⟩] j
      = 0 + part x0 x1 j := by
  rw [View.readCov_skip _ _ _ _ _ (by decide), View.readCov_fill _ _ _ _ _ (by decide), View.readCov_fill _ _ _ _ _ (by decide)]
  refine View.canon_append_of_piecesOf (Val := Elt Ideal) (s := S2x1024x512) (e := .f32) (fun j => (0 + part x0 x1 j : EReal)) [_] [_, _] ⟨fun x => ?_, fun x => ?_, trivial⟩ j ?_
  · pointwise [k0_pay3, k0_pay1, part]
    blk_point []
  · pointwise [k0_pay2, k0_pay1, part]
    blk_point []
  · exact (set_option maxRecDepth 1000000 in View.cover_of_tiled_head _ _ _ (by rfl) _)

/-- The result array after the run. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0)
    (fun p j => part (iblk m c 0 p) (iblk m c 1 p) j)
    (fun t h j => by rw [outsAt0_A m c t h]; frame_out; exact first _ _ _ j)
    (fun t h j => by rw [outsAt0_B m c t h]; frame_out; exact step _ _ _ j)
    t ((flush0_2 t).mp hf) _, zero_add]
  pointwise [part, val_main_v6, val_main_v5, val_main_v4, val_main_v3, val_main_v2]
  refine Fin.sum_mul_add_congr fun s k hl => Eq.trans (EReal.mul_comm _ _) ?_
  blk_point [iblk, V, idx t, idx ⟨_, Pipeline.run_point_lt_of_flush t ((flush0_2 t).mp hf) s⟩]

end Cert.Proof.Dup

end

end
-- ==== Proof.Claim.Dup.lean ====
/- The claims about `Dup`: the three frames, the idealization, and the equality with the reference. -/
module

public import proofs.«01_k».proof.Proof.Gen.Dup.Frame
public import proofs.«01_k».proof.Proof.Gen.DupIdeal.Frame
public import proofs.«01_k».proof.Proof.Gen.DupRefIdeal.Run
public import proofs.«01_k».proof.Proof.Dup
public import proofs.«01_k».proof.Defs

@[expose] public section

noncomputable section

namespace Cert.Proof.Dup

open Idealize.ShloMosaic Idealize.SL.Sem

theorem frameP : quiescent_Dup (hDup := Cert.Dup.Gen.facts) := fun m ρ _ => Cert.Dup.Gen.frame m ρ
theorem framePI : quiescent_DupIdeal (hDupIdeal := Cert.DupIdeal.Gen.facts) := fun m ρ _ => Cert.DupIdeal.Gen.frame m ρ
theorem frameRI : quiescent_DupRefIdeal (hDupRefIdeal := Cert.DupRefIdeal.Gen.facts) := fun m ρ _ =>
  (θ_run Cert.DupRefIdeal.defs _ _).mono (fun r h => ⟨fun c => (h c).2,
      Idealize.ShloMosaic.sem_eq_zero_of_no_sems (by decide) r.2⟩)
    (Cert.DupRefIdeal.Value.run (F := Ideal) m ρ)
theorem pres : preserves_Dup_DupIdeal := trivial

/-- The arrays the kernel leaves are the reference's. -/
theorem value : algebraic_DupIdeal_DupRefIdeal (hDupIdeal := Cert.DupIdeal.Gen.facts) (hDupRefIdeal := Cert.DupRefIdeal.Gen.facts) := by
  pair_intro
  · run_from Cert.DupIdeal.Gen.run_main m g
  · hlo_run
    exact (final m c).symm

end Cert.Proof.Dup

end

end
-- ==== Proof.Ddown.lean ====
/- The gradient of the down projection's weight, accumulated over the tokens: the array the kernel leaves is
   the reference's product, element by element. -/
module

public import proofs.«01_k».proof.Proof.Gen.DdownIdeal.Frame
public import proofs.«01_k».proof.Proof.Gen.DdownRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Ddown

open Cert.DdownIdeal Cert.DdownIdeal.Gen

variable (m : (ℓ : Loc nD τ sig) → Buf (Elt Ideal) ℓ)

/-- What the reference computes of its two arguments. -/
def REF (a0 : FVec Ideal Cert.DdownRefIdeal.S4096x4096 .bf16) (a1 : FVec Ideal Cert.DdownRefIdeal.S4096x1024 .bf16) :
    FVec Ideal Cert.DdownRefIdeal.S4096x1024 .f32 :=
  transpose Cert.DdownRefIdeal.S4096x1024 [1, 0]
    (Host.dotGeneral (φ₁ := .f32) (φ₂ := .bf16) Cert.DdownRefIdeal.dot_S4096x1024_S4096x4096_S1024x4096_0_0_1_1_n_n none
      (extf .f32 a1 Cert.DdownRefIdeal.Gen.bitsLt_bf16_f32) a0)
    Cert.DdownRefIdeal.Gen.transposes_S1024x4096_S4096x1024_1_0

/-- Every window's block at every grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The first point of a run clears its block. -/
theorem hzero (j : S1024x1024.Idx) : k0_pay1 (F := Ideal) j = 0 := by
  pointwise! [k0_pay1]

/-- Every point adds its part of the contraction to what the block held. -/
theorem hpay (v3 : Vec Ideal S1024x1024 .f32) (v5 v6 : Vec Ideal S1024x1024 .bf16) (j : S1024x1024.Idx) :
    k0_pay2 v3 v5 v6 j = v3 j + k0_pay2 (fun _ => 0) v5 v6 j := by
  pointwise [k0_pay2]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF]
  refine Fin.sum_mul_add_congr fun s k hl => Eq.trans (EReal.mul_comm _ _) ?_
  blk_point [iblk, V, idx t, idx ⟨_, Pipeline.run_point_lt_of_flush t ((flush0_2 t).mp hf) s⟩]

end Cert.Proof.Ddown

end

end
-- ==== Proof.Claim.Ddown.lean ====
/- The claims about `Ddown`: the three frames, the idealization, and the equality with the reference. -/
module

public import proofs.«01_k».proof.Proof.Gen.Ddown.Frame
public import proofs.«01_k».proof.Proof.Gen.DdownIdeal.Frame
public import proofs.«01_k».proof.Proof.Gen.DdownRefIdeal.Run
public import proofs.«01_k».proof.Proof.Ddown
public import proofs.«01_k».proof.Defs

@[expose] public section

noncomputable section

namespace Cert.Proof.Ddown

open Idealize.ShloMosaic Idealize.SL.Sem

theorem frameP : quiescent_Ddown (hDdown := Cert.Ddown.Gen.facts) := fun m ρ _ => Cert.Ddown.Gen.frame m ρ
theorem framePI : quiescent_DdownIdeal (hDdownIdeal := Cert.DdownIdeal.Gen.facts) := fun m ρ _ => Cert.DdownIdeal.Gen.frame m ρ
theorem frameRI : quiescent_DdownRefIdeal (hDdownRefIdeal := Cert.DdownRefIdeal.Gen.facts) := fun m ρ _ =>
  (θ_run Cert.DdownRefIdeal.defs _ _).mono (fun r h => ⟨fun c => (h c).2,
      Idealize.ShloMosaic.sem_eq_zero_of_no_sems (by decide) r.2⟩)
    (Cert.DdownRefIdeal.Value.run (F := Ideal) m ρ)
theorem pres : preserves_Ddown_DdownIdeal := trivial

/-- The arrays the kernel leaves are the reference's. -/
theorem value : algebraic_DdownIdeal_DdownRefIdeal (hDdownIdeal := Cert.DdownIdeal.Gen.facts) (hDdownRefIdeal := Cert.DdownRefIdeal.Gen.facts) := by
  pair_intro
  · run_from Cert.DdownIdeal.Gen.run_main m g
  · hlo_run
    exact (final m c).symm

end Cert.Proof.Ddown

end

end
-- ==== Proof.Dya.lean ====
/- The gradient of the attention's output projection with respect to its input: the array the kernel
   leaves is the reference's product, element by element. -/
module

public import proofs.«01_k».proof.Proof.Gen.DyaIdeal.Frame
public import proofs.«01_k».proof.Proof.Gen.DyaRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Dya

open Cert.DyaIdeal Cert.DyaIdeal.Gen

variable (m : (ℓ : Loc nD τ sig) → Buf (Elt Ideal) ℓ)

/-- What the reference computes of its two arguments. -/
def REF (a0 : FVec Ideal Cert.DyaRefIdeal.S4096x1024 .bf16) (a1 : FVec Ideal Cert.DyaRefIdeal.S1024x1024 .bf16) :
    FVec Ideal Cert.DyaRefIdeal.S4096x1024 .f32 :=
  Host.dotGeneral (φ₁ := .f32) (φ₂ := .bf16) Cert.DyaRefIdeal.dot_S4096x1024_S1024x1024_S4096x1024_1_1_0_0_n_n none
    (extf .f32 a0 Cert.DyaRefIdeal.Gen.bitsLt_bf16_f32) a1

/-- Every window's block at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the body stores at an index of its block is the reference at that index of the array. -/
theorem point (c : Dev nD) (t : Fin cfg0.N) (y) :
    k0_pay1 (iblk m c 0 t) (iblk m c 1 t) y
      = REF (m ((c : Thread nD τ).loc main_arg0)) (m ((c : Thread nD τ).loc main_arg1))
        (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Proof.Dya

end

end
-- ==== Proof.Claim.Dya.lean ====
/- The claims about `Dya`: the three frames, the idealization, and the equality with the reference. -/
module

public import proofs.«01_k».proof.Proof.Gen.Dya.Frame
public import proofs.«01_k».proof.Proof.Gen.DyaIdeal.Frame
public import proofs.«01_k».proof.Proof.Gen.DyaRefIdeal.Run
public import proofs.«01_k».proof.Proof.Dya
public import proofs.«01_k».proof.Defs

@[expose] public section

noncomputable section

namespace Cert.Proof.Dya

open Idealize.ShloMosaic Idealize.SL.Sem

theorem frameP : quiescent_Dya (hDya := Cert.Dya.Gen.facts) := fun m ρ _ => Cert.Dya.Gen.frame m ρ
theorem framePI : quiescent_DyaIdeal (hDyaIdeal := Cert.DyaIdeal.Gen.facts) := fun m ρ _ => Cert.DyaIdeal.Gen.frame m ρ
theorem frameRI : quiescent_DyaRefIdeal (hDyaRefIdeal := Cert.DyaRefIdeal.Gen.facts) := fun m ρ _ =>
  (θ_run Cert.DyaRefIdeal.defs _ _).mono (fun r h => ⟨fun c => (h c).2,
      Idealize.ShloMosaic.sem_eq_zero_of_no_sems (by decide) r.2⟩)
    (Cert.DyaRefIdeal.Value.run (F := Ideal) m ρ)
theorem pres : preserves_Dya_DyaIdeal := trivial

/-- The arrays the kernel leaves are the reference's. -/
theorem value : algebraic_DyaIdeal_DyaRefIdeal (hDyaIdeal := Cert.DyaIdeal.Gen.facts) (hDyaRefIdeal := Cert.DyaRefIdeal.Gen.facts) := by
  pair_intro
  · run_from Cert.DyaIdeal.Gen.run_main m g
  · hlo_run
    exact (final m c).symm

end Cert.Proof.Dya

end

end
-- ==== Proof.Dout.lean ====
/- A weight gradient that is one plain product: the saved activations transposed, times the gradient that comes back. -/
module

public import proofs.«01_k».proof.Proof.Gen.DoutIdeal.Frame
public import proofs.«01_k».proof.Proof.Gen.DoutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Dout

open Cert.DoutIdeal Cert.DoutIdeal.Gen
open Cert.DoutRefIdeal.Read

variable (m : (ℓ : Loc nD τ sig) → Buf (Elt Ideal) ℓ)

/-- Every window's block at every grid point. -/
theorem idx : ∀ t : Fin cfg0.N, win0_0.index t = ![t.val, 0]
    ∧ win0_1.index t = ![t.val, 0]
    ∧ win0_2.index t = ![0, 0] :=
  (by decide +kernel : ∀ t : Fin grid0.N, _)

/-- The first point clears window 2. -/
theorem hzero_2 (j : S1024x1024.Idx) : k0_pay1 (F := Ideal) j = 0 := by
  pointwise! [k0_pay1]

/-- Every point adds its part of the contraction to what the block held. -/
theorem hpay_2 (v3 : Vec Ideal S1024x1024 .f32) (v5 v6 : Vec Ideal S1024x1024 .bf16) (j : S1024x1024.Idx) :
    k0_pay2 v3 v5 v6 j = v3 j + k0_pay2 (fun _ => 0) v5 v6 j := by
  pointwise [k0_pay2]

theorem final_2 (c : Dev nD) : (dats m 0 c).arrAt 2 (cfgs 0).N
    = val_main_v4 (F := Ideal) (m ((c : Thread nD τ).loc main_arg0)) (m ((c : Thread nD τ).loc main_arg1)) := by
  refine (dats m 0 c).arrAt_eq_of_after_last 2 t0_3 (by decide +kernel) _ fun j => ?_
  blk_simp
  rw [after0_2, Pipeline.eq_sum_fin_of_reset_step_apply_last (fun n h => (outsAt0 m c n h)) 4 (fun _ => 0) _
    (fun t h j => by rw [outsAt0_A m c t h]; frame_out; rw [hpay_2, hzero_2])
    (fun t h j => by rw [outsAt0_B m c t h]; frame_out; rw [hpay_2])
    (le_of_eq N_0) t0_3 rfl j, zero_add]
  pointwise [k0_pay1, k0_pay2, val_main_cst, val_main_v0, val_main_v1, val_main_v2, val_main_v3, val_main_v4]
  refine Fin.sum_mul_add_congr fun s k hl => Eq.trans (EReal.mul_comm _ _) ?_
  blk_point [iblk, V, idx s, idx t0_3]

end Cert.Proof.Dout

end

end
-- ==== Proof.Claim.Dout.lean ====
/- The claims about `Dout`: the three frames, the idealization, and the equality with the reference. -/
module

public import proofs.«01_k».proof.Proof.Gen.Dout.Frame
public import proofs.«01_k».proof.Proof.Gen.DoutIdeal.Frame
public import proofs.«01_k».proof.Proof.Gen.DoutRefIdeal.Run
public import proofs.«01_k».proof.Proof.Dout
public import proofs.«01_k».proof.Defs

@[expose] public section

noncomputable section

namespace Cert.Proof.Dout

open Idealize.ShloMosaic Idealize.SL.Sem

theorem frameP : quiescent_Dout (hDout := Cert.Dout.Gen.facts) := fun m ρ _ => Cert.Dout.Gen.frame m ρ
theorem framePI : quiescent_DoutIdeal (hDoutIdeal := Cert.DoutIdeal.Gen.facts) := fun m ρ _ => Cert.DoutIdeal.Gen.frame m ρ
theorem frameRI : quiescent_DoutRefIdeal (hDoutRefIdeal := Cert.DoutRefIdeal.Gen.facts) := fun m ρ _ =>
  (θ_run Cert.DoutRefIdeal.defs _ _).mono (fun r h => ⟨fun c => (h c).2,
      Idealize.ShloMosaic.sem_eq_zero_of_no_sems (by decide) r.2⟩)
    (Cert.DoutRefIdeal.Value.run (F := Ideal) m ρ)
theorem pres : preserves_Dout_DoutIdeal := trivial

/-- The arrays the kernel leaves are the reference's. -/
theorem value : algebraic_DoutIdeal_DoutRefIdeal (hDoutIdeal := Cert.DoutIdeal.Gen.facts) (hDoutRefIdeal := Cert.DoutRefIdeal.Gen.facts) := by
  pair_intro
  · run_from Cert.DoutIdeal.Gen.run_main m g
  · hlo_run
    exact (final_2 m c).symm

end Cert.Proof.Dout

end

end
-- ==== Proof.Dpp.lean ====
/- The gradient of the embedding projection's weights, in eight slots of columns. -/
module

public import proofs.«01_k».proof.Proof.Gen.DppIdeal.Frame
public import proofs.«01_k».proof.Proof.Gen.DppRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Dpp

open Cert.DppIdeal Cert.DppIdeal.Gen
open Cert.DppRefIdeal.Read

variable (m : (ℓ : Loc nD τ sig) → Buf (Elt Ideal) ℓ)

/-- Every window's block at every grid point. -/
theorem idx : ∀ t : Fin cfg0.N, win0_0.index t = ![t.val, 0]
    ∧ win0_1.index t = ![t.val, 0]
    ∧ win0_2.index t = ![0, 0, 0] :=
  (by decide +kernel : ∀ t : Fin grid0.N, _)

/-- What a point adds to its block, at an index of it. -/
def part (x0 : Vec Ideal S1024x256 .bf16) (x1 : Vec Ideal S1024x1024 .bf16) (j : S8x256x128.Idx) : EReal :=
  ∑ k : Fin 1024, x0 (ix2 k (j 1)) * x1 (ix2 k ⟨(j 0 : ℕ) * 128 + (j 2 : ℕ), by
    have h0 : (j 0 : ℕ) < 8 := (j 0).isLt
    have h2 : (j 2 : ℕ) < 128 := (j 2).isLt
    omega⟩)

/-- A point that adds to what the block held: the eight slots of columns, stored one after the other. -/
theorem step (x0 : Vec Ideal S1024x256 .bf16) (x1 : Vec Ideal S1024x1024 .bf16) (a : Vec Ideal S8x256x128 .f32) (j : S8x256x128.Idx) :
    View.canon (Val := Elt Ideal) (s := S8x256x128) (e := .f32)
      [⟨Rect.unit ![7, 0, 0] ![1, 256, 128] inb_S8x256x128_S1x256x128_7_0_0, k0_pay2 x0 (View.ld a (Rect.unit ![7, 0, 0] ![1, 256, 128] inb_S8x256x128_S1x256x128_7_0_0)) (View.ld x1 (Rect.unit ![0, 896] ![1024, 128] inb_S1024x1024_S1024x128_0_896))⟩,
        ⟨Rect.unit ![6, 0, 0] ![1, 256, 128] inb_S8x256x128_S1x256x128_6_0_0, k0_pay1 x0 (View.ld a (Rect.unit ![6, 0, 0] ![1, 256, 128] inb_S8x256x128_S1x256x128_6_0_0)) (View.ld x1 (Rect.unit ![0, 768] ![1024, 128] inb_S1024x1024_S1024x128_0_768))⟩,
        ⟨Rect.unit ![5, 0, 0] ![1, 256, 128] inb_S8x256x128_S1x256x128_5_0_0, k0_pay10 x0 (View.ld a (Rect.unit ![5, 0, 0] ![1, 256, 128] inb_S8x256x128_S1x256x128_5_0_0)) (View.ld x1 (Rect.unit ![0, 640] ![1024, 128] inb_S1024x1024_S1024x128_0_640))⟩,
        ⟨Rect.unit ![4, 0, 0] ![1, 256, 128] inb_S8x256x128_S1x256x128_4_0_0, k0_pay9 x0 (View.ld a (Rect.unit ![4, 0, 0] ![1, 256, 128] inb_S8x256x128_S1x256x128_4_0_0)) (View.ld x1 (Rect.unit ![0, 512] ![1024, 128] inb_S1024x1024_S1024x128_0_512))⟩,
        ⟨Rect.unit ![3, 0, 0] ![1, 256, 128] inb_S8x256x128_S1x256x128_3_0_0, k0_pay8 x0 (View.ld a (Rect.unit ![3, 0, 0] ![1, 256, 128] inb_S8x256x128_S1x256x128_3_0_0)) (View.ld x1 (Rect.unit ![0, 384] ![1024, 128] inb_S1024x1024_S1024x128_0_384))⟩,
        ⟨Rect.unit ![2, 0, 0] ![1, 256, 128] inb_S8x256x128_S1x256x128_2_0_0, k0_pay7 (k0_pay6 x0 (View.ld a (Rect.unit ![2, 0, 0] ![1, 256, 128] inb_S8x256x128_S1x256x128_2_0_0)) (View.ld x1 (Rect.unit ![0, 256] ![1024, 128] inb_S1024x1024_S1024x128_0_256)))⟩,
        ⟨Rect.unit ![1, 0, 0] ![1, 256, 128] inb_S8x256x128_S1x256x128_1_0_0, k0_pay5 x0 (View.ld a (Rect.unit ![1, 0, 0] ![1, 256, 128] inb_S8x256x128_S1x256x128_1_0_0)) (View.ld x1 (Rect.unit ![0, 128] ![1024, 128] inb_S1024x1024_S1024x128_0_128))⟩,
        ⟨Rect.unit ![0, 0, 0] ![1, 256, 128] inb_S8x256x128_S1x256x128_0_0_0, k0_pay4 x0 (View.ld a (Rect.unit ![0, 0, 0] ![1, 256, 128] inb_S8x256x128_S1x256x128_0_0_0)) (View.ld x1 (Rect.unit ![0, 0] ![1024, 128] inb_S1024x1024_S1024x128_0_0))⟩] j
      = a j + part x0 x1 j := by
  canon_tiles x h
  all_goals
    pointwise [k0_pay1, k0_pay10, k0_pay2, k0_pay3, k0_pay4, k0_pay5, k0_pay6, k0_pay7, k0_pay8, k0_pay9, part]
    blk_point []

/-- The first point of a row: the block is filled with zeros before the stores. -/
theorem first (x0 : Vec Ideal S1024x256 .bf16) (x1 : Vec Ideal S1024x1024 .bf16)
    (z : Vec Ideal S8x256x128 .f32) (hz : ∀ j, z j = 0) (j : S8x256x128.Idx) :
    View.canon (Val := Elt Ideal) (s := S8x256x128) (e := .f32)
      [⟨Rect.unit ![7, 0, 0] ![1, 256, 128] inb_S8x256x128_S1x256x128_7_0_0, k0_pay2 x0 (View.ld (z) (Rect.unit ![7, 0, 0] ![1, 256, 128] inb_S8x256x128_S1x256x128_7_0_0)) (View.ld x1 (Rect.unit ![0, 896] ![1024, 128] inb_S1024x1024_S1024x128_0_896))⟩,
        ⟨Rect.unit ![6, 0, 0] ![1, 256, 128] inb_S8x256x128_S1x256x128_6_0_0, k0_pay1 x0 (View.ld (z) (Rect.unit ![6, 0, 0] ![1, 256, 128] inb_S8x256x128_S1x256x128_6_0_0)) (View.ld x1 (Rect.unit ![0, 768] ![1024, 128] inb_S1024x1024_S1024x128_0_768))⟩,
        ⟨Rect.unit ![5, 0, 0] ![1, 256, 128] inb_S8x256x128_S1x256x128_5_0_0, k0_pay10 x0 (View.ld (z) (Rect.unit ![5, 0, 0] ![1, 256, 128] inb_S8x256x128_S1x256x128_5_0_0)) (View.ld x1 (Rect.unit ![0, 640] ![1024, 128] inb_S1024x1024_S1024x128_0_640))⟩,
        ⟨Rect.unit ![4, 0, 0] ![1, 256, 128] inb_S8x256x128_S1x256x128_4_0_0, k0_pay9 x0 (View.ld (z) (Rect.unit ![4, 0, 0] ![1, 256, 128] inb_S8x256x128_S1x256x128_4_0_0)) (View.ld x1 (Rect.unit ![0, 512] ![1024, 128] inb_S1024x1024_S1024x128_0_512))⟩,
        ⟨Rect.unit ![3, 0, 0] ![1, 256, 128] inb_S8x256x128_S1x256x128_3_0_0, k0_pay8 x0 (View.ld (z) (Rect.unit ![3, 0, 0] ![1, 256, 128] inb_S8x256x128_S1x256x128_3_0_0)) (View.ld x1 (Rect.unit ![0, 384] ![1024, 128] inb_S1024x1024_S1024x128_0_384))⟩,
        ⟨Rect.unit ![2, 0, 0] ![1, 256, 128] inb_S8x256x128_S1x256x128_2_0_0, k0_pay7 (k0_pay6 x0 (View.ld (z) (Rect.unit ![2, 0, 0] ![1, 256, 128] inb_S8x256x128_S1x256x128_2_0_0)) (View.ld x1 (Rect.unit ![0, 256] ![1024, 128] inb_S1024x1024_S1024x128_0_256)))⟩,
        ⟨Rect.unit ![1, 0, 0] ![1, 256, 128] inb_S8x256x128_S1x256x128_1_0_0, k0_pay5 x0 (View.ld (z) (Rect.unit ![1, 0, 0] ![1, 256, 128] inb_S8x256x128_S1x256x128_1_0_0)) (View.ld x1 (Rect.unit ![0, 128] ![1024, 128] inb_S1024x1024_S1024x128_0_128))⟩,
        ⟨Rect.unit ![0, 0, 0] ![1, 256, 128] inb_S8x256x128_S1x256x128_0_0_0, k0_pay4 x0 (View.ld (z) (Rect.unit ![0, 0, 0] ![1, 256, 128] inb_S8x256x128_S1x256x128_0_0_0)) (View.ld x1 (Rect.unit ![0, 0] ![1024, 128] inb_S1024x1024_S1024x128_0_0))⟩,
        ⟨Rect.unit ![0, 0, 0] ![8, 256, 128] inb_S8x256x128_S8x256x128_0_0_0, z⟩] j
      = 0 + part x0 x1 j := by
  refine View.canon_append_of_piecesOf (Val := Elt Ideal) (s := S8x256x128) (e := .f32) (fun j => (0 + part x0 x1 j : EReal)) [_] [_, _, _, _, _, _, _, _]
    ⟨fun x => ?_, fun x => ?_, fun x => ?_, fun x => ?_, fun x => ?_, fun x => ?_, fun x => ?_, fun x => ?_, trivial⟩ j ?_
  rotate_left 8
  · exact (set_option maxRecDepth 1000000 in View.cover_of_tiled_head _ _ _ (by rfl) _)
  all_goals
    pointwise [k0_pay1, k0_pay10, k0_pay2, k0_pay3, k0_pay4, k0_pay5, k0_pay6, k0_pay7, k0_pay8, k0_pay9, part, View.ld, hz]
    blk_point []

theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_after_last 2 t0_3 (by decide +kernel) _ fun j => ?_
  blk_simp
  rw [after0_2, Pipeline.eq_sum_fin_of_reset_step_apply_last (fun n h => (outsAt0 m c n h)) 4 (fun _ => 0)
    (fun p j => part (iblk m c 0 p) (iblk m c 1 p) j)
    (fun t h j => by
      rw [outsAt0_A m c t h]; frame_out
      rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; rw [View.readCov_fill _ _ _ _ _ (by decide)]
      rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; rw [View.readCov_fill _ _ _ _ _ (by decide)]
      rw [View.readCov_skip _ _ _ _ _ (by decide)]; rw [View.readCov_skip _ _ _ _ _ (by decide)]; rw [View.readCov_skip _ _ _ _ _ (by decide)]; rw [View.readCov_skip _ _ _ _ _ (by decide)]; rw [View.readCov_skip _ _ _ _ _ (by decide)]; rw [View.readCov_fill _ _ _ _ _ (by decide)]
      rw [View.readCov_skip _ _ _ _ _ (by decide)]; rw [View.readCov_skip _ _ _ _ _ (by decide)]; rw [View.readCov_skip _ _ _ _ _ (by decide)]; rw [View.readCov_skip _ _ _ _ _ (by decide)]; rw [View.readCov_fill _ _ _ _ _ (by decide)]
      rw [View.readCov_skip _ _ _ _ _ (by decide)]; rw [View.readCov_skip _ _ _ _ _ (by decide)]; rw [View.readCov_skip _ _ _ _ _ (by decide)]; rw [View.readCov_fill _ _ _ _ _ (by decide)]
      rw [View.readCov_skip _ _ _ _ _ (by decide)]; rw [View.readCov_skip _ _ _ _ _ (by decide)]; rw [View.readCov_fill _ _ _ _ _ (by decide)]
      rw [View.readCov_skip _ _ _ _ _ (by decide)]; rw [View.readCov_fill _ _ _ _ _ (by decide)]
      rw [View.readCov_fill _ _ _ _ _ (by decide)]
      exact first _ _ _ (fun j => by pointwise! [k0_pay3]) j)
    (fun t h j => by rw [outsAt0_B m c t h]; frame_out; exact step _ _ _ j)
    (le_of_eq N_0) t0_3 rfl j, zero_add]
  pointwise [part, val_main_cst, val_main_v0, val_main_v1, val_main_v2, val_main_v3, val_main_v4, val_main_v5, val_main_v6]
  refine Fin.sum_mul_add_congr fun s k hl => Eq.trans (EReal.mul_comm _ _) ?_
  blk_point [iblk, V, idx s, idx t0_3]

end Cert.Proof.Dpp

end

end
-- ==== Proof.Claim.Dpp.lean ====
/- The claims about `Dpp`: the three frames, the idealization, and the equality with the reference. -/
module

public import proofs.«01_k».proof.Proof.Gen.Dpp.Frame
public import proofs.«01_k».proof.Proof.Gen.DppIdeal.Frame
public import proofs.«01_k».proof.Proof.Gen.DppRefIdeal.Run
public import proofs.«01_k».proof.Proof.Dpp
public import proofs.«01_k».proof.Defs

@[expose] public section

noncomputable section

namespace Cert.Proof.Dpp

open Idealize.ShloMosaic Idealize.SL.Sem

theorem frameP : quiescent_Dpp (hDpp := Cert.Dpp.Gen.facts) := fun m ρ _ => Cert.Dpp.Gen.frame m ρ
theorem framePI : quiescent_DppIdeal (hDppIdeal := Cert.DppIdeal.Gen.facts) := fun m ρ _ => Cert.DppIdeal.Gen.frame m ρ
theorem frameRI : quiescent_DppRefIdeal (hDppRefIdeal := Cert.DppRefIdeal.Gen.facts) := fun m ρ _ =>
  (θ_run Cert.DppRefIdeal.defs _ _).mono (fun r h => ⟨fun c => (h c).2,
      Idealize.ShloMosaic.sem_eq_zero_of_no_sems (by decide) r.2⟩)
    (Cert.DppRefIdeal.Value.run (F := Ideal) m ρ)
theorem pres : preserves_Dpp_DppIdeal := trivial

/-- The arrays the kernel leaves are the reference's. -/
theorem value : algebraic_DppIdeal_DppRefIdeal (hDppIdeal := Cert.DppIdeal.Gen.facts) (hDppRefIdeal := Cert.DppRefIdeal.Gen.facts) := by
  pair_intro
  · run_from Cert.DppIdeal.Gen.run_main m g
  · hlo_run
    exact (final m c).symm

end Cert.Proof.Dpp

end

end
-- ==== Proof.Dhm.lean ====
/- The gradient through the up projection and through the norm before it: the gradient of the norm's input, in f32 and in bf16, and of its gain. -/
module

public import proofs.«01_k».proof.Proof.Gen.DhmIdeal.Frame
public import proofs.«01_k».proof.Proof.Gen.DhmRefIdeal.Read
public import Idealize.ShloMosaic.Lib.Pipeline.ValueKit
public import proofs.«01_k».proof.Proof.Arith
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Proof.Dhm

open Cert.DhmIdeal Cert.DhmIdeal.Gen
open Cert.DhmRefIdeal.Read

variable (m : (ℓ : Loc nD τ sig) → Buf (Elt Ideal) ℓ)

/-- Every window's block at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![0, 0] :=
  (by decide +kernel : ∀ t : Fin grid0.N, _)

/-- What the body stores into window 5, at an index of its block, is the reference at that index of the array. -/
theorem point_5 (c : Dev nD) (h0 : ∀ i, Arith.Fin' (m ((c : Thread nD τ).loc main_arg0) i)) (h1 : ∀ i, Arith.Fin' (m ((c : Thread nD τ).loc main_arg1) i)) (h2 : ∀ i, Arith.Fin' (m ((c : Thread nD τ).loc main_arg2) i)) (h4 : ∀ i, Arith.Fin' (m ((c : Thread nD τ).loc main_arg4) i)) (t : Fin cfg0.N) (y) :
    k0_pay6 (iblk m c 0 t) (iblk m c 1 t) (iblk m c 2 t) (iblk m c 3 t) (iblk m c 4 t) y
      = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 5).blk t).view.emb y) := by
  pointwise [k0_pay1, k0_pay2, k0_pay3, k0_pay4, k0_pay5, k0_pay6, k0_pay7, k0_pay8, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_v23, val_main_cst_4, val_main_v24, val_main_v25, val_main_v26, val_main_v27, val_main_v28, val_main_cst_5, val_main_v29, val_main_v30, val_main_cst_6, val_main_v31, val_main_v32, val_main_v33, val_main_v34, val_main_v35, val_main_v36, val_main_v37, val_main_v38]
  refine Eq.trans (Arith.add_norm_bwd (h2 _)
    (Arith.fin_mul (Arith.fin_sum _ fun _ => Arith.fin_mul (h0 _) (h1 _)) (h4 _)) (fun _ => h2 _)
    fun _ => Arith.fin_mul (Arith.fin_sum _ fun _ => Arith.fin_mul (h0 _) (h1 _)) (h4 _)) ?_
  blk_point [iblk, V, idx t]

theorem final_5 (c : Dev nD) (h0 : ∀ i, Arith.Fin' (m ((c : Thread nD τ).loc main_arg0) i)) (h1 : ∀ i, Arith.Fin' (m ((c : Thread nD τ).loc main_arg1) i)) (h2 : ∀ i, Arith.Fin' (m ((c : Thread nD τ).loc main_arg2) i)) (h4 : ∀ i, Arith.Fin' (m ((c : Thread nD τ).loc main_arg4) i)) : (dats m 0 c).arrAt 5 (cfgs 0).N
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 8 = 0
  · rw [outsAt0_A m c t h]; frame_out; exact point_5 m c h0 h1 h2 h4 t y
  · rw [outsAt0_B m c t h]; frame_out; exact point_5 m c h0 h1 h2 h4 t y

/-- What the body stores into window 6, at an index of its block, is the reference at that index of the array. -/
theorem point_6 (c : Dev nD) (h0 : ∀ i, Arith.Fin' (m ((c : Thread nD τ).loc main_arg0) i)) (h1 : ∀ i, Arith.Fin' (m ((c : Thread nD τ).loc main_arg1) i)) (h2 : ∀ i, Arith.Fin' (m ((c : Thread nD τ).loc main_arg2) i)) (h4 : ∀ i, Arith.Fin' (m ((c : Thread nD τ).loc main_arg4) i)) (t : Fin cfg0.N) (y) :
    k0_pay8 (iblk m c 0 t) (iblk m c 1 t) (iblk m c 2 t) (iblk m c 3 t) (iblk m c 4 t) y
      = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 6).blk t).view.emb y) := by
  pointwise [k0_pay1, k0_pay2, k0_pay3, k0_pay4, k0_pay5, k0_pay6, k0_pay7, k0_pay8, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_v23, val_main_cst_4, val_main_v24, val_main_v25, val_main_v26, val_main_v27, val_main_v28, val_main_cst_5, val_main_v29, val_main_v30, val_main_cst_6, val_main_v31, val_main_v32, val_main_v33, val_main_v34, val_main_v35, val_main_v36, val_main_v37, val_main_v38]
  refine Eq.trans (Arith.add_norm_bwd (h2 _)
    (Arith.fin_mul (Arith.fin_sum _ fun _ => Arith.fin_mul (h0 _) (h1 _)) (h4 _)) (fun _ => h2 _)
    fun _ => Arith.fin_mul (Arith.fin_sum _ fun _ => Arith.fin_mul (h0 _) (h1 _)) (h4 _)) ?_
  blk_point [iblk, V, idx t]

theorem final_6 (c : Dev nD) (h0 : ∀ i, Arith.Fin' (m ((c : Thread nD τ).loc main_arg0) i)) (h1 : ∀ i, Arith.Fin' (m ((c : Thread nD τ).loc main_arg1) i)) (h2 : ∀ i, Arith.Fin' (m ((c : Thread nD τ).loc main_arg2) i)) (h4 : ∀ i, Arith.Fin' (m ((c : Thread nD τ).loc main_arg4) i)) : (dats m 0 c).arrAt 6 (cfgs 0).N
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  by_cases h : t.val % 8 = 0
  · rw [outsAt0_A m c t h]; frame_out; exact point_6 m c h0 h1 h2 h4 t y
  · rw [outsAt0_B m c t h]; frame_out; exact point_6 m c h0 h1 h2 h4 t y

/-- The first point clears the row. -/
theorem hzero_7 (j : S1x1024.Idx) : k0_pay1 (F := Ideal) j = 0 := by
  pointwise! [k0_pay1]

/-- Every point adds its row of sums to what the row held. -/
theorem hpay_7 (x a : Vec Ideal S1x1024 .f32) (j : S1x1024.Idx) :
    k0_pay2 x a j = a j + x j := by
  pointwise [k0_pay2]

/-- The row of sums after the last point. -/
theorem final_7 (c : Dev nD) : (dats m 0 c).arrAt 7 (cfgs 0).N
    = val_main_v20 (F := Ideal) (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun p j => k0_pay7 (iblk m c 0 p) (iblk m c 1 p) (iblk m c 2 p) j)
    (fun t h j => by rw [outsAt0_A m c t h]; frame_out; rw [hpay_7, hzero_7])
    (fun t h j => by rw [outsAt0_B m c t h]; frame_out; rw [hpay_7])
    (le_of_eq N_0) t0_7 rfl j, zero_add]
  pointwise [k0_pay1, k0_pay2, k0_pay3, k0_pay4, k0_pay5, k0_pay6, k0_pay7, k0_pay8, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_v23, val_main_cst_4, val_main_v24, val_main_v25, val_main_v26, val_main_v27, val_main_v28, val_main_cst_5, val_main_v29, val_main_v30, val_main_cst_6, val_main_v31, val_main_v32, val_main_v33, val_main_v34, val_main_v35, val_main_v36, val_main_v37, val_main_v38]
  refine Fin.sum_mul_add_congr fun s k hl => Eq.trans (EReal.mul_comm _ _) ?_
  blk_point [iblk, V, idx s, idx t0_7]
end Cert.Proof.Dhm

end

end
-- ==== Proof.Claim.Dhm.lean ====
/- The claims about `Dhm`: the three frames, the idealization, and the equality with the reference. -/
module

public import proofs.«01_k».proof.Proof.Gen.Dhm.Frame
public import proofs.«01_k».proof.Proof.Gen.DhmIdeal.Frame
public import proofs.«01_k».proof.Proof.Gen.DhmRefIdeal.Run
public import proofs.«01_k».proof.Proof.Dhm
public import proofs.«01_k».proof.Defs
public import proofs.«01_k».proof.Proof.Gen.Pre_dhm_finite
public import proofs.«01_k».proof.Proof.Finite

@[expose] public section

noncomputable section

namespace Cert.Proof.Dhm

open Idealize.ShloMosaic Idealize.SL.Sem

theorem frameP : quiescent_Dhm (hDhm := Cert.Dhm.Gen.facts) := fun m ρ _ => Cert.Dhm.Gen.frame m ρ
theorem framePI : quiescent_DhmIdeal (hDhmIdeal := Cert.DhmIdeal.Gen.facts) := fun m ρ _ => Cert.DhmIdeal.Gen.frame m ρ
theorem frameRI : quiescent_DhmRefIdeal (hDhmRefIdeal := Cert.DhmRefIdeal.Gen.facts) := fun m ρ _ =>
  (θ_run Cert.DhmRefIdeal.defs _ _).mono (fun r h => ⟨fun c => (h c).2.2.2,
      Idealize.ShloMosaic.sem_eq_zero_of_no_sems (by decide) r.2⟩)
    (Cert.DhmRefIdeal.Value.run (F := Ideal) m ρ)
theorem pres : preserves_Dhm_DhmIdeal := trivial
theorem framePIpre : quiescent_DhmIdeal_pre_dhm_finite (hDhmIdeal := Cert.DhmIdeal.Gen.facts) (hPre_dhm_finite := Cert.Pre_dhm_finite.Gen.facts) :=
  fun m ρ _ => Cert.DhmIdeal.Gen.frame m ρ
theorem frameRIpre : quiescent_DhmRefIdeal_pre_dhm_finite (hDhmRefIdeal := Cert.DhmRefIdeal.Gen.facts) (hPre_dhm_finite := Cert.Pre_dhm_finite.Gen.facts) :=
  fun m ρ _ => frameRI m ρ trivial

section

set_option maxRecDepth 10000

attribute [local instance] Cert.Pre_dhm_finite.Gen.facts

theorem fin0 {a0 a1 a2 a3 a4} (h : (Cert.Pre_dhm_finite.fn (F := Ideal) a0 a1 a2 a3 a4).1 = fun _ => 1#1) : ∀ i, Arith.Fin' (a0 i) := by
  dsimp only [Cert.Pre_dhm_finite.fn] at h
  exact fun i => Arith.fin_of_test _ _ (fun _ => Arith.c_inf_bf16) _ _ _ ix0 (congrFun h ix0) i

theorem fin1 {a0 a1 a2 a3 a4} (h : (Cert.Pre_dhm_finite.fn (F := Ideal) a0 a1 a2 a3 a4).2.1 = fun _ => 1#1) : ∀ i, Arith.Fin' (a1 i) := by
  dsimp only [Cert.Pre_dhm_finite.fn] at h
  exact fun i => Arith.fin_of_test _ _ (fun _ => Arith.c_inf_bf16) _ _ _ ix0 (congrFun h ix0) i

theorem fin2 {a0 a1 a2 a3 a4} (h : (Cert.Pre_dhm_finite.fn (F := Ideal) a0 a1 a2 a3 a4).2.2.1 = fun _ => 1#1) : ∀ i, Arith.Fin' (a2 i) := by
  dsimp only [Cert.Pre_dhm_finite.fn] at h
  exact fun i => Arith.fin_of_test _ _ (fun _ => Arith.c_inf) _ _ _ ix0 (congrFun h ix0) i

theorem fin4 {a0 a1 a2 a3 a4} (h : (Cert.Pre_dhm_finite.fn (F := Ideal) a0 a1 a2 a3 a4).2.2.2 = fun _ => 1#1) : ∀ i, Arith.Fin' (a4 i) := by
  dsimp only [Cert.Pre_dhm_finite.fn] at h
  exact fun i => Arith.fin_of_test _ _ (fun _ => Arith.c_inf) _ _ _ ix0 (congrFun h ix0) i

end

set_option maxHeartbeats 4000000 in
set_option maxRecDepth 10000 in
/-- The arrays the kernel leaves are the reference's. -/
theorem value : algebraic_DhmIdeal_DhmRefIdeal_pre_dhm_finite (hDhmIdeal := Cert.DhmIdeal.Gen.facts) (hDhmRefIdeal := Cert.DhmRefIdeal.Gen.facts) (hPre_dhm_finite := Cert.Pre_dhm_finite.Gen.facts) := by
  pair_intro
  · run_from Cert.DhmIdeal.Gen.run_main m g
  · hlo_run
    · have h0 := fin0 (hpre c).1
      have h1 := fin1 (hpre c).2.1
      have h2 := fin2 (hpre c).2.2.1
      have h4 := fin4 (hpre c).2.2.2
      exact (final_5 m c h0 h1 h2 h4).symm
    · have h0 := fin0 (hpre c).1
      have h1 := fin1 (hpre c).2.1
      have h2 := fin2 (hpre c).2.2.1
      have h4 := fin4 (hpre c).2.2.2
      exact (final_6 m c h0 h1 h2 h4).symm
    · exact (final_7 m c).symm

end Cert.Proof.Dhm

end

end
-- ==== Proof.Do.lean ====
/- The gradient of the attention's output projection with respect to its input, rounded to bf16. -/
module

public import proofs.«01_k».proof.Proof.Gen.DoIdeal.Frame
public import proofs.«01_k».proof.Proof.Gen.DoRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Do

open Cert.DoIdeal Cert.DoIdeal.Gen
open Cert.DoRefIdeal.Read

variable (m : (ℓ : Loc nD τ sig) → Buf (Elt Ideal) ℓ)

/-- Every window's block at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the body stores into window 2, at an index of its block, is the reference at that index of the array. -/
theorem point_2 (c : Dev nD) (t : Fin cfg0.N) (y) :
    k0_pay1 (iblk m c 0 t) (iblk m c 1 t) y
      = val_main_v4 (F := Ideal) (m ((c : Thread nD τ).loc main_arg0)) (m ((c : Thread nD τ).loc main_arg1))
          (((cfg0.win 2).blk t).view.emb y) := by
  pointwise [k0_pay1, val_main_cst, val_main_v0, val_main_v1, val_main_v2, val_main_v3, val_main_v4]
  blk_point [iblk, V, idx t]

theorem final_2 (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

end Cert.Proof.Do

end

end
-- ==== Proof.Claim.Do.lean ====
/- The claims about `Do`: the three frames, the idealization, and the equality with the reference. -/
module

public import proofs.«01_k».proof.Proof.Gen.Do.Frame
public import proofs.«01_k».proof.Proof.Gen.DoIdeal.Frame
public import proofs.«01_k».proof.Proof.Gen.DoRefIdeal.Run
public import proofs.«01_k».proof.Proof.Do
public import proofs.«01_k».proof.Defs

@[expose] public section

noncomputable section

namespace Cert.Proof.Do

open Idealize.ShloMosaic Idealize.SL.Sem

theorem frameP : quiescent_Do (hDo := Cert.Do.Gen.facts) := fun m ρ _ => Cert.Do.Gen.frame m ρ
theorem framePI : quiescent_DoIdeal (hDoIdeal := Cert.DoIdeal.Gen.facts) := fun m ρ _ => Cert.DoIdeal.Gen.frame m ρ
theorem frameRI : quiescent_DoRefIdeal (hDoRefIdeal := Cert.DoRefIdeal.Gen.facts) := fun m ρ _ =>
  (θ_run Cert.DoRefIdeal.defs _ _).mono (fun r h => ⟨fun c => (h c).2,
      Idealize.ShloMosaic.sem_eq_zero_of_no_sems (by decide) r.2⟩)
    (Cert.DoRefIdeal.Value.run (F := Ideal) m ρ)
theorem pres : preserves_Do_DoIdeal := trivial

/-- The arrays the kernel leaves are the reference's. -/
theorem value : algebraic_DoIdeal_DoRefIdeal (hDoIdeal := Cert.DoIdeal.Gen.facts) (hDoRefIdeal := Cert.DoRefIdeal.Gen.facts) := by
  pair_intro
  · run_from Cert.DoIdeal.Gen.run_main m g
  · hlo_run
    exact (final_2 m c).symm

end Cert.Proof.Do

end

end
-- ==== Proof.Dinr.lean ====
/- The gradient of the input projection's weights, the columns of the recurrent branch. -/
module

public import proofs.«01_k».proof.Proof.Gen.DinrIdeal.Frame
public import proofs.«01_k».proof.Proof.Gen.DinrRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Dinr

open Cert.DinrIdeal Cert.DinrIdeal.Gen
open Cert.DinrRefIdeal.Read

variable (m : (ℓ : Loc nD τ sig) → Buf (Elt Ideal) ℓ)

/-- Every window's block at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0] :=
  (by decide +kernel : ∀ t : Fin grid0.N, _)

/-- The first point clears window 3. -/
theorem hzero_3 (j : S1024x1024.Idx) : k0_pay1 (F := Ideal) j = 0 := by
  pointwise! [k0_pay1]

/-- Every point adds its part of the contraction to what the block held. -/
theorem hpay_3 (v3 : Vec Ideal S1024x1024 .bf16) (v5 : Vec Ideal S1024x1024 .f32) (v7 : Vec Ideal S1024x1024 .bf16) (j : S1024x1024.Idx) :
    k0_pay4 v3 v5 v7 j = v5 j + k0_pay4 v3 (fun _ => 0) v7 j := by
  pointwise [k0_pay4]

theorem final_3 (c : Dev nD) : (dats m 0 c).arrAt 3 (cfgs 0).N
    = val_main_v8 (F := Ideal) (m ((c : Thread nD τ).loc main_arg0)) (m ((c : Thread nD τ).loc main_arg1)) := by
  refine (dats m 0 c).arrAt_eq_of_after_last 3 t0_3 (by decide +kernel) _ fun j => ?_
  blk_simp
  rw [after0_3, Pipeline.eq_sum_fin_of_reset_step_apply_last (fun n h => (outsAt0 m c n h).1) 4 (fun _ => 0) _
    (fun t h j => by rw [outsAt0_A m c t h]; frame_out; rw [hpay_3, hzero_3])
    (fun t h j => by rw [outsAt0_B m c t h]; frame_out; rw [hpay_3])
    (le_of_eq N_0) t0_3 rfl j, zero_add]
  pointwise [k0_pay1, k0_pay2, k0_pay3, k0_pay4, k0_pay5, val_main_cst, val_main_v0, val_main_v1, val_main_v2, val_main_v3, val_main_v4, val_main_v5, val_main_v6, val_main_v7, val_main_v8]
  refine Fin.sum_mul_add_congr fun s k hl => Eq.trans (EReal.mul_comm _ _) ?_
  blk_point [iblk, V, idx s, idx t0_3]

/-- The first point clears window 4. -/
theorem hzero_4 (j : S1024x1024.Idx) : k0_pay2 (F := Ideal) j = 0 := by
  pointwise! [k0_pay2]

/-- Every point adds its part of the contraction to what the block held. -/
theorem hpay_4 (v3 : Vec Ideal S1024x1024 .bf16) (v5 : Vec Ideal S1024x1024 .f32) (v7 : Vec Ideal S1024x1024 .bf16) (j : S1024x1024.Idx) :
    k0_pay5 v3 v5 v7 j = v5 j + k0_pay5 v3 (fun _ => 0) v7 j := by
  pointwise [k0_pay5]

theorem final_4 (c : Dev nD) : (dats m 0 c).arrAt 4 (cfgs 0).N
    = val_main_v6 (F := Ideal) (m ((c : Thread nD τ).loc main_arg0)) (m ((c : Thread nD τ).loc main_arg2)) := by
  refine (dats m 0 c).arrAt_eq_of_after_last 4 t0_3 (by decide +kernel) _ fun j => ?_
  blk_simp
  rw [after0_4, Pipeline.eq_sum_fin_of_reset_step_apply_last (fun n h => (outsAt0 m c n h).2) 4 (fun _ => 0) _
    (fun t h j => by rw [outsAt0_A m c t h]; frame_out; rw [hpay_4, hzero_4])
    (fun t h j => by rw [outsAt0_B m c t h]; frame_out; rw [hpay_4])
    (le_of_eq N_0) t0_3 rfl j, zero_add]
  pointwise [k0_pay1, k0_pay2, k0_pay3, k0_pay4, k0_pay5, val_main_cst, val_main_v0, val_main_v1, val_main_v2, val_main_v3, val_main_v4, val_main_v5, val_main_v6, val_main_v7, val_main_v8]
  refine Fin.sum_mul_add_congr fun s k hl => Eq.trans (EReal.mul_comm _ _) ?_
  blk_point [iblk, V, idx s, idx t0_3]

end Cert.Proof.Dinr

end

end
-- ==== Proof.Claim.Dinr.lean ====
/- The claims about `Dinr`: the three frames, the idealization, and the equality with the reference. -/
module

public import proofs.«01_k».proof.Proof.Gen.Dinr.Frame
public import proofs.«01_k».proof.Proof.Gen.DinrIdeal.Frame
public import proofs.«01_k».proof.Proof.Gen.DinrRefIdeal.Run
public import proofs.«01_k».proof.Proof.Dinr
public import proofs.«01_k».proof.Defs

@[expose] public section

noncomputable section

namespace Cert.Proof.Dinr

open Idealize.ShloMosaic Idealize.SL.Sem

theorem frameP : quiescent_Dinr (hDinr := Cert.Dinr.Gen.facts) := fun m ρ _ => Cert.Dinr.Gen.frame m ρ
theorem framePI : quiescent_DinrIdeal (hDinrIdeal := Cert.DinrIdeal.Gen.facts) := fun m ρ _ => Cert.DinrIdeal.Gen.frame m ρ
theorem frameRI : quiescent_DinrRefIdeal (hDinrRefIdeal := Cert.DinrRefIdeal.Gen.facts) := fun m ρ _ =>
  (θ_run Cert.DinrRefIdeal.defs _ _).mono (fun r h => ⟨fun c => (h c).2.2,
      Idealize.ShloMosaic.sem_eq_zero_of_no_sems (by decide) r.2⟩)
    (Cert.DinrRefIdeal.Value.run (F := Ideal) m ρ)
theorem pres : preserves_Dinr_DinrIdeal := trivial

/-- The arrays the kernel leaves are the reference's. -/
theorem value : algebraic_DinrIdeal_DinrRefIdeal (hDinrIdeal := Cert.DinrIdeal.Gen.facts) (hDinrRefIdeal := Cert.DinrRefIdeal.Gen.facts) := by
  pair_intro
  · run_from Cert.DinrIdeal.Gen.run_main m g
  · hlo_run
    · exact (final_3 m c).symm
    · exact (final_4 m c).symm

end Cert.Proof.Dinr

end

end
-- ==== Proof.Dina.lean ====
/- The gradient of the input projection's weights, the columns of the attention and of the two gates. -/
module

public import proofs.«01_k».proof.Proof.Gen.DinaIdeal.Frame
public import proofs.«01_k».proof.Proof.Gen.DinaRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Dina

open Cert.DinaIdeal Cert.DinaIdeal.Gen
open Cert.DinaRefIdeal.Read

variable (m : (ℓ : Loc nD τ sig) → Buf (Elt Ideal) ℓ)

/-- Every window's block at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0] :=
  (by decide +kernel : ∀ t : Fin grid0.N, _)

/-- The first point clears window 4. -/
theorem hzero_4 (j : S1024x1536.Idx) : k0_pay1 (F := Ideal) j = 0 := by
  pointwise! [k0_pay1]

/-- Every point adds its part of the contraction to what the block held. -/
theorem hpay_4 (v3 : Vec Ideal S512x1024 .bf16) (v5 : Vec Ideal S1024x1536 .f32) (v7 : Vec Ideal S512x1536 .bf16) (j : S1024x1536.Idx) :
    k0_pay5 v3 v5 v7 j = v5 j + k0_pay5 v3 (fun _ => 0) v7 j := by
  pointwise [k0_pay5]

theorem final_4 (c : Dev nD) : (dats m 0 c).arrAt 4 (cfgs 0).N
    = val_main_v13 (F := Ideal) (m ((c : Thread nD τ).loc main_arg0)) (m ((c : Thread nD τ).loc main_arg1)) := by
  refine (dats m 0 c).arrAt_eq_of_after_last 4 t0_7 (by decide +kernel) _ fun j => ?_
  blk_simp
  rw [after0_4, Pipeline.eq_sum_fin_of_reset_step_apply_last (fun n h => (outsAt0 m c n h).1) 8 (fun _ => 0) _
    (fun t h j => by rw [outsAt0_A m c t h]; frame_out; rw [hpay_4, hzero_4])
    (fun t h j => by rw [outsAt0_B m c t h]; frame_out; rw [hpay_4])
    (le_of_eq N_0) t0_7 rfl j, zero_add]
  pointwise [k0_pay1, k0_pay2, k0_pay3, k0_pay4, k0_pay5, k0_pay6, k0_pay7, val_main_cst, val_main_v0, val_main_cst_0, val_main_v1, val_main_v2, val_main_v3, val_main_v4, val_main_v5, val_main_v6, val_main_v7, val_main_v8, val_main_v9, val_main_v10, val_main_v11, val_main_v12, val_main_v13]
  refine Fin.sum_mul_add_congr fun s k hl => Eq.trans (EReal.mul_comm _ _) ?_
  blk_point [iblk, V, idx s, idx t0_7]

/-- The first point clears window 5. -/
theorem hzero_5 (j : S1024x1024.Idx) : k0_pay2 (F := Ideal) j = 0 := by
  pointwise! [k0_pay2]

/-- Every point adds its part of the contraction to what the block held. -/
theorem hpay_5 (v3 : Vec Ideal S512x1024 .bf16) (v5 : Vec Ideal S1024x1024 .f32) (v7 : Vec Ideal S512x1024 .bf16) (j : S1024x1024.Idx) :
    k0_pay6 v3 v5 v7 j = v5 j + k0_pay6 v3 (fun _ => 0) v7 j := by
  pointwise [k0_pay6]

theorem final_5 (c : Dev nD) : (dats m 0 c).arrAt 5 (cfgs 0).N
    = val_main_v11 (F := Ideal) (m ((c : Thread nD τ).loc main_arg0)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => 0) _
    (fun t h j => by rw [outsAt0_A m c t h]; frame_out; rw [hpay_5, hzero_5])
    (fun t h j => by rw [outsAt0_B m c t h]; frame_out; rw [hpay_5])
    (le_of_eq N_0) t0_7 rfl j, zero_add]
  pointwise [k0_pay1, k0_pay2, k0_pay3, k0_pay4, k0_pay5, k0_pay6, k0_pay7, val_main_cst, val_main_v0, val_main_cst_0, val_main_v1, val_main_v2, val_main_v3, val_main_v4, val_main_v5, val_main_v6, val_main_v7, val_main_v8, val_main_v9, val_main_v10, val_main_v11, val_main_v12, val_main_v13]
  refine Fin.sum_mul_add_congr fun s k hl => Eq.trans (EReal.mul_comm _ _) ?_
  blk_point [iblk, V, idx s, idx t0_7]

/-- The first point clears window 6. -/
theorem hzero_6 (j : S1024x1024.Idx) : k0_pay3 (F := Ideal) j = 0 := by
  pointwise! [k0_pay3]

/-- Every point adds its part of the contraction to what the block held. -/
theorem hpay_6 (v3 : Vec Ideal S512x1024 .bf16) (v5 : Vec Ideal S1024x1024 .f32) (v7 : Vec Ideal S512x1024 .bf16) (j : S1024x1024.Idx) :
    k0_pay7 v3 v5 v7 j = v5 j + k0_pay7 v3 (fun _ => 0) v7 j := by
  pointwise [k0_pay7]

theorem final_6 (c : Dev nD) : (dats m 0 c).arrAt 6 (cfgs 0).N
    = val_main_v9 (F := Ideal) (m ((c : Thread nD τ).loc main_arg0)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0) _
    (fun t h j => by rw [outsAt0_A m c t h]; frame_out; rw [hpay_6, hzero_6])
    (fun t h j => by rw [outsAt0_B m c t h]; frame_out; rw [hpay_6])
    (le_of_eq N_0) t0_7 rfl j, zero_add]
  pointwise [k0_pay1, k0_pay2, k0_pay3, k0_pay4, k0_pay5, k0_pay6, k0_pay7, val_main_cst, val_main_v0, val_main_cst_0, val_main_v1, val_main_v2, val_main_v3, val_main_v4, val_main_v5, val_main_v6, val_main_v7, val_main_v8, val_main_v9, val_main_v10, val_main_v11, val_main_v12, val_main_v13]
  refine Fin.sum_mul_add_congr fun s k hl => Eq.trans (EReal.mul_comm _ _) ?_
  blk_point [iblk, V, idx s, idx t0_7]

end Cert.Proof.Dina

end

end
-- ==== Proof.Claim.Dina.lean ====
/- The claims about `Dina`: the three frames, the idealization, and the equality with the reference. -/
module

public import proofs.«01_k».proof.Proof.Gen.Dina.Frame
public import proofs.«01_k».proof.Proof.Gen.DinaIdeal.Frame
public import proofs.«01_k».proof.Proof.Gen.DinaRefIdeal.Run
public import proofs.«01_k».proof.Proof.Dina
public import proofs.«01_k».proof.Defs

@[expose] public section

noncomputable section

namespace Cert.Proof.Dina

open Idealize.ShloMosaic Idealize.SL.Sem

theorem frameP : quiescent_Dina (hDina := Cert.Dina.Gen.facts) := fun m ρ _ => Cert.Dina.Gen.frame m ρ
theorem framePI : quiescent_DinaIdeal (hDinaIdeal := Cert.DinaIdeal.Gen.facts) := fun m ρ _ => Cert.DinaIdeal.Gen.frame m ρ
theorem frameRI : quiescent_DinaRefIdeal (hDinaRefIdeal := Cert.DinaRefIdeal.Gen.facts) := fun m ρ _ =>
  (θ_run Cert.DinaRefIdeal.defs _ _).mono (fun r h => ⟨fun c => (h c).2.2.2,
      Idealize.ShloMosaic.sem_eq_zero_of_no_sems (by decide) r.2⟩)
    (Cert.DinaRefIdeal.Value.run (F := Ideal) m ρ)
theorem pres : preserves_Dina_DinaIdeal := trivial

/-- The arrays the kernel leaves are the reference's. -/
theorem value : algebraic_DinaIdeal_DinaRefIdeal (hDinaIdeal := Cert.DinaIdeal.Gen.facts) (hDinaRefIdeal := Cert.DinaRefIdeal.Gen.facts) := by
  pair_intro
  · run_from Cert.DinaIdeal.Gen.run_main m g
  · hlo_run
    · exact (final_4 m c).symm
    · exact (final_5 m c).symm
    · exact (final_6 m c).symm

end Cert.Proof.Dina

end

end
-- ==== Proof.Dh.lean ====
/- The gradient through the input projection and the norm before it: the gradient of the step's input and of the norm's gain. -/
module

public import proofs.«01_k».proof.Proof.Gen.DhIdeal.Frame
public import proofs.«01_k».proof.Proof.Gen.DhRefIdeal.Read
public import Idealize.ShloMosaic.Lib.Pipeline.ValueKit
public import proofs.«01_k».proof.Proof.Arith
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Proof.Dh

open Cert.DhIdeal Cert.DhIdeal.Gen
open Cert.DhRefIdeal.Read

variable (m : (ℓ : Loc nD τ sig) → Buf (Elt Ideal) ℓ)

/-- Every window's block at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_7.index t = ![0, 0]
    ∧ win0_8.index t = ![0, 0]
    ∧ win0_9.index t = ![0, 1]
    ∧ win0_10.index t = ![t.val, 0]
    ∧ win0_11.index t = ![t.val, 0]
    ∧ win0_12.index t = ![0, 0]
    ∧ win0_13.index t = ![t.val, 0]
    ∧ win0_14.index t = ![0, 0] :=
  (by decide +kernel : ∀ t : Fin grid0.N, _)

theorem idx56 : ∀ t : Fin cfg0.N, win0_5.index t = ![0, 0] ∧ win0_6.index t = ![0, 1] :=
  (by decide +kernel : ∀ t : Fin grid0.N, _)

/-- Window 5 holds the columns 0 to 1024 of the weight. -/
theorem w5 (c : Dev nD) (t : Fin cfg0.N) (p : Fin 1024) (q : Fin 1024) :
    X0_5 m c t (ix2 p q) = m ((c : Thread nD τ).loc main_arg5) (ix2 p ⟨0 + q.val, by omega⟩) := by
  unfold X0_5 Pipeline.Window.fill
  rw [dif_pos (moved0_5 t _)]
  blk_point [iblk, V, idx t, idx56 t]

/-- Window 6 holds the columns 1024 to 2048 of the weight. -/
theorem w6 (c : Dev nD) (t : Fin cfg0.N) (p : Fin 1024) (q : Fin 1024) :
    X0_6 m c t (ix2 p q) = m ((c : Thread nD τ).loc main_arg5) (ix2 p ⟨1024 + q.val, by omega⟩) := by
  unfold X0_6 Pipeline.Window.fill
  rw [dif_pos (moved0_6 t _)]
  blk_point [iblk, V, idx t, idx56 t]

/-- Window 7 holds the columns 2048 to 3584 of the weight. -/
theorem w7 (c : Dev nD) (t : Fin cfg0.N) (p : Fin 1024) (q : Fin 1536) :
    iblk m c 7 t (ix2 p q) = m ((c : Thread nD τ).loc main_arg5) (ix2 p ⟨2048 + q.val, by omega⟩) := by
  blk_point [iblk, V, idx t, idx56 t]

/-- Window 8 holds the columns 3584 to 4608 of the weight. -/
theorem w8 (c : Dev nD) (t : Fin cfg0.N) (p : Fin 1024) (q : Fin 1024) :
    iblk m c 8 t (ix2 p q) = m ((c : Thread nD τ).loc main_arg5) (ix2 p ⟨3584 + q.val, by omega⟩) := by
  blk_point [iblk, V, idx t, idx56 t]

/-- Window 9 holds the columns 4608 to 5632 of the weight. -/
theorem w9 (c : Dev nD) (t : Fin cfg0.N) (p : Fin 1024) (q : Fin 1024) :
    iblk m c 9 t (ix2 p q) = m ((c : Thread nD τ).loc main_arg5) (ix2 p ⟨4608 + q.val, by omega⟩) := by
  blk_point [iblk, V, idx t, idx56 t]

theorem f5 (c : Dev nD) (t : Fin cfg0.N) : X0_5 m c t
    = fun j : S1024x1024.Idx => m ((c : Thread nD τ).loc main_arg5) (ix2 (j 0) ⟨0 + (j 1).val, Nat.lt_of_lt_of_le (Nat.add_lt_add_left (j 1).isLt _) (by decide)⟩) :=
  funext fun j : S1024x1024.Idx => (congrArg (X0_5 m c t) (ix2_eta j).symm).trans (w5 m c t (j 0) (j 1))

theorem f6 (c : Dev nD) (t : Fin cfg0.N) : X0_6 m c t
    = fun j : S1024x1024.Idx => m ((c : Thread nD τ).loc main_arg5) (ix2 (j 0) ⟨1024 + (j 1).val, Nat.lt_of_lt_of_le (Nat.add_lt_add_left (j 1).isLt _) (by decide)⟩) :=
  funext fun j : S1024x1024.Idx => (congrArg (X0_6 m c t) (ix2_eta j).symm).trans (w6 m c t (j 0) (j 1))

/-- What the body stores into window 13, at an index of its block, is the reference at that index of the array. -/
theorem point_13 (c : Dev nD) (h0 : ∀ i, Arith.Fin' (m ((c : Thread nD τ).loc main_arg0) i)) (h1 : ∀ i, Arith.Fin' (m ((c : Thread nD τ).loc main_arg1) i)) (h2 : ∀ i, Arith.Fin' (m ((c : Thread nD τ).loc main_arg2) i)) (h3 : ∀ i, Arith.Fin' (m ((c : Thread nD τ).loc main_arg3) i)) (h4 : ∀ i, Arith.Fin' (m ((c : Thread nD τ).loc main_arg4) i)) (h5 : ∀ i, Arith.Fin' (m ((c : Thread nD τ).loc main_arg5) i)) (h6 : ∀ i, Arith.Fin' (m ((c : Thread nD τ).loc main_arg6) i)) (h8 : ∀ i, Arith.Fin' (m ((c : Thread nD τ).loc main_arg8) i)) (t : Fin cfg0.N) (y) :
    k0_pay3 (k0_pay6 (iblk m c 0 t) (X0_5 m c t) (iblk m c 1 t) (X0_6 m c t) (iblk m c 2 t) (iblk m c 7 t) (iblk m c 3 t) (iblk m c 8 t) (iblk m c 4 t) (iblk m c 9 t)) (iblk m c 10 t) (iblk m c 11 t) (iblk m c 12 t) (k0_pay7 (iblk m c 10 t)) y
      = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (((cfg0.win 13).blk t).view.emb y) := by
  rw [f5, f6]
  pointwise [k0_pay1, k0_pay2, k0_pay3, k0_pay4, k0_pay5, k0_pay6, k0_pay7, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst_3, val_main_v40, val_main_v41, val_main_v42, val_main_v43, val_main_v44, val_main_cst_4, val_main_v45, val_main_v46, val_main_v47, val_main_v48, val_main_v49, val_main_cst_5, val_main_v50, val_main_v51, val_main_cst_6, val_main_v52, val_main_v53, val_main_v54, val_main_v55, val_main_v56, val_main_v57, val_main_v58]
  simp only [w7, w8, w9]
  refine Eq.trans (Arith.add_norm_bwd (h6 _) (Arith.fin_mul (Arith.fin_add (Arith.fin_add (Arith.fin_add (Arith.fin_add (Arith.fin_sum _ fun _ => Arith.fin_mul (h0 _) (h5 _)) (Arith.fin_sum _ fun _ => Arith.fin_mul (h1 _) (h5 _))) (Arith.fin_sum _ fun _ => Arith.fin_mul (h2 _) (h5 _))) (Arith.fin_sum _ fun _ => Arith.fin_mul (h3 _) (h5 _))) (Arith.fin_sum _ fun _ => Arith.fin_mul (h4 _) (h5 _))) (h8 _)) (fun _ => h6 _) fun _ => (Arith.fin_mul (Arith.fin_add (Arith.fin_add (Arith.fin_add (Arith.fin_add (Arith.fin_sum _ fun _ => Arith.fin_mul (h0 _) (h5 _)) (Arith.fin_sum _ fun _ => Arith.fin_mul (h1 _) (h5 _))) (Arith.fin_sum _ fun _ => Arith.fin_mul (h2 _) (h5 _))) (Arith.fin_sum _ fun _ => Arith.fin_mul (h3 _) (h5 _))) (Arith.fin_sum _ fun _ => Arith.fin_mul (h4 _) (h5 _))) (h8 _))) ?_
  blk_point [iblk, V, idx t]

theorem final_13 (c : Dev nD) (h0 : ∀ i, Arith.Fin' (m ((c : Thread nD τ).loc main_arg0) i)) (h1 : ∀ i, Arith.Fin' (m ((c : Thread nD τ).loc main_arg1) i)) (h2 : ∀ i, Arith.Fin' (m ((c : Thread nD τ).loc main_arg2) i)) (h3 : ∀ i, Arith.Fin' (m ((c : Thread nD τ).loc main_arg3) i)) (h4 : ∀ i, Arith.Fin' (m ((c : Thread nD τ).loc main_arg4) i)) (h5 : ∀ i, Arith.Fin' (m ((c : Thread nD τ).loc main_arg5) i)) (h6 : ∀ i, Arith.Fin' (m ((c : Thread nD τ).loc main_arg6) i)) (h8 : ∀ i, Arith.Fin' (m ((c : Thread nD τ).loc main_arg8) i)) : (dats m 0 c).arrAt 13 (cfgs 0).N
    = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp; rw [after0_13]
  by_cases h : t.val % 16 = 0
  · rw [outsAt0_A m c t h]; frame_out; exact point_13 m c h0 h1 h2 h3 h4 h5 h6 h8 t y
  · rw [outsAt0_B m c t h]; frame_out; exact point_13 m c h0 h1 h2 h3 h4 h5 h6 h8 t y

theorem final_14 (c : Dev nD) : (dats m 0 c).arrAt 14 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 14 t0_15 (by decide +kernel) _ fun j => ?_
  blk_simp
  rw [after0_14, Pipeline.eq_sum_fin_of_reset_step_apply_last (fun n h => (outsAt0 m c n h).2) 16 (fun _ => 0)
    (fun p j => k0_pay5 (k0_pay6 (iblk m c 0 p) (X0_5 m c p) (iblk m c 1 p) (X0_6 m c p) (iblk m c 2 p) (iblk m c 7 p) (iblk m c 3 p) (iblk m c 8 p) (iblk m c 4 p) (iblk m c 9 p)) (iblk m c 10 p) (k0_pay7 (iblk m c 10 p)) (fun _ => 0) j)
    (fun t h j => by rw [outsAt0_A m c t h]; frame_out; pointwise [k0_pay1, k0_pay2, k0_pay3, k0_pay4, k0_pay5, k0_pay6, k0_pay7])
    (fun t h j => by rw [outsAt0_B m c t h]; frame_out; pointwise [k0_pay1, k0_pay2, k0_pay3, k0_pay4, k0_pay5, k0_pay6, k0_pay7])
    (le_of_eq N_0) t0_15 rfl j, zero_add]
  simp only [f5, f6]
  pointwise [k0_pay1, k0_pay2, k0_pay3, k0_pay4, k0_pay5, k0_pay6, k0_pay7, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst_3, val_main_v40, val_main_v41, val_main_v42, val_main_v43, val_main_v44, val_main_cst_4, val_main_v45, val_main_v46, val_main_v47, val_main_v48, val_main_v49, val_main_cst_5, val_main_v50, val_main_v51, val_main_cst_6, val_main_v52, val_main_v53, val_main_v54, val_main_v55, val_main_v56, val_main_v57, val_main_v58]
  refine Fin.sum_mul_add_congr fun s k hl => Eq.trans (EReal.mul_comm _ _) ?_
  blk_point [iblk, V, idx s, idx t0_15]

end Cert.Proof.Dh

end

end
-- ==== Proof.Claim.Dh.lean ====
/- The claims about `Dh`: the three frames, the idealization, and the equality with the reference. -/
module

public import proofs.«01_k».proof.Proof.Gen.Dh.Frame
public import proofs.«01_k».proof.Proof.Gen.DhIdeal.Frame
public import proofs.«01_k».proof.Proof.Gen.DhRefIdeal.Run
public import proofs.«01_k».proof.Proof.Dh
public import proofs.«01_k».proof.Defs
public import proofs.«01_k».proof.Proof.Gen.Pre_dh_finite
public import proofs.«01_k».proof.Proof.Finite

@[expose] public section

noncomputable section

namespace Cert.Proof.Dh

open Idealize.ShloMosaic Idealize.SL.Sem

theorem frameP : quiescent_Dh (hDh := Cert.Dh.Gen.facts) := fun m ρ _ => Cert.Dh.Gen.frame m ρ
theorem framePI : quiescent_DhIdeal (hDhIdeal := Cert.DhIdeal.Gen.facts) := fun m ρ _ => Cert.DhIdeal.Gen.frame m ρ
theorem frameRI : quiescent_DhRefIdeal (hDhRefIdeal := Cert.DhRefIdeal.Gen.facts) := fun m ρ _ =>
  (θ_run Cert.DhRefIdeal.defs _ _).mono (fun r h => ⟨fun c => (h c).2.2,
      Idealize.ShloMosaic.sem_eq_zero_of_no_sems (by decide) r.2⟩)
    (Cert.DhRefIdeal.Value.run (F := Ideal) m ρ)
theorem pres : preserves_Dh_DhIdeal := trivial
theorem framePIpre : quiescent_DhIdeal_pre_dh_finite (hDhIdeal := Cert.DhIdeal.Gen.facts) (hPre_dh_finite := Cert.Pre_dh_finite.Gen.facts) :=
  fun m ρ _ => Cert.DhIdeal.Gen.frame m ρ
theorem frameRIpre : quiescent_DhRefIdeal_pre_dh_finite (hDhRefIdeal := Cert.DhRefIdeal.Gen.facts) (hPre_dh_finite := Cert.Pre_dh_finite.Gen.facts) :=
  fun m ρ _ => frameRI m ρ trivial

section

set_option maxRecDepth 10000

attribute [local instance] Cert.Pre_dh_finite.Gen.facts

theorem fin0 {a0 a1 a2 a3 a4 a5 a6 a7 a8} (h : (Cert.Pre_dh_finite.fn (F := Ideal) a0 a1 a2 a3 a4 a5 a6 a7 a8).1 = fun _ => 1#1) : ∀ i, Arith.Fin' (a0 i) := by
  dsimp only [Cert.Pre_dh_finite.fn, Cert.Pre_dh_finite.fn_part1] at h
  exact fun i => Arith.fin_of_test _ _ (fun _ => Arith.c_inf_bf16) _ _ _ ix0 (congrFun h ix0) i

theorem fin1 {a0 a1 a2 a3 a4 a5 a6 a7 a8} (h : (Cert.Pre_dh_finite.fn (F := Ideal) a0 a1 a2 a3 a4 a5 a6 a7 a8).2.1 = fun _ => 1#1) : ∀ i, Arith.Fin' (a1 i) := by
  dsimp only [Cert.Pre_dh_finite.fn, Cert.Pre_dh_finite.fn_part1] at h
  exact fun i => Arith.fin_of_test _ _ (fun _ => Arith.c_inf_bf16) _ _ _ ix0 (congrFun h ix0) i

theorem fin2 {a0 a1 a2 a3 a4 a5 a6 a7 a8} (h : (Cert.Pre_dh_finite.fn (F := Ideal) a0 a1 a2 a3 a4 a5 a6 a7 a8).2.2.1 = fun _ => 1#1) : ∀ i, Arith.Fin' (a2 i) := by
  dsimp only [Cert.Pre_dh_finite.fn, Cert.Pre_dh_finite.fn_part1] at h
  exact fun i => Arith.fin_of_test _ _ (fun _ => Arith.c_inf_bf16) _ _ _ ix0 (congrFun h ix0) i

theorem fin3 {a0 a1 a2 a3 a4 a5 a6 a7 a8} (h : (Cert.Pre_dh_finite.fn (F := Ideal) a0 a1 a2 a3 a4 a5 a6 a7 a8).2.2.2.1 = fun _ => 1#1) : ∀ i, Arith.Fin' (a3 i) := by
  dsimp only [Cert.Pre_dh_finite.fn, Cert.Pre_dh_finite.fn_part1] at h
  exact fun i => Arith.fin_of_test _ _ (fun _ => Arith.c_inf_bf16) _ _ _ ix0 (congrFun h ix0) i

theorem fin4 {a0 a1 a2 a3 a4 a5 a6 a7 a8} (h : (Cert.Pre_dh_finite.fn (F := Ideal) a0 a1 a2 a3 a4 a5 a6 a7 a8).2.2.2.2.1 = fun _ => 1#1) : ∀ i, Arith.Fin' (a4 i) := by
  dsimp only [Cert.Pre_dh_finite.fn, Cert.Pre_dh_finite.fn_part1] at h
  exact fun i => Arith.fin_of_test _ _ (fun _ => Arith.c_inf_bf16) _ _ _ ix0 (congrFun h ix0) i

theorem fin5 {a0 a1 a2 a3 a4 a5 a6 a7 a8} (h : (Cert.Pre_dh_finite.fn (F := Ideal) a0 a1 a2 a3 a4 a5 a6 a7 a8).2.2.2.2.2.1 = fun _ => 1#1) : ∀ i, Arith.Fin' (a5 i) := by
  dsimp only [Cert.Pre_dh_finite.fn, Cert.Pre_dh_finite.fn_part1] at h
  exact fun i => Arith.fin_of_test _ _ (fun _ => Arith.c_inf_bf16) _ _ _ ix0 (congrFun h ix0) i

theorem fin6 {a0 a1 a2 a3 a4 a5 a6 a7 a8} (h : (Cert.Pre_dh_finite.fn (F := Ideal) a0 a1 a2 a3 a4 a5 a6 a7 a8).2.2.2.2.2.2.1 = fun _ => 1#1) : ∀ i, Arith.Fin' (a6 i) := by
  dsimp only [Cert.Pre_dh_finite.fn, Cert.Pre_dh_finite.fn_part1] at h
  exact fun i => Arith.fin_of_test _ _ (fun _ => Arith.c_inf) _ _ _ ix0 (congrFun h ix0) i

theorem fin8 {a0 a1 a2 a3 a4 a5 a6 a7 a8} (h : (Cert.Pre_dh_finite.fn (F := Ideal) a0 a1 a2 a3 a4 a5 a6 a7 a8).2.2.2.2.2.2.2 = fun _ => 1#1) : ∀ i, Arith.Fin' (a8 i) := by
  dsimp only [Cert.Pre_dh_finite.fn, Cert.Pre_dh_finite.fn_part1] at h
  exact fun i => Arith.fin_of_test _ _ (fun _ => Arith.c_inf) _ _ _ ix0 (congrFun h ix0) i

end

set_option maxHeartbeats 4000000 in
set_option maxRecDepth 10000 in
/-- The arrays the kernel leaves are the reference's. -/
theorem value : algebraic_DhIdeal_DhRefIdeal_pre_dh_finite (hDhIdeal := Cert.DhIdeal.Gen.facts) (hDhRefIdeal := Cert.DhRefIdeal.Gen.facts) (hPre_dh_finite := Cert.Pre_dh_finite.Gen.facts) := by
  pair_intro
  · run_from Cert.DhIdeal.Gen.run_main m g
  · hlo_run
    · have h0 := fin0 (hpre c).1
      have h1 := fin1 (hpre c).2.1
      have h2 := fin2 (hpre c).2.2.1
      have h3 := fin3 (hpre c).2.2.2.1
      have h4 := fin4 (hpre c).2.2.2.2.1
      have h5 := fin5 (hpre c).2.2.2.2.2.1
      have h6 := fin6 (hpre c).2.2.2.2.2.2.1
      have h8 := fin8 (hpre c).2.2.2.2.2.2.2
      exact (final_13 m c h0 h1 h2 h3 h4 h5 h6 h8).symm
    · exact (final_14 m c).symm

end Cert.Proof.Dh

end

end
-- ==== Proof.Fya.lean ====
/- The recurrent branch's output projection. -/
module

public import proofs.«01_k».proof.Proof.Gen.FyaIdeal.Frame
public import proofs.«01_k».proof.Proof.Gen.FyaRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Fya

open Cert.FyaIdeal Cert.FyaIdeal.Gen
open Cert.FyaRefIdeal.Read

variable (m : (ℓ : Loc nD τ sig) → Buf (Elt Ideal) ℓ)

/-- Every window's block at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the body stores into window 2, at an index of its block, is the reference at that index of the array. -/
theorem point_2 (c : Dev nD) (t : Fin cfg0.N) (y) :
    k0_pay1 (iblk m c 0 t) (iblk m c 1 t) y
      = val_main_v0 (F := Ideal) (m ((c : Thread nD τ).loc main_arg0)) (m ((c : Thread nD τ).loc main_arg1))
          (((cfg0.win 2).blk t).view.emb y) := by
  pointwise [k0_pay1, val_main_v0]
  blk_point [iblk, V, idx t]

theorem final_2 (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

end Cert.Proof.Fya

end

end
-- ==== Proof.Claim.Fya.lean ====
/- The claims about `Fya`: the three frames, the idealization, and the equality with the reference. -/
module

public import proofs.«01_k».proof.Proof.Gen.Fya.Frame
public import proofs.«01_k».proof.Proof.Gen.FyaIdeal.Frame
public import proofs.«01_k».proof.Proof.Gen.FyaRefIdeal.Run
public import proofs.«01_k».proof.Proof.Fya
public import proofs.«01_k».proof.Defs

@[expose] public section

noncomputable section

namespace Cert.Proof.Fya

open Idealize.ShloMosaic Idealize.SL.Sem

theorem frameP : quiescent_Fya (hFya := Cert.Fya.Gen.facts) := fun m ρ _ => Cert.Fya.Gen.frame m ρ
theorem framePI : quiescent_FyaIdeal (hFyaIdeal := Cert.FyaIdeal.Gen.facts) := fun m ρ _ => Cert.FyaIdeal.Gen.frame m ρ
theorem frameRI : quiescent_FyaRefIdeal (hFyaRefIdeal := Cert.FyaRefIdeal.Gen.facts) := fun m ρ _ =>
  (θ_run Cert.FyaRefIdeal.defs _ _).mono (fun r h => ⟨fun c => (h c).2,
      Idealize.ShloMosaic.sem_eq_zero_of_no_sems (by decide) r.2⟩)
    (Cert.FyaRefIdeal.Value.run (F := Ideal) m ρ)
theorem pres : preserves_Fya_FyaIdeal := trivial

/-- The arrays the kernel leaves are the reference's. -/
theorem value : algebraic_FyaIdeal_FyaRefIdeal (hFyaIdeal := Cert.FyaIdeal.Gen.facts) (hFyaRefIdeal := Cert.FyaRefIdeal.Gen.facts) := by
  pair_intro
  · run_from Cert.FyaIdeal.Gen.run_main m g
  · hlo_run
    exact (final_2 m c).symm

end Cert.Proof.Fya

end

end
-- ==== Proof.Fyb.lean ====
/- The attention's output projection, and the merge of the two branches by their gates. -/
module

public import proofs.«01_k».proof.Proof.Gen.FybIdeal.Frame
public import proofs.«01_k».proof.Proof.Gen.FybRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Fyb

open Cert.FybIdeal Cert.FybIdeal.Gen
open Cert.FybRefIdeal.Read

variable (m : (ℓ : Loc nD τ sig) → Buf (Elt Ideal) ℓ)

/-- Every window's block at every grid point. -/
theorem idx : ∀ t : Fin cfg0.N, win0_0.index t = ![t.val / 2, 0]
    ∧ win0_1.index t = ![0, t.val % 2]
    ∧ win0_2.index t = ![t.val / 2, 7 + (t.val % 2)]
    ∧ win0_3.index t = ![t.val / 2, 9 + (t.val % 2)]
    ∧ win0_4.index t = ![t.val / 2, t.val % 2]
    ∧ win0_5.index t = ![t.val / 2, t.val % 2]
    ∧ win0_6.index t = ![t.val / 2, t.val % 2] :=
  (by decide +kernel : ∀ t : Fin grid0.N, _)

/-- What the body stores into window 5, at an index of its block, is the reference at that index of the array. -/
theorem point_5 (c : Dev nD) (t : Fin cfg0.N) (y) :
    k0_pay1 (iblk m c 0 t) (iblk m c 1 t) y
      = val_main_v0 (F := Ideal) (m ((c : Thread nD τ).loc main_arg0)) (m ((c : Thread nD τ).loc main_arg1))
          (((cfg0.win 5).blk t).view.emb y) := by
  pointwise [k0_pay1, k0_pay2, val_main_v0, val_main_v1, val_main_v2, val_main_v3, val_main_cst, val_main_v4, val_main_v5, val_main_cst_0, val_main_v6, val_main_v7, val_main_v8, val_main_v9, val_main_v10, val_main_v11, val_main_cst_1, val_main_v12, val_main_v13, val_main_cst_2, val_main_v14, val_main_v15, val_main_v16, val_main_v17, val_main_v18]
  blk_point [iblk, V, idx t]

theorem final_5 (c : Dev nD) : (dats m 0 c).arrAt 5 (cfgs 0).N
    = val_main_v0 (F := Ideal) (m ((c : Thread nD τ).loc main_arg0)) (m ((c : Thread nD τ).loc main_arg1)) := by
  refine (dats m 0 c).arrAt_eq_of_covers 5 _ (by decide +kernel) fun t hf y => ?_
  blk_simp; rw [after0_5]; frame_out
  exact point_5 m c t y

/-- What the body stores into window 6, at an index of its block, is the reference at that index of the array. -/
theorem point_6 (c : Dev nD) (t : Fin cfg0.N) (y) :
    k0_pay2 (iblk m c 0 t) (iblk m c 1 t) (iblk m c 2 t) (iblk m c 3 t) (iblk m c 4 t) y
      = val_main_v18 (F := Ideal) (m ((c : Thread nD τ).loc main_arg0)) (m ((c : Thread nD τ).loc main_arg1)) (m ((c : Thread nD τ).loc main_arg2)) (m ((c : Thread nD τ).loc main_arg3))
          (((cfg0.win 6).blk t).view.emb y) := by
  pointwise [k0_pay1, k0_pay2, val_main_v0, val_main_v1, val_main_v2, val_main_v3, val_main_cst, val_main_v4, val_main_v5, val_main_cst_0, val_main_v6, val_main_v7, val_main_v8, val_main_v9, val_main_v10, val_main_v11, val_main_cst_1, val_main_v12, val_main_v13, val_main_cst_2, val_main_v14, val_main_v15, val_main_v16, val_main_v17, val_main_v18]
  rw [Arith.sig_eq, Arith.sig_eq]
  blk_point [iblk, V, idx t]

theorem final_6 (c : Dev nD) : (dats m 0 c).arrAt 6 (cfgs 0).N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]; frame_out
  exact point_6 m c t y

end Cert.Proof.Fyb

end

end
-- ==== Proof.Claim.Fyb.lean ====
/- The claims about `Fyb`: the three frames, the idealization, and the equality with the reference. -/
module

public import proofs.«01_k».proof.Proof.Gen.Fyb.Frame
public import proofs.«01_k».proof.Proof.Gen.FybIdeal.Frame
public import proofs.«01_k».proof.Proof.Gen.FybRefIdeal.Run
public import proofs.«01_k».proof.Proof.Fyb
public import proofs.«01_k».proof.Defs

@[expose] public section

noncomputable section

namespace Cert.Proof.Fyb

open Idealize.ShloMosaic Idealize.SL.Sem

theorem frameP : quiescent_Fyb (hFyb := Cert.Fyb.Gen.facts) := fun m ρ _ => Cert.Fyb.Gen.frame m ρ
theorem framePI : quiescent_FybIdeal (hFybIdeal := Cert.FybIdeal.Gen.facts) := fun m ρ _ => Cert.FybIdeal.Gen.frame m ρ
theorem frameRI : quiescent_FybRefIdeal (hFybRefIdeal := Cert.FybRefIdeal.Gen.facts) := fun m ρ _ =>
  (θ_run Cert.FybRefIdeal.defs _ _).mono (fun r h => ⟨fun c => (h c).2.2,
      Idealize.ShloMosaic.sem_eq_zero_of_no_sems (by decide) r.2⟩)
    (Cert.FybRefIdeal.Value.run (F := Ideal) m ρ)
theorem pres : preserves_Fyb_FybIdeal := trivial

/-- The arrays the kernel leaves are the reference's. -/
theorem value : algebraic_FybIdeal_FybRefIdeal (hFybIdeal := Cert.FybIdeal.Gen.facts) (hFybRefIdeal := Cert.FybRefIdeal.Gen.facts) := by
  pair_intro
  · run_from Cert.FybIdeal.Gen.run_main m g
  · hlo_run
    · exact (final_5 m c).symm
    · exact (final_6 m c).symm

end Cert.Proof.Fyb

end

end
-- ==== Proof.Fx1.lean ====
/- The output projection added to the residual stream, and the norm of the sum. -/
module

public import proofs.«01_k».proof.Proof.Gen.Fx1Ideal.Frame
public import proofs.«01_k».proof.Proof.Gen.Fx1RefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Fx1

open Cert.Fx1Ideal Cert.Fx1Ideal.Gen
open Cert.Fx1RefIdeal.Read

variable (m : (ℓ : Loc nD τ sig) → Buf (Elt Ideal) ℓ)

/-- Every window's block at every grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- What the body stores into window 4, at an index of its block, is the reference at that index of the array. -/
theorem point_4 (c : Dev nD) (t : Fin cfg0.N) (y) :
    k0_pay1 (iblk m c 0 t) (iblk m c 1 t) (iblk m c 2 t) y
      = val_main_v1 (F := Ideal) (m ((c : Thread nD τ).loc main_arg0)) (m ((c : Thread nD τ).loc main_arg1)) (m ((c : Thread nD τ).loc main_arg2))
          (((cfg0.win 4).blk t).view.emb y) := by
  pointwise [k0_pay1, k0_pay2, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  blk_point [iblk, V, idx t]

theorem final_4 (c : Dev nD) : (dats m 0 c).arrAt 4 (cfgs 0).N
    = val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_4 m c t y

/-- What the body stores into window 5, at an index of its block, is the reference at that index of the array. -/
theorem point_5 (c : Dev nD) (t : Fin cfg0.N) (y) :
    k0_pay2 (iblk m c 0 t) (iblk m c 1 t) (iblk m c 2 t) (iblk m c 3 t) y
      = val_main_v14 (F := Ideal) (m ((c : Thread nD τ).loc main_arg0)) (m ((c : Thread nD τ).loc main_arg1)) (m ((c : Thread nD τ).loc main_arg2)) (m ((c : Thread nD τ).loc main_arg3))
          (((cfg0.win 5).blk t).view.emb y) := by
  pointwise [k0_pay1, k0_pay2, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  blk_point [iblk, V, idx t]

theorem final_5 (c : Dev nD) : (dats m 0 c).arrAt 5 (cfgs 0).N
    = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

end Cert.Proof.Fx1

end

end
-- ==== Proof.Claim.Fx1.lean ====
/- The claims about `Fx1`: the three frames, the idealization, and the equality with the reference. -/
module

public import proofs.«01_k».proof.Proof.Gen.Fx1.Frame
public import proofs.«01_k».proof.Proof.Gen.Fx1Ideal.Frame
public import proofs.«01_k».proof.Proof.Gen.Fx1RefIdeal.Run
public import proofs.«01_k».proof.Proof.Fx1
public import proofs.«01_k».proof.Defs

@[expose] public section

noncomputable section

namespace Cert.Proof.Fx1

open Idealize.ShloMosaic Idealize.SL.Sem

theorem frameP : quiescent_Fx1 (hFx1 := Cert.Fx1.Gen.facts) := fun m ρ _ => Cert.Fx1.Gen.frame m ρ
theorem framePI : quiescent_Fx1Ideal (hFx1Ideal := Cert.Fx1Ideal.Gen.facts) := fun m ρ _ => Cert.Fx1Ideal.Gen.frame m ρ
theorem frameRI : quiescent_Fx1RefIdeal (hFx1RefIdeal := Cert.Fx1RefIdeal.Gen.facts) := fun m ρ _ =>
  (θ_run Cert.Fx1RefIdeal.defs _ _).mono (fun r h => ⟨fun c => (h c).2.2,
      Idealize.ShloMosaic.sem_eq_zero_of_no_sems (by decide) r.2⟩)
    (Cert.Fx1RefIdeal.Value.run (F := Ideal) m ρ)
theorem pres : preserves_Fx1_Fx1Ideal := trivial

/-- The arrays the kernel leaves are the reference's. -/
theorem value : algebraic_Fx1Ideal_Fx1RefIdeal (hFx1Ideal := Cert.Fx1Ideal.Gen.facts) (hFx1RefIdeal := Cert.Fx1RefIdeal.Gen.facts) := by
  pair_intro
  · run_from Cert.Fx1Ideal.Gen.run_main m g
  · hlo_run
    · exact (final_4 m c).symm
    · exact (final_5 m c).symm

end Cert.Proof.Fx1

end

end
-- ==== Proof.Fact.lean ====
/- The up projection and its squared rectifier. -/
module

public import proofs.«01_k».proof.Proof.Gen.FactIdeal.Frame
public import proofs.«01_k».proof.Proof.Gen.FactRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Fact

open Cert.FactIdeal Cert.FactIdeal.Gen
open Cert.FactRefIdeal.Read

variable (m : (ℓ : Loc nD τ sig) → Buf (Elt Ideal) ℓ)

/-- Every window's block at every grid point. -/
theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- What the body stores into window 2, at an index of its block, is the reference at that index of the array. -/
theorem point_2 (c : Dev nD) (t : Fin cfg0.N) (y) :
    k0_pay1 (iblk m c 0 t) (iblk m c 1 t) y
      = val_main_v3 (F := Ideal) (m ((c : Thread nD τ).loc main_arg0)) (m ((c : Thread nD τ).loc main_arg1))
          (((cfg0.win 2).blk t).view.emb y) := by
  pointwise [k0_pay1, val_main_v0, val_main_call0_cst, val_main_call0_v0, val_main_v1, val_main_v2, val_main_v3]
  blk_point [iblk, V, idx t]

theorem final_2 (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

end Cert.Proof.Fact

end

end
-- ==== Proof.Claim.Fact.lean ====
/- The claims about `Fact`: the three frames, the idealization, and the equality with the reference. -/
module

public import proofs.«01_k».proof.Proof.Gen.Fact.Frame
public import proofs.«01_k».proof.Proof.Gen.FactIdeal.Frame
public import proofs.«01_k».proof.Proof.Gen.FactRefIdeal.Run
public import proofs.«01_k».proof.Proof.Fact
public import proofs.«01_k».proof.Defs

@[expose] public section

noncomputable section

namespace Cert.Proof.Fact

open Idealize.ShloMosaic Idealize.SL.Sem

theorem frameP : quiescent_Fact (hFact := Cert.Fact.Gen.facts) := fun m ρ _ => Cert.Fact.Gen.frame m ρ
theorem framePI : quiescent_FactIdeal (hFactIdeal := Cert.FactIdeal.Gen.facts) := fun m ρ _ => Cert.FactIdeal.Gen.frame m ρ
theorem frameRI : quiescent_FactRefIdeal (hFactRefIdeal := Cert.FactRefIdeal.Gen.facts) := fun m ρ _ =>
  (θ_run Cert.FactRefIdeal.defs _ _).mono (fun r h => ⟨fun c => (h c).2,
      Idealize.ShloMosaic.sem_eq_zero_of_no_sems (by decide) r.2⟩)
    (Cert.FactRefIdeal.Value.run (F := Ideal) m ρ)
theorem pres : preserves_Fact_FactIdeal := trivial

/-- The arrays the kernel leaves are the reference's. -/
theorem value : algebraic_FactIdeal_FactRefIdeal (hFactIdeal := Cert.FactIdeal.Gen.facts) (hFactRefIdeal := Cert.FactRefIdeal.Gen.facts) := by
  pair_intro
  · run_from Cert.FactIdeal.Gen.run_main m g
  · hlo_run
    exact (final_2 m c).symm

end Cert.Proof.Fact

end

end
-- ==== Proof.Fx2.lean ====
/- The down projection added to the residual stream, and the norm of the sum. -/
module

public import proofs.«01_k».proof.Proof.Gen.Fx2Ideal.Frame
public import proofs.«01_k».proof.Proof.Gen.Fx2RefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Fx2

open Cert.Fx2Ideal Cert.Fx2Ideal.Gen
open Cert.Fx2RefIdeal.Read

variable (m : (ℓ : Loc nD τ sig) → Buf (Elt Ideal) ℓ)

/-- Every window's block at every grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- What the body stores into window 4, at an index of its block, is the reference at that index of the array. -/
theorem point_4 (c : Dev nD) (t : Fin cfg0.N) (y) :
    k0_pay1 (iblk m c 0 t) (iblk m c 1 t) (iblk m c 2 t) y
      = val_main_v1 (F := Ideal) (m ((c : Thread nD τ).loc main_arg0)) (m ((c : Thread nD τ).loc main_arg1)) (m ((c : Thread nD τ).loc main_arg2))
          (((cfg0.win 4).blk t).view.emb y) := by
  pointwise [k0_pay1, k0_pay2, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  blk_point [iblk, V, idx t]

theorem final_4 (c : Dev nD) : (dats m 0 c).arrAt 4 (cfgs 0).N
    = val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_4 m c t y

/-- What the body stores into window 5, at an index of its block, is the reference at that index of the array. -/
theorem point_5 (c : Dev nD) (t : Fin cfg0.N) (y) :
    k0_pay2 (iblk m c 0 t) (iblk m c 1 t) (iblk m c 2 t) (iblk m c 3 t) y
      = val_main_v14 (F := Ideal) (m ((c : Thread nD τ).loc main_arg0)) (m ((c : Thread nD τ).loc main_arg1)) (m ((c : Thread nD τ).loc main_arg2)) (m ((c : Thread nD τ).loc main_arg3))
          (((cfg0.win 5).blk t).view.emb y) := by
  pointwise [k0_pay1, k0_pay2, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  blk_point [iblk, V, idx t]

theorem final_5 (c : Dev nD) : (dats m 0 c).arrAt 5 (cfgs 0).N
    = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

end Cert.Proof.Fx2

end

end
-- ==== Proof.Claim.Fx2.lean ====
/- The claims about `Fx2`: the three frames, the idealization, and the equality with the reference. -/
module

public import proofs.«01_k».proof.Proof.Gen.Fx2.Frame
public import proofs.«01_k».proof.Proof.Gen.Fx2Ideal.Frame
public import proofs.«01_k».proof.Proof.Gen.Fx2RefIdeal.Run
public import proofs.«01_k».proof.Proof.Fx2
public import proofs.«01_k».proof.Defs

@[expose] public section

noncomputable section

namespace Cert.Proof.Fx2

open Idealize.ShloMosaic Idealize.SL.Sem

theorem frameP : quiescent_Fx2 (hFx2 := Cert.Fx2.Gen.facts) := fun m ρ _ => Cert.Fx2.Gen.frame m ρ
theorem framePI : quiescent_Fx2Ideal (hFx2Ideal := Cert.Fx2Ideal.Gen.facts) := fun m ρ _ => Cert.Fx2Ideal.Gen.frame m ρ
theorem frameRI : quiescent_Fx2RefIdeal (hFx2RefIdeal := Cert.Fx2RefIdeal.Gen.facts) := fun m ρ _ =>
  (θ_run Cert.Fx2RefIdeal.defs _ _).mono (fun r h => ⟨fun c => (h c).2.2,
      Idealize.ShloMosaic.sem_eq_zero_of_no_sems (by decide) r.2⟩)
    (Cert.Fx2RefIdeal.Value.run (F := Ideal) m ρ)
theorem pres : preserves_Fx2_Fx2Ideal := trivial

/-- The arrays the kernel leaves are the reference's. -/
theorem value : algebraic_Fx2Ideal_Fx2RefIdeal (hFx2Ideal := Cert.Fx2Ideal.Gen.facts) (hFx2RefIdeal := Cert.Fx2RefIdeal.Gen.facts) := by
  pair_intro
  · run_from Cert.Fx2Ideal.Gen.run_main m g
  · hlo_run
    · exact (final_4 m c).symm
    · exact (final_5 m c).symm

end Cert.Proof.Fx2

end

end
-- ==== Proof.Fe.lean ====
/- The projection of the per-layer embedding. -/
module

public import proofs.«01_k».proof.Proof.Gen.FeIdeal.Frame
public import proofs.«01_k».proof.Proof.Gen.FeRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Fe

open Cert.FeIdeal Cert.FeIdeal.Gen
open Cert.FeRefIdeal.Read

variable (m : (ℓ : Loc nD τ sig) → Buf (Elt Ideal) ℓ)

/-- Every window's block at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the body stores into window 2, at an index of its block, is the reference at that index of the array. -/
theorem point_2 (c : Dev nD) (t : Fin cfg0.N) (y) :
    k0_pay1 (iblk m c 0 t) (iblk m c 1 t) y
      = val_main_v0 (F := Ideal) (m ((c : Thread nD τ).loc main_arg0)) (m ((c : Thread nD τ).loc main_arg1))
          (((cfg0.win 2).blk t).view.emb y) := by
  pointwise [k0_pay1, val_main_v0]
  blk_point [iblk, V, idx t]

theorem final_2 (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

end Cert.Proof.Fe

end

end
-- ==== Proof.Claim.Fe.lean ====
/- The claims about `Fe`: the three frames, the idealization, and the equality with the reference. -/
module

public import proofs.«01_k».proof.Proof.Gen.Fe.Frame
public import proofs.«01_k».proof.Proof.Gen.FeIdeal.Frame
public import proofs.«01_k».proof.Proof.Gen.FeRefIdeal.Run
public import proofs.«01_k».proof.Proof.Fe
public import proofs.«01_k».proof.Defs

@[expose] public section

noncomputable section

namespace Cert.Proof.Fe

open Idealize.ShloMosaic Idealize.SL.Sem

theorem frameP : quiescent_Fe (hFe := Cert.Fe.Gen.facts) := fun m ρ _ => Cert.Fe.Gen.frame m ρ
theorem framePI : quiescent_FeIdeal (hFeIdeal := Cert.FeIdeal.Gen.facts) := fun m ρ _ => Cert.FeIdeal.Gen.frame m ρ
theorem frameRI : quiescent_FeRefIdeal (hFeRefIdeal := Cert.FeRefIdeal.Gen.facts) := fun m ρ _ =>
  (θ_run Cert.FeRefIdeal.defs _ _).mono (fun r h => ⟨fun c => (h c).2,
      Idealize.ShloMosaic.sem_eq_zero_of_no_sems (by decide) r.2⟩)
    (Cert.FeRefIdeal.Value.run (F := Ideal) m ρ)
theorem pres : preserves_Fe_FeIdeal := trivial

/-- The arrays the kernel leaves are the reference's. -/
theorem value : algebraic_FeIdeal_FeRefIdeal (hFeIdeal := Cert.FeIdeal.Gen.facts) (hFeRefIdeal := Cert.FeRefIdeal.Gen.facts) := by
  pair_intro
  · run_from Cert.FeIdeal.Gen.run_main m g
  · hlo_run
    exact (final_2 m c).symm

end Cert.Proof.Fe

end

end
-- ==== Proof.Floss.lean ====
/- The gate product of the per-layer embedding and the loss head: the gradients that start the backward pass, and each feature's sum of squared errors. -/
module

public import proofs.«01_k».proof.Proof.Gen.FlossIdeal.Frame
public import proofs.«01_k».proof.Proof.Gen.FlossRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Floss

open Cert.FlossIdeal Cert.FlossIdeal.Gen
open Cert.FlossRefIdeal.Read

variable (m : (ℓ : Loc nD τ sig) → Buf (Elt Ideal) ℓ)

/-- Every window's block at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![0, 0] :=
  (by decide +kernel : ∀ t : Fin grid0.N, _)

/-- What the body stores into window 5, at an index of its block, is the reference at that index of the array. -/
theorem point_5 (c : Dev nD) (t : Fin cfg0.N) (y) :
    k0_pay5 (iblk m c 0 t) (iblk m c 1 t) (iblk m c 2 t) (iblk m c 3 t) (iblk m c 4 t) y
      = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 5).blk t).view.emb y) := by
  pointwise [k0_pay1, k0_pay2, k0_pay3, k0_pay4, k0_pay5, k0_pay6, k0_pay7, k0_pay8, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_cst_2, val_main_v14, val_main_v15, val_main_cst_3, val_main_v16, val_main_cst_4, val_main_v17, val_main_v18, val_main_cst_5, val_main_v19, val_main_cst_6, val_main_v20, val_main_cst_7, val_main_cst_8, val_main_v21, val_main_v22, val_main_cst_9, val_main_v23, val_main_v24, val_main_v25, val_main_v26, val_main_v27, val_main_v28, val_main_v29, val_main_v30, val_main_v31, val_main_cst_10, val_main_v32, val_main_v33, val_main_cst_11, val_main_v34, val_main_v35, val_main_v36, val_main_v37, val_main_v38, val_main_v39, val_main_cst_12, val_main_v40, val_main_v41, val_main_v42, val_main_v43]
  rw [Arith.sig_eq, Arith.mean_half]
  blk_point [iblk, V, idx t]

theorem final_5 (c : Dev nD) : (dats m 0 c).arrAt 5 (cfgs 0).N
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 8 = 0
  · rw [outsAt0_A m c t h]; frame_out; exact point_5 m c t y
  · rw [outsAt0_B m c t h]; frame_out; exact point_5 m c t y

/-- What the body stores into window 6, at an index of its block, is the reference at that index of the array. -/
theorem point_6 (c : Dev nD) (t : Fin cfg0.N) (y) :
    k0_pay7 (iblk m c 0 t) (iblk m c 1 t) (iblk m c 2 t) (iblk m c 3 t) (iblk m c 4 t) y
      = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 6).blk t).view.emb y) := by
  pointwise [k0_pay1, k0_pay2, k0_pay3, k0_pay4, k0_pay5, k0_pay6, k0_pay7, k0_pay8, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_cst_2, val_main_v14, val_main_v15, val_main_cst_3, val_main_v16, val_main_cst_4, val_main_v17, val_main_v18, val_main_cst_5, val_main_v19, val_main_cst_6, val_main_v20, val_main_cst_7, val_main_cst_8, val_main_v21, val_main_v22, val_main_cst_9, val_main_v23, val_main_v24, val_main_v25, val_main_v26, val_main_v27, val_main_v28, val_main_v29, val_main_v30, val_main_v31, val_main_cst_10, val_main_v32, val_main_v33, val_main_cst_11, val_main_v34, val_main_v35, val_main_v36, val_main_v37, val_main_v38, val_main_v39, val_main_cst_12, val_main_v40, val_main_v41, val_main_v42, val_main_v43]
  rw [Arith.sig_eq, Arith.mean_half, mul_comm (_ * Ideal.ofBits .f32 0x3A800000#32) _, mul_assoc (_ * _) (Ideal.div 1 _) (1 - _)]
  blk_point [iblk, V, idx t]

theorem final_6 (c : Dev nD) : (dats m 0 c).arrAt 6 (cfgs 0).N
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  by_cases h : t.val % 8 = 0
  · rw [outsAt0_A m c t h]; frame_out; exact point_6 m c t y
  · rw [outsAt0_B m c t h]; frame_out; exact point_6 m c t y

/-- What the body stores into window 7, at an index of its block, is the reference at that index of the array. -/
theorem point_7 (c : Dev nD) (t : Fin cfg0.N) (y) :
    k0_pay8 (iblk m c 0 t) (iblk m c 1 t) (iblk m c 2 t) (iblk m c 3 t) (iblk m c 4 t) y
      = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 7).blk t).view.emb y) := by
  pointwise [k0_pay1, k0_pay2, k0_pay3, k0_pay4, k0_pay5, k0_pay6, k0_pay7, k0_pay8, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_cst_2, val_main_v14, val_main_v15, val_main_cst_3, val_main_v16, val_main_cst_4, val_main_v17, val_main_v18, val_main_cst_5, val_main_v19, val_main_cst_6, val_main_v20, val_main_cst_7, val_main_cst_8, val_main_v21, val_main_v22, val_main_cst_9, val_main_v23, val_main_v24, val_main_v25, val_main_v26, val_main_v27, val_main_v28, val_main_v29, val_main_v30, val_main_v31, val_main_cst_10, val_main_v32, val_main_v33, val_main_cst_11, val_main_v34, val_main_v35, val_main_v36, val_main_v37, val_main_v38, val_main_v39, val_main_cst_12, val_main_v40, val_main_v41, val_main_v42, val_main_v43]
  rw [Arith.sig_eq, Arith.mean_half]
  blk_point [iblk, V, idx t]

theorem final_7 (c : Dev nD) : (dats m 0 c).arrAt 7 (cfgs 0).N
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]
  by_cases h : t.val % 8 = 0
  · rw [outsAt0_A m c t h]; frame_out; exact point_7 m c t y
  · rw [outsAt0_B m c t h]; frame_out; exact point_7 m c t y

/-- The first point clears the row. -/
theorem hzero_8 (j : S1x1024.Idx) : k0_pay1 (F := Ideal) j = 0 := by
  pointwise! [k0_pay1]

/-- Every point adds its row of sums to what the row held. -/
theorem hpay_8 (x a : Vec Ideal S1x1024 .f32) (j : S1x1024.Idx) :
    k0_pay2 x a j = a j + x j := by
  pointwise [k0_pay2]

/-- The row of sums after the last point. -/
theorem final_8 (c : Dev nD) : (dats m 0 c).arrAt 8 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun p j => k0_pay6 (iblk m c 0 p) (iblk m c 1 p) (iblk m c 2 p) (iblk m c 3 p) (iblk m c 4 p) j)
    (fun t h j => by rw [outsAt0_A m c t h]; frame_out; rw [hpay_8, hzero_8])
    (fun t h j => by rw [outsAt0_B m c t h]; frame_out; rw [hpay_8])
    (le_of_eq N_0) t0_7 rfl j, zero_add]
  pointwise [k0_pay1, k0_pay2, k0_pay3, k0_pay4, k0_pay5, k0_pay6, k0_pay7, k0_pay8, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_cst_2, val_main_v14, val_main_v15, val_main_cst_3, val_main_v16, val_main_cst_4, val_main_v17, val_main_v18, val_main_cst_5, val_main_v19, val_main_cst_6, val_main_v20, val_main_cst_7, val_main_cst_8, val_main_v21, val_main_v22, val_main_cst_9, val_main_v23, val_main_v24, val_main_v25, val_main_v26, val_main_v27, val_main_v28, val_main_v29, val_main_v30, val_main_v31, val_main_cst_10, val_main_v32, val_main_v33, val_main_cst_11, val_main_v34, val_main_v35, val_main_v36, val_main_v37, val_main_v38, val_main_v39, val_main_cst_12, val_main_v40, val_main_v41, val_main_v42, val_main_v43]
  refine Fin.sum_mul_add_congr fun s k hl => ?_
  rw [Arith.sig_eq]
  blk_point [iblk, V, idx s, idx t0_7]
end Cert.Proof.Floss

end

end
-- ==== Proof.Claim.Floss.lean ====
/- The claims about `Floss`: the three frames, the idealization, and the equality with the reference. -/
module

public import proofs.«01_k».proof.Proof.Gen.Floss.Frame
public import proofs.«01_k».proof.Proof.Gen.FlossIdeal.Frame
public import proofs.«01_k».proof.Proof.Gen.FlossRefIdeal.Run
public import proofs.«01_k».proof.Proof.Floss
public import proofs.«01_k».proof.Defs

@[expose] public section

noncomputable section

namespace Cert.Proof.Floss

open Idealize.ShloMosaic Idealize.SL.Sem

theorem frameP : quiescent_Floss (hFloss := Cert.Floss.Gen.facts) := fun m ρ _ => Cert.Floss.Gen.frame m ρ
theorem framePI : quiescent_FlossIdeal (hFlossIdeal := Cert.FlossIdeal.Gen.facts) := fun m ρ _ => Cert.FlossIdeal.Gen.frame m ρ
theorem frameRI : quiescent_FlossRefIdeal (hFlossRefIdeal := Cert.FlossRefIdeal.Gen.facts) := fun m ρ _ =>
  (θ_run Cert.FlossRefIdeal.defs _ _).mono (fun r h => ⟨fun c => (h c).2.2.2.2,
      Idealize.ShloMosaic.sem_eq_zero_of_no_sems (by decide) r.2⟩)
    (Cert.FlossRefIdeal.Value.run (F := Ideal) m ρ)
theorem pres : preserves_Floss_FlossIdeal := trivial

/-- The arrays the kernel leaves are the reference's. -/
theorem value : algebraic_FlossIdeal_FlossRefIdeal (hFlossIdeal := Cert.FlossIdeal.Gen.facts) (hFlossRefIdeal := Cert.FlossRefIdeal.Gen.facts) := by
  pair_intro
  · run_from Cert.FlossIdeal.Gen.run_main m g
  · hlo_run
    · exact (final_5 m c).symm
    · exact (final_6 m c).symm
    · exact (final_7 m c).symm
    · exact (final_8 m c).symm

end Cert.Proof.Floss

end

end
-- ==== Proof.Awin.lean ====
/- The optimiser on one device's share of w_in: the parts summed, and one step of AdamW. -/
module

public import proofs.«01_k».proof.Proof.Gen.AwinIdeal.Frame
public import proofs.«01_k».proof.Proof.Gen.AwinRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Awin

open Cert.AwinIdeal Cert.AwinIdeal.Gen
open Cert.AwinRefIdeal.Read

variable (m : (ℓ : Loc nD τ sig) → Buf (Elt Ideal) ℓ)

/-- Every window's block at every grid point. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem final_4 (c : Dev nD) : (dats m 0 c).arrAt 4 (cfgs 0).N
    = val_main_v1 (F := Ideal) (m ((c : Thread nD τ).loc main_arg0)) := by
  refine (dats m 0 c).arrAt_eq_of_covers 4 _ (by decide +kernel) fun t hf y => ?_
  blk_simp; rw [after0_4]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_5 (c : Dev nD) : (dats m 0 c).arrAt 5 (cfgs 0).N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_6 (c : Dev nD) : (dats m 0 c).arrAt 6 (cfgs 0).N
    = val_main_v6 (F := Ideal) (m ((c : Thread nD τ).loc main_arg0)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_7 (c : Dev nD) : (dats m 0 c).arrAt 7 (cfgs 0).N
    = val_main_v12 (F := Ideal) (m ((c : Thread nD τ).loc main_arg0)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

end Cert.Proof.Awin

end

end
-- ==== Proof.Claim.Awin.lean ====
/- The claims about `Awin`: the three frames, the idealization, and the equality with the reference. -/
module

public import proofs.«01_k».proof.Proof.Gen.Awin.Frame
public import proofs.«01_k».proof.Proof.Gen.AwinIdeal.Frame
public import proofs.«01_k».proof.Proof.Gen.AwinRefIdeal.Run
public import proofs.«01_k».proof.Proof.Awin
public import proofs.«01_k».proof.Defs

@[expose] public section

noncomputable section

namespace Cert.Proof.Awin

open Idealize.ShloMosaic Idealize.SL.Sem

theorem frameP : quiescent_Awin (hAwin := Cert.Awin.Gen.facts) := fun m ρ _ => Cert.Awin.Gen.frame m ρ
theorem framePI : quiescent_AwinIdeal (hAwinIdeal := Cert.AwinIdeal.Gen.facts) := fun m ρ _ => Cert.AwinIdeal.Gen.frame m ρ
theorem frameRI : quiescent_AwinRefIdeal (hAwinRefIdeal := Cert.AwinRefIdeal.Gen.facts) := fun m ρ _ =>
  (θ_run Cert.AwinRefIdeal.defs _ _).mono (fun r h => ⟨fun c => (h c).2.2.2.2,
      Idealize.ShloMosaic.sem_eq_zero_of_no_sems (by decide) r.2⟩)
    (Cert.AwinRefIdeal.Value.run (F := Ideal) m ρ)
theorem pres : preserves_Awin_AwinIdeal := trivial

/-- The arrays the kernel leaves are the reference's. -/
theorem value : algebraic_AwinIdeal_AwinRefIdeal (hAwinIdeal := Cert.AwinIdeal.Gen.facts) (hAwinRefIdeal := Cert.AwinRefIdeal.Gen.facts) := by
  pair_intro
  · run_from Cert.AwinIdeal.Gen.run_main m g
  · hlo_run
    · exact (final_4 m c).symm
    · exact (final_5 m c).symm
    · exact (final_6 m c).symm
    · exact (final_7 m c).symm

end Cert.Proof.Awin

end

end
-- ==== Proof.Aproj.lean ====
/- The optimiser on one device's share of a row-sharded projection: the parts summed, and one step of AdamW. -/
module

public import proofs.«01_k».proof.Proof.Gen.AprojIdeal.Frame
public import proofs.«01_k».proof.Proof.Gen.AprojRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Aproj

open Cert.AprojIdeal Cert.AprojIdeal.Gen
open Cert.AprojRefIdeal.Read

variable (m : (ℓ : Loc nD τ sig) → Buf (Elt Ideal) ℓ)

/-- Every window's block at every grid point. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem final_4 (c : Dev nD) : (dats m 0 c).arrAt 4 (cfgs 0).N
    = val_main_v1 (F := Ideal) (m ((c : Thread nD τ).loc main_arg0)) := by
  refine (dats m 0 c).arrAt_eq_of_covers 4 _ (by decide +kernel) fun t hf y => ?_
  blk_simp; rw [after0_4]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_5 (c : Dev nD) : (dats m 0 c).arrAt 5 (cfgs 0).N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_6 (c : Dev nD) : (dats m 0 c).arrAt 6 (cfgs 0).N
    = val_main_v6 (F := Ideal) (m ((c : Thread nD τ).loc main_arg0)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_7 (c : Dev nD) : (dats m 0 c).arrAt 7 (cfgs 0).N
    = val_main_v12 (F := Ideal) (m ((c : Thread nD τ).loc main_arg0)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

end Cert.Proof.Aproj

end

end
-- ==== Proof.Claim.Aproj.lean ====
/- The claims about `Aproj`: the three frames, the idealization, and the equality with the reference. -/
module

public import proofs.«01_k».proof.Proof.Gen.Aproj.Frame
public import proofs.«01_k».proof.Proof.Gen.AprojIdeal.Frame
public import proofs.«01_k».proof.Proof.Gen.AprojRefIdeal.Run
public import proofs.«01_k».proof.Proof.Aproj
public import proofs.«01_k».proof.Defs

@[expose] public section

noncomputable section

namespace Cert.Proof.Aproj

open Idealize.ShloMosaic Idealize.SL.Sem

theorem frameP : quiescent_Aproj (hAproj := Cert.Aproj.Gen.facts) := fun m ρ _ => Cert.Aproj.Gen.frame m ρ
theorem framePI : quiescent_AprojIdeal (hAprojIdeal := Cert.AprojIdeal.Gen.facts) := fun m ρ _ => Cert.AprojIdeal.Gen.frame m ρ
theorem frameRI : quiescent_AprojRefIdeal (hAprojRefIdeal := Cert.AprojRefIdeal.Gen.facts) := fun m ρ _ =>
  (θ_run Cert.AprojRefIdeal.defs _ _).mono (fun r h => ⟨fun c => (h c).2.2.2.2,
      Idealize.ShloMosaic.sem_eq_zero_of_no_sems (by decide) r.2⟩)
    (Cert.AprojRefIdeal.Value.run (F := Ideal) m ρ)
theorem pres : preserves_Aproj_AprojIdeal := trivial

/-- The arrays the kernel leaves are the reference's. -/
theorem value : algebraic_AprojIdeal_AprojRefIdeal (hAprojIdeal := Cert.AprojIdeal.Gen.facts) (hAprojRefIdeal := Cert.AprojRefIdeal.Gen.facts) := by
  pair_intro
  · run_from Cert.AprojIdeal.Gen.run_main m g
  · hlo_run
    · exact (final_4 m c).symm
    · exact (final_5 m c).symm
    · exact (final_6 m c).symm
    · exact (final_7 m c).symm

end Cert.Proof.Aproj

end

end
-- ==== Proof.Aup.lean ====
/- The optimiser on one device's share of w_up: the parts summed, and one step of AdamW. -/
module

public import proofs.«01_k».proof.Proof.Gen.AupIdeal.Frame
public import proofs.«01_k».proof.Proof.Gen.AupRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Aup

open Cert.AupIdeal Cert.AupIdeal.Gen
open Cert.AupRefIdeal.Read

variable (m : (ℓ : Loc nD τ sig) → Buf (Elt Ideal) ℓ)

/-- Every window's block at every grid point. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem final_4 (c : Dev nD) : (dats m 0 c).arrAt 4 (cfgs 0).N
    = val_main_v1 (F := Ideal) (m ((c : Thread nD τ).loc main_arg0)) := by
  refine (dats m 0 c).arrAt_eq_of_covers 4 _ (by decide +kernel) fun t hf y => ?_
  blk_simp; rw [after0_4]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_5 (c : Dev nD) : (dats m 0 c).arrAt 5 (cfgs 0).N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_6 (c : Dev nD) : (dats m 0 c).arrAt 6 (cfgs 0).N
    = val_main_v6 (F := Ideal) (m ((c : Thread nD τ).loc main_arg0)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_7 (c : Dev nD) : (dats m 0 c).arrAt 7 (cfgs 0).N
    = val_main_v12 (F := Ideal) (m ((c : Thread nD τ).loc main_arg0)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

end Cert.Proof.Aup

end

end
-- ==== Proof.Claim.Aup.lean ====
/- The claims about `Aup`: the three frames, the idealization, and the equality with the reference. -/
module

public import proofs.«01_k».proof.Proof.Gen.Aup.Frame
public import proofs.«01_k».proof.Proof.Gen.AupIdeal.Frame
public import proofs.«01_k».proof.Proof.Gen.AupRefIdeal.Run
public import proofs.«01_k».proof.Proof.Aup
public import proofs.«01_k».proof.Defs

@[expose] public section

noncomputable section

namespace Cert.Proof.Aup

open Idealize.ShloMosaic Idealize.SL.Sem

theorem frameP : quiescent_Aup (hAup := Cert.Aup.Gen.facts) := fun m ρ _ => Cert.Aup.Gen.frame m ρ
theorem framePI : quiescent_AupIdeal (hAupIdeal := Cert.AupIdeal.Gen.facts) := fun m ρ _ => Cert.AupIdeal.Gen.frame m ρ
theorem frameRI : quiescent_AupRefIdeal (hAupRefIdeal := Cert.AupRefIdeal.Gen.facts) := fun m ρ _ =>
  (θ_run Cert.AupRefIdeal.defs _ _).mono (fun r h => ⟨fun c => (h c).2.2.2.2,
      Idealize.ShloMosaic.sem_eq_zero_of_no_sems (by decide) r.2⟩)
    (Cert.AupRefIdeal.Value.run (F := Ideal) m ρ)
theorem pres : preserves_Aup_AupIdeal := trivial

/-- The arrays the kernel leaves are the reference's. -/
theorem value : algebraic_AupIdeal_AupRefIdeal (hAupIdeal := Cert.AupIdeal.Gen.facts) (hAupRefIdeal := Cert.AupRefIdeal.Gen.facts) := by
  pair_intro
  · run_from Cert.AupIdeal.Gen.run_main m g
  · hlo_run
    · exact (final_4 m c).symm
    · exact (final_5 m c).symm
    · exact (final_6 m c).symm
    · exact (final_7 m c).symm

end Cert.Proof.Aup

end

end
-- ==== Proof.Adown.lean ====
/- The optimiser on one device's share of w_down: the parts summed, and one step of AdamW. -/
module

public import proofs.«01_k».proof.Proof.Gen.AdownIdeal.Frame
public import proofs.«01_k».proof.Proof.Gen.AdownRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Adown

open Cert.AdownIdeal Cert.AdownIdeal.Gen
open Cert.AdownRefIdeal.Read

variable (m : (ℓ : Loc nD τ sig) → Buf (Elt Ideal) ℓ)

/-- Every window's block at every grid point. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem final_4 (c : Dev nD) : (dats m 0 c).arrAt 4 (cfgs 0).N
    = val_main_v1 (F := Ideal) (m ((c : Thread nD τ).loc main_arg0)) := by
  refine (dats m 0 c).arrAt_eq_of_covers 4 _ (by decide +kernel) fun t hf y => ?_
  blk_simp; rw [after0_4]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_5 (c : Dev nD) : (dats m 0 c).arrAt 5 (cfgs 0).N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_6 (c : Dev nD) : (dats m 0 c).arrAt 6 (cfgs 0).N
    = val_main_v6 (F := Ideal) (m ((c : Thread nD τ).loc main_arg0)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_7 (c : Dev nD) : (dats m 0 c).arrAt 7 (cfgs 0).N
    = val_main_v12 (F := Ideal) (m ((c : Thread nD τ).loc main_arg0)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

end Cert.Proof.Adown

end

end
-- ==== Proof.Claim.Adown.lean ====
/- The claims about `Adown`: the three frames, the idealization, and the equality with the reference. -/
module

public import proofs.«01_k».proof.Proof.Gen.Adown.Frame
public import proofs.«01_k».proof.Proof.Gen.AdownIdeal.Frame
public import proofs.«01_k».proof.Proof.Gen.AdownRefIdeal.Run
public import proofs.«01_k».proof.Proof.Adown
public import proofs.«01_k».proof.Defs

@[expose] public section

noncomputable section

namespace Cert.Proof.Adown

open Idealize.ShloMosaic Idealize.SL.Sem

theorem frameP : quiescent_Adown (hAdown := Cert.Adown.Gen.facts) := fun m ρ _ => Cert.Adown.Gen.frame m ρ
theorem framePI : quiescent_AdownIdeal (hAdownIdeal := Cert.AdownIdeal.Gen.facts) := fun m ρ _ => Cert.AdownIdeal.Gen.frame m ρ
theorem frameRI : quiescent_AdownRefIdeal (hAdownRefIdeal := Cert.AdownRefIdeal.Gen.facts) := fun m ρ _ =>
  (θ_run Cert.AdownRefIdeal.defs _ _).mono (fun r h => ⟨fun c => (h c).2.2.2.2,
      Idealize.ShloMosaic.sem_eq_zero_of_no_sems (by decide) r.2⟩)
    (Cert.AdownRefIdeal.Value.run (F := Ideal) m ρ)
theorem pres : preserves_Adown_AdownIdeal := trivial

/-- The arrays the kernel leaves are the reference's. -/
theorem value : algebraic_AdownIdeal_AdownRefIdeal (hAdownIdeal := Cert.AdownIdeal.Gen.facts) (hAdownRefIdeal := Cert.AdownRefIdeal.Gen.facts) := by
  pair_intro
  · run_from Cert.AdownIdeal.Gen.run_main m g
  · hlo_run
    · exact (final_4 m c).symm
    · exact (final_5 m c).symm
    · exact (final_6 m c).symm
    · exact (final_7 m c).symm

end Cert.Proof.Adown

end

end
-- ==== Proof.App.lean ====
/- The optimiser on one device's share of w_ple_proj: the parts summed, and one step of AdamW. -/
module

public import proofs.«01_k».proof.Proof.Gen.AppIdeal.Frame
public import proofs.«01_k».proof.Proof.Gen.AppRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.App

open Cert.AppIdeal Cert.AppIdeal.Gen
open Cert.AppRefIdeal.Read

variable (m : (ℓ : Loc nD τ sig) → Buf (Elt Ideal) ℓ)

/-- Every window's block at every grid point. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem final_4 (c : Dev nD) : (dats m 0 c).arrAt 4 (cfgs 0).N
    = val_main_v1 (F := Ideal) (m ((c : Thread nD τ).loc main_arg0)) := by
  refine (dats m 0 c).arrAt_eq_of_covers 4 _ (by decide +kernel) fun t hf y => ?_
  blk_simp; rw [after0_4]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_5 (c : Dev nD) : (dats m 0 c).arrAt 5 (cfgs 0).N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_6 (c : Dev nD) : (dats m 0 c).arrAt 6 (cfgs 0).N
    = val_main_v6 (F := Ideal) (m ((c : Thread nD τ).loc main_arg0)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_7 (c : Dev nD) : (dats m 0 c).arrAt 7 (cfgs 0).N
    = val_main_v12 (F := Ideal) (m ((c : Thread nD τ).loc main_arg0)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

end Cert.Proof.App

end

end
-- ==== Proof.Claim.App.lean ====
/- The claims about `App`: the three frames, the idealization, and the equality with the reference. -/
module

public import proofs.«01_k».proof.Proof.Gen.App.Frame
public import proofs.«01_k».proof.Proof.Gen.AppIdeal.Frame
public import proofs.«01_k».proof.Proof.Gen.AppRefIdeal.Run
public import proofs.«01_k».proof.Proof.App
public import proofs.«01_k».proof.Defs

@[expose] public section

noncomputable section

namespace Cert.Proof.App

open Idealize.ShloMosaic Idealize.SL.Sem

theorem frameP : quiescent_App (hApp := Cert.App.Gen.facts) := fun m ρ _ => Cert.App.Gen.frame m ρ
theorem framePI : quiescent_AppIdeal (hAppIdeal := Cert.AppIdeal.Gen.facts) := fun m ρ _ => Cert.AppIdeal.Gen.frame m ρ
theorem frameRI : quiescent_AppRefIdeal (hAppRefIdeal := Cert.AppRefIdeal.Gen.facts) := fun m ρ _ =>
  (θ_run Cert.AppRefIdeal.defs _ _).mono (fun r h => ⟨fun c => (h c).2.2.2.2,
      Idealize.ShloMosaic.sem_eq_zero_of_no_sems (by decide) r.2⟩)
    (Cert.AppRefIdeal.Value.run (F := Ideal) m ρ)
theorem pres : preserves_App_AppIdeal := trivial

/-- The arrays the kernel leaves are the reference's. -/
theorem value : algebraic_AppIdeal_AppRefIdeal (hAppIdeal := Cert.AppIdeal.Gen.facts) (hAppRefIdeal := Cert.AppRefIdeal.Gen.facts) := by
  pair_intro
  · run_from Cert.AppIdeal.Gen.run_main m g
  · hlo_run
    · exact (final_4 m c).symm
    · exact (final_5 m c).symm
    · exact (final_6 m c).symm
    · exact (final_7 m c).symm

end Cert.Proof.App

end

end
-- ==== Proof.Aconv.lean ====
/- The optimiser on one device's share of conv_w: the parts summed, and one step of AdamW. -/
module

public import proofs.«01_k».proof.Proof.Gen.AconvIdeal.Frame
public import proofs.«01_k».proof.Proof.Gen.AconvRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Aconv

open Cert.AconvIdeal Cert.AconvIdeal.Gen
open Cert.AconvRefIdeal.Read

variable (m : (ℓ : Loc nD τ sig) → Buf (Elt Ideal) ℓ)

/-- Every window's block at every grid point. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem final_4 (c : Dev nD) : (dats m 0 c).arrAt 4 (cfgs 0).N
    = val_main_v1 (F := Ideal) (m ((c : Thread nD τ).loc main_arg0)) := by
  refine (dats m 0 c).arrAt_eq_of_covers 4 _ (by decide +kernel) fun t hf y => ?_
  blk_simp; rw [after0_4]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_5 (c : Dev nD) : (dats m 0 c).arrAt 5 (cfgs 0).N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_6 (c : Dev nD) : (dats m 0 c).arrAt 6 (cfgs 0).N
    = val_main_v6 (F := Ideal) (m ((c : Thread nD τ).loc main_arg0)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

theorem final_7 (c : Dev nD) : (dats m 0 c).arrAt 7 (cfgs 0).N
    = val_main_v12 (F := Ideal) (m ((c : Thread nD τ).loc main_arg0)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, k0_pay5, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  simp only [Fin.sum_univ_four]
  blk_point [iblk, V, idx t]

end Cert.Proof.Aconv

end

end
-- ==== Proof.Claim.Aconv.lean ====
/- The claims about `Aconv`: the three frames, the idealization, and the equality with the reference. -/
module

public import proofs.«01_k».proof.Proof.Gen.Aconv.Frame
public import proofs.«01_k».proof.Proof.Gen.AconvIdeal.Frame
public import proofs.«01_k».proof.Proof.Gen.AconvRefIdeal.Run
public import proofs.«01_k».proof.Proof.Aconv
public import proofs.«01_k».proof.Defs

@[expose] public section

noncomputable section

namespace Cert.Proof.Aconv

open Idealize.ShloMosaic Idealize.SL.Sem

theorem frameP : quiescent_Aconv (hAconv := Cert.Aconv.Gen.facts) := fun m ρ _ => Cert.Aconv.Gen.frame m ρ
theorem framePI : quiescent_AconvIdeal (hAconvIdeal := Cert.AconvIdeal.Gen.facts) := fun m ρ _ => Cert.AconvIdeal.Gen.frame m ρ
theorem frameRI : quiescent_AconvRefIdeal (hAconvRefIdeal := Cert.AconvRefIdeal.Gen.facts) := fun m ρ _ =>
  (θ_run Cert.AconvRefIdeal.defs _ _).mono (fun r h => ⟨fun c => (h c).2.2.2.2,
      Idealize.ShloMosaic.sem_eq_zero_of_no_sems (by decide) r.2⟩)
    (Cert.AconvRefIdeal.Value.run (F := Ideal) m ρ)
theorem pres : preserves_Aconv_AconvIdeal := trivial

/-- The arrays the kernel leaves are the reference's. -/
theorem value : algebraic_AconvIdeal_AconvRefIdeal (hAconvIdeal := Cert.AconvIdeal.Gen.facts) (hAconvRefIdeal := Cert.AconvRefIdeal.Gen.facts) := by
  pair_intro
  · run_from Cert.AconvIdeal.Gen.run_main m g
  · hlo_run
    · exact (final_4 m c).symm
    · exact (final_5 m c).symm
    · exact (final_6 m c).symm
    · exact (final_7 m c).symm

end Cert.Proof.Aconv

end

end
-- ==== Proof.Agmix.lean ====
/- The optimiser on one device's share of g_mix: the parts summed, and one step of AdamW. -/
module

public import proofs.«01_k».proof.Proof.Gen.AgmixIdeal.Frame
public import proofs.«01_k».proof.Proof.Gen.AgmixRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Agmix

open Cert.AgmixIdeal Cert.AgmixIdeal.Gen
open Cert.AgmixRefIdeal.Read

variable (m : (ℓ : Loc nD τ sig) → Buf (Elt Ideal) ℓ)

/-- Every window's block at every grid point. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem final_4 (c : Dev nD) : (dats m 0 c).arrAt 4 (cfgs 0).N
    = val_main_v0 (F := Ideal) (m ((c : Thread nD τ).loc main_arg0)) := by
  refine (dats m 0 c).arrAt_eq_of_covers 4 _ (by decide +kernel) fun t hf y => ?_
  blk_simp; rw [after0_4]; frame_out
  pointwise [k0_pay1, k0_pay2, k0_pay3, k0_pay4, k0_pay5, k0_pay6, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [Fin.sum_univ_eight]
  blk_point [iblk, V, idx t]

theorem final_5 (c : Dev nD) : (dats m 0 c).arrAt 5 (cfgs 0).N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, k0_pay5, k0_pay6, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [Fin.sum_univ_eight]
  blk_point [iblk, V, idx t]

theorem final_6 (c : Dev nD) : (dats m 0 c).arrAt 6 (cfgs 0).N
    = val_main_v5 (F := Ideal) (m ((c : Thread nD τ).loc main_arg0)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, k0_pay5, k0_pay6, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [Fin.sum_univ_eight]
  blk_point [iblk, V, idx t]

theorem final_7 (c : Dev nD) : (dats m 0 c).arrAt 7 (cfgs 0).N
    = val_main_v11 (F := Ideal) (m ((c : Thread nD τ).loc main_arg0)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, k0_pay5, k0_pay6, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [Fin.sum_univ_eight]
  blk_point [iblk, V, idx t]

end Cert.Proof.Agmix

end

end
-- ==== Proof.Claim.Agmix.lean ====
/- The claims about `Agmix`: the three frames, the idealization, and the equality with the reference. -/
module

public import proofs.«01_k».proof.Proof.Gen.Agmix.Frame
public import proofs.«01_k».proof.Proof.Gen.AgmixIdeal.Frame
public import proofs.«01_k».proof.Proof.Gen.AgmixRefIdeal.Run
public import proofs.«01_k».proof.Proof.Agmix
public import proofs.«01_k».proof.Defs

@[expose] public section

noncomputable section

namespace Cert.Proof.Agmix

open Idealize.ShloMosaic Idealize.SL.Sem

theorem frameP : quiescent_Agmix (hAgmix := Cert.Agmix.Gen.facts) := fun m ρ _ => Cert.Agmix.Gen.frame m ρ
theorem framePI : quiescent_AgmixIdeal (hAgmixIdeal := Cert.AgmixIdeal.Gen.facts) := fun m ρ _ => Cert.AgmixIdeal.Gen.frame m ρ
theorem frameRI : quiescent_AgmixRefIdeal (hAgmixRefIdeal := Cert.AgmixRefIdeal.Gen.facts) := fun m ρ _ =>
  (θ_run Cert.AgmixRefIdeal.defs _ _).mono (fun r h => ⟨fun c => (h c).2.2.2.2,
      Idealize.ShloMosaic.sem_eq_zero_of_no_sems (by decide) r.2⟩)
    (Cert.AgmixRefIdeal.Value.run (F := Ideal) m ρ)
theorem pres : preserves_Agmix_AgmixIdeal := trivial

/-- The arrays the kernel leaves are the reference's. -/
theorem value : algebraic_AgmixIdeal_AgmixRefIdeal (hAgmixIdeal := Cert.AgmixIdeal.Gen.facts) (hAgmixRefIdeal := Cert.AgmixRefIdeal.Gen.facts) := by
  pair_intro
  · run_from Cert.AgmixIdeal.Gen.run_main m g
  · hlo_run
    · exact (final_4 m c).symm
    · exact (final_5 m c).symm
    · exact (final_6 m c).symm
    · exact (final_7 m c).symm

end Cert.Proof.Agmix

end

end
-- ==== Proof.Asmall.lean ====
/- The optimiser on one device's share of the packed small weights: the parts summed, and one step of AdamW. -/
module

public import proofs.«01_k».proof.Proof.Gen.AsmallIdeal.Frame
public import proofs.«01_k».proof.Proof.Gen.AsmallRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Asmall

open Cert.AsmallIdeal Cert.AsmallIdeal.Gen
open Cert.AsmallRefIdeal.Read

variable (m : (ℓ : Loc nD τ sig) → Buf (Elt Ideal) ℓ)

/-- Every window's block at every grid point. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem final_4 (c : Dev nD) : (dats m 0 c).arrAt 4 (cfgs 0).N
    = val_main_v0 (F := Ideal) (m ((c : Thread nD τ).loc main_arg0)) := by
  refine (dats m 0 c).arrAt_eq_of_covers 4 _ (by decide +kernel) fun t hf y => ?_
  blk_simp; rw [after0_4]; frame_out
  pointwise [k0_pay1, k0_pay2, k0_pay3, k0_pay4, k0_pay5, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [Fin.sum_univ_four]
  blk_point [iblk, V, idx t]

theorem final_5 (c : Dev nD) : (dats m 0 c).arrAt 5 (cfgs 0).N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay1, k0_pay2, k0_pay3, k0_pay4, k0_pay5, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [Fin.sum_univ_four]
  blk_point [iblk, V, idx t]

theorem final_6 (c : Dev nD) : (dats m 0 c).arrAt 6 (cfgs 0).N
    = val_main_v5 (F := Ideal) (m ((c : Thread nD τ).loc main_arg0)) (m ((c : Thread nD τ).loc main_arg2)) := by
  refine (dats m 0 c).arrAt_eq_of_covers 6 _ (by decide +kernel) fun t hf y => ?_
  blk_simp; rw [after0_6]; frame_out
  pointwise [k0_pay1, k0_pay2, k0_pay3, k0_pay4, k0_pay5, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [Fin.sum_univ_four]
  blk_point [iblk, V, idx t]

theorem final_7 (c : Dev nD) : (dats m 0 c).arrAt 7 (cfgs 0).N
    = val_main_v11 (F := Ideal) (m ((c : Thread nD τ).loc main_arg0)) (m ((c : Thread nD τ).loc main_arg3)) := by
  refine (dats m 0 c).arrAt_eq_of_covers 7 _ (by decide +kernel) fun t hf y => ?_
  blk_simp; rw [after0_7]; frame_out
  pointwise [k0_pay1, k0_pay2, k0_pay3, k0_pay4, k0_pay5, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [Fin.sum_univ_four]
  blk_point [iblk, V, idx t]

end Cert.Proof.Asmall

end

end
-- ==== Proof.Claim.Asmall.lean ====
/- The claims about `Asmall`: the three frames, the idealization, and the equality with the reference. -/
module

public import proofs.«01_k».proof.Proof.Gen.Asmall.Frame
public import proofs.«01_k».proof.Proof.Gen.AsmallIdeal.Frame
public import proofs.«01_k».proof.Proof.Gen.AsmallRefIdeal.Run
public import proofs.«01_k».proof.Proof.Asmall
public import proofs.«01_k».proof.Defs

@[expose] public section

noncomputable section

namespace Cert.Proof.Asmall

open Idealize.ShloMosaic Idealize.SL.Sem

theorem frameP : quiescent_Asmall (hAsmall := Cert.Asmall.Gen.facts) := fun m ρ _ => Cert.Asmall.Gen.frame m ρ
theorem framePI : quiescent_AsmallIdeal (hAsmallIdeal := Cert.AsmallIdeal.Gen.facts) := fun m ρ _ => Cert.AsmallIdeal.Gen.frame m ρ
theorem frameRI : quiescent_AsmallRefIdeal (hAsmallRefIdeal := Cert.AsmallRefIdeal.Gen.facts) := fun m ρ _ =>
  (θ_run Cert.AsmallRefIdeal.defs _ _).mono (fun r h => ⟨fun c => (h c).2.2.2.2,
      Idealize.ShloMosaic.sem_eq_zero_of_no_sems (by decide) r.2⟩)
    (Cert.AsmallRefIdeal.Value.run (F := Ideal) m ρ)
theorem pres : preserves_Asmall_AsmallIdeal := trivial

/-- The arrays the kernel leaves are the reference's. -/
theorem value : algebraic_AsmallIdeal_AsmallRefIdeal (hAsmallIdeal := Cert.AsmallIdeal.Gen.facts) (hAsmallRefIdeal := Cert.AsmallRefIdeal.Gen.facts) := by
  pair_intro
  · run_from Cert.AsmallIdeal.Gen.run_main m g
  · hlo_run
    · exact (final_4 m c).symm
    · exact (final_5 m c).symm
    · exact (final_6 m c).symm
    · exact (final_7 m c).symm

end Cert.Proof.Asmall

end

end
-- ==== Proof.FhIdealFrame.lean ====
/- The frame of the input projection (`mm_in`): a grid of 4 × 4 points. At the first point of each row the body
   normalises a block of activations, keeps the result in its scratch and stores it into the second output; at
   every point it multiplies the scratch with a block of the weights. Away from the first point of a row the body
   does not touch the second output, and the block is written back at the row's last point: what it then holds is
   what the row's first point stored. -/
module

public import proofs.«01_k».proof.Proof.Gen.FhIdeal.Frame
public import proofs.«01_k».proof.Proof.Gen.FhIdeal.Skeleton
public import Idealize.ShloMosaic.Lib.Pipeline.TableIdle
public import Idealize.ShloMosaic.Lib.Claim

@[expose] public section

set_option maxRecDepth 16384

noncomputable section

namespace Cert.FhIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FhIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The body's condition: the second grid coordinate is zero. -/
abbrev atStart (i : grid0.Coords) : Prop :=
  (Scalar.cmpi .ne (Scalar.extui (Scalar.cmpi .eq (BitVec.ofNat 32 (i 1).val) 0#32)) 0#32) = 1#1

theorem atStart_iff (t : Fin cfg0.N) : atStart (grid0.coords t) ↔ t.val % 4 = 0 := by
  have ht : t.val < 16 := Nat.lt_of_lt_of_eq t.isLt N_0
  have e1 : (grid0.coords t 1).val = t.val / 1 % 4 := Pipeline.Grid.coords_val t 1 (by decide) rfl
  simp only [atStart, e1]
  word_cmp

theorem idle_iff (t : Fin cfg0.N) : cfg0.idle 4 (cfg0.grid.coords t) = true ↔ ¬ t.val % 4 = 0 := by
  rw [← atStart_iff t]
  change (!(k0_cond1 (grid0.coords t) == 1#1)) = true ↔ _
  rw [Bool.not_eq_true', beq_eq_false_iff_ne]
  exact Iff.rfl

/-- The first point of the row of `t`. -/
def start (t : Fin cfg0.N) : Fin cfg0.N := ⟨4 * (t.val / 4), by have := t.isLt; omega⟩

theorem start_mod (t : Fin cfg0.N) : (start t).val % 4 = 0 := by
  change 4 * (t.val / 4) % 4 = 0
  omega

theorem start_of (t : Fin cfg0.N) (h : t.val % 4 = 0) : start t = t := Fin.ext (by
  change 4 * (t.val / 4) = t.val
  omega)

theorem start_pred (t : Fin cfg0.N) (h : ¬ t.val % 4 = 0) (hp : t.val - 1 < cfg0.N) : start ⟨t.val - 1, hp⟩ = start t :=
  Fin.ext (by
    change 4 * ((t.val - 1) / 4) = 4 * (t.val / 4)
    omega)

/-! ## The buffers -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1408 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1408 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev scr : Memref sig .tc .vmem S1024x1024 .bf16 := Memref.whole cc0_scratch0
abbrev V3 : View sig .tc .vmem S1024x1408 .f32 := (Memref.whole cc0_stg3_0 : Memref sig .tc .vmem S1024x1408 .f32).view
abbrev V4 : View sig .tc .vmem S1024x1024 .bf16 := (Memref.whole cc0_stg4_0 : Memref sig .tc .vmem S1024x1024 .bf16).view
abbrev VS : View sig .tc .vmem S1024x1024 .bf16 := scr.view

/-- What the launch hands over: the scratch at some contents and the generator register at some state. -/
theorem phi_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## The body's two runs -/

set_option maxHeartbeats 1000000 in
/-- The body at the first point of a row: it fills both outputs and the scratch. -/
noncomputable def runStart (c : Dev nD) (i : grid0.Coords)
    (a2 : Memref sig .tc .vmem S1024x1024 .f32) (h2 : a2.IsWhole) (a3 : Memref sig .tc .vmem S1x1024 .f32) (h3 : a3.IsWhole)
    (a4 : Memref sig .tc .vmem S1024x1408 .bf16) (h4 : a4.IsWhole) (a5 : Memref sig .tc .vmem S1024x1408 .f32) (h5 : a5.IsWhole)
    (a6 : Memref sig .tc .vmem S1024x1024 .bf16) (h6 : a6.IsWhole) (a7 : Memref sig .tc .vmem S1024x1024 .bf16) (h7 : a7.IsWhole)
    (hc : atStart i) (x0 : Vec F S1024x1024 .f32) (x1 : Vec F S1x1024 .f32) (x2 : Vec F S1024x1408 .bf16) :
    Σ' (L3 : List (View.Piece (Elt F) S1024x1408 .f32)), Σ' (L4 : List (View.Piece (Elt F) S1024x1024 .bf16)),
      { LS : List (View.Piece (Elt F) S1024x1024 .bf16) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d) ∗ (∃ d, owns (c : Thread nD τ) a7 fullShare d)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f LS)) -∗ K ⟨⟩))
          ⊢ wp frame (wpE (defs₀ (F := F)) Variants.none c none) E (cc0_mm_in i a2 h2 a3 h3 a4 h4 a5 h5 a6 h6 a7 h7) K } := by
  refine ⟨?_, ?_, ?_, fun E K => ?run⟩
  case run =>
    simp only [cc0_mm_in_eq_skeleton]; unfold cc0_mm_in_skel
    unfold owns
    iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
    obtain rfl := h2.eq_unread hf0; obtain rfl := h3.eq_unread hf1; obtain rfl := h4.eq_unread hf2
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]; · iexists _; iexact H4
    iexists _; iexact HS

set_option maxHeartbeats 1000000 in
/-- The body at a later point of a row: it reads the scratch, fills the first output, and leaves the second alone. -/
noncomputable def runLater (c : Dev nD) (i : grid0.Coords)
    (a2 : Memref sig .tc .vmem S1024x1024 .f32) (h2 : a2.IsWhole) (a3 : Memref sig .tc .vmem S1x1024 .f32) (h3 : a3.IsWhole)
    (a4 : Memref sig .tc .vmem S1024x1408 .bf16) (h4 : a4.IsWhole) (a5 : Memref sig .tc .vmem S1024x1408 .f32) (h5 : a5.IsWhole)
    (a6 : Memref sig .tc .vmem S1024x1024 .bf16) (h6 : a6.IsWhole) (a7 : Memref sig .tc .vmem S1024x1024 .bf16) (h7 : a7.IsWhole)
    (hc : ¬ atStart i) (x2 : Vec F S1024x1408 .bf16) (xs : Vec F S1024x1024 .bf16) :
    { L3 : List (View.Piece (Elt F) S1024x1408 .f32) //
      ∀ (E : Set ℕ) (K : PUnit → sProp 𝕄),
        iprop(owns (c : Thread nD τ) a4 fullShare x2 ∗ (∃ d, owns (c : Thread nD τ) a5 fullShare d) ∗ owns (c : Thread nD τ) a7 fullShare xs
            ∗ (iprop(owns (c : Thread nD τ) a4 fullShare x2
                ∗ (∃ f, a5.view.loc (c : Thread nD τ) ↦[a5.view.set]{fullShare} a5.view.writes (Elt F) f L3)
                ∗ owns (c : Thread nD τ) a7 fullShare xs) -∗ K ⟨⟩))
          ⊢ wp frame (wpE (defs₀ (F := F)) Variants.none c none) E (cc0_mm_in i a2 h2 a3 h3 a4 h4 a5 h5 a6 h6 a7 h7) K } := by
  refine ⟨?_, fun E K => ?run⟩
  case run =>
    simp only [cc0_mm_in_eq_skeleton]; unfold cc0_mm_in_skel
    unfold owns
    iintro ⟨⟨%f2, %hf2, H2⟩, ⟨%d3, %f3, -, H3⟩, ⟨%fs, %hfs, HS⟩, Hk⟩
    obtain rfl := h4.eq_unread hf2; obtain rfl := h7.eq_unread hfs
    sl_exec (disch := first | sl_exact hc)
    sl_step
    iapply Hk
    isplitl [H2]
    · iexists _; isplitr; · ipureintro; exact h4.read_unread _
      iexact H2
    isplitl [H3]; · iexists _; iexact H3
    iexists _; isplitr; · ipureintro; exact h7.read_unread _
    iexact HS

/-- The run at the first point of a row, on that point's buffers and blocks. -/
abbrev runS (c : Dev nD) (t : Fin cfg0.N) (h : t.val % 4 = 0) :=
  runStart (F := F) c (grid0.coords t) (ms0 t) (hs0 t) (ms1 t) (hs1 t) (ms2 t) (hs2 t) (ms3 t) (hs3 t) (ms4 t) (hs4 t) scr (Memref.isWhole_whole _)
    ((atStart_iff t).mpr h) (iblk m c 0 t) (iblk m c 1 t) (iblk m c 2 t)

/-- The run at a later point, the scratch at `xs`. -/
abbrev runL (c : Dev nD) (t : Fin cfg0.N) (h : ¬ t.val % 4 = 0) (xs : Vec F S1024x1024 .bf16) :=
  runLater (F := F) c (grid0.coords t) (ms0 t) (hs0 t) (ms1 t) (hs1 t) (ms2 t) (hs2 t) (ms3 t) (hs3 t) (ms4 t) (hs4 t) scr (Memref.isWhole_whole _)
    (fun hc => h ((atStart_iff t).mp hc)) (iblk m c 2 t) xs

theorem coverS3 (c : Dev nD) (t : Fin cfg0.N) (h : t.val % 4 = 0) (y : S1024x1408.Idx) :
    ∃ pc ∈ (runS m c t h).1, y ∈ pc.1.set :=
  View.cover_of_tiledL (runS m c t h).1 S1024x1408.size (by sl_kernel_rfl) y

theorem coverS4 (c : Dev nD) (t : Fin cfg0.N) (h : t.val % 4 = 0) (y : S1024x1024.Idx) :
    ∃ pc ∈ (runS m c t h).2.1, y ∈ pc.1.set :=
  View.cover_of_tiledL (runS m c t h).2.1 S1024x1024.size (by sl_kernel_rfl) y

theorem coverSS (c : Dev nD) (t : Fin cfg0.N) (h : t.val % 4 = 0) (y : S1024x1024.Idx) :
    ∃ pc ∈ (runS m c t h).2.2.1, y ∈ pc.1.set :=
  View.cover_of_tiledL (runS m c t h).2.2.1 S1024x1024.size (by sl_kernel_rfl) y

theorem coverL3 (c : Dev nD) (t : Fin cfg0.N) (h : ¬ t.val % 4 = 0) (xs : Vec F S1024x1024 .bf16) (y : S1024x1408.Idx) :
    ∃ pc ∈ (runL m c t h xs).1, y ∈ pc.1.set :=
  View.cover_of_tiledL (runL m c t h xs).1 S1024x1408.size (by sl_kernel_rfl) y

/-! ## What the buffers hold after each point -/

/-- What the first point of a row leaves in the scratch, -/
def scratchOf (c : Dev nD) (t : Fin cfg0.N) (h : t.val % 4 = 0) : Vec F S1024x1024 .bf16 :=
  VS.read (Elt F) (VS.writes (Elt F) VS.junk (runS m c t h).2.2.1)

/-- and in the second output's buffer. -/
def hOf (c : Dev nD) (t : Fin cfg0.N) (h : t.val % 4 = 0) : Vec F S1024x1024 .bf16 :=
  V4.read (Elt F) (V4.writes (Elt F) V4.junk (runS m c t h).2.1)

theorem scratchOf_congr (c : Dev nD) {s t : Fin cfg0.N} (e : s = t) (hs : s.val % 4 = 0) (ht : t.val % 4 = 0) :
    scratchOf m c s hs = scratchOf m c t ht := by subst e; rfl

theorem hOf_congr (c : Dev nD) {s t : Fin cfg0.N} (e : s = t) (hs : s.val % 4 = 0) (ht : t.val % 4 = 0) :
    hOf m c s hs = hOf m c t ht := by subst e; rfl

/-- The scratch through a row, -/
def scratchAt (c : Dev nD) (t : Fin cfg0.N) : Vec F S1024x1024 .bf16 := scratchOf m c (start t) (start_mod t)

/-- and the second output's buffer. -/
def hAt (c : Dev nD) (t : Fin cfg0.N) : Vec F S1024x1024 .bf16 := hOf m c (start t) (start_mod t)

/-- The first output's buffer. -/
def zAt (c : Dev nD) (t : Fin cfg0.N) : Vec F S1024x1408 .f32 :=
  if h : t.val % 4 = 0 then V3.read (Elt F) (V3.writes (Elt F) V3.junk (runS m c t h).1)
  else V3.read (Elt F) (V3.writes (Elt F) V3.junk (runL m c t h (scratchAt m c t)).1)

theorem scratchAt_start (c : Dev nD) (t : Fin cfg0.N) (h : t.val % 4 = 0) : scratchAt m c t = scratchOf m c t h :=
  scratchOf_congr m c (start_of t h) _ _

theorem hAt_start (c : Dev nD) (t : Fin cfg0.N) (h : t.val % 4 = 0) : hAt m c t = hOf m c t h :=
  hOf_congr m c (start_of t h) _ _

theorem scratchAt_pred (c : Dev nD) (t : Fin cfg0.N) (h : ¬ t.val % 4 = 0) (hp : t.val - 1 < cfg0.N) :
    scratchAt m c ⟨t.val - 1, hp⟩ = scratchAt m c t :=
  scratchOf_congr m c (start_pred t h hp) _ _

theorem hAt_pred (c : Dev nD) (t : Fin cfg0.N) (h : ¬ t.val % 4 = 0) (hp : t.val - 1 < cfg0.N) :
    hAt m c ⟨t.val - 1, hp⟩ = hAt m c t :=
  hOf_congr m c (start_pred t h hp) _ _

/-- The invariant before position `n`: at first what the launch hands over, then the scratch at its contents. -/
def Phi (c : Dev nD) : (n : ℕ) → n ≤ cfg0.N → sProp 𝕄
  | 0, _ => Pipeline.ΦA spec0 c
  | n + 1, hn => iprop(iprop(owns (c : Thread nD τ) scr fullShare (scratchAt m c ⟨n, hn⟩)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) scr fullShare (scratchAt m c ⟨n - 1, by omega⟩)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zAt m c t
    | ⟨4, _⟩ => hAt m c t
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = zAt m c t := by dsimp only [dats]
theorem after_4 (c : Dev nD) (t : Fin cfg0.N) : (dats m 0 c).after 4 t = hAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The second output's buffer is not fresh away from the first point of a row. -/
theorem fresh_later : ∀ (n : ℕ), n < cfg0.N → ¬ n % 4 = 0 → cfg0.fresh 4 n = false
  | 0, _, h => absurd rfl h
  | n + 1, hn, h => by
    have hn' : n < cfg0.N := by omega
    rw [Pipeline.Cfg.fresh_succ cfg0 4 n hn', Bool.or_eq_false_iff]
    refine ⟨?_, ?_⟩
    · rw [← Bool.not_eq_true, flush0_4]
      change ¬ n % 4 = 3
      omega
    · by_cases h0 : n % 4 = 0
      · have : cfg0.idle 4 (cfg0.grid.coords ⟨n, hn'⟩) = false := by
          rw [← Bool.not_eq_true, idle_iff]; exact fun hh => hh h0
        rw [this, Bool.false_and]
      · rw [fresh_later n hn' h0, Bool.and_false]

/-- Away from the first point of a row the body finds in the second output's buffer what it then leaves there. -/
theorem before_4 (c : Dev nD) (t : Fin cfg0.N) (h : ¬ t.val % 4 = 0) (d) : (dats m 0 c).before 4 t d = hAt m c t := by
  rw [(dats m 0 c).before_out_traj 4 rfl (fun _ _ => rfl) ?_ t.val t rfl d, fresh_later t.val t.isLt h, if_neg Bool.false_ne_true,
    after_4, hAt_pred m c t h]
  intro s hs hi hf
  rw [after_4, after_4, hAt_pred m c s ((idle_iff s).mp hi)]

/-- The second output's buffer at its contents is what the pipeline asks of it after a point. -/
theorem leaves_4 (c : Dev nD) (t : Fin cfg0.N) :
    (owns (c : Thread nD τ) (ms4 t) fullShare (hAt m c t) : sProp 𝕄) ⊢ (dats m 0 c).leavesExact 4 t := by
  by_cases hi : cfg0.idle 4 (cfg0.grid.coords t) = true
  · by_cases hf : (cfg0.win 4).flush t = true
    · unfold Pipeline.Dat.leavesExact; rw [hi, hf]; dsimp only; rw [after_4]
    · rw [Bool.not_eq_true] at hf
      rw [(dats m 0 c).leavesExact_idle 4 t hi hf]
      simp only [before_4 m c t ((idle_iff t).mp hi)]
      iintro H
      iexists (fun _ => default); iexact H
  · rw [Bool.not_eq_true] at hi
    unfold Pipeline.Dat.leavesExact; rw [hi]; dsimp only; rw [after_4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

/-- The body at the first point of a row, from the scratch at anything. -/
theorem body_start (c : Dev nD) (t : Fin cfg0.N) (h : t.val % 4 = 0) (K : sProp 𝕄) :
    iprop((∃ d, owns (c : Thread nD τ) scr fullShare d) ∗ owns (c : Thread nD τ) (ms0 t) fullShare (iblk m c 0 t)
      ∗ owns (c : Thread nD τ) (ms1 t) fullShare (iblk m c 1 t) ∗ owns (c : Thread nD τ) (ms2 t) fullShare (iblk m c 2 t)
      ∗ (∃ d, owns (c : Thread nD τ) (ms3 t) fullShare d) ∗ (∃ d, owns (c : Thread nD τ) (ms4 t) fullShare d)
      ∗ (iprop(owns (c : Thread nD τ) scr fullShare (scratchAt m c t) ∗ owns (c : Thread nD τ) (ms0 t) fullShare (iblk m c 0 t)
        ∗ owns (c : Thread nD τ) (ms1 t) fullShare (iblk m c 1 t) ∗ owns (c : Thread nD τ) (ms2 t) fullShare (iblk m c 2 t)
        ∗ owns (c : Thread nD τ) (ms3 t) fullShare (zAt m c t) ∗ owns (c : Thread nD τ) (ms4 t) fullShare (hAt m c t)) -∗ K))
    ⊢ wp frame (wpE (defs₀ (F := F)) Variants.none c none) Set.univ (bodyAt0 t) (fun _ => K) := by
  unfold bodyAt0
  rw [scratchAt_start m c t h, hAt_start m c t h, show zAt m c t = _ from dif_pos h]
  unfold scratchOf hOf
  iintro ⟨HS, H0, H1, H2, H3, H4, Hk⟩
  iapply ((runS m c t h).2.2.2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, ⟨%e3, H3⟩, ⟨%e4, H4⟩, ⟨%es, HS⟩⟩
  iapply Hk
  isplitl [HS]
  · unfold owns; iexists _; isplitr
    swap; · iexact HS
    ipureintro; exact View.read_writes_of_cover _ _ _ _ _ (coverSS m c t h)
  isplitl [H0]; · iexact H0
  isplitl [H1]; · iexact H1
  isplitl [H2]; · iexact H2
  isplitl [H3]
  · unfold owns; iexists _; isplitr
    swap; · iexact H3
    ipureintro; exact View.read_writes_of_cover _ _ _ _ _ (coverS3 m c t h)
  unfold owns; iexists _; isplitr
  swap; · iexact H4
  ipureintro; exact View.read_writes_of_cover _ _ _ _ _ (coverS4 m c t h)

/-- The body at a later point of a row: it needs the weights' block, the first output's buffer and the scratch. -/
theorem body_later (c : Dev nD) (t : Fin cfg0.N) (h : ¬ t.val % 4 = 0) (K : sProp 𝕄) :
    iprop(owns (c : Thread nD τ) scr fullShare (scratchAt m c t) ∗ owns (c : Thread nD τ) (ms2 t) fullShare (iblk m c 2 t)
      ∗ (∃ d, owns (c : Thread nD τ) (ms3 t) fullShare d)
      ∗ (iprop(owns (c : Thread nD τ) scr fullShare (scratchAt m c t) ∗ owns (c : Thread nD τ) (ms2 t) fullShare (iblk m c 2 t)
        ∗ owns (c : Thread nD τ) (ms3 t) fullShare (zAt m c t)) -∗ K))
    ⊢ wp frame (wpE (defs₀ (F := F)) Variants.none c none) Set.univ (bodyAt0 t) (fun _ => K) := by
  unfold bodyAt0
  rw [show zAt m c t = _ from dif_neg h]
  iintro ⟨HS, H2, H3, Hk⟩
  iapply ((runL m c t h (scratchAt m c t)).2 Set.univ _)
  isplitl [H2]; · iexact H2
  isplitl [H3]; · iexact H3
  isplitl [HS]; · iexact HS
  iintro ⟨H2, ⟨%e3, H3⟩, HS⟩
  iapply Hk
  isplitl [HS]; · iexact HS
  isplitl [H2]; · iexact H2
  unfold owns; iexists _; isplitr
  swap; · iexact H3
  ipureintro; exact View.read_writes_of_cover _ _ _ _ _ (coverL3 m c t h _)

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).owesAt () t.succ = (dats m 0 c).owesAt () t.castSucc from rfl, after_0, after_1, after_2, after_3,
    Phi_castSucc, show (dats m 0 c).Φ t.succ
      = iprop(iprop(owns (c : Thread nD τ) scr fullShare (scratchAt m c t)) ∗ (∃ r, prngReg c r)) from rfl]
  by_cases h : t.val % 4 = 0
  · have hΦ : (Phi m c t.val (Nat.le_of_lt t.isLt) : sProp 𝕄)
        ⊢ iprop(iprop((∃ d, owns (c : Thread nD τ) scr fullShare d)) ∗ (∃ r, prngReg c r)) := by
      by_cases hz : t.val = 0
      · rw [Phi_zero m c _ _ hz, phi_eq]
      · rw [Phi_pos m c _ _ hz]
        iintro ⟨HS, Hg⟩
        isplitl [HS]
        · iexists _; iexact HS
        iexact Hg
    iintro ⟨HP, Ho, ⟨%d0, H0⟩, ⟨%d1, H1⟩, ⟨%d2, H2⟩, ⟨%d3, H3⟩, ⟨%d4, H4⟩⟩
    ihave HP2 := hΦ $$ HP
    icases HP2 with ⟨HS, Hg⟩
    iapply (body_start m c t h _)
    isplitl [HS]; · iexact HS
    isplitl [H0]; · iexact H0
    isplitl [H1]; · iexact H1
    isplitl [H2]; · iexact H2
    isplitl [H3]; · iexists _; iexact H3
    isplitl [H4]; · iexists _; iexact H4
    iintro ⟨HS, H0, H1, H2, H3, H4⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_4 m c t); iexact H4
  · have hz : t.val ≠ 0 := fun hz => h (by rw [hz])
    rw [Phi_pos m c _ _ hz, scratchAt_pred m c t h]
    simp only [before_4 m c t h]
    iintro ⟨⟨HS, Hg⟩, Ho, ⟨%d0, H0⟩, ⟨%d1, H1⟩, ⟨%d2, H2⟩, ⟨%d3, H3⟩, ⟨%d4, H4⟩⟩
    iapply (body_later m c t h _)
    isplitl [HS]; · iexact HS
    isplitl [H2]; · iexact H2
    isplitl [H3]; · iexists _; iexact H3
    iintro ⟨HS, H2, H3⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_4 m c t); iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem phi_in (c : Dev nD) : Pipeline.ΦA spec0 c ⊢ (dats m 0 c).Φ 0 := by
  rw [show (dats m 0 c).Φ 0 = Phi m c 0 (Nat.zero_le _) from rfl, Phi_zero m c 0 _ rfl]

theorem phi_out (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 16 := N_0; omega), phi_eq]
  iintro ⟨HS, Hg⟩
  isplitl [HS]
  · iexists _; iexact HS
  iexact Hg

/-! ## The run and the frame -/

-- the launch theorem's implicit arguments are found by unifying its conclusion with this one, unfolding plain definitions
set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.FhIdeal.Hand

end
-- ==== Proof.Fh.lean ====
/- The input projection: the norm of the step's input, and its product with the weights. -/
module

public import proofs.«01_k».proof.Proof.FhIdealFrame
public import proofs.«01_k».proof.Proof.Gen.FhRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Fh

open Cert.FhIdeal Cert.FhIdeal.Gen Cert.FhIdeal.Hand
open Cert.FhRefIdeal.Read

variable (m : (ℓ : Loc nD τ sig) → Buf (Elt Ideal) ℓ)

/-- Every window's block at every grid point. -/
theorem idx : ∀ t : Fin cfg0.N, win0_0.index t = ![t.val / 4, 0]
    ∧ win0_1.index t = ![0, 0]
    ∧ win0_2.index t = ![0, t.val % 4]
    ∧ win0_3.index t = ![t.val / 4, t.val % 4]
    ∧ win0_4.index t = ![t.val / 4, 0] :=
  (by decide +kernel : ∀ t : Fin grid0.N, _)

/-- The blocks that the norm reads are the same through a row of points. -/
theorem row_0 (c : Dev nD) (t : Fin cfg0.N) : iblk m c 0 (start t) = iblk m c 0 t := by
  have e : (start t).val / 4 = t.val / 4 := Nat.mul_div_cancel_left _ (by decide)
  funext y
  blk_point [iblk, V, idx t, idx (start t), e]

theorem row_1 (c : Dev nD) (t : Fin cfg0.N) : iblk m c 1 (start t) = iblk m c 1 t := by
  funext y
  blk_point [iblk, V, idx t, idx (start t)]

theorem scratch_eq (c : Dev nD) (t : Fin cfg0.N) : scratchAt m c t = k0_pay1 (iblk m c 0 t) (iblk m c 1 t) := by
  rw [← row_0, ← row_1]
  unfold scratchAt scratchOf runS
  frame_out

theorem h_eq (c : Dev nD) (t : Fin cfg0.N) : hAt m c t = k0_pay1 (iblk m c 0 t) (iblk m c 1 t) := by
  rw [← row_0, ← row_1]
  unfold hAt hOf runS
  frame_out

theorem z_eq (c : Dev nD) (t : Fin cfg0.N) :
    zAt m c t = k0_pay2 (k0_pay1 (iblk m c 0 t) (iblk m c 1 t)) (iblk m c 2 t) := by
  by_cases h : t.val % 4 = 0
  · rw [show zAt m c t = _ from dif_pos h]
    unfold runS
    frame_out
  · rw [show zAt m c t = _ from dif_neg h, ← scratch_eq]
    unfold runL
    frame_out
    exact congrArg (fun s => k0_pay2 s (iblk m c 2 t)) ((Memref.isWhole_whole cc0_scratch0).read_unread _)

/-- The norm at an index of its block is the reference's at that index of the array. -/
theorem point_4 (c : Dev nD) (t : Fin cfg0.N) (y) :
    k0_pay1 (iblk m c 0 t) (iblk m c 1 t) y
      = val_main_v12 (F := Ideal) (m ((c : Thread nD τ).loc main_arg0)) (m ((c : Thread nD τ).loc main_arg1))
          (((cfg0.win 4).blk t).view.emb y) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12]
  blk_point [iblk, V, idx t]

theorem final_4 (c : Dev nD) : (dats m 0 c).arrAt 4 (cfgs 0).N
    = val_main_v12 (F := Ideal) (m ((c : Thread nD τ).loc main_arg0)) (m ((c : Thread nD τ).loc main_arg1)) := by
  refine (dats m 0 c).arrAt_eq_of_covers 4 _ (by decide +kernel) fun t hf y => ?_
  blk_simp; rw [after_4, h_eq]
  exact point_4 m c t y

/-- The product at an index of its block. -/
theorem point_3 (c : Dev nD) (t : Fin cfg0.N) (y) :
    k0_pay2 (k0_pay1 (iblk m c 0 t) (iblk m c 1 t)) (iblk m c 2 t) y
      = val_main_v13 (F := Ideal) (m ((c : Thread nD τ).loc main_arg0)) (m ((c : Thread nD τ).loc main_arg1))
          (m ((c : Thread nD τ).loc main_arg2)) (((cfg0.win 3).blk t).view.emb y) := by
  pointwise [k0_pay1, k0_pay2, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, idx t]

theorem final_3 (c : Dev nD) : (dats m 0 c).arrAt 3 (cfgs 0).N
    = val_main_v13 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp; rw [after_3, z_eq]
  exact point_3 m c t y

end Cert.Proof.Fh

end

end
-- ==== Proof.Claim.Fh.lean ====
/- The claims about `Fh`: the three frames, the idealization, and the equality with the reference. -/
module

public import proofs.«01_k».proof.Proof.Gen.Fh.Skeleton
public import proofs.«01_k».proof.Proof.FhIdealFrame
public import proofs.«01_k».proof.Proof.Gen.FhRefIdeal.Run
public import proofs.«01_k».proof.Proof.Fh
public import proofs.«01_k».proof.Defs

@[expose] public section

noncomputable section

namespace Cert.Proof.Fh

open Idealize.ShloMosaic Idealize.SL.Sem

section

attribute [local instance] Cert.Fh.Gen.facts Cert.FhIdeal.Gen.facts

set_option maxRecDepth 100000 in
/-- The two programs have the same text, so their kernels are the same … -/
theorem kernels_eq : Cert.Fh.defs₀ (F := Bits) = Cert.FhIdeal.defs₀ (F := Bits) := by
  unfold Cert.Fh.defs₀ Cert.FhIdeal.defs₀
  congr 1
  funext l a
  match l, a with
  | ⟨0, _⟩, (t, s) => rfl

/-- … and so is the table they run from. -/
theorem table_eq : Cert.Fh.defs (F := Bits) = Cert.FhIdeal.defs (F := Bits) := congrArg (Idealize.ShloMosaic.Pipeline.defs _) kernels_eq

theorem frameP : quiescent_Fh (hFh := Cert.Fh.Gen.facts) := fun m ρ _ => by
  rw [table_eq]
  exact Cert.FhIdeal.Hand.frame (F := Bits) m ρ

end

theorem framePI : quiescent_FhIdeal (hFhIdeal := Cert.FhIdeal.Gen.facts) := fun m ρ _ => Cert.FhIdeal.Hand.frame m ρ
theorem frameRI : quiescent_FhRefIdeal (hFhRefIdeal := Cert.FhRefIdeal.Gen.facts) := fun m ρ _ =>
  (θ_run Cert.FhRefIdeal.defs _ _).mono (fun r h => ⟨fun c => (h c).2.2,
      Idealize.ShloMosaic.sem_eq_zero_of_no_sems (by decide) r.2⟩)
    (Cert.FhRefIdeal.Value.run (F := Ideal) m ρ)
theorem pres : preserves_Fh_FhIdeal := trivial

/-- The arrays the kernel leaves are the reference's. -/
theorem value : algebraic_FhIdeal_FhRefIdeal (hFhIdeal := Cert.FhIdeal.Gen.facts) (hFhRefIdeal := Cert.FhRefIdeal.Gen.facts) := by
  pair_intro
  · run_from Cert.FhIdeal.Hand.run_main m g
  · hlo_run
    · exact (final_3 m c).symm
    · exact (final_4 m c).symm

end Cert.Proof.Fh

end

end
-- ==== Proof.RfIdealFrame.lean ====
/- The frame of the recurrence's forward kernel (`rnn_fwd`): a grid of 2 sequences × 4 blocks of features. At every
   point the body fills its three outputs: the convolution, the hidden state, which a loop of 256 trips writes eight
   rows at a time from two scratch buffers, carrying the last row, and the gated product. What the outputs hold after a
   point is stated outright, the hidden state by the loop's recursion. -/
module

public import proofs.«01_k».proof.Proof.Gen.RfIdeal.Frame
public import proofs.«01_k».proof.Proof.Gen.RfIdeal.Skeleton
public import Idealize.ShloMosaic.Lib.Pipeline.ValueKit
public import Idealize.ShloMosaic.Lib.WritesUnit
public import Idealize.ShloMosaic.Lib.WholeRead
public import Idealize.ShloMosaic.Lib.VecWindow
public import Idealize.ShloMosaic.Lib.Claim

@[expose] public section

set_option maxRecDepth 16384

noncomputable section

namespace Cert.RfIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RfIdeal.Gen

variable {F : FTy → Type} [FloatOps F]

local notation "𝕄" => MT nD τ sig Unit (Elt F) ℕ (UR sig nD τ) ℕ

/-! ## The loop's values -/

theorem trips_eq : k0_t1_loop.trips = 256 := by decide

/-- The eight rows that trip `k` reads and writes. -/
abbrev eightRows (k : Fin k0_t1_loop.trips) : Rect S2048x256 :=
  Rect.unit (s := S2048x256) (k0_off1 k) S8x256.size (k0_off1_inb k)

/-- Those rows of an array. -/
def rows (X : Vec F S2048x256 .f32) (k : Fin k0_t1_loop.trips) : Vec F S8x256 .f32 := View.ld X (eightRows k)

/-- The row carried into trip `n`, from the group's factors `A` and terms `B`. -/
def carry (A B : Vec F S2048x256 .f32) : ℕ → FVec F S1x256 .f32
  | 0 => k0_pay18
  | n + 1 => if h : n < k0_t1_loop.trips then k0_pay20 (carry A B n) (rows B ⟨n, h⟩) (rows A ⟨n, h⟩) else carry A B n

theorem carry_succ (A B : Vec F S2048x256 .f32) (k : Fin k0_t1_loop.trips) :
    carry A B (k.val + 1) = k0_pay20 (carry A B k.val) (rows B k) (rows A k) := by
  rw [carry, dif_pos k.isLt]

/-- What trip `k` stores. -/
def eight (A B : Vec F S2048x256 .f32) (k : Fin k0_t1_loop.trips) : Vec F S8x256 .f32 :=
  k0_pay19 (carry A B k.val) (rows B k) (rows A k)

/-- The stores of the trips before `n`, the last first. -/
def pieces (A B : Vec F S2048x256 .f32) : ℕ → List (View.Piece (Elt F) S2048x256 .f32)
  | 0 => []
  | n + 1 => if h : n < k0_t1_loop.trips then ⟨eightRows ⟨n, h⟩, eight A B ⟨n, h⟩⟩ :: pieces A B n else pieces A B n

theorem pieces_succ (A B : Vec F S2048x256 .f32) (k : Fin k0_t1_loop.trips) :
    pieces A B (k.val + 1) = ⟨eightRows k, eight A B k⟩ :: pieces A B k.val := by
  rw [pieces, dif_pos k.isLt]

/-- The trip that writes a row. -/
def tripOf (y : S2048x256.Idx) : Fin k0_t1_loop.trips :=
  ⟨(y 0).val / 8, by rw [trips_eq]; have : (y 0).val < 2048 := (y 0).isLt; omega⟩

/-- All rows. -/
def allRows (A B : Vec F S2048x256 .f32) : Vec F S2048x256 .f32 := fun y =>
  eight A B (tripOf y) (ix2 (⟨(y 0).val % 8, Nat.mod_lt _ (by decide)⟩ : Fin 8) (y 1))

/-- The loop's stores leave all rows. -/
theorem read_pieces (A B : Vec F S2048x256 .f32) {κ : Kind} {sp : Space} (v : View sig κ sp S2048x256 .f32) (f : v.ty.Contents (Elt F)) :
    ∀ n, n ≤ 256 → ∀ y : S2048x256.Idx, (y 0).val < 8 * n → v.read (Elt F) (v.writes (Elt F) f (pieces A B n)) y = allRows A B y
  | 0, _, y, h => absurd h (Nat.not_lt_zero _)
  | n + 1, hn, y, h => by
    have hk : n < k0_t1_loop.trips := by rw [trips_eq]; omega
    rw [pieces_succ A B ⟨n, hk⟩]
    by_cases hy : (y 0).val < 8 * n
    · rw [View.read_writes_cons_rows_of_not_mem v f _ _ _ y (k0_off1_eq ⟨n, hk⟩) (W := 8) rfl (Or.inl hy)]
      exact read_pieces A B v f n (by omega) y hy
    · have e : tripOf y = ⟨n, hk⟩ := Fin.ext (by show (y 0).val / 8 = n; omega)
      rw [View.read_writes_cons_rows_of_mem v f (size := S8x256.size) _ _ _ y (ix2 (⟨(y 0).val % 8, Nat.mod_lt _ (by decide)⟩ : Fin 8) (y 1)) (k0_off1_eq ⟨n, hk⟩)
        (by show (y 0).val = 8 * n + (y 0).val % 8; omega) rfl]
      unfold allRows
      rw [e]

/-! ## The loop -/

section Loop
variable (c : Dev nD) (i : grid0.Coords)
    (a2 : Memref sig .tc .vmem S2048x256 .f32) (h2 : a2.IsWhole)
    (a3 : Memref sig .tc .vmem S2048x256 .f32) (h3 : a3.IsWhole)
    (a4 : Memref sig .tc .vmem S4x256 .f32) (h4 : a4.IsWhole)
    (a5 : Memref sig .tc .vmem S1x256 .f32) (h5 : a5.IsWhole)
    (a6 : Memref sig .tc .vmem S1x256x256 .bf16) (h6 : a6.IsWhole)
    (a7 : Memref sig .tc .vmem S1x256 .f32) (h7 : a7.IsWhole)
    (a8 : Memref sig .tc .vmem S1x256x256 .bf16) (h8 : a8.IsWhole)
    (a9 : Memref sig .tc .vmem S1x256 .f32) (h9 : a9.IsWhole)
    (a10 : Memref sig .tc .vmem S1x256 .f32) (h10 : a10.IsWhole)
    (a11 : Memref sig .tc .vmem S2048x256 .f32) (h11 : a11.IsWhole)
    (a12 : Memref sig .tc .vmem S2048x256 .f32) (h12 : a12.IsWhole)
    (a13 : Memref sig .tc .vmem S2048x256 .bf16) (h13 : a13.IsWhole)
    (a14 : Memref sig .tc .vmem S2048x256 .f32) (h14 : a14.IsWhole)
    (a15 : Memref sig .tc .vmem S2048x256 .f32) (h15 : a15.IsWhole)
    (v112 : FVec F S256x8x256 .f32) (v114 : IVec S256x8x256 32) (v116 : IVec S256x8x256 1) (v121 v122 : FVec F S256x8x256 .f32)
    (X14 : BufTy.Contents (Elt F) a14.view.ty) (X15 : BufTy.Contents (Elt F) a15.view.ty)

/-- One trip: from the carried row and the scratch it stores eight rows, and carries the last of them on. -/
theorem trip (k : Fin k0_t1_loop.trips) (E : Set ℕ) (acc : FVec F S1x256 .f32) (f : BufTy.Contents (Elt F) a12.view.ty) :
    (iprop((a14.view.loc (c : Thread nD τ) ↦[a14.view.set]{fullShare} X14) ∗ (a15.view.loc (c : Thread nD τ) ↦[a15.view.set]{fullShare} X15) ∗ (a12.view.loc (c : Thread nD τ) ↦[a12.view.set]{fullShare} f)) : sProp 𝕄)
    ⊢ wp frame (wpE (defs₀ (F := F)) Variants.none (c : Thread nD τ) none) E (k0_t1_body (F := F) i a2 h2 a3 h3 a4 h4 a5 h5 a6 h6 a7 h7 a8 h8 a9 h9 a10 h10 a11 h11 a12 h12 a13 h13 a14 h14 a15 h15 v112 v114 v116 v121 v122 k acc)
      (fun yld => iprop(⌜yld = k0_pay20 acc (rows (a15.view.read (Elt F) X15) k) (rows (a14.view.read (Elt F) X14) k)⌝
        ∗ (a14.view.loc (c : Thread nD τ) ↦[a14.view.set]{fullShare} X14) ∗ (a15.view.loc (c : Thread nD τ) ↦[a15.view.set]{fullShare} X15)
        ∗ (a12.view.loc (c : Thread nD τ) ↦[a12.view.set]{fullShare} a12.view.writes (Elt F) f [⟨eightRows k, k0_pay19 acc (rows (a15.view.read (Elt F) X15) k) (rows (a14.view.read (Elt F) X14) k)⟩]))) := by
  have hk : k.val < 256 := Nat.lt_of_lt_of_le k.isLt k0_t1_abs.2.1
  unfold k0_t1_body
  iintro ⟨H14, H15, H12⟩
  sl_exec
  sl_step
  isplitr
  · ipureintro; rfl
  isplitl [H14]; · iexact H14
  isplitl [H15]; · iexact H15
  iexact H12

set_option warn.classDefReducibility false in
/-- The loop by its invariant: before trip `n` the output holds the stores of the trips before. -/
@[sl_loop] def loopInv (E : Set ℕ) (G : BufTy.Contents (Elt F) a12.view.ty) :
    LoopInv (M := 𝕄) Idealize.ShloMosaic.frame (wpE (defs₀ (F := F)) Variants.none (c : Thread nD τ) none) E
      k0_t1_loop.lb k0_t1_loop.ub k0_t1_loop.st k0_t1_ok (k0_pay18 (F := F)) (k0_t1_body (F := F) i a2 h2 a3 h3 a4 h4 a5 h5 a6 h6 a7 h7 a8 h8 a9 h9 a10 h10 a11 h11 a12 h12 a13 h13 a14 h14 a15 h15 v112 v114 v116 v121 v122) where
  inv n acc := iprop((a14.view.loc (c : Thread nD τ) ↦[a14.view.set]{fullShare} X14) ∗ (a15.view.loc (c : Thread nD τ) ↦[a15.view.set]{fullShare} X15)
    ∗ (∃ f, (a12.view.loc (c : Thread nD τ) ↦[a12.view.set]{fullShare} f) ∗ ⌜f = a12.view.writes (Elt F) G (pieces (a14.view.read (Elt F) X14) (a15.view.read (Elt F) X15) n)⌝)
    ∗ ⌜acc = carry (a14.view.read (Elt F) X14) (a15.view.read (Elt F) X15) n⌝)
  step k acc := by
    iintro ⟨H14, H15, ⟨%f, H12, %hf⟩, %ha⟩
    subst ha
    iapply (wp_wand_r Idealize.ShloMosaic.frame (wpE (defs₀ (F := F)) Variants.none (c : Thread nD τ) none) E)
    isplitl [H14 H15 H12]
    · iapply (trip c i a2 h2 a3 h3 a4 h4 a5 h5 a6 h6 a7 h7 a8 h8 a9 h9 a10 h10 a11 h11 a12 h12 a13 h13 a14 h14 a15 h15 v112 v114 v116 v121 v122 X14 X15 k E _ f)
      isplitl [H14]; · iexact H14
      isplitl [H15]; · iexact H15
      iexact H12
    · iintro %yld ⟨%hy, H14, H15, H12⟩
      isplitl [H14]; · iexact H14
      isplitl [H15]; · iexact H15
      isplitl [H12]
      · iexists _; isplitl [H12]; · iexact H12
        ipureintro; rw [hf, pieces_succ, ← View.writes_append]; rfl
      ipureintro; rw [hy, carry_succ]

/-- After the loop the output holds all rows. -/
instance loopExit (E : Set ℕ) (G : BufTy.Contents (Elt F) a12.view.ty) :
    LoopExit (loopInv c i a2 h2 a3 h3 a4 h4 a5 h5 a6 h6 a7 h7 a8 h8 a9 h9 a10 h10 a11 h11 a12 h12 a13 h13 a14 h14 a15 h15 v112 v114 v116 v121 v122 X14 X15 E G) where
  post _ := iprop((a14.view.loc (c : Thread nD τ) ↦[a14.view.set]{fullShare} X14) ∗ (a15.view.loc (c : Thread nD τ) ↦[a15.view.set]{fullShare} X15)
    ∗ (a12.view.loc (c : Thread nD τ) ↦[a12.view.set]{fullShare} h12.unread (allRows (a14.view.read (Elt F) X14) (a15.view.read (Elt F) X15))))
  exit acc := by
    show iprop((a14.view.loc (c : Thread nD τ) ↦[a14.view.set]{fullShare} X14) ∗ (a15.view.loc (c : Thread nD τ) ↦[a15.view.set]{fullShare} X15)
      ∗ (∃ f, (a12.view.loc (c : Thread nD τ) ↦[a12.view.set]{fullShare} f) ∗ ⌜f = a12.view.writes (Elt F) G (pieces (a14.view.read (Elt F) X14) (a15.view.read (Elt F) X15) k0_t1_loop.trips)⌝)
      ∗ ⌜acc = carry (a14.view.read (Elt F) X14) (a15.view.read (Elt F) X15) k0_t1_loop.trips⌝) ⊢ _
    iintro ⟨H14, H15, ⟨%f, H12, %hf⟩, %ha⟩
    have e : a12.view.read (Elt F) f = allRows (a14.view.read (Elt F) X14) (a15.view.read (Elt F) X15) := by
      rw [hf, trips_eq]
      funext y
      exact read_pieces _ _ a12.view G 256 (Nat.le_refl _) y (by have : (y 0).val < 2048 := (y 0).isLt; omega)
    rw [h12.eq_unread e]
    isplitl [H14]; · iexact H14
    isplitl [H15]; · iexact H15
    iexact H12

end Loop

/-! ## The body's values -/

section Values

variable (x0 : Vec F S2048x256 .f32) (x1 : Vec F S2048x256 .f32) (x2 : Vec F S4x256 .f32) (x3 : Vec F S1x256 .f32) (x4 : Vec F S1x256x256 .bf16) (x5 : Vec F S1x256 .f32) (x6 : Vec F S1x256x256 .bf16) (x7 : Vec F S1x256 .f32) (x8 : Vec F S1x256 .f32)

/-- The convolution. -/
def convV (x0 : Vec F S2048x256 .f32) (x2 : Vec F S4x256 .f32) (x3 : Vec F S1x256 .f32) : FVec F S2048x256 .f32 := k0_pay2 x0 x2 x3

/-- The factor of the recurrence at every row. -/
def aV (x0 : Vec F S2048x256 .f32) (x2 : Vec F S4x256 .f32) (x3 : Vec F S1x256 .f32) (x4 : Vec F S1x256x256 .bf16) (x5 x8 : Vec F S1x256 .f32) : FVec F S2048x256 .f32 :=
  k0_pay7 (convV x0 x2 x3) (k0_pay3 x4) x5 x8

/-- The terms, joined with the row before where there is one in the group of eight. -/
def bV (x0 : Vec F S2048x256 .f32) (x2 : Vec F S4x256 .f32) (x3 : Vec F S1x256 .f32) (x4 : Vec F S1x256x256 .bf16) (x5 : Vec F S1x256 .f32)
    (x6 : Vec F S1x256x256 .bf16) (x7 x8 : Vec F S1x256 .f32) : FVec F S256x8x256 .f32 :=
  k0_pay10 (convV x0 x2 x3) (k0_pay5 (convV x0 x2 x3) x6 x7) (k0_pay6 (convV x0 x2 x3) (k0_pay3 x4) x5 x8) (aV x0 x2 x3 x4 x5 x8)

abbrev rowNo : IVec S256x8x256 32 := iota .tc S256x8x256 32 [1] iota_S256x8x256_d1_w32

/-- Each row's factor and term since its group's first row. -/
def groupA (x0 : Vec F S2048x256 .f32) (x2 : Vec F S4x256 .f32) (x3 : Vec F S1x256 .f32) (x4 : Vec F S1x256x256 .bf16) (x5 x8 : Vec F S1x256 .f32) : FVec F S2048x256 .f32 :=
  k0_pay16 (k0_pay8 (aV x0 x2 x3 x4 x5 x8)) rowNo k0_pay9 (k0_pay11 (aV x0 x2 x3 x4 x5 x8))
def groupB (x0 : Vec F S2048x256 .f32) (x2 : Vec F S4x256 .f32) (x3 : Vec F S1x256 .f32) (x4 : Vec F S1x256x256 .bf16) (x5 : Vec F S1x256 .f32)
    (x6 : Vec F S1x256x256 .bf16) (x7 x8 : Vec F S1x256 .f32) : FVec F S2048x256 .f32 :=
  k0_pay17 (k0_pay8 (aV x0 x2 x3 x4 x5 x8)) rowNo k0_pay9 (bV x0 x2 x3 x4 x5 x6 x7 x8) (k0_pay11 (aV x0 x2 x3 x4 x5 x8))

/-- The hidden state. -/
def hidden (x0 : Vec F S2048x256 .f32) (x2 : Vec F S4x256 .f32) (x3 : Vec F S1x256 .f32) (x4 : Vec F S1x256x256 .bf16) (x5 : Vec F S1x256 .f32)
    (x6 : Vec F S1x256x256 .bf16) (x7 x8 : Vec F S1x256 .f32) : Vec F S2048x256 .f32 :=
  allRows (groupA x0 x2 x3 x4 x5 x8) (groupB x0 x2 x3 x4 x5 x6 x7 x8)

end Values

/-- The values stored whole are what is read. -/
theorem read_full {e : EltTy} {κ : Kind} {sp : Space} {s : Shape} (v : View sig κ sp s e) (f : v.ty.Contents (Elt F)) (x : Vec F s e)
    (off : Fin s.rank → ℕ) (inb : ∀ a, off a + s.size a ≤ s.size a) (L : List (View.Piece (Elt F) s e)) :
    v.read (Elt F) (v.writes (Elt F) f (⟨Rect.unit off s.size inb, x⟩ :: L)) = x :=
  View.read_writes_full v f inb x L

set_option maxHeartbeats 2000000 in
/-- The body's run. -/
theorem run (c : Dev nD) (i : grid0.Coords)
    (a2 : Memref sig .tc .vmem S2048x256 .f32) (h2 : a2.IsWhole)
    (a3 : Memref sig .tc .vmem S2048x256 .f32) (h3 : a3.IsWhole)
    (a4 : Memref sig .tc .vmem S4x256 .f32) (h4 : a4.IsWhole)
    (a5 : Memref sig .tc .vmem S1x256 .f32) (h5 : a5.IsWhole)
    (a6 : Memref sig .tc .vmem S1x256x256 .bf16) (h6 : a6.IsWhole)
    (a7 : Memref sig .tc .vmem S1x256 .f32) (h7 : a7.IsWhole)
    (a8 : Memref sig .tc .vmem S1x256x256 .bf16) (h8 : a8.IsWhole)
    (a9 : Memref sig .tc .vmem S1x256 .f32) (h9 : a9.IsWhole)
    (a10 : Memref sig .tc .vmem S1x256 .f32) (h10 : a10.IsWhole)
    (a11 : Memref sig .tc .vmem S2048x256 .f32) (h11 : a11.IsWhole)
    (a12 : Memref sig .tc .vmem S2048x256 .f32) (h12 : a12.IsWhole)
    (a13 : Memref sig .tc .vmem S2048x256 .bf16) (h13 : a13.IsWhole)
    (a14 : Memref sig .tc .vmem S2048x256 .f32) (h14 : a14.IsWhole)
    (a15 : Memref sig .tc .vmem S2048x256 .f32) (h15 : a15.IsWhole)
    (x0 : Vec F S2048x256 .f32) (x1 : Vec F S2048x256 .f32) (x2 : Vec F S4x256 .f32) (x3 : Vec F S1x256 .f32) (x4 : Vec F S1x256x256 .bf16) (x5 : Vec F S1x256 .f32) (x6 : Vec F S1x256x256 .bf16) (x7 : Vec F S1x256 .f32) (x8 : Vec F S1x256 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8
        ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8
            ∗ owns (c : Thread nD τ) a11 fullShare (convV x0 x2 x3) ∗ owns (c : Thread nD τ) a12 fullShare (hidden x0 x2 x3 x4 x5 x6 x7 x8) ∗ owns (c : Thread nD τ) a13 fullShare (k0_pay1 x1 (hidden x0 x2 x3 x4 x5 x6 x7 x8))
            ∗ (∃ d, owns (c : Thread nD τ) a14 fullShare d) ∗ (∃ d, owns (c : Thread nD τ) a15 fullShare d)) -∗ K ⟨⟩))
      ⊢ wp frame (wpE (defs₀ (F := F)) Variants.none (c : Thread nD τ) none) E (cc0_rnn_fwd i a2 h2 a3 h3 a4 h4 a5 h5 a6 h6 a7 h7 a8 h8 a9 h9 a10 h10 a11 h11 a12 h12 a13 h13 a14 h14 a15 h15) K := by
  simp only [cc0_rnn_fwd_eq_skeleton]; unfold cc0_rnn_fwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8
  sl_exec
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; · ipureintro; exact h8.read_unread _
    iexact H6
  isplitl [H7]
  · iexists _; isplitr; · ipureintro; exact h9.read_unread _
    iexact H7
  isplitl [H8]
  · iexists _; isplitr; · ipureintro; exact h10.read_unread _
    iexact H8
  isplitl [H9]
  · iexists _; isplitr; swap; · iexact H9
    ipureintro; frame_out; exact read_full a11.view f9 _ _ _ _
  isplitl [HL2]
  · iexists _; isplitr; swap; · iexact HL2
    ipureintro
    refine (h12.read_unread _).trans (congrArg₂ allRows ?_ ?_)
    · frame_out; rfl
    · frame_out; rfl
  isplitl [H11]
  · iexists _; isplitr; swap; · iexact H11
    ipureintro; frame_out; exact read_full a13.view f11 _ _ _ _
  isplitl [HL0]
  · iexists _, _; isplitr; swap; · iexact HL0
    ipureintro; rfl
  iexists _, _; isplitr; swap; · iexact HL1
  ipureintro; rfl

/-! ## The proof data -/

variable (m : (ℓ : Loc nD τ sig) → Buf (Elt F) ℓ) (ρ : Dev nD → PrngReg)

abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2048x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2048x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2048x256 .bf16 := win0_11.stage (cfg0.slots t 11)
abbrev hs11 (t : Fin cfg0.N) : (ms11 t).IsWhole := hstage0_11 ((cfg0.slots t 11).cast nbuf0_11)
abbrev scr0 : Memref sig .tc .vmem S2048x256 .f32 := Memref.whole cc0_scratch0
abbrev scr1 : Memref sig .tc .vmem S2048x256 .f32 := Memref.whole cc0_scratch1

/-- What the launch hands over: the two scratch buffers at some contents and the generator register at some state. -/
theorem phi_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- What the outputs' buffers hold after a point: the convolution, the hidden state, the gated product. -/
def xcAt (c : Dev nD) (t : Fin cfg0.N) : FVec F S2048x256 .f32 := convV (iblk m c 0 t) (iblk m c 2 t) (iblk m c 3 t)
def hAt (c : Dev nD) (t : Fin cfg0.N) : Vec F S2048x256 .f32 :=
  hidden (iblk m c 0 t) (iblk m c 2 t) (iblk m c 3 t) (iblk m c 4 t) (iblk m c 5 t) (iblk m c 6 t) (iblk m c 7 t) (iblk m c 8 t)
def yaAt (c : Dev nD) (t : Fin cfg0.N) : FVec F S2048x256 .bf16 := k0_pay1 (iblk m c 1 t) (hAt m c t)

/-- The proof data: the inputs' blocks stay, the outputs' buffers hold the three values. The first two inputs are
    blocks of one array, so each holds a share of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => xcAt m c t
    | ⟨10, _⟩ => hAt m c t
    | ⟨11, _⟩ => yaAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem Phi_eq (c : Dev nD) (t) : (dats m 0 c).Φ t = Pipeline.ΦA spec0 c := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = xcAt m c t := by dsimp only [dats]
theorem after_10 (c : Dev nD) (t : Fin cfg0.N) : (dats m 0 c).after 10 t = hAt m c t := by dsimp only [dats]
theorem after_11 (c : Dev nD) (t : Fin cfg0.N) : (dats m 0 c).after 11 t = yaAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 1000000 in
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl, Phi_eq, Phi_eq, phi_eq, after_0, after_1, after_2, after_3, after_4, after_5, after_6, after_7, after_8, after_9, after_10, after_11]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _)
    (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

-- the launch theorem's implicit arguments are found by unifying its conclusion with this one, unfolding plain definitions
set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.RfIdeal.Hand

end
-- ==== Proof.Scan.lean ====
/-
  The recurrence h ← a h + b over the extended reals, and the scan of eight rows by doubling.
-/
module

public import proofs.«01_k».proof.Proof.Arith
public import Mathlib.Tactic.Ring

@[expose] public section

noncomputable section

open Idealize.ShloMosaic

namespace Cert.Proof.Scan

/-- Two affine maps in a row are one, when the outer factor is nonnegative and not infinite. -/
theorem comp {A A' B B' x : EReal} (h0 : 0 ≤ A) (ht : A ≠ ⊤) :
    (B + A * B') + (A * A') * x = B + A * (B' + A' * x) := by
  rw [EReal.left_distrib_of_nonneg_of_ne_top h0 ht, mul_assoc, add_assoc]

/-- The recurrence from `c`: its value after `n` rows. -/
def chain (a b : ℕ → EReal) (c : EReal) : ℕ → EReal
  | 0 => c
  | n + 1 => a n * chain a b c n + b n

theorem chain_add (a b : ℕ → EReal) (c : EReal) (m : ℕ) : ∀ n,
    chain a b c (m + n) = chain (fun i => a (m + i)) (fun i => b (m + i)) (chain a b c m) n
  | 0 => rfl
  | n + 1 => by
    show a (m + n) * chain a b c (m + n) + b (m + n) = _
    rw [chain_add a b c m n]; rfl

/-- One doubling of the scan: factors and terms joined with those `s` rows before, where there are any. -/
def dA (s : ℕ) (A : ℕ → EReal) (i : ℕ) : EReal := A i * (if s ≤ i then A (i - s) else 1)
def dB (s : ℕ) (A B : ℕ → EReal) (i : ℕ) : EReal := B i + A i * (if s ≤ i then B (i - s) else 0)

/-- `A`, `B` take the chain's value `w` rows before to its value after row `i`. -/
def Inv (a b : ℕ → EReal) (c : EReal) (w : ℕ) (A B : ℕ → EReal) : Prop :=
  ∀ i, B i + A i * chain a b c (i + 1 - w) = chain a b c (i + 1) ∧ 0 ≤ A i ∧ A i ≤ 1

theorem inv_one {a b : ℕ → EReal} (c : EReal) (ha : ∀ i, 0 ≤ a i ∧ a i ≤ 1) : Inv a b c 1 a b := fun i =>
  ⟨by rw [Nat.add_sub_cancel]; exact add_comm _ _, ha i⟩

theorem ne_top {x : EReal} (h : x ≤ 1) : x ≠ ⊤ := fun e => by
  rw [e] at h; exact absurd (top_le_iff.1 h) (by decide)

theorem inv_double {a b : ℕ → EReal} {c : EReal} {s : ℕ} {A B : ℕ → EReal} (h : Inv a b c s A B) :
    Inv a b c (s + s) (dA s A) (dB s A B) := fun i => by
  obtain ⟨h1, h2, h3⟩ := h i
  unfold dA dB
  by_cases hs : s ≤ i
  · obtain ⟨g1, g2, g3⟩ := h (i - s)
    rw [if_pos hs, if_pos hs]
    refine ⟨?_, mul_nonneg h2 g2, ?_⟩
    · rw [comp h2 (ne_top h3), show i + 1 - (s + s) = i - s + 1 - s by omega, g1, show i - s + 1 = i + 1 - s by omega, h1]
    · exact mul_le_one₀ h3 g2 g3
  · rw [if_neg hs, if_neg hs, mul_zero, add_zero, mul_one]
    exact ⟨by rw [show i + 1 - (s + s) = i + 1 - s by omega]; exact h1, h2, h3⟩

/-- Three doublings and the value before the group give each row of a group of eight. -/
theorem group {a b : ℕ → EReal} (c : EReal) (ha : ∀ i, 0 ≤ a i ∧ a i ≤ 1) (i : ℕ) (hi : i < 8) :
    dB 4 (dA 2 (dA 1 a)) (dB 2 (dA 1 a) (dB 1 a b)) i + dA 4 (dA 2 (dA 1 a)) i * c = chain a b c (i + 1) := by
  have h := (inv_double (inv_double (inv_double (inv_one (b := b) c ha))) i).1
  rw [show i + 1 - (1 + 1 + (1 + 1) + (1 + 1 + (1 + 1))) = 0 by omega] at h
  exact h

/-! ### The gates -/

theorem exp_nonneg (x : EReal) : 0 ≤ Ideal.exp x := by
  induction x with
  | bot => exact le_refl _
  | top => exact le_top
  | coe r => exact EReal.coe_nonneg.2 (Real.exp_pos r).le

theorem exp_le_one {x : EReal} (h : x ≤ 0) : Ideal.exp x ≤ 1 := by
  induction x with
  | bot => exact zero_le_one
  | top => exact absurd h (by decide)
  | coe r => exact EReal.coe_le_coe_iff.2 (Real.exp_le_one_iff.2 (EReal.coe_nonpos.1 h))

theorem log1p_nonneg {x : EReal} (h : 0 ≤ x) : 0 ≤ Ideal.log1p x := by
  induction x with
  | bot => exact absurd h (by decide)
  | top => exact le_top
  | coe r =>
    have hr : 0 ≤ r := EReal.coe_nonneg.1 h
    have e : (1 : EReal) + (r : EReal) = ((1 + r : ℝ) : EReal) := by push_cast; rfl
    show 0 ≤ Ideal.log (1 + (r : EReal))
    rw [e]
    show 0 ≤ (if 1 + r ≤ 0 then (⊥ : EReal) else ((Real.log (1 + r) : ℝ) : EReal))
    rw [if_neg (by linarith)]
    exact EReal.coe_nonneg.2 (Real.log_nonneg (by linarith))

theorem sig_nonneg (x : EReal) : 0 ≤ Ideal.div 1 (1 + Ideal.exp (-x)) := by
  unfold Ideal.div
  split
  · split
    · exact le_top
    · exact absurd zero_lt_one (by assumption)
  · rw [one_mul]
    exact EReal.inv_nonneg_of_nonneg (add_nonneg zero_le_one (exp_nonneg _))

theorem c_neg8 : Ideal.ofBits .f32 0xC1000000#32 = ((-8 : ℝ) : EReal) := by
  simp [Ideal.ofBits, Ideal.ieee]; rw [← EReal.coe_mul]; norm_num

/-- The logarithm of the decay is not positive. -/
theorem loga_nonpos {r s : EReal} (hr : 0 ≤ r) (hs : 0 ≤ s) : Ideal.ofBits .f32 0xC1000000#32 * r * s ≤ 0 := by
  have e : ((-8 : ℝ) : EReal) = -((8 : ℝ) : EReal) := by norm_num
  rw [c_neg8, mul_assoc, e, EReal.neg_mul, ← neg_zero, EReal.neg_le_neg_iff]
  exact mul_nonneg (EReal.coe_nonneg.2 (by norm_num)) (mul_nonneg hr hs)

/-- One minus the decay's square, by the exponential of twice its logarithm. -/
theorem one_sub_sq {l : EReal} (h : l ≤ 0) :
    1 - Ideal.exp l * Ideal.exp l = -(Ideal.exp (((2 : ℝ) : EReal) * l) - 1) := by
  induction l with
  | bot =>
    rw [EReal.coe_mul_bot_of_pos (by norm_num)]
    show (1 : EReal) - 0 * 0 = -(0 - 1)
    norm_num
  | top => exact absurd h (by decide)
  | coe r =>
    rw [← EReal.coe_mul]
    show (1 : EReal) - ((Real.exp r : ℝ) : EReal) * ((Real.exp r : ℝ) : EReal) = -(((Real.exp (2 * r) : ℝ) : EReal) - 1)
    rw [two_mul, Real.exp_add, ← EReal.coe_mul, ← EReal.coe_one, ← EReal.coe_sub, ← EReal.coe_sub, ← EReal.coe_neg]
    congr 1; ring

end Cert.Proof.Scan

end
-- ==== Proof.RfRef.lean ====
module

public import proofs.«01_k».proof.Proof.Gen.RfRefIdeal.Step
public import proofs.«01_k».proof.Proof.Scan
public import Idealize.ShloMosaic.Lib.Pipeline.ValueKit

/-! The reference's scan: its state after `j` trips holds the recurrence's value after `j` rows, and the rows so far. -/

@[expose] public section

set_option maxRecDepth 16384
set_option maxHeartbeats 1000000

noncomputable section

open Idealize.ShloMosaic Idealize.ShloMosaic.TcCoe Idealize.SL.Sem

namespace Cert.Proof.RfRef

open Cert.RfRefIdeal Cert.RfRefIdeal.Step
open Cert.Proof.Scan

/-- A sequence's column, as a function of the row. -/
def col (v : FVec Ideal S2x2048x1024 .f32) (n : Fin 2) (f : Fin 1024) (j : ℕ) : EReal :=
  if h : j < 2048 then v (ix3 n (⟨j, h⟩ : Fin 2048) f) else 0

variable (x0 : FVec Ideal S4096x5632 .f32) (x1 : FVec Ideal S4x1024 .f32) (x2 : FVec Ideal S1x1024 .f32) (x3 : FVec Ideal S4x256x256 .bf16)
  (x4 : FVec Ideal S1x1024 .f32) (x5 : FVec Ideal S4x256x256 .bf16) (x6 x7 : FVec Ideal S1x1024 .f32)

/-- The state after `j` trips. -/
def stateAt : ℕ → State Ideal
  | 0 => init x0 x1 x2 x3 x4 x5 x6 x7
  | j + 1 => step j (stateAt j)

theorem factors (j : ℕ) : (stateAt x0 x1 x2 x3 x4 x5 x6 x7 j).main_v83_0 = A_main_v80 (F := Ideal) x0 x1 x2 x3 x4 x5 x6 x7 := by
  induction j with
  | zero => rfl
  | succ j ih => exact ih

theorem terms (j : ℕ) : (stateAt x0 x1 x2 x3 x4 x5 x6 x7 j).main_v83_1 = A_main_v81 (F := Ideal) x0 x1 x2 x3 x4 x5 x6 x7 := by
  induction j with
  | zero => rfl
  | succ j ih => exact ih

/-- Where a trip reads and writes: its own row, from the first sequence and feature. -/
theorem start_row (j : ℕ) (hj : j < 2048) (h) : Host.clampedStart S2048x2x1024 S1x2x1024 h
    (fun k => BitVec.toInt ((![(constantI S_ 32 (BitVec.ofNat 32 j) : IVec S_ 32), constantI S_ 32 0#32, constantI S_ 32 0#32] : Fin 3 → IVec S_ 32) k (Shape.Idx.first Gen.h_S_))) 0 = j := by
  have e : BitVec.toInt (BitVec.ofNat 32 j) = j := by
    rw [BitVec.toInt_eq_toNat_of_lt (by simp; omega)]; simp; omega
  show (min (max (BitVec.toInt (BitVec.ofNat 32 j)) 0) ((2048 - 1 : ℕ) : Int)).toNat = j
  rw [e]
  omega

theorem start_seq (j : ℕ) (h) : Host.clampedStart S2048x2x1024 S1x2x1024 h
    (fun k => BitVec.toInt ((![(constantI S_ 32 (BitVec.ofNat 32 j) : IVec S_ 32), constantI S_ 32 0#32, constantI S_ 32 0#32] : Fin 3 → IVec S_ 32) k (Shape.Idx.first Gen.h_S_))) 1 = 0 := rfl

theorem start_feat (j : ℕ) (h) : Host.clampedStart S2048x2x1024 S1x2x1024 h
    (fun k => BitVec.toInt ((![(constantI S_ 32 (BitVec.ofNat 32 j) : IVec S_ 32), constantI S_ 32 0#32, constantI S_ 32 0#32] : Fin 3 → IVec S_ 32) k (Shape.Idx.first Gen.h_S_))) 2 = 0 := rfl

theorem b3_at (s : State Ideal) (j : ℕ) (hj : j < 2048) (n : Fin 2) (f : Fin 1024) :
    b3 j s (ix2 n f) = s.main_v83_0 (ix3 (⟨j, hj⟩ : Fin 2048) n f) := by
  pointwise [b3, b2, b1, b0]
  simp only [start_row j hj, start_seq j, start_feat j, Nat.zero_add]

theorem b7_at (s : State Ideal) (j : ℕ) (hj : j < 2048) (n : Fin 2) (f : Fin 1024) :
    b7 j s (ix2 n f) = s.main_v83_1 (ix3 (⟨j, hj⟩ : Fin 2048) n f) := by
  pointwise [b7, b6, b5, b4]
  simp only [start_row j hj, start_seq j, start_feat j, Nat.zero_add]

theorem b13_at (s : State Ideal) (j : ℕ) (hj : j < 2048) (r : Fin 2048) (n : Fin 2) (f : Fin 1024) :
    b13 j s (ix3 r n f) = if r.val = j then b9 j s (ix2 n f) else s.main_v83_4 (ix3 r n f) := by
  pointwise [b13, b10, b11, b12]
  split
  · rename_i h
    simp only [start_row j hj] at h
    rw [if_pos (by omega)]
    rfl
  · rename_i h
    simp only [start_row j hj] at h
    rw [if_neg (fun e => h ⟨by omega, Nat.zero_le _, Nat.zero_le _⟩)]

/-- The columns of the decays and of the terms. -/
def colA (n : Fin 2) (f : Fin 1024) : ℕ → EReal := col (A_main_v71 (F := Ideal) x0 x1 x2 x3 x4 x5 x6 x7) n f
def colB (n : Fin 2) (f : Fin 1024) : ℕ → EReal := col (A_main_v78 (F := Ideal) x0 x1 x2 x3 x4 x5 x6 x7) n f

theorem colA_eq (n : Fin 2) (f : Fin 1024) (j : ℕ) (hj : j < 2048) :
    A_main_v80 (F := Ideal) x0 x1 x2 x3 x4 x5 x6 x7 (ix3 (⟨j, hj⟩ : Fin 2048) n f) = colA x0 x1 x2 x3 x4 x5 x6 x7 n f j := by
  unfold colA col
  rw [dif_pos hj]
  pointwise [A_main_v80]

theorem colB_eq (n : Fin 2) (f : Fin 1024) (j : ℕ) (hj : j < 2048) :
    A_main_v81 (F := Ideal) x0 x1 x2 x3 x4 x5 x6 x7 (ix3 (⟨j, hj⟩ : Fin 2048) n f) = colB x0 x1 x2 x3 x4 x5 x6 x7 n f j := by
  unfold colB col
  rw [dif_pos hj]
  pointwise [A_main_v81]

theorem b9_at (j : ℕ) (hj : j < 2048) (n : Fin 2) (f : Fin 1024) :
    b9 j (stateAt x0 x1 x2 x3 x4 x5 x6 x7 j) (ix2 n f)
      = colA x0 x1 x2 x3 x4 x5 x6 x7 n f j * (stateAt x0 x1 x2 x3 x4 x5 x6 x7 j).main_v83_3 (ix2 n f) + colB x0 x1 x2 x3 x4 x5 x6 x7 n f j := by
  rw [← colA_eq _ _ _ _ _ _ _ _ n f j hj, ← colB_eq _ _ _ _ _ _ _ _ n f j hj, ← factors _ _ _ _ _ _ _ _ j, ← terms _ _ _ _ _ _ _ _ j,
    ← b3_at _ j hj, ← b7_at _ j hj]
  rfl

/-- The carried row after `j` trips. -/
theorem last_at (n : Fin 2) (f : Fin 1024) : ∀ j, j ≤ 2048 →
    (stateAt x0 x1 x2 x3 x4 x5 x6 x7 j).main_v83_3 (ix2 n f) = chain (colA x0 x1 x2 x3 x4 x5 x6 x7 n f) (colB x0 x1 x2 x3 x4 x5 x6 x7 n f) 0 j
  | 0, _ => by
    show K_main_v79 (F := Ideal) (ix2 n f) = 0
    pointwise [K_main_v79, K_main_cst_5]
  | j + 1, h => by
    show b9 j _ (ix2 n f) = _ * _ + _
    rw [b9_at _ _ _ _ _ _ _ _ j (by omega), last_at n f j (by omega)]

/-- The rows after `j` trips. -/
theorem rows_at (n : Fin 2) (f : Fin 1024) (r : Fin 2048) : ∀ j, j ≤ 2048 → r.val < j →
    (stateAt x0 x1 x2 x3 x4 x5 x6 x7 j).main_v83_4 (ix3 r n f) = chain (colA x0 x1 x2 x3 x4 x5 x6 x7 n f) (colB x0 x1 x2 x3 x4 x5 x6 x7 n f) 0 (r.val + 1)
  | 0, _, h => absurd h (Nat.not_lt_zero _)
  | j + 1, h, hr => by
    show b13 j _ (ix3 r n f) = _
    rw [b13_at _ j (by omega)]
    by_cases e : r.val = j
    · rw [if_pos e, e]
      exact last_at x0 x1 x2 x3 x4 x5 x6 x7 n f (j + 1) h
    · rw [if_neg e]
      exact rows_at n f r j (by omega) (by omega)

end Cert.Proof.RfRef

end

end
-- ==== Proof.RfRefRun.lean ====
module

public import proofs.«01_k».proof.Proof.Gen.RfRefIdeal.Run
public import proofs.«01_k».proof.Proof.RfRef

/-! The reference's run as its step, iterated: the loop's buffers hold the state of the trip, so the results are read
    from the last state. -/

@[expose] public section

set_option maxRecDepth 16384

noncomputable section

namespace Cert.Proof.RfRefRun

open Idealize.ShloMosaic Idealize.ShloMosaic.TcCoe Idealize.SL.Sem Idealize.ShloMosaic.StableHlo
open Cert.RfRefIdeal Cert.RfRefIdeal.Gen Cert.RfRefIdeal.Value
open Cert.RfRefIdeal.Step (State step init b9 b13 R_main_v135 R_main_v136 R_main_v138)

/-- The state that the loop's buffers hold. -/
def held (V : Valuation τ sig (Elt Ideal)) : State Ideal where
  main_v83_3 := V (Proc.devRef .tc main_v83_3)
  main_v83_4 := V (Proc.devRef .tc main_v83_4)
  main_v83_0 := V (Proc.devRef .tc main_v83_0)
  main_v83_1 := V (Proc.devRef .tc main_v83_1)

/-- The buffers hold a state, and the counter's buffer the trip's number. -/
def At (V : Valuation τ sig (Elt Ideal)) (s : State Ideal) (j : ℕ) : Prop :=
  held V = s ∧ V (Proc.devRef .tc main_v83_2) = constantI S_ 32 (BitVec.ofNat 32 j)

theorem row_3 (V : Valuation τ sig (Elt Ideal)) (j : ℕ) (h : V (Proc.devRef .tc main_v83_2) = constantI S_ 32 (BitVec.ofNat 32 j)) :
    step_main_v83_3 V = b9 j (held V) := by
  unfold step_main_v83_3 res_main_while0b_v142
  rw [h]
  rfl

theorem row_4 (V : Valuation τ sig (Elt Ideal)) (j : ℕ) (h : V (Proc.devRef .tc main_v83_2) = constantI S_ 32 (BitVec.ofNat 32 j)) :
    step_main_v83_4 V = b13 j (held V) := by
  unfold step_main_v83_4 res_main_while0b_v142
  rw [h]
  rfl

theorem next (V : Valuation τ sig (Elt Ideal)) (s : State Ideal) (j : ℕ) (h : At V s j) : At (STEP V) (step j s) (j + 1) := by
  obtain ⟨rfl, hn⟩ := h
  refine ⟨?_, ?_⟩
  · have e3 := (STEP_main_v83_3 V).trans (row_3 V j hn)
    have e4 := (STEP_main_v83_4 V).trans (row_4 V j hn)
    have e0 := STEP_main_v83_0 V
    have e1 := STEP_main_v83_1 V
    unfold held step
    rw [e3, e4, e0, e1]
    rfl
  · rw [STEP_main_v83_2 V]
    unfold step_main_v83_2
    rw [hn]
    funext i
    show BitVec.ofNat 32 j + 1#32 = BitVec.ofNat 32 (j + 1)
    simp only [BitVec.ofNat_add]

variable (m : (ℓ : Loc nD τ sig) → Buf (Elt Ideal) ℓ) (c : Dev nD)

/-- The state after `j` trips, from a device's arguments. -/
abbrev stateOf (j : ℕ) : State Ideal :=
  RfRef.stateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j

set_option maxRecDepth 65536 in
set_option maxHeartbeats 1000000 in
/-- The operations before the loop leave the first state. -/
theorem entry : At (entryContents preI m c) (stateOf m c 0) 0 := by
  have e : ∀ (A B : State Ideal), A.main_v83_3 = B.main_v83_3 → A.main_v83_4 = B.main_v83_4 → A.main_v83_0 = B.main_v83_0
      → A.main_v83_1 = B.main_v83_1 → A = B := by
    rintro ⟨⟩ ⟨⟩ rfl rfl rfl rfl; rfl
  refine ⟨e _ _ ?_ ?_ ?_ ?_, ?_⟩ <;> (try unfold held) <;> (simp only [entryContents, afterL_cons, afterL_nil]; after_reads_simp) <;> rfl

theorem iterate : ∀ k, At (STEP^[k] (entryContents preI m c)) (stateOf m c k) k
  | 0 => entry m c
  | k + 1 => by
    rw [Function.iterate_succ_apply']
    exact next _ _ _ (iterate k)

theorem gate_rows (V : Valuation τ sig (Elt Ideal)) (x : FVec Ideal S4096x5632 .f32) (hx : V (Proc.devRef .tc main_arg0) = x) :
    out_main_v138 V = R_main_v138 (held V) x := by
  unfold out_main_v138 R_main_v138
  rw [hx]
  rfl

theorem conv_rows (V : Valuation τ sig (Elt Ideal)) (x : FVec Ideal S4096x5632 .f32) (w : FVec Ideal S4x1024 .f32) (b : FVec Ideal S1x1024 .f32)
    (hx : V (Proc.devRef .tc main_arg0) = x) (hw : V (Proc.devRef .tc main_arg1) = w) (hb : V (Proc.devRef .tc main_arg2) = b) :
    out_main_v135 V = R_main_v135 (held V) x w b := by
  unfold out_main_v135 R_main_v135
  rw [hx, hw, hb]
  rfl

theorem hidden_rows (V : Valuation τ sig (Elt Ideal)) : out_main_v136 V = R_main_v136 (held V) := by
  unfold out_main_v136 R_main_v136
  rfl

/-- The results, read from the last state; the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v135) = R_main_v135 (stateOf m c 2048) (m ((c.tc : Thread nD τ).loc main_arg0)) (m ((c.tc : Thread nD τ).loc main_arg1)) (m ((c.tc : Thread nD τ).loc main_arg2))
      ∧ r.2.mem ((c.tc : Thread nD τ).loc main_v136) = R_main_v136 (stateOf m c 2048)
      ∧ r.2.mem ((c.tc : Thread nD τ).loc main_v138) = R_main_v138 (stateOf m c 2048) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    have e := (iterate m c 2048).1
    refine ⟨(h c).1.trans ?_, (h c).2.1.trans ?_, (h c).2.2.1.trans ?_, (h c).2.2.2⟩
    · rw [← e]; exact conv_rows _ _ _ _ (iter_main_arg0 m c 2048) (iter_main_arg1 m c 2048) (iter_main_arg2 m c 2048)
    · rw [← e]; exact hidden_rows _
    · rw [← e]; exact gate_rows _ _ (iter_main_arg0 m c 2048)) (Value.run m ρ)

end Cert.Proof.RfRefRun

end

end
-- ==== Proof.RfConv.lean ====
module

public import proofs.«01_k».proof.Proof.RfIdealFrame
public import proofs.«01_k».proof.Proof.Gen.RfRefIdeal.Step
public import proofs.«01_k».proof.Proof.Scan
public import Idealize.ShloMosaic.Lib.Pipeline.ValueKit

/-! The recurrence's factors and terms at a row of a block: the kernel's convolution, gates and decay are the
    reference's at that row of the sequence. -/

@[expose] public section

set_option maxRecDepth 16384
set_option maxHeartbeats 4000000

noncomputable section

open Idealize.ShloMosaic Idealize.ShloMosaic.TcCoe Idealize.SL.Sem
open Idealize.ShloMosaic.Pipeline (Dat)

namespace Cert.Proof.Rf

open Cert.RfIdeal Cert.RfIdeal.Gen Cert.RfIdeal.Hand
open Cert.RfRefIdeal.Step

/-- Every window's block at every grid point. -/
theorem idx : ∀ t : Fin cfg0.N, win0_0.index t = ![t.val / 4, t.val % 4]
    ∧ win0_1.index t = ![t.val / 4, 4 + t.val % 4]
    ∧ win0_2.index t = ![0, t.val % 4]
    ∧ win0_3.index t = ![0, t.val % 4]
    ∧ win0_4.index t = ![t.val % 4, 0, 0]
    ∧ win0_5.index t = ![0, t.val % 4]
    ∧ win0_6.index t = ![t.val % 4, 0, 0]
    ∧ win0_7.index t = ![0, t.val % 4]
    ∧ win0_8.index t = ![0, t.val % 4]
    ∧ win0_9.index t = ![t.val / 4, t.val % 4]
    ∧ win0_10.index t = ![t.val / 4, t.val % 4]
    ∧ win0_11.index t = ![t.val / 4, t.val % 4] :=
  (by decide +kernel : ∀ t : Fin grid0.N, _)

variable (m : (ℓ : Loc nD τ sig) → Buf (Elt Ideal) ℓ)

theorem lt_8 (t : Fin cfg0.N) : t.val < 8 := by have := t.isLt; have h : cfg0.N = 8 := N_0; omega

/-- A point's sequence. -/
def sq (t : Fin cfg0.N) : Fin 2 := ⟨t.val / 4, by have := lt_8 t; omega⟩

/-- A feature of a point's block. -/
def ft (t : Fin cfg0.N) (f : Fin 256) : Fin 1024 := ⟨256 * (t.val % 4) + f.val, by have := f.isLt; omega⟩

/-- The reference's convolution, input gate, decay's logarithm, decay and term, of a device's arguments. -/
def refConv (c : Dev nD) : FVec Ideal Cert.RfRefIdeal.S2x2048x1024 .f32 :=
  A_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def refGate (c : Dev nD) : FVec Ideal Cert.RfRefIdeal.S2x2048x1024 .f32 :=
  A_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def refLog (c : Dev nD) : FVec Ideal Cert.RfRefIdeal.S2x2048x1024 .f32 :=
  A_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def refA (c : Dev nD) : FVec Ideal Cert.RfRefIdeal.S2x2048x1024 .f32 :=
  A_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def refB (c : Dev nD) : FVec Ideal Cert.RfRefIdeal.S2x2048x1024 .f32 :=
  A_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem x0_at (c : Dev nD) (t : Fin cfg0.N) (r : Fin 2048) (f : Fin 256) :
    iblk m c 0 t (ix2 r f) = m ((c : Thread nD τ).loc main_arg0)
      (ix2 (⟨t.val / 4 * 2048 + r.val, by have := lt_8 t; have := r.isLt; omega⟩ : Fin 4096) (⟨256 * (t.val % 4) + f.val, by have := f.isLt; omega⟩ : Fin 5632)) := by
  blk_ext [iblk, V, idx t]

theorem x2_at (c : Dev nD) (t : Fin cfg0.N) (k : Fin 4) (f : Fin 256) :
    iblk m c 2 t (ix2 k f) = m ((c : Thread nD τ).loc main_arg1) (ix2 k (ft t f)) := by
  unfold ft
  blk_ext [iblk, V, idx t]

theorem x3_at (c : Dev nD) (t : Fin cfg0.N) (f : Fin 256) :
    iblk m c 3 t (ix2 (0 : Fin 1) f) = m ((c : Thread nD τ).loc main_arg2) (ix2 (0 : Fin 1) (ft t f)) := by
  unfold ft
  blk_ext [iblk, V, idx t]

theorem slt_eq (s : Nat) (hs : s < 2048) (r : Fin 2048) (x y : EReal) :
    Scalar.select (IntOp.cmpi CmpIPredicate.slt (BitVec.ofNat 32 r.val) (BitVec.ofNat 32 s)) x y = if r.val < s then x else y := by
  have h : IntOp.cmpi CmpIPredicate.slt (BitVec.ofNat 32 r.val) (BitVec.ofNat 32 s) = if r.val < s then 1#1 else 0#1 := by
    have hr := r.isLt
    have e : (BitVec.ofNat 32 r.val).slt (BitVec.ofNat 32 s) = decide (r.val < s) := by
      rw [BitVec.slt_eq_decide, BitVec.toInt_eq_toNat_of_lt (by simp; omega), BitVec.toInt_eq_toNat_of_lt (by simp; omega)]
      simp; omega
    simp only [IntOp.cmpi, e]
    by_cases h : r.val < s <;> simp [h]
  rw [h]
  split <;> simp [Scalar.select]

theorem fl0 : FloatOps.sitofp (F := Ideal) FTy.f32 0#32 = (0 : EReal) := by
  simp [FloatOps.sitofp]

theorem conv_at (c : Dev nD) (t : Fin cfg0.N) (r : Fin 2048) (f : Fin 256) :
    xcAt m c t (ix2 r f) = refConv m c (ix3 (sq t) r (ft t f)) := by
  pointwise [xcAt, refConv, convV, k0_pay2, K_main_c, K_main_call0_v0, A_main_v0, A_main_v1, A_main_v2, A_main_v3, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, sq, ft]
  have ht := lt_8 t
  have hr := r.isLt
  have hf := f.isLt
  rw [slt_eq 3 (by decide), slt_eq 2 (by decide), slt_eq 1 (by decide)]
  simp only [x3_at, x2_at, x0_at, fl0]
  unfold ft
  have e3 : ¬ r.val < 3 → (r.val + 2048 - 3) % 2048 = r.val - 3 := fun h => by omega
  have e2 : ¬ r.val < 2 → (r.val + 2048 - 2) % 2048 = 1 + r.val - 3 := fun h => by omega
  have e1 : ¬ r.val < 1 → (r.val + 2048 - 1) % 2048 = 2 + r.val - 3 := fun h => by omega
  refine congrArg₂ (· + ·) (congrArg₂ (· + ·) (congrArg₂ (· + ·) (congrArg₂ (· + ·) rfl ?_) ?_) ?_) ?_
  · by_cases h : r.val < 3
    · rw [if_pos h, dif_neg (by omega), zero_mul]
    · rw [if_neg h, dif_pos (by omega)]
      simp only [e3 h]
  · by_cases h : r.val < 2
    · rw [if_pos h, dif_neg (by omega), zero_mul]
    · rw [if_neg h, dif_pos (by omega)]
      simp only [e2 h]
  · by_cases h : r.val < 1
    · rw [if_pos h, dif_neg (by omega), zero_mul]
    · rw [if_neg h, dif_pos (by omega)]
      simp only [e1 h]
  · rw [dif_pos (by omega)]

end Cert.Proof.Rf

end

end
-- ==== Proof.RfGroup.lean ====
module

public import proofs.«01_k».proof.Proof.RfIdealFrame
public import proofs.«01_k».proof.Proof.Scan
public import Idealize.ShloMosaic.Lib.Pipeline.ValueKit

/-! The kernel's rows of the recurrence: in a group of eight rows by doubling, from group to group by the loop. For
    any factors `a` between zero and one and any terms `b`, row `r` holds the recurrence's value after row `r`. -/

@[expose] public section

set_option maxRecDepth 16384
set_option maxHeartbeats 1000000

noncomputable section

open Idealize.ShloMosaic Idealize.ShloMosaic.TcCoe Idealize.SL.Sem

namespace Cert.Proof.RfGroup

open Cert.RfIdeal Cert.RfIdeal.Gen Cert.RfIdeal.Hand
open Cert.Proof.Scan

/-- A choice by a row's number in its group. -/
theorem sge_eq (s i : ℕ) (hs : s < 8) (hi : i < 8) (x y : EReal) :
    Scalar.select (IntOp.cmpi CmpIPredicate.sge (BitVec.ofNat 32 i) (BitVec.ofNat 32 s)) x y = if s ≤ i then x else y := by
  have h : ∀ s i : Fin 8, IntOp.cmpi CmpIPredicate.sge (BitVec.ofNat 32 i.val) (BitVec.ofNat 32 s.val) = if s ≤ i then 1#1 else 0#1 := by decide
  rw [show IntOp.cmpi CmpIPredicate.sge (BitVec.ofNat 32 i) (BitVec.ofNat 32 s) = if s ≤ i then 1#1 else 0#1 from h ⟨s, hs⟩ ⟨i, hi⟩]
  split <;> simp [Scalar.select]

/-- The square root's argument as the kernel chooses it, of the decay's logarithm `l` and the decay `a`. -/
def inner (l a : EReal) : EReal :=
  if Ideal.ofBits FTy.f32 3179282432#32 < Ideal.ofBits FTy.f32 1073741824#32 * l then
    (0 - Ideal.ofBits FTy.f32 1073741824#32 * l) *
      (1 + Ideal.ofBits FTy.f32 1073741824#32 * l * Ideal.ofBits FTy.f32 1056964608#32 *
        (1 + Ideal.ofBits FTy.f32 1073741824#32 * l * Ideal.ofBits FTy.f32 1051372203#32 *
          (1 + Ideal.ofBits FTy.f32 1073741824#32 * l * Ideal.ofBits FTy.f32 1048576000#32 *
            (1 + Ideal.ofBits FTy.f32 1073741824#32 * l * Ideal.ofBits FTy.f32 1045220557#32))))
  else 1 - a * a

section Rows
variable (v35 v63 v77 v78 : FVec Ideal S2048x256 .f32) (f : Fin 256) (a b : ℕ → EReal)
variable (ha : ∀ r : Fin 2048, v78 (ix2 r f) = a r.val)
variable (hb : ∀ r : Fin 2048, Ideal.sqrt (inner (v77 (ix2 r f)) (v78 (ix2 r f))) * (v63 (ix2 r f) * v35 (ix2 r f)) = b r.val)

/-- A group's rows of a sequence. -/
abbrev gr (a : ℕ → EReal) (k : ℕ) : ℕ → EReal := fun j => a (k * 8 + j)

include ha in
theorem pay12_at (k : Fin 256) (i : Fin 8) :
    k0_pay12 (k0_pay8 v78) k0_pay9 (k0_pay11 v78) (ix3 k i f) = dA 1 (gr a k.val) i.val := by
  have hi := i.isLt
  pointwise [k0_pay12, k0_pay11, k0_pay9, k0_pay8]
  rw [sge_eq 1 i.val (by decide) hi, ha, ha]
  unfold dA
  by_cases h : 1 ≤ i.val
  · rw [if_pos h, if_pos h]
    show _ * a (k.val * 8 + (i.val + 8 - 1) % 8) = _
    rw [show (i.val + 8 - 1) % 8 = i.val - 1 by omega]
  · rw [if_neg h, if_neg h]

include ha in
theorem pay14_at (k : Fin 256) (i : Fin 8) :
    k0_pay14 (k0_pay8 v78) rowNo k0_pay9 (k0_pay11 v78) (ix3 k i f) = dA 2 (dA 1 (gr a k.val)) i.val := by
  have hi := i.isLt
  pointwise [k0_pay14, k0_pay13, rowNo]
  rw [sge_eq 2 i.val (by decide) hi, pay12_at v78 f a ha, pay12_at v78 f a ha]
  rw [dA.eq_1 2]
  by_cases h : 2 ≤ i.val
  · rw [if_pos h, if_pos h]
    show _ * dA 1 _ ((i.val + 8 - 2) % 8) = _
    rw [show (i.val + 8 - 2) % 8 = i.val - 2 by omega]
  · rw [if_neg h, if_neg h]

include ha in
theorem groupA_at (r : Fin 2048) :
    k0_pay16 (k0_pay8 v78) rowNo k0_pay9 (k0_pay11 v78) (ix2 r f) = dA 4 (dA 2 (dA 1 (gr a (r.val / 8)))) (r.val % 8) := by
  have hr := r.isLt
  have hi : r.val % 8 < 8 := Nat.mod_lt _ (by decide)
  pointwise [k0_pay16, k0_pay15, rowNo]
  have e1 := pay14_at v78 f a ha ⟨r.val / 8, by omega⟩ ⟨r.val % 8, hi⟩
  have e2 := pay14_at v78 f a ha ⟨r.val / 8, by omega⟩ ⟨(r.val % 8 + 8 - 4) % 8, by omega⟩
  dsimp only [rowNo] at e1 e2
  rw [sge_eq 4 _ (by decide) hi, e1, e2]
  rw [dA.eq_1 4]
  by_cases h : 4 ≤ r.val % 8
  · rw [if_pos h, if_pos h]
    rw [show (r.val % 8 + 8 - 4) % 8 = r.val % 8 - 4 by omega]
  · rw [if_neg h, if_neg h]

include ha hb in
theorem pay10_at (k : Fin 256) (i : Fin 8) :
    k0_pay10 v35 v63 v77 v78 (ix3 k i f) = dB 1 (gr a k.val) (gr b k.val) i.val := by
  have hi := i.isLt
  have hb' := hb
  unfold inner at hb'
  pointwise [k0_pay10, k0_pay9, k0_pay8]
  rw [sge_eq 1 i.val (by decide) hi, hb', hb', ha]
  unfold dB
  by_cases h : 1 ≤ i.val
  · rw [if_pos h, if_pos h]
    show _ + _ * b (k.val * 8 + (i.val + 8 - 1) % 8) = _
    rw [show (i.val + 8 - 1) % 8 = i.val - 1 by omega]
  · rw [if_neg h, if_neg h, mul_zero]

include ha hb in
/-- The second doubling's terms. -/
theorem two_at (k : Fin 256) (i : Fin 8) :
    k0_pay10 v35 v63 v77 v78 (ix3 k i f)
      + Scalar.select (IntOp.cmpi CmpIPredicate.sge (BitVec.ofNat 32 i.val) 2#32)
          (k0_pay12 (k0_pay8 v78) k0_pay9 (k0_pay11 v78) (ix3 k i f)
            * k0_pay10 v35 v63 v77 v78 (ix3 k (⟨(i.val + 8 - 2) % 8, Nat.mod_lt _ (by decide)⟩ : Fin 8) f)) 0
      = dB 2 (dA 1 (gr a k.val)) (dB 1 (gr a k.val) (gr b k.val)) i.val := by
  have hi := i.isLt
  rw [sge_eq 2 i.val (by decide) hi, pay12_at v78 f a ha, pay10_at v35 v63 v77 v78 f a b ha hb, pay10_at v35 v63 v77 v78 f a b ha hb]
  rw [dB.eq_1 2]
  by_cases h : 2 ≤ i.val
  · rw [if_pos h, if_pos h]
    show _ + _ * dB 1 _ _ ((i.val + 8 - 2) % 8) = _
    rw [show (i.val + 8 - 2) % 8 = i.val - 2 by omega]
  · rw [if_neg h, if_neg h, mul_zero]

include ha hb in
theorem groupB_at (r : Fin 2048) :
    k0_pay17 (k0_pay8 v78) rowNo k0_pay9 (k0_pay10 v35 v63 v77 v78) (k0_pay11 v78) (ix2 r f)
      = dB 4 (dA 2 (dA 1 (gr a (r.val / 8)))) (dB 2 (dA 1 (gr a (r.val / 8))) (dB 1 (gr a (r.val / 8)) (gr b (r.val / 8)))) (r.val % 8) := by
  have hr := r.isLt
  have hi : r.val % 8 < 8 := Nat.mod_lt _ (by decide)
  pointwise [k0_pay17, k0_pay15, k0_pay13, rowNo]
  have e1 := two_at v35 v63 v77 v78 f a b ha hb ⟨r.val / 8, by omega⟩ ⟨r.val % 8, hi⟩
  have e2 := two_at v35 v63 v77 v78 f a b ha hb ⟨r.val / 8, by omega⟩ ⟨(r.val % 8 + 8 - 4) % 8, by omega⟩
  have e3 := pay14_at v78 f a ha ⟨r.val / 8, by omega⟩ ⟨r.val % 8, hi⟩
  dsimp only [rowNo] at e1 e2 e3
  rw [e1, e2, sge_eq 4 _ (by decide) hi, e3]
  rw [dB.eq_1 4]
  by_cases h : 4 ≤ r.val % 8
  · rw [if_pos h, if_pos h, show (r.val % 8 + 8 - 4) % 8 = r.val % 8 - 4 by omega]
  · rw [if_neg h, if_neg h, mul_zero]

end Rows

section Loop
variable (A B : Vec Ideal S2048x256 .f32) (f : Fin 256) (a b : ℕ → EReal) (h01 : ∀ i, 0 ≤ a i ∧ a i ≤ 1)
variable (hA : ∀ r : Fin 2048, A (ix2 r f) = dA 4 (dA 2 (dA 1 (gr a (r.val / 8)))) (r.val % 8))
variable (hB : ∀ r : Fin 2048, B (ix2 r f) = dB 4 (dA 2 (dA 1 (gr a (r.val / 8)))) (dB 2 (dA 1 (gr a (r.val / 8))) (dB 1 (gr a (r.val / 8)) (gr b (r.val / 8)))) (r.val % 8))

theorem off_eq : ∀ k : Fin k0_t1_loop.trips, k0_off1 k 0 = 8 * k.val ∧ k0_off1 k 1 = 0 := by decide +kernel

include hA hB h01 in
/-- A row of a group, from the row before the group. -/
theorem row_at (k : ℕ) (i : ℕ) (hk : k < 256) (hi : i < 8) (h : 8 * k + i < 2048) :
    B (ix2 (⟨8 * k + i, h⟩ : Fin 2048) f) + A (ix2 (⟨8 * k + i, h⟩ : Fin 2048) f) * chain a b 0 (k * 8)
      = chain a b 0 (8 * k + i + 1) := by
  have ek : (8 * k + i) / 8 = k := by omega
  have ei : (8 * k + i) % 8 = i := by omega
  rw [hA, hB]
  dsimp only
  rw [ek, ei, show 8 * k + i + 1 = k * 8 + (i + 1) by omega, chain_add]
  exact group _ (fun j => h01 _) i hi

include hA hB h01 in
/-- The carried row. -/
theorem carry_at : ∀ n, n ≤ 256 → carry A B n (ix2 (0 : Fin 1) f) = chain a b 0 (n * 8)
  | 0, _ => by
    show k0_pay18 (F := Ideal) (ix2 (0 : Fin 1) f) = 0
    pointwise [k0_pay18]
  | n + 1, h => by
    have hn : n < k0_t1_loop.trips := by rw [trips_eq]; omega
    rw [carry_succ A B ⟨n, hn⟩]
    pointwise [k0_pay20, k0_pay19, rows, eightRows]
    obtain ⟨o0, o1⟩ := off_eq ⟨n, hn⟩
    have ih := carry_at n (by omega)
    have e := row_at A B f a b h01 hA hB n 7 (by omega) (by decide) (by omega)
    rw [show (n + 1) * 8 = 8 * n + 7 + 1 by omega, ← e, ← ih]
    blk_ext [o0, o1]

include hA hB h01 in
/-- All rows. -/
theorem rows_at (r : Fin 2048) : allRows A B (ix2 r f) = chain a b 0 (r.val + 1) := by
  have hr := r.isLt
  pointwise [allRows, eight, k0_pay19, rows, eightRows]
  obtain ⟨o0, o1⟩ := off_eq (tripOf (ix2 r f))
  have ih := carry_at A B f a b h01 hA hB (r.val / 8) (by omega)
  have e := row_at A B f a b h01 hA hB (r.val / 8) (r.val % 8) (by omega) (by omega) (by omega)
  rw [show r.val + 1 = 8 * (r.val / 8) + r.val % 8 + 1 by omega, ← e, ← ih]
  have et : (tripOf (ix2 r f)).val = r.val / 8 := rfl
  simp only [o0, o1, et, Nat.zero_add]

end Loop

end Cert.Proof.RfGroup

end

end
-- ==== Proof.RfGate.lean ====
module

public import proofs.«01_k».proof.Proof.RfConv
public import proofs.«01_k».proof.Proof.RfGroup
public import proofs.«01_k».proof.Proof.Arith

/-! The gates, the decay and the term at a row of a block. -/

@[expose] public section

set_option maxRecDepth 16384
set_option maxHeartbeats 1000000

noncomputable section

open Idealize.ShloMosaic Idealize.ShloMosaic.TcCoe Idealize.SL.Sem

namespace Cert.Proof.Rf

open Cert.RfIdeal Cert.RfIdeal.Gen Cert.RfIdeal.Hand
open Cert.RfRefIdeal.Step
open Cert.Proof.Arith

variable (m : (ℓ : Loc nD τ sig) → Buf (Elt Ideal) ℓ)

/-- A gate's linear part: a row of the block against the block's weights is the reference's row against them. -/
theorem lin_at (c : Dev nD) (t : Fin cfg0.N) (r : Fin 2048) (f : Fin 256) (w : Fin 256 → EReal) (w' : Fin 4 → Fin 256 → Fin 256 → EReal)
    (hw : ∀ x, w x = w' (⟨t.val % 4, by omega⟩ : Fin 4) x f) (h1 h2) (h3 : ∀ x : Fin 256, (ft t f).val / 256 * 256 + x.val < 1024) :
    ∑ x : Fin 256, xcAt m c t (ix2 r x) * w x
      = ∑ x : Fin 256, w' (⟨(ft t f).val / 256, h1⟩ : Fin 4) x (⟨(ft t f).val % 256, h2⟩ : Fin 256)
          * refConv m c (ix3 (sq t) r (⟨(ft t f).val / 256 * 256 + x.val, h3 x⟩ : Fin 1024)) := by
  have hf := f.isLt
  refine Finset.sum_congr rfl fun x _ => ?_
  have e1 : (⟨(ft t f).val / 256, h1⟩ : Fin 4) = ⟨t.val % 4, by omega⟩ := Fin.ext (by show (256 * (t.val % 4) + f.val) / 256 = t.val % 4; omega)
  have e2 : (⟨(ft t f).val % 256, h2⟩ : Fin 256) = f := Fin.ext (by show (256 * (t.val % 4) + f.val) % 256 = f.val; omega)
  have e3 : (⟨(ft t f).val / 256 * 256 + x.val, h3 x⟩ : Fin 1024) = ft t x :=
    Fin.ext (by show (256 * (t.val % 4) + f.val) / 256 * 256 + x.val = 256 * (t.val % 4) + x.val; omega)
  rw [e1, e2, e3, conv_at, hw, mul_comm]

theorem gate_at (c : Dev nD) (t : Fin cfg0.N) (r : Fin 2048) (f : Fin 256) :
    k0_pay5 (xcAt m c t) (iblk m c 6 t) (iblk m c 7 t) (ix2 r f) = refGate m c (ix3 (sq t) r (ft t f)) := by
  have hw : ∀ x : Fin 256, iblk m c 6 t (ix3 (0 : Fin 1) x f) = m ((c : Thread nD τ).loc main_arg5) (ix3 (⟨t.val % 4, by omega⟩ : Fin 4) x f) := fun x => by
    blk_ext [iblk, V, idx t]
  have hb : iblk m c 7 t (ix2 (0 : Fin 1) f) = m ((c : Thread nD τ).loc main_arg6) (ix2 (0 : Fin 1) (ft t f)) := by
    unfold ft
    blk_ext [iblk, V, idx t]
  pointwise [k0_pay5, k0_pay4, refGate, A_main_v62, A_main_v60, A_main_v58, A_main_v57, A_main_v56, A_main_v55, A_main_v54, A_main_v53, A_main_v52, A_main_v51, A_main_v50, A_main_v49, K_main_v61, K_main_v59, K_main_cst_1, K_main_cst_2, A_main_v34]
  rw [sig_eq, hb]
  have e := lin_at m c t r f _ (fun i j k => m ((c : Thread nD τ).loc main_arg5) (ix3 i j k)) hw (by have := (ft t f).isLt; omega) (by omega) (by intro x; have := (ft t f).isLt; omega)
  unfold refConv at e
  rw [e]

theorem log_at (c : Dev nD) (t : Fin cfg0.N) (r : Fin 2048) (f : Fin 256) :
    k0_pay6 (xcAt m c t) (k0_pay3 (iblk m c 4 t)) (iblk m c 5 t) (iblk m c 8 t) (ix2 r f) = refLog m c (ix3 (sq t) r (ft t f)) := by
  have hw : ∀ x : Fin 256, iblk m c 4 t (ix3 (0 : Fin 1) x f) = m ((c : Thread nD τ).loc main_arg3) (ix3 (⟨t.val % 4, by omega⟩ : Fin 4) x f) := fun x => by
    blk_ext [iblk, V, idx t]
  have hb : iblk m c 5 t (ix2 (0 : Fin 1) f) = m ((c : Thread nD τ).loc main_arg4) (ix2 (0 : Fin 1) (ft t f)) := by
    unfold ft
    blk_ext [iblk, V, idx t]
  have hl : iblk m c 8 t (ix2 (0 : Fin 1) f) = m ((c : Thread nD τ).loc main_arg7) (ix2 (0 : Fin 1) (ft t f)) := by
    unfold ft
    blk_ext [iblk, V, idx t]
  pointwise [k0_pay6, k0_pay4, k0_pay3, refLog, A_main_v48, A_main_v46, A_main_v44, A_main_v43, A_main_v42, A_main_v41, A_main_v40, A_main_v39, A_main_v38, A_main_v37, A_main_v36, A_main_v35, K_main_v47, K_main_v45, K_main_cst, K_main_cst_0, A_main_v34, A_main_v70, A_main_v69, A_main_v68, A_main_v67, A_main_v66, A_main_v65, A_main_v64, A_main_call1_v1, A_main_call1_v3, A_main_call1_v4, A_main_call1_v6, A_main_call1_v7, A_main_call1_v8, A_main_call1_v9, A_main_call1_v10, A_main_call1_v11, K_main_call1_v0, K_main_call1_v2, K_main_call1_v5, K_main_call1_cst, K_main_v63, K_main_cst_3]
  have e := lin_at m c t r f _ (fun i j k => m ((c : Thread nD τ).loc main_arg3) (ix3 i j k)) hw (by have := (ft t f).isLt; omega) (by omega) (by intro x; have := (ft t f).isLt; omega)
  unfold refConv at e
  rw [sig_eq, hb, hl, e, if_neg (fun h => h rfl)]
  simp only [zero_sub]

theorem a_at (c : Dev nD) (t : Fin cfg0.N) (r : Fin 2048) (f : Fin 256) :
    aV (iblk m c 0 t) (iblk m c 2 t) (iblk m c 3 t) (iblk m c 4 t) (iblk m c 5 t) (iblk m c 8 t) (ix2 r f) = refA m c (ix3 (sq t) r (ft t f)) := by
  have e := log_at m c t r f
  have e' : Ideal.exp _ = Ideal.exp _ := congrArg Ideal.exp e
  exact e'

/-- The logarithm of the decay is not positive, so the decay lies between zero and one. -/
theorem log_le (c : Dev nD) (n : Fin 2) (r : Fin 2048) (f : Fin 1024) : refLog m c (ix3 n r f) ≤ 0 := by
  pointwise [refLog, A_main_v48, A_main_v46, A_main_v44, A_main_v43, K_main_v47, K_main_v45, K_main_cst, K_main_cst_0, A_main_v70, A_main_v69, A_main_v68, A_main_v67, A_main_v66, A_main_v65, A_main_v64, A_main_call1_v1, A_main_call1_v3, A_main_call1_v4, A_main_call1_v6, A_main_call1_v7, A_main_call1_v8, A_main_call1_v9, A_main_call1_v10, A_main_call1_v11, K_main_call1_v0, K_main_call1_v2, K_main_call1_v5, K_main_call1_cst, K_main_v63, K_main_cst_3]
  rw [if_neg (fun h => h rfl)]
  exact Scan.loga_nonpos (Scan.sig_nonneg _) (add_nonneg (le_max_right _ _) (Scan.log1p_nonneg (Scan.exp_nonneg _)))

theorem a_bounds (c : Dev nD) (n : Fin 2) (r : Fin 2048) (f : Fin 1024) : 0 ≤ refA m c (ix3 n r f) ∧ refA m c (ix3 n r f) ≤ 1 :=
  ⟨Scan.exp_nonneg _, Scan.exp_le_one (log_le m c n r f)⟩

/-- Where twice the decay's logarithm is below the kernel's bound, the kernel's term is the reference's. -/
theorem term_at (c : Dev nD) (t : Fin cfg0.N) (r : Fin 2048) (f : Fin 256)
    (h : ∀ j, Ideal.ofBits FTy.f32 1073741824#32 * refLog m c j ≤ Ideal.ofBits FTy.f32 3179282432#32) :
    Ideal.sqrt (RfGroup.inner (k0_pay6 (xcAt m c t) (k0_pay3 (iblk m c 4 t)) (iblk m c 5 t) (iblk m c 8 t) (ix2 r f))
        (aV (iblk m c 0 t) (iblk m c 2 t) (iblk m c 3 t) (iblk m c 4 t) (iblk m c 5 t) (iblk m c 8 t) (ix2 r f)))
      * (k0_pay5 (xcAt m c t) (iblk m c 6 t) (iblk m c 7 t) (ix2 r f) * xcAt m c t (ix2 r f))
      = refB m c (ix3 (sq t) r (ft t f)) := by
  rw [gate_at, log_at, a_at, conv_at]
  pointwise [refB, A_main_v78, A_main_v77, A_main_v76, A_main_v75, A_main_v74, A_main_v73, K_main_v72, K_main_cst_4]
  have e := Scan.one_sub_sq (log_le m c (sq t) r (ft t f))
  unfold RfGroup.inner
  rw [if_neg (not_lt.2 (h _))]
  have e2 : Ideal.ofBits FTy.f32 1073741824#32 = ((2 : ℝ) : EReal) := c_two
  have e' : 1 - refA m c (ix3 (sq t) r (ft t f)) * refA m c (ix3 (sq t) r (ft t f)) = _ := e
  rw [e', e2]
  rfl

end Cert.Proof.Rf

end

end
-- ==== Proof.RfValue.lean ====
module

public import proofs.«01_k».proof.Proof.RfGate
public import proofs.«01_k».proof.Proof.RfRef

/-! The three results: the convolution, the hidden state and the gated hidden state. -/

@[expose] public section

set_option maxRecDepth 16384
set_option maxHeartbeats 1000000

noncomputable section

open Idealize.ShloMosaic Idealize.ShloMosaic.TcCoe Idealize.SL.Sem
open Idealize.ShloMosaic.Pipeline (Dat)

namespace Cert.Proof.Rf

open Cert.RfIdeal Cert.RfIdeal.Gen Cert.RfIdeal.Hand
open Cert.RfRefIdeal.Step
open Cert.Proof.Scan

variable (m : (ℓ : Loc nD τ sig) → Buf (Elt Ideal) ℓ)

/-- The columns of the reference's decays and terms. -/
def seqA (c : Dev nD) (n : Fin 2) (f : Fin 1024) : ℕ → EReal := RfRef.col (refA m c) n f
def seqB (c : Dev nD) (n : Fin 2) (f : Fin 1024) : ℕ → EReal := RfRef.col (refB m c) n f

theorem col_val (v : FVec Ideal Cert.RfRefIdeal.S2x2048x1024 .f32) (n : Fin 2) (f : Fin 1024) (r : Fin 2048) :
    v (ix3 n r f) = RfRef.col v n f r.val := by
  unfold RfRef.col
  rw [dif_pos r.isLt]

theorem seqA_bounds (c : Dev nD) (n : Fin 2) (f : Fin 1024) (i : ℕ) : 0 ≤ seqA m c n f i ∧ seqA m c n f i ≤ 1 := by
  unfold seqA RfRef.col
  split
  · exact a_bounds m c n _ f
  · exact ⟨le_refl _, zero_le_one⟩

/-- The kernel's bound on twice the decay's logarithm. -/
def Below (c : Dev nD) : Prop := ∀ j, Ideal.ofBits FTy.f32 1073741824#32 * refLog m c j ≤ Ideal.ofBits FTy.f32 3179282432#32

/-- The hidden state at a row of a block. -/
theorem hidden_at (c : Dev nD) (hp : Below m c) (t : Fin cfg0.N) (r : Fin 2048) (f : Fin 256) :
    hAt m c t (ix2 r f) = chain (seqA m c (sq t) (ft t f)) (seqB m c (sq t) (ft t f)) 0 (r.val + 1) := by
  have ha : ∀ r : Fin 2048, aV (iblk m c 0 t) (iblk m c 2 t) (iblk m c 3 t) (iblk m c 4 t) (iblk m c 5 t) (iblk m c 8 t) (ix2 r f)
      = seqA m c (sq t) (ft t f) r.val := fun r => (a_at m c t r f).trans (col_val _ _ _ r)
  have hb := fun r : Fin 2048 => (term_at m c t r f hp).trans (col_val _ _ _ r)
  exact RfGroup.rows_at _ _ f _ _ (seqA_bounds m c _ _)
    (fun r => RfGroup.groupA_at _ f _ ha r)
    (fun r => RfGroup.groupB_at _ _ _ _ f _ _ ha hb r) r

/-- An index of a block by its row and feature. -/
theorem exists_ix (y : S2048x256.Idx) : ∃ (r : Fin 2048) (f : Fin 256), y = ix2 r f := ⟨y 0, y 1, (ix2_eta y).symm⟩

/-- The reference's last state. -/
def lastState (c : Dev nD) : State Ideal :=
  RfRef.stateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 2048

theorem state_at (c : Dev nD) (n : Fin 2) (r : Fin 2048) (f : Fin 1024) :
    (lastState m c).main_v83_4 (ix3 r n f) = chain (seqA m c n f) (seqB m c n f) 0 (r.val + 1) :=
  RfRef.rows_at _ _ _ _ _ _ _ _ n f r 2048 (le_refl _) r.isLt

theorem point_9 (c : Dev nD) (t : Fin cfg0.N) (y) :
    xcAt m c t y = R_main_v135 (F := Ideal) (lastState m c) (m ((c : Thread nD τ).loc main_arg0)) (m ((c : Thread nD τ).loc main_arg1)) (m ((c : Thread nD τ).loc main_arg2))
      (((cfg0.win 9).blk t).view.emb y) := by
  have e : R_main_v135 (F := Ideal) (lastState m c) (m ((c : Thread nD τ).loc main_arg0)) (m ((c : Thread nD τ).loc main_arg1)) (m ((c : Thread nD τ).loc main_arg2))
      = shapeCast _ (refConv m c) Cert.RfRefIdeal.Gen.shapeCasts_S2x2048x1024_S4096x1024 := rfl
  have ht := lt_8 t
  obtain ⟨r, f, rfl⟩ := exists_ix y
  rw [e, conv_at]
  pointwise []
  unfold sq ft
  blk_ext [idx t]

theorem point_10 (c : Dev nD) (hp : Below m c) (t : Fin cfg0.N) (y) :
    hAt m c t y = R_main_v136 (F := Ideal) (lastState m c) (((cfg0.win 10).blk t).view.emb y) := by
  have ht := lt_8 t
  obtain ⟨r, f, rfl⟩ := exists_ix y
  rw [hidden_at m c hp, ← state_at]
  pointwise [R_main_v136]
  unfold sq ft
  blk_ext [idx t]

/-- The gate's two ways of multiplying. -/
theorem gelu_eq (h k a b z : EReal) :
    h * (k * z * (1 + Ideal.tanh (a * (z + b * z * z * z)))) = h * (z * (k * (1 + Ideal.tanh (a * (z + b * (z * z * z)))))) := by
  rw [show b * z * z * z = b * (z * z * z) by simp only [mul_assoc], mul_comm k z, mul_assoc]

theorem point_11 (c : Dev nD) (hp : Below m c) (t : Fin cfg0.N) (y) :
    yaAt m c t y = R_main_v138 (F := Ideal) (lastState m c) (m ((c : Thread nD τ).loc main_arg0)) (((cfg0.win 11).blk t).view.emb y) := by
  have ht := lt_8 t
  obtain ⟨r, f, rfl⟩ := exists_ix y
  have hf := f.isLt
  have hr := r.isLt
  have hz : iblk m c 1 t (ix2 r f) = m ((c : Thread nD τ).loc main_arg0)
      (ix2 (⟨t.val / 4 * 2048 + r.val, by omega⟩ : Fin 4096) (⟨1024 + (256 * (t.val % 4) + f.val), by omega⟩ : Fin 5632)) := by
    blk_ext [iblk, V, idx t]
  have ej : ((cfg0.win 11).blk t).view.emb (ix2 r f)
      = ix2 (⟨t.val / 4 * 2048 + r.val, by omega⟩ : Fin 4096) (⟨256 * (t.val % 4) + f.val, by omega⟩ : Fin 1024) := by
    blk_ext [idx t]
  have e1 : (t.val / 4 * 2048 + r.val) / 2048 = t.val / 4 := by omega
  have e2 : (t.val / 4 * 2048 + r.val) % 2048 = r.val := by omega
  rw [ej]
  pointwise [yaAt, k0_pay1, R_main_v138]
  rw [hidden_at m c hp, ← state_at, hz]
  simp only [e1, e2]
  unfold sq ft
  exact gelu_eq _ _ _ _ _

theorem final_9 (c : Dev nD) : (dats m 0 c).arrAt 9 (cfgs 0).N
    = R_main_v135 (F := Ideal) (lastState m c) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp; rw [after_9]
  exact point_9 m c t y

theorem final_10 (c : Dev nD) (hp : Below m c) : (dats m 0 c).arrAt 10 (cfgs 0).N = R_main_v136 (F := Ideal) (lastState m c) := by
  refine (dats m 0 c).arrAt_eq_of_covers 10 _ (by decide +kernel) fun t hf y => ?_
  blk_simp; rw [after_10]
  exact point_10 m c hp t y

theorem final_11 (c : Dev nD) (hp : Below m c) : (dats m 0 c).arrAt 11 (cfgs 0).N
    = R_main_v138 (F := Ideal) (lastState m c) (m ((c : Thread nD τ).loc main_arg0)) := by
  refine (dats m 0 c).arrAt_eq_of_covers 11 _ (by decide +kernel) fun t hf y => ?_
  blk_simp; rw [after_11]
  exact point_11 m c hp t y

end Cert.Proof.Rf

end

end
-- ==== Proof.Claim.Rf.lean ====
/- The claims about `Rf`: the three frames, the idealization, and the equality with the reference. -/
module

public import proofs.«01_k».proof.Proof.Gen.Rf.Skeleton
public import proofs.«01_k».proof.Proof.RfIdealFrame
public import proofs.«01_k».proof.Proof.Gen.RfRefIdeal.Run
public import proofs.«01_k».proof.Proof.RfRefRun
public import proofs.«01_k».proof.Proof.RfValue
public import proofs.«01_k».proof.Defs
public import proofs.«01_k».proof.Proof.Gen.Pre_rnn_decays
public import proofs.«01_k».proof.Proof.Finite

@[expose] public section

noncomputable section

namespace Cert.Proof.Rf

open Idealize.ShloMosaic Idealize.SL.Sem

section

attribute [local instance] Cert.Rf.Gen.facts Cert.RfIdeal.Gen.facts

set_option maxRecDepth 100000 in
/-- The two programs have the same text, so their kernels are the same … -/
theorem kernels_eq : Cert.Rf.defs₀ (F := Bits) = Cert.RfIdeal.defs₀ (F := Bits) := by
  unfold Cert.Rf.defs₀ Cert.RfIdeal.defs₀
  congr 1
  funext l a
  match l, a with
  | ⟨0, _⟩, (t, s) => rfl

/-- … and so is the table they run from. -/
theorem table_eq : Cert.Rf.defs (F := Bits) = Cert.RfIdeal.defs (F := Bits) := congrArg (Idealize.ShloMosaic.Pipeline.defs _) kernels_eq

theorem frameP : quiescent_Rf (hRf := Cert.Rf.Gen.facts) := fun m ρ _ => by
  rw [table_eq]
  exact Cert.RfIdeal.Hand.frame (F := Bits) m ρ

end

theorem framePI : quiescent_RfIdeal (hRfIdeal := Cert.RfIdeal.Gen.facts) := fun m ρ _ => Cert.RfIdeal.Hand.frame m ρ
theorem frameRI : quiescent_RfRefIdeal (hRfRefIdeal := Cert.RfRefIdeal.Gen.facts) := fun m ρ _ =>
  (θ_run Cert.RfRefIdeal.defs _ _).mono (fun r h => ⟨fun c => (h c).2.2.2,
      Idealize.ShloMosaic.sem_eq_zero_of_no_sems (by decide) r.2⟩)
    (Cert.RfRefIdeal.Value.run (F := Ideal) m ρ)
theorem pres : preserves_Rf_RfIdeal := trivial
theorem framePIpre : quiescent_RfIdeal_pre_rnn_decays (hRfIdeal := Cert.RfIdeal.Gen.facts) (hPre_rnn_decays := Cert.Pre_rnn_decays.Gen.facts) :=
  fun m ρ _ => Cert.RfIdeal.Hand.frame m ρ
theorem frameRIpre : quiescent_RfRefIdeal_pre_rnn_decays (hRfRefIdeal := Cert.RfRefIdeal.Gen.facts) (hPre_rnn_decays := Cert.Pre_rnn_decays.Gen.facts) :=
  fun m ρ _ => frameRI m ρ trivial

section

set_option maxRecDepth 10000

attribute [local instance] Cert.Pre_rnn_decays.Gen.facts

/-- A comparison that holds everywhere, by a conjunction over all indices. -/
theorem le_of_test {s t u : Shape} {axes : List (Fin s.rank)} [Subsingleton t.Idx] (x c : FVec Ideal s .f32)
    (init : IVec u 1) (h : s.ReducesTo axes t) (hu : 0 < u.numel) (j : t.Idx)
    (e : Host.reduce IntOp.andi (cmpf .ole x c) init h hu j = 1#1) (i : s.Idx) : (x i : EReal) ≤ c i := by
  have h1 : BitVec.ofBool (decide ((x i : EReal) ≤ c i)) = 1#1 := Host.reduce_andi_all _ _ h hu j e i
  by_contra hn
  rw [decide_eq_false hn] at h1
  exact absurd h1 (by decide)

/-- The precondition, read at an index. -/
theorem below (m : (ℓ : Loc Cert.RfIdeal.nD Cert.RfIdeal.τ Cert.RfIdeal.sig) → Buf (Elt Ideal) ℓ) (c : Dev Cert.RfIdeal.nD)
    (h : Cert.Pre_rnn_decays.fn (F := Ideal) (m ((c.tc : Thread Cert.RfIdeal.nD Cert.RfIdeal.τ).loc Cert.RfIdeal.main_arg0)) (m ((c.tc : Thread Cert.RfIdeal.nD Cert.RfIdeal.τ).loc Cert.RfIdeal.main_arg1)) (m ((c.tc : Thread Cert.RfIdeal.nD Cert.RfIdeal.τ).loc Cert.RfIdeal.main_arg2)) (m ((c.tc : Thread Cert.RfIdeal.nD Cert.RfIdeal.τ).loc Cert.RfIdeal.main_arg3)) (m ((c.tc : Thread Cert.RfIdeal.nD Cert.RfIdeal.τ).loc Cert.RfIdeal.main_arg4)) (m ((c.tc : Thread Cert.RfIdeal.nD Cert.RfIdeal.τ).loc Cert.RfIdeal.main_arg5)) (m ((c.tc : Thread Cert.RfIdeal.nD Cert.RfIdeal.τ).loc Cert.RfIdeal.main_arg6)) (m ((c.tc : Thread Cert.RfIdeal.nD Cert.RfIdeal.τ).loc Cert.RfIdeal.main_arg7)) = fun _ => 1#1) :
    Below m c := by
  intro j
  dsimp only [Cert.Pre_rnn_decays.fn, Cert.Pre_rnn_decays.fn_part1, Cert.Pre_rnn_decays.fn_part2] at h
  exact le_of_test _ _ _ _ _ ix0 (congrFun h ix0) j

end

set_option maxHeartbeats 4000000 in
set_option maxRecDepth 10000 in
/-- The arrays the kernel leaves are the reference's. -/
theorem value : algebraic_RfIdeal_RfRefIdeal_pre_rnn_decays (hRfIdeal := Cert.RfIdeal.Gen.facts) (hRfRefIdeal := Cert.RfRefIdeal.Gen.facts) (hPre_rnn_decays := Cert.Pre_rnn_decays.Gen.facts) := by
  pair_intro
  · run_from Cert.RfIdeal.Hand.run_main m g
  · refine (θ_run _ _ _).mono (fun _ h c => ?_) (RfRefRun.run m' g')
    obtain ⟨e0, e1, e2, e3, e4, e5, e6, e7⟩ := hagree c
    have hp := below m c (hpre c)
    have es : RfRefRun.stateOf m' c 2048 = lastState m c := by
      unfold RfRefRun.stateOf lastState
      rw [e0, e1, e2, e3, e4, e5, e6, e7]
    refine ⟨(h c).1.trans ?_, (h c).2.1.trans ?_, (h c).2.2.1.trans ?_, (h c).2.2.2⟩
    · rw [es, e0, e1, e2]
      exact (final_9 m c).symm
    · rw [es]
      exact (final_10 m c hp).symm
    · rw [es, e0]
      exact (final_11 m c hp).symm

end Cert.Proof.Rf

end

end
-- ==== Proof.RbIdealFrame.lean ====
/- The frame of the recurrence's backward kernel (`rnn_bwd`): a grid of 4 blocks of features × 2 sequences, the first
   of which clears the sums. Of the five outputs the gradient through the gate is stated; what the others hold is
   forgotten. The loop of 256 trips writes a scratch buffer of which nothing is stated. -/
module

public import proofs.«01_k».proof.Proof.Gen.RbIdeal.Frame
public import proofs.«01_k».proof.Proof.Gen.RbIdeal.Skeleton
public import Idealize.ShloMosaic.Lib.Pipeline.ValueKit
public import Idealize.ShloMosaic.Lib.WritesUnit
public import Idealize.ShloMosaic.Lib.WholeRead
public import Idealize.ShloMosaic.Lib.Claim

@[expose] public section

set_option maxRecDepth 16384

noncomputable section

namespace Cert.RbIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RbIdeal.Gen

variable {F : FTy → Type} [FloatOps F] [Named F]

local notation "𝕄" => MT nD τ sig Unit (Elt F) ℕ (UR sig nD τ) ℕ

/-! ## The loop -/

section Loop
variable (c : Dev nD) (i : grid0.Coords)
    (a2 : Memref sig .tc .vmem S2048x256 .f32) (h2 : a2.IsWhole)
    (a3 : Memref sig .tc .vmem S2048x256 .f32) (h3 : a3.IsWhole)
    (a4 : Memref sig .tc .vmem S2048x256 .f32) (h4 : a4.IsWhole)
    (a5 : Memref sig .tc .vmem S2048x256 .f32) (h5 : a5.IsWhole)
    (a6 : Memref sig .tc .vmem S2048x256 .f32) (h6 : a6.IsWhole)
    (a7 : Memref sig .tc .vmem S4x256 .f32) (h7 : a7.IsWhole)
    (a8 : Memref sig .tc .vmem S1x256x256 .bf16) (h8 : a8.IsWhole)
    (a9 : Memref sig .tc .vmem S1x256 .f32) (h9 : a9.IsWhole)
    (a10 : Memref sig .tc .vmem S1x256x256 .bf16) (h10 : a10.IsWhole)
    (a11 : Memref sig .tc .vmem S1x256 .f32) (h11 : a11.IsWhole)
    (a12 : Memref sig .tc .vmem S1x256 .f32) (h12 : a12.IsWhole)
    (a13 : Memref sig .tc .vmem S2048x256 .bf16) (h13 : a13.IsWhole)
    (a14 : Memref sig .tc .vmem S2048x256 .bf16) (h14 : a14.IsWhole)
    (a15 : Memref sig .tc .vmem S1x256x256 .f32) (h15 : a15.IsWhole)
    (a16 : Memref sig .tc .vmem S1x256x256 .f32) (h16 : a16.IsWhole)
    (a17 : Memref sig .tc .vmem S8x256 .f32) (h17 : a17.IsWhole)
    (a18 : Memref sig .tc .vmem S2048x256 .f32) (h18 : a18.IsWhole)
    (a19 : Memref sig .tc .vmem S2048x256 .f32) (h19 : a19.IsWhole)
    (a20 : Memref sig .tc .vmem S2048x256 .f32) (h20 : a20.IsWhole)
    (v0 : IVec S2048x256 32) (v2 : Vec F S2048x256 .f32) (v3 : Vec F S2048x256 .f32) (v59 : FVec F S2048x256 .f32) (v69 : FVec F S2048x256 .f32) (v79 : FVec F S1x256 .f32) (v84 : FVec F S2048x256 .f32) (v115 : FVec F S2048x256 .f32) (v158 : FVec F S2048x256 .f32) (v159 : FVec F S2048x256 .f32)
    (X18 : BufTy.Contents (Elt F) a18.view.ty) (X19 : BufTy.Contents (Elt F) a19.view.ty)

set_option maxHeartbeats 1000000 in
/-- One trip: it reads two scratch buffers and writes the third. -/
theorem trip (k : Fin k0_t1_loop.trips) (E : Set ℕ) (acc : FVec F S1x256 .f32) (f : BufTy.Contents (Elt F) a20.view.ty) :
    (iprop((a18.view.loc (c : Thread nD τ) ↦[a18.view.set]{fullShare} X18) ∗ (a19.view.loc (c : Thread nD τ) ↦[a19.view.set]{fullShare} X19) ∗ (a20.view.loc (c : Thread nD τ) ↦[a20.view.set]{fullShare} f)) : sProp 𝕄)
    ⊢ wp frame (wpE (defs₀ (F := F)) Variants.none (c : Thread nD τ) none) E (k0_t1_body (F := F) i a2 h2 a3 h3 a4 h4 a5 h5 a6 h6 a7 h7 a8 h8 a9 h9 a10 h10 a11 h11 a12 h12 a13 h13 a14 h14 a15 h15 a16 h16 a17 h17 a18 h18 a19 h19 a20 h20 v0 v2 v3 v59 v69 v79 v84 v115 v158 v159 k acc)
      (fun _ => iprop((a18.view.loc (c : Thread nD τ) ↦[a18.view.set]{fullShare} X18) ∗ (a19.view.loc (c : Thread nD τ) ↦[a19.view.set]{fullShare} X19) ∗ (∃ f, (a20.view.loc (c : Thread nD τ) ↦[a20.view.set]{fullShare} f)))) := by
  have hk : k.val < 256 := Nat.lt_of_lt_of_le k.isLt k0_t1_abs.2.1
  unfold k0_t1_body
  iintro ⟨H18, H19, H20⟩
  sl_exec
  sl_step
  isplitl [H18]; · iexact H18
  isplitl [H19]; · iexact H19
  iexists _; iexact H20

set_option warn.classDefReducibility false in
/-- The loop by its invariant: two scratch buffers stay, the third holds something. -/
@[sl_loop] def loopInv (E : Set ℕ) (init : FVec F S1x256 .f32) :
    LoopInv (M := 𝕄) Idealize.ShloMosaic.frame (wpE (defs₀ (F := F)) Variants.none (c : Thread nD τ) none) E
      k0_t1_loop.lb k0_t1_loop.ub k0_t1_loop.st k0_t1_ok init (k0_t1_body (F := F) i a2 h2 a3 h3 a4 h4 a5 h5 a6 h6 a7 h7 a8 h8 a9 h9 a10 h10 a11 h11 a12 h12 a13 h13 a14 h14 a15 h15 a16 h16 a17 h17 a18 h18 a19 h19 a20 h20 v0 v2 v3 v59 v69 v79 v84 v115 v158 v159) where
  inv _ _ := iprop((a18.view.loc (c : Thread nD τ) ↦[a18.view.set]{fullShare} X18) ∗ (a19.view.loc (c : Thread nD τ) ↦[a19.view.set]{fullShare} X19) ∗ (∃ f, (a20.view.loc (c : Thread nD τ) ↦[a20.view.set]{fullShare} f)))
  step k acc := by
    iintro ⟨H18, H19, ⟨%f, H20⟩⟩
    iapply (trip c i a2 h2 a3 h3 a4 h4 a5 h5 a6 h6 a7 h7 a8 h8 a9 h9 a10 h10 a11 h11 a12 h12 a13 h13 a14 h14 a15 h15 a16 h16 a17 h17 a18 h18 a19 h19 a20 h20 v0 v2 v3 v59 v69 v79 v84 v115 v158 v159 X18 X19 k E acc f)
    isplitl [H18]; · iexact H18
    isplitl [H19]; · iexact H19
    iexact H20

end Loop

/-! ## The body -/

/-- The gradient through the gate: of the product's gradient, the gate's entry and the hidden state. -/
def gateV (dya g hr : Vec F S2048x256 .f32) : FVec F S2048x256 .bf16 :=
  k0_pay10 hr dya (k0_pay7 g) (k0_pay8 g) (k0_pay9 g) (Scalar.ofBits .f32 0x3F800000#32)

/-! ## The body's branch conditions -/

/-- The first sequence of a block. -/
abbrev cond0_0 (i : grid0.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin cfg0.N, cond0_0 (grid0.coords t) ↔ t.val % 2 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-! ## The kernel body on any staging memrefs: a subtype the run finds -/

/-- Each window's current staging memref at point `t`, spelled as the pipeline passes it (`bodyAt0`), and its wholeness. -/
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x256 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S2048x256 .f32 := Memref.whole cc0_scratch0
abbrev scM0_1 : Memref sig .tc .vmem S2048x256 .f32 := Memref.whole cc0_scratch1
abbrev scM0_2 : Memref sig .tc .vmem S2048x256 .f32 := Memref.whole cc0_scratch2

/-- What the launch hands over: the scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 1000000 in
/-- The body's run, where the sums are cleared. -/
theorem kernelRun0_A (c : Dev nD) (i : grid0.Coords) (a2 : Memref sig .tc .vmem S2048x256 .f32) (h2 : a2.IsWhole) (a3 : Memref sig .tc .vmem S2048x256 .f32) (h3 : a3.IsWhole) (a4 : Memref sig .tc .vmem S2048x256 .f32) (h4 : a4.IsWhole) (a5 : Memref sig .tc .vmem S2048x256 .f32) (h5 : a5.IsWhole) (a6 : Memref sig .tc .vmem S2048x256 .f32) (h6 : a6.IsWhole) (a7 : Memref sig .tc .vmem S4x256 .f32) (h7 : a7.IsWhole) (a8 : Memref sig .tc .vmem S1x256x256 .bf16) (h8 : a8.IsWhole) (a9 : Memref sig .tc .vmem S1x256 .f32) (h9 : a9.IsWhole) (a10 : Memref sig .tc .vmem S1x256x256 .bf16) (h10 : a10.IsWhole) (a11 : Memref sig .tc .vmem S1x256 .f32) (h11 : a11.IsWhole) (a12 : Memref sig .tc .vmem S1x256 .f32) (h12 : a12.IsWhole) (a13 : Memref sig .tc .vmem S2048x256 .bf16) (h13 : a13.IsWhole) (a14 : Memref sig .tc .vmem S2048x256 .bf16) (h14 : a14.IsWhole) (a15 : Memref sig .tc .vmem S1x256x256 .f32) (h15 : a15.IsWhole) (a16 : Memref sig .tc .vmem S1x256x256 .f32) (h16 : a16.IsWhole) (a17 : Memref sig .tc .vmem S8x256 .f32) (h17 : a17.IsWhole) (a18 : Memref sig .tc .vmem S2048x256 .f32) (h18 : a18.IsWhole) (a19 : Memref sig .tc .vmem S2048x256 .f32) (h19 : a19.IsWhole) (a20 : Memref sig .tc .vmem S2048x256 .f32) (h20 : a20.IsWhole) (hc0 : cond0_0 i)
    (x0 : Vec F S2048x256 .f32) (x1 : Vec F S2048x256 .f32) (x2 : Vec F S2048x256 .f32) (x3 : Vec F S2048x256 .f32) (x4 : Vec F S2048x256 .f32) (x5 : Vec F S4x256 .f32) (x6 : Vec F S1x256x256 .bf16) (x7 : Vec F S1x256 .f32) (x8 : Vec F S1x256x256 .bf16) (x9 : Vec F S1x256 .f32) (x10 : Vec F S1x256 .f32) :
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ (∃ d, owns (c : Thread nD τ) a13 fullShare d) ∗ owns (c : Thread nD τ) a14 fullShare (gateV x0 x2 x4) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d)) -∗ K ⟨⟩))
          ⊢ wp Idealize.ShloMosaic.frame (wpE (defs₀ (F := F)) Variants.none c none) E (cc0_rnn_bwd i a2 h2 a3 h3 a4 h4 a5 h5 a6 h6 a7 h7 a8 h8 a9 h9 a10 h10 a11 h11 a12 h12 a13 h13 a14 h14 a15 h15 a16 h16 a17 h17 a18 h18 a19 h19 a20 h20) K := by
    intro E K
    simp only [cc0_rnn_bwd_eq_skeleton]; unfold cc0_rnn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h12.eq_unread hf10
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [H10]
    · iexists _; isplitr; · ipureintro; exact h12.read_unread _
      iexact H10
    isplitl [H11]
    · iexists _, _; isplitr; swap; · iexact H11
      ipureintro; rfl
    isplitl [H12]
    · iexists _; isplitr; swap; · iexact H12
      ipureintro; frame_out; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

set_option maxHeartbeats 1000000 in
/-- The body's run, elsewhere. -/
theorem kernelRun0_B (c : Dev nD) (i : grid0.Coords) (a2 : Memref sig .tc .vmem S2048x256 .f32) (h2 : a2.IsWhole) (a3 : Memref sig .tc .vmem S2048x256 .f32) (h3 : a3.IsWhole) (a4 : Memref sig .tc .vmem S2048x256 .f32) (h4 : a4.IsWhole) (a5 : Memref sig .tc .vmem S2048x256 .f32) (h5 : a5.IsWhole) (a6 : Memref sig .tc .vmem S2048x256 .f32) (h6 : a6.IsWhole) (a7 : Memref sig .tc .vmem S4x256 .f32) (h7 : a7.IsWhole) (a8 : Memref sig .tc .vmem S1x256x256 .bf16) (h8 : a8.IsWhole) (a9 : Memref sig .tc .vmem S1x256 .f32) (h9 : a9.IsWhole) (a10 : Memref sig .tc .vmem S1x256x256 .bf16) (h10 : a10.IsWhole) (a11 : Memref sig .tc .vmem S1x256 .f32) (h11 : a11.IsWhole) (a12 : Memref sig .tc .vmem S1x256 .f32) (h12 : a12.IsWhole) (a13 : Memref sig .tc .vmem S2048x256 .bf16) (h13 : a13.IsWhole) (a14 : Memref sig .tc .vmem S2048x256 .bf16) (h14 : a14.IsWhole) (a15 : Memref sig .tc .vmem S1x256x256 .f32) (h15 : a15.IsWhole) (a16 : Memref sig .tc .vmem S1x256x256 .f32) (h16 : a16.IsWhole) (a17 : Memref sig .tc .vmem S8x256 .f32) (h17 : a17.IsWhole) (a18 : Memref sig .tc .vmem S2048x256 .f32) (h18 : a18.IsWhole) (a19 : Memref sig .tc .vmem S2048x256 .f32) (h19 : a19.IsWhole) (a20 : Memref sig .tc .vmem S2048x256 .f32) (h20 : a20.IsWhole) (hc0 : ¬cond0_0 i)
    (x0 : Vec F S2048x256 .f32) (x1 : Vec F S2048x256 .f32) (x2 : Vec F S2048x256 .f32) (x3 : Vec F S2048x256 .f32) (x4 : Vec F S2048x256 .f32) (x5 : Vec F S4x256 .f32) (x6 : Vec F S1x256x256 .bf16) (x7 : Vec F S1x256 .f32) (x8 : Vec F S1x256x256 .bf16) (x9 : Vec F S1x256 .f32) (x10 : Vec F S1x256 .f32) :
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ (∃ d, owns (c : Thread nD τ) a13 fullShare d) ∗ owns (c : Thread nD τ) a14 fullShare (gateV x0 x2 x4) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d)) -∗ K ⟨⟩))
          ⊢ wp Idealize.ShloMosaic.frame (wpE (defs₀ (F := F)) Variants.none c none) E (cc0_rnn_bwd i a2 h2 a3 h3 a4 h4 a5 h5 a6 h6 a7 h7 a8 h8 a9 h9 a10 h10 a11 h11 a12 h12 a13 h13 a14 h14 a15 h15 a16 h16 a17 h17 a18 h18 a19 h19 a20 h20) K := by
    intro E K
    simp only [cc0_rnn_bwd_eq_skeleton]; unfold cc0_rnn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h12.eq_unread hf10
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [H10]
    · iexists _; isplitr; · ipureintro; exact h12.read_unread _
      iexact H10
    isplitl [H11]
    · iexists _, _; isplitr; swap; · iexact H11
      ipureintro; rfl
    isplitl [H12]
    · iexists _; isplitr; swap; · iexact H12
      ipureintro; frame_out; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

variable (m : (ℓ : Loc nD τ sig) → Buf (Elt F) ℓ) (ρ : Dev nD → PrngReg)

/-! ## The frame claim's post from the frame run's -/

/-- The frame from a run. -/
theorem frame_from (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c)),
      (Pipeline.RDat.FramePost.arr_in h c 5 rfl).trans ((hA c 5).trans (V_main_arg4 m c)),
      (Pipeline.RDat.FramePost.arr_in h c 6 rfl).trans ((hA c 6).trans (V_main_arg5 m c)),
      (Pipeline.RDat.FramePost.arr_in h c 7 rfl).trans ((hA c 7).trans (V_main_arg6 m c)),
      (Pipeline.RDat.FramePost.arr_in h c 8 rfl).trans ((hA c 8).trans (V_main_arg7 m c)),
      (Pipeline.RDat.FramePost.arr_in h c 9 rfl).trans ((hA c 9).trans (V_main_arg8 m c)),
      (Pipeline.RDat.FramePost.arr_in h c 10 rfl).trans ((hA c 10).trans (V_main_arg9 m c))⟩) h

/-! ## The pipeline's proof data -/

/-- The windows of which nothing is stated: every output but the gate's gradient. -/
def forgets0 : Fin 16 → Bool := fun w => w.val == 11 || w.val == 13 || w.val == 14 || w.val == 15

/-- What the gate's gradient holds after a point. -/
def gateAt (c : Dev nD) (t : Fin cfg0.N) : FVec F S2048x256 .bf16 := gateV (iblk m c 0 t) (iblk m c 2 t) (iblk m c 4 t)

/-- The proof data: the inputs' blocks stay, the gate's gradient holds its value, the rest is unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, _⟩ => gateAt m c t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_12 (c : Dev nD) (t : Fin cfg0.N) : (dats m 0 c).after 12 t = gateAt m c t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 3200000 in
/-- The body at any point, in either case. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_12]
  rw [show (dats m 0 c).Φ t.castSucc = Pipeline.ΦA spec0 c from rfl, PhiA0_eq]
  have hN : t.val < 8 := lt_of_lt_of_eq t.isLt (show cfg0.N = 8 from N_0)
  by_cases h0 : t.val % 2 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_A c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    iintro ⟨H0, H1, H2, H3, H4, H5, H6, H7, H8, H9, H10, H11, H12, H13, H14, H15, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    iintro ⟨H0, H1, H2, H3, H4, H5, H6, H7, H8, H9, H10, H11, H12, H13, H14, H15, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_from m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.RbIdeal.Hand

end
-- ==== Proof.RbGate.lean ====
/- The gradient through gelu's gate: the kernel's formula is the derivative the reference takes. -/
module

public import proofs.«01_k».proof.Proof.RbIdealFrame
public import proofs.«01_k».proof.Proof.Gen.RbRefIdeal.Read
public import Idealize.ShloMosaic.Lib.Pipeline.ValueKit
public import proofs.«01_k».proof.Proof.Arith

@[expose] public section

set_option maxRecDepth 16384

noncomputable section

open Idealize.ShloMosaic Idealize.ShloMosaic.TcCoe Idealize.SL.Sem
open Idealize.ShloMosaic.Pipeline (Dat)

namespace Cert.Proof.Rb

open Cert.RbIdeal Cert.RbIdeal.Gen Cert.RbIdeal.Hand
open Cert.RbRefIdeal.Read

variable (m : (ℓ : Loc nD τ sig) → Buf (Elt Ideal) ℓ)

/-- The blocks of the windows that the gate's gradient reads and writes. -/
theorem idx : ∀ t : Fin cfg0.N, win0_0.index t = ![t.val % 2, t.val / 2]
    ∧ win0_2.index t = ![t.val % 2, 4 + t.val / 2]
    ∧ win0_4.index t = ![t.val % 2, t.val / 2]
    ∧ win0_12.index t = ![t.val % 2, t.val / 2] :=
  (by decide +kernel : ∀ t : Fin grid0.N, _)

theorem cube : Named.named (F := Ideal) Cert.RbIdeal.κ "cube" (φ := .f32) 0x3D372713#32 = ((8943 / 200000 : ℝ) : EReal) :=
  IdealRules.named_const.ideal_named_scalar _ _ _ _ rfl

theorem cube_slope : Named.named (F := Ideal) Cert.RbIdeal.κ "cube_slope" (φ := .f32) 0x3E095D4F#32 = ((26829 / 200000 : ℝ) : EReal) :=
  IdealRules.named_const.ideal_named_scalar _ _ _ _ rfl

theorem c_44715 : Ideal.ofBits .f32 0x472EAB00#32 = ((44715 : ℝ) : EReal) := by
  simp [Ideal.ofBits, Ideal.ieee]; rw [← EReal.coe_mul]; norm_num
theorem c_million : Ideal.ofBits .f32 0x49742400#32 = ((1000000 : ℝ) : EReal) := by
  simp [Ideal.ofBits, Ideal.ieee]; rw [← EReal.coe_mul]; norm_num
theorem c_three : Ideal.ofBits .f32 0x40400000#32 = ((3 : ℝ) : EReal) := by
  simp [Ideal.ofBits, Ideal.ieee]; rw [← EReal.coe_mul]; norm_num
/-- gelu's scale, the f32 nearest to the root of 2 / π. -/
theorem c_scale : Ideal.ofBits .f32 0x3F4C422A#32 = ((13386282 / 2 ^ 24 : ℝ) : EReal) := by
  simp [Ideal.ofBits, Ideal.ieee]; rw [← EReal.coe_mul]; norm_num

/-- gelu's derivative as the kernel writes it, and as differentiating its formula leaves it. -/
theorem gate_eq {d h g : EReal} (hd : Arith.Fin' d) (hh : Arith.Fin' h) :
    d * h * (Ideal.ofBits .f32 0x3F000000#32
            * (1 + Ideal.tanh (Ideal.ofBits .f32 0x3F4C422A#32 * (g + ((8943 / 200000 : ℝ) : EReal) * g * g * g)))
        + Ideal.ofBits .f32 0x3F000000#32 * g
            * (1 - Ideal.tanh (Ideal.ofBits .f32 0x3F4C422A#32 * (g + ((8943 / 200000 : ℝ) : EReal) * g * g * g))
              * Ideal.tanh (Ideal.ofBits .f32 0x3F4C422A#32 * (g + ((8943 / 200000 : ℝ) : EReal) * g * g * g)))
            * Ideal.ofBits .f32 0x3F4C422A#32 * (1 + ((26829 / 200000 : ℝ) : EReal) * g * g))
      = h * d * (Ideal.ofBits .f32 0x3F000000#32 * (1 + Ideal.tanh (Ideal.ofBits .f32 0x3F4C422A#32
            * (g + Ideal.div (Ideal.ofBits .f32 0x472EAB00#32 * (g * g * g)) (Ideal.ofBits .f32 0x49742400#32)))))
        + Ideal.ofBits .f32 0x3F4C422A#32 * (Ideal.ofBits .f32 0x3F000000#32 * (g * (h * d))
            * ((1 + Ideal.tanh (Ideal.ofBits .f32 0x3F4C422A#32
                * (g + Ideal.div (Ideal.ofBits .f32 0x472EAB00#32 * (g * g * g)) (Ideal.ofBits .f32 0x49742400#32))))
              * (1 - Ideal.tanh (Ideal.ofBits .f32 0x3F4C422A#32
                * (g + Ideal.div (Ideal.ofBits .f32 0x472EAB00#32 * (g * g * g)) (Ideal.ofBits .f32 0x49742400#32))))))
        + Ideal.ofBits .f32 0x472EAB00#32 * Ideal.div (Ideal.ofBits .f32 0x3F4C422A#32
            * (Ideal.ofBits .f32 0x3F000000#32 * (g * (h * d))
              * ((1 + Ideal.tanh (Ideal.ofBits .f32 0x3F4C422A#32
                  * (g + Ideal.div (Ideal.ofBits .f32 0x472EAB00#32 * (g * g * g)) (Ideal.ofBits .f32 0x49742400#32))))
                * (1 - Ideal.tanh (Ideal.ofBits .f32 0x3F4C422A#32
                  * (g + Ideal.div (Ideal.ofBits .f32 0x472EAB00#32 * (g * g * g)) (Ideal.ofBits .f32 0x49742400#32)))))))
            (Ideal.ofBits .f32 0x49742400#32) * (Ideal.ofBits .f32 0x40400000#32 * (g * g)) := by
  obtain ⟨d, rfl⟩ := hd
  obtain ⟨h, rfl⟩ := hh
  have div_million : ∀ r : ℝ, Ideal.div (r : EReal) ((1000000 : ℝ) : EReal) = ((r / 1000000 : ℝ) : EReal) :=
    fun r => Arith.div_coe r _ (by norm_num)
  have ne : ((1000000 : ℝ) : EReal) ≠ 0 := by rw [← EReal.coe_zero]; exact fun e => by norm_num at e
  have div_zero : Ideal.div 0 ((1000000 : ℝ) : EReal) = 0 := by rw [Ideal.div, if_neg ne, zero_mul]
  have one_sub : (1 : EReal) - 1 = 0 := by rw [← EReal.coe_one, ← EReal.coe_sub, sub_self, EReal.coe_zero]
  have one_add : (1 : EReal) + -1 = 0 := by rw [← sub_eq_add_neg, one_sub]
  have neg_one : (-1 : EReal) * -1 = 1 := by rw [neg_mul_neg, one_mul]
  have hk : (0 : ℝ) < 13386282 / 2 ^ 24 := by norm_num
  have hq : (0 : ℝ) < 8943 / 200000 := by norm_num
  have hn : (0 : ℝ) < 44715 := by norm_num
  have hm : (0 : ℝ) < (1000000 : ℝ)⁻¹ := by norm_num
  rw [c_scale, c_44715, c_million, c_three]
  induction g with
  | bot =>
    have tanh_bot : Ideal.tanh ⊥ = -1 := rfl
    have div_bot : Ideal.div ⊥ ((1000000 : ℝ) : EReal) = ⊥ := by
      rw [Ideal.div, if_neg ne, ← EReal.coe_inv, EReal.bot_mul_coe_of_pos hm]
    simp only [EReal.coe_mul_bot_of_pos hk, EReal.coe_mul_bot_of_pos hq, EReal.coe_mul_bot_of_pos hn, EReal.bot_mul_bot, EReal.top_mul_bot,
      EReal.bot_add, div_bot, tanh_bot, neg_one, one_sub, one_add, mul_zero, zero_mul, add_zero, div_zero]
  | top =>
    have tanh_top : Ideal.tanh ⊤ = 1 := rfl
    have div_top : Ideal.div ⊤ ((1000000 : ℝ) : EReal) = ⊤ := by
      rw [Ideal.div, if_neg ne, ← EReal.coe_inv, EReal.top_mul_coe_of_pos hm]
    simp only [EReal.coe_mul_top_of_pos hk, EReal.coe_mul_top_of_pos hq, EReal.coe_mul_top_of_pos hn, EReal.top_mul_top, EReal.top_add_top,
      div_top, tanh_top, mul_one, one_sub, mul_zero, zero_mul, add_zero, div_zero]
    rw [mul_comm (d : EReal)]
  | coe g =>
    have tanh_coe : ∀ r : ℝ, Ideal.tanh (r : EReal) = ((Real.tanh r : ℝ) : EReal) := fun _ => rfl
    simp only [Arith.c_half, ← EReal.coe_one, ← EReal.coe_mul, ← EReal.coe_add, ← EReal.coe_sub, tanh_coe, div_million]
    have e : (13386282 / 2 ^ 24 : ℝ) * (g + 8943 / 200000 * g * g * g) = 13386282 / 2 ^ 24 * (g + 44715 * (g * g * g) / 1000000) := by ring
    rw [e]
    congr 1
    ring

/-- The run, read at the gradient's array. -/
theorem run_gate (ρ : Dev nD → PrngReg) : θ_run defs (onTc (τ := τ) (main (F := Ideal))) ⟨m, fun _ => 0, ρ⟩ (fun r => ∀ c : Dev nD,
      r.2.mem ((c.tc : Thread nD τ).loc main_v0_1) = (dats m 0 c).arrAt 12 (cfgs 0).N) :=
  (θ_run defs _ _).mono (fun _ h c => ((dats m 0 c).toRForget_arrAt_iff (fgt := forgets0) (w := 12) rfl _ _).mp ((h c).1 12)) (run_main m ρ)

/-- What the body stores, at an index of its block, is the reference at that index of the array. -/
theorem point_12 (c : Dev nD) (h0 : ∀ i, Arith.Fin' (m ((c : Thread nD τ).loc main_arg0) i))
    (h3 : ∀ i, Arith.Fin' (m ((c : Thread nD τ).loc main_arg3) i)) (t : Fin cfg0.N) (y) :
    gateAt m c t y = val_main_v40 (F := Ideal) (m ((c : Thread nD τ).loc main_arg0)) (m ((c : Thread nD τ).loc main_arg1)) (m ((c : Thread nD τ).loc main_arg3))
      (((cfg0.win 12).blk t).view.emb y) := by
  have ht : t.val < 8 := lt_of_lt_of_eq t.isLt N_0
  generalize hj : ((cfg0.win 12).blk t).view.emb y = j
  have hd : iblk m c 0 t y = m ((c : Thread nD τ).loc main_arg0) j := by
    rw [← hj]; blk_ext [iblk, V, idx t]
  have hh : iblk m c 4 t y = m ((c : Thread nD τ).loc main_arg3) j := by
    rw [← hj]; blk_ext [iblk, V, idx t]
  have hz : iblk m c 2 t y = val_main_v0 (F := Ideal) (m ((c : Thread nD τ).loc main_arg1)) j := by
    rw [val_main_v0_apply, ← hj]; blk_ext [iblk, V, idx t]
  pointwise [gateAt, gateV, k0_pay10, k0_pay9, k0_pay8, k0_pay7, k0_pay5, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_cst_6, val_main_v21, val_main_v22, val_main_v23, val_main_v24, val_main_v25, val_main_v26, val_main_v27, val_main_cst_7, val_main_v28, val_main_v29, val_main_v30, val_main_cst_8, val_main_v31, val_main_v32, val_main_v33, val_main_cst_9, val_main_v34, val_main_v35, val_main_cst_10, val_main_v36, val_main_v37, val_main_v38, val_main_v39, val_main_v40]
  simp only [cube, cube_slope, hd, hh, hz]
  exact gate_eq (h0 j) (h3 j)

theorem final_12 (c : Dev nD) (h0 : ∀ i, Arith.Fin' (m ((c : Thread nD τ).loc main_arg0) i))
    (h3 : ∀ i, Arith.Fin' (m ((c : Thread nD τ).loc main_arg3) i)) : (dats m 0 c).arrAt 12 (cfgs 0).N
    = val_main_v40 (F := Ideal) (m ((c : Thread nD τ).loc main_arg0)) (m ((c : Thread nD τ).loc main_arg1)) (m ((c : Thread nD τ).loc main_arg3)) := by
  refine (dats m 0 c).arrAt_eq_of_covers 12 _ (by decide +kernel) fun t hf y => ?_
  blk_simp; rw [after0_12]
  exact point_12 m c h0 h3 t y

end Cert.Proof.Rb

end

end
-- ==== Proof.Claim.Rb.lean ====
/- The claims about `Rb`: the three frames, the idealization, and the equality with the reference. -/
module

public import proofs.«01_k».proof.Proof.RbFrame
public import proofs.«01_k».proof.Proof.RbIdealFrame
public import proofs.«01_k».proof.Proof.Gen.RbRefIdeal.Run
public import proofs.«01_k».proof.Proof.RbGate
public import proofs.«01_k».proof.Defs
public import proofs.«01_k».proof.Proof.Gen.Pre_gate_finite
public import proofs.«01_k».proof.Proof.Finite

@[expose] public section

noncomputable section

namespace Cert.Proof.Rb

open Idealize.ShloMosaic Idealize.SL.Sem

theorem frameP : quiescent_Rb (hRb := Cert.Rb.Gen.facts) := fun m ρ _ => Cert.Rb.Hand.frame m ρ
theorem framePI : quiescent_RbIdeal (hRbIdeal := Cert.RbIdeal.Gen.facts) := fun m ρ _ => Cert.RbIdeal.Hand.frame m ρ
theorem frameRI : quiescent_RbRefIdeal (hRbRefIdeal := Cert.RbRefIdeal.Gen.facts) := fun m ρ _ =>
  (θ_run Cert.RbRefIdeal.defs _ _).mono (fun r h => ⟨fun c => (h c).2,
      Idealize.ShloMosaic.sem_eq_zero_of_no_sems (by decide) r.2⟩)
    (Cert.RbRefIdeal.Value.run (F := Ideal) m ρ)
theorem pres : preserves_Rb_RbIdeal :=
  ⟨IdealRules.named_const.statement Cert.RbIdeal.κ "cube" .f32 0x3D372713#32 ((8943 / 200000 : ℝ) : EReal) rfl,
    IdealRules.named_const.statement Cert.RbIdeal.κ "cube_slope" .f32 0x3E095D4F#32 ((26829 / 200000 : ℝ) : EReal) rfl⟩
theorem framePIpre : quiescent_RbIdeal_pre_gate_finite (hRbIdeal := Cert.RbIdeal.Gen.facts) (hPre_gate_finite := Cert.Pre_gate_finite.Gen.facts) :=
  fun m ρ _ => Cert.RbIdeal.Hand.frame m ρ
theorem frameRIpre : quiescent_RbRefIdeal_pre_gate_finite (hRbRefIdeal := Cert.RbRefIdeal.Gen.facts) (hPre_gate_finite := Cert.Pre_gate_finite.Gen.facts) :=
  fun m ρ _ => frameRI m ρ trivial

section

set_option maxRecDepth 10000

attribute [local instance] Cert.Pre_gate_finite.Gen.facts

theorem fin_dya {a0 a1 a2 a3 a4 a5 a6 a7 a8 a9} (h : (Cert.Pre_gate_finite.fn (F := Ideal) a0 a1 a2 a3 a4 a5 a6 a7 a8 a9).1 = fun _ => 1#1) : ∀ i, Arith.Fin' (a0 i) := by
  dsimp only [Cert.Pre_gate_finite.fn] at h
  exact fun i => Arith.fin_of_test _ _ (fun _ => Arith.c_inf) _ _ _ ix0 (congrFun h ix0) i

theorem fin_hidden {a0 a1 a2 a3 a4 a5 a6 a7 a8 a9} (h : (Cert.Pre_gate_finite.fn (F := Ideal) a0 a1 a2 a3 a4 a5 a6 a7 a8 a9).2 = fun _ => 1#1) : ∀ i, Arith.Fin' (a3 i) := by
  dsimp only [Cert.Pre_gate_finite.fn] at h
  exact fun i => Arith.fin_of_test _ _ (fun _ => Arith.c_inf) _ _ _ ix0 (congrFun h ix0) i

end

set_option maxHeartbeats 4000000 in
set_option maxRecDepth 10000 in
/-- The arrays the kernel leaves are the reference's. -/
theorem value : algebraic_RbIdeal_RbRefIdeal_pre_gate_finite (hRbIdeal := Cert.RbIdeal.Gen.facts) (hRbRefIdeal := Cert.RbRefIdeal.Gen.facts) (hPre_gate_finite := Cert.Pre_gate_finite.Gen.facts) := by
  pair_intro
  · run_from (run_gate m g) & (Cert.RbIdeal.Hand.unchanged m g)
  · hlo_run
    obtain ⟨h0, h1⟩ := hpre c
    exact (final_12 m c (fin_dya h0) (fin_hidden h1)).symm

end Cert.Proof.Rb

end

end
-- ==== Proof.lean ====
module

public import proofs.«01_k».proof.Defs
public import proofs.«01_k».proof.Proof.Claim.Dhp
public import proofs.«01_k».proof.Proof.Claim.Dact
public import proofs.«01_k».proof.Proof.Claim.Dmerged
public import proofs.«01_k».proof.Proof.Claim.Dup
public import proofs.«01_k».proof.Proof.Claim.Ddown
public import proofs.«01_k».proof.Proof.Claim.Dya
public import proofs.«01_k».proof.Proof.Claim.Dout
public import proofs.«01_k».proof.Proof.Claim.Dpp
public import proofs.«01_k».proof.Proof.Claim.Dhm
public import proofs.«01_k».proof.Proof.Claim.Do
public import proofs.«01_k».proof.Proof.Claim.Dinr
public import proofs.«01_k».proof.Proof.Claim.Dina
public import proofs.«01_k».proof.Proof.Claim.Dh
public import proofs.«01_k».proof.Proof.Claim.Fya
public import proofs.«01_k».proof.Proof.Claim.Fyb
public import proofs.«01_k».proof.Proof.Claim.Fx1
public import proofs.«01_k».proof.Proof.Claim.Fact
public import proofs.«01_k».proof.Proof.Claim.Fx2
public import proofs.«01_k».proof.Proof.Claim.Fe
public import proofs.«01_k».proof.Proof.Claim.Floss
public import proofs.«01_k».proof.Proof.Claim.Awin
public import proofs.«01_k».proof.Proof.Claim.Aproj
public import proofs.«01_k».proof.Proof.Claim.Aup
public import proofs.«01_k».proof.Proof.Claim.Adown
public import proofs.«01_k».proof.Proof.Claim.App
public import proofs.«01_k».proof.Proof.Claim.Aconv
public import proofs.«01_k».proof.Proof.Claim.Agmix
public import proofs.«01_k».proof.Proof.Claim.Asmall
public import proofs.«01_k».proof.Proof.Claim.Fh
public import proofs.«01_k».proof.Proof.Claim.Rf
public import proofs.«01_k».proof.Proof.Claim.Rb
public import proofs.«01_k».proof.Proof.Gen.Pre_dhp_finite
public import proofs.«01_k».proof.Proof.Gen.Pre_dact_finite
public import proofs.«01_k».proof.Proof.Gen.Pre_dhm_finite
public import proofs.«01_k».proof.Proof.Gen.Pre_dh_finite
public import proofs.«01_k».proof.Proof.Gen.Pre_rnn_decays
public import proofs.«01_k».proof.Proof.Gen.Pre_gate_finite
public import proofs.«01_k».proof.Proof.Gen.AconvRefIdeal.Read
public import proofs.«01_k».proof.Proof.Gen.AconvRefIdeal.Run
public import proofs.«01_k».proof.Proof.Gen.AdownRefIdeal.Read
public import proofs.«01_k».proof.Proof.Gen.AdownRefIdeal.Run
public import proofs.«01_k».proof.Proof.Gen.AgmixRefIdeal.Read
public import proofs.«01_k».proof.Proof.Gen.AgmixRefIdeal.Run
public import proofs.«01_k».proof.Proof.Gen.AppRefIdeal.Read
public import proofs.«01_k».proof.Proof.Gen.AppRefIdeal.Run
public import proofs.«01_k».proof.Proof.Gen.AprojRefIdeal.Read
public import proofs.«01_k».proof.Proof.Gen.AprojRefIdeal.Run
public import proofs.«01_k».proof.Proof.Gen.AsmallRefIdeal.Read
public import proofs.«01_k».proof.Proof.Gen.AsmallRefIdeal.Run
public import proofs.«01_k».proof.Proof.Gen.AupRefIdeal.Read
public import proofs.«01_k».proof.Proof.Gen.AupRefIdeal.Run
public import proofs.«01_k».proof.Proof.Gen.AwinRefIdeal.Read
public import proofs.«01_k».proof.Proof.Gen.AwinRefIdeal.Run
public import proofs.«01_k».proof.Proof.Gen.DactRefIdeal.Read
public import proofs.«01_k».proof.Proof.Gen.DactRefIdeal.Run
public import proofs.«01_k».proof.Proof.Gen.DdownRefIdeal.Read
public import proofs.«01_k».proof.Proof.Gen.DdownRefIdeal.Run
public import proofs.«01_k».proof.Proof.Gen.DhRefIdeal.Read
public import proofs.«01_k».proof.Proof.Gen.DhRefIdeal.Run
public import proofs.«01_k».proof.Proof.Gen.DhmRefIdeal.Read
public import proofs.«01_k».proof.Proof.Gen.DhmRefIdeal.Run
public import proofs.«01_k».proof.Proof.Gen.DhpRefIdeal.Read
public import proofs.«01_k».proof.Proof.Gen.DhpRefIdeal.Run
public import proofs.«01_k».proof.Proof.Gen.DinaRefIdeal.Read
public import proofs.«01_k».proof.Proof.Gen.DinaRefIdeal.Run
public import proofs.«01_k».proof.Proof.Gen.DinrRefIdeal.Read
public import proofs.«01_k».proof.Proof.Gen.DinrRefIdeal.Run
public import proofs.«01_k».proof.Proof.Gen.DmergedRefIdeal.Read
public import proofs.«01_k».proof.Proof.Gen.DmergedRefIdeal.Run
public import proofs.«01_k».proof.Proof.Gen.DoRefIdeal.Read
public import proofs.«01_k».proof.Proof.Gen.DoRefIdeal.Run
public import proofs.«01_k».proof.Proof.Gen.DoutRefIdeal.Read
public import proofs.«01_k».proof.Proof.Gen.DoutRefIdeal.Run
public import proofs.«01_k».proof.Proof.Gen.DppRefIdeal.Read
public import proofs.«01_k».proof.Proof.Gen.DppRefIdeal.Run
public import proofs.«01_k».proof.Proof.Gen.DupRefIdeal.Read
public import proofs.«01_k».proof.Proof.Gen.DupRefIdeal.Run
public import proofs.«01_k».proof.Proof.Gen.DyaRefIdeal.Read
public import proofs.«01_k».proof.Proof.Gen.DyaRefIdeal.Run
public import proofs.«01_k».proof.Proof.Gen.FactRefIdeal.Read
public import proofs.«01_k».proof.Proof.Gen.FactRefIdeal.Run
public import proofs.«01_k».proof.Proof.Gen.FeRefIdeal.Read
public import proofs.«01_k».proof.Proof.Gen.FeRefIdeal.Run
public import proofs.«01_k».proof.Proof.Gen.FhRefIdeal.Read
public import proofs.«01_k».proof.Proof.Gen.FhRefIdeal.Run
public import proofs.«01_k».proof.Proof.Gen.FlossRefIdeal.Read
public import proofs.«01_k».proof.Proof.Gen.FlossRefIdeal.Run
public import proofs.«01_k».proof.Proof.Gen.Fx1RefIdeal.Read
public import proofs.«01_k».proof.Proof.Gen.Fx1RefIdeal.Run
public import proofs.«01_k».proof.Proof.Gen.Fx2RefIdeal.Read
public import proofs.«01_k».proof.Proof.Gen.Fx2RefIdeal.Run
public import proofs.«01_k».proof.Proof.Gen.FyaRefIdeal.Read
public import proofs.«01_k».proof.Proof.Gen.FyaRefIdeal.Run
public import proofs.«01_k».proof.Proof.Gen.FybRefIdeal.Read
public import proofs.«01_k».proof.Proof.Gen.FybRefIdeal.Run
public import proofs.«01_k».proof.Proof.Gen.RbRefIdeal.Read
public import proofs.«01_k».proof.Proof.Gen.RbRefIdeal.Run
public import proofs.«01_k».proof.Proof.Gen.RfRefIdeal.Run

@[expose] public section

noncomputable section

namespace Cert.Proof

theorem claim : Cert.Claim :=
  ⟨Cert.Dhp.Gen.facts,
    Cert.DhpIdeal.Gen.facts,
    Cert.DhpRefIdeal.Gen.facts,
    Cert.Dact.Gen.facts,
    Cert.DactIdeal.Gen.facts,
    Cert.DactRefIdeal.Gen.facts,
    Cert.Dmerged.Gen.facts,
    Cert.DmergedIdeal.Gen.facts,
    Cert.DmergedRefIdeal.Gen.facts,
    Cert.Dup.Gen.facts,
    Cert.DupIdeal.Gen.facts,
    Cert.DupRefIdeal.Gen.facts,
    Cert.Ddown.Gen.facts,
    Cert.DdownIdeal.Gen.facts,
    Cert.DdownRefIdeal.Gen.facts,
    Cert.Dya.Gen.facts,
    Cert.DyaIdeal.Gen.facts,
    Cert.DyaRefIdeal.Gen.facts,
    Cert.Dout.Gen.facts,
    Cert.DoutIdeal.Gen.facts,
    Cert.DoutRefIdeal.Gen.facts,
    Cert.Dpp.Gen.facts,
    Cert.DppIdeal.Gen.facts,
    Cert.DppRefIdeal.Gen.facts,
    Cert.Dhm.Gen.facts,
    Cert.DhmIdeal.Gen.facts,
    Cert.DhmRefIdeal.Gen.facts,
    Cert.Do.Gen.facts,
    Cert.DoIdeal.Gen.facts,
    Cert.DoRefIdeal.Gen.facts,
    Cert.Dinr.Gen.facts,
    Cert.DinrIdeal.Gen.facts,
    Cert.DinrRefIdeal.Gen.facts,
    Cert.Dina.Gen.facts,
    Cert.DinaIdeal.Gen.facts,
    Cert.DinaRefIdeal.Gen.facts,
    Cert.Dh.Gen.facts,
    Cert.DhIdeal.Gen.facts,
    Cert.DhRefIdeal.Gen.facts,
    Cert.Fya.Gen.facts,
    Cert.FyaIdeal.Gen.facts,
    Cert.FyaRefIdeal.Gen.facts,
    Cert.Fyb.Gen.facts,
    Cert.FybIdeal.Gen.facts,
    Cert.FybRefIdeal.Gen.facts,
    Cert.Fx1.Gen.facts,
    Cert.Fx1Ideal.Gen.facts,
    Cert.Fx1RefIdeal.Gen.facts,
    Cert.Fact.Gen.facts,
    Cert.FactIdeal.Gen.facts,
    Cert.FactRefIdeal.Gen.facts,
    Cert.Fx2.Gen.facts,
    Cert.Fx2Ideal.Gen.facts,
    Cert.Fx2RefIdeal.Gen.facts,
    Cert.Fe.Gen.facts,
    Cert.FeIdeal.Gen.facts,
    Cert.FeRefIdeal.Gen.facts,
    Cert.Floss.Gen.facts,
    Cert.FlossIdeal.Gen.facts,
    Cert.FlossRefIdeal.Gen.facts,
    Cert.Awin.Gen.facts,
    Cert.AwinIdeal.Gen.facts,
    Cert.AwinRefIdeal.Gen.facts,
    Cert.Aproj.Gen.facts,
    Cert.AprojIdeal.Gen.facts,
    Cert.AprojRefIdeal.Gen.facts,
    Cert.Aup.Gen.facts,
    Cert.AupIdeal.Gen.facts,
    Cert.AupRefIdeal.Gen.facts,
    Cert.Adown.Gen.facts,
    Cert.AdownIdeal.Gen.facts,
    Cert.AdownRefIdeal.Gen.facts,
    Cert.App.Gen.facts,
    Cert.AppIdeal.Gen.facts,
    Cert.AppRefIdeal.Gen.facts,
    Cert.Aconv.Gen.facts,
    Cert.AconvIdeal.Gen.facts,
    Cert.AconvRefIdeal.Gen.facts,
    Cert.Agmix.Gen.facts,
    Cert.AgmixIdeal.Gen.facts,
    Cert.AgmixRefIdeal.Gen.facts,
    Cert.Asmall.Gen.facts,
    Cert.AsmallIdeal.Gen.facts,
    Cert.AsmallRefIdeal.Gen.facts,
    Cert.Fh.Gen.facts,
    Cert.FhIdeal.Gen.facts,
    Cert.FhRefIdeal.Gen.facts,
    Cert.Rf.Gen.facts,
    Cert.RfIdeal.Gen.facts,
    Cert.RfRefIdeal.Gen.facts,
    Cert.Rb.Gen.facts,
    Cert.RbIdeal.Gen.facts,
    Cert.RbRefIdeal.Gen.facts,
    Cert.Pre_dhp_finite.Gen.facts,
    Cert.Pre_dact_finite.Gen.facts,
    Cert.Pre_dhm_finite.Gen.facts,
    Cert.Pre_dh_finite.Gen.facts,
    Cert.Pre_rnn_decays.Gen.facts,
    Cert.Pre_gate_finite.Gen.facts,
    Cert.Proof.Dhp.frameP,
    Cert.Proof.Dhp.framePI,
    Cert.Proof.Dhp.framePIpre,
    Cert.Proof.Dhp.frameRI,
    Cert.Proof.Dhp.frameRIpre,
    Cert.Proof.Dact.frameP,
    Cert.Proof.Dact.framePI,
    Cert.Proof.Dact.framePIpre,
    Cert.Proof.Dact.frameRI,
    Cert.Proof.Dact.frameRIpre,
    Cert.Proof.Dmerged.frameP,
    Cert.Proof.Dmerged.framePI,
    Cert.Proof.Dmerged.frameRI,
    Cert.Proof.Dup.frameP,
    Cert.Proof.Dup.framePI,
    Cert.Proof.Dup.frameRI,
    Cert.Proof.Ddown.frameP,
    Cert.Proof.Ddown.framePI,
    Cert.Proof.Ddown.frameRI,
    Cert.Proof.Dya.frameP,
    Cert.Proof.Dya.framePI,
    Cert.Proof.Dya.frameRI,
    Cert.Proof.Dout.frameP,
    Cert.Proof.Dout.framePI,
    Cert.Proof.Dout.frameRI,
    Cert.Proof.Dpp.frameP,
    Cert.Proof.Dpp.framePI,
    Cert.Proof.Dpp.frameRI,
    Cert.Proof.Dhm.frameP,
    Cert.Proof.Dhm.framePI,
    Cert.Proof.Dhm.framePIpre,
    Cert.Proof.Dhm.frameRI,
    Cert.Proof.Dhm.frameRIpre,
    Cert.Proof.Do.frameP,
    Cert.Proof.Do.framePI,
    Cert.Proof.Do.frameRI,
    Cert.Proof.Dinr.frameP,
    Cert.Proof.Dinr.framePI,
    Cert.Proof.Dinr.frameRI,
    Cert.Proof.Dina.frameP,
    Cert.Proof.Dina.framePI,
    Cert.Proof.Dina.frameRI,
    Cert.Proof.Dh.frameP,
    Cert.Proof.Dh.framePI,
    Cert.Proof.Dh.framePIpre,
    Cert.Proof.Dh.frameRI,
    Cert.Proof.Dh.frameRIpre,
    Cert.Proof.Fya.frameP,
    Cert.Proof.Fya.framePI,
    Cert.Proof.Fya.frameRI,
    Cert.Proof.Fyb.frameP,
    Cert.Proof.Fyb.framePI,
    Cert.Proof.Fyb.frameRI,
    Cert.Proof.Fx1.frameP,
    Cert.Proof.Fx1.framePI,
    Cert.Proof.Fx1.frameRI,
    Cert.Proof.Fact.frameP,
    Cert.Proof.Fact.framePI,
    Cert.Proof.Fact.frameRI,
    Cert.Proof.Fx2.frameP,
    Cert.Proof.Fx2.framePI,
    Cert.Proof.Fx2.frameRI,
    Cert.Proof.Fe.frameP,
    Cert.Proof.Fe.framePI,
    Cert.Proof.Fe.frameRI,
    Cert.Proof.Floss.frameP,
    Cert.Proof.Floss.framePI,
    Cert.Proof.Floss.frameRI,
    Cert.Proof.Awin.frameP,
    Cert.Proof.Awin.framePI,
    Cert.Proof.Awin.frameRI,
    Cert.Proof.Aproj.frameP,
    Cert.Proof.Aproj.framePI,
    Cert.Proof.Aproj.frameRI,
    Cert.Proof.Aup.frameP,
    Cert.Proof.Aup.framePI,
    Cert.Proof.Aup.frameRI,
    Cert.Proof.Adown.frameP,
    Cert.Proof.Adown.framePI,
    Cert.Proof.Adown.frameRI,
    Cert.Proof.App.frameP,
    Cert.Proof.App.framePI,
    Cert.Proof.App.frameRI,
    Cert.Proof.Aconv.frameP,
    Cert.Proof.Aconv.framePI,
    Cert.Proof.Aconv.frameRI,
    Cert.Proof.Agmix.frameP,
    Cert.Proof.Agmix.framePI,
    Cert.Proof.Agmix.frameRI,
    Cert.Proof.Asmall.frameP,
    Cert.Proof.Asmall.framePI,
    Cert.Proof.Asmall.frameRI,
    Cert.Proof.Fh.frameP,
    Cert.Proof.Fh.framePI,
    Cert.Proof.Fh.frameRI,
    Cert.Proof.Rf.frameP,
    Cert.Proof.Rf.framePI,
    Cert.Proof.Rf.framePIpre,
    Cert.Proof.Rf.frameRI,
    Cert.Proof.Rf.frameRIpre,
    Cert.Proof.Rb.frameP,
    Cert.Proof.Rb.framePI,
    Cert.Proof.Rb.framePIpre,
    Cert.Proof.Rb.frameRI,
    Cert.Proof.Rb.frameRIpre,
    Cert.Proof.Dhp.pres,
    Cert.Proof.Dhp.value,
    Cert.Proof.Dact.pres,
    Cert.Proof.Dact.value,
    Cert.Proof.Dmerged.pres,
    Cert.Proof.Dmerged.value,
    Cert.Proof.Dup.pres,
    Cert.Proof.Dup.value,
    Cert.Proof.Ddown.pres,
    Cert.Proof.Ddown.value,
    Cert.Proof.Dya.pres,
    Cert.Proof.Dya.value,
    Cert.Proof.Dout.pres,
    Cert.Proof.Dout.value,
    Cert.Proof.Dpp.pres,
    Cert.Proof.Dpp.value,
    Cert.Proof.Dhm.pres,
    Cert.Proof.Dhm.value,
    Cert.Proof.Do.pres,
    Cert.Proof.Do.value,
    Cert.Proof.Dinr.pres,
    Cert.Proof.Dinr.value,
    Cert.Proof.Dina.pres,
    Cert.Proof.Dina.value,
    Cert.Proof.Dh.pres,
    Cert.Proof.Dh.value,
    Cert.Proof.Fya.pres,
    Cert.Proof.Fya.value,
    Cert.Proof.Fyb.pres,
    Cert.Proof.Fyb.value,
    Cert.Proof.Fx1.pres,
    Cert.Proof.Fx1.value,
    Cert.Proof.Fact.pres,
    Cert.Proof.Fact.value,
    Cert.Proof.Fx2.pres,
    Cert.Proof.Fx2.value,
    Cert.Proof.Fe.pres,
    Cert.Proof.Fe.value,
    Cert.Proof.Floss.pres,
    Cert.Proof.Floss.value,
    Cert.Proof.Awin.pres,
    Cert.Proof.Awin.value,
    Cert.Proof.Aproj.pres,
    Cert.Proof.Aproj.value,
    Cert.Proof.Aup.pres,
    Cert.Proof.Aup.value,
    Cert.Proof.Adown.pres,
    Cert.Proof.Adown.value,
    Cert.Proof.App.pres,
    Cert.Proof.App.value,
    Cert.Proof.Aconv.pres,
    Cert.Proof.Aconv.value,
    Cert.Proof.Agmix.pres,
    Cert.Proof.Agmix.value,
    Cert.Proof.Asmall.pres,
    Cert.Proof.Asmall.value,
    Cert.Proof.Fh.pres,
    Cert.Proof.Fh.value,
    Cert.Proof.Rf.pres,
    Cert.Proof.Rf.value,
    Cert.Proof.Rb.pres,
    Cert.Proof.Rb.value⟩

end Cert.Proof

end

end
